-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_OA (m : (ℓ : Loc Cert.OA.nD Cert.OA.τ Cert.OA.sig) → Buf (Elt Bits) ℓ) : Prop :=
  True

def Pre_OAIdeal (m : (ℓ : Loc Cert.OAIdeal.nD Cert.OAIdeal.τ Cert.OAIdeal.sig) → Buf (Elt Ideal) ℓ) : Prop :=
  True

def Pre_OARefIdeal (m : (ℓ : Loc Cert.OARefIdeal.nD Cert.OARefIdeal.τ Cert.OARefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_QB (m : (ℓ : Loc Cert.QB.nD Cert.QB.τ Cert.QB.sig) → Buf (Elt Bits) ℓ) : Prop :=
  True

def Pre_QBIdeal (m : (ℓ : Loc Cert.QBIdeal.nD Cert.QBIdeal.τ Cert.QBIdeal.sig) → Buf (Elt Ideal) ℓ) : Prop :=
  True

def Pre_QBRefIdeal (m : (ℓ : Loc Cert.QBRefIdeal.nD Cert.QBRefIdeal.τ Cert.QBRefIdeal.sig) → Buf (Elt Ideal) ℓ) : Prop :=
  True

def Pre_OB (m : (ℓ : Loc Cert.OB.nD Cert.OB.τ Cert.OB.sig) → Buf (Elt Bits) ℓ) : Prop :=
  True

def Pre_OBIdeal (m : (ℓ : Loc Cert.OBIdeal.nD Cert.OBIdeal.τ Cert.OBIdeal.sig) → Buf (Elt Ideal) ℓ) : Prop :=
  True

def Pre_OBRefIdeal (m : (ℓ : Loc Cert.OBRefIdeal.nD Cert.OBRefIdeal.τ Cert.OBRefIdeal.sig) → Buf (Elt Ideal) ℓ) : Prop :=
  True

def Pre_OADx (m : (ℓ : Loc Cert.OADx.nD Cert.OADx.τ Cert.OADx.sig) → Buf (Elt Bits) ℓ) : Prop :=
  True

def Pre_OADxIdeal (m : (ℓ : Loc Cert.OADxIdeal.nD Cert.OADxIdeal.τ Cert.OADxIdeal.sig) → Buf (Elt Ideal) ℓ) : Prop :=
  True

def Pre_OADxRefIdeal (m : (ℓ : Loc Cert.OADxRefIdeal.nD Cert.OADxRefIdeal.τ Cert.OADxRefIdeal.sig) → Buf (Elt Ideal) ℓ) : Prop :=
  True

def Pre_OADw (m : (ℓ : Loc Cert.OADw.nD Cert.OADw.τ Cert.OADw.sig) → Buf (Elt Bits) ℓ) : Prop :=
  True

def Pre_OADwIdeal (m : (ℓ : Loc Cert.OADwIdeal.nD Cert.OADwIdeal.τ Cert.OADwIdeal.sig) → Buf (Elt Ideal) ℓ) : Prop :=
  True

def Pre_OADwRefIdeal (m : (ℓ : Loc Cert.OADwRefIdeal.nD Cert.OADwRefIdeal.τ Cert.OADwRefIdeal.sig) → Buf (Elt Ideal) ℓ) : Prop :=
  True

def Pre_QkvDx (m : (ℓ : Loc Cert.QkvDx.nD Cert.QkvDx.τ Cert.QkvDx.sig) → Buf (Elt Bits) ℓ) : Prop :=
  True

def Pre_QkvDxIdeal (m : (ℓ : Loc Cert.QkvDxIdeal.nD Cert.QkvDxIdeal.τ Cert.QkvDxIdeal.sig) → Buf (Elt Ideal) ℓ) : Prop :=
  True

def Pre_QkvDxRefIdeal (m : (ℓ : Loc Cert.QkvDxRefIdeal.nD Cert.QkvDxRefIdeal.τ Cert.QkvDxRefIdeal.sig) → Buf (Elt Ideal) ℓ) : Prop :=
  True

def Pre_QkvDw (m : (ℓ : Loc Cert.QkvDw.nD Cert.QkvDw.τ Cert.QkvDw.sig) → Buf (Elt Bits) ℓ) : Prop :=
  True

def Pre_QkvDwIdeal (m : (ℓ : Loc Cert.QkvDwIdeal.nD Cert.QkvDwIdeal.τ Cert.QkvDwIdeal.sig) → Buf (Elt Ideal) ℓ) : Prop :=
  True

def Pre_QkvDwRefIdeal (m : (ℓ : Loc Cert.QkvDwRefIdeal.nD Cert.QkvDwRefIdeal.τ Cert.QkvDwRefIdeal.sig) → Buf (Elt Ideal) ℓ) : Prop :=
  True

def Pre_OBDx (m : (ℓ : Loc Cert.OBDx.nD Cert.OBDx.τ Cert.OBDx.sig) → Buf (Elt Bits) ℓ) : Prop :=
  True

def Pre_OBDxIdeal (m : (ℓ : Loc Cert.OBDxIdeal.nD Cert.OBDxIdeal.τ Cert.OBDxIdeal.sig) → Buf (Elt Ideal) ℓ) : Prop :=
  True

def Pre_OBDxRefIdeal (m : (ℓ : Loc Cert.OBDxRefIdeal.nD Cert.OBDxRefIdeal.τ Cert.OBDxRefIdeal.sig) → Buf (Elt Ideal) ℓ) : Prop :=
  True

def Pre_OBDw (m : (ℓ : Loc Cert.OBDw.nD Cert.OBDw.τ Cert.OBDw.sig) → Buf (Elt Bits) ℓ) : Prop :=
  True

def Pre_OBDwIdeal (m : (ℓ : Loc Cert.OBDwIdeal.nD Cert.OBDwIdeal.τ Cert.OBDwIdeal.sig) → Buf (Elt Ideal) ℓ) : Prop :=
  True

def Pre_OBDwRefIdeal (m : (ℓ : Loc Cert.OBDwRefIdeal.nD Cert.OBDwRefIdeal.τ Cert.OBDwRefIdeal.sig) → Buf (Elt Ideal) ℓ) : Prop :=
  True

def Pre_QBDx (m : (ℓ : Loc Cert.QBDx.nD Cert.QBDx.τ Cert.QBDx.sig) → Buf (Elt Bits) ℓ) : Prop :=
  True

def Pre_QBDxIdeal (m : (ℓ : Loc Cert.QBDxIdeal.nD Cert.QBDxIdeal.τ Cert.QBDxIdeal.sig) → Buf (Elt Ideal) ℓ) : Prop :=
  True

def Pre_QBDxRefIdeal (m : (ℓ : Loc Cert.QBDxRefIdeal.nD Cert.QBDxRefIdeal.τ Cert.QBDxRefIdeal.sig) → Buf (Elt Ideal) ℓ) : Prop :=
  True

def Pre_QBDw (m : (ℓ : Loc Cert.QBDw.nD Cert.QBDw.τ Cert.QBDw.sig) → Buf (Elt Bits) ℓ) : Prop :=
  True

def Pre_QBDwIdeal (m : (ℓ : Loc Cert.QBDwIdeal.nD Cert.QBDwIdeal.τ Cert.QBDwIdeal.sig) → Buf (Elt Ideal) ℓ) : Prop :=
  True

def Pre_QBDwRefIdeal (m : (ℓ : Loc Cert.QBDwRefIdeal.nD Cert.QBDwRefIdeal.τ Cert.QBDwRefIdeal.sig) → Buf (Elt Ideal) ℓ) : Prop :=
  True

def Pre_KvfDx (m : (ℓ : Loc Cert.KvfDx.nD Cert.KvfDx.τ Cert.KvfDx.sig) → Buf (Elt Bits) ℓ) : Prop :=
  True

def Pre_KvfDxIdeal (m : (ℓ : Loc Cert.KvfDxIdeal.nD Cert.KvfDxIdeal.τ Cert.KvfDxIdeal.sig) → Buf (Elt Ideal) ℓ) : Prop :=
  True

def Pre_KvfDxRefIdeal (m : (ℓ : Loc Cert.KvfDxRefIdeal.nD Cert.KvfDxRefIdeal.τ Cert.KvfDxRefIdeal.sig) → Buf (Elt Ideal) ℓ) : Prop :=
  True

def Pre_KvfDw (m : (ℓ : Loc Cert.KvfDw.nD Cert.KvfDw.τ Cert.KvfDw.sig) → Buf (Elt Bits) ℓ) : Prop :=
  True

def Pre_KvfDwIdeal (m : (ℓ : Loc Cert.KvfDwIdeal.nD Cert.KvfDwIdeal.τ Cert.KvfDwIdeal.sig) → Buf (Elt Ideal) ℓ) : Prop :=
  True

def Pre_KvfDwRefIdeal (m : (ℓ : Loc Cert.KvfDwRefIdeal.nD Cert.KvfDwRefIdeal.τ Cert.KvfDwRefIdeal.sig) → Buf (Elt Ideal) ℓ) : Prop :=
  True

def Pre_FoxFwd (m : (ℓ : Loc Cert.FoxFwd.nD Cert.FoxFwd.τ Cert.FoxFwd.sig) → Buf (Elt Bits) ℓ) : Prop :=
  True

def Pre_FoxFwdIdeal (m : (ℓ : Loc Cert.FoxFwdIdeal.nD Cert.FoxFwdIdeal.τ Cert.FoxFwdIdeal.sig) → Buf (Elt Ideal) ℓ) : Prop :=
  True

def Pre_FoxFwdIdeal_finite_fwd [hPre_finite_fwd : Cert.Pre_finite_fwd.Facts] (m : (ℓ : Loc Cert.FoxFwdIdeal.nD Cert.FoxFwdIdeal.τ Cert.FoxFwdIdeal.sig) → Buf (Elt Ideal) ℓ) : Prop :=
  ∀ c : Dev Cert.FoxFwdIdeal.nD,
    (Cert.Pre_finite_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2))).1 = (fun _ => 1#1)
    ∧ (Cert.Pre_finite_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2))).2.1 = (fun _ => 1#1)
    ∧ (Cert.Pre_finite_fwd.fn (F := Ideal) (m ((c.tc : Thread Cert.FoxFwdIdeal.nD Cert.FoxFwdIdeal.τ).loc Cert.FoxFwdIdeal.main_arg0)) (m ((c.tc : Thread Cert.FoxFwdIdeal.nD Cert.FoxFwdIdeal.τ).loc Cert.FoxFwdIdeal.main_arg1)) (m ((c.tc : Thread Cert.FoxFwdIdeal.nD Cert.FoxFwdIdeal.τ).loc Cert.FoxFwdIdeal.main_arg2))).2.2 = (fun _ => 1#1)

def Pre_FoxFwdRefIdeal (m : (ℓ : Loc Cert.FoxFwdRefIdeal.nD Cert.FoxFwdRefIdeal.τ Cert.FoxFwdRefIdeal.sig) → Buf (Elt Ideal) ℓ) : Prop :=
  True

def Pre_FoxFwdRefIdeal_finite_fwd [hPre_finite_fwd : Cert.Pre_finite_fwd.Facts] (m : (ℓ : Loc Cert.FoxFwdRefIdeal.nD Cert.FoxFwdRefIdeal.τ Cert.FoxFwdRefIdeal.sig) → Buf (Elt Ideal) ℓ) : Prop :=
  ∀ c : Dev Cert.FoxFwdRefIdeal.nD,
    (Cert.Pre_finite_fwd.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2))).1 = (fun _ => 1#1)
    ∧ (Cert.Pre_finite_fwd.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2))).2.1 = (fun _ => 1#1)
    ∧ (Cert.Pre_finite_fwd.fn (F := Ideal) (m ((c.tc : Thread Cert.FoxFwdRefIdeal.nD Cert.FoxFwdRefIdeal.τ).loc Cert.FoxFwdRefIdeal.main_arg0)) (m ((c.tc : Thread Cert.FoxFwdRefIdeal.nD Cert.FoxFwdRefIdeal.τ).loc Cert.FoxFwdRefIdeal.main_arg1)) (m ((c.tc : Thread Cert.FoxFwdRefIdeal.nD Cert.FoxFwdRefIdeal.τ).loc Cert.FoxFwdRefIdeal.main_arg2))).2.2 = (fun _ => 1#1)

def Pre_FoxAdd (m : (ℓ : Loc Cert.FoxAdd.nD Cert.FoxAdd.τ Cert.FoxAdd.sig) → Buf (Elt Bits) ℓ) : Prop :=
  True

def Pre_FoxAddIdeal (m : (ℓ : Loc Cert.FoxAddIdeal.nD Cert.FoxAddIdeal.τ Cert.FoxAddIdeal.sig) → Buf (Elt Ideal) ℓ) : Prop :=
  True

def Pre_FoxAddIdeal_finite_add [hPre_finite_add : Cert.Pre_finite_add.Facts] (m : (ℓ : Loc Cert.FoxAddIdeal.nD Cert.FoxAddIdeal.τ Cert.FoxAddIdeal.sig) → Buf (Elt Ideal) ℓ) : Prop :=
  ∀ c : Dev Cert.FoxAddIdeal.nD,
    (Cert.Pre_finite_add.fn (F := Ideal) (m ((c.tc : Thread Cert.FoxAddIdeal.nD Cert.FoxAddIdeal.τ).loc Cert.FoxAddIdeal.main_arg0)) (m ((c.tc : Thread Cert.FoxAddIdeal.nD Cert.FoxAddIdeal.τ).loc Cert.FoxAddIdeal.main_arg1)) (m ((c.tc : Thread Cert.FoxAddIdeal.nD Cert.FoxAddIdeal.τ).loc Cert.FoxAddIdeal.main_arg2)) (m ((c.tc : Thread Cert.FoxAddIdeal.nD Cert.FoxAddIdeal.τ).loc Cert.FoxAddIdeal.main_arg3)) (m ((c.tc : Thread Cert.FoxAddIdeal.nD Cert.FoxAddIdeal.τ).loc Cert.FoxAddIdeal.main_arg4)) (m ((c.tc : Thread Cert.FoxAddIdeal.nD Cert.FoxAddIdeal.τ).loc Cert.FoxAddIdeal.main_arg5)) (m ((c.tc : Thread Cert.FoxAddIdeal.nD Cert.FoxAddIdeal.τ).loc Cert.FoxAddIdeal.main_arg6))).1 = (fun _ => 1#1)
    ∧ (Cert.Pre_finite_add.fn (F := Ideal) (m ((c.tc : Thread Cert.FoxAddIdeal.nD Cert.FoxAddIdeal.τ).loc Cert.FoxAddIdeal.main_arg0)) (m ((c.tc : Thread Cert.FoxAddIdeal.nD Cert.FoxAddIdeal.τ).loc Cert.FoxAddIdeal.main_arg1)) (m ((c.tc : Thread Cert.FoxAddIdeal.nD Cert.FoxAddIdeal.τ).loc Cert.FoxAddIdeal.main_arg2)) (m ((c.tc : Thread Cert.FoxAddIdeal.nD Cert.FoxAddIdeal.τ).loc Cert.FoxAddIdeal.main_arg3)) (m ((c.tc : Thread Cert.FoxAddIdeal.nD Cert.FoxAddIdeal.τ).loc Cert.FoxAddIdeal.main_arg4)) (m ((c.tc : Thread Cert.FoxAddIdeal.nD Cert.FoxAddIdeal.τ).loc Cert.FoxAddIdeal.main_arg5)) (m ((c.tc : Thread Cert.FoxAddIdeal.nD Cert.FoxAddIdeal.τ).loc Cert.FoxAddIdeal.main_arg6))).2.1 = (fun _ => 1#1)
    ∧ (Cert.Pre_finite_add.fn (F := Ideal) (m ((c.tc : Thread Cert.FoxAddIdeal.nD Cert.FoxAddIdeal.τ).loc Cert.FoxAddIdeal.main_arg0)) (m ((c.tc : Thread Cert.FoxAddIdeal.nD Cert.FoxAddIdeal.τ).loc Cert.FoxAddIdeal.main_arg1)) (m ((c.tc : Thread Cert.FoxAddIdeal.nD Cert.FoxAddIdeal.τ).loc Cert.FoxAddIdeal.main_arg2)) (m ((c.tc : Thread Cert.FoxAddIdeal.nD Cert.FoxAddIdeal.τ).loc Cert.FoxAddIdeal.main_arg3)) (m ((c.tc : Thread Cert.FoxAddIdeal.nD Cert.FoxAddIdeal.τ).loc Cert.FoxAddIdeal.main_arg4)) (m ((c.tc : Thread Cert.FoxAddIdeal.nD Cert.FoxAddIdeal.τ).loc Cert.FoxAddIdeal.main_arg5)) (m ((c.tc : Thread Cert.FoxAddIdeal.nD Cert.FoxAddIdeal.τ).loc Cert.FoxAddIdeal.main_arg6))).2.2.1 = (fun _ => 1#1)
    ∧ (Cert.Pre_finite_add.fn (F := Ideal) (m ((c.tc : Thread Cert.FoxAddIdeal.nD Cert.FoxAddIdeal.τ).loc Cert.FoxAddIdeal.main_arg0)) (m ((c.tc : Thread Cert.FoxAddIdeal.nD Cert.FoxAddIdeal.τ).loc Cert.FoxAddIdeal.main_arg1)) (m ((c.tc : Thread Cert.FoxAddIdeal.nD Cert.FoxAddIdeal.τ).loc Cert.FoxAddIdeal.main_arg2)) (m ((c.tc : Thread Cert.FoxAddIdeal.nD Cert.FoxAddIdeal.τ).loc Cert.FoxAddIdeal.main_arg3)) (m ((c.tc : Thread Cert.FoxAddIdeal.nD Cert.FoxAddIdeal.τ).loc Cert.FoxAddIdeal.main_arg4)) (m ((c.tc : Thread Cert.FoxAddIdeal.nD Cert.FoxAddIdeal.τ).loc Cert.FoxAddIdeal.main_arg5)) (m ((c.tc : Thread Cert.FoxAddIdeal.nD Cert.FoxAddIdeal.τ).loc Cert.FoxAddIdeal.main_arg6))).2.2.2 = (fun _ => 1#1)

def Pre_FoxAddRefIdeal (m : (ℓ : Loc Cert.FoxAddRefIdeal.nD Cert.FoxAddRefIdeal.τ Cert.FoxAddRefIdeal.sig) → Buf (Elt Ideal) ℓ) : Prop :=
  True

def Pre_FoxAddRefIdeal_finite_add [hPre_finite_add : Cert.Pre_finite_add.Facts] (m : (ℓ : Loc Cert.FoxAddRefIdeal.nD Cert.FoxAddRefIdeal.τ Cert.FoxAddRefIdeal.sig) → Buf (Elt Ideal) ℓ) : Prop :=
  ∀ c : Dev Cert.FoxAddRefIdeal.nD,
    (Cert.Pre_finite_add.fn (F := Ideal) (m ((c.tc : Thread Cert.FoxAddRefIdeal.nD Cert.FoxAddRefIdeal.τ).loc Cert.FoxAddRefIdeal.main_arg0)) (m ((c.tc : Thread Cert.FoxAddRefIdeal.nD Cert.FoxAddRefIdeal.τ).loc Cert.FoxAddRefIdeal.main_arg1)) (m ((c.tc : Thread Cert.FoxAddRefIdeal.nD Cert.FoxAddRefIdeal.τ).loc Cert.FoxAddRefIdeal.main_arg2)) (m ((c.tc : Thread Cert.FoxAddRefIdeal.nD Cert.FoxAddRefIdeal.τ).loc Cert.FoxAddRefIdeal.main_arg3)) (m ((c.tc : Thread Cert.FoxAddRefIdeal.nD Cert.FoxAddRefIdeal.τ).loc Cert.FoxAddRefIdeal.main_arg4)) (m ((c.tc : Thread Cert.FoxAddRefIdeal.nD Cert.FoxAddRefIdeal.τ).loc Cert.FoxAddRefIdeal.main_arg5)) (m ((c.tc : Thread Cert.FoxAddRefIdeal.nD Cert.FoxAddRefIdeal.τ).loc Cert.FoxAddRefIdeal.main_arg6))).1 = (fun _ => 1#1)
    ∧ (Cert.Pre_finite_add.fn (F := Ideal) (m ((c.tc : Thread Cert.FoxAddRefIdeal.nD Cert.FoxAddRefIdeal.τ).loc Cert.FoxAddRefIdeal.main_arg0)) (m ((c.tc : Thread Cert.FoxAddRefIdeal.nD Cert.FoxAddRefIdeal.τ).loc Cert.FoxAddRefIdeal.main_arg1)) (m ((c.tc : Thread Cert.FoxAddRefIdeal.nD Cert.FoxAddRefIdeal.τ).loc Cert.FoxAddRefIdeal.main_arg2)) (m ((c.tc : Thread Cert.FoxAddRefIdeal.nD Cert.FoxAddRefIdeal.τ).loc Cert.FoxAddRefIdeal.main_arg3)) (m ((c.tc : Thread Cert.FoxAddRefIdeal.nD Cert.FoxAddRefIdeal.τ).loc Cert.FoxAddRefIdeal.main_arg4)) (m ((c.tc : Thread Cert.FoxAddRefIdeal.nD Cert.FoxAddRefIdeal.τ).loc Cert.FoxAddRefIdeal.main_arg5)) (m ((c.tc : Thread Cert.FoxAddRefIdeal.nD Cert.FoxAddRefIdeal.τ).loc Cert.FoxAddRefIdeal.main_arg6))).2.1 = (fun _ => 1#1)
    ∧ (Cert.Pre_finite_add.fn (F := Ideal) (m ((c.tc : Thread Cert.FoxAddRefIdeal.nD Cert.FoxAddRefIdeal.τ).loc Cert.FoxAddRefIdeal.main_arg0)) (m ((c.tc : Thread Cert.FoxAddRefIdeal.nD Cert.FoxAddRefIdeal.τ).loc Cert.FoxAddRefIdeal.main_arg1)) (m ((c.tc : Thread Cert.FoxAddRefIdeal.nD Cert.FoxAddRefIdeal.τ).loc Cert.FoxAddRefIdeal.main_arg2)) (m ((c.tc : Thread Cert.FoxAddRefIdeal.nD Cert.FoxAddRefIdeal.τ).loc Cert.FoxAddRefIdeal.main_arg3)) (m ((c.tc : Thread Cert.FoxAddRefIdeal.nD Cert.FoxAddRefIdeal.τ).loc Cert.FoxAddRefIdeal.main_arg4)) (m ((c.tc : Thread Cert.FoxAddRefIdeal.nD Cert.FoxAddRefIdeal.τ).loc Cert.FoxAddRefIdeal.main_arg5)) (m ((c.tc : Thread Cert.FoxAddRefIdeal.nD Cert.FoxAddRefIdeal.τ).loc Cert.FoxAddRefIdeal.main_arg6))).2.2.1 = (fun _ => 1#1)
    ∧ (Cert.Pre_finite_add.fn (F := Ideal) (m ((c.tc : Thread Cert.FoxAddRefIdeal.nD Cert.FoxAddRefIdeal.τ).loc Cert.FoxAddRefIdeal.main_arg0)) (m ((c.tc : Thread Cert.FoxAddRefIdeal.nD Cert.FoxAddRefIdeal.τ).loc Cert.FoxAddRefIdeal.main_arg1)) (m ((c.tc : Thread Cert.FoxAddRefIdeal.nD Cert.FoxAddRefIdeal.τ).loc Cert.FoxAddRefIdeal.main_arg2)) (m ((c.tc : Thread Cert.FoxAddRefIdeal.nD Cert.FoxAddRefIdeal.τ).loc Cert.FoxAddRefIdeal.main_arg3)) (m ((c.tc : Thread Cert.FoxAddRefIdeal.nD Cert.FoxAddRefIdeal.τ).loc Cert.FoxAddRefIdeal.main_arg4)) (m ((c.tc : Thread Cert.FoxAddRefIdeal.nD Cert.FoxAddRefIdeal.τ).loc Cert.FoxAddRefIdeal.main_arg5)) (m ((c.tc : Thread Cert.FoxAddRefIdeal.nD Cert.FoxAddRefIdeal.τ).loc Cert.FoxAddRefIdeal.main_arg6))).2.2.2 = (fun _ => 1#1)

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdIdeal_finite_conv [hPre_finite_conv : Cert.Pre_finite_conv.Facts] (m : (ℓ : Loc Cert.ConvBwdIdeal.nD Cert.ConvBwdIdeal.τ Cert.ConvBwdIdeal.sig) → Buf (Elt Ideal) ℓ) : Prop :=
  ∀ c : Dev Cert.ConvBwdIdeal.nD,
    (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.2.1 = (fun _ => 1#1)
    ∧ (Cert.Pre_finite_conv.fn (F := Ideal) (m ((c.tc : Thread Cert.ConvBwdIdeal.nD Cert.ConvBwdIdeal.τ).loc Cert.ConvBwdIdeal.main_arg0)) (m ((c.tc : Thread Cert.ConvBwdIdeal.nD Cert.ConvBwdIdeal.τ).loc Cert.ConvBwdIdeal.main_arg1)) (m ((c.tc : Thread Cert.ConvBwdIdeal.nD Cert.ConvBwdIdeal.τ).loc Cert.ConvBwdIdeal.main_arg2)) (m ((c.tc : Thread Cert.ConvBwdIdeal.nD Cert.ConvBwdIdeal.τ).loc Cert.ConvBwdIdeal.main_arg3))).2.2.2 = (fun _ => 1#1)

def Pre_ConvBwdRefIdeal (m : (ℓ : Loc Cert.ConvBwdRefIdeal.nD Cert.ConvBwdRefIdeal.τ Cert.ConvBwdRefIdeal.sig) → Buf (Elt Ideal) ℓ) : Prop :=
  True

def Pre_ConvBwdRefIdeal_finite_conv [hPre_finite_conv : Cert.Pre_finite_conv.Facts] (m : (ℓ : Loc Cert.ConvBwdRefIdeal.nD Cert.ConvBwdRefIdeal.τ Cert.ConvBwdRefIdeal.sig) → Buf (Elt Ideal) ℓ) : Prop :=
  ∀ c : Dev Cert.ConvBwdRefIdeal.nD,
    (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.2.1 = (fun _ => 1#1)
    ∧ (Cert.Pre_finite_conv.fn (F := Ideal) (m ((c.tc : Thread Cert.ConvBwdRefIdeal.nD Cert.ConvBwdRefIdeal.τ).loc Cert.ConvBwdRefIdeal.main_arg0)) (m ((c.tc : Thread Cert.ConvBwdRefIdeal.nD Cert.ConvBwdRefIdeal.τ).loc Cert.ConvBwdRefIdeal.main_arg1)) (m ((c.tc : Thread Cert.ConvBwdRefIdeal.nD Cert.ConvBwdRefIdeal.τ).loc Cert.ConvBwdRefIdeal.main_arg2)) (m ((c.tc : Thread Cert.ConvBwdRefIdeal.nD Cert.ConvBwdRefIdeal.τ).loc Cert.ConvBwdRefIdeal.main_arg3))).2.2.2 = (fun _ => 1#1)

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def Pre_RmsIn (m : (ℓ : Loc Cert.RmsIn.nD Cert.RmsIn.τ Cert.RmsIn.sig) → Buf (Elt Bits) ℓ) : Prop :=
  True

def Pre_RmsInIdeal (m : (ℓ : Loc Cert.RmsInIdeal.nD Cert.RmsInIdeal.τ Cert.RmsInIdeal.sig) → Buf (Elt Ideal) ℓ) : Prop :=
  True

def Pre_RmsInRefIdeal (m : (ℓ : Loc Cert.RmsInRefIdeal.nD Cert.RmsInRefIdeal.τ Cert.RmsInRefIdeal.sig) → Buf (Elt Ideal) ℓ) : Prop :=
  True

def Pre_RmsRes (m : (ℓ : Loc Cert.RmsRes.nD Cert.RmsRes.τ Cert.RmsRes.sig) → Buf (Elt Bits) ℓ) : Prop :=
  True

def Pre_RmsResIdeal (m : (ℓ : Loc Cert.RmsResIdeal.nD Cert.RmsResIdeal.τ Cert.RmsResIdeal.sig) → Buf (Elt Ideal) ℓ) : Prop :=
  True

def Pre_RmsResRefIdeal (m : (ℓ : Loc Cert.RmsResRefIdeal.nD Cert.RmsResRefIdeal.τ Cert.RmsResRefIdeal.sig) → Buf (Elt Ideal) ℓ) : Prop :=
  True

def Pre_RmsResIn (m : (ℓ : Loc Cert.RmsResIn.nD Cert.RmsResIn.τ Cert.RmsResIn.sig) → Buf (Elt Bits) ℓ) : Prop :=
  True

def Pre_RmsResInIdeal (m : (ℓ : Loc Cert.RmsResInIdeal.nD Cert.RmsResInIdeal.τ Cert.RmsResInIdeal.sig) → Buf (Elt Ideal) ℓ) : Prop :=
  True

def Pre_RmsResInRefIdeal (m : (ℓ : Loc Cert.RmsResInRefIdeal.nD Cert.RmsResInRefIdeal.τ Cert.RmsResInRefIdeal.sig) → Buf (Elt Ideal) ℓ) : Prop :=
  True

def Pre_RmsBwd (m : (ℓ : Loc Cert.RmsBwd.nD Cert.RmsBwd.τ Cert.RmsBwd.sig) → Buf (Elt Bits) ℓ) : Prop :=
  True

def Pre_RmsBwdIdeal (m : (ℓ : Loc Cert.RmsBwdIdeal.nD Cert.RmsBwdIdeal.τ Cert.RmsBwdIdeal.sig) → Buf (Elt Ideal) ℓ) : Prop :=
  True

def Pre_RmsBwdRefIdeal (m : (ℓ : Loc Cert.RmsBwdRefIdeal.nD Cert.RmsBwdRefIdeal.τ Cert.RmsBwdRefIdeal.sig) → Buf (Elt Ideal) ℓ) : Prop :=
  True

def Pre_RmsBwdRes (m : (ℓ : Loc Cert.RmsBwdRes.nD Cert.RmsBwdRes.τ Cert.RmsBwdRes.sig) → Buf (Elt Bits) ℓ) : Prop :=
  True

def Pre_RmsBwdResIdeal (m : (ℓ : Loc Cert.RmsBwdResIdeal.nD Cert.RmsBwdResIdeal.τ Cert.RmsBwdResIdeal.sig) → Buf (Elt Ideal) ℓ) : Prop :=
  True

def Pre_RmsBwdResRefIdeal (m : (ℓ : Loc Cert.RmsBwdResRefIdeal.nD Cert.RmsBwdResRefIdeal.τ Cert.RmsBwdResRefIdeal.sig) → Buf (Elt Ideal) ℓ) : Prop :=
  True

def Pre_RmsBwdTwo (m : (ℓ : Loc Cert.RmsBwdTwo.nD Cert.RmsBwdTwo.τ Cert.RmsBwdTwo.sig) → Buf (Elt Bits) ℓ) : Prop :=
  True

def Pre_RmsBwdTwoIdeal (m : (ℓ : Loc Cert.RmsBwdTwoIdeal.nD Cert.RmsBwdTwoIdeal.τ Cert.RmsBwdTwoIdeal.sig) → Buf (Elt Ideal) ℓ) : Prop :=
  True

def Pre_RmsBwdTwoRefIdeal (m : (ℓ : Loc Cert.RmsBwdTwoRefIdeal.nD Cert.RmsBwdTwoRefIdeal.τ Cert.RmsBwdTwoRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1))
      ∧ r.2.sem = fun _ => 0)

def quiescent_OA [hOA : Cert.OA.Facts] : Prop :=
  ∀ (m : (ℓ : Loc Cert.OA.nD Cert.OA.τ Cert.OA.sig) → Buf (Elt Bits) ℓ) (g : Dev Cert.OA.nD → PrngReg), Pre_OA m →
    θ_run (Cert.OA.defs (F := Bits)) (onTc (τ := Cert.OA.τ) (Cert.OA.main (F := Bits))) ⟨m, fun _ => 0, g⟩ (fun r => (∀ c : Dev Cert.OA.nD,
      r.2.mem ((c.tc : Thread Cert.OA.nD Cert.OA.τ).loc Cert.OA.main_arg0) = m ((c.tc : Thread Cert.OA.nD Cert.OA.τ).loc Cert.OA.main_arg0)
      ∧ r.2.mem ((c.tc : Thread Cert.OA.nD Cert.OA.τ).loc Cert.OA.main_arg1) = m ((c.tc : Thread Cert.OA.nD Cert.OA.τ).loc Cert.OA.main_arg1))
      ∧ r.2.sem = fun _ => 0)

def quiescent_OAIdeal [hOAIdeal : Cert.OAIdeal.Facts] : Prop :=
  ∀ (m : (ℓ : Loc Cert.OAIdeal.nD Cert.OAIdeal.τ Cert.OAIdeal.sig) → Buf (Elt Ideal) ℓ) (g : Dev Cert.OAIdeal.nD → PrngReg), Pre_OAIdeal m →
    θ_run (Cert.OAIdeal.defs (F := Ideal)) (onTc (τ := Cert.OAIdeal.τ) (Cert.OAIdeal.main (F := Ideal))) ⟨m, fun _ => 0, g⟩ (fun r => (∀ c : Dev Cert.OAIdeal.nD,
      r.2.mem ((c.tc : Thread Cert.OAIdeal.nD Cert.OAIdeal.τ).loc Cert.OAIdeal.main_arg0) = m ((c.tc : Thread Cert.OAIdeal.nD Cert.OAIdeal.τ).loc Cert.OAIdeal.main_arg0)
      ∧ r.2.mem ((c.tc : Thread Cert.OAIdeal.nD Cert.OAIdeal.τ).loc Cert.OAIdeal.main_arg1) = m ((c.tc : Thread Cert.OAIdeal.nD Cert.OAIdeal.τ).loc Cert.OAIdeal.main_arg1))
      ∧ r.2.sem = fun _ => 0)

def quiescent_OARefIdeal [hOARefIdeal : Cert.OARefIdeal.Facts] : Prop :=
  ∀ (m : (ℓ : Loc Cert.OARefIdeal.nD Cert.OARefIdeal.τ Cert.OARefIdeal.sig) → Buf (Elt Ideal) ℓ) (g : Dev Cert.OARefIdeal.nD → PrngReg), Pre_OARefIdeal m →
    θ_run (Cert.OARefIdeal.defs (F := Ideal)) (onTc (τ := Cert.OARefIdeal.τ) (Cert.OARefIdeal.main (F := Ideal))) ⟨m, fun _ => 0, g⟩ (fun r => (∀ c : Dev Cert.OARefIdeal.nD,
      r.2.mem ((c.tc : Thread Cert.OARefIdeal.nD Cert.OARefIdeal.τ).loc Cert.OARefIdeal.main_arg0) = m ((c.tc : Thread Cert.OARefIdeal.nD Cert.OARefIdeal.τ).loc Cert.OARefIdeal.main_arg0)
      ∧ r.2.mem ((c.tc : Thread Cert.OARefIdeal.nD Cert.OARefIdeal.τ).loc Cert.OARefIdeal.main_arg1) = m ((c.tc : Thread Cert.OARefIdeal.nD Cert.OARefIdeal.τ).loc Cert.OARefIdeal.main_arg1))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1))
      ∧ r.2.sem = fun _ => 0)

def quiescent_QB [hQB : Cert.QB.Facts] : Prop :=
  ∀ (m : (ℓ : Loc Cert.QB.nD Cert.QB.τ Cert.QB.sig) → Buf (Elt Bits) ℓ) (g : Dev Cert.QB.nD → PrngReg), Pre_QB m →
    θ_run (Cert.QB.defs (F := Bits)) (onTc (τ := Cert.QB.τ) (Cert.QB.main (F := Bits))) ⟨m, fun _ => 0, g⟩ (fun r => (∀ c : Dev Cert.QB.nD,
      r.2.mem ((c.tc : Thread Cert.QB.nD Cert.QB.τ).loc Cert.QB.main_arg0) = m ((c.tc : Thread Cert.QB.nD Cert.QB.τ).loc Cert.QB.main_arg0)
      ∧ r.2.mem ((c.tc : Thread Cert.QB.nD Cert.QB.τ).loc Cert.QB.main_arg1) = m ((c.tc : Thread Cert.QB.nD Cert.QB.τ).loc Cert.QB.main_arg1))
      ∧ r.2.sem = fun _ => 0)

def quiescent_QBIdeal [hQBIdeal : Cert.QBIdeal.Facts] : Prop :=
  ∀ (m : (ℓ : Loc Cert.QBIdeal.nD Cert.QBIdeal.τ Cert.QBIdeal.sig) → Buf (Elt Ideal) ℓ) (g : Dev Cert.QBIdeal.nD → PrngReg), Pre_QBIdeal m →
    θ_run (Cert.QBIdeal.defs (F := Ideal)) (onTc (τ := Cert.QBIdeal.τ) (Cert.QBIdeal.main (F := Ideal))) ⟨m, fun _ => 0, g⟩ (fun r => (∀ c : Dev Cert.QBIdeal.nD,
      r.2.mem ((c.tc : Thread Cert.QBIdeal.nD Cert.QBIdeal.τ).loc Cert.QBIdeal.main_arg0) = m ((c.tc : Thread Cert.QBIdeal.nD Cert.QBIdeal.τ).loc Cert.QBIdeal.main_arg0)
      ∧ r.2.mem ((c.tc : Thread Cert.QBIdeal.nD Cert.QBIdeal.τ).loc Cert.QBIdeal.main_arg1) = m ((c.tc : Thread Cert.QBIdeal.nD Cert.QBIdeal.τ).loc Cert.QBIdeal.main_arg1))
      ∧ r.2.sem = fun _ => 0)

def quiescent_QBRefIdeal [hQBRefIdeal : Cert.QBRefIdeal.Facts] : Prop :=
  ∀ (m : (ℓ : Loc Cert.QBRefIdeal.nD Cert.QBRefIdeal.τ Cert.QBRefIdeal.sig) → Buf (Elt Ideal) ℓ) (g : Dev Cert.QBRefIdeal.nD → PrngReg), Pre_QBRefIdeal m →
    θ_run (Cert.QBRefIdeal.defs (F := Ideal)) (onTc (τ := Cert.QBRefIdeal.τ) (Cert.QBRefIdeal.main (F := Ideal))) ⟨m, fun _ => 0, g⟩ (fun r => (∀ c : Dev Cert.QBRefIdeal.nD,
      r.2.mem ((c.tc : Thread Cert.QBRefIdeal.nD Cert.QBRefIdeal.τ).loc Cert.QBRefIdeal.main_arg0) = m ((c.tc : Thread Cert.QBRefIdeal.nD Cert.QBRefIdeal.τ).loc Cert.QBRefIdeal.main_arg0)
      ∧ r.2.mem ((c.tc : Thread Cert.QBRefIdeal.nD Cert.QBRefIdeal.τ).loc Cert.QBRefIdeal.main_arg1) = m ((c.tc : Thread Cert.QBRefIdeal.nD Cert.QBRefIdeal.τ).loc Cert.QBRefIdeal.main_arg1))
      ∧ r.2.sem = fun _ => 0)

def quiescent_OB [hOB : Cert.OB.Facts] : Prop :=
  ∀ (m : (ℓ : Loc Cert.OB.nD Cert.OB.τ Cert.OB.sig) → Buf (Elt Bits) ℓ) (g : Dev Cert.OB.nD → PrngReg), Pre_OB m →
    θ_run (Cert.OB.defs (F := Bits)) (onTc (τ := Cert.OB.τ) (Cert.OB.main (F := Bits))) ⟨m, fun _ => 0, g⟩ (fun r => (∀ c : Dev Cert.OB.nD,
      r.2.mem ((c.tc : Thread Cert.OB.nD Cert.OB.τ).loc Cert.OB.main_arg0) = m ((c.tc : Thread Cert.OB.nD Cert.OB.τ).loc Cert.OB.main_arg0)
      ∧ r.2.mem ((c.tc : Thread Cert.OB.nD Cert.OB.τ).loc Cert.OB.main_arg1) = m ((c.tc : Thread Cert.OB.nD Cert.OB.τ).loc Cert.OB.main_arg1))
      ∧ r.2.sem = fun _ => 0)

def quiescent_OBIdeal [hOBIdeal : Cert.OBIdeal.Facts] : Prop :=
  ∀ (m : (ℓ : Loc Cert.OBIdeal.nD Cert.OBIdeal.τ Cert.OBIdeal.sig) → Buf (Elt Ideal) ℓ) (g : Dev Cert.OBIdeal.nD → PrngReg), Pre_OBIdeal m →
    θ_run (Cert.OBIdeal.defs (F := Ideal)) (onTc (τ := Cert.OBIdeal.τ) (Cert.OBIdeal.main (F := Ideal))) ⟨m, fun _ => 0, g⟩ (fun r => (∀ c : Dev Cert.OBIdeal.nD,
      r.2.mem ((c.tc : Thread Cert.OBIdeal.nD Cert.OBIdeal.τ).loc Cert.OBIdeal.main_arg0) = m ((c.tc : Thread Cert.OBIdeal.nD Cert.OBIdeal.τ).loc Cert.OBIdeal.main_arg0)
      ∧ r.2.mem ((c.tc : Thread Cert.OBIdeal.nD Cert.OBIdeal.τ).loc Cert.OBIdeal.main_arg1) = m ((c.tc : Thread Cert.OBIdeal.nD Cert.OBIdeal.τ).loc Cert.OBIdeal.main_arg1))
      ∧ r.2.sem = fun _ => 0)

def quiescent_OBRefIdeal [hOBRefIdeal : Cert.OBRefIdeal.Facts] : Prop :=
  ∀ (m : (ℓ : Loc Cert.OBRefIdeal.nD Cert.OBRefIdeal.τ Cert.OBRefIdeal.sig) → Buf (Elt Ideal) ℓ) (g : Dev Cert.OBRefIdeal.nD → PrngReg), Pre_OBRefIdeal m →
    θ_run (Cert.OBRefIdeal.defs (F := Ideal)) (onTc (τ := Cert.OBRefIdeal.τ) (Cert.OBRefIdeal.main (F := Ideal))) ⟨m, fun _ => 0, g⟩ (fun r => (∀ c : Dev Cert.OBRefIdeal.nD,
      r.2.mem ((c.tc : Thread Cert.OBRefIdeal.nD Cert.OBRefIdeal.τ).loc Cert.OBRefIdeal.main_arg0) = m ((c.tc : Thread Cert.OBRefIdeal.nD Cert.OBRefIdeal.τ).loc Cert.OBRefIdeal.main_arg0)
      ∧ r.2.mem ((c.tc : Thread Cert.OBRefIdeal.nD Cert.OBRefIdeal.τ).loc Cert.OBRefIdeal.main_arg1) = m ((c.tc : Thread Cert.OBRefIdeal.nD Cert.OBRefIdeal.τ).loc Cert.OBRefIdeal.main_arg1))
      ∧ r.2.sem = fun _ => 0)

def quiescent_OADx [hOADx : Cert.OADx.Facts] : Prop :=
  ∀ (m : (ℓ : Loc Cert.OADx.nD Cert.OADx.τ Cert.OADx.sig) → Buf (Elt Bits) ℓ) (g : Dev Cert.OADx.nD → PrngReg), Pre_OADx m →
    θ_run (Cert.OADx.defs (F := Bits)) (onTc (τ := Cert.OADx.τ) (Cert.OADx.main (F := Bits))) ⟨m, fun _ => 0, g⟩ (fun r => (∀ c : Dev Cert.OADx.nD,
      r.2.mem ((c.tc : Thread Cert.OADx.nD Cert.OADx.τ).loc Cert.OADx.main_arg0) = m ((c.tc : Thread Cert.OADx.nD Cert.OADx.τ).loc Cert.OADx.main_arg0)
      ∧ r.2.mem ((c.tc : Thread Cert.OADx.nD Cert.OADx.τ).loc Cert.OADx.main_arg1) = m ((c.tc : Thread Cert.OADx.nD Cert.OADx.τ).loc Cert.OADx.main_arg1))
      ∧ r.2.sem = fun _ => 0)

def quiescent_OADxIdeal [hOADxIdeal : Cert.OADxIdeal.Facts] : Prop :=
  ∀ (m : (ℓ : Loc Cert.OADxIdeal.nD Cert.OADxIdeal.τ Cert.OADxIdeal.sig) → Buf (Elt Ideal) ℓ) (g : Dev Cert.OADxIdeal.nD → PrngReg), Pre_OADxIdeal m →
    θ_run (Cert.OADxIdeal.defs (F := Ideal)) (onTc (τ := Cert.OADxIdeal.τ) (Cert.OADxIdeal.main (F := Ideal))) ⟨m, fun _ => 0, g⟩ (fun r => (∀ c : Dev Cert.OADxIdeal.nD,
      r.2.mem ((c.tc : Thread Cert.OADxIdeal.nD Cert.OADxIdeal.τ).loc Cert.OADxIdeal.main_arg0) = m ((c.tc : Thread Cert.OADxIdeal.nD Cert.OADxIdeal.τ).loc Cert.OADxIdeal.main_arg0)
      ∧ r.2.mem ((c.tc : Thread Cert.OADxIdeal.nD Cert.OADxIdeal.τ).loc Cert.OADxIdeal.main_arg1) = m ((c.tc : Thread Cert.OADxIdeal.nD Cert.OADxIdeal.τ).loc Cert.OADxIdeal.main_arg1))
      ∧ r.2.sem = fun _ => 0)

def quiescent_OADxRefIdeal [hOADxRefIdeal : Cert.OADxRefIdeal.Facts] : Prop :=
  ∀ (m : (ℓ : Loc Cert.OADxRefIdeal.nD Cert.OADxRefIdeal.τ Cert.OADxRefIdeal.sig) → Buf (Elt Ideal) ℓ) (g : Dev Cert.OADxRefIdeal.nD → PrngReg), Pre_OADxRefIdeal m →
    θ_run (Cert.OADxRefIdeal.defs (F := Ideal)) (onTc (τ := Cert.OADxRefIdeal.τ) (Cert.OADxRefIdeal.main (F := Ideal))) ⟨m, fun _ => 0, g⟩ (fun r => (∀ c : Dev Cert.OADxRefIdeal.nD,
      r.2.mem ((c.tc : Thread Cert.OADxRefIdeal.nD Cert.OADxRefIdeal.τ).loc Cert.OADxRefIdeal.main_arg0) = m ((c.tc : Thread Cert.OADxRefIdeal.nD Cert.OADxRefIdeal.τ).loc Cert.OADxRefIdeal.main_arg0)
      ∧ r.2.mem ((c.tc : Thread Cert.OADxRefIdeal.nD Cert.OADxRefIdeal.τ).loc Cert.OADxRefIdeal.main_arg1) = m ((c.tc : Thread Cert.OADxRefIdeal.nD Cert.OADxRefIdeal.τ).loc Cert.OADxRefIdeal.main_arg1))
      ∧ r.2.sem = fun _ => 0)

def quiescent_OADw [hOADw : Cert.OADw.Facts] : Prop :=
  ∀ (m : (ℓ : Loc Cert.OADw.nD Cert.OADw.τ Cert.OADw.sig) → Buf (Elt Bits) ℓ) (g : Dev Cert.OADw.nD → PrngReg), Pre_OADw m →
    θ_run (Cert.OADw.defs (F := Bits)) (onTc (τ := Cert.OADw.τ) (Cert.OADw.main (F := Bits))) ⟨m, fun _ => 0, g⟩ (fun r => (∀ c : Dev Cert.OADw.nD,
      r.2.mem ((c.tc : Thread Cert.OADw.nD Cert.OADw.τ).loc Cert.OADw.main_arg0) = m ((c.tc : Thread Cert.OADw.nD Cert.OADw.τ).loc Cert.OADw.main_arg0)
      ∧ r.2.mem ((c.tc : Thread Cert.OADw.nD Cert.OADw.τ).loc Cert.OADw.main_arg1) = m ((c.tc : Thread Cert.OADw.nD Cert.OADw.τ).loc Cert.OADw.main_arg1))
      ∧ r.2.sem = fun _ => 0)

def quiescent_OADwIdeal [hOADwIdeal : Cert.OADwIdeal.Facts] : Prop :=
  ∀ (m : (ℓ : Loc Cert.OADwIdeal.nD Cert.OADwIdeal.τ Cert.OADwIdeal.sig) → Buf (Elt Ideal) ℓ) (g : Dev Cert.OADwIdeal.nD → PrngReg), Pre_OADwIdeal m →
    θ_run (Cert.OADwIdeal.defs (F := Ideal)) (onTc (τ := Cert.OADwIdeal.τ) (Cert.OADwIdeal.main (F := Ideal))) ⟨m, fun _ => 0, g⟩ (fun r => (∀ c : Dev Cert.OADwIdeal.nD,
      r.2.mem ((c.tc : Thread Cert.OADwIdeal.nD Cert.OADwIdeal.τ).loc Cert.OADwIdeal.main_arg0) = m ((c.tc : Thread Cert.OADwIdeal.nD Cert.OADwIdeal.τ).loc Cert.OADwIdeal.main_arg0)
      ∧ r.2.mem ((c.tc : Thread Cert.OADwIdeal.nD Cert.OADwIdeal.τ).loc Cert.OADwIdeal.main_arg1) = m ((c.tc : Thread Cert.OADwIdeal.nD Cert.OADwIdeal.τ).loc Cert.OADwIdeal.main_arg1))
      ∧ r.2.sem = fun _ => 0)

def quiescent_OADwRefIdeal [hOADwRefIdeal : Cert.OADwRefIdeal.Facts] : Prop :=
  ∀ (m : (ℓ : Loc Cert.OADwRefIdeal.nD Cert.OADwRefIdeal.τ Cert.OADwRefIdeal.sig) → Buf (Elt Ideal) ℓ) (g : Dev Cert.OADwRefIdeal.nD → PrngReg), Pre_OADwRefIdeal m →
    θ_run (Cert.OADwRefIdeal.defs (F := Ideal)) (onTc (τ := Cert.OADwRefIdeal.τ) (Cert.OADwRefIdeal.main (F := Ideal))) ⟨m, fun _ => 0, g⟩ (fun r => (∀ c : Dev Cert.OADwRefIdeal.nD,
      r.2.mem ((c.tc : Thread Cert.OADwRefIdeal.nD Cert.OADwRefIdeal.τ).loc Cert.OADwRefIdeal.main_arg0) = m ((c.tc : Thread Cert.OADwRefIdeal.nD Cert.OADwRefIdeal.τ).loc Cert.OADwRefIdeal.main_arg0)
      ∧ r.2.mem ((c.tc : Thread Cert.OADwRefIdeal.nD Cert.OADwRefIdeal.τ).loc Cert.OADwRefIdeal.main_arg1) = m ((c.tc : Thread Cert.OADwRefIdeal.nD Cert.OADwRefIdeal.τ).loc Cert.OADwRefIdeal.main_arg1))
      ∧ r.2.sem = fun _ => 0)

def quiescent_QkvDx [hQkvDx : Cert.QkvDx.Facts] : Prop :=
  ∀ (m : (ℓ : Loc Cert.QkvDx.nD Cert.QkvDx.τ Cert.QkvDx.sig) → Buf (Elt Bits) ℓ) (g : Dev Cert.QkvDx.nD → PrngReg), Pre_QkvDx m →
    θ_run (Cert.QkvDx.defs (F := Bits)) (onTc (τ := Cert.QkvDx.τ) (Cert.QkvDx.main (F := Bits))) ⟨m, fun _ => 0, g⟩ (fun r => (∀ c : Dev Cert.QkvDx.nD,
      r.2.mem ((c.tc : Thread Cert.QkvDx.nD Cert.QkvDx.τ).loc Cert.QkvDx.main_arg0) = m ((c.tc : Thread Cert.QkvDx.nD Cert.QkvDx.τ).loc Cert.QkvDx.main_arg0)
      ∧ r.2.mem ((c.tc : Thread Cert.QkvDx.nD Cert.QkvDx.τ).loc Cert.QkvDx.main_arg1) = m ((c.tc : Thread Cert.QkvDx.nD Cert.QkvDx.τ).loc Cert.QkvDx.main_arg1))
      ∧ r.2.sem = fun _ => 0)

def quiescent_QkvDxIdeal [hQkvDxIdeal : Cert.QkvDxIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg), Pre_QkvDxIdeal m →
    θ_run (Cert.QkvDxIdeal.defs (F := Ideal)) (onTc (τ := Cert.QkvDxIdeal.τ) (Cert.QkvDxIdeal.main (F := Ideal))) ⟨m, fun _ => 0, g⟩ (fun r => (∀ c : Dev Cert.QkvDxIdeal.nD,
      r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
      ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ r.2.sem = fun _ => 0)

def quiescent_QkvDxRefIdeal [hQkvDxRefIdeal : Cert.QkvDxRefIdeal.Facts] : Prop :=
  ∀ (m : (ℓ : Loc Cert.QkvDxRefIdeal.nD Cert.QkvDxRefIdeal.τ Cert.QkvDxRefIdeal.sig) → Buf (Elt Ideal) ℓ) (g : Dev Cert.QkvDxRefIdeal.nD → PrngReg), Pre_QkvDxRefIdeal m →
    θ_run (Cert.QkvDxRefIdeal.defs (F := Ideal)) (onTc (τ := Cert.QkvDxRefIdeal.τ) (Cert.QkvDxRefIdeal.main (F := Ideal))) ⟨m, fun _ => 0, g⟩ (fun r => (∀ c : Dev Cert.QkvDxRefIdeal.nD,
      r.2.mem ((c.tc : Thread Cert.QkvDxRefIdeal.nD Cert.QkvDxRefIdeal.τ).loc Cert.QkvDxRefIdeal.main_arg0) = m ((c.tc : Thread Cert.QkvDxRefIdeal.nD Cert.QkvDxRefIdeal.τ).loc Cert.QkvDxRefIdeal.main_arg0)
      ∧ r.2.mem ((c.tc : Thread Cert.QkvDxRefIdeal.nD Cert.QkvDxRefIdeal.τ).loc Cert.QkvDxRefIdeal.main_arg1) = m ((c.tc : Thread Cert.QkvDxRefIdeal.nD Cert.QkvDxRefIdeal.τ).loc Cert.QkvDxRefIdeal.main_arg1))
      ∧ r.2.sem = fun _ => 0)

def quiescent_QkvDw [hQkvDw : Cert.QkvDw.Facts] : Prop :=
  ∀ (m : (ℓ : Loc Cert.QkvDw.nD Cert.QkvDw.τ Cert.QkvDw.sig) → Buf (Elt Bits) ℓ) (g : Dev Cert.QkvDw.nD → PrngReg), Pre_QkvDw m →
    θ_run (Cert.QkvDw.defs (F := Bits)) (onTc (τ := Cert.QkvDw.τ) (Cert.QkvDw.main (F := Bits))) ⟨m, fun _ => 0, g⟩ (fun r => (∀ c : Dev Cert.QkvDw.nD,
      r.2.mem ((c.tc : Thread Cert.QkvDw.nD Cert.QkvDw.τ).loc Cert.QkvDw.main_arg0) = m ((c.tc : Thread Cert.QkvDw.nD Cert.QkvDw.τ).loc Cert.QkvDw.main_arg0)
      ∧ r.2.mem ((c.tc : Thread Cert.QkvDw.nD Cert.QkvDw.τ).loc Cert.QkvDw.main_arg1) = m ((c.tc : Thread Cert.QkvDw.nD Cert.QkvDw.τ).loc Cert.QkvDw.main_arg1))
      ∧ r.2.sem = fun _ => 0)

def quiescent_QkvDwIdeal [hQkvDwIdeal : Cert.QkvDwIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg), Pre_QkvDwIdeal m →
    θ_run (Cert.QkvDwIdeal.defs (F := Ideal)) (onTc (τ := Cert.QkvDwIdeal.τ) (Cert.QkvDwIdeal.main (F := Ideal))) ⟨m, fun _ => 0, g⟩ (fun r => (∀ c : Dev Cert.QkvDwIdeal.nD,
      r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
      ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ r.2.sem = fun _ => 0)

def quiescent_QkvDwRefIdeal [hQkvDwRefIdeal : Cert.QkvDwRefIdeal.Facts] : Prop :=
  ∀ (m : (ℓ : Loc Cert.QkvDwRefIdeal.nD Cert.QkvDwRefIdeal.τ Cert.QkvDwRefIdeal.sig) → Buf (Elt Ideal) ℓ) (g : Dev Cert.QkvDwRefIdeal.nD → PrngReg), Pre_QkvDwRefIdeal m →
    θ_run (Cert.QkvDwRefIdeal.defs (F := Ideal)) (onTc (τ := Cert.QkvDwRefIdeal.τ) (Cert.QkvDwRefIdeal.main (F := Ideal))) ⟨m, fun _ => 0, g⟩ (fun r => (∀ c : Dev Cert.QkvDwRefIdeal.nD,
      r.2.mem ((c.tc : Thread Cert.QkvDwRefIdeal.nD Cert.QkvDwRefIdeal.τ).loc Cert.QkvDwRefIdeal.main_arg0) = m ((c.tc : Thread Cert.QkvDwRefIdeal.nD Cert.QkvDwRefIdeal.τ).loc Cert.QkvDwRefIdeal.main_arg0)
      ∧ r.2.mem ((c.tc : Thread Cert.QkvDwRefIdeal.nD Cert.QkvDwRefIdeal.τ).loc Cert.QkvDwRefIdeal.main_arg1) = m ((c.tc : Thread Cert.QkvDwRefIdeal.nD Cert.QkvDwRefIdeal.τ).loc Cert.QkvDwRefIdeal.main_arg1))
      ∧ r.2.sem = fun _ => 0)

def quiescent_OBDx [hOBDx : Cert.OBDx.Facts] : Prop :=
  ∀ (m : (ℓ : Loc Cert.OBDx.nD Cert.OBDx.τ Cert.OBDx.sig) → Buf (Elt Bits) ℓ) (g : Dev Cert.OBDx.nD → PrngReg), Pre_OBDx m →
    θ_run (Cert.OBDx.defs (F := Bits)) (onTc (τ := Cert.OBDx.τ) (Cert.OBDx.main (F := Bits))) ⟨m, fun _ => 0, g⟩ (fun r => (∀ c : Dev Cert.OBDx.nD,
      r.2.mem ((c.tc : Thread Cert.OBDx.nD Cert.OBDx.τ).loc Cert.OBDx.main_arg0) = m ((c.tc : Thread Cert.OBDx.nD Cert.OBDx.τ).loc Cert.OBDx.main_arg0)
      ∧ r.2.mem ((c.tc : Thread Cert.OBDx.nD Cert.OBDx.τ).loc Cert.OBDx.main_arg1) = m ((c.tc : Thread Cert.OBDx.nD Cert.OBDx.τ).loc Cert.OBDx.main_arg1))
      ∧ r.2.sem = fun _ => 0)

def quiescent_OBDxIdeal [hOBDxIdeal : Cert.OBDxIdeal.Facts] : Prop :=
  ∀ (m : (ℓ : Loc Cert.OBDxIdeal.nD Cert.OBDxIdeal.τ Cert.OBDxIdeal.sig) → Buf (Elt Ideal) ℓ) (g : Dev Cert.OBDxIdeal.nD → PrngReg), Pre_OBDxIdeal m →
    θ_run (Cert.OBDxIdeal.defs (F := Ideal)) (onTc (τ := Cert.OBDxIdeal.τ) (Cert.OBDxIdeal.main (F := Ideal))) ⟨m, fun _ => 0, g⟩ (fun r => (∀ c : Dev Cert.OBDxIdeal.nD,
      r.2.mem ((c.tc : Thread Cert.OBDxIdeal.nD Cert.OBDxIdeal.τ).loc Cert.OBDxIdeal.main_arg0) = m ((c.tc : Thread Cert.OBDxIdeal.nD Cert.OBDxIdeal.τ).loc Cert.OBDxIdeal.main_arg0)
      ∧ r.2.mem ((c.tc : Thread Cert.OBDxIdeal.nD Cert.OBDxIdeal.τ).loc Cert.OBDxIdeal.main_arg1) = m ((c.tc : Thread Cert.OBDxIdeal.nD Cert.OBDxIdeal.τ).loc Cert.OBDxIdeal.main_arg1))
      ∧ r.2.sem = fun _ => 0)

def quiescent_OBDxRefIdeal [hOBDxRefIdeal : Cert.OBDxRefIdeal.Facts] : Prop :=
  ∀ (m : (ℓ : Loc Cert.OBDxRefIdeal.nD Cert.OBDxRefIdeal.τ Cert.OBDxRefIdeal.sig) → Buf (Elt Ideal) ℓ) (g : Dev Cert.OBDxRefIdeal.nD → PrngReg), Pre_OBDxRefIdeal m →
    θ_run (Cert.OBDxRefIdeal.defs (F := Ideal)) (onTc (τ := Cert.OBDxRefIdeal.τ) (Cert.OBDxRefIdeal.main (F := Ideal))) ⟨m, fun _ => 0, g⟩ (fun r => (∀ c : Dev Cert.OBDxRefIdeal.nD,
      r.2.mem ((c.tc : Thread Cert.OBDxRefIdeal.nD Cert.OBDxRefIdeal.τ).loc Cert.OBDxRefIdeal.main_arg0) = m ((c.tc : Thread Cert.OBDxRefIdeal.nD Cert.OBDxRefIdeal.τ).loc Cert.OBDxRefIdeal.main_arg0)
      ∧ r.2.mem ((c.tc : Thread Cert.OBDxRefIdeal.nD Cert.OBDxRefIdeal.τ).loc Cert.OBDxRefIdeal.main_arg1) = m ((c.tc : Thread Cert.OBDxRefIdeal.nD Cert.OBDxRefIdeal.τ).loc Cert.OBDxRefIdeal.main_arg1))
      ∧ r.2.sem = fun _ => 0)

def quiescent_OBDw [hOBDw : Cert.OBDw.Facts] : Prop :=
  ∀ (m : (ℓ : Loc Cert.OBDw.nD Cert.OBDw.τ Cert.OBDw.sig) → Buf (Elt Bits) ℓ) (g : Dev Cert.OBDw.nD → PrngReg), Pre_OBDw m →
    θ_run (Cert.OBDw.defs (F := Bits)) (onTc (τ := Cert.OBDw.τ) (Cert.OBDw.main (F := Bits))) ⟨m, fun _ => 0, g⟩ (fun r => (∀ c : Dev Cert.OBDw.nD,
      r.2.mem ((c.tc : Thread Cert.OBDw.nD Cert.OBDw.τ).loc Cert.OBDw.main_arg0) = m ((c.tc : Thread Cert.OBDw.nD Cert.OBDw.τ).loc Cert.OBDw.main_arg0)
      ∧ r.2.mem ((c.tc : Thread Cert.OBDw.nD Cert.OBDw.τ).loc Cert.OBDw.main_arg1) = m ((c.tc : Thread Cert.OBDw.nD Cert.OBDw.τ).loc Cert.OBDw.main_arg1))
      ∧ r.2.sem = fun _ => 0)

def quiescent_OBDwIdeal [hOBDwIdeal : Cert.OBDwIdeal.Facts] : Prop :=
  ∀ (m : (ℓ : Loc Cert.OBDwIdeal.nD Cert.OBDwIdeal.τ Cert.OBDwIdeal.sig) → Buf (Elt Ideal) ℓ) (g : Dev Cert.OBDwIdeal.nD → PrngReg), Pre_OBDwIdeal m →
    θ_run (Cert.OBDwIdeal.defs (F := Ideal)) (onTc (τ := Cert.OBDwIdeal.τ) (Cert.OBDwIdeal.main (F := Ideal))) ⟨m, fun _ => 0, g⟩ (fun r => (∀ c : Dev Cert.OBDwIdeal.nD,
      r.2.mem ((c.tc : Thread Cert.OBDwIdeal.nD Cert.OBDwIdeal.τ).loc Cert.OBDwIdeal.main_arg0) = m ((c.tc : Thread Cert.OBDwIdeal.nD Cert.OBDwIdeal.τ).loc Cert.OBDwIdeal.main_arg0)
      ∧ r.2.mem ((c.tc : Thread Cert.OBDwIdeal.nD Cert.OBDwIdeal.τ).loc Cert.OBDwIdeal.main_arg1) = m ((c.tc : Thread Cert.OBDwIdeal.nD Cert.OBDwIdeal.τ).loc Cert.OBDwIdeal.main_arg1))
      ∧ r.2.sem = fun _ => 0)

def quiescent_OBDwRefIdeal [hOBDwRefIdeal : Cert.OBDwRefIdeal.Facts] : Prop :=
  ∀ (m : (ℓ : Loc Cert.OBDwRefIdeal.nD Cert.OBDwRefIdeal.τ Cert.OBDwRefIdeal.sig) → Buf (Elt Ideal) ℓ) (g : Dev Cert.OBDwRefIdeal.nD → PrngReg), Pre_OBDwRefIdeal m →
    θ_run (Cert.OBDwRefIdeal.defs (F := Ideal)) (onTc (τ := Cert.OBDwRefIdeal.τ) (Cert.OBDwRefIdeal.main (F := Ideal))) ⟨m, fun _ => 0, g⟩ (fun r => (∀ c : Dev Cert.OBDwRefIdeal.nD,
      r.2.mem ((c.tc : Thread Cert.OBDwRefIdeal.nD Cert.OBDwRefIdeal.τ).loc Cert.OBDwRefIdeal.main_arg0) = m ((c.tc : Thread Cert.OBDwRefIdeal.nD Cert.OBDwRefIdeal.τ).loc Cert.OBDwRefIdeal.main_arg0)
      ∧ r.2.mem ((c.tc : Thread Cert.OBDwRefIdeal.nD Cert.OBDwRefIdeal.τ).loc Cert.OBDwRefIdeal.main_arg1) = m ((c.tc : Thread Cert.OBDwRefIdeal.nD Cert.OBDwRefIdeal.τ).loc Cert.OBDwRefIdeal.main_arg1))
      ∧ r.2.sem = fun _ => 0)

def quiescent_QBDx [hQBDx : Cert.QBDx.Facts] : Prop :=
  ∀ (m : (ℓ : Loc Cert.QBDx.nD Cert.QBDx.τ Cert.QBDx.sig) → Buf (Elt Bits) ℓ) (g : Dev Cert.QBDx.nD → PrngReg), Pre_QBDx m →
    θ_run (Cert.QBDx.defs (F := Bits)) (onTc (τ := Cert.QBDx.τ) (Cert.QBDx.main (F := Bits))) ⟨m, fun _ => 0, g⟩ (fun r => (∀ c : Dev Cert.QBDx.nD,
      r.2.mem ((c.tc : Thread Cert.QBDx.nD Cert.QBDx.τ).loc Cert.QBDx.main_arg0) = m ((c.tc : Thread Cert.QBDx.nD Cert.QBDx.τ).loc Cert.QBDx.main_arg0)
      ∧ r.2.mem ((c.tc : Thread Cert.QBDx.nD Cert.QBDx.τ).loc Cert.QBDx.main_arg1) = m ((c.tc : Thread Cert.QBDx.nD Cert.QBDx.τ).loc Cert.QBDx.main_arg1))
      ∧ r.2.sem = fun _ => 0)

def quiescent_QBDxIdeal [hQBDxIdeal : Cert.QBDxIdeal.Facts] : Prop :=
  ∀ (m : (ℓ : Loc Cert.QBDxIdeal.nD Cert.QBDxIdeal.τ Cert.QBDxIdeal.sig) → Buf (Elt Ideal) ℓ) (g : Dev Cert.QBDxIdeal.nD → PrngReg), Pre_QBDxIdeal m →
    θ_run (Cert.QBDxIdeal.defs (F := Ideal)) (onTc (τ := Cert.QBDxIdeal.τ) (Cert.QBDxIdeal.main (F := Ideal))) ⟨m, fun _ => 0, g⟩ (fun r => (∀ c : Dev Cert.QBDxIdeal.nD,
      r.2.mem ((c.tc : Thread Cert.QBDxIdeal.nD Cert.QBDxIdeal.τ).loc Cert.QBDxIdeal.main_arg0) = m ((c.tc : Thread Cert.QBDxIdeal.nD Cert.QBDxIdeal.τ).loc Cert.QBDxIdeal.main_arg0)
      ∧ r.2.mem ((c.tc : Thread Cert.QBDxIdeal.nD Cert.QBDxIdeal.τ).loc Cert.QBDxIdeal.main_arg1) = m ((c.tc : Thread Cert.QBDxIdeal.nD Cert.QBDxIdeal.τ).loc Cert.QBDxIdeal.main_arg1))
      ∧ r.2.sem = fun _ => 0)

def quiescent_QBDxRefIdeal [hQBDxRefIdeal : Cert.QBDxRefIdeal.Facts] : Prop :=
  ∀ (m : (ℓ : Loc Cert.QBDxRefIdeal.nD Cert.QBDxRefIdeal.τ Cert.QBDxRefIdeal.sig) → Buf (Elt Ideal) ℓ) (g : Dev Cert.QBDxRefIdeal.nD → PrngReg), Pre_QBDxRefIdeal m →
    θ_run (Cert.QBDxRefIdeal.defs (F := Ideal)) (onTc (τ := Cert.QBDxRefIdeal.τ) (Cert.QBDxRefIdeal.main (F := Ideal))) ⟨m, fun _ => 0, g⟩ (fun r => (∀ c : Dev Cert.QBDxRefIdeal.nD,
      r.2.mem ((c.tc : Thread Cert.QBDxRefIdeal.nD Cert.QBDxRefIdeal.τ).loc Cert.QBDxRefIdeal.main_arg0) = m ((c.tc : Thread Cert.QBDxRefIdeal.nD Cert.QBDxRefIdeal.τ).loc Cert.QBDxRefIdeal.main_arg0)
      ∧ r.2.mem ((c.tc : Thread Cert.QBDxRefIdeal.nD Cert.QBDxRefIdeal.τ).loc Cert.QBDxRefIdeal.main_arg1) = m ((c.tc : Thread Cert.QBDxRefIdeal.nD Cert.QBDxRefIdeal.τ).loc Cert.QBDxRefIdeal.main_arg1))
      ∧ r.2.sem = fun _ => 0)

def quiescent_QBDw [hQBDw : Cert.QBDw.Facts] : Prop :=
  ∀ (m : (ℓ : Loc Cert.QBDw.nD Cert.QBDw.τ Cert.QBDw.sig) → Buf (Elt Bits) ℓ) (g : Dev Cert.QBDw.nD → PrngReg), Pre_QBDw m →
    θ_run (Cert.QBDw.defs (F := Bits)) (onTc (τ := Cert.QBDw.τ) (Cert.QBDw.main (F := Bits))) ⟨m, fun _ => 0, g⟩ (fun r => (∀ c : Dev Cert.QBDw.nD,
      r.2.mem ((c.tc : Thread Cert.QBDw.nD Cert.QBDw.τ).loc Cert.QBDw.main_arg0) = m ((c.tc : Thread Cert.QBDw.nD Cert.QBDw.τ).loc Cert.QBDw.main_arg0)
      ∧ r.2.mem ((c.tc : Thread Cert.QBDw.nD Cert.QBDw.τ).loc Cert.QBDw.main_arg1) = m ((c.tc : Thread Cert.QBDw.nD Cert.QBDw.τ).loc Cert.QBDw.main_arg1))
      ∧ r.2.sem = fun _ => 0)

def quiescent_QBDwIdeal [hQBDwIdeal : Cert.QBDwIdeal.Facts] : Prop :=
  ∀ (m : (ℓ : Loc Cert.QBDwIdeal.nD Cert.QBDwIdeal.τ Cert.QBDwIdeal.sig) → Buf (Elt Ideal) ℓ) (g : Dev Cert.QBDwIdeal.nD → PrngReg), Pre_QBDwIdeal m →
    θ_run (Cert.QBDwIdeal.defs (F := Ideal)) (onTc (τ := Cert.QBDwIdeal.τ) (Cert.QBDwIdeal.main (F := Ideal))) ⟨m, fun _ => 0, g⟩ (fun r => (∀ c : Dev Cert.QBDwIdeal.nD,
      r.2.mem ((c.tc : Thread Cert.QBDwIdeal.nD Cert.QBDwIdeal.τ).loc Cert.QBDwIdeal.main_arg0) = m ((c.tc : Thread Cert.QBDwIdeal.nD Cert.QBDwIdeal.τ).loc Cert.QBDwIdeal.main_arg0)
      ∧ r.2.mem ((c.tc : Thread Cert.QBDwIdeal.nD Cert.QBDwIdeal.τ).loc Cert.QBDwIdeal.main_arg1) = m ((c.tc : Thread Cert.QBDwIdeal.nD Cert.QBDwIdeal.τ).loc Cert.QBDwIdeal.main_arg1))
      ∧ r.2.sem = fun _ => 0)

def quiescent_QBDwRefIdeal [hQBDwRefIdeal : Cert.QBDwRefIdeal.Facts] : Prop :=
  ∀ (m : (ℓ : Loc Cert.QBDwRefIdeal.nD Cert.QBDwRefIdeal.τ Cert.QBDwRefIdeal.sig) → Buf (Elt Ideal) ℓ) (g : Dev Cert.QBDwRefIdeal.nD → PrngReg), Pre_QBDwRefIdeal m →
    θ_run (Cert.QBDwRefIdeal.defs (F := Ideal)) (onTc (τ := Cert.QBDwRefIdeal.τ) (Cert.QBDwRefIdeal.main (F := Ideal))) ⟨m, fun _ => 0, g⟩ (fun r => (∀ c : Dev Cert.QBDwRefIdeal.nD,
      r.2.mem ((c.tc : Thread Cert.QBDwRefIdeal.nD Cert.QBDwRefIdeal.τ).loc Cert.QBDwRefIdeal.main_arg0) = m ((c.tc : Thread Cert.QBDwRefIdeal.nD Cert.QBDwRefIdeal.τ).loc Cert.QBDwRefIdeal.main_arg0)
      ∧ r.2.mem ((c.tc : Thread Cert.QBDwRefIdeal.nD Cert.QBDwRefIdeal.τ).loc Cert.QBDwRefIdeal.main_arg1) = m ((c.tc : Thread Cert.QBDwRefIdeal.nD Cert.QBDwRefIdeal.τ).loc Cert.QBDwRefIdeal.main_arg1))
      ∧ r.2.sem = fun _ => 0)

def quiescent_KvfDx [hKvfDx : Cert.KvfDx.Facts] : Prop :=
  ∀ (m : (ℓ : Loc Cert.KvfDx.nD Cert.KvfDx.τ Cert.KvfDx.sig) → Buf (Elt Bits) ℓ) (g : Dev Cert.KvfDx.nD → PrngReg), Pre_KvfDx m →
    θ_run (Cert.KvfDx.defs (F := Bits)) (onTc (τ := Cert.KvfDx.τ) (Cert.KvfDx.main (F := Bits))) ⟨m, fun _ => 0, g⟩ (fun r => (∀ c : Dev Cert.KvfDx.nD,
      r.2.mem ((c.tc : Thread Cert.KvfDx.nD Cert.KvfDx.τ).loc Cert.KvfDx.main_arg0) = m ((c.tc : Thread Cert.KvfDx.nD Cert.KvfDx.τ).loc Cert.KvfDx.main_arg0)
      ∧ r.2.mem ((c.tc : Thread Cert.KvfDx.nD Cert.KvfDx.τ).loc Cert.KvfDx.main_arg1) = m ((c.tc : Thread Cert.KvfDx.nD Cert.KvfDx.τ).loc Cert.KvfDx.main_arg1))
      ∧ r.2.sem = fun _ => 0)

def quiescent_KvfDxIdeal [hKvfDxIdeal : Cert.KvfDxIdeal.Facts] : Prop :=
  ∀ (m : (ℓ : Loc Cert.KvfDxIdeal.nD Cert.KvfDxIdeal.τ Cert.KvfDxIdeal.sig) → Buf (Elt Ideal) ℓ) (g : Dev Cert.KvfDxIdeal.nD → PrngReg), Pre_KvfDxIdeal m →
    θ_run (Cert.KvfDxIdeal.defs (F := Ideal)) (onTc (τ := Cert.KvfDxIdeal.τ) (Cert.KvfDxIdeal.main (F := Ideal))) ⟨m, fun _ => 0, g⟩ (fun r => (∀ c : Dev Cert.KvfDxIdeal.nD,
      r.2.mem ((c.tc : Thread Cert.KvfDxIdeal.nD Cert.KvfDxIdeal.τ).loc Cert.KvfDxIdeal.main_arg0) = m ((c.tc : Thread Cert.KvfDxIdeal.nD Cert.KvfDxIdeal.τ).loc Cert.KvfDxIdeal.main_arg0)
      ∧ r.2.mem ((c.tc : Thread Cert.KvfDxIdeal.nD Cert.KvfDxIdeal.τ).loc Cert.KvfDxIdeal.main_arg1) = m ((c.tc : Thread Cert.KvfDxIdeal.nD Cert.KvfDxIdeal.τ).loc Cert.KvfDxIdeal.main_arg1))
      ∧ r.2.sem = fun _ => 0)

def quiescent_KvfDxRefIdeal [hKvfDxRefIdeal : Cert.KvfDxRefIdeal.Facts] : Prop :=
  ∀ (m : (ℓ : Loc Cert.KvfDxRefIdeal.nD Cert.KvfDxRefIdeal.τ Cert.KvfDxRefIdeal.sig) → Buf (Elt Ideal) ℓ) (g : Dev Cert.KvfDxRefIdeal.nD → PrngReg), Pre_KvfDxRefIdeal m →
    θ_run (Cert.KvfDxRefIdeal.defs (F := Ideal)) (onTc (τ := Cert.KvfDxRefIdeal.τ) (Cert.KvfDxRefIdeal.main (F := Ideal))) ⟨m, fun _ => 0, g⟩ (fun r => (∀ c : Dev Cert.KvfDxRefIdeal.nD,
      r.2.mem ((c.tc : Thread Cert.KvfDxRefIdeal.nD Cert.KvfDxRefIdeal.τ).loc Cert.KvfDxRefIdeal.main_arg0) = m ((c.tc : Thread Cert.KvfDxRefIdeal.nD Cert.KvfDxRefIdeal.τ).loc Cert.KvfDxRefIdeal.main_arg0)
      ∧ r.2.mem ((c.tc : Thread Cert.KvfDxRefIdeal.nD Cert.KvfDxRefIdeal.τ).loc Cert.KvfDxRefIdeal.main_arg1) = m ((c.tc : Thread Cert.KvfDxRefIdeal.nD Cert.KvfDxRefIdeal.τ).loc Cert.KvfDxRefIdeal.main_arg1))
      ∧ r.2.sem = fun _ => 0)

def quiescent_KvfDw [hKvfDw : Cert.KvfDw.Facts] : Prop :=
  ∀ (m : (ℓ : Loc Cert.KvfDw.nD Cert.KvfDw.τ Cert.KvfDw.sig) → Buf (Elt Bits) ℓ) (g : Dev Cert.KvfDw.nD → PrngReg), Pre_KvfDw m →
    θ_run (Cert.KvfDw.defs (F := Bits)) (onTc (τ := Cert.KvfDw.τ) (Cert.KvfDw.main (F := Bits))) ⟨m, fun _ => 0, g⟩ (fun r => (∀ c : Dev Cert.KvfDw.nD,
      r.2.mem ((c.tc : Thread Cert.KvfDw.nD Cert.KvfDw.τ).loc Cert.KvfDw.main_arg0) = m ((c.tc : Thread Cert.KvfDw.nD Cert.KvfDw.τ).loc Cert.KvfDw.main_arg0)
      ∧ r.2.mem ((c.tc : Thread Cert.KvfDw.nD Cert.KvfDw.τ).loc Cert.KvfDw.main_arg1) = m ((c.tc : Thread Cert.KvfDw.nD Cert.KvfDw.τ).loc Cert.KvfDw.main_arg1))
      ∧ r.2.sem = fun _ => 0)

def quiescent_KvfDwIdeal [hKvfDwIdeal : Cert.KvfDwIdeal.Facts] : Prop :=
  ∀ (m : (ℓ : Loc Cert.KvfDwIdeal.nD Cert.KvfDwIdeal.τ Cert.KvfDwIdeal.sig) → Buf (Elt Ideal) ℓ) (g : Dev Cert.KvfDwIdeal.nD → PrngReg), Pre_KvfDwIdeal m →
    θ_run (Cert.KvfDwIdeal.defs (F := Ideal)) (onTc (τ := Cert.KvfDwIdeal.τ) (Cert.KvfDwIdeal.main (F := Ideal))) ⟨m, fun _ => 0, g⟩ (fun r => (∀ c : Dev Cert.KvfDwIdeal.nD,
      r.2.mem ((c.tc : Thread Cert.KvfDwIdeal.nD Cert.KvfDwIdeal.τ).loc Cert.KvfDwIdeal.main_arg0) = m ((c.tc : Thread Cert.KvfDwIdeal.nD Cert.KvfDwIdeal.τ).loc Cert.KvfDwIdeal.main_arg0)
      ∧ r.2.mem ((c.tc : Thread Cert.KvfDwIdeal.nD Cert.KvfDwIdeal.τ).loc Cert.KvfDwIdeal.main_arg1) = m ((c.tc : Thread Cert.KvfDwIdeal.nD Cert.KvfDwIdeal.τ).loc Cert.KvfDwIdeal.main_arg1))
      ∧ r.2.sem = fun _ => 0)

def quiescent_KvfDwRefIdeal [hKvfDwRefIdeal : Cert.KvfDwRefIdeal.Facts] : Prop :=
  ∀ (m : (ℓ : Loc Cert.KvfDwRefIdeal.nD Cert.KvfDwRefIdeal.τ Cert.KvfDwRefIdeal.sig) → Buf (Elt Ideal) ℓ) (g : Dev Cert.KvfDwRefIdeal.nD → PrngReg), Pre_KvfDwRefIdeal m →
    θ_run (Cert.KvfDwRefIdeal.defs (F := Ideal)) (onTc (τ := Cert.KvfDwRefIdeal.τ) (Cert.KvfDwRefIdeal.main (F := Ideal))) ⟨m, fun _ => 0, g⟩ (fun r => (∀ c : Dev Cert.KvfDwRefIdeal.nD,
      r.2.mem ((c.tc : Thread Cert.KvfDwRefIdeal.nD Cert.KvfDwRefIdeal.τ).loc Cert.KvfDwRefIdeal.main_arg0) = m ((c.tc : Thread Cert.KvfDwRefIdeal.nD Cert.KvfDwRefIdeal.τ).loc Cert.KvfDwRefIdeal.main_arg0)
      ∧ r.2.mem ((c.tc : Thread Cert.KvfDwRefIdeal.nD Cert.KvfDwRefIdeal.τ).loc Cert.KvfDwRefIdeal.main_arg1) = m ((c.tc : Thread Cert.KvfDwRefIdeal.nD Cert.KvfDwRefIdeal.τ).loc Cert.KvfDwRefIdeal.main_arg1))
      ∧ r.2.sem = fun _ => 0)

def quiescent_FoxFwd [hFoxFwd : Cert.FoxFwd.Facts] : Prop :=
  ∀ (m : (ℓ : Loc Cert.FoxFwd.nD Cert.FoxFwd.τ Cert.FoxFwd.sig) → Buf (Elt Bits) ℓ) (g : Dev Cert.FoxFwd.nD → PrngReg), Pre_FoxFwd m →
    θ_run (Cert.FoxFwd.defs (F := Bits)) (onTc (τ := Cert.FoxFwd.τ) (Cert.FoxFwd.main (F := Bits))) ⟨m, fun _ => 0, g⟩ (fun r => (∀ c : Dev Cert.FoxFwd.nD,
      r.2.mem ((c.tc : Thread Cert.FoxFwd.nD Cert.FoxFwd.τ).loc Cert.FoxFwd.main_arg0) = m ((c.tc : Thread Cert.FoxFwd.nD Cert.FoxFwd.τ).loc Cert.FoxFwd.main_arg0)
      ∧ r.2.mem ((c.tc : Thread Cert.FoxFwd.nD Cert.FoxFwd.τ).loc Cert.FoxFwd.main_arg1) = m ((c.tc : Thread Cert.FoxFwd.nD Cert.FoxFwd.τ).loc Cert.FoxFwd.main_arg1)
      ∧ r.2.mem ((c.tc : Thread Cert.FoxFwd.nD Cert.FoxFwd.τ).loc Cert.FoxFwd.main_arg2) = m ((c.tc : Thread Cert.FoxFwd.nD Cert.FoxFwd.τ).loc Cert.FoxFwd.main_arg2))
      ∧ r.2.sem = fun _ => 0)

def quiescent_FoxFwdIdeal [hFoxFwdIdeal : Cert.FoxFwdIdeal.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2))
      ∧ r.2.sem = fun _ => 0)

def quiescent_FoxFwdIdeal_pre_finite_fwd [hFoxFwdIdeal : Cert.FoxFwdIdeal.Facts] [hPre_finite_fwd : Cert.Pre_finite_fwd.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg), Pre_FoxFwdIdeal_finite_fwd m →
    θ_run (Cert.FoxFwdIdeal.defs (F := Ideal)) (onTc (τ := Cert.FoxFwdIdeal.τ) (Cert.FoxFwdIdeal.main (F := Ideal))) ⟨m, fun _ => 0, g⟩ (fun r => (∀ c : Dev Cert.FoxFwdIdeal.nD,
      r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
      ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
      ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2))
      ∧ r.2.sem = fun _ => 0)

def quiescent_FoxFwdRefIdeal [hFoxFwdRefIdeal : Cert.FoxFwdRefIdeal.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2))
      ∧ r.2.sem = fun _ => 0)

def quiescent_FoxFwdRefIdeal_pre_finite_fwd [hFoxFwdRefIdeal : Cert.FoxFwdRefIdeal.Facts] [hPre_finite_fwd : Cert.Pre_finite_fwd.Facts] : Prop :=
  ∀ (m : (ℓ : Loc Cert.FoxFwdRefIdeal.nD Cert.FoxFwdRefIdeal.τ Cert.FoxFwdRefIdeal.sig) → Buf (Elt Ideal) ℓ) (g : Dev Cert.FoxFwdRefIdeal.nD → PrngReg), Pre_FoxFwdRefIdeal_finite_fwd m →
    θ_run (Cert.FoxFwdRefIdeal.defs (F := Ideal)) (onTc (τ := Cert.FoxFwdRefIdeal.τ) (Cert.FoxFwdRefIdeal.main (F := Ideal))) ⟨m, fun _ => 0, g⟩ (fun r => (∀ c : Dev Cert.FoxFwdRefIdeal.nD,
      r.2.mem ((c.tc : Thread Cert.FoxFwdRefIdeal.nD Cert.FoxFwdRefIdeal.τ).loc Cert.FoxFwdRefIdeal.main_arg0) = m ((c.tc : Thread Cert.FoxFwdRefIdeal.nD Cert.FoxFwdRefIdeal.τ).loc Cert.FoxFwdRefIdeal.main_arg0)
      ∧ r.2.mem ((c.tc : Thread Cert.FoxFwdRefIdeal.nD Cert.FoxFwdRefIdeal.τ).loc Cert.FoxFwdRefIdeal.main_arg1) = m ((c.tc : Thread Cert.FoxFwdRefIdeal.nD Cert.FoxFwdRefIdeal.τ).loc Cert.FoxFwdRefIdeal.main_arg1)
      ∧ r.2.mem ((c.tc : Thread Cert.FoxFwdRefIdeal.nD Cert.FoxFwdRefIdeal.τ).loc Cert.FoxFwdRefIdeal.main_arg2) = m ((c.tc : Thread Cert.FoxFwdRefIdeal.nD Cert.FoxFwdRefIdeal.τ).loc Cert.FoxFwdRefIdeal.main_arg2))
      ∧ r.2.sem = fun _ => 0)

def quiescent_FoxAdd [hFoxAdd : Cert.FoxAdd.Facts] : Prop :=
  ∀ (m : (ℓ : Loc Cert.FoxAdd.nD Cert.FoxAdd.τ Cert.FoxAdd.sig) → Buf (Elt Bits) ℓ) (g : Dev Cert.FoxAdd.nD → PrngReg), Pre_FoxAdd m →
    θ_run (Cert.FoxAdd.defs (F := Bits)) (onTc (τ := Cert.FoxAdd.τ) (Cert.FoxAdd.main (F := Bits))) ⟨m, fun _ => 0, g⟩ (fun r => (∀ c : Dev Cert.FoxAdd.nD,
      r.2.mem ((c.tc : Thread Cert.FoxAdd.nD Cert.FoxAdd.τ).loc Cert.FoxAdd.main_arg0) = m ((c.tc : Thread Cert.FoxAdd.nD Cert.FoxAdd.τ).loc Cert.FoxAdd.main_arg0)
      ∧ r.2.mem ((c.tc : Thread Cert.FoxAdd.nD Cert.FoxAdd.τ).loc Cert.FoxAdd.main_arg1) = m ((c.tc : Thread Cert.FoxAdd.nD Cert.FoxAdd.τ).loc Cert.FoxAdd.main_arg1)
      ∧ r.2.mem ((c.tc : Thread Cert.FoxAdd.nD Cert.FoxAdd.τ).loc Cert.FoxAdd.main_arg2) = m ((c.tc : Thread Cert.FoxAdd.nD Cert.FoxAdd.τ).loc Cert.FoxAdd.main_arg2)
      ∧ r.2.mem ((c.tc : Thread Cert.FoxAdd.nD Cert.FoxAdd.τ).loc Cert.FoxAdd.main_arg3) = m ((c.tc : Thread Cert.FoxAdd.nD Cert.FoxAdd.τ).loc Cert.FoxAdd.main_arg3)
      ∧ r.2.mem ((c.tc : Thread Cert.FoxAdd.nD Cert.FoxAdd.τ).loc Cert.FoxAdd.main_arg4) = m ((c.tc : Thread Cert.FoxAdd.nD Cert.FoxAdd.τ).loc Cert.FoxAdd.main_arg4)
      ∧ r.2.mem ((c.tc : Thread Cert.FoxAdd.nD Cert.FoxAdd.τ).loc Cert.FoxAdd.main_arg5) = m ((c.tc : Thread Cert.FoxAdd.nD Cert.FoxAdd.τ).loc Cert.FoxAdd.main_arg5)
      ∧ r.2.mem ((c.tc : Thread Cert.FoxAdd.nD Cert.FoxAdd.τ).loc Cert.FoxAdd.main_arg6) = m ((c.tc : Thread Cert.FoxAdd.nD Cert.FoxAdd.τ).loc Cert.FoxAdd.main_arg6))
      ∧ r.2.sem = fun _ => 0)

def quiescent_FoxAddIdeal [hFoxAddIdeal : Cert.FoxAddIdeal.Facts] : Prop :=
  ∀ (m : (ℓ : Loc Cert.FoxAddIdeal.nD Cert.FoxAddIdeal.τ Cert.FoxAddIdeal.sig) → Buf (Elt Ideal) ℓ) (g : Dev Cert.FoxAddIdeal.nD → PrngReg), Pre_FoxAddIdeal m →
    θ_run (Cert.FoxAddIdeal.defs (F := Ideal)) (onTc (τ := Cert.FoxAddIdeal.τ) (Cert.FoxAddIdeal.main (F := Ideal))) ⟨m, fun _ => 0, g⟩ (fun r => (∀ c : Dev Cert.FoxAddIdeal.nD,
      r.2.mem ((c.tc : Thread Cert.FoxAddIdeal.nD Cert.FoxAddIdeal.τ).loc Cert.FoxAddIdeal.main_arg0) = m ((c.tc : Thread Cert.FoxAddIdeal.nD Cert.FoxAddIdeal.τ).loc Cert.FoxAddIdeal.main_arg0)
      ∧ r.2.mem ((c.tc : Thread Cert.FoxAddIdeal.nD Cert.FoxAddIdeal.τ).loc Cert.FoxAddIdeal.main_arg1) = m ((c.tc : Thread Cert.FoxAddIdeal.nD Cert.FoxAddIdeal.τ).loc Cert.FoxAddIdeal.main_arg1)
      ∧ r.2.mem ((c.tc : Thread Cert.FoxAddIdeal.nD Cert.FoxAddIdeal.τ).loc Cert.FoxAddIdeal.main_arg2) = m ((c.tc : Thread Cert.FoxAddIdeal.nD Cert.FoxAddIdeal.τ).loc Cert.FoxAddIdeal.main_arg2)
      ∧ r.2.mem ((c.tc : Thread Cert.FoxAddIdeal.nD Cert.FoxAddIdeal.τ).loc Cert.FoxAddIdeal.main_arg3) = m ((c.tc : Thread Cert.FoxAddIdeal.nD Cert.FoxAddIdeal.τ).loc Cert.FoxAddIdeal.main_arg3)
      ∧ r.2.mem ((c.tc : Thread Cert.FoxAddIdeal.nD Cert.FoxAddIdeal.τ).loc Cert.FoxAddIdeal.main_arg4) = m ((c.tc : Thread Cert.FoxAddIdeal.nD Cert.FoxAddIdeal.τ).loc Cert.FoxAddIdeal.main_arg4)
      ∧ r.2.mem ((c.tc : Thread Cert.FoxAddIdeal.nD Cert.FoxAddIdeal.τ).loc Cert.FoxAddIdeal.main_arg5) = m ((c.tc : Thread Cert.FoxAddIdeal.nD Cert.FoxAddIdeal.τ).loc Cert.FoxAddIdeal.main_arg5)
      ∧ r.2.mem ((c.tc : Thread Cert.FoxAddIdeal.nD Cert.FoxAddIdeal.τ).loc Cert.FoxAddIdeal.main_arg6) = m ((c.tc : Thread Cert.FoxAddIdeal.nD Cert.FoxAddIdeal.τ).loc Cert.FoxAddIdeal.main_arg6))
      ∧ r.2.sem = fun _ => 0)

def quiescent_FoxAddIdeal_pre_finite_add [hFoxAddIdeal : Cert.FoxAddIdeal.Facts] [hPre_finite_add : Cert.Pre_finite_add.Facts] : Prop :=
  ∀ (m : (ℓ : Loc Cert.FoxAddIdeal.nD Cert.FoxAddIdeal.τ Cert.FoxAddIdeal.sig) → Buf (Elt Ideal) ℓ) (g : Dev Cert.FoxAddIdeal.nD → PrngReg), Pre_FoxAddIdeal_finite_add m →
    θ_run (Cert.FoxAddIdeal.defs (F := Ideal)) (onTc (τ := Cert.FoxAddIdeal.τ) (Cert.FoxAddIdeal.main (F := Ideal))) ⟨m, fun _ => 0, g⟩ (fun r => (∀ c : Dev Cert.FoxAddIdeal.nD,
      r.2.mem ((c.tc : Thread Cert.FoxAddIdeal.nD Cert.FoxAddIdeal.τ).loc Cert.FoxAddIdeal.main_arg0) = m ((c.tc : Thread Cert.FoxAddIdeal.nD Cert.FoxAddIdeal.τ).loc Cert.FoxAddIdeal.main_arg0)
      ∧ r.2.mem ((c.tc : Thread Cert.FoxAddIdeal.nD Cert.FoxAddIdeal.τ).loc Cert.FoxAddIdeal.main_arg1) = m ((c.tc : Thread Cert.FoxAddIdeal.nD Cert.FoxAddIdeal.τ).loc Cert.FoxAddIdeal.main_arg1)
      ∧ r.2.mem ((c.tc : Thread Cert.FoxAddIdeal.nD Cert.FoxAddIdeal.τ).loc Cert.FoxAddIdeal.main_arg2) = m ((c.tc : Thread Cert.FoxAddIdeal.nD Cert.FoxAddIdeal.τ).loc Cert.FoxAddIdeal.main_arg2)
      ∧ r.2.mem ((c.tc : Thread Cert.FoxAddIdeal.nD Cert.FoxAddIdeal.τ).loc Cert.FoxAddIdeal.main_arg3) = m ((c.tc : Thread Cert.FoxAddIdeal.nD Cert.FoxAddIdeal.τ).loc Cert.FoxAddIdeal.main_arg3)
      ∧ r.2.mem ((c.tc : Thread Cert.FoxAddIdeal.nD Cert.FoxAddIdeal.τ).loc Cert.FoxAddIdeal.main_arg4) = m ((c.tc : Thread Cert.FoxAddIdeal.nD Cert.FoxAddIdeal.τ).loc Cert.FoxAddIdeal.main_arg4)
      ∧ r.2.mem ((c.tc : Thread Cert.FoxAddIdeal.nD Cert.FoxAddIdeal.τ).loc Cert.FoxAddIdeal.main_arg5) = m ((c.tc : Thread Cert.FoxAddIdeal.nD Cert.FoxAddIdeal.τ).loc Cert.FoxAddIdeal.main_arg5)
      ∧ r.2.mem ((c.tc : Thread Cert.FoxAddIdeal.nD Cert.FoxAddIdeal.τ).loc Cert.FoxAddIdeal.main_arg6) = m ((c.tc : Thread Cert.FoxAddIdeal.nD Cert.FoxAddIdeal.τ).loc Cert.FoxAddIdeal.main_arg6))
      ∧ r.2.sem = fun _ => 0)

def quiescent_FoxAddRefIdeal [hFoxAddRefIdeal : Cert.FoxAddRefIdeal.Facts] : Prop :=
  ∀ (m : (ℓ : Loc Cert.FoxAddRefIdeal.nD Cert.FoxAddRefIdeal.τ Cert.FoxAddRefIdeal.sig) → Buf (Elt Ideal) ℓ) (g : Dev Cert.FoxAddRefIdeal.nD → PrngReg), Pre_FoxAddRefIdeal m →
    θ_run (Cert.FoxAddRefIdeal.defs (F := Ideal)) (onTc (τ := Cert.FoxAddRefIdeal.τ) (Cert.FoxAddRefIdeal.main (F := Ideal))) ⟨m, fun _ => 0, g⟩ (fun r => (∀ c : Dev Cert.FoxAddRefIdeal.nD,
      r.2.mem ((c.tc : Thread Cert.FoxAddRefIdeal.nD Cert.FoxAddRefIdeal.τ).loc Cert.FoxAddRefIdeal.main_arg0) = m ((c.tc : Thread Cert.FoxAddRefIdeal.nD Cert.FoxAddRefIdeal.τ).loc Cert.FoxAddRefIdeal.main_arg0)
      ∧ r.2.mem ((c.tc : Thread Cert.FoxAddRefIdeal.nD Cert.FoxAddRefIdeal.τ).loc Cert.FoxAddRefIdeal.main_arg1) = m ((c.tc : Thread Cert.FoxAddRefIdeal.nD Cert.FoxAddRefIdeal.τ).loc Cert.FoxAddRefIdeal.main_arg1)
      ∧ r.2.mem ((c.tc : Thread Cert.FoxAddRefIdeal.nD Cert.FoxAddRefIdeal.τ).loc Cert.FoxAddRefIdeal.main_arg2) = m ((c.tc : Thread Cert.FoxAddRefIdeal.nD Cert.FoxAddRefIdeal.τ).loc Cert.FoxAddRefIdeal.main_arg2)
      ∧ r.2.mem ((c.tc : Thread Cert.FoxAddRefIdeal.nD Cert.FoxAddRefIdeal.τ).loc Cert.FoxAddRefIdeal.main_arg3) = m ((c.tc : Thread Cert.FoxAddRefIdeal.nD Cert.FoxAddRefIdeal.τ).loc Cert.FoxAddRefIdeal.main_arg3)
      ∧ r.2.mem ((c.tc : Thread Cert.FoxAddRefIdeal.nD Cert.FoxAddRefIdeal.τ).loc Cert.FoxAddRefIdeal.main_arg4) = m ((c.tc : Thread Cert.FoxAddRefIdeal.nD Cert.FoxAddRefIdeal.τ).loc Cert.FoxAddRefIdeal.main_arg4)
      ∧ r.2.mem ((c.tc : Thread Cert.FoxAddRefIdeal.nD Cert.FoxAddRefIdeal.τ).loc Cert.FoxAddRefIdeal.main_arg5) = m ((c.tc : Thread Cert.FoxAddRefIdeal.nD Cert.FoxAddRefIdeal.τ).loc Cert.FoxAddRefIdeal.main_arg5)
      ∧ r.2.mem ((c.tc : Thread Cert.FoxAddRefIdeal.nD Cert.FoxAddRefIdeal.τ).loc Cert.FoxAddRefIdeal.main_arg6) = m ((c.tc : Thread Cert.FoxAddRefIdeal.nD Cert.FoxAddRefIdeal.τ).loc Cert.FoxAddRefIdeal.main_arg6))
      ∧ r.2.sem = fun _ => 0)

def quiescent_FoxAddRefIdeal_pre_finite_add [hFoxAddRefIdeal : Cert.FoxAddRefIdeal.Facts] [hPre_finite_add : Cert.Pre_finite_add.Facts] : Prop :=
  ∀ (m : (ℓ : Loc Cert.FoxAddRefIdeal.nD Cert.FoxAddRefIdeal.τ Cert.FoxAddRefIdeal.sig) → Buf (Elt Ideal) ℓ) (g : Dev Cert.FoxAddRefIdeal.nD → PrngReg), Pre_FoxAddRefIdeal_finite_add m →
    θ_run (Cert.FoxAddRefIdeal.defs (F := Ideal)) (onTc (τ := Cert.FoxAddRefIdeal.τ) (Cert.FoxAddRefIdeal.main (F := Ideal))) ⟨m, fun _ => 0, g⟩ (fun r => (∀ c : Dev Cert.FoxAddRefIdeal.nD,
      r.2.mem ((c.tc : Thread Cert.FoxAddRefIdeal.nD Cert.FoxAddRefIdeal.τ).loc Cert.FoxAddRefIdeal.main_arg0) = m ((c.tc : Thread Cert.FoxAddRefIdeal.nD Cert.FoxAddRefIdeal.τ).loc Cert.FoxAddRefIdeal.main_arg0)
      ∧ r.2.mem ((c.tc : Thread Cert.FoxAddRefIdeal.nD Cert.FoxAddRefIdeal.τ).loc Cert.FoxAddRefIdeal.main_arg1) = m ((c.tc : Thread Cert.FoxAddRefIdeal.nD Cert.FoxAddRefIdeal.τ).loc Cert.FoxAddRefIdeal.main_arg1)
      ∧ r.2.mem ((c.tc : Thread Cert.FoxAddRefIdeal.nD Cert.FoxAddRefIdeal.τ).loc Cert.FoxAddRefIdeal.main_arg2) = m ((c.tc : Thread Cert.FoxAddRefIdeal.nD Cert.FoxAddRefIdeal.τ).loc Cert.FoxAddRefIdeal.main_arg2)
      ∧ r.2.mem ((c.tc : Thread Cert.FoxAddRefIdeal.nD Cert.FoxAddRefIdeal.τ).loc Cert.FoxAddRefIdeal.main_arg3) = m ((c.tc : Thread Cert.FoxAddRefIdeal.nD Cert.FoxAddRefIdeal.τ).loc Cert.FoxAddRefIdeal.main_arg3)
      ∧ r.2.mem ((c.tc : Thread Cert.FoxAddRefIdeal.nD Cert.FoxAddRefIdeal.τ).loc Cert.FoxAddRefIdeal.main_arg4) = m ((c.tc : Thread Cert.FoxAddRefIdeal.nD Cert.FoxAddRefIdeal.τ).loc Cert.FoxAddRefIdeal.main_arg4)
      ∧ r.2.mem ((c.tc : Thread Cert.FoxAddRefIdeal.nD Cert.FoxAddRefIdeal.τ).loc Cert.FoxAddRefIdeal.main_arg5) = m ((c.tc : Thread Cert.FoxAddRefIdeal.nD Cert.FoxAddRefIdeal.τ).loc Cert.FoxAddRefIdeal.main_arg5)
      ∧ r.2.mem ((c.tc : Thread Cert.FoxAddRefIdeal.nD Cert.FoxAddRefIdeal.τ).loc Cert.FoxAddRefIdeal.main_arg6) = m ((c.tc : Thread Cert.FoxAddRefIdeal.nD Cert.FoxAddRefIdeal.τ).loc Cert.FoxAddRefIdeal.main_arg6))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdIdeal_pre_finite_conv [hConvBwdIdeal : Cert.ConvBwdIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal_finite_conv m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdRefIdeal [hConvBwdRefIdeal : Cert.ConvBwdRefIdeal.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvBwdRefIdeal_pre_finite_conv [hConvBwdRefIdeal : Cert.ConvBwdRefIdeal.Facts] [hPre_finite_conv : Cert.Pre_finite_conv.Facts] : Prop :=
  ∀ (m : (ℓ : Loc Cert.ConvBwdRefIdeal.nD Cert.ConvBwdRefIdeal.τ Cert.ConvBwdRefIdeal.sig) → Buf (Elt Ideal) ℓ) (g : Dev Cert.ConvBwdRefIdeal.nD → PrngReg), Pre_ConvBwdRefIdeal_finite_conv m →
    θ_run (Cert.ConvBwdRefIdeal.defs (F := Ideal)) (onTc (τ := Cert.ConvBwdRefIdeal.τ) (Cert.ConvBwdRefIdeal.main (F := Ideal))) ⟨m, fun _ => 0, g⟩ (fun r => (∀ c : Dev Cert.ConvBwdRefIdeal.nD,
      r.2.mem ((c.tc : Thread Cert.ConvBwdRefIdeal.nD Cert.ConvBwdRefIdeal.τ).loc Cert.ConvBwdRefIdeal.main_arg0) = m ((c.tc : Thread Cert.ConvBwdRefIdeal.nD Cert.ConvBwdRefIdeal.τ).loc Cert.ConvBwdRefIdeal.main_arg0)
      ∧ r.2.mem ((c.tc : Thread Cert.ConvBwdRefIdeal.nD Cert.ConvBwdRefIdeal.τ).loc Cert.ConvBwdRefIdeal.main_arg1) = m ((c.tc : Thread Cert.ConvBwdRefIdeal.nD Cert.ConvBwdRefIdeal.τ).loc Cert.ConvBwdRefIdeal.main_arg1)
      ∧ r.2.mem ((c.tc : Thread Cert.ConvBwdRefIdeal.nD Cert.ConvBwdRefIdeal.τ).loc Cert.ConvBwdRefIdeal.main_arg2) = m ((c.tc : Thread Cert.ConvBwdRefIdeal.nD Cert.ConvBwdRefIdeal.τ).loc Cert.ConvBwdRefIdeal.main_arg2)
      ∧ r.2.mem ((c.tc : Thread Cert.ConvBwdRefIdeal.nD Cert.ConvBwdRefIdeal.τ).loc Cert.ConvBwdRefIdeal.main_arg3) = m ((c.tc : Thread Cert.ConvBwdRefIdeal.nD Cert.ConvBwdRefIdeal.τ).loc Cert.ConvBwdRefIdeal.main_arg3))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2))
      ∧ r.2.sem = fun _ => 0)

def quiescent_RmsIn [hRmsIn : Cert.RmsIn.Facts] : Prop :=
  ∀ (m : (ℓ : Loc Cert.RmsIn.nD Cert.RmsIn.τ Cert.RmsIn.sig) → Buf (Elt Bits) ℓ) (g : Dev Cert.RmsIn.nD → PrngReg), Pre_RmsIn m →
    θ_run (Cert.RmsIn.defs (F := Bits)) (onTc (τ := Cert.RmsIn.τ) (Cert.RmsIn.main (F := Bits))) ⟨m, fun _ => 0, g⟩ (fun r => (∀ c : Dev Cert.RmsIn.nD,
      r.2.mem ((c.tc : Thread Cert.RmsIn.nD Cert.RmsIn.τ).loc Cert.RmsIn.main_arg0) = m ((c.tc : Thread Cert.RmsIn.nD Cert.RmsIn.τ).loc Cert.RmsIn.main_arg0)
      ∧ r.2.mem ((c.tc : Thread Cert.RmsIn.nD Cert.RmsIn.τ).loc Cert.RmsIn.main_arg1) = m ((c.tc : Thread Cert.RmsIn.nD Cert.RmsIn.τ).loc Cert.RmsIn.main_arg1))
      ∧ r.2.sem = fun _ => 0)

def quiescent_RmsInIdeal [hRmsInIdeal : Cert.RmsInIdeal.Facts] : Prop :=
  ∀ (m : (ℓ : Loc Cert.RmsInIdeal.nD Cert.RmsInIdeal.τ Cert.RmsInIdeal.sig) → Buf (Elt Ideal) ℓ) (g : Dev Cert.RmsInIdeal.nD → PrngReg), Pre_RmsInIdeal m →
    θ_run (Cert.RmsInIdeal.defs (F := Ideal)) (onTc (τ := Cert.RmsInIdeal.τ) (Cert.RmsInIdeal.main (F := Ideal))) ⟨m, fun _ => 0, g⟩ (fun r => (∀ c : Dev Cert.RmsInIdeal.nD,
      r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
      ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1))
      ∧ r.2.sem = fun _ => 0)

def quiescent_RmsInRefIdeal [hRmsInRefIdeal : Cert.RmsInRefIdeal.Facts] : Prop :=
  ∀ (m : (ℓ : Loc Cert.RmsInRefIdeal.nD Cert.RmsInRefIdeal.τ Cert.RmsInRefIdeal.sig) → Buf (Elt Ideal) ℓ) (g : Dev Cert.RmsInRefIdeal.nD → PrngReg), Pre_RmsInRefIdeal m →
    θ_run (Cert.RmsInRefIdeal.defs (F := Ideal)) (onTc (τ := Cert.RmsInRefIdeal.τ) (Cert.RmsInRefIdeal.main (F := Ideal))) ⟨m, fun _ => 0, g⟩ (fun r => (∀ c : Dev Cert.RmsInRefIdeal.nD,
      r.2.mem ((c.tc : Thread Cert.RmsInRefIdeal.nD Cert.RmsInRefIdeal.τ).loc Cert.RmsInRefIdeal.main_arg0) = m ((c.tc : Thread Cert.RmsInRefIdeal.nD Cert.RmsInRefIdeal.τ).loc Cert.RmsInRefIdeal.main_arg0)
      ∧ r.2.mem ((c.tc : Thread Cert.RmsInRefIdeal.nD Cert.RmsInRefIdeal.τ).loc Cert.RmsInRefIdeal.main_arg1) = m ((c.tc : Thread Cert.RmsInRefIdeal.nD Cert.RmsInRefIdeal.τ).loc Cert.RmsInRefIdeal.main_arg1))
      ∧ r.2.sem = fun _ => 0)

def quiescent_RmsRes [hRmsRes : Cert.RmsRes.Facts] : Prop :=
  ∀ (m : (ℓ : Loc Cert.RmsRes.nD Cert.RmsRes.τ Cert.RmsRes.sig) → Buf (Elt Bits) ℓ) (g : Dev Cert.RmsRes.nD → PrngReg), Pre_RmsRes m →
    θ_run (Cert.RmsRes.defs (F := Bits)) (onTc (τ := Cert.RmsRes.τ) (Cert.RmsRes.main (F := Bits))) ⟨m, fun _ => 0, g⟩ (fun r => (∀ c : Dev Cert.RmsRes.nD,
      r.2.mem ((c.tc : Thread Cert.RmsRes.nD Cert.RmsRes.τ).loc Cert.RmsRes.main_arg0) = m ((c.tc : Thread Cert.RmsRes.nD Cert.RmsRes.τ).loc Cert.RmsRes.main_arg0)
      ∧ r.2.mem ((c.tc : Thread Cert.RmsRes.nD Cert.RmsRes.τ).loc Cert.RmsRes.main_arg1) = m ((c.tc : Thread Cert.RmsRes.nD Cert.RmsRes.τ).loc Cert.RmsRes.main_arg1)
      ∧ r.2.mem ((c.tc : Thread Cert.RmsRes.nD Cert.RmsRes.τ).loc Cert.RmsRes.main_arg2) = m ((c.tc : Thread Cert.RmsRes.nD Cert.RmsRes.τ).loc Cert.RmsRes.main_arg2))
      ∧ r.2.sem = fun _ => 0)

def quiescent_RmsResIdeal [hRmsResIdeal : Cert.RmsResIdeal.Facts] : Prop :=
  ∀ (m : (ℓ : Loc Cert.RmsResIdeal.nD Cert.RmsResIdeal.τ Cert.RmsResIdeal.sig) → Buf (Elt Ideal) ℓ) (g : Dev Cert.RmsResIdeal.nD → PrngReg), Pre_RmsResIdeal m →
    θ_run (Cert.RmsResIdeal.defs (F := Ideal)) (onTc (τ := Cert.RmsResIdeal.τ) (Cert.RmsResIdeal.main (F := Ideal))) ⟨m, fun _ => 0, g⟩ (fun r => (∀ c : Dev Cert.RmsResIdeal.nD,
      r.2.mem ((c.tc : Thread Cert.RmsResIdeal.nD Cert.RmsResIdeal.τ).loc Cert.RmsResIdeal.main_arg0) = m ((c.tc : Thread Cert.RmsResIdeal.nD Cert.RmsResIdeal.τ).loc Cert.RmsResIdeal.main_arg0)
      ∧ r.2.mem ((c.tc : Thread Cert.RmsResIdeal.nD Cert.RmsResIdeal.τ).loc Cert.RmsResIdeal.main_arg1) = m ((c.tc : Thread Cert.RmsResIdeal.nD Cert.RmsResIdeal.τ).loc Cert.RmsResIdeal.main_arg1)
      ∧ r.2.mem ((c.tc : Thread Cert.RmsResIdeal.nD Cert.RmsResIdeal.τ).loc Cert.RmsResIdeal.main_arg2) = m ((c.tc : Thread Cert.RmsResIdeal.nD Cert.RmsResIdeal.τ).loc Cert.RmsResIdeal.main_arg2))
      ∧ r.2.sem = fun _ => 0)

def quiescent_RmsResRefIdeal [hRmsResRefIdeal : Cert.RmsResRefIdeal.Facts] : Prop :=
  ∀ (m : (ℓ : Loc Cert.RmsResRefIdeal.nD Cert.RmsResRefIdeal.τ Cert.RmsResRefIdeal.sig) → Buf (Elt Ideal) ℓ) (g : Dev Cert.RmsResRefIdeal.nD → PrngReg), Pre_RmsResRefIdeal m →
    θ_run (Cert.RmsResRefIdeal.defs (F := Ideal)) (onTc (τ := Cert.RmsResRefIdeal.τ) (Cert.RmsResRefIdeal.main (F := Ideal))) ⟨m, fun _ => 0, g⟩ (fun r => (∀ c : Dev Cert.RmsResRefIdeal.nD,
      r.2.mem ((c.tc : Thread Cert.RmsResRefIdeal.nD Cert.RmsResRefIdeal.τ).loc Cert.RmsResRefIdeal.main_arg0) = m ((c.tc : Thread Cert.RmsResRefIdeal.nD Cert.RmsResRefIdeal.τ).loc Cert.RmsResRefIdeal.main_arg0)
      ∧ r.2.mem ((c.tc : Thread Cert.RmsResRefIdeal.nD Cert.RmsResRefIdeal.τ).loc Cert.RmsResRefIdeal.main_arg1) = m ((c.tc : Thread Cert.RmsResRefIdeal.nD Cert.RmsResRefIdeal.τ).loc Cert.RmsResRefIdeal.main_arg1)
      ∧ r.2.mem ((c.tc : Thread Cert.RmsResRefIdeal.nD Cert.RmsResRefIdeal.τ).loc Cert.RmsResRefIdeal.main_arg2) = m ((c.tc : Thread Cert.RmsResRefIdeal.nD Cert.RmsResRefIdeal.τ).loc Cert.RmsResRefIdeal.main_arg2))
      ∧ r.2.sem = fun _ => 0)

def quiescent_RmsResIn [hRmsResIn : Cert.RmsResIn.Facts] : Prop :=
  ∀ (m : (ℓ : Loc Cert.RmsResIn.nD Cert.RmsResIn.τ Cert.RmsResIn.sig) → Buf (Elt Bits) ℓ) (g : Dev Cert.RmsResIn.nD → PrngReg), Pre_RmsResIn m →
    θ_run (Cert.RmsResIn.defs (F := Bits)) (onTc (τ := Cert.RmsResIn.τ) (Cert.RmsResIn.main (F := Bits))) ⟨m, fun _ => 0, g⟩ (fun r => (∀ c : Dev Cert.RmsResIn.nD,
      r.2.mem ((c.tc : Thread Cert.RmsResIn.nD Cert.RmsResIn.τ).loc Cert.RmsResIn.main_arg0) = m ((c.tc : Thread Cert.RmsResIn.nD Cert.RmsResIn.τ).loc Cert.RmsResIn.main_arg0)
      ∧ r.2.mem ((c.tc : Thread Cert.RmsResIn.nD Cert.RmsResIn.τ).loc Cert.RmsResIn.main_arg1) = m ((c.tc : Thread Cert.RmsResIn.nD Cert.RmsResIn.τ).loc Cert.RmsResIn.main_arg1)
      ∧ r.2.mem ((c.tc : Thread Cert.RmsResIn.nD Cert.RmsResIn.τ).loc Cert.RmsResIn.main_arg2) = m ((c.tc : Thread Cert.RmsResIn.nD Cert.RmsResIn.τ).loc Cert.RmsResIn.main_arg2)
      ∧ r.2.mem ((c.tc : Thread Cert.RmsResIn.nD Cert.RmsResIn.τ).loc Cert.RmsResIn.main_arg3) = m ((c.tc : Thread Cert.RmsResIn.nD Cert.RmsResIn.τ).loc Cert.RmsResIn.main_arg3))
      ∧ r.2.sem = fun _ => 0)

def quiescent_RmsResInIdeal [hRmsResInIdeal : Cert.RmsResInIdeal.Facts] : Prop :=
  ∀ (m : (ℓ : Loc Cert.RmsResInIdeal.nD Cert.RmsResInIdeal.τ Cert.RmsResInIdeal.sig) → Buf (Elt Ideal) ℓ) (g : Dev Cert.RmsResInIdeal.nD → PrngReg), Pre_RmsResInIdeal m →
    θ_run (Cert.RmsResInIdeal.defs (F := Ideal)) (onTc (τ := Cert.RmsResInIdeal.τ) (Cert.RmsResInIdeal.main (F := Ideal))) ⟨m, fun _ => 0, g⟩ (fun r => (∀ c : Dev Cert.RmsResInIdeal.nD,
      r.2.mem ((c.tc : Thread Cert.RmsResInIdeal.nD Cert.RmsResInIdeal.τ).loc Cert.RmsResInIdeal.main_arg0) = m ((c.tc : Thread Cert.RmsResInIdeal.nD Cert.RmsResInIdeal.τ).loc Cert.RmsResInIdeal.main_arg0)
      ∧ r.2.mem ((c.tc : Thread Cert.RmsResInIdeal.nD Cert.RmsResInIdeal.τ).loc Cert.RmsResInIdeal.main_arg1) = m ((c.tc : Thread Cert.RmsResInIdeal.nD Cert.RmsResInIdeal.τ).loc Cert.RmsResInIdeal.main_arg1)
      ∧ r.2.mem ((c.tc : Thread Cert.RmsResInIdeal.nD Cert.RmsResInIdeal.τ).loc Cert.RmsResInIdeal.main_arg2) = m ((c.tc : Thread Cert.RmsResInIdeal.nD Cert.RmsResInIdeal.τ).loc Cert.RmsResInIdeal.main_arg2)
      ∧ r.2.mem ((c.tc : Thread Cert.RmsResInIdeal.nD Cert.RmsResInIdeal.τ).loc Cert.RmsResInIdeal.main_arg3) = m ((c.tc : Thread Cert.RmsResInIdeal.nD Cert.RmsResInIdeal.τ).loc Cert.RmsResInIdeal.main_arg3))
      ∧ r.2.sem = fun _ => 0)

def quiescent_RmsResInRefIdeal [hRmsResInRefIdeal : Cert.RmsResInRefIdeal.Facts] : Prop :=
  ∀ (m : (ℓ : Loc Cert.RmsResInRefIdeal.nD Cert.RmsResInRefIdeal.τ Cert.RmsResInRefIdeal.sig) → Buf (Elt Ideal) ℓ) (g : Dev Cert.RmsResInRefIdeal.nD → PrngReg), Pre_RmsResInRefIdeal m →
    θ_run (Cert.RmsResInRefIdeal.defs (F := Ideal)) (onTc (τ := Cert.RmsResInRefIdeal.τ) (Cert.RmsResInRefIdeal.main (F := Ideal))) ⟨m, fun _ => 0, g⟩ (fun r => (∀ c : Dev Cert.RmsResInRefIdeal.nD,
      r.2.mem ((c.tc : Thread Cert.RmsResInRefIdeal.nD Cert.RmsResInRefIdeal.τ).loc Cert.RmsResInRefIdeal.main_arg0) = m ((c.tc : Thread Cert.RmsResInRefIdeal.nD Cert.RmsResInRefIdeal.τ).loc Cert.RmsResInRefIdeal.main_arg0)
      ∧ r.2.mem ((c.tc : Thread Cert.RmsResInRefIdeal.nD Cert.RmsResInRefIdeal.τ).loc Cert.RmsResInRefIdeal.main_arg1) = m ((c.tc : Thread Cert.RmsResInRefIdeal.nD Cert.RmsResInRefIdeal.τ).loc Cert.RmsResInRefIdeal.main_arg1)
      ∧ r.2.mem ((c.tc : Thread Cert.RmsResInRefIdeal.nD Cert.RmsResInRefIdeal.τ).loc Cert.RmsResInRefIdeal.main_arg2) = m ((c.tc : Thread Cert.RmsResInRefIdeal.nD Cert.RmsResInRefIdeal.τ).loc Cert.RmsResInRefIdeal.main_arg2)
      ∧ r.2.mem ((c.tc : Thread Cert.RmsResInRefIdeal.nD Cert.RmsResInRefIdeal.τ).loc Cert.RmsResInRefIdeal.main_arg3) = m ((c.tc : Thread Cert.RmsResInRefIdeal.nD Cert.RmsResInRefIdeal.τ).loc Cert.RmsResInRefIdeal.main_arg3))
      ∧ r.2.sem = fun _ => 0)

def quiescent_RmsBwd [hRmsBwd : Cert.RmsBwd.Facts] : Prop :=
  ∀ (m : (ℓ : Loc Cert.RmsBwd.nD Cert.RmsBwd.τ Cert.RmsBwd.sig) → Buf (Elt Bits) ℓ) (g : Dev Cert.RmsBwd.nD → PrngReg), Pre_RmsBwd m →
    θ_run (Cert.RmsBwd.defs (F := Bits)) (onTc (τ := Cert.RmsBwd.τ) (Cert.RmsBwd.main (F := Bits))) ⟨m, fun _ => 0, g⟩ (fun r => (∀ c : Dev Cert.RmsBwd.nD,
      r.2.mem ((c.tc : Thread Cert.RmsBwd.nD Cert.RmsBwd.τ).loc Cert.RmsBwd.main_arg0) = m ((c.tc : Thread Cert.RmsBwd.nD Cert.RmsBwd.τ).loc Cert.RmsBwd.main_arg0)
      ∧ r.2.mem ((c.tc : Thread Cert.RmsBwd.nD Cert.RmsBwd.τ).loc Cert.RmsBwd.main_arg1) = m ((c.tc : Thread Cert.RmsBwd.nD Cert.RmsBwd.τ).loc Cert.RmsBwd.main_arg1)
      ∧ r.2.mem ((c.tc : Thread Cert.RmsBwd.nD Cert.RmsBwd.τ).loc Cert.RmsBwd.main_arg2) = m ((c.tc : Thread Cert.RmsBwd.nD Cert.RmsBwd.τ).loc Cert.RmsBwd.main_arg2))
      ∧ r.2.sem = fun _ => 0)

def quiescent_RmsBwdIdeal [hRmsBwdIdeal : Cert.RmsBwdIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg), Pre_RmsBwdIdeal m →
    θ_run (Cert.RmsBwdIdeal.defs (F := Ideal)) (onTc (τ := Cert.RmsBwdIdeal.τ) (Cert.RmsBwdIdeal.main (F := Ideal))) ⟨m, fun _ => 0, g⟩ (fun r => (∀ c : Dev Cert.RmsBwdIdeal.nD,
      r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
      ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
      ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2))
      ∧ r.2.sem = fun _ => 0)

def quiescent_RmsBwdRefIdeal [hRmsBwdRefIdeal : Cert.RmsBwdRefIdeal.Facts] : Prop :=
  ∀ (m : (ℓ : Loc Cert.RmsBwdRefIdeal.nD Cert.RmsBwdRefIdeal.τ Cert.RmsBwdRefIdeal.sig) → Buf (Elt Ideal) ℓ) (g : Dev Cert.RmsBwdRefIdeal.nD → PrngReg), Pre_RmsBwdRefIdeal m →
    θ_run (Cert.RmsBwdRefIdeal.defs (F := Ideal)) (onTc (τ := Cert.RmsBwdRefIdeal.τ) (Cert.RmsBwdRefIdeal.main (F := Ideal))) ⟨m, fun _ => 0, g⟩ (fun r => (∀ c : Dev Cert.RmsBwdRefIdeal.nD,
      r.2.mem ((c.tc : Thread Cert.RmsBwdRefIdeal.nD Cert.RmsBwdRefIdeal.τ).loc Cert.RmsBwdRefIdeal.main_arg0) = m ((c.tc : Thread Cert.RmsBwdRefIdeal.nD Cert.RmsBwdRefIdeal.τ).loc Cert.RmsBwdRefIdeal.main_arg0)
      ∧ r.2.mem ((c.tc : Thread Cert.RmsBwdRefIdeal.nD Cert.RmsBwdRefIdeal.τ).loc Cert.RmsBwdRefIdeal.main_arg1) = m ((c.tc : Thread Cert.RmsBwdRefIdeal.nD Cert.RmsBwdRefIdeal.τ).loc Cert.RmsBwdRefIdeal.main_arg1)
      ∧ r.2.mem ((c.tc : Thread Cert.RmsBwdRefIdeal.nD Cert.RmsBwdRefIdeal.τ).loc Cert.RmsBwdRefIdeal.main_arg2) = m ((c.tc : Thread Cert.RmsBwdRefIdeal.nD Cert.RmsBwdRefIdeal.τ).loc Cert.RmsBwdRefIdeal.main_arg2))
      ∧ r.2.sem = fun _ => 0)

def quiescent_RmsBwdRes [hRmsBwdRes : Cert.RmsBwdRes.Facts] : Prop :=
  ∀ (m : (ℓ : Loc Cert.RmsBwdRes.nD Cert.RmsBwdRes.τ Cert.RmsBwdRes.sig) → Buf (Elt Bits) ℓ) (g : Dev Cert.RmsBwdRes.nD → PrngReg), Pre_RmsBwdRes m →
    θ_run (Cert.RmsBwdRes.defs (F := Bits)) (onTc (τ := Cert.RmsBwdRes.τ) (Cert.RmsBwdRes.main (F := Bits))) ⟨m, fun _ => 0, g⟩ (fun r => (∀ c : Dev Cert.RmsBwdRes.nD,
      r.2.mem ((c.tc : Thread Cert.RmsBwdRes.nD Cert.RmsBwdRes.τ).loc Cert.RmsBwdRes.main_arg0) = m ((c.tc : Thread Cert.RmsBwdRes.nD Cert.RmsBwdRes.τ).loc Cert.RmsBwdRes.main_arg0)
      ∧ r.2.mem ((c.tc : Thread Cert.RmsBwdRes.nD Cert.RmsBwdRes.τ).loc Cert.RmsBwdRes.main_arg1) = m ((c.tc : Thread Cert.RmsBwdRes.nD Cert.RmsBwdRes.τ).loc Cert.RmsBwdRes.main_arg1)
      ∧ r.2.mem ((c.tc : Thread Cert.RmsBwdRes.nD Cert.RmsBwdRes.τ).loc Cert.RmsBwdRes.main_arg2) = m ((c.tc : Thread Cert.RmsBwdRes.nD Cert.RmsBwdRes.τ).loc Cert.RmsBwdRes.main_arg2)
      ∧ r.2.mem ((c.tc : Thread Cert.RmsBwdRes.nD Cert.RmsBwdRes.τ).loc Cert.RmsBwdRes.main_arg3) = m ((c.tc : Thread Cert.RmsBwdRes.nD Cert.RmsBwdRes.τ).loc Cert.RmsBwdRes.main_arg3))
      ∧ r.2.sem = fun _ => 0)

def quiescent_RmsBwdResIdeal [hRmsBwdResIdeal : Cert.RmsBwdResIdeal.Facts] : Prop :=
  ∀ (m : (ℓ : Loc Cert.RmsBwdResIdeal.nD Cert.RmsBwdResIdeal.τ Cert.RmsBwdResIdeal.sig) → Buf (Elt Ideal) ℓ) (g : Dev Cert.RmsBwdResIdeal.nD → PrngReg), Pre_RmsBwdResIdeal m →
    θ_run (Cert.RmsBwdResIdeal.defs (F := Ideal)) (onTc (τ := Cert.RmsBwdResIdeal.τ) (Cert.RmsBwdResIdeal.main (F := Ideal))) ⟨m, fun _ => 0, g⟩ (fun r => (∀ c : Dev Cert.RmsBwdResIdeal.nD,
      r.2.mem ((c.tc : Thread Cert.RmsBwdResIdeal.nD Cert.RmsBwdResIdeal.τ).loc Cert.RmsBwdResIdeal.main_arg0) = m ((c.tc : Thread Cert.RmsBwdResIdeal.nD Cert.RmsBwdResIdeal.τ).loc Cert.RmsBwdResIdeal.main_arg0)
      ∧ r.2.mem ((c.tc : Thread Cert.RmsBwdResIdeal.nD Cert.RmsBwdResIdeal.τ).loc Cert.RmsBwdResIdeal.main_arg1) = m ((c.tc : Thread Cert.RmsBwdResIdeal.nD Cert.RmsBwdResIdeal.τ).loc Cert.RmsBwdResIdeal.main_arg1)
      ∧ r.2.mem ((c.tc : Thread Cert.RmsBwdResIdeal.nD Cert.RmsBwdResIdeal.τ).loc Cert.RmsBwdResIdeal.main_arg2) = m ((c.tc : Thread Cert.RmsBwdResIdeal.nD Cert.RmsBwdResIdeal.τ).loc Cert.RmsBwdResIdeal.main_arg2)
      ∧ r.2.mem ((c.tc : Thread Cert.RmsBwdResIdeal.nD Cert.RmsBwdResIdeal.τ).loc Cert.RmsBwdResIdeal.main_arg3) = m ((c.tc : Thread Cert.RmsBwdResIdeal.nD Cert.RmsBwdResIdeal.τ).loc Cert.RmsBwdResIdeal.main_arg3))
      ∧ r.2.sem = fun _ => 0)

def quiescent_RmsBwdResRefIdeal [hRmsBwdResRefIdeal : Cert.RmsBwdResRefIdeal.Facts] : Prop :=
  ∀ (m : (ℓ : Loc Cert.RmsBwdResRefIdeal.nD Cert.RmsBwdResRefIdeal.τ Cert.RmsBwdResRefIdeal.sig) → Buf (Elt Ideal) ℓ) (g : Dev Cert.RmsBwdResRefIdeal.nD → PrngReg), Pre_RmsBwdResRefIdeal m →
    θ_run (Cert.RmsBwdResRefIdeal.defs (F := Ideal)) (onTc (τ := Cert.RmsBwdResRefIdeal.τ) (Cert.RmsBwdResRefIdeal.main (F := Ideal))) ⟨m, fun _ => 0, g⟩ (fun r => (∀ c : Dev Cert.RmsBwdResRefIdeal.nD,
      r.2.mem ((c.tc : Thread Cert.RmsBwdResRefIdeal.nD Cert.RmsBwdResRefIdeal.τ).loc Cert.RmsBwdResRefIdeal.main_arg0) = m ((c.tc : Thread Cert.RmsBwdResRefIdeal.nD Cert.RmsBwdResRefIdeal.τ).loc Cert.RmsBwdResRefIdeal.main_arg0)
      ∧ r.2.mem ((c.tc : Thread Cert.RmsBwdResRefIdeal.nD Cert.RmsBwdResRefIdeal.τ).loc Cert.RmsBwdResRefIdeal.main_arg1) = m ((c.tc : Thread Cert.RmsBwdResRefIdeal.nD Cert.RmsBwdResRefIdeal.τ).loc Cert.RmsBwdResRefIdeal.main_arg1)
      ∧ r.2.mem ((c.tc : Thread Cert.RmsBwdResRefIdeal.nD Cert.RmsBwdResRefIdeal.τ).loc Cert.RmsBwdResRefIdeal.main_arg2) = m ((c.tc : Thread Cert.RmsBwdResRefIdeal.nD Cert.RmsBwdResRefIdeal.τ).loc Cert.RmsBwdResRefIdeal.main_arg2)
      ∧ r.2.mem ((c.tc : Thread Cert.RmsBwdResRefIdeal.nD Cert.RmsBwdResRefIdeal.τ).loc Cert.RmsBwdResRefIdeal.main_arg3) = m ((c.tc : Thread Cert.RmsBwdResRefIdeal.nD Cert.RmsBwdResRefIdeal.τ).loc Cert.RmsBwdResRefIdeal.main_arg3))
      ∧ r.2.sem = fun _ => 0)

def quiescent_RmsBwdTwo [hRmsBwdTwo : Cert.RmsBwdTwo.Facts] : Prop :=
  ∀ (m : (ℓ : Loc Cert.RmsBwdTwo.nD Cert.RmsBwdTwo.τ Cert.RmsBwdTwo.sig) → Buf (Elt Bits) ℓ) (g : Dev Cert.RmsBwdTwo.nD → PrngReg), Pre_RmsBwdTwo m →
    θ_run (Cert.RmsBwdTwo.defs (F := Bits)) (onTc (τ := Cert.RmsBwdTwo.τ) (Cert.RmsBwdTwo.main (F := Bits))) ⟨m, fun _ => 0, g⟩ (fun r => (∀ c : Dev Cert.RmsBwdTwo.nD,
      r.2.mem ((c.tc : Thread Cert.RmsBwdTwo.nD Cert.RmsBwdTwo.τ).loc Cert.RmsBwdTwo.main_arg0) = m ((c.tc : Thread Cert.RmsBwdTwo.nD Cert.RmsBwdTwo.τ).loc Cert.RmsBwdTwo.main_arg0)
      ∧ r.2.mem ((c.tc : Thread Cert.RmsBwdTwo.nD Cert.RmsBwdTwo.τ).loc Cert.RmsBwdTwo.main_arg1) = m ((c.tc : Thread Cert.RmsBwdTwo.nD Cert.RmsBwdTwo.τ).loc Cert.RmsBwdTwo.main_arg1)
      ∧ r.2.mem ((c.tc : Thread Cert.RmsBwdTwo.nD Cert.RmsBwdTwo.τ).loc Cert.RmsBwdTwo.main_arg2) = m ((c.tc : Thread Cert.RmsBwdTwo.nD Cert.RmsBwdTwo.τ).loc Cert.RmsBwdTwo.main_arg2)
      ∧ r.2.mem ((c.tc : Thread Cert.RmsBwdTwo.nD Cert.RmsBwdTwo.τ).loc Cert.RmsBwdTwo.main_arg3) = m ((c.tc : Thread Cert.RmsBwdTwo.nD Cert.RmsBwdTwo.τ).loc Cert.RmsBwdTwo.main_arg3)
      ∧ r.2.mem ((c.tc : Thread Cert.RmsBwdTwo.nD Cert.RmsBwdTwo.τ).loc Cert.RmsBwdTwo.main_arg4) = m ((c.tc : Thread Cert.RmsBwdTwo.nD Cert.RmsBwdTwo.τ).loc Cert.RmsBwdTwo.main_arg4)
      ∧ r.2.mem ((c.tc : Thread Cert.RmsBwdTwo.nD Cert.RmsBwdTwo.τ).loc Cert.RmsBwdTwo.main_arg5) = m ((c.tc : Thread Cert.RmsBwdTwo.nD Cert.RmsBwdTwo.τ).loc Cert.RmsBwdTwo.main_arg5))
      ∧ r.2.sem = fun _ => 0)

def quiescent_RmsBwdTwoIdeal [hRmsBwdTwoIdeal : Cert.RmsBwdTwoIdeal.Facts] : Prop :=
  ∀ (m : (ℓ : Loc Cert.RmsBwdTwoIdeal.nD Cert.RmsBwdTwoIdeal.τ Cert.RmsBwdTwoIdeal.sig) → Buf (Elt Ideal) ℓ) (g : Dev Cert.RmsBwdTwoIdeal.nD → PrngReg), Pre_RmsBwdTwoIdeal m →
    θ_run (Cert.RmsBwdTwoIdeal.defs (F := Ideal)) (onTc (τ := Cert.RmsBwdTwoIdeal.τ) (Cert.RmsBwdTwoIdeal.main (F := Ideal))) ⟨m, fun _ => 0, g⟩ (fun r => (∀ c : Dev Cert.RmsBwdTwoIdeal.nD,
      r.2.mem ((c.tc : Thread Cert.RmsBwdTwoIdeal.nD Cert.RmsBwdTwoIdeal.τ).loc Cert.RmsBwdTwoIdeal.main_arg0) = m ((c.tc : Thread Cert.RmsBwdTwoIdeal.nD Cert.RmsBwdTwoIdeal.τ).loc Cert.RmsBwdTwoIdeal.main_arg0)
      ∧ r.2.mem ((c.tc : Thread Cert.RmsBwdTwoIdeal.nD Cert.RmsBwdTwoIdeal.τ).loc Cert.RmsBwdTwoIdeal.main_arg1) = m ((c.tc : Thread Cert.RmsBwdTwoIdeal.nD Cert.RmsBwdTwoIdeal.τ).loc Cert.RmsBwdTwoIdeal.main_arg1)
      ∧ r.2.mem ((c.tc : Thread Cert.RmsBwdTwoIdeal.nD Cert.RmsBwdTwoIdeal.τ).loc Cert.RmsBwdTwoIdeal.main_arg2) = m ((c.tc : Thread Cert.RmsBwdTwoIdeal.nD Cert.RmsBwdTwoIdeal.τ).loc Cert.RmsBwdTwoIdeal.main_arg2)
      ∧ r.2.mem ((c.tc : Thread Cert.RmsBwdTwoIdeal.nD Cert.RmsBwdTwoIdeal.τ).loc Cert.RmsBwdTwoIdeal.main_arg3) = m ((c.tc : Thread Cert.RmsBwdTwoIdeal.nD Cert.RmsBwdTwoIdeal.τ).loc Cert.RmsBwdTwoIdeal.main_arg3)
      ∧ r.2.mem ((c.tc : Thread Cert.RmsBwdTwoIdeal.nD Cert.RmsBwdTwoIdeal.τ).loc Cert.RmsBwdTwoIdeal.main_arg4) = m ((c.tc : Thread Cert.RmsBwdTwoIdeal.nD Cert.RmsBwdTwoIdeal.τ).loc Cert.RmsBwdTwoIdeal.main_arg4)
      ∧ r.2.mem ((c.tc : Thread Cert.RmsBwdTwoIdeal.nD Cert.RmsBwdTwoIdeal.τ).loc Cert.RmsBwdTwoIdeal.main_arg5) = m ((c.tc : Thread Cert.RmsBwdTwoIdeal.nD Cert.RmsBwdTwoIdeal.τ).loc Cert.RmsBwdTwoIdeal.main_arg5))
      ∧ r.2.sem = fun _ => 0)

def quiescent_RmsBwdTwoRefIdeal [hRmsBwdTwoRefIdeal : Cert.RmsBwdTwoRefIdeal.Facts] : Prop :=
  ∀ (m : (ℓ : Loc Cert.RmsBwdTwoRefIdeal.nD Cert.RmsBwdTwoRefIdeal.τ Cert.RmsBwdTwoRefIdeal.sig) → Buf (Elt Ideal) ℓ) (g : Dev Cert.RmsBwdTwoRefIdeal.nD → PrngReg), Pre_RmsBwdTwoRefIdeal m →
    θ_run (Cert.RmsBwdTwoRefIdeal.defs (F := Ideal)) (onTc (τ := Cert.RmsBwdTwoRefIdeal.τ) (Cert.RmsBwdTwoRefIdeal.main (F := Ideal))) ⟨m, fun _ => 0, g⟩ (fun r => (∀ c : Dev Cert.RmsBwdTwoRefIdeal.nD,
      r.2.mem ((c.tc : Thread Cert.RmsBwdTwoRefIdeal.nD Cert.RmsBwdTwoRefIdeal.τ).loc Cert.RmsBwdTwoRefIdeal.main_arg0) = m ((c.tc : Thread Cert.RmsBwdTwoRefIdeal.nD Cert.RmsBwdTwoRefIdeal.τ).loc Cert.RmsBwdTwoRefIdeal.main_arg0)
      ∧ r.2.mem ((c.tc : Thread Cert.RmsBwdTwoRefIdeal.nD Cert.RmsBwdTwoRefIdeal.τ).loc Cert.RmsBwdTwoRefIdeal.main_arg1) = m ((c.tc : Thread Cert.RmsBwdTwoRefIdeal.nD Cert.RmsBwdTwoRefIdeal.τ).loc Cert.RmsBwdTwoRefIdeal.main_arg1)
      ∧ r.2.mem ((c.tc : Thread Cert.RmsBwdTwoRefIdeal.nD Cert.RmsBwdTwoRefIdeal.τ).loc Cert.RmsBwdTwoRefIdeal.main_arg2) = m ((c.tc : Thread Cert.RmsBwdTwoRefIdeal.nD Cert.RmsBwdTwoRefIdeal.τ).loc Cert.RmsBwdTwoRefIdeal.main_arg2)
      ∧ r.2.mem ((c.tc : Thread Cert.RmsBwdTwoRefIdeal.nD Cert.RmsBwdTwoRefIdeal.τ).loc Cert.RmsBwdTwoRefIdeal.main_arg3) = m ((c.tc : Thread Cert.RmsBwdTwoRefIdeal.nD Cert.RmsBwdTwoRefIdeal.τ).loc Cert.RmsBwdTwoRefIdeal.main_arg3)
      ∧ r.2.mem ((c.tc : Thread Cert.RmsBwdTwoRefIdeal.nD Cert.RmsBwdTwoRefIdeal.τ).loc Cert.RmsBwdTwoRefIdeal.main_arg4) = m ((c.tc : Thread Cert.RmsBwdTwoRefIdeal.nD Cert.RmsBwdTwoRefIdeal.τ).loc Cert.RmsBwdTwoRefIdeal.main_arg4)
      ∧ r.2.mem ((c.tc : Thread Cert.RmsBwdTwoRefIdeal.nD Cert.RmsBwdTwoRefIdeal.τ).loc Cert.RmsBwdTwoRefIdeal.main_arg5) = m ((c.tc : Thread Cert.RmsBwdTwoRefIdeal.nD Cert.RmsBwdTwoRefIdeal.τ).loc Cert.RmsBwdTwoRefIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v96) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_v93) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v7) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v9) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v2) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v4) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v2) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v0)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v0) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v2) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1))

def preserves_OA_OAIdeal : Prop :=
  True

def algebraic_OAIdeal_OARefIdeal [hOAIdeal : Cert.OAIdeal.Facts] [hOARefIdeal : Cert.OARefIdeal.Facts] : Prop :=
  ∀ (m : (ℓ : Loc Cert.OAIdeal.nD Cert.OAIdeal.τ Cert.OAIdeal.sig) → Buf (Elt Ideal) ℓ) (g : Dev Cert.OAIdeal.nD → PrngReg)
    (m' : (ℓ : Loc Cert.OARefIdeal.nD Cert.OARefIdeal.τ Cert.OARefIdeal.sig) → Buf (Elt Ideal) ℓ) (g' : Dev Cert.OARefIdeal.nD → PrngReg), Pre_OAIdeal m →
    (∀ c : Dev Cert.OAIdeal.nD,
      m' ((c.tc : Thread Cert.OARefIdeal.nD Cert.OARefIdeal.τ).loc Cert.OARefIdeal.main_arg0) = m ((c.tc : Thread Cert.OAIdeal.nD Cert.OAIdeal.τ).loc Cert.OAIdeal.main_arg0)
      ∧ m' ((c.tc : Thread Cert.OARefIdeal.nD Cert.OARefIdeal.τ).loc Cert.OARefIdeal.main_arg1) = m ((c.tc : Thread Cert.OAIdeal.nD Cert.OAIdeal.τ).loc Cert.OAIdeal.main_arg1)) →
    ∃ (v0 : (c : Dev Cert.OAIdeal.nD) → Buf (Elt Ideal) ((c.tc : Thread Cert.OAIdeal.nD Cert.OAIdeal.τ).loc Cert.OAIdeal.main_v0)),
      θ_run (Cert.OAIdeal.defs (F := Ideal)) (onTc (τ := Cert.OAIdeal.τ) (Cert.OAIdeal.main (F := Ideal))) ⟨m, fun _ => 0, g⟩ (fun r => ∀ c : Dev Cert.OAIdeal.nD,
          r.2.mem ((c.tc : Thread Cert.OAIdeal.nD Cert.OAIdeal.τ).loc Cert.OAIdeal.main_v0) = v0 c
          ∧ r.2.mem ((c.tc : Thread Cert.OAIdeal.nD Cert.OAIdeal.τ).loc Cert.OAIdeal.main_arg0) = m ((c.tc : Thread Cert.OAIdeal.nD Cert.OAIdeal.τ).loc Cert.OAIdeal.main_arg0)
          ∧ r.2.mem ((c.tc : Thread Cert.OAIdeal.nD Cert.OAIdeal.τ).loc Cert.OAIdeal.main_arg1) = m ((c.tc : Thread Cert.OAIdeal.nD Cert.OAIdeal.τ).loc Cert.OAIdeal.main_arg1))
      ∧ θ_run (Cert.OARefIdeal.defs (F := Ideal)) (onTc (τ := Cert.OARefIdeal.τ) (Cert.OARefIdeal.main (F := Ideal))) ⟨m', fun _ => 0, g'⟩ (fun r => ∀ c : Dev Cert.OARefIdeal.nD,
          r.2.mem ((c.tc : Thread Cert.OARefIdeal.nD Cert.OARefIdeal.τ).loc Cert.OARefIdeal.main_v2) = v0 c
          ∧ r.2.mem ((c.tc : Thread Cert.OARefIdeal.nD Cert.OARefIdeal.τ).loc Cert.OARefIdeal.main_arg0) = m' ((c.tc : Thread Cert.OARefIdeal.nD Cert.OARefIdeal.τ).loc Cert.OARefIdeal.main_arg0)
          ∧ r.2.mem ((c.tc : Thread Cert.OARefIdeal.nD Cert.OARefIdeal.τ).loc Cert.OARefIdeal.main_arg1) = m' ((c.tc : Thread Cert.OARefIdeal.nD Cert.OARefIdeal.τ).loc Cert.OARefIdeal.main_arg1))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v2) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1))

def preserves_QB_QBIdeal : Prop :=
  True

def algebraic_QBIdeal_QBRefIdeal [hQBIdeal : Cert.QBIdeal.Facts] [hQBRefIdeal : Cert.QBRefIdeal.Facts] : Prop :=
  ∀ (m : (ℓ : Loc Cert.QBIdeal.nD Cert.QBIdeal.τ Cert.QBIdeal.sig) → Buf (Elt Ideal) ℓ) (g : Dev Cert.QBIdeal.nD → PrngReg)
    (m' : (ℓ : Loc Cert.QBRefIdeal.nD Cert.QBRefIdeal.τ Cert.QBRefIdeal.sig) → Buf (Elt Ideal) ℓ) (g' : Dev Cert.QBRefIdeal.nD → PrngReg), Pre_QBIdeal m →
    (∀ c : Dev Cert.QBIdeal.nD,
      m' ((c.tc : Thread Cert.QBRefIdeal.nD Cert.QBRefIdeal.τ).loc Cert.QBRefIdeal.main_arg0) = m ((c.tc : Thread Cert.QBIdeal.nD Cert.QBIdeal.τ).loc Cert.QBIdeal.main_arg0)
      ∧ m' ((c.tc : Thread Cert.QBRefIdeal.nD Cert.QBRefIdeal.τ).loc Cert.QBRefIdeal.main_arg1) = m ((c.tc : Thread Cert.QBIdeal.nD Cert.QBIdeal.τ).loc Cert.QBIdeal.main_arg1)) →
    ∃ (v0 : (c : Dev Cert.QBIdeal.nD) → Buf (Elt Ideal) ((c.tc : Thread Cert.QBIdeal.nD Cert.QBIdeal.τ).loc Cert.QBIdeal.main_v0)),
      θ_run (Cert.QBIdeal.defs (F := Ideal)) (onTc (τ := Cert.QBIdeal.τ) (Cert.QBIdeal.main (F := Ideal))) ⟨m, fun _ => 0, g⟩ (fun r => ∀ c : Dev Cert.QBIdeal.nD,
          r.2.mem ((c.tc : Thread Cert.QBIdeal.nD Cert.QBIdeal.τ).loc Cert.QBIdeal.main_v0) = v0 c
          ∧ r.2.mem ((c.tc : Thread Cert.QBIdeal.nD Cert.QBIdeal.τ).loc Cert.QBIdeal.main_arg0) = m ((c.tc : Thread Cert.QBIdeal.nD Cert.QBIdeal.τ).loc Cert.QBIdeal.main_arg0)
          ∧ r.2.mem ((c.tc : Thread Cert.QBIdeal.nD Cert.QBIdeal.τ).loc Cert.QBIdeal.main_arg1) = m ((c.tc : Thread Cert.QBIdeal.nD Cert.QBIdeal.τ).loc Cert.QBIdeal.main_arg1))
      ∧ θ_run (Cert.QBRefIdeal.defs (F := Ideal)) (onTc (τ := Cert.QBRefIdeal.τ) (Cert.QBRefIdeal.main (F := Ideal))) ⟨m', fun _ => 0, g'⟩ (fun r => ∀ c : Dev Cert.QBRefIdeal.nD,
          r.2.mem ((c.tc : Thread Cert.QBRefIdeal.nD Cert.QBRefIdeal.τ).loc Cert.QBRefIdeal.main_v5) = v0 c
          ∧ r.2.mem ((c.tc : Thread Cert.QBRefIdeal.nD Cert.QBRefIdeal.τ).loc Cert.QBRefIdeal.main_arg0) = m' ((c.tc : Thread Cert.QBRefIdeal.nD Cert.QBRefIdeal.τ).loc Cert.QBRefIdeal.main_arg0)
          ∧ r.2.mem ((c.tc : Thread Cert.QBRefIdeal.nD Cert.QBRefIdeal.τ).loc Cert.QBRefIdeal.main_arg1) = m' ((c.tc : Thread Cert.QBRefIdeal.nD Cert.QBRefIdeal.τ).loc Cert.QBRefIdeal.main_arg1))

def preserves_OB_OBIdeal : Prop :=
  True

def algebraic_OBIdeal_OBRefIdeal [hOBIdeal : Cert.OBIdeal.Facts] [hOBRefIdeal : Cert.OBRefIdeal.Facts] : Prop :=
  ∀ (m : (ℓ : Loc Cert.OBIdeal.nD Cert.OBIdeal.τ Cert.OBIdeal.sig) → Buf (Elt Ideal) ℓ) (g : Dev Cert.OBIdeal.nD → PrngReg)
    (m' : (ℓ : Loc Cert.OBRefIdeal.nD Cert.OBRefIdeal.τ Cert.OBRefIdeal.sig) → Buf (Elt Ideal) ℓ) (g' : Dev Cert.OBRefIdeal.nD → PrngReg), Pre_OBIdeal m →
    (∀ c : Dev Cert.OBIdeal.nD,
      m' ((c.tc : Thread Cert.OBRefIdeal.nD Cert.OBRefIdeal.τ).loc Cert.OBRefIdeal.main_arg0) = m ((c.tc : Thread Cert.OBIdeal.nD Cert.OBIdeal.τ).loc Cert.OBIdeal.main_arg0)
      ∧ m' ((c.tc : Thread Cert.OBRefIdeal.nD Cert.OBRefIdeal.τ).loc Cert.OBRefIdeal.main_arg1) = m ((c.tc : Thread Cert.OBIdeal.nD Cert.OBIdeal.τ).loc Cert.OBIdeal.main_arg1)) →
    ∃ (v0 : (c : Dev Cert.OBIdeal.nD) → Buf (Elt Ideal) ((c.tc : Thread Cert.OBIdeal.nD Cert.OBIdeal.τ).loc Cert.OBIdeal.main_v0)),
      θ_run (Cert.OBIdeal.defs (F := Ideal)) (onTc (τ := Cert.OBIdeal.τ) (Cert.OBIdeal.main (F := Ideal))) ⟨m, fun _ => 0, g⟩ (fun r => ∀ c : Dev Cert.OBIdeal.nD,
          r.2.mem ((c.tc : Thread Cert.OBIdeal.nD Cert.OBIdeal.τ).loc Cert.OBIdeal.main_v0) = v0 c
          ∧ r.2.mem ((c.tc : Thread Cert.OBIdeal.nD Cert.OBIdeal.τ).loc Cert.OBIdeal.main_arg0) = m ((c.tc : Thread Cert.OBIdeal.nD Cert.OBIdeal.τ).loc Cert.OBIdeal.main_arg0)
          ∧ r.2.mem ((c.tc : Thread Cert.OBIdeal.nD Cert.OBIdeal.τ).loc Cert.OBIdeal.main_arg1) = m ((c.tc : Thread Cert.OBIdeal.nD Cert.OBIdeal.τ).loc Cert.OBIdeal.main_arg1))
      ∧ θ_run (Cert.OBRefIdeal.defs (F := Ideal)) (onTc (τ := Cert.OBRefIdeal.τ) (Cert.OBRefIdeal.main (F := Ideal))) ⟨m', fun _ => 0, g'⟩ (fun r => ∀ c : Dev Cert.OBRefIdeal.nD,
          r.2.mem ((c.tc : Thread Cert.OBRefIdeal.nD Cert.OBRefIdeal.τ).loc Cert.OBRefIdeal.main_v2) = v0 c
          ∧ r.2.mem ((c.tc : Thread Cert.OBRefIdeal.nD Cert.OBRefIdeal.τ).loc Cert.OBRefIdeal.main_arg0) = m' ((c.tc : Thread Cert.OBRefIdeal.nD Cert.OBRefIdeal.τ).loc Cert.OBRefIdeal.main_arg0)
          ∧ r.2.mem ((c.tc : Thread Cert.OBRefIdeal.nD Cert.OBRefIdeal.τ).loc Cert.OBRefIdeal.main_arg1) = m' ((c.tc : Thread Cert.OBRefIdeal.nD Cert.OBRefIdeal.τ).loc Cert.OBRefIdeal.main_arg1))

def preserves_OADx_OADxIdeal : Prop :=
  True

def algebraic_OADxIdeal_OADxRefIdeal [hOADxIdeal : Cert.OADxIdeal.Facts] [hOADxRefIdeal : Cert.OADxRefIdeal.Facts] : Prop :=
  ∀ (m : (ℓ : Loc Cert.OADxIdeal.nD Cert.OADxIdeal.τ Cert.OADxIdeal.sig) → Buf (Elt Ideal) ℓ) (g : Dev Cert.OADxIdeal.nD → PrngReg)
    (m' : (ℓ : Loc Cert.OADxRefIdeal.nD Cert.OADxRefIdeal.τ Cert.OADxRefIdeal.sig) → Buf (Elt Ideal) ℓ) (g' : Dev Cert.OADxRefIdeal.nD → PrngReg), Pre_OADxIdeal m →
    (∀ c : Dev Cert.OADxIdeal.nD,
      m' ((c.tc : Thread Cert.OADxRefIdeal.nD Cert.OADxRefIdeal.τ).loc Cert.OADxRefIdeal.main_arg0) = m ((c.tc : Thread Cert.OADxIdeal.nD Cert.OADxIdeal.τ).loc Cert.OADxIdeal.main_arg0)
      ∧ m' ((c.tc : Thread Cert.OADxRefIdeal.nD Cert.OADxRefIdeal.τ).loc Cert.OADxRefIdeal.main_arg1) = m ((c.tc : Thread Cert.OADxIdeal.nD Cert.OADxIdeal.τ).loc Cert.OADxIdeal.main_arg1)) →
    ∃ (v0 : (c : Dev Cert.OADxIdeal.nD) → Buf (Elt Ideal) ((c.tc : Thread Cert.OADxIdeal.nD Cert.OADxIdeal.τ).loc Cert.OADxIdeal.main_v0)),
      θ_run (Cert.OADxIdeal.defs (F := Ideal)) (onTc (τ := Cert.OADxIdeal.τ) (Cert.OADxIdeal.main (F := Ideal))) ⟨m, fun _ => 0, g⟩ (fun r => ∀ c : Dev Cert.OADxIdeal.nD,
          r.2.mem ((c.tc : Thread Cert.OADxIdeal.nD Cert.OADxIdeal.τ).loc Cert.OADxIdeal.main_v0) = v0 c
          ∧ r.2.mem ((c.tc : Thread Cert.OADxIdeal.nD Cert.OADxIdeal.τ).loc Cert.OADxIdeal.main_arg0) = m ((c.tc : Thread Cert.OADxIdeal.nD Cert.OADxIdeal.τ).loc Cert.OADxIdeal.main_arg0)
          ∧ r.2.mem ((c.tc : Thread Cert.OADxIdeal.nD Cert.OADxIdeal.τ).loc Cert.OADxIdeal.main_arg1) = m ((c.tc : Thread Cert.OADxIdeal.nD Cert.OADxIdeal.τ).loc Cert.OADxIdeal.main_arg1))
      ∧ θ_run (Cert.OADxRefIdeal.defs (F := Ideal)) (onTc (τ := Cert.OADxRefIdeal.τ) (Cert.OADxRefIdeal.main (F := Ideal))) ⟨m', fun _ => 0, g'⟩ (fun r => ∀ c : Dev Cert.OADxRefIdeal.nD,
          r.2.mem ((c.tc : Thread Cert.OADxRefIdeal.nD Cert.OADxRefIdeal.τ).loc Cert.OADxRefIdeal.main_v2) = v0 c
          ∧ r.2.mem ((c.tc : Thread Cert.OADxRefIdeal.nD Cert.OADxRefIdeal.τ).loc Cert.OADxRefIdeal.main_arg0) = m' ((c.tc : Thread Cert.OADxRefIdeal.nD Cert.OADxRefIdeal.τ).loc Cert.OADxRefIdeal.main_arg0)
          ∧ r.2.mem ((c.tc : Thread Cert.OADxRefIdeal.nD Cert.OADxRefIdeal.τ).loc Cert.OADxRefIdeal.main_arg1) = m' ((c.tc : Thread Cert.OADxRefIdeal.nD Cert.OADxRefIdeal.τ).loc Cert.OADxRefIdeal.main_arg1))

def preserves_OADw_OADwIdeal : Prop :=
  True

def algebraic_OADwIdeal_OADwRefIdeal [hOADwIdeal : Cert.OADwIdeal.Facts] [hOADwRefIdeal : Cert.OADwRefIdeal.Facts] : Prop :=
  ∀ (m : (ℓ : Loc Cert.OADwIdeal.nD Cert.OADwIdeal.τ Cert.OADwIdeal.sig) → Buf (Elt Ideal) ℓ) (g : Dev Cert.OADwIdeal.nD → PrngReg)
    (m' : (ℓ : Loc Cert.OADwRefIdeal.nD Cert.OADwRefIdeal.τ Cert.OADwRefIdeal.sig) → Buf (Elt Ideal) ℓ) (g' : Dev Cert.OADwRefIdeal.nD → PrngReg), Pre_OADwIdeal m →
    (∀ c : Dev Cert.OADwIdeal.nD,
      m' ((c.tc : Thread Cert.OADwRefIdeal.nD Cert.OADwRefIdeal.τ).loc Cert.OADwRefIdeal.main_arg0) = m ((c.tc : Thread Cert.OADwIdeal.nD Cert.OADwIdeal.τ).loc Cert.OADwIdeal.main_arg0)
      ∧ m' ((c.tc : Thread Cert.OADwRefIdeal.nD Cert.OADwRefIdeal.τ).loc Cert.OADwRefIdeal.main_arg1) = m ((c.tc : Thread Cert.OADwIdeal.nD Cert.OADwIdeal.τ).loc Cert.OADwIdeal.main_arg1)) →
    ∃ (v0 : (c : Dev Cert.OADwIdeal.nD) → Buf (Elt Ideal) ((c.tc : Thread Cert.OADwIdeal.nD Cert.OADwIdeal.τ).loc Cert.OADwIdeal.main_v0)),
      θ_run (Cert.OADwIdeal.defs (F := Ideal)) (onTc (τ := Cert.OADwIdeal.τ) (Cert.OADwIdeal.main (F := Ideal))) ⟨m, fun _ => 0, g⟩ (fun r => ∀ c : Dev Cert.OADwIdeal.nD,
          r.2.mem ((c.tc : Thread Cert.OADwIdeal.nD Cert.OADwIdeal.τ).loc Cert.OADwIdeal.main_v0) = v0 c
          ∧ r.2.mem ((c.tc : Thread Cert.OADwIdeal.nD Cert.OADwIdeal.τ).loc Cert.OADwIdeal.main_arg0) = m ((c.tc : Thread Cert.OADwIdeal.nD Cert.OADwIdeal.τ).loc Cert.OADwIdeal.main_arg0)
          ∧ r.2.mem ((c.tc : Thread Cert.OADwIdeal.nD Cert.OADwIdeal.τ).loc Cert.OADwIdeal.main_arg1) = m ((c.tc : Thread Cert.OADwIdeal.nD Cert.OADwIdeal.τ).loc Cert.OADwIdeal.main_arg1))
      ∧ θ_run (Cert.OADwRefIdeal.defs (F := Ideal)) (onTc (τ := Cert.OADwRefIdeal.τ) (Cert.OADwRefIdeal.main (F := Ideal))) ⟨m', fun _ => 0, g'⟩ (fun r => ∀ c : Dev Cert.OADwRefIdeal.nD,
          r.2.mem ((c.tc : Thread Cert.OADwRefIdeal.nD Cert.OADwRefIdeal.τ).loc Cert.OADwRefIdeal.main_v4) = v0 c
          ∧ r.2.mem ((c.tc : Thread Cert.OADwRefIdeal.nD Cert.OADwRefIdeal.τ).loc Cert.OADwRefIdeal.main_arg0) = m' ((c.tc : Thread Cert.OADwRefIdeal.nD Cert.OADwRefIdeal.τ).loc Cert.OADwRefIdeal.main_arg0)
          ∧ r.2.mem ((c.tc : Thread Cert.OADwRefIdeal.nD Cert.OADwRefIdeal.τ).loc Cert.OADwRefIdeal.main_arg1) = m' ((c.tc : Thread Cert.OADwRefIdeal.nD Cert.OADwRefIdeal.τ).loc Cert.OADwRefIdeal.main_arg1))

def preserves_QkvDx_QkvDxIdeal : Prop :=
  True

def algebraic_QkvDxIdeal_QkvDxRefIdeal [hQkvDxIdeal : Cert.QkvDxIdeal.Facts] [hQkvDxRefIdeal : Cert.QkvDxRefIdeal.Facts] : Prop :=
  ∀ (m : (ℓ : Loc Cert.QkvDxIdeal.nD Cert.QkvDxIdeal.τ Cert.QkvDxIdeal.sig) → Buf (Elt Ideal) ℓ) (g : Dev Cert.QkvDxIdeal.nD → PrngReg)
    (m' : (ℓ : Loc Cert.QkvDxRefIdeal.nD Cert.QkvDxRefIdeal.τ Cert.QkvDxRefIdeal.sig) → Buf (Elt Ideal) ℓ) (g' : Dev Cert.QkvDxRefIdeal.nD → PrngReg), Pre_QkvDxIdeal m →
    (∀ c : Dev Cert.QkvDxIdeal.nD,
      m' ((c.tc : Thread Cert.QkvDxRefIdeal.nD Cert.QkvDxRefIdeal.τ).loc Cert.QkvDxRefIdeal.main_arg0) = m ((c.tc : Thread Cert.QkvDxIdeal.nD Cert.QkvDxIdeal.τ).loc Cert.QkvDxIdeal.main_arg0)
      ∧ m' ((c.tc : Thread Cert.QkvDxRefIdeal.nD Cert.QkvDxRefIdeal.τ).loc Cert.QkvDxRefIdeal.main_arg1) = m ((c.tc : Thread Cert.QkvDxIdeal.nD Cert.QkvDxIdeal.τ).loc Cert.QkvDxIdeal.main_arg1)) →
    ∃ (v0 : (c : Dev Cert.QkvDxIdeal.nD) → Buf (Elt Ideal) ((c.tc : Thread Cert.QkvDxIdeal.nD Cert.QkvDxIdeal.τ).loc Cert.QkvDxIdeal.main_v0)),
      θ_run (Cert.QkvDxIdeal.defs (F := Ideal)) (onTc (τ := Cert.QkvDxIdeal.τ) (Cert.QkvDxIdeal.main (F := Ideal))) ⟨m, fun _ => 0, g⟩ (fun r => ∀ c : Dev Cert.QkvDxIdeal.nD,
          r.2.mem ((c.tc : Thread Cert.QkvDxIdeal.nD Cert.QkvDxIdeal.τ).loc Cert.QkvDxIdeal.main_v0) = v0 c
          ∧ r.2.mem ((c.tc : Thread Cert.QkvDxIdeal.nD Cert.QkvDxIdeal.τ).loc Cert.QkvDxIdeal.main_arg0) = m ((c.tc : Thread Cert.QkvDxIdeal.nD Cert.QkvDxIdeal.τ).loc Cert.QkvDxIdeal.main_arg0)
          ∧ r.2.mem ((c.tc : Thread Cert.QkvDxIdeal.nD Cert.QkvDxIdeal.τ).loc Cert.QkvDxIdeal.main_arg1) = m ((c.tc : Thread Cert.QkvDxIdeal.nD Cert.QkvDxIdeal.τ).loc Cert.QkvDxIdeal.main_arg1))
      ∧ θ_run (Cert.QkvDxRefIdeal.defs (F := Ideal)) (onTc (τ := Cert.QkvDxRefIdeal.τ) (Cert.QkvDxRefIdeal.main (F := Ideal))) ⟨m', fun _ => 0, g'⟩ (fun r => ∀ c : Dev Cert.QkvDxRefIdeal.nD,
          r.2.mem ((c.tc : Thread Cert.QkvDxRefIdeal.nD Cert.QkvDxRefIdeal.τ).loc Cert.QkvDxRefIdeal.main_v2) = v0 c
          ∧ r.2.mem ((c.tc : Thread Cert.QkvDxRefIdeal.nD Cert.QkvDxRefIdeal.τ).loc Cert.QkvDxRefIdeal.main_arg0) = m' ((c.tc : Thread Cert.QkvDxRefIdeal.nD Cert.QkvDxRefIdeal.τ).loc Cert.QkvDxRefIdeal.main_arg0)
          ∧ r.2.mem ((c.tc : Thread Cert.QkvDxRefIdeal.nD Cert.QkvDxRefIdeal.τ).loc Cert.QkvDxRefIdeal.main_arg1) = m' ((c.tc : Thread Cert.QkvDxRefIdeal.nD Cert.QkvDxRefIdeal.τ).loc Cert.QkvDxRefIdeal.main_arg1))

def preserves_QkvDw_QkvDwIdeal : Prop :=
  True

def algebraic_QkvDwIdeal_QkvDwRefIdeal [hQkvDwIdeal : Cert.QkvDwIdeal.Facts] [hQkvDwRefIdeal : Cert.QkvDwRefIdeal.Facts] : Prop :=
  ∀ (m : (ℓ : Loc Cert.QkvDwIdeal.nD Cert.QkvDwIdeal.τ Cert.QkvDwIdeal.sig) → Buf (Elt Ideal) ℓ) (g : Dev Cert.QkvDwIdeal.nD → PrngReg)
    (m' : (ℓ : Loc Cert.QkvDwRefIdeal.nD Cert.QkvDwRefIdeal.τ Cert.QkvDwRefIdeal.sig) → Buf (Elt Ideal) ℓ) (g' : Dev Cert.QkvDwRefIdeal.nD → PrngReg), Pre_QkvDwIdeal m →
    (∀ c : Dev Cert.QkvDwIdeal.nD,
      m' ((c.tc : Thread Cert.QkvDwRefIdeal.nD Cert.QkvDwRefIdeal.τ).loc Cert.QkvDwRefIdeal.main_arg0) = m ((c.tc : Thread Cert.QkvDwIdeal.nD Cert.QkvDwIdeal.τ).loc Cert.QkvDwIdeal.main_arg0)
      ∧ m' ((c.tc : Thread Cert.QkvDwRefIdeal.nD Cert.QkvDwRefIdeal.τ).loc Cert.QkvDwRefIdeal.main_arg1) = m ((c.tc : Thread Cert.QkvDwIdeal.nD Cert.QkvDwIdeal.τ).loc Cert.QkvDwIdeal.main_arg1)) →
    ∃ (v0 : (c : Dev Cert.QkvDwIdeal.nD) → Buf (Elt Ideal) ((c.tc : Thread Cert.QkvDwIdeal.nD Cert.QkvDwIdeal.τ).loc Cert.QkvDwIdeal.main_v0)),
      θ_run (Cert.QkvDwIdeal.defs (F := Ideal)) (onTc (τ := Cert.QkvDwIdeal.τ) (Cert.QkvDwIdeal.main (F := Ideal))) ⟨m, fun _ => 0, g⟩ (fun r => ∀ c : Dev Cert.QkvDwIdeal.nD,
          r.2.mem ((c.tc : Thread Cert.QkvDwIdeal.nD Cert.QkvDwIdeal.τ).loc Cert.QkvDwIdeal.main_v0) = v0 c
          ∧ r.2.mem ((c.tc : Thread Cert.QkvDwIdeal.nD Cert.QkvDwIdeal.τ).loc Cert.QkvDwIdeal.main_arg0) = m ((c.tc : Thread Cert.QkvDwIdeal.nD Cert.QkvDwIdeal.τ).loc Cert.QkvDwIdeal.main_arg0)
          ∧ r.2.mem ((c.tc : Thread Cert.QkvDwIdeal.nD Cert.QkvDwIdeal.τ).loc Cert.QkvDwIdeal.main_arg1) = m ((c.tc : Thread Cert.QkvDwIdeal.nD Cert.QkvDwIdeal.τ).loc Cert.QkvDwIdeal.main_arg1))
      ∧ θ_run (Cert.QkvDwRefIdeal.defs (F := Ideal)) (onTc (τ := Cert.QkvDwRefIdeal.τ) (Cert.QkvDwRefIdeal.main (F := Ideal))) ⟨m', fun _ => 0, g'⟩ (fun r => ∀ c : Dev Cert.QkvDwRefIdeal.nD,
          r.2.mem ((c.tc : Thread Cert.QkvDwRefIdeal.nD Cert.QkvDwRefIdeal.τ).loc Cert.QkvDwRefIdeal.main_v4) = v0 c
          ∧ r.2.mem ((c.tc : Thread Cert.QkvDwRefIdeal.nD Cert.QkvDwRefIdeal.τ).loc Cert.QkvDwRefIdeal.main_arg0) = m' ((c.tc : Thread Cert.QkvDwRefIdeal.nD Cert.QkvDwRefIdeal.τ).loc Cert.QkvDwRefIdeal.main_arg0)
          ∧ r.2.mem ((c.tc : Thread Cert.QkvDwRefIdeal.nD Cert.QkvDwRefIdeal.τ).loc Cert.QkvDwRefIdeal.main_arg1) = m' ((c.tc : Thread Cert.QkvDwRefIdeal.nD Cert.QkvDwRefIdeal.τ).loc Cert.QkvDwRefIdeal.main_arg1))

def preserves_OBDx_OBDxIdeal : Prop :=
  True

def algebraic_OBDxIdeal_OBDxRefIdeal [hOBDxIdeal : Cert.OBDxIdeal.Facts] [hOBDxRefIdeal : Cert.OBDxRefIdeal.Facts] : Prop :=
  ∀ (m : (ℓ : Loc Cert.OBDxIdeal.nD Cert.OBDxIdeal.τ Cert.OBDxIdeal.sig) → Buf (Elt Ideal) ℓ) (g : Dev Cert.OBDxIdeal.nD → PrngReg)
    (m' : (ℓ : Loc Cert.OBDxRefIdeal.nD Cert.OBDxRefIdeal.τ Cert.OBDxRefIdeal.sig) → Buf (Elt Ideal) ℓ) (g' : Dev Cert.OBDxRefIdeal.nD → PrngReg), Pre_OBDxIdeal m →
    (∀ c : Dev Cert.OBDxIdeal.nD,
      m' ((c.tc : Thread Cert.OBDxRefIdeal.nD Cert.OBDxRefIdeal.τ).loc Cert.OBDxRefIdeal.main_arg0) = m ((c.tc : Thread Cert.OBDxIdeal.nD Cert.OBDxIdeal.τ).loc Cert.OBDxIdeal.main_arg0)
      ∧ m' ((c.tc : Thread Cert.OBDxRefIdeal.nD Cert.OBDxRefIdeal.τ).loc Cert.OBDxRefIdeal.main_arg1) = m ((c.tc : Thread Cert.OBDxIdeal.nD Cert.OBDxIdeal.τ).loc Cert.OBDxIdeal.main_arg1)) →
    ∃ (v0 : (c : Dev Cert.OBDxIdeal.nD) → Buf (Elt Ideal) ((c.tc : Thread Cert.OBDxIdeal.nD Cert.OBDxIdeal.τ).loc Cert.OBDxIdeal.main_v0)),
      θ_run (Cert.OBDxIdeal.defs (F := Ideal)) (onTc (τ := Cert.OBDxIdeal.τ) (Cert.OBDxIdeal.main (F := Ideal))) ⟨m, fun _ => 0, g⟩ (fun r => ∀ c : Dev Cert.OBDxIdeal.nD,
          r.2.mem ((c.tc : Thread Cert.OBDxIdeal.nD Cert.OBDxIdeal.τ).loc Cert.OBDxIdeal.main_v0) = v0 c
          ∧ r.2.mem ((c.tc : Thread Cert.OBDxIdeal.nD Cert.OBDxIdeal.τ).loc Cert.OBDxIdeal.main_arg0) = m ((c.tc : Thread Cert.OBDxIdeal.nD Cert.OBDxIdeal.τ).loc Cert.OBDxIdeal.main_arg0)
          ∧ r.2.mem ((c.tc : Thread Cert.OBDxIdeal.nD Cert.OBDxIdeal.τ).loc Cert.OBDxIdeal.main_arg1) = m ((c.tc : Thread Cert.OBDxIdeal.nD Cert.OBDxIdeal.τ).loc Cert.OBDxIdeal.main_arg1))
      ∧ θ_run (Cert.OBDxRefIdeal.defs (F := Ideal)) (onTc (τ := Cert.OBDxRefIdeal.τ) (Cert.OBDxRefIdeal.main (F := Ideal))) ⟨m', fun _ => 0, g'⟩ (fun r => ∀ c : Dev Cert.OBDxRefIdeal.nD,
          r.2.mem ((c.tc : Thread Cert.OBDxRefIdeal.nD Cert.OBDxRefIdeal.τ).loc Cert.OBDxRefIdeal.main_v3) = v0 c
          ∧ r.2.mem ((c.tc : Thread Cert.OBDxRefIdeal.nD Cert.OBDxRefIdeal.τ).loc Cert.OBDxRefIdeal.main_arg0) = m' ((c.tc : Thread Cert.OBDxRefIdeal.nD Cert.OBDxRefIdeal.τ).loc Cert.OBDxRefIdeal.main_arg0)
          ∧ r.2.mem ((c.tc : Thread Cert.OBDxRefIdeal.nD Cert.OBDxRefIdeal.τ).loc Cert.OBDxRefIdeal.main_arg1) = m' ((c.tc : Thread Cert.OBDxRefIdeal.nD Cert.OBDxRefIdeal.τ).loc Cert.OBDxRefIdeal.main_arg1))

def preserves_OBDw_OBDwIdeal : Prop :=
  True

def algebraic_OBDwIdeal_OBDwRefIdeal [hOBDwIdeal : Cert.OBDwIdeal.Facts] [hOBDwRefIdeal : Cert.OBDwRefIdeal.Facts] : Prop :=
  ∀ (m : (ℓ : Loc Cert.OBDwIdeal.nD Cert.OBDwIdeal.τ Cert.OBDwIdeal.sig) → Buf (Elt Ideal) ℓ) (g : Dev Cert.OBDwIdeal.nD → PrngReg)
    (m' : (ℓ : Loc Cert.OBDwRefIdeal.nD Cert.OBDwRefIdeal.τ Cert.OBDwRefIdeal.sig) → Buf (Elt Ideal) ℓ) (g' : Dev Cert.OBDwRefIdeal.nD → PrngReg), Pre_OBDwIdeal m →
    (∀ c : Dev Cert.OBDwIdeal.nD,
      m' ((c.tc : Thread Cert.OBDwRefIdeal.nD Cert.OBDwRefIdeal.τ).loc Cert.OBDwRefIdeal.main_arg0) = m ((c.tc : Thread Cert.OBDwIdeal.nD Cert.OBDwIdeal.τ).loc Cert.OBDwIdeal.main_arg0)
      ∧ m' ((c.tc : Thread Cert.OBDwRefIdeal.nD Cert.OBDwRefIdeal.τ).loc Cert.OBDwRefIdeal.main_arg1) = m ((c.tc : Thread Cert.OBDwIdeal.nD Cert.OBDwIdeal.τ).loc Cert.OBDwIdeal.main_arg1)) →
    ∃ (v0 : (c : Dev Cert.OBDwIdeal.nD) → Buf (Elt Ideal) ((c.tc : Thread Cert.OBDwIdeal.nD Cert.OBDwIdeal.τ).loc Cert.OBDwIdeal.main_v0)),
      θ_run (Cert.OBDwIdeal.defs (F := Ideal)) (onTc (τ := Cert.OBDwIdeal.τ) (Cert.OBDwIdeal.main (F := Ideal))) ⟨m, fun _ => 0, g⟩ (fun r => ∀ c : Dev Cert.OBDwIdeal.nD,
          r.2.mem ((c.tc : Thread Cert.OBDwIdeal.nD Cert.OBDwIdeal.τ).loc Cert.OBDwIdeal.main_v0) = v0 c
          ∧ r.2.mem ((c.tc : Thread Cert.OBDwIdeal.nD Cert.OBDwIdeal.τ).loc Cert.OBDwIdeal.main_arg0) = m ((c.tc : Thread Cert.OBDwIdeal.nD Cert.OBDwIdeal.τ).loc Cert.OBDwIdeal.main_arg0)
          ∧ r.2.mem ((c.tc : Thread Cert.OBDwIdeal.nD Cert.OBDwIdeal.τ).loc Cert.OBDwIdeal.main_arg1) = m ((c.tc : Thread Cert.OBDwIdeal.nD Cert.OBDwIdeal.τ).loc Cert.OBDwIdeal.main_arg1))
      ∧ θ_run (Cert.OBDwRefIdeal.defs (F := Ideal)) (onTc (τ := Cert.OBDwRefIdeal.τ) (Cert.OBDwRefIdeal.main (F := Ideal))) ⟨m', fun _ => 0, g'⟩ (fun r => ∀ c : Dev Cert.OBDwRefIdeal.nD,
          r.2.mem ((c.tc : Thread Cert.OBDwRefIdeal.nD Cert.OBDwRefIdeal.τ).loc Cert.OBDwRefIdeal.main_v4) = v0 c
          ∧ r.2.mem ((c.tc : Thread Cert.OBDwRefIdeal.nD Cert.OBDwRefIdeal.τ).loc Cert.OBDwRefIdeal.main_arg0) = m' ((c.tc : Thread Cert.OBDwRefIdeal.nD Cert.OBDwRefIdeal.τ).loc Cert.OBDwRefIdeal.main_arg0)
          ∧ r.2.mem ((c.tc : Thread Cert.OBDwRefIdeal.nD Cert.OBDwRefIdeal.τ).loc Cert.OBDwRefIdeal.main_arg1) = m' ((c.tc : Thread Cert.OBDwRefIdeal.nD Cert.OBDwRefIdeal.τ).loc Cert.OBDwRefIdeal.main_arg1))

def preserves_QBDx_QBDxIdeal : Prop :=
  True

def algebraic_QBDxIdeal_QBDxRefIdeal [hQBDxIdeal : Cert.QBDxIdeal.Facts] [hQBDxRefIdeal : Cert.QBDxRefIdeal.Facts] : Prop :=
  ∀ (m : (ℓ : Loc Cert.QBDxIdeal.nD Cert.QBDxIdeal.τ Cert.QBDxIdeal.sig) → Buf (Elt Ideal) ℓ) (g : Dev Cert.QBDxIdeal.nD → PrngReg)
    (m' : (ℓ : Loc Cert.QBDxRefIdeal.nD Cert.QBDxRefIdeal.τ Cert.QBDxRefIdeal.sig) → Buf (Elt Ideal) ℓ) (g' : Dev Cert.QBDxRefIdeal.nD → PrngReg), Pre_QBDxIdeal m →
    (∀ c : Dev Cert.QBDxIdeal.nD,
      m' ((c.tc : Thread Cert.QBDxRefIdeal.nD Cert.QBDxRefIdeal.τ).loc Cert.QBDxRefIdeal.main_arg0) = m ((c.tc : Thread Cert.QBDxIdeal.nD Cert.QBDxIdeal.τ).loc Cert.QBDxIdeal.main_arg0)
      ∧ m' ((c.tc : Thread Cert.QBDxRefIdeal.nD Cert.QBDxRefIdeal.τ).loc Cert.QBDxRefIdeal.main_arg1) = m ((c.tc : Thread Cert.QBDxIdeal.nD Cert.QBDxIdeal.τ).loc Cert.QBDxIdeal.main_arg1)) →
    ∃ (v0 : (c : Dev Cert.QBDxIdeal.nD) → Buf (Elt Ideal) ((c.tc : Thread Cert.QBDxIdeal.nD Cert.QBDxIdeal.τ).loc Cert.QBDxIdeal.main_v0)),
      θ_run (Cert.QBDxIdeal.defs (F := Ideal)) (onTc (τ := Cert.QBDxIdeal.τ) (Cert.QBDxIdeal.main (F := Ideal))) ⟨m, fun _ => 0, g⟩ (fun r => ∀ c : Dev Cert.QBDxIdeal.nD,
          r.2.mem ((c.tc : Thread Cert.QBDxIdeal.nD Cert.QBDxIdeal.τ).loc Cert.QBDxIdeal.main_v0) = v0 c
          ∧ r.2.mem ((c.tc : Thread Cert.QBDxIdeal.nD Cert.QBDxIdeal.τ).loc Cert.QBDxIdeal.main_arg0) = m ((c.tc : Thread Cert.QBDxIdeal.nD Cert.QBDxIdeal.τ).loc Cert.QBDxIdeal.main_arg0)
          ∧ r.2.mem ((c.tc : Thread Cert.QBDxIdeal.nD Cert.QBDxIdeal.τ).loc Cert.QBDxIdeal.main_arg1) = m ((c.tc : Thread Cert.QBDxIdeal.nD Cert.QBDxIdeal.τ).loc Cert.QBDxIdeal.main_arg1))
      ∧ θ_run (Cert.QBDxRefIdeal.defs (F := Ideal)) (onTc (τ := Cert.QBDxRefIdeal.τ) (Cert.QBDxRefIdeal.main (F := Ideal))) ⟨m', fun _ => 0, g'⟩ (fun r => ∀ c : Dev Cert.QBDxRefIdeal.nD,
          r.2.mem ((c.tc : Thread Cert.QBDxRefIdeal.nD Cert.QBDxRefIdeal.τ).loc Cert.QBDxRefIdeal.main_v2) = v0 c
          ∧ r.2.mem ((c.tc : Thread Cert.QBDxRefIdeal.nD Cert.QBDxRefIdeal.τ).loc Cert.QBDxRefIdeal.main_arg0) = m' ((c.tc : Thread Cert.QBDxRefIdeal.nD Cert.QBDxRefIdeal.τ).loc Cert.QBDxRefIdeal.main_arg0)
          ∧ r.2.mem ((c.tc : Thread Cert.QBDxRefIdeal.nD Cert.QBDxRefIdeal.τ).loc Cert.QBDxRefIdeal.main_arg1) = m' ((c.tc : Thread Cert.QBDxRefIdeal.nD Cert.QBDxRefIdeal.τ).loc Cert.QBDxRefIdeal.main_arg1))

def preserves_QBDw_QBDwIdeal : Prop :=
  True

def algebraic_QBDwIdeal_QBDwRefIdeal [hQBDwIdeal : Cert.QBDwIdeal.Facts] [hQBDwRefIdeal : Cert.QBDwRefIdeal.Facts] : Prop :=
  ∀ (m : (ℓ : Loc Cert.QBDwIdeal.nD Cert.QBDwIdeal.τ Cert.QBDwIdeal.sig) → Buf (Elt Ideal) ℓ) (g : Dev Cert.QBDwIdeal.nD → PrngReg)
    (m' : (ℓ : Loc Cert.QBDwRefIdeal.nD Cert.QBDwRefIdeal.τ Cert.QBDwRefIdeal.sig) → Buf (Elt Ideal) ℓ) (g' : Dev Cert.QBDwRefIdeal.nD → PrngReg), Pre_QBDwIdeal m →
    (∀ c : Dev Cert.QBDwIdeal.nD,
      m' ((c.tc : Thread Cert.QBDwRefIdeal.nD Cert.QBDwRefIdeal.τ).loc Cert.QBDwRefIdeal.main_arg0) = m ((c.tc : Thread Cert.QBDwIdeal.nD Cert.QBDwIdeal.τ).loc Cert.QBDwIdeal.main_arg0)
      ∧ m' ((c.tc : Thread Cert.QBDwRefIdeal.nD Cert.QBDwRefIdeal.τ).loc Cert.QBDwRefIdeal.main_arg1) = m ((c.tc : Thread Cert.QBDwIdeal.nD Cert.QBDwIdeal.τ).loc Cert.QBDwIdeal.main_arg1)) →
    ∃ (v0 : (c : Dev Cert.QBDwIdeal.nD) → Buf (Elt Ideal) ((c.tc : Thread Cert.QBDwIdeal.nD Cert.QBDwIdeal.τ).loc Cert.QBDwIdeal.main_v0)),
      θ_run (Cert.QBDwIdeal.defs (F := Ideal)) (onTc (τ := Cert.QBDwIdeal.τ) (Cert.QBDwIdeal.main (F := Ideal))) ⟨m, fun _ => 0, g⟩ (fun r => ∀ c : Dev Cert.QBDwIdeal.nD,
          r.2.mem ((c.tc : Thread Cert.QBDwIdeal.nD Cert.QBDwIdeal.τ).loc Cert.QBDwIdeal.main_v0) = v0 c
          ∧ r.2.mem ((c.tc : Thread Cert.QBDwIdeal.nD Cert.QBDwIdeal.τ).loc Cert.QBDwIdeal.main_arg0) = m ((c.tc : Thread Cert.QBDwIdeal.nD Cert.QBDwIdeal.τ).loc Cert.QBDwIdeal.main_arg0)
          ∧ r.2.mem ((c.tc : Thread Cert.QBDwIdeal.nD Cert.QBDwIdeal.τ).loc Cert.QBDwIdeal.main_arg1) = m ((c.tc : Thread Cert.QBDwIdeal.nD Cert.QBDwIdeal.τ).loc Cert.QBDwIdeal.main_arg1))
      ∧ θ_run (Cert.QBDwRefIdeal.defs (F := Ideal)) (onTc (τ := Cert.QBDwRefIdeal.τ) (Cert.QBDwRefIdeal.main (F := Ideal))) ⟨m', fun _ => 0, g'⟩ (fun r => ∀ c : Dev Cert.QBDwRefIdeal.nD,
          r.2.mem ((c.tc : Thread Cert.QBDwRefIdeal.nD Cert.QBDwRefIdeal.τ).loc Cert.QBDwRefIdeal.main_v4) = v0 c
          ∧ r.2.mem ((c.tc : Thread Cert.QBDwRefIdeal.nD Cert.QBDwRefIdeal.τ).loc Cert.QBDwRefIdeal.main_arg0) = m' ((c.tc : Thread Cert.QBDwRefIdeal.nD Cert.QBDwRefIdeal.τ).loc Cert.QBDwRefIdeal.main_arg0)
          ∧ r.2.mem ((c.tc : Thread Cert.QBDwRefIdeal.nD Cert.QBDwRefIdeal.τ).loc Cert.QBDwRefIdeal.main_arg1) = m' ((c.tc : Thread Cert.QBDwRefIdeal.nD Cert.QBDwRefIdeal.τ).loc Cert.QBDwRefIdeal.main_arg1))

def preserves_KvfDx_KvfDxIdeal : Prop :=
  True

def algebraic_KvfDxIdeal_KvfDxRefIdeal [hKvfDxIdeal : Cert.KvfDxIdeal.Facts] [hKvfDxRefIdeal : Cert.KvfDxRefIdeal.Facts] : Prop :=
  ∀ (m : (ℓ : Loc Cert.KvfDxIdeal.nD Cert.KvfDxIdeal.τ Cert.KvfDxIdeal.sig) → Buf (Elt Ideal) ℓ) (g : Dev Cert.KvfDxIdeal.nD → PrngReg)
    (m' : (ℓ : Loc Cert.KvfDxRefIdeal.nD Cert.KvfDxRefIdeal.τ Cert.KvfDxRefIdeal.sig) → Buf (Elt Ideal) ℓ) (g' : Dev Cert.KvfDxRefIdeal.nD → PrngReg), Pre_KvfDxIdeal m →
    (∀ c : Dev Cert.KvfDxIdeal.nD,
      m' ((c.tc : Thread Cert.KvfDxRefIdeal.nD Cert.KvfDxRefIdeal.τ).loc Cert.KvfDxRefIdeal.main_arg0) = m ((c.tc : Thread Cert.KvfDxIdeal.nD Cert.KvfDxIdeal.τ).loc Cert.KvfDxIdeal.main_arg0)
      ∧ m' ((c.tc : Thread Cert.KvfDxRefIdeal.nD Cert.KvfDxRefIdeal.τ).loc Cert.KvfDxRefIdeal.main_arg1) = m ((c.tc : Thread Cert.KvfDxIdeal.nD Cert.KvfDxIdeal.τ).loc Cert.KvfDxIdeal.main_arg1)) →
    ∃ (v0 : (c : Dev Cert.KvfDxIdeal.nD) → Buf (Elt Ideal) ((c.tc : Thread Cert.KvfDxIdeal.nD Cert.KvfDxIdeal.τ).loc Cert.KvfDxIdeal.main_v0)),
      θ_run (Cert.KvfDxIdeal.defs (F := Ideal)) (onTc (τ := Cert.KvfDxIdeal.τ) (Cert.KvfDxIdeal.main (F := Ideal))) ⟨m, fun _ => 0, g⟩ (fun r => ∀ c : Dev Cert.KvfDxIdeal.nD,
          r.2.mem ((c.tc : Thread Cert.KvfDxIdeal.nD Cert.KvfDxIdeal.τ).loc Cert.KvfDxIdeal.main_v0) = v0 c
          ∧ r.2.mem ((c.tc : Thread Cert.KvfDxIdeal.nD Cert.KvfDxIdeal.τ).loc Cert.KvfDxIdeal.main_arg0) = m ((c.tc : Thread Cert.KvfDxIdeal.nD Cert.KvfDxIdeal.τ).loc Cert.KvfDxIdeal.main_arg0)
          ∧ r.2.mem ((c.tc : Thread Cert.KvfDxIdeal.nD Cert.KvfDxIdeal.τ).loc Cert.KvfDxIdeal.main_arg1) = m ((c.tc : Thread Cert.KvfDxIdeal.nD Cert.KvfDxIdeal.τ).loc Cert.KvfDxIdeal.main_arg1))
      ∧ θ_run (Cert.KvfDxRefIdeal.defs (F := Ideal)) (onTc (τ := Cert.KvfDxRefIdeal.τ) (Cert.KvfDxRefIdeal.main (F := Ideal))) ⟨m', fun _ => 0, g'⟩ (fun r => ∀ c : Dev Cert.KvfDxRefIdeal.nD,
          r.2.mem ((c.tc : Thread Cert.KvfDxRefIdeal.nD Cert.KvfDxRefIdeal.τ).loc Cert.KvfDxRefIdeal.main_v2) = v0 c
          ∧ r.2.mem ((c.tc : Thread Cert.KvfDxRefIdeal.nD Cert.KvfDxRefIdeal.τ).loc Cert.KvfDxRefIdeal.main_arg0) = m' ((c.tc : Thread Cert.KvfDxRefIdeal.nD Cert.KvfDxRefIdeal.τ).loc Cert.KvfDxRefIdeal.main_arg0)
          ∧ r.2.mem ((c.tc : Thread Cert.KvfDxRefIdeal.nD Cert.KvfDxRefIdeal.τ).loc Cert.KvfDxRefIdeal.main_arg1) = m' ((c.tc : Thread Cert.KvfDxRefIdeal.nD Cert.KvfDxRefIdeal.τ).loc Cert.KvfDxRefIdeal.main_arg1))

def preserves_KvfDw_KvfDwIdeal : Prop :=
  True

def algebraic_KvfDwIdeal_KvfDwRefIdeal [hKvfDwIdeal : Cert.KvfDwIdeal.Facts] [hKvfDwRefIdeal : Cert.KvfDwRefIdeal.Facts] : Prop :=
  ∀ (m : (ℓ : Loc Cert.KvfDwIdeal.nD Cert.KvfDwIdeal.τ Cert.KvfDwIdeal.sig) → Buf (Elt Ideal) ℓ) (g : Dev Cert.KvfDwIdeal.nD → PrngReg)
    (m' : (ℓ : Loc Cert.KvfDwRefIdeal.nD Cert.KvfDwRefIdeal.τ Cert.KvfDwRefIdeal.sig) → Buf (Elt Ideal) ℓ) (g' : Dev Cert.KvfDwRefIdeal.nD → PrngReg), Pre_KvfDwIdeal m →
    (∀ c : Dev Cert.KvfDwIdeal.nD,
      m' ((c.tc : Thread Cert.KvfDwRefIdeal.nD Cert.KvfDwRefIdeal.τ).loc Cert.KvfDwRefIdeal.main_arg0) = m ((c.tc : Thread Cert.KvfDwIdeal.nD Cert.KvfDwIdeal.τ).loc Cert.KvfDwIdeal.main_arg0)
      ∧ m' ((c.tc : Thread Cert.KvfDwRefIdeal.nD Cert.KvfDwRefIdeal.τ).loc Cert.KvfDwRefIdeal.main_arg1) = m ((c.tc : Thread Cert.KvfDwIdeal.nD Cert.KvfDwIdeal.τ).loc Cert.KvfDwIdeal.main_arg1)) →
    ∃ (v0 : (c : Dev Cert.KvfDwIdeal.nD) → Buf (Elt Ideal) ((c.tc : Thread Cert.KvfDwIdeal.nD Cert.KvfDwIdeal.τ).loc Cert.KvfDwIdeal.main_v0)),
      θ_run (Cert.KvfDwIdeal.defs (F := Ideal)) (onTc (τ := Cert.KvfDwIdeal.τ) (Cert.KvfDwIdeal.main (F := Ideal))) ⟨m, fun _ => 0, g⟩ (fun r => ∀ c : Dev Cert.KvfDwIdeal.nD,
          r.2.mem ((c.tc : Thread Cert.KvfDwIdeal.nD Cert.KvfDwIdeal.τ).loc Cert.KvfDwIdeal.main_v0) = v0 c
          ∧ r.2.mem ((c.tc : Thread Cert.KvfDwIdeal.nD Cert.KvfDwIdeal.τ).loc Cert.KvfDwIdeal.main_arg0) = m ((c.tc : Thread Cert.KvfDwIdeal.nD Cert.KvfDwIdeal.τ).loc Cert.KvfDwIdeal.main_arg0)
          ∧ r.2.mem ((c.tc : Thread Cert.KvfDwIdeal.nD Cert.KvfDwIdeal.τ).loc Cert.KvfDwIdeal.main_arg1) = m ((c.tc : Thread Cert.KvfDwIdeal.nD Cert.KvfDwIdeal.τ).loc Cert.KvfDwIdeal.main_arg1))
      ∧ θ_run (Cert.KvfDwRefIdeal.defs (F := Ideal)) (onTc (τ := Cert.KvfDwRefIdeal.τ) (Cert.KvfDwRefIdeal.main (F := Ideal))) ⟨m', fun _ => 0, g'⟩ (fun r => ∀ c : Dev Cert.KvfDwRefIdeal.nD,
          r.2.mem ((c.tc : Thread Cert.KvfDwRefIdeal.nD Cert.KvfDwRefIdeal.τ).loc Cert.KvfDwRefIdeal.main_v4) = v0 c
          ∧ r.2.mem ((c.tc : Thread Cert.KvfDwRefIdeal.nD Cert.KvfDwRefIdeal.τ).loc Cert.KvfDwRefIdeal.main_arg0) = m' ((c.tc : Thread Cert.KvfDwRefIdeal.nD Cert.KvfDwRefIdeal.τ).loc Cert.KvfDwRefIdeal.main_arg0)
          ∧ r.2.mem ((c.tc : Thread Cert.KvfDwRefIdeal.nD Cert.KvfDwRefIdeal.τ).loc Cert.KvfDwRefIdeal.main_arg1) = m' ((c.tc : Thread Cert.KvfDwRefIdeal.nD Cert.KvfDwRefIdeal.τ).loc Cert.KvfDwRefIdeal.main_arg1))

def preserves_FoxFwd_FoxFwdIdeal : Prop :=
  IdealRules.named_const.Statement Cert.FoxFwdIdeal.κ "mask" .f32 0xF149F2CA#32 ⊥

def algebraic_FoxFwdIdeal_FoxFwdRefIdeal_pre_finite_fwd [hFoxFwdIdeal : Cert.FoxFwdIdeal.Facts] [hFoxFwdRefIdeal : Cert.FoxFwdRefIdeal.Facts] [hPre_finite_fwd : Cert.Pre_finite_fwd.Facts] : Prop :=
  ∀ (m : (ℓ : Loc Cert.FoxFwdIdeal.nD Cert.FoxFwdIdeal.τ Cert.FoxFwdIdeal.sig) → Buf (Elt Ideal) ℓ) (g : Dev Cert.FoxFwdIdeal.nD → PrngReg)
    (m' : (ℓ : Loc Cert.FoxFwdRefIdeal.nD Cert.FoxFwdRefIdeal.τ Cert.FoxFwdRefIdeal.sig) → Buf (Elt Ideal) ℓ) (g' : Dev Cert.FoxFwdRefIdeal.nD → PrngReg), Pre_FoxFwdIdeal_finite_fwd m →
    (∀ c : Dev Cert.FoxFwdIdeal.nD,
      m' ((c.tc : Thread Cert.FoxFwdRefIdeal.nD Cert.FoxFwdRefIdeal.τ).loc Cert.FoxFwdRefIdeal.main_arg0) = m ((c.tc : Thread Cert.FoxFwdIdeal.nD Cert.FoxFwdIdeal.τ).loc Cert.FoxFwdIdeal.main_arg0)
      ∧ m' ((c.tc : Thread Cert.FoxFwdRefIdeal.nD Cert.FoxFwdRefIdeal.τ).loc Cert.FoxFwdRefIdeal.main_arg1) = m ((c.tc : Thread Cert.FoxFwdIdeal.nD Cert.FoxFwdIdeal.τ).loc Cert.FoxFwdIdeal.main_arg1)
      ∧ m' ((c.tc : Thread Cert.FoxFwdRefIdeal.nD Cert.FoxFwdRefIdeal.τ).loc Cert.FoxFwdRefIdeal.main_arg2) = m ((c.tc : Thread Cert.FoxFwdIdeal.nD Cert.FoxFwdIdeal.τ).loc Cert.FoxFwdIdeal.main_arg2)) →
    ∃ (v0 : (c : Dev Cert.FoxFwdIdeal.nD) → Buf (Elt Ideal) ((c.tc : Thread Cert.FoxFwdIdeal.nD Cert.FoxFwdIdeal.τ).loc Cert.FoxFwdIdeal.main_v6)),
      θ_run (Cert.FoxFwdIdeal.defs (F := Ideal)) (onTc (τ := Cert.FoxFwdIdeal.τ) (Cert.FoxFwdIdeal.main (F := Ideal))) ⟨m, fun _ => 0, g⟩ (fun r => ∀ c : Dev Cert.FoxFwdIdeal.nD,
          r.2.mem ((c.tc : Thread Cert.FoxFwdIdeal.nD Cert.FoxFwdIdeal.τ).loc Cert.FoxFwdIdeal.main_v6) = v0 c
          ∧ r.2.mem ((c.tc : Thread Cert.FoxFwdIdeal.nD Cert.FoxFwdIdeal.τ).loc Cert.FoxFwdIdeal.main_arg0) = m ((c.tc : Thread Cert.FoxFwdIdeal.nD Cert.FoxFwdIdeal.τ).loc Cert.FoxFwdIdeal.main_arg0)
          ∧ r.2.mem ((c.tc : Thread Cert.FoxFwdIdeal.nD Cert.FoxFwdIdeal.τ).loc Cert.FoxFwdIdeal.main_arg1) = m ((c.tc : Thread Cert.FoxFwdIdeal.nD Cert.FoxFwdIdeal.τ).loc Cert.FoxFwdIdeal.main_arg1)
          ∧ r.2.mem ((c.tc : Thread Cert.FoxFwdIdeal.nD Cert.FoxFwdIdeal.τ).loc Cert.FoxFwdIdeal.main_arg2) = m ((c.tc : Thread Cert.FoxFwdIdeal.nD Cert.FoxFwdIdeal.τ).loc Cert.FoxFwdIdeal.main_arg2))
      ∧ θ_run (Cert.FoxFwdRefIdeal.defs (F := Ideal)) (onTc (τ := Cert.FoxFwdRefIdeal.τ) (Cert.FoxFwdRefIdeal.main (F := Ideal))) ⟨m', fun _ => 0, g'⟩ (fun r => ∀ c : Dev Cert.FoxFwdRefIdeal.nD,
          r.2.mem ((c.tc : Thread Cert.FoxFwdRefIdeal.nD Cert.FoxFwdRefIdeal.τ).loc Cert.FoxFwdRefIdeal.main_v40) = v0 c
          ∧ r.2.mem ((c.tc : Thread Cert.FoxFwdRefIdeal.nD Cert.FoxFwdRefIdeal.τ).loc Cert.FoxFwdRefIdeal.main_arg0) = m' ((c.tc : Thread Cert.FoxFwdRefIdeal.nD Cert.FoxFwdRefIdeal.τ).loc Cert.FoxFwdRefIdeal.main_arg0)
          ∧ r.2.mem ((c.tc : Thread Cert.FoxFwdRefIdeal.nD Cert.FoxFwdRefIdeal.τ).loc Cert.FoxFwdRefIdeal.main_arg1) = m' ((c.tc : Thread Cert.FoxFwdRefIdeal.nD Cert.FoxFwdRefIdeal.τ).loc Cert.FoxFwdRefIdeal.main_arg1)
          ∧ r.2.mem ((c.tc : Thread Cert.FoxFwdRefIdeal.nD Cert.FoxFwdRefIdeal.τ).loc Cert.FoxFwdRefIdeal.main_arg2) = m' ((c.tc : Thread Cert.FoxFwdRefIdeal.nD Cert.FoxFwdRefIdeal.τ).loc Cert.FoxFwdRefIdeal.main_arg2))

def preserves_FoxAdd_FoxAddIdeal : Prop :=
  IdealRules.named_const.Statement Cert.FoxAddIdeal.κ "mask" .f32 0xF149F2CA#32 ⊥

def algebraic_FoxAddIdeal_FoxAddRefIdeal_pre_finite_add [hFoxAddIdeal : Cert.FoxAddIdeal.Facts] [hFoxAddRefIdeal : Cert.FoxAddRefIdeal.Facts] [hPre_finite_add : Cert.Pre_finite_add.Facts] : Prop :=
  ∀ (m : (ℓ : Loc Cert.FoxAddIdeal.nD Cert.FoxAddIdeal.τ Cert.FoxAddIdeal.sig) → Buf (Elt Ideal) ℓ) (g : Dev Cert.FoxAddIdeal.nD → PrngReg)
    (m' : (ℓ : Loc Cert.FoxAddRefIdeal.nD Cert.FoxAddRefIdeal.τ Cert.FoxAddRefIdeal.sig) → Buf (Elt Ideal) ℓ) (g' : Dev Cert.FoxAddRefIdeal.nD → PrngReg), Pre_FoxAddIdeal_finite_add m →
    (∀ c : Dev Cert.FoxAddIdeal.nD,
      m' ((c.tc : Thread Cert.FoxAddRefIdeal.nD Cert.FoxAddRefIdeal.τ).loc Cert.FoxAddRefIdeal.main_arg0) = m ((c.tc : Thread Cert.FoxAddIdeal.nD Cert.FoxAddIdeal.τ).loc Cert.FoxAddIdeal.main_arg0)
      ∧ m' ((c.tc : Thread Cert.FoxAddRefIdeal.nD Cert.FoxAddRefIdeal.τ).loc Cert.FoxAddRefIdeal.main_arg1) = m ((c.tc : Thread Cert.FoxAddIdeal.nD Cert.FoxAddIdeal.τ).loc Cert.FoxAddIdeal.main_arg1)
      ∧ m' ((c.tc : Thread Cert.FoxAddRefIdeal.nD Cert.FoxAddRefIdeal.τ).loc Cert.FoxAddRefIdeal.main_arg2) = m ((c.tc : Thread Cert.FoxAddIdeal.nD Cert.FoxAddIdeal.τ).loc Cert.FoxAddIdeal.main_arg2)
      ∧ m' ((c.tc : Thread Cert.FoxAddRefIdeal.nD Cert.FoxAddRefIdeal.τ).loc Cert.FoxAddRefIdeal.main_arg3) = m ((c.tc : Thread Cert.FoxAddIdeal.nD Cert.FoxAddIdeal.τ).loc Cert.FoxAddIdeal.main_arg3)
      ∧ m' ((c.tc : Thread Cert.FoxAddRefIdeal.nD Cert.FoxAddRefIdeal.τ).loc Cert.FoxAddRefIdeal.main_arg4) = m ((c.tc : Thread Cert.FoxAddIdeal.nD Cert.FoxAddIdeal.τ).loc Cert.FoxAddIdeal.main_arg4)
      ∧ m' ((c.tc : Thread Cert.FoxAddRefIdeal.nD Cert.FoxAddRefIdeal.τ).loc Cert.FoxAddRefIdeal.main_arg5) = m ((c.tc : Thread Cert.FoxAddIdeal.nD Cert.FoxAddIdeal.τ).loc Cert.FoxAddIdeal.main_arg5)
      ∧ m' ((c.tc : Thread Cert.FoxAddRefIdeal.nD Cert.FoxAddRefIdeal.τ).loc Cert.FoxAddRefIdeal.main_arg6) = m ((c.tc : Thread Cert.FoxAddIdeal.nD Cert.FoxAddIdeal.τ).loc Cert.FoxAddIdeal.main_arg6)) →
    ∃ (v0 : (c : Dev Cert.FoxAddIdeal.nD) → Buf (Elt Ideal) ((c.tc : Thread Cert.FoxAddIdeal.nD Cert.FoxAddIdeal.τ).loc Cert.FoxAddIdeal.main_v6_0)) (v1 : (c : Dev Cert.FoxAddIdeal.nD) → Buf (Elt Ideal) ((c.tc : Thread Cert.FoxAddIdeal.nD Cert.FoxAddIdeal.τ).loc Cert.FoxAddIdeal.main_v6_1)) (v2 : (c : Dev Cert.FoxAddIdeal.nD) → Buf (Elt Ideal) ((c.tc : Thread Cert.FoxAddIdeal.nD Cert.FoxAddIdeal.τ).loc Cert.FoxAddIdeal.main_v6_2)) (v3 : (c : Dev Cert.FoxAddIdeal.nD) → Buf (Elt Ideal) ((c.tc : Thread Cert.FoxAddIdeal.nD Cert.FoxAddIdeal.τ).loc Cert.FoxAddIdeal.main_v6_3)),
      θ_run (Cert.FoxAddIdeal.defs (F := Ideal)) (onTc (τ := Cert.FoxAddIdeal.τ) (Cert.FoxAddIdeal.main (F := Ideal))) ⟨m, fun _ => 0, g⟩ (fun r => ∀ c : Dev Cert.FoxAddIdeal.nD,
          r.2.mem ((c.tc : Thread Cert.FoxAddIdeal.nD Cert.FoxAddIdeal.τ).loc Cert.FoxAddIdeal.main_v6_0) = v0 c
          ∧ r.2.mem ((c.tc : Thread Cert.FoxAddIdeal.nD Cert.FoxAddIdeal.τ).loc Cert.FoxAddIdeal.main_v6_1) = v1 c
          ∧ r.2.mem ((c.tc : Thread Cert.FoxAddIdeal.nD Cert.FoxAddIdeal.τ).loc Cert.FoxAddIdeal.main_v6_2) = v2 c
          ∧ r.2.mem ((c.tc : Thread Cert.FoxAddIdeal.nD Cert.FoxAddIdeal.τ).loc Cert.FoxAddIdeal.main_v6_3) = v3 c
          ∧ r.2.mem ((c.tc : Thread Cert.FoxAddIdeal.nD Cert.FoxAddIdeal.τ).loc Cert.FoxAddIdeal.main_arg0) = m ((c.tc : Thread Cert.FoxAddIdeal.nD Cert.FoxAddIdeal.τ).loc Cert.FoxAddIdeal.main_arg0)
          ∧ r.2.mem ((c.tc : Thread Cert.FoxAddIdeal.nD Cert.FoxAddIdeal.τ).loc Cert.FoxAddIdeal.main_arg1) = m ((c.tc : Thread Cert.FoxAddIdeal.nD Cert.FoxAddIdeal.τ).loc Cert.FoxAddIdeal.main_arg1)
          ∧ r.2.mem ((c.tc : Thread Cert.FoxAddIdeal.nD Cert.FoxAddIdeal.τ).loc Cert.FoxAddIdeal.main_arg2) = m ((c.tc : Thread Cert.FoxAddIdeal.nD Cert.FoxAddIdeal.τ).loc Cert.FoxAddIdeal.main_arg2)
          ∧ r.2.mem ((c.tc : Thread Cert.FoxAddIdeal.nD Cert.FoxAddIdeal.τ).loc Cert.FoxAddIdeal.main_arg3) = m ((c.tc : Thread Cert.FoxAddIdeal.nD Cert.FoxAddIdeal.τ).loc Cert.FoxAddIdeal.main_arg3)
          ∧ r.2.mem ((c.tc : Thread Cert.FoxAddIdeal.nD Cert.FoxAddIdeal.τ).loc Cert.FoxAddIdeal.main_arg4) = m ((c.tc : Thread Cert.FoxAddIdeal.nD Cert.FoxAddIdeal.τ).loc Cert.FoxAddIdeal.main_arg4)
          ∧ r.2.mem ((c.tc : Thread Cert.FoxAddIdeal.nD Cert.FoxAddIdeal.τ).loc Cert.FoxAddIdeal.main_arg5) = m ((c.tc : Thread Cert.FoxAddIdeal.nD Cert.FoxAddIdeal.τ).loc Cert.FoxAddIdeal.main_arg5)
          ∧ r.2.mem ((c.tc : Thread Cert.FoxAddIdeal.nD Cert.FoxAddIdeal.τ).loc Cert.FoxAddIdeal.main_arg6) = m ((c.tc : Thread Cert.FoxAddIdeal.nD Cert.FoxAddIdeal.τ).loc Cert.FoxAddIdeal.main_arg6))
      ∧ θ_run (Cert.FoxAddRefIdeal.defs (F := Ideal)) (onTc (τ := Cert.FoxAddRefIdeal.τ) (Cert.FoxAddRefIdeal.main (F := Ideal))) ⟨m', fun _ => 0, g'⟩ (fun r => ∀ c : Dev Cert.FoxAddRefIdeal.nD,
          r.2.mem ((c.tc : Thread Cert.FoxAddRefIdeal.nD Cert.FoxAddRefIdeal.τ).loc Cert.FoxAddRefIdeal.main_v95) = v0 c
          ∧ r.2.mem ((c.tc : Thread Cert.FoxAddRefIdeal.nD Cert.FoxAddRefIdeal.τ).loc Cert.FoxAddRefIdeal.main_v98) = v1 c
          ∧ r.2.mem ((c.tc : Thread Cert.FoxAddRefIdeal.nD Cert.FoxAddRefIdeal.τ).loc Cert.FoxAddRefIdeal.main_v99) = v2 c
          ∧ r.2.mem ((c.tc : Thread Cert.FoxAddRefIdeal.nD Cert.FoxAddRefIdeal.τ).loc Cert.FoxAddRefIdeal.main_v100) = v3 c
          ∧ r.2.mem ((c.tc : Thread Cert.FoxAddRefIdeal.nD Cert.FoxAddRefIdeal.τ).loc Cert.FoxAddRefIdeal.main_arg0) = m' ((c.tc : Thread Cert.FoxAddRefIdeal.nD Cert.FoxAddRefIdeal.τ).loc Cert.FoxAddRefIdeal.main_arg0)
          ∧ r.2.mem ((c.tc : Thread Cert.FoxAddRefIdeal.nD Cert.FoxAddRefIdeal.τ).loc Cert.FoxAddRefIdeal.main_arg1) = m' ((c.tc : Thread Cert.FoxAddRefIdeal.nD Cert.FoxAddRefIdeal.τ).loc Cert.FoxAddRefIdeal.main_arg1)
          ∧ r.2.mem ((c.tc : Thread Cert.FoxAddRefIdeal.nD Cert.FoxAddRefIdeal.τ).loc Cert.FoxAddRefIdeal.main_arg2) = m' ((c.tc : Thread Cert.FoxAddRefIdeal.nD Cert.FoxAddRefIdeal.τ).loc Cert.FoxAddRefIdeal.main_arg2)
          ∧ r.2.mem ((c.tc : Thread Cert.FoxAddRefIdeal.nD Cert.FoxAddRefIdeal.τ).loc Cert.FoxAddRefIdeal.main_arg3) = m' ((c.tc : Thread Cert.FoxAddRefIdeal.nD Cert.FoxAddRefIdeal.τ).loc Cert.FoxAddRefIdeal.main_arg3)
          ∧ r.2.mem ((c.tc : Thread Cert.FoxAddRefIdeal.nD Cert.FoxAddRefIdeal.τ).loc Cert.FoxAddRefIdeal.main_arg4) = m' ((c.tc : Thread Cert.FoxAddRefIdeal.nD Cert.FoxAddRefIdeal.τ).loc Cert.FoxAddRefIdeal.main_arg4)
          ∧ r.2.mem ((c.tc : Thread Cert.FoxAddRefIdeal.nD Cert.FoxAddRefIdeal.τ).loc Cert.FoxAddRefIdeal.main_arg5) = m' ((c.tc : Thread Cert.FoxAddRefIdeal.nD Cert.FoxAddRefIdeal.τ).loc Cert.FoxAddRefIdeal.main_arg5)
          ∧ r.2.mem ((c.tc : Thread Cert.FoxAddRefIdeal.nD Cert.FoxAddRefIdeal.τ).loc Cert.FoxAddRefIdeal.main_arg6) = m' ((c.tc : Thread Cert.FoxAddRefIdeal.nD Cert.FoxAddRefIdeal.τ).loc Cert.FoxAddRefIdeal.main_arg6))

def preserves_ConvBwd_ConvBwdIdeal : Prop :=
  IdealRules.named_const.Statement Cert.ConvBwdIdeal.κ "c" .f32 0x3D372713#32 ((8943 / 200000 : ℝ) : EReal)
  ∧ IdealRules.named_const.Statement Cert.ConvBwdIdeal.κ "c3" .f32 0x3E095D4F#32 ((26829 / 200000 : ℝ) : EReal)

def algebraic_ConvBwdIdeal_ConvBwdRefIdeal_pre_finite_conv [hConvBwdIdeal : Cert.ConvBwdIdeal.Facts] [hConvBwdRefIdeal : Cert.ConvBwdRefIdeal.Facts] [hPre_finite_conv : Cert.Pre_finite_conv.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdRefIdeal.nD Cert.ConvBwdRefIdeal.τ Cert.ConvBwdRefIdeal.sig) → Buf (Elt Ideal) ℓ) (g' : Dev Cert.ConvBwdRefIdeal.nD → PrngReg), Pre_ConvBwdIdeal_finite_conv m →
    (∀ c : Dev Cert.ConvBwdIdeal.nD,
      m' ((c.tc : Thread Cert.ConvBwdRefIdeal.nD Cert.ConvBwdRefIdeal.τ).loc Cert.ConvBwdRefIdeal.main_arg0) = m ((c.tc : Thread Cert.ConvBwdIdeal.nD Cert.ConvBwdIdeal.τ).loc Cert.ConvBwdIdeal.main_arg0)
      ∧ m' ((c.tc : Thread Cert.ConvBwdRefIdeal.nD Cert.ConvBwdRefIdeal.τ).loc Cert.ConvBwdRefIdeal.main_arg1) = m ((c.tc : Thread Cert.ConvBwdIdeal.nD Cert.ConvBwdIdeal.τ).loc Cert.ConvBwdIdeal.main_arg1)
      ∧ m' ((c.tc : Thread Cert.ConvBwdRefIdeal.nD Cert.ConvBwdRefIdeal.τ).loc Cert.ConvBwdRefIdeal.main_arg2) = m ((c.tc : Thread Cert.ConvBwdIdeal.nD Cert.ConvBwdIdeal.τ).loc Cert.ConvBwdIdeal.main_arg2)
      ∧ m' ((c.tc : Thread Cert.ConvBwdRefIdeal.nD Cert.ConvBwdRefIdeal.τ).loc Cert.ConvBwdRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdRefIdeal.defs (F := Ideal)) (onTc (τ := Cert.ConvBwdRefIdeal.τ) (Cert.ConvBwdRefIdeal.main (F := Ideal))) ⟨m', fun _ => 0, g'⟩ (fun r => ∀ c : Dev Cert.ConvBwdRefIdeal.nD,
          r.2.mem ((c.tc : Thread Cert.ConvBwdRefIdeal.nD Cert.ConvBwdRefIdeal.τ).loc Cert.ConvBwdRefIdeal.main_v110) = v0 c
          ∧ r.2.mem ((c.tc : Thread Cert.ConvBwdRefIdeal.nD Cert.ConvBwdRefIdeal.τ).loc Cert.ConvBwdRefIdeal.main_v115) = v1 c
          ∧ r.2.mem ((c.tc : Thread Cert.ConvBwdRefIdeal.nD Cert.ConvBwdRefIdeal.τ).loc Cert.ConvBwdRefIdeal.main_v121) = v2 c
          ∧ r.2.mem ((c.tc : Thread Cert.ConvBwdRefIdeal.nD Cert.ConvBwdRefIdeal.τ).loc Cert.ConvBwdRefIdeal.main_arg0) = m' ((c.tc : Thread Cert.ConvBwdRefIdeal.nD Cert.ConvBwdRefIdeal.τ).loc Cert.ConvBwdRefIdeal.main_arg0)
          ∧ r.2.mem ((c.tc : Thread Cert.ConvBwdRefIdeal.nD Cert.ConvBwdRefIdeal.τ).loc Cert.ConvBwdRefIdeal.main_arg1) = m' ((c.tc : Thread Cert.ConvBwdRefIdeal.nD Cert.ConvBwdRefIdeal.τ).loc Cert.ConvBwdRefIdeal.main_arg1)
          ∧ r.2.mem ((c.tc : Thread Cert.ConvBwdRefIdeal.nD Cert.ConvBwdRefIdeal.τ).loc Cert.ConvBwdRefIdeal.main_arg2) = m' ((c.tc : Thread Cert.ConvBwdRefIdeal.nD Cert.ConvBwdRefIdeal.τ).loc Cert.ConvBwdRefIdeal.main_arg2)
          ∧ r.2.mem ((c.tc : Thread Cert.ConvBwdRefIdeal.nD Cert.ConvBwdRefIdeal.τ).loc Cert.ConvBwdRefIdeal.main_arg3) = m' ((c.tc : Thread Cert.ConvBwdRefIdeal.nD Cert.ConvBwdRefIdeal.τ).loc Cert.ConvBwdRefIdeal.main_arg3))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v44) = v0 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2))

def preserves_RmsIn_RmsInIdeal : Prop :=
  True

def algebraic_RmsInIdeal_RmsInRefIdeal [hRmsInIdeal : Cert.RmsInIdeal.Facts] [hRmsInRefIdeal : Cert.RmsInRefIdeal.Facts] : Prop :=
  ∀ (m : (ℓ : Loc Cert.RmsInIdeal.nD Cert.RmsInIdeal.τ Cert.RmsInIdeal.sig) → Buf (Elt Ideal) ℓ) (g : Dev Cert.RmsInIdeal.nD → PrngReg)
    (m' : (ℓ : Loc Cert.RmsInRefIdeal.nD Cert.RmsInRefIdeal.τ Cert.RmsInRefIdeal.sig) → Buf (Elt Ideal) ℓ) (g' : Dev Cert.RmsInRefIdeal.nD → PrngReg), Pre_RmsInIdeal m →
    (∀ c : Dev Cert.RmsInIdeal.nD,
      m' ((c.tc : Thread Cert.RmsInRefIdeal.nD Cert.RmsInRefIdeal.τ).loc Cert.RmsInRefIdeal.main_arg0) = m ((c.tc : Thread Cert.RmsInIdeal.nD Cert.RmsInIdeal.τ).loc Cert.RmsInIdeal.main_arg0)
      ∧ m' ((c.tc : Thread Cert.RmsInRefIdeal.nD Cert.RmsInRefIdeal.τ).loc Cert.RmsInRefIdeal.main_arg1) = m ((c.tc : Thread Cert.RmsInIdeal.nD Cert.RmsInIdeal.τ).loc Cert.RmsInIdeal.main_arg1)) →
    ∃ (v0 : (c : Dev Cert.RmsInIdeal.nD) → Buf (Elt Ideal) ((c.tc : Thread Cert.RmsInIdeal.nD Cert.RmsInIdeal.τ).loc Cert.RmsInIdeal.main_v0)),
      θ_run (Cert.RmsInIdeal.defs (F := Ideal)) (onTc (τ := Cert.RmsInIdeal.τ) (Cert.RmsInIdeal.main (F := Ideal))) ⟨m, fun _ => 0, g⟩ (fun r => ∀ c : Dev Cert.RmsInIdeal.nD,
          r.2.mem ((c.tc : Thread Cert.RmsInIdeal.nD Cert.RmsInIdeal.τ).loc Cert.RmsInIdeal.main_v0) = v0 c
          ∧ r.2.mem ((c.tc : Thread Cert.RmsInIdeal.nD Cert.RmsInIdeal.τ).loc Cert.RmsInIdeal.main_arg0) = m ((c.tc : Thread Cert.RmsInIdeal.nD Cert.RmsInIdeal.τ).loc Cert.RmsInIdeal.main_arg0)
          ∧ r.2.mem ((c.tc : Thread Cert.RmsInIdeal.nD Cert.RmsInIdeal.τ).loc Cert.RmsInIdeal.main_arg1) = m ((c.tc : Thread Cert.RmsInIdeal.nD Cert.RmsInIdeal.τ).loc Cert.RmsInIdeal.main_arg1))
      ∧ θ_run (Cert.RmsInRefIdeal.defs (F := Ideal)) (onTc (τ := Cert.RmsInRefIdeal.τ) (Cert.RmsInRefIdeal.main (F := Ideal))) ⟨m', fun _ => 0, g'⟩ (fun r => ∀ c : Dev Cert.RmsInRefIdeal.nD,
          r.2.mem ((c.tc : Thread Cert.RmsInRefIdeal.nD Cert.RmsInRefIdeal.τ).loc Cert.RmsInRefIdeal.main_v14) = v0 c
          ∧ r.2.mem ((c.tc : Thread Cert.RmsInRefIdeal.nD Cert.RmsInRefIdeal.τ).loc Cert.RmsInRefIdeal.main_arg0) = m' ((c.tc : Thread Cert.RmsInRefIdeal.nD Cert.RmsInRefIdeal.τ).loc Cert.RmsInRefIdeal.main_arg0)
          ∧ r.2.mem ((c.tc : Thread Cert.RmsInRefIdeal.nD Cert.RmsInRefIdeal.τ).loc Cert.RmsInRefIdeal.main_arg1) = m' ((c.tc : Thread Cert.RmsInRefIdeal.nD Cert.RmsInRefIdeal.τ).loc Cert.RmsInRefIdeal.main_arg1))

def preserves_RmsRes_RmsResIdeal : Prop :=
  True

def algebraic_RmsResIdeal_RmsResRefIdeal [hRmsResIdeal : Cert.RmsResIdeal.Facts] [hRmsResRefIdeal : Cert.RmsResRefIdeal.Facts] : Prop :=
  ∀ (m : (ℓ : Loc Cert.RmsResIdeal.nD Cert.RmsResIdeal.τ Cert.RmsResIdeal.sig) → Buf (Elt Ideal) ℓ) (g : Dev Cert.RmsResIdeal.nD → PrngReg)
    (m' : (ℓ : Loc Cert.RmsResRefIdeal.nD Cert.RmsResRefIdeal.τ Cert.RmsResRefIdeal.sig) → Buf (Elt Ideal) ℓ) (g' : Dev Cert.RmsResRefIdeal.nD → PrngReg), Pre_RmsResIdeal m →
    (∀ c : Dev Cert.RmsResIdeal.nD,
      m' ((c.tc : Thread Cert.RmsResRefIdeal.nD Cert.RmsResRefIdeal.τ).loc Cert.RmsResRefIdeal.main_arg0) = m ((c.tc : Thread Cert.RmsResIdeal.nD Cert.RmsResIdeal.τ).loc Cert.RmsResIdeal.main_arg0)
      ∧ m' ((c.tc : Thread Cert.RmsResRefIdeal.nD Cert.RmsResRefIdeal.τ).loc Cert.RmsResRefIdeal.main_arg1) = m ((c.tc : Thread Cert.RmsResIdeal.nD Cert.RmsResIdeal.τ).loc Cert.RmsResIdeal.main_arg1)
      ∧ m' ((c.tc : Thread Cert.RmsResRefIdeal.nD Cert.RmsResRefIdeal.τ).loc Cert.RmsResRefIdeal.main_arg2) = m ((c.tc : Thread Cert.RmsResIdeal.nD Cert.RmsResIdeal.τ).loc Cert.RmsResIdeal.main_arg2)) →
    ∃ (v0 : (c : Dev Cert.RmsResIdeal.nD) → Buf (Elt Ideal) ((c.tc : Thread Cert.RmsResIdeal.nD Cert.RmsResIdeal.τ).loc Cert.RmsResIdeal.main_v0)),
      θ_run (Cert.RmsResIdeal.defs (F := Ideal)) (onTc (τ := Cert.RmsResIdeal.τ) (Cert.RmsResIdeal.main (F := Ideal))) ⟨m, fun _ => 0, g⟩ (fun r => ∀ c : Dev Cert.RmsResIdeal.nD,
          r.2.mem ((c.tc : Thread Cert.RmsResIdeal.nD Cert.RmsResIdeal.τ).loc Cert.RmsResIdeal.main_v0) = v0 c
          ∧ r.2.mem ((c.tc : Thread Cert.RmsResIdeal.nD Cert.RmsResIdeal.τ).loc Cert.RmsResIdeal.main_arg0) = m ((c.tc : Thread Cert.RmsResIdeal.nD Cert.RmsResIdeal.τ).loc Cert.RmsResIdeal.main_arg0)
          ∧ r.2.mem ((c.tc : Thread Cert.RmsResIdeal.nD Cert.RmsResIdeal.τ).loc Cert.RmsResIdeal.main_arg1) = m ((c.tc : Thread Cert.RmsResIdeal.nD Cert.RmsResIdeal.τ).loc Cert.RmsResIdeal.main_arg1)
          ∧ r.2.mem ((c.tc : Thread Cert.RmsResIdeal.nD Cert.RmsResIdeal.τ).loc Cert.RmsResIdeal.main_arg2) = m ((c.tc : Thread Cert.RmsResIdeal.nD Cert.RmsResIdeal.τ).loc Cert.RmsResIdeal.main_arg2))
      ∧ θ_run (Cert.RmsResRefIdeal.defs (F := Ideal)) (onTc (τ := Cert.RmsResRefIdeal.τ) (Cert.RmsResRefIdeal.main (F := Ideal))) ⟨m', fun _ => 0, g'⟩ (fun r => ∀ c : Dev Cert.RmsResRefIdeal.nD,
          r.2.mem ((c.tc : Thread Cert.RmsResRefIdeal.nD Cert.RmsResRefIdeal.τ).loc Cert.RmsResRefIdeal.main_v14) = v0 c
          ∧ r.2.mem ((c.tc : Thread Cert.RmsResRefIdeal.nD Cert.RmsResRefIdeal.τ).loc Cert.RmsResRefIdeal.main_arg0) = m' ((c.tc : Thread Cert.RmsResRefIdeal.nD Cert.RmsResRefIdeal.τ).loc Cert.RmsResRefIdeal.main_arg0)
          ∧ r.2.mem ((c.tc : Thread Cert.RmsResRefIdeal.nD Cert.RmsResRefIdeal.τ).loc Cert.RmsResRefIdeal.main_arg1) = m' ((c.tc : Thread Cert.RmsResRefIdeal.nD Cert.RmsResRefIdeal.τ).loc Cert.RmsResRefIdeal.main_arg1)
          ∧ r.2.mem ((c.tc : Thread Cert.RmsResRefIdeal.nD Cert.RmsResRefIdeal.τ).loc Cert.RmsResRefIdeal.main_arg2) = m' ((c.tc : Thread Cert.RmsResRefIdeal.nD Cert.RmsResRefIdeal.τ).loc Cert.RmsResRefIdeal.main_arg2))

def preserves_RmsResIn_RmsResInIdeal : Prop :=
  True

def algebraic_RmsResInIdeal_RmsResInRefIdeal [hRmsResInIdeal : Cert.RmsResInIdeal.Facts] [hRmsResInRefIdeal : Cert.RmsResInRefIdeal.Facts] : Prop :=
  ∀ (m : (ℓ : Loc Cert.RmsResInIdeal.nD Cert.RmsResInIdeal.τ Cert.RmsResInIdeal.sig) → Buf (Elt Ideal) ℓ) (g : Dev Cert.RmsResInIdeal.nD → PrngReg)
    (m' : (ℓ : Loc Cert.RmsResInRefIdeal.nD Cert.RmsResInRefIdeal.τ Cert.RmsResInRefIdeal.sig) → Buf (Elt Ideal) ℓ) (g' : Dev Cert.RmsResInRefIdeal.nD → PrngReg), Pre_RmsResInIdeal m →
    (∀ c : Dev Cert.RmsResInIdeal.nD,
      m' ((c.tc : Thread Cert.RmsResInRefIdeal.nD Cert.RmsResInRefIdeal.τ).loc Cert.RmsResInRefIdeal.main_arg0) = m ((c.tc : Thread Cert.RmsResInIdeal.nD Cert.RmsResInIdeal.τ).loc Cert.RmsResInIdeal.main_arg0)
      ∧ m' ((c.tc : Thread Cert.RmsResInRefIdeal.nD Cert.RmsResInRefIdeal.τ).loc Cert.RmsResInRefIdeal.main_arg1) = m ((c.tc : Thread Cert.RmsResInIdeal.nD Cert.RmsResInIdeal.τ).loc Cert.RmsResInIdeal.main_arg1)
      ∧ m' ((c.tc : Thread Cert.RmsResInRefIdeal.nD Cert.RmsResInRefIdeal.τ).loc Cert.RmsResInRefIdeal.main_arg2) = m ((c.tc : Thread Cert.RmsResInIdeal.nD Cert.RmsResInIdeal.τ).loc Cert.RmsResInIdeal.main_arg2)
      ∧ m' ((c.tc : Thread Cert.RmsResInRefIdeal.nD Cert.RmsResInRefIdeal.τ).loc Cert.RmsResInRefIdeal.main_arg3) = m ((c.tc : Thread Cert.RmsResInIdeal.nD Cert.RmsResInIdeal.τ).loc Cert.RmsResInIdeal.main_arg3)) →
    ∃ (v0 : (c : Dev Cert.RmsResInIdeal.nD) → Buf (Elt Ideal) ((c.tc : Thread Cert.RmsResInIdeal.nD Cert.RmsResInIdeal.τ).loc Cert.RmsResInIdeal.main_v0_0)) (v1 : (c : Dev Cert.RmsResInIdeal.nD) → Buf (Elt Ideal) ((c.tc : Thread Cert.RmsResInIdeal.nD Cert.RmsResInIdeal.τ).loc Cert.RmsResInIdeal.main_v0_1)),
      θ_run (Cert.RmsResInIdeal.defs (F := Ideal)) (onTc (τ := Cert.RmsResInIdeal.τ) (Cert.RmsResInIdeal.main (F := Ideal))) ⟨m, fun _ => 0, g⟩ (fun r => ∀ c : Dev Cert.RmsResInIdeal.nD,
          r.2.mem ((c.tc : Thread Cert.RmsResInIdeal.nD Cert.RmsResInIdeal.τ).loc Cert.RmsResInIdeal.main_v0_0) = v0 c
          ∧ r.2.mem ((c.tc : Thread Cert.RmsResInIdeal.nD Cert.RmsResInIdeal.τ).loc Cert.RmsResInIdeal.main_v0_1) = v1 c
          ∧ r.2.mem ((c.tc : Thread Cert.RmsResInIdeal.nD Cert.RmsResInIdeal.τ).loc Cert.RmsResInIdeal.main_arg0) = m ((c.tc : Thread Cert.RmsResInIdeal.nD Cert.RmsResInIdeal.τ).loc Cert.RmsResInIdeal.main_arg0)
          ∧ r.2.mem ((c.tc : Thread Cert.RmsResInIdeal.nD Cert.RmsResInIdeal.τ).loc Cert.RmsResInIdeal.main_arg1) = m ((c.tc : Thread Cert.RmsResInIdeal.nD Cert.RmsResInIdeal.τ).loc Cert.RmsResInIdeal.main_arg1)
          ∧ r.2.mem ((c.tc : Thread Cert.RmsResInIdeal.nD Cert.RmsResInIdeal.τ).loc Cert.RmsResInIdeal.main_arg2) = m ((c.tc : Thread Cert.RmsResInIdeal.nD Cert.RmsResInIdeal.τ).loc Cert.RmsResInIdeal.main_arg2)
          ∧ r.2.mem ((c.tc : Thread Cert.RmsResInIdeal.nD Cert.RmsResInIdeal.τ).loc Cert.RmsResInIdeal.main_arg3) = m ((c.tc : Thread Cert.RmsResInIdeal.nD Cert.RmsResInIdeal.τ).loc Cert.RmsResInIdeal.main_arg3))
      ∧ θ_run (Cert.RmsResInRefIdeal.defs (F := Ideal)) (onTc (τ := Cert.RmsResInRefIdeal.τ) (Cert.RmsResInRefIdeal.main (F := Ideal))) ⟨m', fun _ => 0, g'⟩ (fun r => ∀ c : Dev Cert.RmsResInRefIdeal.nD,
          r.2.mem ((c.tc : Thread Cert.RmsResInRefIdeal.nD Cert.RmsResInRefIdeal.τ).loc Cert.RmsResInRefIdeal.main_v14) = v0 c
          ∧ r.2.mem ((c.tc : Thread Cert.RmsResInRefIdeal.nD Cert.RmsResInRefIdeal.τ).loc Cert.RmsResInRefIdeal.main_v29) = v1 c
          ∧ r.2.mem ((c.tc : Thread Cert.RmsResInRefIdeal.nD Cert.RmsResInRefIdeal.τ).loc Cert.RmsResInRefIdeal.main_arg0) = m' ((c.tc : Thread Cert.RmsResInRefIdeal.nD Cert.RmsResInRefIdeal.τ).loc Cert.RmsResInRefIdeal.main_arg0)
          ∧ r.2.mem ((c.tc : Thread Cert.RmsResInRefIdeal.nD Cert.RmsResInRefIdeal.τ).loc Cert.RmsResInRefIdeal.main_arg1) = m' ((c.tc : Thread Cert.RmsResInRefIdeal.nD Cert.RmsResInRefIdeal.τ).loc Cert.RmsResInRefIdeal.main_arg1)
          ∧ r.2.mem ((c.tc : Thread Cert.RmsResInRefIdeal.nD Cert.RmsResInRefIdeal.τ).loc Cert.RmsResInRefIdeal.main_arg2) = m' ((c.tc : Thread Cert.RmsResInRefIdeal.nD Cert.RmsResInRefIdeal.τ).loc Cert.RmsResInRefIdeal.main_arg2)
          ∧ r.2.mem ((c.tc : Thread Cert.RmsResInRefIdeal.nD Cert.RmsResInRefIdeal.τ).loc Cert.RmsResInRefIdeal.main_arg3) = m' ((c.tc : Thread Cert.RmsResInRefIdeal.nD Cert.RmsResInRefIdeal.τ).loc Cert.RmsResInRefIdeal.main_arg3))

def preserves_RmsBwd_RmsBwdIdeal : Prop :=
  True

def algebraic_RmsBwdIdeal_RmsBwdRefIdeal [hRmsBwdIdeal : Cert.RmsBwdIdeal.Facts] [hRmsBwdRefIdeal : Cert.RmsBwdRefIdeal.Facts] : Prop :=
  ∀ (m : (ℓ : Loc Cert.RmsBwdIdeal.nD Cert.RmsBwdIdeal.τ Cert.RmsBwdIdeal.sig) → Buf (Elt Ideal) ℓ) (g : Dev Cert.RmsBwdIdeal.nD → PrngReg)
    (m' : (ℓ : Loc Cert.RmsBwdRefIdeal.nD Cert.RmsBwdRefIdeal.τ Cert.RmsBwdRefIdeal.sig) → Buf (Elt Ideal) ℓ) (g' : Dev Cert.RmsBwdRefIdeal.nD → PrngReg), Pre_RmsBwdIdeal m →
    (∀ c : Dev Cert.RmsBwdIdeal.nD,
      m' ((c.tc : Thread Cert.RmsBwdRefIdeal.nD Cert.RmsBwdRefIdeal.τ).loc Cert.RmsBwdRefIdeal.main_arg0) = m ((c.tc : Thread Cert.RmsBwdIdeal.nD Cert.RmsBwdIdeal.τ).loc Cert.RmsBwdIdeal.main_arg0)
      ∧ m' ((c.tc : Thread Cert.RmsBwdRefIdeal.nD Cert.RmsBwdRefIdeal.τ).loc Cert.RmsBwdRefIdeal.main_arg1) = m ((c.tc : Thread Cert.RmsBwdIdeal.nD Cert.RmsBwdIdeal.τ).loc Cert.RmsBwdIdeal.main_arg1)
      ∧ m' ((c.tc : Thread Cert.RmsBwdRefIdeal.nD Cert.RmsBwdRefIdeal.τ).loc Cert.RmsBwdRefIdeal.main_arg2) = m ((c.tc : Thread Cert.RmsBwdIdeal.nD Cert.RmsBwdIdeal.τ).loc Cert.RmsBwdIdeal.main_arg2)) →
    ∃ (v0 : (c : Dev Cert.RmsBwdIdeal.nD) → Buf (Elt Ideal) ((c.tc : Thread Cert.RmsBwdIdeal.nD Cert.RmsBwdIdeal.τ).loc Cert.RmsBwdIdeal.main_v0_0)) (v1 : (c : Dev Cert.RmsBwdIdeal.nD) → Buf (Elt Ideal) ((c.tc : Thread Cert.RmsBwdIdeal.nD Cert.RmsBwdIdeal.τ).loc Cert.RmsBwdIdeal.main_v0_1)),
      θ_run (Cert.RmsBwdIdeal.defs (F := Ideal)) (onTc (τ := Cert.RmsBwdIdeal.τ) (Cert.RmsBwdIdeal.main (F := Ideal))) ⟨m, fun _ => 0, g⟩ (fun r => ∀ c : Dev Cert.RmsBwdIdeal.nD,
          r.2.mem ((c.tc : Thread Cert.RmsBwdIdeal.nD Cert.RmsBwdIdeal.τ).loc Cert.RmsBwdIdeal.main_v0_0) = v0 c
          ∧ r.2.mem ((c.tc : Thread Cert.RmsBwdIdeal.nD Cert.RmsBwdIdeal.τ).loc Cert.RmsBwdIdeal.main_v0_1) = v1 c
          ∧ r.2.mem ((c.tc : Thread Cert.RmsBwdIdeal.nD Cert.RmsBwdIdeal.τ).loc Cert.RmsBwdIdeal.main_arg0) = m ((c.tc : Thread Cert.RmsBwdIdeal.nD Cert.RmsBwdIdeal.τ).loc Cert.RmsBwdIdeal.main_arg0)
          ∧ r.2.mem ((c.tc : Thread Cert.RmsBwdIdeal.nD Cert.RmsBwdIdeal.τ).loc Cert.RmsBwdIdeal.main_arg1) = m ((c.tc : Thread Cert.RmsBwdIdeal.nD Cert.RmsBwdIdeal.τ).loc Cert.RmsBwdIdeal.main_arg1)
          ∧ r.2.mem ((c.tc : Thread Cert.RmsBwdIdeal.nD Cert.RmsBwdIdeal.τ).loc Cert.RmsBwdIdeal.main_arg2) = m ((c.tc : Thread Cert.RmsBwdIdeal.nD Cert.RmsBwdIdeal.τ).loc Cert.RmsBwdIdeal.main_arg2))
      ∧ θ_run (Cert.RmsBwdRefIdeal.defs (F := Ideal)) (onTc (τ := Cert.RmsBwdRefIdeal.τ) (Cert.RmsBwdRefIdeal.main (F := Ideal))) ⟨m', fun _ => 0, g'⟩ (fun r => ∀ c : Dev Cert.RmsBwdRefIdeal.nD,
          r.2.mem ((c.tc : Thread Cert.RmsBwdRefIdeal.nD Cert.RmsBwdRefIdeal.τ).loc Cert.RmsBwdRefIdeal.main_v37) = v0 c
          ∧ r.2.mem ((c.tc : Thread Cert.RmsBwdRefIdeal.nD Cert.RmsBwdRefIdeal.τ).loc Cert.RmsBwdRefIdeal.main_v38) = v1 c
          ∧ r.2.mem ((c.tc : Thread Cert.RmsBwdRefIdeal.nD Cert.RmsBwdRefIdeal.τ).loc Cert.RmsBwdRefIdeal.main_arg0) = m' ((c.tc : Thread Cert.RmsBwdRefIdeal.nD Cert.RmsBwdRefIdeal.τ).loc Cert.RmsBwdRefIdeal.main_arg0)
          ∧ r.2.mem ((c.tc : Thread Cert.RmsBwdRefIdeal.nD Cert.RmsBwdRefIdeal.τ).loc Cert.RmsBwdRefIdeal.main_arg1) = m' ((c.tc : Thread Cert.RmsBwdRefIdeal.nD Cert.RmsBwdRefIdeal.τ).loc Cert.RmsBwdRefIdeal.main_arg1)
          ∧ r.2.mem ((c.tc : Thread Cert.RmsBwdRefIdeal.nD Cert.RmsBwdRefIdeal.τ).loc Cert.RmsBwdRefIdeal.main_arg2) = m' ((c.tc : Thread Cert.RmsBwdRefIdeal.nD Cert.RmsBwdRefIdeal.τ).loc Cert.RmsBwdRefIdeal.main_arg2))

def preserves_RmsBwdRes_RmsBwdResIdeal : Prop :=
  True

def algebraic_RmsBwdResIdeal_RmsBwdResRefIdeal [hRmsBwdResIdeal : Cert.RmsBwdResIdeal.Facts] [hRmsBwdResRefIdeal : Cert.RmsBwdResRefIdeal.Facts] : Prop :=
  ∀ (m : (ℓ : Loc Cert.RmsBwdResIdeal.nD Cert.RmsBwdResIdeal.τ Cert.RmsBwdResIdeal.sig) → Buf (Elt Ideal) ℓ) (g : Dev Cert.RmsBwdResIdeal.nD → PrngReg)
    (m' : (ℓ : Loc Cert.RmsBwdResRefIdeal.nD Cert.RmsBwdResRefIdeal.τ Cert.RmsBwdResRefIdeal.sig) → Buf (Elt Ideal) ℓ) (g' : Dev Cert.RmsBwdResRefIdeal.nD → PrngReg), Pre_RmsBwdResIdeal m →
    (∀ c : Dev Cert.RmsBwdResIdeal.nD,
      m' ((c.tc : Thread Cert.RmsBwdResRefIdeal.nD Cert.RmsBwdResRefIdeal.τ).loc Cert.RmsBwdResRefIdeal.main_arg0) = m ((c.tc : Thread Cert.RmsBwdResIdeal.nD Cert.RmsBwdResIdeal.τ).loc Cert.RmsBwdResIdeal.main_arg0)
      ∧ m' ((c.tc : Thread Cert.RmsBwdResRefIdeal.nD Cert.RmsBwdResRefIdeal.τ).loc Cert.RmsBwdResRefIdeal.main_arg1) = m ((c.tc : Thread Cert.RmsBwdResIdeal.nD Cert.RmsBwdResIdeal.τ).loc Cert.RmsBwdResIdeal.main_arg1)
      ∧ m' ((c.tc : Thread Cert.RmsBwdResRefIdeal.nD Cert.RmsBwdResRefIdeal.τ).loc Cert.RmsBwdResRefIdeal.main_arg2) = m ((c.tc : Thread Cert.RmsBwdResIdeal.nD Cert.RmsBwdResIdeal.τ).loc Cert.RmsBwdResIdeal.main_arg2)
      ∧ m' ((c.tc : Thread Cert.RmsBwdResRefIdeal.nD Cert.RmsBwdResRefIdeal.τ).loc Cert.RmsBwdResRefIdeal.main_arg3) = m ((c.tc : Thread Cert.RmsBwdResIdeal.nD Cert.RmsBwdResIdeal.τ).loc Cert.RmsBwdResIdeal.main_arg3)) →
    ∃ (v0 : (c : Dev Cert.RmsBwdResIdeal.nD) → Buf (Elt Ideal) ((c.tc : Thread Cert.RmsBwdResIdeal.nD Cert.RmsBwdResIdeal.τ).loc Cert.RmsBwdResIdeal.main_v0_0)) (v1 : (c : Dev Cert.RmsBwdResIdeal.nD) → Buf (Elt Ideal) ((c.tc : Thread Cert.RmsBwdResIdeal.nD Cert.RmsBwdResIdeal.τ).loc Cert.RmsBwdResIdeal.main_v0_1)),
      θ_run (Cert.RmsBwdResIdeal.defs (F := Ideal)) (onTc (τ := Cert.RmsBwdResIdeal.τ) (Cert.RmsBwdResIdeal.main (F := Ideal))) ⟨m, fun _ => 0, g⟩ (fun r => ∀ c : Dev Cert.RmsBwdResIdeal.nD,
          r.2.mem ((c.tc : Thread Cert.RmsBwdResIdeal.nD Cert.RmsBwdResIdeal.τ).loc Cert.RmsBwdResIdeal.main_v0_0) = v0 c
          ∧ r.2.mem ((c.tc : Thread Cert.RmsBwdResIdeal.nD Cert.RmsBwdResIdeal.τ).loc Cert.RmsBwdResIdeal.main_v0_1) = v1 c
          ∧ r.2.mem ((c.tc : Thread Cert.RmsBwdResIdeal.nD Cert.RmsBwdResIdeal.τ).loc Cert.RmsBwdResIdeal.main_arg0) = m ((c.tc : Thread Cert.RmsBwdResIdeal.nD Cert.RmsBwdResIdeal.τ).loc Cert.RmsBwdResIdeal.main_arg0)
          ∧ r.2.mem ((c.tc : Thread Cert.RmsBwdResIdeal.nD Cert.RmsBwdResIdeal.τ).loc Cert.RmsBwdResIdeal.main_arg1) = m ((c.tc : Thread Cert.RmsBwdResIdeal.nD Cert.RmsBwdResIdeal.τ).loc Cert.RmsBwdResIdeal.main_arg1)
          ∧ r.2.mem ((c.tc : Thread Cert.RmsBwdResIdeal.nD Cert.RmsBwdResIdeal.τ).loc Cert.RmsBwdResIdeal.main_arg2) = m ((c.tc : Thread Cert.RmsBwdResIdeal.nD Cert.RmsBwdResIdeal.τ).loc Cert.RmsBwdResIdeal.main_arg2)
          ∧ r.2.mem ((c.tc : Thread Cert.RmsBwdResIdeal.nD Cert.RmsBwdResIdeal.τ).loc Cert.RmsBwdResIdeal.main_arg3) = m ((c.tc : Thread Cert.RmsBwdResIdeal.nD Cert.RmsBwdResIdeal.τ).loc Cert.RmsBwdResIdeal.main_arg3))
      ∧ θ_run (Cert.RmsBwdResRefIdeal.defs (F := Ideal)) (onTc (τ := Cert.RmsBwdResRefIdeal.τ) (Cert.RmsBwdResRefIdeal.main (F := Ideal))) ⟨m', fun _ => 0, g'⟩ (fun r => ∀ c : Dev Cert.RmsBwdResRefIdeal.nD,
          r.2.mem ((c.tc : Thread Cert.RmsBwdResRefIdeal.nD Cert.RmsBwdResRefIdeal.τ).loc Cert.RmsBwdResRefIdeal.main_v37) = v0 c
          ∧ r.2.mem ((c.tc : Thread Cert.RmsBwdResRefIdeal.nD Cert.RmsBwdResRefIdeal.τ).loc Cert.RmsBwdResRefIdeal.main_v38) = v1 c
          ∧ r.2.mem ((c.tc : Thread Cert.RmsBwdResRefIdeal.nD Cert.RmsBwdResRefIdeal.τ).loc Cert.RmsBwdResRefIdeal.main_arg0) = m' ((c.tc : Thread Cert.RmsBwdResRefIdeal.nD Cert.RmsBwdResRefIdeal.τ).loc Cert.RmsBwdResRefIdeal.main_arg0)
          ∧ r.2.mem ((c.tc : Thread Cert.RmsBwdResRefIdeal.nD Cert.RmsBwdResRefIdeal.τ).loc Cert.RmsBwdResRefIdeal.main_arg1) = m' ((c.tc : Thread Cert.RmsBwdResRefIdeal.nD Cert.RmsBwdResRefIdeal.τ).loc Cert.RmsBwdResRefIdeal.main_arg1)
          ∧ r.2.mem ((c.tc : Thread Cert.RmsBwdResRefIdeal.nD Cert.RmsBwdResRefIdeal.τ).loc Cert.RmsBwdResRefIdeal.main_arg2) = m' ((c.tc : Thread Cert.RmsBwdResRefIdeal.nD Cert.RmsBwdResRefIdeal.τ).loc Cert.RmsBwdResRefIdeal.main_arg2)
          ∧ r.2.mem ((c.tc : Thread Cert.RmsBwdResRefIdeal.nD Cert.RmsBwdResRefIdeal.τ).loc Cert.RmsBwdResRefIdeal.main_arg3) = m' ((c.tc : Thread Cert.RmsBwdResRefIdeal.nD Cert.RmsBwdResRefIdeal.τ).loc Cert.RmsBwdResRefIdeal.main_arg3))

def preserves_RmsBwdTwo_RmsBwdTwoIdeal : Prop :=
  True

def algebraic_RmsBwdTwoIdeal_RmsBwdTwoRefIdeal [hRmsBwdTwoIdeal : Cert.RmsBwdTwoIdeal.Facts] [hRmsBwdTwoRefIdeal : Cert.RmsBwdTwoRefIdeal.Facts] : Prop :=
  ∀ (m : (ℓ : Loc Cert.RmsBwdTwoIdeal.nD Cert.RmsBwdTwoIdeal.τ Cert.RmsBwdTwoIdeal.sig) → Buf (Elt Ideal) ℓ) (g : Dev Cert.RmsBwdTwoIdeal.nD → PrngReg)
    (m' : (ℓ : Loc Cert.RmsBwdTwoRefIdeal.nD Cert.RmsBwdTwoRefIdeal.τ Cert.RmsBwdTwoRefIdeal.sig) → Buf (Elt Ideal) ℓ) (g' : Dev Cert.RmsBwdTwoRefIdeal.nD → PrngReg), Pre_RmsBwdTwoIdeal m →
    (∀ c : Dev Cert.RmsBwdTwoIdeal.nD,
      m' ((c.tc : Thread Cert.RmsBwdTwoRefIdeal.nD Cert.RmsBwdTwoRefIdeal.τ).loc Cert.RmsBwdTwoRefIdeal.main_arg0) = m ((c.tc : Thread Cert.RmsBwdTwoIdeal.nD Cert.RmsBwdTwoIdeal.τ).loc Cert.RmsBwdTwoIdeal.main_arg0)
      ∧ m' ((c.tc : Thread Cert.RmsBwdTwoRefIdeal.nD Cert.RmsBwdTwoRefIdeal.τ).loc Cert.RmsBwdTwoRefIdeal.main_arg1) = m ((c.tc : Thread Cert.RmsBwdTwoIdeal.nD Cert.RmsBwdTwoIdeal.τ).loc Cert.RmsBwdTwoIdeal.main_arg1)
      ∧ m' ((c.tc : Thread Cert.RmsBwdTwoRefIdeal.nD Cert.RmsBwdTwoRefIdeal.τ).loc Cert.RmsBwdTwoRefIdeal.main_arg2) = m ((c.tc : Thread Cert.RmsBwdTwoIdeal.nD Cert.RmsBwdTwoIdeal.τ).loc Cert.RmsBwdTwoIdeal.main_arg2)
      ∧ m' ((c.tc : Thread Cert.RmsBwdTwoRefIdeal.nD Cert.RmsBwdTwoRefIdeal.τ).loc Cert.RmsBwdTwoRefIdeal.main_arg3) = m ((c.tc : Thread Cert.RmsBwdTwoIdeal.nD Cert.RmsBwdTwoIdeal.τ).loc Cert.RmsBwdTwoIdeal.main_arg3)
      ∧ m' ((c.tc : Thread Cert.RmsBwdTwoRefIdeal.nD Cert.RmsBwdTwoRefIdeal.τ).loc Cert.RmsBwdTwoRefIdeal.main_arg4) = m ((c.tc : Thread Cert.RmsBwdTwoIdeal.nD Cert.RmsBwdTwoIdeal.τ).loc Cert.RmsBwdTwoIdeal.main_arg4)
      ∧ m' ((c.tc : Thread Cert.RmsBwdTwoRefIdeal.nD Cert.RmsBwdTwoRefIdeal.τ).loc Cert.RmsBwdTwoRefIdeal.main_arg5) = m ((c.tc : Thread Cert.RmsBwdTwoIdeal.nD Cert.RmsBwdTwoIdeal.τ).loc Cert.RmsBwdTwoIdeal.main_arg5)) →
    ∃ (v0 : (c : Dev Cert.RmsBwdTwoIdeal.nD) → Buf (Elt Ideal) ((c.tc : Thread Cert.RmsBwdTwoIdeal.nD Cert.RmsBwdTwoIdeal.τ).loc Cert.RmsBwdTwoIdeal.main_v0_0)) (v1 : (c : Dev Cert.RmsBwdTwoIdeal.nD) → Buf (Elt Ideal) ((c.tc : Thread Cert.RmsBwdTwoIdeal.nD Cert.RmsBwdTwoIdeal.τ).loc Cert.RmsBwdTwoIdeal.main_v0_1)) (v2 : (c : Dev Cert.RmsBwdTwoIdeal.nD) → Buf (Elt Ideal) ((c.tc : Thread Cert.RmsBwdTwoIdeal.nD Cert.RmsBwdTwoIdeal.τ).loc Cert.RmsBwdTwoIdeal.main_v0_2)) (v3 : (c : Dev Cert.RmsBwdTwoIdeal.nD) → Buf (Elt Ideal) ((c.tc : Thread Cert.RmsBwdTwoIdeal.nD Cert.RmsBwdTwoIdeal.τ).loc Cert.RmsBwdTwoIdeal.main_v0_3)),
      θ_run (Cert.RmsBwdTwoIdeal.defs (F := Ideal)) (onTc (τ := Cert.RmsBwdTwoIdeal.τ) (Cert.RmsBwdTwoIdeal.main (F := Ideal))) ⟨m, fun _ => 0, g⟩ (fun r => ∀ c : Dev Cert.RmsBwdTwoIdeal.nD,
          r.2.mem ((c.tc : Thread Cert.RmsBwdTwoIdeal.nD Cert.RmsBwdTwoIdeal.τ).loc Cert.RmsBwdTwoIdeal.main_v0_0) = v0 c
          ∧ r.2.mem ((c.tc : Thread Cert.RmsBwdTwoIdeal.nD Cert.RmsBwdTwoIdeal.τ).loc Cert.RmsBwdTwoIdeal.main_v0_1) = v1 c
          ∧ r.2.mem ((c.tc : Thread Cert.RmsBwdTwoIdeal.nD Cert.RmsBwdTwoIdeal.τ).loc Cert.RmsBwdTwoIdeal.main_v0_2) = v2 c
          ∧ r.2.mem ((c.tc : Thread Cert.RmsBwdTwoIdeal.nD Cert.RmsBwdTwoIdeal.τ).loc Cert.RmsBwdTwoIdeal.main_v0_3) = v3 c
          ∧ r.2.mem ((c.tc : Thread Cert.RmsBwdTwoIdeal.nD Cert.RmsBwdTwoIdeal.τ).loc Cert.RmsBwdTwoIdeal.main_arg0) = m ((c.tc : Thread Cert.RmsBwdTwoIdeal.nD Cert.RmsBwdTwoIdeal.τ).loc Cert.RmsBwdTwoIdeal.main_arg0)
          ∧ r.2.mem ((c.tc : Thread Cert.RmsBwdTwoIdeal.nD Cert.RmsBwdTwoIdeal.τ).loc Cert.RmsBwdTwoIdeal.main_arg1) = m ((c.tc : Thread Cert.RmsBwdTwoIdeal.nD Cert.RmsBwdTwoIdeal.τ).loc Cert.RmsBwdTwoIdeal.main_arg1)
          ∧ r.2.mem ((c.tc : Thread Cert.RmsBwdTwoIdeal.nD Cert.RmsBwdTwoIdeal.τ).loc Cert.RmsBwdTwoIdeal.main_arg2) = m ((c.tc : Thread Cert.RmsBwdTwoIdeal.nD Cert.RmsBwdTwoIdeal.τ).loc Cert.RmsBwdTwoIdeal.main_arg2)
          ∧ r.2.mem ((c.tc : Thread Cert.RmsBwdTwoIdeal.nD Cert.RmsBwdTwoIdeal.τ).loc Cert.RmsBwdTwoIdeal.main_arg3) = m ((c.tc : Thread Cert.RmsBwdTwoIdeal.nD Cert.RmsBwdTwoIdeal.τ).loc Cert.RmsBwdTwoIdeal.main_arg3)
          ∧ r.2.mem ((c.tc : Thread Cert.RmsBwdTwoIdeal.nD Cert.RmsBwdTwoIdeal.τ).loc Cert.RmsBwdTwoIdeal.main_arg4) = m ((c.tc : Thread Cert.RmsBwdTwoIdeal.nD Cert.RmsBwdTwoIdeal.τ).loc Cert.RmsBwdTwoIdeal.main_arg4)
          ∧ r.2.mem ((c.tc : Thread Cert.RmsBwdTwoIdeal.nD Cert.RmsBwdTwoIdeal.τ).loc Cert.RmsBwdTwoIdeal.main_arg5) = m ((c.tc : Thread Cert.RmsBwdTwoIdeal.nD Cert.RmsBwdTwoIdeal.τ).loc Cert.RmsBwdTwoIdeal.main_arg5))
      ∧ θ_run (Cert.RmsBwdTwoRefIdeal.defs (F := Ideal)) (onTc (τ := Cert.RmsBwdTwoRefIdeal.τ) (Cert.RmsBwdTwoRefIdeal.main (F := Ideal))) ⟨m', fun _ => 0, g'⟩ (fun r => ∀ c : Dev Cert.RmsBwdTwoRefIdeal.nD,
          r.2.mem ((c.tc : Thread Cert.RmsBwdTwoRefIdeal.nD Cert.RmsBwdTwoRefIdeal.τ).loc Cert.RmsBwdTwoRefIdeal.main_v37) = v0 c
          ∧ r.2.mem ((c.tc : Thread Cert.RmsBwdTwoRefIdeal.nD Cert.RmsBwdTwoRefIdeal.τ).loc Cert.RmsBwdTwoRefIdeal.main_v75) = v1 c
          ∧ r.2.mem ((c.tc : Thread Cert.RmsBwdTwoRefIdeal.nD Cert.RmsBwdTwoRefIdeal.τ).loc Cert.RmsBwdTwoRefIdeal.main_v76) = v2 c
          ∧ r.2.mem ((c.tc : Thread Cert.RmsBwdTwoRefIdeal.nD Cert.RmsBwdTwoRefIdeal.τ).loc Cert.RmsBwdTwoRefIdeal.main_v77) = v3 c
          ∧ r.2.mem ((c.tc : Thread Cert.RmsBwdTwoRefIdeal.nD Cert.RmsBwdTwoRefIdeal.τ).loc Cert.RmsBwdTwoRefIdeal.main_arg0) = m' ((c.tc : Thread Cert.RmsBwdTwoRefIdeal.nD Cert.RmsBwdTwoRefIdeal.τ).loc Cert.RmsBwdTwoRefIdeal.main_arg0)
          ∧ r.2.mem ((c.tc : Thread Cert.RmsBwdTwoRefIdeal.nD Cert.RmsBwdTwoRefIdeal.τ).loc Cert.RmsBwdTwoRefIdeal.main_arg1) = m' ((c.tc : Thread Cert.RmsBwdTwoRefIdeal.nD Cert.RmsBwdTwoRefIdeal.τ).loc Cert.RmsBwdTwoRefIdeal.main_arg1)
          ∧ r.2.mem ((c.tc : Thread Cert.RmsBwdTwoRefIdeal.nD Cert.RmsBwdTwoRefIdeal.τ).loc Cert.RmsBwdTwoRefIdeal.main_arg2) = m' ((c.tc : Thread Cert.RmsBwdTwoRefIdeal.nD Cert.RmsBwdTwoRefIdeal.τ).loc Cert.RmsBwdTwoRefIdeal.main_arg2)
          ∧ r.2.mem ((c.tc : Thread Cert.RmsBwdTwoRefIdeal.nD Cert.RmsBwdTwoRefIdeal.τ).loc Cert.RmsBwdTwoRefIdeal.main_arg3) = m' ((c.tc : Thread Cert.RmsBwdTwoRefIdeal.nD Cert.RmsBwdTwoRefIdeal.τ).loc Cert.RmsBwdTwoRefIdeal.main_arg3)
          ∧ r.2.mem ((c.tc : Thread Cert.RmsBwdTwoRefIdeal.nD Cert.RmsBwdTwoRefIdeal.τ).loc Cert.RmsBwdTwoRefIdeal.main_arg4) = m' ((c.tc : Thread Cert.RmsBwdTwoRefIdeal.nD Cert.RmsBwdTwoRefIdeal.τ).loc Cert.RmsBwdTwoRefIdeal.main_arg4)
          ∧ r.2.mem ((c.tc : Thread Cert.RmsBwdTwoRefIdeal.nD Cert.RmsBwdTwoRefIdeal.τ).loc Cert.RmsBwdTwoRefIdeal.main_arg5) = m' ((c.tc : Thread Cert.RmsBwdTwoRefIdeal.nD Cert.RmsBwdTwoRefIdeal.τ).loc Cert.RmsBwdTwoRefIdeal.main_arg5))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hQkv : Cert.Qkv.Facts) (hQkvIdeal : Cert.QkvIdeal.Facts) (hQkvRefIdeal : Cert.QkvRefIdeal.Facts) (hOA : Cert.OA.Facts) (hOAIdeal : Cert.OAIdeal.Facts) (hOARefIdeal : Cert.OARefIdeal.Facts) (hKv : Cert.Kv.Facts) (hKvIdeal : Cert.KvIdeal.Facts) (hKvRefIdeal : Cert.KvRefIdeal.Facts) (hGate : Cert.Gate.Facts) (hGateIdeal : Cert.GateIdeal.Facts) (hGateRefIdeal : Cert.GateRefIdeal.Facts) (hQB : Cert.QB.Facts) (hQBIdeal : Cert.QBIdeal.Facts) (hQBRefIdeal : Cert.QBRefIdeal.Facts) (hOB : Cert.OB.Facts) (hOBIdeal : Cert.OBIdeal.Facts) (hOBRefIdeal : Cert.OBRefIdeal.Facts) (hOADx : Cert.OADx.Facts) (hOADxIdeal : Cert.OADxIdeal.Facts) (hOADxRefIdeal : Cert.OADxRefIdeal.Facts) (hOADw : Cert.OADw.Facts) (hOADwIdeal : Cert.OADwIdeal.Facts) (hOADwRefIdeal : Cert.OADwRefIdeal.Facts) (hQkvDx : Cert.QkvDx.Facts) (hQkvDxIdeal : Cert.QkvDxIdeal.Facts) (hQkvDxRefIdeal : Cert.QkvDxRefIdeal.Facts) (hQkvDw : Cert.QkvDw.Facts) (hQkvDwIdeal : Cert.QkvDwIdeal.Facts) (hQkvDwRefIdeal : Cert.QkvDwRefIdeal.Facts) (hOBDx : Cert.OBDx.Facts) (hOBDxIdeal : Cert.OBDxIdeal.Facts) (hOBDxRefIdeal : Cert.OBDxRefIdeal.Facts) (hOBDw : Cert.OBDw.Facts) (hOBDwIdeal : Cert.OBDwIdeal.Facts) (hOBDwRefIdeal : Cert.OBDwRefIdeal.Facts) (hQBDx : Cert.QBDx.Facts) (hQBDxIdeal : Cert.QBDxIdeal.Facts) (hQBDxRefIdeal : Cert.QBDxRefIdeal.Facts) (hQBDw : Cert.QBDw.Facts) (hQBDwIdeal : Cert.QBDwIdeal.Facts) (hQBDwRefIdeal : Cert.QBDwRefIdeal.Facts) (hKvfDx : Cert.KvfDx.Facts) (hKvfDxIdeal : Cert.KvfDxIdeal.Facts) (hKvfDxRefIdeal : Cert.KvfDxRefIdeal.Facts) (hKvfDw : Cert.KvfDw.Facts) (hKvfDwIdeal : Cert.KvfDwIdeal.Facts) (hKvfDwRefIdeal : Cert.KvfDwRefIdeal.Facts) (hFoxFwd : Cert.FoxFwd.Facts) (hFoxFwdIdeal : Cert.FoxFwdIdeal.Facts) (hFoxFwdRefIdeal : Cert.FoxFwdRefIdeal.Facts) (hFoxAdd : Cert.FoxAdd.Facts) (hFoxAddIdeal : Cert.FoxAddIdeal.Facts) (hFoxAddRefIdeal : Cert.FoxAddRefIdeal.Facts) (hConvBwd : Cert.ConvBwd.Facts) (hConvBwdIdeal : Cert.ConvBwdIdeal.Facts) (hConvBwdRefIdeal : Cert.ConvBwdRefIdeal.Facts) (hConvFwd : Cert.ConvFwd.Facts) (hConvFwdIdeal : Cert.ConvFwdIdeal.Facts) (hConvFwdRefIdeal : Cert.ConvFwdRefIdeal.Facts) (hRmsIn : Cert.RmsIn.Facts) (hRmsInIdeal : Cert.RmsInIdeal.Facts) (hRmsInRefIdeal : Cert.RmsInRefIdeal.Facts) (hRmsRes : Cert.RmsRes.Facts) (hRmsResIdeal : Cert.RmsResIdeal.Facts) (hRmsResRefIdeal : Cert.RmsResRefIdeal.Facts) (hRmsResIn : Cert.RmsResIn.Facts) (hRmsResInIdeal : Cert.RmsResInIdeal.Facts) (hRmsResInRefIdeal : Cert.RmsResInRefIdeal.Facts) (hRmsBwd : Cert.RmsBwd.Facts) (hRmsBwdIdeal : Cert.RmsBwdIdeal.Facts) (hRmsBwdRefIdeal : Cert.RmsBwdRefIdeal.Facts) (hRmsBwdRes : Cert.RmsBwdRes.Facts) (hRmsBwdResIdeal : Cert.RmsBwdResIdeal.Facts) (hRmsBwdResRefIdeal : Cert.RmsBwdResRefIdeal.Facts) (hRmsBwdTwo : Cert.RmsBwdTwo.Facts) (hRmsBwdTwoIdeal : Cert.RmsBwdTwoIdeal.Facts) (hRmsBwdTwoRefIdeal : Cert.RmsBwdTwoRefIdeal.Facts) (hPre_finite : Cert.Pre_finite.Facts) (hPre_finite_fwd : Cert.Pre_finite_fwd.Facts) (hPre_finite_add : Cert.Pre_finite_add.Facts) (hPre_finite_conv : Cert.Pre_finite_conv.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Qkv (hQkv := hQkv)
    ∧ quiescent_QkvIdeal (hQkvIdeal := hQkvIdeal)
    ∧ quiescent_QkvRefIdeal (hQkvRefIdeal := hQkvRefIdeal)
    ∧ quiescent_OA (hOA := hOA)
    ∧ quiescent_OAIdeal (hOAIdeal := hOAIdeal)
    ∧ quiescent_OARefIdeal (hOARefIdeal := hOARefIdeal)
    ∧ quiescent_Kv (hKv := hKv)
    ∧ quiescent_KvIdeal (hKvIdeal := hKvIdeal)
    ∧ quiescent_KvRefIdeal (hKvRefIdeal := hKvRefIdeal)
    ∧ quiescent_Gate (hGate := hGate)
    ∧ quiescent_GateIdeal (hGateIdeal := hGateIdeal)
    ∧ quiescent_GateRefIdeal (hGateRefIdeal := hGateRefIdeal)
    ∧ quiescent_QB (hQB := hQB)
    ∧ quiescent_QBIdeal (hQBIdeal := hQBIdeal)
    ∧ quiescent_QBRefIdeal (hQBRefIdeal := hQBRefIdeal)
    ∧ quiescent_OB (hOB := hOB)
    ∧ quiescent_OBIdeal (hOBIdeal := hOBIdeal)
    ∧ quiescent_OBRefIdeal (hOBRefIdeal := hOBRefIdeal)
    ∧ quiescent_OADx (hOADx := hOADx)
    ∧ quiescent_OADxIdeal (hOADxIdeal := hOADxIdeal)
    ∧ quiescent_OADxRefIdeal (hOADxRefIdeal := hOADxRefIdeal)
    ∧ quiescent_OADw (hOADw := hOADw)
    ∧ quiescent_OADwIdeal (hOADwIdeal := hOADwIdeal)
    ∧ quiescent_OADwRefIdeal (hOADwRefIdeal := hOADwRefIdeal)
    ∧ quiescent_QkvDx (hQkvDx := hQkvDx)
    ∧ quiescent_QkvDxIdeal (hQkvDxIdeal := hQkvDxIdeal)
    ∧ quiescent_QkvDxRefIdeal (hQkvDxRefIdeal := hQkvDxRefIdeal)
    ∧ quiescent_QkvDw (hQkvDw := hQkvDw)
    ∧ quiescent_QkvDwIdeal (hQkvDwIdeal := hQkvDwIdeal)
    ∧ quiescent_QkvDwRefIdeal (hQkvDwRefIdeal := hQkvDwRefIdeal)
    ∧ quiescent_OBDx (hOBDx := hOBDx)
    ∧ quiescent_OBDxIdeal (hOBDxIdeal := hOBDxIdeal)
    ∧ quiescent_OBDxRefIdeal (hOBDxRefIdeal := hOBDxRefIdeal)
    ∧ quiescent_OBDw (hOBDw := hOBDw)
    ∧ quiescent_OBDwIdeal (hOBDwIdeal := hOBDwIdeal)
    ∧ quiescent_OBDwRefIdeal (hOBDwRefIdeal := hOBDwRefIdeal)
    ∧ quiescent_QBDx (hQBDx := hQBDx)
    ∧ quiescent_QBDxIdeal (hQBDxIdeal := hQBDxIdeal)
    ∧ quiescent_QBDxRefIdeal (hQBDxRefIdeal := hQBDxRefIdeal)
    ∧ quiescent_QBDw (hQBDw := hQBDw)
    ∧ quiescent_QBDwIdeal (hQBDwIdeal := hQBDwIdeal)
    ∧ quiescent_QBDwRefIdeal (hQBDwRefIdeal := hQBDwRefIdeal)
    ∧ quiescent_KvfDx (hKvfDx := hKvfDx)
    ∧ quiescent_KvfDxIdeal (hKvfDxIdeal := hKvfDxIdeal)
    ∧ quiescent_KvfDxRefIdeal (hKvfDxRefIdeal := hKvfDxRefIdeal)
    ∧ quiescent_KvfDw (hKvfDw := hKvfDw)
    ∧ quiescent_KvfDwIdeal (hKvfDwIdeal := hKvfDwIdeal)
    ∧ quiescent_KvfDwRefIdeal (hKvfDwRefIdeal := hKvfDwRefIdeal)
    ∧ quiescent_FoxFwd (hFoxFwd := hFoxFwd)
    ∧ quiescent_FoxFwdIdeal (hFoxFwdIdeal := hFoxFwdIdeal)
    ∧ quiescent_FoxFwdIdeal_pre_finite_fwd (hFoxFwdIdeal := hFoxFwdIdeal) (hPre_finite_fwd := hPre_finite_fwd)
    ∧ quiescent_FoxFwdRefIdeal (hFoxFwdRefIdeal := hFoxFwdRefIdeal)
    ∧ quiescent_FoxFwdRefIdeal_pre_finite_fwd (hFoxFwdRefIdeal := hFoxFwdRefIdeal) (hPre_finite_fwd := hPre_finite_fwd)
    ∧ quiescent_FoxAdd (hFoxAdd := hFoxAdd)
    ∧ quiescent_FoxAddIdeal (hFoxAddIdeal := hFoxAddIdeal)
    ∧ quiescent_FoxAddIdeal_pre_finite_add (hFoxAddIdeal := hFoxAddIdeal) (hPre_finite_add := hPre_finite_add)
    ∧ quiescent_FoxAddRefIdeal (hFoxAddRefIdeal := hFoxAddRefIdeal)
    ∧ quiescent_FoxAddRefIdeal_pre_finite_add (hFoxAddRefIdeal := hFoxAddRefIdeal) (hPre_finite_add := hPre_finite_add)
    ∧ quiescent_ConvBwd (hConvBwd := hConvBwd)
    ∧ quiescent_ConvBwdIdeal (hConvBwdIdeal := hConvBwdIdeal)
    ∧ quiescent_ConvBwdIdeal_pre_finite_conv (hConvBwdIdeal := hConvBwdIdeal) (hPre_finite_conv := hPre_finite_conv)
    ∧ quiescent_ConvBwdRefIdeal (hConvBwdRefIdeal := hConvBwdRefIdeal)
    ∧ quiescent_ConvBwdRefIdeal_pre_finite_conv (hConvBwdRefIdeal := hConvBwdRefIdeal) (hPre_finite_conv := hPre_finite_conv)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ quiescent_RmsIn (hRmsIn := hRmsIn)
    ∧ quiescent_RmsInIdeal (hRmsInIdeal := hRmsInIdeal)
    ∧ quiescent_RmsInRefIdeal (hRmsInRefIdeal := hRmsInRefIdeal)
    ∧ quiescent_RmsRes (hRmsRes := hRmsRes)
    ∧ quiescent_RmsResIdeal (hRmsResIdeal := hRmsResIdeal)
    ∧ quiescent_RmsResRefIdeal (hRmsResRefIdeal := hRmsResRefIdeal)
    ∧ quiescent_RmsResIn (hRmsResIn := hRmsResIn)
    ∧ quiescent_RmsResInIdeal (hRmsResInIdeal := hRmsResInIdeal)
    ∧ quiescent_RmsResInRefIdeal (hRmsResInRefIdeal := hRmsResInRefIdeal)
    ∧ quiescent_RmsBwd (hRmsBwd := hRmsBwd)
    ∧ quiescent_RmsBwdIdeal (hRmsBwdIdeal := hRmsBwdIdeal)
    ∧ quiescent_RmsBwdRefIdeal (hRmsBwdRefIdeal := hRmsBwdRefIdeal)
    ∧ quiescent_RmsBwdRes (hRmsBwdRes := hRmsBwdRes)
    ∧ quiescent_RmsBwdResIdeal (hRmsBwdResIdeal := hRmsBwdResIdeal)
    ∧ quiescent_RmsBwdResRefIdeal (hRmsBwdResRefIdeal := hRmsBwdResRefIdeal)
    ∧ quiescent_RmsBwdTwo (hRmsBwdTwo := hRmsBwdTwo)
    ∧ quiescent_RmsBwdTwoIdeal (hRmsBwdTwoIdeal := hRmsBwdTwoIdeal)
    ∧ quiescent_RmsBwdTwoRefIdeal (hRmsBwdTwoRefIdeal := hRmsBwdTwoRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Qkv_QkvIdeal
    ∧ algebraic_QkvIdeal_QkvRefIdeal (hQkvIdeal := hQkvIdeal) (hQkvRefIdeal := hQkvRefIdeal)
    ∧ preserves_OA_OAIdeal
    ∧ algebraic_OAIdeal_OARefIdeal (hOAIdeal := hOAIdeal) (hOARefIdeal := hOARefIdeal)
    ∧ preserves_Kv_KvIdeal
    ∧ algebraic_KvIdeal_KvRefIdeal (hKvIdeal := hKvIdeal) (hKvRefIdeal := hKvRefIdeal)
    ∧ preserves_Gate_GateIdeal
    ∧ algebraic_GateIdeal_GateRefIdeal (hGateIdeal := hGateIdeal) (hGateRefIdeal := hGateRefIdeal)
    ∧ preserves_QB_QBIdeal
    ∧ algebraic_QBIdeal_QBRefIdeal (hQBIdeal := hQBIdeal) (hQBRefIdeal := hQBRefIdeal)
    ∧ preserves_OB_OBIdeal
    ∧ algebraic_OBIdeal_OBRefIdeal (hOBIdeal := hOBIdeal) (hOBRefIdeal := hOBRefIdeal)
    ∧ preserves_OADx_OADxIdeal
    ∧ algebraic_OADxIdeal_OADxRefIdeal (hOADxIdeal := hOADxIdeal) (hOADxRefIdeal := hOADxRefIdeal)
    ∧ preserves_OADw_OADwIdeal
    ∧ algebraic_OADwIdeal_OADwRefIdeal (hOADwIdeal := hOADwIdeal) (hOADwRefIdeal := hOADwRefIdeal)
    ∧ preserves_QkvDx_QkvDxIdeal
    ∧ algebraic_QkvDxIdeal_QkvDxRefIdeal (hQkvDxIdeal := hQkvDxIdeal) (hQkvDxRefIdeal := hQkvDxRefIdeal)
    ∧ preserves_QkvDw_QkvDwIdeal
    ∧ algebraic_QkvDwIdeal_QkvDwRefIdeal (hQkvDwIdeal := hQkvDwIdeal) (hQkvDwRefIdeal := hQkvDwRefIdeal)
    ∧ preserves_OBDx_OBDxIdeal
    ∧ algebraic_OBDxIdeal_OBDxRefIdeal (hOBDxIdeal := hOBDxIdeal) (hOBDxRefIdeal := hOBDxRefIdeal)
    ∧ preserves_OBDw_OBDwIdeal
    ∧ algebraic_OBDwIdeal_OBDwRefIdeal (hOBDwIdeal := hOBDwIdeal) (hOBDwRefIdeal := hOBDwRefIdeal)
    ∧ preserves_QBDx_QBDxIdeal
    ∧ algebraic_QBDxIdeal_QBDxRefIdeal (hQBDxIdeal := hQBDxIdeal) (hQBDxRefIdeal := hQBDxRefIdeal)
    ∧ preserves_QBDw_QBDwIdeal
    ∧ algebraic_QBDwIdeal_QBDwRefIdeal (hQBDwIdeal := hQBDwIdeal) (hQBDwRefIdeal := hQBDwRefIdeal)
    ∧ preserves_KvfDx_KvfDxIdeal
    ∧ algebraic_KvfDxIdeal_KvfDxRefIdeal (hKvfDxIdeal := hKvfDxIdeal) (hKvfDxRefIdeal := hKvfDxRefIdeal)
    ∧ preserves_KvfDw_KvfDwIdeal
    ∧ algebraic_KvfDwIdeal_KvfDwRefIdeal (hKvfDwIdeal := hKvfDwIdeal) (hKvfDwRefIdeal := hKvfDwRefIdeal)
    ∧ preserves_FoxFwd_FoxFwdIdeal
    ∧ algebraic_FoxFwdIdeal_FoxFwdRefIdeal_pre_finite_fwd (hFoxFwdIdeal := hFoxFwdIdeal) (hFoxFwdRefIdeal := hFoxFwdRefIdeal) (hPre_finite_fwd := hPre_finite_fwd)
    ∧ preserves_FoxAdd_FoxAddIdeal
    ∧ algebraic_FoxAddIdeal_FoxAddRefIdeal_pre_finite_add (hFoxAddIdeal := hFoxAddIdeal) (hFoxAddRefIdeal := hFoxAddRefIdeal) (hPre_finite_add := hPre_finite_add)
    ∧ preserves_ConvBwd_ConvBwdIdeal
    ∧ algebraic_ConvBwdIdeal_ConvBwdRefIdeal_pre_finite_conv (hConvBwdIdeal := hConvBwdIdeal) (hConvBwdRefIdeal := hConvBwdRefIdeal) (hPre_finite_conv := hPre_finite_conv)
    ∧ preserves_ConvFwd_ConvFwdIdeal
    ∧ algebraic_ConvFwdIdeal_ConvFwdRefIdeal (hConvFwdIdeal := hConvFwdIdeal) (hConvFwdRefIdeal := hConvFwdRefIdeal)
    ∧ preserves_RmsIn_RmsInIdeal
    ∧ algebraic_RmsInIdeal_RmsInRefIdeal (hRmsInIdeal := hRmsInIdeal) (hRmsInRefIdeal := hRmsInRefIdeal)
    ∧ preserves_RmsRes_RmsResIdeal
    ∧ algebraic_RmsResIdeal_RmsResRefIdeal (hRmsResIdeal := hRmsResIdeal) (hRmsResRefIdeal := hRmsResRefIdeal)
    ∧ preserves_RmsResIn_RmsResInIdeal
    ∧ algebraic_RmsResInIdeal_RmsResInRefIdeal (hRmsResInIdeal := hRmsResInIdeal) (hRmsResInRefIdeal := hRmsResInRefIdeal)
    ∧ preserves_RmsBwd_RmsBwdIdeal
    ∧ algebraic_RmsBwdIdeal_RmsBwdRefIdeal (hRmsBwdIdeal := hRmsBwdIdeal) (hRmsBwdRefIdeal := hRmsBwdRefIdeal)
    ∧ preserves_RmsBwdRes_RmsBwdResIdeal
    ∧ algebraic_RmsBwdResIdeal_RmsBwdResRefIdeal (hRmsBwdResIdeal := hRmsBwdResIdeal) (hRmsBwdResRefIdeal := hRmsBwdResRefIdeal)
    ∧ preserves_RmsBwdTwo_RmsBwdTwoIdeal
    ∧ algebraic_RmsBwdTwoIdeal_RmsBwdTwoRefIdeal (hRmsBwdTwoIdeal := hRmsBwdTwoIdeal) (hRmsBwdTwoRefIdeal := hRmsBwdTwoRefIdeal)
-- ==== Pre_finite.lean ====
abbrev S2048x1024 : Shape := ⟨2, ![2048, 1024]⟩
abbrev S2048x2048 : Shape := ⟨2, ![2048, 2048]⟩
abbrev S2048x16 : Shape := ⟨2, ![2048, 16]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x2048 : S_.BroadcastsInDim S2048x2048 (![] : Fin 0 → Fin S2048x2048.rank)
  bcast_S_S2048x16 : S_.BroadcastsInDim S2048x16 (![] : Fin 0 → Fin S2048x16.rank)

variable [Facts]

def fn {F : FTy → Type} [FloatOps F] (main_arg0 : FVec F S2048x1024 .bf16) (main_arg1 : FVec F S2048x2048 .bf16) (main_arg2 : FVec F S2048x1024 .bf16) (main_arg3 : FVec F S2048x16 .f32) : IVec S2048x1024 1 × IVec S2048x2048 1 × IVec S2048x1024 1 × IVec S2048x16 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : FVec F S2048x1024 .f32 := (extf .f32 · bitsLt_bf16_f32) main_arg2
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  let main_v12 : FVec F S2048x16 .f32 := Host.absf main_arg3
  let main_cst_2 : FVec F S_ .f32 := constant S_ .f32 0x7F800000#32
  let main_v13 : FVec F S2048x16 .f32 := broadcastInDim S2048x16 ![] bcast_S_S2048x16 main_cst_2
  let main_v14 : IVec S2048x16 1 := cmpf .olt main_v12 main_v13
  (main_v3, main_v7, main_v11, main_v14)
-- ==== Pre_finite_add.lean ====
abbrev S2048x1024 : Shape := ⟨2, ![2048, 1024]⟩
abbrev S2048x2048 : Shape := ⟨2, ![2048, 2048]⟩
abbrev S2048x16 : Shape := ⟨2, ![2048, 16]⟩
abbrev S8x8x2048 : Shape := ⟨3, ![8, 8, 2048]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x2048 : S_.BroadcastsInDim S2048x2048 (![] : Fin 0 → Fin S2048x2048.rank)
  bcast_S_S2048x16 : S_.BroadcastsInDim S2048x16 (![] : Fin 0 → Fin S2048x16.rank)

variable [Facts]

def fn {F : FTy → Type} [FloatOps F] (main_arg0 : FVec F S2048x1024 .bf16) (main_arg1 : FVec F S2048x2048 .bf16) (main_arg2 : FVec F S2048x1024 .bf16) (main_arg3 : FVec F S2048x16 .f32) (main_arg4 : FVec F S2048x1024 .f32) (main_arg5 : FVec F S2048x1024 .f32) (main_arg6 : FVec F S8x8x2048 .f32) : IVec S2048x1024 1 × IVec S2048x2048 1 × IVec S2048x1024 1 × IVec S2048x16 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : FVec F S2048x1024 .f32 := (extf .f32 · bitsLt_bf16_f32) main_arg2
  let main_v9 : FVec F S2048x1024 .f32 := Host.absf main_v8
  let main_cst_1 : FVec F S_ .f32 := constant S_ .f32 0x7F800000#32
  let main_v10 : FVec F S2048x1024 .f32 := broadcastInDim S2048x1024 ![] bcast_S_S2048x1024 main_cst_1
  let main_v11 : IVec S2048x1024 1 := cmpf .olt main_v9 main_v10
  let main_v12 : FVec F S2048x16 .f32 := Host.absf main_arg3
  let main_cst_2 : FVec F S_ .f32 := constant S_ .f32 0x7F800000#32
  let main_v13 : FVec F S2048x16 .f32 := broadcastInDim S2048x16 ![] bcast_S_S2048x16 main_cst_2
  let main_v14 : IVec S2048x16 1 := cmpf .olt main_v12 main_v13
  (main_v3, main_v7, main_v11, main_v14)
-- ==== Pre_finite_conv.lean ====
abbrev S2048x5632 : Shape := ⟨2, ![2048, 5632]⟩
abbrev S2048x2816 : Shape := ⟨2, ![2048, 2816]⟩
abbrev S3x5632 : Shape := ⟨2, ![3, 5632]⟩
abbrev S1x5632 : Shape := ⟨2, ![1, 5632]⟩
abbrev S_ : Shape := ⟨0, ![]⟩

class Facts : Prop where
  bcast_S_S2048x5632 : S_.BroadcastsInDim S2048x5632 (![] : Fin 0 → Fin S2048x5632.rank)
  bcast_S_S2048x2816 : S_.BroadcastsInDim S2048x2816 (![] : Fin 0 → Fin S2048x2816.rank)
  bcast_S_S3x5632 : S_.BroadcastsInDim S3x5632 (![] : Fin 0 → Fin S3x5632.rank)
  bcast_S_S1x5632 : S_.BroadcastsInDim S1x5632 (![] : Fin 0 → Fin S1x5632.rank)

variable [Facts]

def fn {F : FTy → Type} [FloatOps F] (main_arg0 : FVec F S2048x5632 .f32) (main_arg1 : FVec F S2048x2816 .f32) (main_arg2 : FVec F S3x5632 .f32) (main_arg3 : FVec F S1x5632 .f32) : IVec S2048x5632 1 × IVec S2048x2816 1 × IVec S3x5632 1 × IVec S1x5632 1 :=
  let main_v0 : FVec F S2048x5632 .f32 := Host.absf main_arg0
  let main_cst : FVec F S_ .f32 := constant S_ .f32 0x7F800000#32
  let main_v1 : FVec F S2048x5632 .f32 := broadcastInDim S2048x5632 ![] bcast_S_S2048x5632 main_cst
  let main_v2 : IVec S2048x5632 1 := cmpf .olt main_v0 main_v1
  let main_v3 : FVec F S2048x2816 .f32 := Host.absf main_arg1
  let main_cst_0 : FVec F S_ .f32 := constant S_ .f32 0x7F800000#32
  let main_v4 : FVec F S2048x2816 .f32 := broadcastInDim S2048x2816 ![] bcast_S_S2048x2816 main_cst_0
  let main_v5 : IVec S2048x2816 1 := cmpf .olt main_v3 main_v4
  let main_v6 : FVec F S3x5632 .f32 := Host.absf main_arg2
  let main_cst_1 : FVec F S_ .f32 := constant S_ .f32 0x7F800000#32
  let main_v7 : FVec F S3x5632 .f32 := broadcastInDim S3x5632 ![] bcast_S_S3x5632 main_cst_1
  let main_v8 : IVec S3x5632 1 := cmpf .olt main_v6 main_v7
  let main_v9 : FVec F S1x5632 .f32 := Host.absf main_arg3
  let main_cst_2 : FVec F S_ .f32 := constant S_ .f32 0x7F800000#32
  let main_v10 : FVec F S1x5632 .f32 := broadcastInDim S1x5632 ![] bcast_S_S1x5632 main_cst_2
  let main_v11 : IVec S1x5632 1 := cmpf .olt main_v9 main_v10
  (main_v2, main_v5, main_v8, main_v11)
-- ==== Pre_finite_fwd.lean ====
abbrev S2048x1024 : Shape := ⟨2, ![2048, 1024]⟩
abbrev S2048x2048 : Shape := ⟨2, ![2048, 2048]⟩
abbrev S2048x16 : Shape := ⟨2, ![2048, 16]⟩
abbrev S_ : Shape := ⟨0, ![]⟩

class Facts : Prop where
  bitsLt_bf16_f32 : FTy.bits .bf16 < FTy.bits .f32
  bcast_S_S2048x1024 : S_.BroadcastsInDim S2048x1024 (![] : Fin 0 → Fin S2048x1024.rank)
  bcast_S_S2048x2048 : S_.BroadcastsInDim S2048x2048 (![] : Fin 0 → Fin S2048x2048.rank)
  bcast_S_S2048x16 : S_.BroadcastsInDim S2048x16 (![] : Fin 0 → Fin S2048x16.rank)

variable [Facts]

def fn {F : FTy → Type} [FloatOps F] (main_arg0 : FVec F S2048x1024 .bf16) (main_arg1 : FVec F S2048x2048 .bf16) (main_arg2 : FVec F S2048x16 .f32) : IVec S2048x1024 1 × IVec S2048x2048 1 × IVec S2048x16 1 :=
  let main_v0 : FVec F S2048x1024 .f32 := (extf .f32 · bitsLt_bf16_f32) main_arg0
  let main_v1 : FVec F S2048x1024 .f32 := Host.absf main_v0
  let main_cst : FVec F S_ .f32 := constant S_ .f32 0x7F800000#32
  let main_v2 : FVec F S2048x1024 .f32 := broadcastInDim S2048x1024 ![] bcast_S_S2048x1024 main_cst
  let main_v3 : IVec S2048x1024 1 := cmpf .olt main_v1 main_v2
  let main_v4 : FVec F S2048x2048 .f32 := (extf .f32 · bitsLt_bf16_f32) main_arg1
  let main_v5 : FVec F S2048x2048 .f32 := Host.absf main_v4
  let main_cst_0 : FVec F S_ .f32 := constant S_ .f32 0x7F800000#32
  let main_v6 : FVec F S2048x2048 .f32 := broadcastInDim S2048x2048 ![] bcast_S_S2048x2048 main_cst_0
  let main_v7 : IVec S2048x2048 1 := cmpf .olt main_v5 main_v6
  let main_v8 : FVec F S2048x16 .f32 := Host.absf main_arg2
  let main_cst_1 : FVec F S_ .f32 := constant S_ .f32 0x7F800000#32
  let main_v9 : FVec F S2048x16 .f32 := broadcastInDim S2048x16 ![] bcast_S_S2048x16 main_cst_1
  let main_v10 : IVec S2048x16 1 := cmpf .olt main_v8 main_v9
  (main_v3, main_v7, main_v10)
-- ==== Kernel.lean ====
abbrev S2048x1024 : Shape := ⟨2, ![2048, 1024]⟩
abbrev S2048x2048 : Shape := ⟨2, ![2048, 2048]⟩
abbrev S2048x16 : Shape := ⟨2, ![2048, 16]⟩
abbrev S_ : Shape := ⟨0, ![]⟩
abbrev S16x2048 : Shape := ⟨2, ![16, 2048]⟩
abbrev S8x2x2048 : Shape := ⟨3, ![8, 2, 2048]⟩
abbrev S8x8x2048 : Shape := ⟨3, ![8, 8, 2048]⟩
abbrev S2048x128 : Shape := ⟨2, ![2048, 128]⟩
abbrev S1x2x2048 : Shape := ⟨3, ![1, 2, 2048]⟩
abbrev S1x8x2048 : Shape := ⟨3, ![1, 8, 2048]⟩
abbrev S2x2048x128 : Shape := ⟨3, ![2, 2048, 128]⟩
abbrev S1x2048x128 : Shape := ⟨3, ![1, 2048, 128]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S1x512x128 : Shape := ⟨3, ![1, 512, 128]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S1x1024x128 : Shape := ⟨3, ![1, 1024, 128]⟩
abbrev S1024 : Shape := ⟨1, ![1024]⟩
abbrev S1536x128 : Shape := ⟨2, ![1536, 128]⟩
abbrev S512x1536 : Shape := ⟨2, ![512, 1536]⟩
abbrev S1x1x1536 : Shape := ⟨3, ![1, 1, 1536]⟩
abbrev S1x1536 : Shape := ⟨2, ![1, 1536]⟩
abbrev S1x1536x128 : Shape := ⟨3, ![1, 1536, 128]⟩
abbrev S1536 : Shape := ⟨1, ![1536]⟩
abbrev S512x2048 : Shape := ⟨2, ![512, 2048]⟩
abbrev S1x1x2048 : Shape := ⟨3, ![1, 1, 2048]⟩
abbrev S1x2048 : Shape := ⟨2, ![1, 2048]⟩
abbrev S2048 : Shape := ⟨1, ![2048]⟩

abbrev nBuf : Space → Nat
  | .hbm => 15
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .bf16⟩
  | .hbm, ⟨3, _⟩ => ⟨S2048x16, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .bf16⟩
  | .hbm, ⟨9, _⟩ => ⟨S16x2048, .f32⟩
  | .hbm, ⟨10, _⟩ => ⟨S8x2x2048, .f32⟩
  | .hbm, ⟨11, _⟩ => ⟨S2048x1024, .bf16⟩
  | .hbm, ⟨12, _⟩ => ⟨S2048x1024, .f32⟩
  | .hbm, ⟨13, _⟩ => ⟨S2048x1024, .f32⟩
  | .hbm, ⟨14, _⟩ => ⟨S8x8x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2x2048, .f32⟩
  | .local _ .vmem, ⟨9, _⟩ => ⟨S1x2x2048, .f32⟩
  | .local _ .vmem, ⟨10, _⟩ => ⟨S2048x128, .bf16⟩
  | .local _ .vmem, ⟨11, _⟩ => ⟨S2048x128, .bf16⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S1x8x2048, .f32⟩
  | .local _ .vmem, ⟨17, _⟩ => ⟨S1x8x2048, .f32⟩
  | .local _ .vmem, ⟨18, _⟩ => ⟨S2x2048x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6_0 : Ref sig .tc := ⟨.hbm, 11, rfl⟩
abbrev main_v6_1 : Ref sig .tc := ⟨.hbm, 12, rfl⟩
abbrev main_v6_2 : Ref sig .tc := ⟨.hbm, 13, rfl⟩
abbrev main_v6_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S2048x1024 : Shape := ⟨2, ![2048, 1024]⟩
abbrev S2048x2048 : Shape := ⟨2, ![2048, 2048]⟩
abbrev S2048x16 : Shape := ⟨2, ![2048, 16]⟩
abbrev S2048x16x64 : Shape := ⟨3, ![2048, 16, 64]⟩
abbrev S16x2048 : Shape := ⟨2, ![16, 2048]⟩
abbrev S16x2048x2048 : Shape := ⟨3, ![16, 2048, 2048]⟩
abbrev S_ : Shape := ⟨0, ![]⟩
abbrev S16x2048x1 : Shape := ⟨3, ![16, 2048, 1]⟩
abbrev S16x1x2048 : Shape := ⟨3, ![16, 1, 2048]⟩
abbrev S2048 : Shape := ⟨1, ![2048]⟩
abbrev S2048x1 : Shape := ⟨2, ![2048, 1]⟩
abbrev S1x2048 : Shape := ⟨2, ![1, 2048]⟩
abbrev S16x64x2048 : Shape := ⟨3, ![16, 64, 2048]⟩
abbrev S16x2048x64 : Shape := ⟨3, ![16, 2048, 64]⟩
abbrev S8x2x2048 : Shape := ⟨3, ![8, 2, 2048]⟩
abbrev S8x8x2048 : Shape := ⟨3, ![8, 8, 2048]⟩

abbrev nBuf : Space → Nat
  | .hbm => 130
  | .vmem => 0
  | .smem => 0
  | _ => 0

abbrev hbmTy0_0 (i : Nat) : BufTy := match i % 128 with
  | 0 => ⟨S2048x1024, .bf16⟩
  | 1 => ⟨S2048x2048, .bf16⟩
  | 2 => ⟨S2048x1024, .bf16⟩
  | 3 => ⟨S2048x16, .f32⟩
  | 4 => ⟨S2048x1024, .f32⟩
  | 5 => ⟨S2048x16x64, .f32⟩
  | 6 => ⟨S2048x1024, .bf16⟩
  | 7 => ⟨S2048x1024, .f32⟩
  | 8 => ⟨S2048x16x64, .f32⟩
  | 9 => ⟨S2048x1024, .bf16⟩
  | 10 => ⟨S2048x1024, .f32⟩
  | 11 => ⟨S2048x16x64, .f32⟩
  | 12 => ⟨S2048x1024, .f32⟩
  | 13 => ⟨S2048x16x64, .f32⟩
  | 14 => ⟨S16x2048, .f32⟩
  | 15 => ⟨S16x2048x2048, .f32⟩
  | 16 => ⟨S_, .f32⟩
  | 17 => ⟨S16x2048x2048, .f32⟩
  | 18 => ⟨S16x2048x2048, .f32⟩
  | 19 => ⟨S16x2048x1, .f32⟩
  | 20 => ⟨S16x1x2048, .f32⟩
  | 21 => ⟨S16x2048x2048, .f32⟩
  | 22 => ⟨S16x2048x2048, .f32⟩
  | 23 => ⟨S16x2048x2048, .f32⟩
  | 24 => ⟨S16x2048x2048, .f32⟩
  | 25 => ⟨S2048, .i32⟩
  | 26 => ⟨S2048x1, .i32⟩
  | 27 => ⟨S2048, .i32⟩
  | 28 => ⟨S1x2048, .i32⟩
  | 29 => ⟨S2048x2048, .i32⟩
  | 30 => ⟨S2048x2048, .i32⟩
  | 31 => ⟨S2048x2048, .i1⟩
  | 32 => ⟨S_, .f32⟩
  | 33 => ⟨S_, .f32⟩
  | 34 => ⟨S16x2048x2048, .i1⟩
  | 35 => ⟨S16x2048x2048, .f32⟩
  | 36 => ⟨S16x2048x2048, .f32⟩
  | 37 => ⟨S_, .f32⟩
  | 38 => ⟨S16x2048x2048, .f32⟩
  | 39 => ⟨S_, .f32⟩
  | 40 => ⟨S16x2048, .f32⟩
  | 41 => ⟨S16x2048x1, .f32⟩
  | 42 => ⟨S16x2048x2048, .f32⟩
  | 43 => ⟨S16x2048x2048, .i1⟩
  | 44 => ⟨S16x2048x2048, .f32⟩
  | 45 => ⟨S_, .f32⟩
  | 46 => ⟨S16x2048, .f32⟩
  | 47 => ⟨S_, .f32⟩
  | 48 => ⟨S16x2048, .f32⟩
  | 49 => ⟨S16x2048, .f32⟩
  | 50 => ⟨S_, .f32⟩
  | 51 => ⟨S16x2048, .f32⟩
  | 52 => ⟨S16x2048, .i1⟩
  | 53 => ⟨S_, .f32⟩
  | 54 => ⟨S16x2048, .f32⟩
  | 55 => ⟨S16x2048, .i1⟩
  | 56 => ⟨S_, .f32⟩
  | 57 => ⟨S16x2048, .f32⟩
  | 58 => ⟨S_, .f32⟩
  | 59 => ⟨S16x2048, .f32⟩
  | 60 => ⟨S_, .f32⟩
  | 61 => ⟨S16x2048, .f32⟩
  | 62 => ⟨S16x2048, .f32⟩
  | 63 => ⟨S16x2048, .f32⟩
  | 64 => ⟨S16x2048x1, .f32⟩
  | 65 => ⟨S16x2048x2048, .f32⟩
  | 66 => ⟨S16x2048x2048, .f32⟩
  | 67 => ⟨S16x2048x2048, .f32⟩
  | 68 => ⟨S_, .f32⟩
  | 69 => ⟨S16x2048, .f32⟩
  | 70 => ⟨S16x2048x1, .f32⟩
  | 71 => ⟨S16x2048x2048, .f32⟩
  | 72 => ⟨S16x2048x2048, .f32⟩
  | 73 => ⟨S16x2048x1, .f32⟩
  | 74 => ⟨S_, .f32⟩
  | 75 => ⟨S16x2048x1, .f32⟩
  | 76 => ⟨S16x2048x1, .f32⟩
  | 77 => ⟨S16x64x2048, .f32⟩
  | 78 => ⟨S2048x16x64, .f32⟩
  | 79 => ⟨S16x64x2048, .f32⟩
  | 80 => ⟨S16x2048x2048, .f32⟩
  | 81 => ⟨S16x64x2048, .f32⟩
  | 82 => ⟨S2048x16x64, .f32⟩
  | 83 => ⟨S16x2048x2048, .f32⟩
  | 84 => ⟨S16x2048x2048, .f32⟩
  | 85 => ⟨S16x2048x2048, .f32⟩
  | 86 => ⟨S_, .f32⟩
  | 87 => ⟨S16x2048, .f32⟩
  | 88 => ⟨S16x2048x1, .f32⟩
  | 89 => ⟨S16x2048x1, .f32⟩
  | 90 => ⟨S16x2048x2048, .f32⟩
  | 91 => ⟨S16x2048x2048, .f32⟩
  | 92 => ⟨S_, .f32⟩
  | 93 => ⟨S16x2048, .f32⟩
  | 94 => ⟨S16x2048x2048, .f32⟩
  | 95 => ⟨S16x2048x2048, .f32⟩
  | 96 => ⟨S16x2048x2048, .f32⟩
  | 97 => ⟨S_, .f32⟩
  | 98 => ⟨S16x2048x2048, .f32⟩
  | 99 => ⟨S16x2048x2048, .f32⟩
  | 100 => ⟨S_, .f32⟩
  | 101 => ⟨S16x2048, .f32⟩
  | 102 => ⟨S16x2048x1, .f32⟩
  | 103 => ⟨S16x2048x2048, .f32⟩
  | 104 => ⟨S_, .f32⟩
  | 105 => ⟨S16x2048, .f32⟩
  | 106 => ⟨S16x1x2048, .f32⟩
  | 107 => ⟨S_, .f32⟩
  | 108 => ⟨S16x2048, .f32⟩
  | 109 => ⟨S_, .f32⟩
  | 110 => ⟨S16x2048, .f32⟩
  | 111 => ⟨S16x2048, .f32⟩
  | 112 => ⟨S_, .f32⟩
  | 113 => ⟨S16x2048x2048, .f32⟩
  | 114 => ⟨S16x2048x2048, .f32⟩
  | 115 => ⟨S16x2048x64, .f32⟩
  | 116 => ⟨S2048x16x64, .f32⟩
  | 117 => ⟨S16x2048x64, .f32⟩
  | 118 => ⟨S2048x16x64, .f32⟩
  | 119 => ⟨S2048x16, .f32⟩
  | 120 => ⟨S16x2048, .f32⟩
  | 121 => ⟨S8x2x2048, .f32⟩
  | 122 => ⟨S8x2x2048, .f32⟩
  | 123 => ⟨S_, .i32⟩
  | 124 => ⟨S_, .f32⟩
  | 125 => ⟨S8x8x2048, .f32⟩
  | 126 => ⟨S2048x1024, .f32⟩
  | 127 => ⟨S2048x1024, .bf16⟩
  | _ => ⟨S2048x1024, .bf16⟩

abbrev hbmTy0_1 (i : Nat) : BufTy := match i % 128 with
  | 0 => ⟨S2048x1024, .f32⟩
  | 1 => ⟨S2048x1024, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_cst_0 : Ref sig .tc := ⟨.hbm, 32, rfl⟩
abbrev main_call0_v0 : Ref sig .tc := ⟨.hbm, 33, rfl⟩
abbrev main_v27_1 : Ref sig .tc := ⟨.hbm, 34, rfl⟩
abbrev main_call0_v2 : Ref sig .tc := ⟨.hbm, 35, rfl⟩
abbrev main_v27_0 : Ref sig .tc := ⟨.hbm, 36, rfl⟩
abbrev main_call0_cst : Ref sig .tc := ⟨.hbm, 37, rfl⟩
abbrev main_v27_2 : Ref sig .tc := ⟨.hbm, 38, rfl⟩
abbrev main_cst_1 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_2 : Ref sig .tc := ⟨.hbm, 45, rfl⟩
abbrev main_v33 : Ref sig .tc := ⟨.hbm, 46, rfl⟩
abbrev main_cst_3 : Ref sig .tc := ⟨.hbm, 47, rfl⟩
abbrev main_v34 : Ref sig .tc := ⟨.hbm, 48, rfl⟩
abbrev main_v35 : Ref sig .tc := ⟨.hbm, 49, rfl⟩
abbrev main_cst_4 : Ref sig .tc := ⟨.hbm, 50, rfl⟩
abbrev main_v36 : Ref sig .tc := ⟨.hbm, 51, rfl⟩
abbrev main_v37 : Ref sig .tc := ⟨.hbm, 52, rfl⟩
abbrev main_cst_5 : Ref sig .tc := ⟨.hbm, 53, rfl⟩
abbrev main_v38 : Ref sig .tc := ⟨.hbm, 54, rfl⟩
abbrev main_v39 : Ref sig .tc := ⟨.hbm, 55, rfl⟩
abbrev main_cst_6 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_cst_8 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_11 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_call1_cst : Ref sig .tc := ⟨.hbm, 97, rfl⟩
abbrev main_call1_v0 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_14 : Ref sig .tc := ⟨.hbm, 104, rfl⟩
abbrev main_v78 : Ref sig .tc := ⟨.hbm, 105, rfl⟩
abbrev main_v79 : Ref sig .tc := ⟨.hbm, 106, rfl⟩
abbrev main_cst_15 : Ref sig .tc := ⟨.hbm, 107, rfl⟩
abbrev main_v80 : Ref sig .tc := ⟨.hbm, 108, rfl⟩
abbrev main_cst_16 : Ref sig .tc := ⟨.hbm, 109, rfl⟩
abbrev main_v81 : Ref sig .tc := ⟨.hbm, 110, rfl⟩
abbrev main_v82 : Ref sig .tc := ⟨.hbm, 111, rfl⟩
abbrev main_cst_17 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_c : Ref sig .tc := ⟨.hbm, 123, rfl⟩
abbrev main_call2_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩

abbrev nD : Nat := 1
abbrev τ : Topo := Topo.v7x

variable {F : FTy → Type} [FloatOps F]
-- ==== UpDx.lean ====
abbrev S2x2048x2816 : Shape := ⟨3, ![2, 2048, 2816]⟩
abbrev S1024x5632 : Shape := ⟨2, ![1024, 5632]⟩
abbrev S2048x1024 : Shape := ⟨2, ![2048, 1024]⟩
abbrev S1x1024x1408 : Shape := ⟨3, ![1, 1024, 1408]⟩
abbrev S1024x1408 : Shape := ⟨2, ![1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S2x2048x2816, .bf16⟩
  | .hbm, ⟨1, _⟩ => ⟨S1024x5632, .bf16⟩
  | .hbm, ⟨2, _⟩ => ⟨S2048x1024, .f32⟩
  | .local _ .vmem, ⟨0, _⟩ => ⟨S1x1024x1408, .bf16⟩
  | .local _ .vmem, ⟨1, _⟩ => ⟨S1x1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S2x2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg2 c2_i32
  let c2_i32_0 : BitVec 32 := 2#32
  let v1 : BitVec 32 := Scalar.remsi arg2 c2_i32_0
  let c0_i32 : BitVec 32 := 0#32
  ![v0.toNat, arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S2x2048x2816 : Shape := ⟨3, ![2, 2048, 2816]⟩
abbrev S1024x5632 : Shape := ⟨2, ![1024, 5632]⟩
abbrev S1x2048x2816 : Shape := ⟨3, ![1, 2048, 2816]⟩
abbrev S2048x2816 : Shape := ⟨2, ![2048, 2816]⟩
abbrev S2048x5632 : Shape := ⟨2, ![2048, 5632]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2x2048x2816, .bf16⟩
  | .hbm, ⟨1, _⟩ => ⟨S1024x5632, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S2048x5632, .bf16⟩
  | .hbm, ⟨7, _⟩ => ⟨S2048x5632, .f32⟩
  | .hbm, ⟨8, _⟩ => ⟨S1024x5632, .f32⟩
  | .hbm, ⟨9, _⟩ => ⟨S2048x1024, .f32⟩
  | _, _ => ⟨S2x2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== UpDw.lean ====
abbrev S2048x1024 : Shape := ⟨2, ![2048, 1024]⟩
abbrev S2x2048x2816 : Shape := ⟨3, ![2, 2048, 2816]⟩
abbrev S1024x5632 : Shape := ⟨2, ![1024, 5632]⟩
abbrev S1x2048x1408 : Shape := ⟨3, ![1, 2048, 1408]⟩
abbrev S1024x1408 : Shape := ⟨2, ![1024, 1408]⟩
abbrev S2048x1408 : Shape := ⟨2, ![2048, 1408]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S1024x5632, .bf16⟩
  | .local _ .vmem, ⟨0, _⟩ => ⟨S2048x1024, .bf16⟩
  | .local _ .vmem, ⟨1, _⟩ => ⟨S1x2048x1408, .bf16⟩
  | .local _ .vmem, ⟨2, _⟩ => ⟨S1x2048x1408, .bf16⟩
  | .local _ .vmem, ⟨3, _⟩ => ⟨S1024x1408, .bf16⟩
  | .local _ .vmem, ⟨4, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c2_i32_0 : BitVec 32 := 2#32
  let v1 : BitVec 32 := Scalar.remsi arg1 c2_i32_0
  let c0_i32 : BitVec 32 := 0#32
  ![v0.toNat, arg2.toNat, v1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDwRefIdeal.lean ====
abbrev S2048x1024 : Shape := ⟨2, ![2048, 1024]⟩
abbrev S2x2048x2816 : Shape := ⟨3, ![2, 2048, 2816]⟩
abbrev S1x2048x2816 : Shape := ⟨3, ![1, 2048, 2816]⟩
abbrev S2048x2816 : Shape := ⟨2, ![2048, 2816]⟩
abbrev S2048x5632 : Shape := ⟨2, ![2048, 5632]⟩
abbrev S5632x1024 : Shape := ⟨2, ![5632, 1024]⟩
abbrev S1024x5632 : Shape := ⟨2, ![1024, 5632]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2x2048x2816, .bf16⟩
  | .hbm, ⟨2, _⟩ => ⟨S1x2048x2816, .bf16⟩
  | .hbm, ⟨3, _⟩ => ⟨S2048x2816, .bf16⟩
  | .hbm, ⟨4, _⟩ => ⟨S1x2048x2816, .bf16⟩
  | .hbm, ⟨5, _⟩ => ⟨S2048x2816, .bf16⟩
  | .hbm, ⟨6, _⟩ => ⟨S2048x5632, .bf16⟩
  | .hbm, ⟨7, _⟩ => ⟨S2048x1024, .f32⟩
  | .hbm, ⟨8, _⟩ => ⟨S2048x5632, .f32⟩
  | .hbm, ⟨9, _⟩ => ⟨S5632x1024, .f32⟩
  | .hbm, ⟨10, _⟩ => ⟨S1024x5632, .f32⟩
  | .hbm, ⟨11, _⟩ => ⟨S1024x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩

abbrev nD : Nat := 1
abbrev τ : Topo := Topo.v7x

variable {F : FTy → Type} [FloatOps F]
-- ==== DownDx.lean ====
abbrev S2048x1024 : Shape := ⟨2, ![2048, 1024]⟩
abbrev S2816x1024 : Shape := ⟨2, ![2816, 1024]⟩
abbrev S2048x2816 : Shape := ⟨2, ![2048, 2816]⟩
abbrev S256x1024 : Shape := ⟨2, ![256, 1024]⟩
abbrev S2048x256 : Shape := ⟨2, ![2048, 256]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDxRefIdeal.lean ====
abbrev S2048x1024 : Shape := ⟨2, ![2048, 1024]⟩
abbrev S2816x1024 : Shape := ⟨2, ![2816, 1024]⟩
abbrev S2048x2816 : Shape := ⟨2, ![2048, 2816]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x1024, .f32⟩
  | .hbm, ⟨3, _⟩ => ⟨S2816x1024, .f32⟩
  | .hbm, ⟨4, _⟩ => ⟨S2048x2816, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== DownDw.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownDwRefIdeal.lean ====
abbrev S2048x2816 : Shape := ⟨2, ![2048, 2816]⟩
abbrev S2048x1024 : Shape := ⟨2, ![2048, 1024]⟩
abbrev S1024x2816 : Shape := ⟨2, ![1024, 2816]⟩
abbrev S2816x1024 : Shape := ⟨2, ![2816, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2048x2816, .f32⟩
  | .hbm, ⟨3, _⟩ => ⟨S2048x1024, .f32⟩
  | .hbm, ⟨4, _⟩ => ⟨S1024x2816, .f32⟩
  | .hbm, ⟨5, _⟩ => ⟨S2816x1024, .f32⟩
  | .hbm, ⟨6, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Up.lean ====
abbrev S2048x1024 : Shape := ⟨2, ![2048, 1024]⟩
abbrev S1024x5632 : Shape := ⟨2, ![1024, 5632]⟩
abbrev S2048x5632 : Shape := ⟨2, ![2048, 5632]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x5632, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 11, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S2048x1024 : Shape := ⟨2, ![2048, 1024]⟩
abbrev S1024x5632 : Shape := ⟨2, ![1024, 5632]⟩
abbrev S2048x5632 : Shape := ⟨2, ![2048, 5632]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Down.lean ====
abbrev S2048x2816 : Shape := ⟨2, ![2048, 2816]⟩
abbrev S2816x1024 : Shape := ⟨2, ![2816, 1024]⟩
abbrev S2048x1024 : Shape := ⟨2, ![2048, 1024]⟩
abbrev S1024x2816 : Shape := ⟨2, ![1024, 2816]⟩
abbrev S2816x512 : Shape := ⟨2, ![2816, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x512, .bf16⟩
  | .local _ .vmem, ⟨3, _⟩ => ⟨S2816x512, .bf16⟩
  | .local _ .vmem, ⟨4, _⟩ => ⟨S1024x512, .f32⟩
  | .local _ .vmem, ⟨5, _⟩ => ⟨S1024x512, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DownRefIdeal.lean ====
abbrev S2048x2816 : Shape := ⟨2, ![2048, 2816]⟩
abbrev S2816x1024 : Shape := ⟨2, ![2816, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x2816, .f32⟩
  | .hbm, ⟨3, _⟩ => ⟨S2816x1024, .f32⟩
  | .hbm, ⟨4, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Qkv.lean ====
abbrev S2048x1024 : Shape := ⟨2, ![2048, 1024]⟩
abbrev S1024x2304 : Shape := ⟨2, ![1024, 2304]⟩
abbrev S2048x2304 : Shape := ⟨2, ![2048, 2304]⟩
abbrev S1024x768 : Shape := ⟨2, ![1024, 768]⟩
abbrev S2048x768 : Shape := ⟨2, ![2048, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2304, .bf16⟩
  | .hbm, ⟨2, _⟩ => ⟨S2048x2304, .f32⟩
  | .local _ .vmem, ⟨0, _⟩ => ⟨S2048x1024, .bf16⟩
  | .local _ .vmem, ⟨1, _⟩ => ⟨S1024x768, .bf16⟩
  | .local _ .vmem, ⟨2, _⟩ => ⟨S1024x768, .bf16⟩
  | .local _ .vmem, ⟨3, _⟩ => ⟨S2048x768, .f32⟩
  | .local _ .vmem, ⟨4, _⟩ => ⟨S2048x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvRefIdeal.lean ====
abbrev S2048x1024 : Shape := ⟨2, ![2048, 1024]⟩
abbrev S1024x2304 : Shape := ⟨2, ![1024, 2304]⟩
abbrev S2048x2304 : Shape := ⟨2, ![2048, 2304]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2304, .bf16⟩
  | .hbm, ⟨2, _⟩ => ⟨S2048x1024, .f32⟩
  | .hbm, ⟨3, _⟩ => ⟨S1024x2304, .f32⟩
  | .hbm, ⟨4, _⟩ => ⟨S2048x2304, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OA.lean ====
abbrev S2048x768 : Shape := ⟨2, ![2048, 768]⟩
abbrev S768x1024 : Shape := ⟨2, ![768, 1024]⟩
abbrev S2048x1024 : Shape := ⟨2, ![2048, 1024]⟩
abbrev S768x512 : Shape := ⟨2, ![768, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x768, .bf16⟩
  | .hbm, ⟨1, _⟩ => ⟨S768x1024, .bf16⟩
  | .hbm, ⟨2, _⟩ => ⟨S2048x1024, .f32⟩
  | .local _ .vmem, ⟨0, _⟩ => ⟨S2048x768, .bf16⟩
  | .local _ .vmem, ⟨1, _⟩ => ⟨S768x512, .bf16⟩
  | .local _ .vmem, ⟨2, _⟩ => ⟨S768x512, .bf16⟩
  | .local _ .vmem, ⟨3, _⟩ => ⟨S2048x512, .f32⟩
  | .local _ .vmem, ⟨4, _⟩ => ⟨S2048x512, .f32⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S768x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OARefIdeal.lean ====
abbrev S2048x768 : Shape := ⟨2, ![2048, 768]⟩
abbrev S768x1024 : Shape := ⟨2, ![768, 1024]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S768x1024, .bf16⟩
  | .hbm, ⟨2, _⟩ => ⟨S2048x768, .f32⟩
  | .hbm, ⟨3, _⟩ => ⟨S768x1024, .f32⟩
  | .hbm, ⟨4, _⟩ => ⟨S2048x1024, .f32⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kv.lean ====
abbrev S2048x1024 : Shape := ⟨2, ![2048, 1024]⟩
abbrev S1024x2048 : Shape := ⟨2, ![1024, 2048]⟩
abbrev S2048x2048 : Shape := ⟨2, ![2048, 2048]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x2048, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvRefIdeal.lean ====
abbrev S2048x1024 : Shape := ⟨2, ![2048, 1024]⟩
abbrev S1024x2048 : Shape := ⟨2, ![1024, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x2048, .bf16⟩
  | .hbm, ⟨2, _⟩ => ⟨S2048x1024, .f32⟩
  | .hbm, ⟨3, _⟩ => ⟨S1024x2048, .f32⟩
  | .hbm, ⟨4, _⟩ => ⟨S2048x2048, .f32⟩
  | .hbm, ⟨5, _⟩ => ⟨S2048x2048, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Gate.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x128, .f32⟩
  | .local _ .vmem, ⟨0, _⟩ => ⟨S2048x1024, .bf16⟩
  | .local _ .vmem, ⟨1, _⟩ => ⟨S1024x128, .bf16⟩
  | .local _ .vmem, ⟨2, _⟩ => ⟨S2048x128, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== GateRefIdeal.lean ====
abbrev S2048x1024 : Shape := ⟨2, ![2048, 1024]⟩
abbrev S1024x128 : Shape := ⟨2, ![1024, 128]⟩
abbrev S2048x128 : Shape := ⟨2, ![2048, 128]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x128, .bf16⟩
  | .hbm, ⟨2, _⟩ => ⟨S2048x1024, .f32⟩
  | .hbm, ⟨3, _⟩ => ⟨S1024x128, .f32⟩
  | .hbm, ⟨4, _⟩ => ⟨S2048x128, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QB.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QBRefIdeal.lean ====
abbrev S2048x1024 : Shape := ⟨2, ![2048, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S_, .f32⟩
  | .hbm, ⟨6, _⟩ => ⟨S2048x1024, .f32⟩
  | .hbm, ⟨7, _⟩ => ⟨S2048x1024, .f32⟩
  | .hbm, ⟨8, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== OB.lean ====
abbrev S2048x1024 : Shape := ⟨2, ![2048, 1024]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S1024x512, .bf16⟩
  | .local _ .vmem, ⟨2, _⟩ => ⟨S1024x512, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OBRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OADx.lean ====
abbrev S2048x1024 : Shape := ⟨2, ![2048, 1024]⟩
abbrev S768x1024 : Shape := ⟨2, ![768, 1024]⟩
abbrev S2048x768 : Shape := ⟨2, ![2048, 768]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S768x1024, .bf16⟩
  | .hbm, ⟨2, _⟩ => ⟨S2048x768, .f32⟩
  | .local _ .vmem, ⟨0, _⟩ => ⟨S2048x1024, .bf16⟩
  | .local _ .vmem, ⟨1, _⟩ => ⟨S768x1024, .bf16⟩
  | .local _ .vmem, ⟨2, _⟩ => ⟨S2048x768, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S768x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S2048x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OADxRefIdeal.lean ====
abbrev S2048x1024 : Shape := ⟨2, ![2048, 1024]⟩
abbrev S768x1024 : Shape := ⟨2, ![768, 1024]⟩
abbrev S2048x768 : Shape := ⟨2, ![2048, 768]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S768x1024, .bf16⟩
  | .hbm, ⟨2, _⟩ => ⟨S2048x1024, .f32⟩
  | .hbm, ⟨3, _⟩ => ⟨S768x1024, .f32⟩
  | .hbm, ⟨4, _⟩ => ⟨S2048x768, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OADw.lean ====
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S768x1024, .bf16⟩
  | .local _ .vmem, ⟨0, _⟩ => ⟨S2048x768, .bf16⟩
  | .local _ .vmem, ⟨1, _⟩ => ⟨S2048x1024, .bf16⟩
  | .local _ .vmem, ⟨2, _⟩ => ⟨S768x1024, .bf16⟩
  | _, _ => ⟨S2048x768, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x768 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OADwRefIdeal.lean ====
abbrev S2048x768 : Shape := ⟨2, ![2048, 768]⟩
abbrev S2048x1024 : Shape := ⟨2, ![2048, 1024]⟩
abbrev S1024x768 : Shape := ⟨2, ![1024, 768]⟩
abbrev S768x1024 : Shape := ⟨2, ![768, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x768, .bf16⟩
  | .hbm, ⟨1, _⟩ => ⟨S2048x1024, .bf16⟩
  | .hbm, ⟨2, _⟩ => ⟨S2048x768, .f32⟩
  | .hbm, ⟨3, _⟩ => ⟨S2048x1024, .f32⟩
  | .hbm, ⟨4, _⟩ => ⟨S1024x768, .f32⟩
  | .hbm, ⟨5, _⟩ => ⟨S768x1024, .f32⟩
  | .hbm, ⟨6, _⟩ => ⟨S768x1024, .bf16⟩
  | _, _ => ⟨S2048x768, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QkvDx.lean ====
abbrev S2048x2304 : Shape := ⟨2, ![2048, 2304]⟩
abbrev S1024x2304 : Shape := ⟨2, ![1024, 2304]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2304, .bf16⟩
  | .hbm, ⟨1, _⟩ => ⟨S1024x2304, .bf16⟩
  | .hbm, ⟨2, _⟩ => ⟨S2048x1024, .f32⟩
  | .local _ .vmem, ⟨0, _⟩ => ⟨S1024x2304, .bf16⟩
  | .local _ .vmem, ⟨1, _⟩ => ⟨S1024x2304, .bf16⟩
  | .local _ .vmem, ⟨2, _⟩ => ⟨S1024x2304, .bf16⟩
  | .local _ .vmem, ⟨3, _⟩ => ⟨S1024x1024, .f32⟩
  | .local _ .vmem, ⟨4, _⟩ => ⟨S1024x1024, .f32⟩
  | _, _ => ⟨S2048x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2304 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDxRefIdeal.lean ====
abbrev S2048x2304 : Shape := ⟨2, ![2048, 2304]⟩
abbrev S1024x2304 : Shape := ⟨2, ![1024, 2304]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2304, .bf16⟩
  | .hbm, ⟨1, _⟩ => ⟨S1024x2304, .bf16⟩
  | .hbm, ⟨2, _⟩ => ⟨S2048x2304, .f32⟩
  | .hbm, ⟨3, _⟩ => ⟨S1024x2304, .f32⟩
  | .hbm, ⟨4, _⟩ => ⟨S2048x1024, .f32⟩
  | _, _ => ⟨S2048x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QkvDw.lean ====
abbrev S2048x1024 : Shape := ⟨2, ![2048, 1024]⟩
abbrev S2048x2304 : Shape := ⟨2, ![2048, 2304]⟩
abbrev S1024x2304 : Shape := ⟨2, ![1024, 2304]⟩
abbrev S2048x768 : Shape := ⟨2, ![2048, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2304, .bf16⟩
  | .hbm, ⟨2, _⟩ => ⟨S1024x2304, .bf16⟩
  | .local _ .vmem, ⟨0, _⟩ => ⟨S2048x1024, .bf16⟩
  | .local _ .vmem, ⟨1, _⟩ => ⟨S2048x768, .bf16⟩
  | .local _ .vmem, ⟨2, _⟩ => ⟨S2048x768, .bf16⟩
  | .local _ .vmem, ⟨3, _⟩ => ⟨S1024x768, .bf16⟩
  | .local _ .vmem, ⟨4, _⟩ => ⟨S1024x768, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 3, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QkvDwRefIdeal.lean ====
abbrev S2048x1024 : Shape := ⟨2, ![2048, 1024]⟩
abbrev S2048x2304 : Shape := ⟨2, ![2048, 2304]⟩
abbrev S2304x1024 : Shape := ⟨2, ![2304, 1024]⟩
abbrev S1024x2304 : Shape := ⟨2, ![1024, 2304]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2304, .bf16⟩
  | .hbm, ⟨2, _⟩ => ⟨S2048x1024, .f32⟩
  | .hbm, ⟨3, _⟩ => ⟨S2048x2304, .f32⟩
  | .hbm, ⟨4, _⟩ => ⟨S2304x1024, .f32⟩
  | .hbm, ⟨5, _⟩ => ⟨S1024x2304, .f32⟩
  | .hbm, ⟨6, _⟩ => ⟨S1024x2304, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OBDx.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OBDxRefIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | .hbm, ⟨5, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OBDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== OBDwRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== QBDx.lean ====
abbrev S2048x1024 : Shape := ⟨2, ![2048, 1024]⟩
abbrev S1024x1024 : Shape := ⟨2, ![1024, 1024]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== QBDxRefIdeal.lean ====
abbrev S2048x1024 : Shape := ⟨2, ![2048, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1024x1024, .f32⟩
  | .hbm, ⟨4, _⟩ => ⟨S2048x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== QBDw.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== QBDwRefIdeal.lean ====
abbrev S2048x1024 : Shape := ⟨2, ![2048, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== KvfDx.lean ====
abbrev S2048x2176 : Shape := ⟨2, ![2048, 2176]⟩
abbrev S1024x2176 : Shape := ⟨2, ![1024, 2176]⟩
abbrev S2048x1024 : Shape := ⟨2, ![2048, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2176, .bf16⟩
  | .hbm, ⟨1, _⟩ => ⟨S1024x2176, .bf16⟩
  | .hbm, ⟨2, _⟩ => ⟨S2048x1024, .f32⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x1024, .f32⟩
  | .local _ .vmem, ⟨4, _⟩ => ⟨S1024x1024, .f32⟩
  | _, _ => ⟨S2048x2176, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvfDxRefIdeal.lean ====
abbrev S2048x2176 : Shape := ⟨2, ![2048, 2176]⟩
abbrev S1024x2176 : Shape := ⟨2, ![1024, 2176]⟩
abbrev S2048x1024 : Shape := ⟨2, ![2048, 1024]⟩

abbrev nBuf : Space → Nat
  | .hbm => 5
  | .vmem => 0
  | .smem => 0
  | _ => 0

abbrev bufTy : (tb : Table) → Fin (tcTables nBuf tb) → BufTy
  | .hbm, ⟨0, _⟩ => ⟨S2048x2176, .bf16⟩
  | .hbm, ⟨1, _⟩ => ⟨S1024x2176, .bf16⟩
  | .hbm, ⟨2, _⟩ => ⟨S2048x2176, .f32⟩
  | .hbm, ⟨3, _⟩ => ⟨S1024x2176, .f32⟩
  | .hbm, ⟨4, _⟩ => ⟨S2048x1024, .f32⟩
  | _, _ => ⟨S2048x2176, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== KvfDw.lean ====
abbrev S2048x1024 : Shape := ⟨2, ![2048, 1024]⟩
abbrev S2048x2176 : Shape := ⟨2, ![2048, 2176]⟩
abbrev S1024x2176 : Shape := ⟨2, ![1024, 2176]⟩
abbrev S2048x512 : Shape := ⟨2, ![2048, 512]⟩
abbrev S512x2176 : Shape := ⟨2, ![512, 2176]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2048x2176, .bf16⟩
  | .hbm, ⟨2, _⟩ => ⟨S1024x2176, .bf16⟩
  | .local _ .vmem, ⟨0, _⟩ => ⟨S2048x512, .bf16⟩
  | .local _ .vmem, ⟨1, _⟩ => ⟨S2048x512, .bf16⟩
  | .local _ .vmem, ⟨2, _⟩ => ⟨S2048x2176, .bf16⟩
  | .local _ .vmem, ⟨3, _⟩ => ⟨S512x2176, .bf16⟩
  | .local _ .vmem, ⟨4, _⟩ => ⟨S512x2176, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== KvfDwRefIdeal.lean ====
abbrev S2048x1024 : Shape := ⟨2, ![2048, 1024]⟩
abbrev S2048x2176 : Shape := ⟨2, ![2048, 2176]⟩
abbrev S2176x1024 : Shape := ⟨2, ![2176, 1024]⟩
abbrev S1024x2176 : Shape := ⟨2, ![1024, 2176]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2176, .bf16⟩
  | .hbm, ⟨2, _⟩ => ⟨S2048x1024, .f32⟩
  | .hbm, ⟨3, _⟩ => ⟨S2048x2176, .f32⟩
  | .hbm, ⟨4, _⟩ => ⟨S2176x1024, .f32⟩
  | .hbm, ⟨5, _⟩ => ⟨S1024x2176, .f32⟩
  | .hbm, ⟨6, _⟩ => ⟨S1024x2176, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FoxFwd.lean ====
abbrev S2048x1024 : Shape := ⟨2, ![2048, 1024]⟩
abbrev S2048x2048 : Shape := ⟨2, ![2048, 2048]⟩
abbrev S2048x16 : Shape := ⟨2, ![2048, 16]⟩
abbrev S_ : Shape := ⟨0, ![]⟩
abbrev S16x2048 : Shape := ⟨2, ![16, 2048]⟩
abbrev S8x2x2048 : Shape := ⟨3, ![8, 2, 2048]⟩
abbrev S2048x128 : Shape := ⟨2, ![2048, 128]⟩
abbrev S1x2x2048 : Shape := ⟨3, ![1, 2, 2048]⟩
abbrev S2x2048x128 : Shape := ⟨3, ![2, 2048, 128]⟩
abbrev S1x2048x128 : Shape := ⟨3, ![1, 2048, 128]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S1x512x128 : Shape := ⟨3, ![1, 512, 128]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S1x1024x128 : Shape := ⟨3, ![1, 1024, 128]⟩
abbrev S1536x128 : Shape := ⟨2, ![1536, 128]⟩
abbrev S512x1536 : Shape := ⟨2, ![512, 1536]⟩
abbrev S1x1x1536 : Shape := ⟨3, ![1, 1, 1536]⟩
abbrev S1x1536 : Shape := ⟨2, ![1, 1536]⟩
abbrev S1x1536x128 : Shape := ⟨3, ![1, 1536, 128]⟩
abbrev S512x2048 : Shape := ⟨2, ![512, 2048]⟩
abbrev S1x1x2048 : Shape := ⟨3, ![1, 1, 2048]⟩
abbrev S1x2048 : Shape := ⟨2, ![1, 2048]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x16, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S2048x1024, .bf16⟩
  | .hbm, ⟨8, _⟩ => ⟨S16x2048, .f32⟩
  | .hbm, ⟨9, _⟩ => ⟨S8x2x2048, .f32⟩
  | .hbm, ⟨10, _⟩ => ⟨S2048x1024, .bf16⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S1x2x2048, .f32⟩
  | .local _ .vmem, ⟨7, _⟩ => ⟨S1x2x2048, .f32⟩
  | .local _ .vmem, ⟨8, _⟩ => ⟨S2048x128, .bf16⟩
  | .local _ .vmem, ⟨9, _⟩ => ⟨S2048x128, .bf16⟩
  | .local _ .vmem, ⟨10, _⟩ => ⟨S2x2048x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FoxFwdIdeal.lean ====
variable {F : FTy → Type} [FloatOps F] [Named F]
def κ : String → Option EReal := fun
  | "mask" => some ⊥
  | _ => none
-- ==== FoxFwdRefIdeal.lean ====
abbrev S2048x1024 : Shape := ⟨2, ![2048, 1024]⟩
abbrev S2048x2048 : Shape := ⟨2, ![2048, 2048]⟩
abbrev S2048x16 : Shape := ⟨2, ![2048, 16]⟩
abbrev S2048x16x64 : Shape := ⟨3, ![2048, 16, 64]⟩
abbrev S16x2048 : Shape := ⟨2, ![16, 2048]⟩
abbrev S16x2048x2048 : Shape := ⟨3, ![16, 2048, 2048]⟩
abbrev S_ : Shape := ⟨0, ![]⟩
abbrev S16x2048x1 : Shape := ⟨3, ![16, 2048, 1]⟩
abbrev S16x1x2048 : Shape := ⟨3, ![16, 1, 2048]⟩
abbrev S2048 : Shape := ⟨1, ![2048]⟩
abbrev S2048x1 : Shape := ⟨2, ![2048, 1]⟩
abbrev S1x2048 : Shape := ⟨2, ![1, 2048]⟩
abbrev S16x64x2048 : Shape := ⟨3, ![16, 64, 2048]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x16, .f32⟩
  | .hbm, ⟨3, _⟩ => ⟨S2048x1024, .f32⟩
  | .hbm, ⟨4, _⟩ => ⟨S2048x16x64, .f32⟩
  | .hbm, ⟨5, _⟩ => ⟨S2048x1024, .bf16⟩
  | .hbm, ⟨6, _⟩ => ⟨S2048x1024, .f32⟩
  | .hbm, ⟨7, _⟩ => ⟨S2048x16x64, .f32⟩
  | .hbm, ⟨8, _⟩ => ⟨S2048x1024, .bf16⟩
  | .hbm, ⟨9, _⟩ => ⟨S2048x1024, .f32⟩
  | .hbm, ⟨10, _⟩ => ⟨S2048x16x64, .f32⟩
  | .hbm, ⟨11, _⟩ => ⟨S16x2048, .f32⟩
  | .hbm, ⟨12, _⟩ => ⟨S16x2048x2048, .f32⟩
  | .hbm, ⟨13, _⟩ => ⟨S_, .f32⟩
  | .hbm, ⟨14, _⟩ => ⟨S16x2048x2048, .f32⟩
  | .hbm, ⟨15, _⟩ => ⟨S16x2048x2048, .f32⟩
  | .hbm, ⟨16, _⟩ => ⟨S16x2048x1, .f32⟩
  | .hbm, ⟨17, _⟩ => ⟨S16x1x2048, .f32⟩
  | .hbm, ⟨18, _⟩ => ⟨S16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S2048, .i32⟩
  | .hbm, ⟨23, _⟩ => ⟨S2048x1, .i32⟩
  | .hbm, ⟨24, _⟩ => ⟨S2048, .i32⟩
  | .hbm, ⟨25, _⟩ => ⟨S1x2048, .i32⟩
  | .hbm, ⟨26, _⟩ => ⟨S2048x2048, .i32⟩
  | .hbm, ⟨27, _⟩ => ⟨S2048x2048, .i32⟩
  | .hbm, ⟨28, _⟩ => ⟨S2048x2048, .i1⟩
  | .hbm, ⟨29, _⟩ => ⟨S_, .f32⟩
  | .hbm, ⟨30, _⟩ => ⟨S_, .f32⟩
  | .hbm, ⟨31, _⟩ => ⟨S16x2048x2048, .i1⟩
  | .hbm, ⟨32, _⟩ => ⟨S16x2048x2048, .f32⟩
  | .hbm, ⟨33, _⟩ => ⟨S16x2048x2048, .f32⟩
  | .hbm, ⟨34, _⟩ => ⟨S_, .f32⟩
  | .hbm, ⟨35, _⟩ => ⟨S16x2048, .f32⟩
  | .hbm, ⟨36, _⟩ => ⟨S_, .f32⟩
  | .hbm, ⟨37, _⟩ => ⟨S16x2048, .f32⟩
  | .hbm, ⟨38, _⟩ => ⟨S16x2048, .f32⟩
  | .hbm, ⟨39, _⟩ => ⟨S16x2048x1, .f32⟩
  | .hbm, ⟨40, _⟩ => ⟨S16x2048x2048, .f32⟩
  | .hbm, ⟨41, _⟩ => ⟨S16x2048x2048, .f32⟩
  | .hbm, ⟨42, _⟩ => ⟨S16x2048x2048, .f32⟩
  | .hbm, ⟨43, _⟩ => ⟨S_, .f32⟩
  | .hbm, ⟨44, _⟩ => ⟨S16x2048, .f32⟩
  | .hbm, ⟨45, _⟩ => ⟨S16x2048x1, .f32⟩
  | .hbm, ⟨46, _⟩ => ⟨S16x2048x2048, .f32⟩
  | .hbm, ⟨47, _⟩ => ⟨S16x2048x2048, .f32⟩
  | .hbm, ⟨48, _⟩ => ⟨S16x64x2048, .f32⟩
  | .hbm, ⟨49, _⟩ => ⟨S2048x16x64, .f32⟩
  | .hbm, ⟨50, _⟩ => ⟨S2048x1024, .f32⟩
  | .hbm, ⟨51, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v25 : Ref sig .tc := ⟨.hbm, 33, rfl⟩
abbrev main_cst_1 : Ref sig .tc := ⟨.hbm, 34, rfl⟩
abbrev main_v26 : Ref sig .tc := ⟨.hbm, 35, rfl⟩
abbrev main_cst_2 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩

abbrev nD : Nat := 1
abbrev τ : Topo := Topo.v7x

variable {F : FTy → Type} [FloatOps F]
-- ==== FoxAdd.lean ====
abbrev S2048x1024 : Shape := ⟨2, ![2048, 1024]⟩
abbrev S2048x2048 : Shape := ⟨2, ![2048, 2048]⟩
abbrev S2048x16 : Shape := ⟨2, ![2048, 16]⟩
abbrev S8x8x2048 : Shape := ⟨3, ![8, 8, 2048]⟩
abbrev S_ : Shape := ⟨0, ![]⟩
abbrev S16x2048 : Shape := ⟨2, ![16, 2048]⟩
abbrev S8x2x2048 : Shape := ⟨3, ![8, 2, 2048]⟩
abbrev S2048x128 : Shape := ⟨2, ![2048, 128]⟩
abbrev S1x2x2048 : Shape := ⟨3, ![1, 2, 2048]⟩
abbrev S1x8x2048 : Shape := ⟨3, ![1, 8, 2048]⟩
abbrev S2x2048x128 : Shape := ⟨3, ![2, 2048, 128]⟩
abbrev S1x2048x128 : Shape := ⟨3, ![1, 2048, 128]⟩
abbrev S512x128 : Shape := ⟨2, ![512, 128]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S512x1 : Shape := ⟨2, ![512, 1]⟩
abbrev S1x512x128 : Shape := ⟨3, ![1, 512, 128]⟩
abbrev S1024x128 : Shape := ⟨2, ![1024, 128]⟩
abbrev S512x1024 : Shape := ⟨2, ![512, 1024]⟩
abbrev S1x1x1024 : Shape := ⟨3, ![1, 1, 1024]⟩
abbrev S1x1024 : Shape := ⟨2, ![1, 1024]⟩
abbrev S1x1024x128 : Shape := ⟨3, ![1, 1024, 128]⟩
abbrev S1024 : Shape := ⟨1, ![1024]⟩
abbrev S1536x128 : Shape := ⟨2, ![1536, 128]⟩
abbrev S512x1536 : Shape := ⟨2, ![512, 1536]⟩
abbrev S1x1x1536 : Shape := ⟨3, ![1, 1, 1536]⟩
abbrev S1x1536 : Shape := ⟨2, ![1, 1536]⟩
abbrev S1x1536x128 : Shape := ⟨3, ![1, 1536, 128]⟩
abbrev S1536 : Shape := ⟨1, ![1536]⟩
abbrev S512x2048 : Shape := ⟨2, ![512, 2048]⟩
abbrev S1x1x2048 : Shape := ⟨3, ![1, 1, 2048]⟩
abbrev S1x2048 : Shape := ⟨2, ![1, 2048]⟩
abbrev S2048 : Shape := ⟨1, ![2048]⟩

abbrev nBuf : Space → Nat
  | .hbm => 18
  | .vmem => 25
  | .smem => 0
  | _ => 0

abbrev bufTy : (tb : Table) → Fin (tcTables nBuf tb) → BufTy
  | .hbm, ⟨0, _⟩ => ⟨S2048x1024, .bf16⟩
  | .hbm, ⟨1, _⟩ => ⟨S2048x2048, .bf16⟩
  | .hbm, ⟨2, _⟩ => ⟨S2048x1024, .bf16⟩
  | .hbm, ⟨3, _⟩ => ⟨S2048x16, .f32⟩
  | .hbm, ⟨4, _⟩ => ⟨S2048x1024, .f32⟩
  | .hbm, ⟨5, _⟩ => ⟨S2048x1024, .f32⟩
  | .hbm, ⟨6, _⟩ => ⟨S8x8x2048, .f32⟩
  | .hbm, ⟨7, _⟩ => ⟨S2048x1024, .f32⟩
  | .hbm, ⟨8, _⟩ => ⟨S_, .f32⟩
  | .hbm, ⟨9, _⟩ => ⟨S2048x1024, .f32⟩
  | .hbm, ⟨10, _⟩ => ⟨S2048x1024, .f32⟩
  | .hbm, ⟨11, _⟩ => ⟨S2048x1024, .bf16⟩
  | .hbm, ⟨12, _⟩ => ⟨S16x2048, .f32⟩
  | .hbm, ⟨13, _⟩ => ⟨S8x2x2048, .f32⟩
  | .hbm, ⟨14, _⟩ => ⟨S2048x1024, .bf16⟩
  | .hbm, ⟨15, _⟩ => ⟨S2048x1024, .f32⟩
  | .hbm, ⟨16, _⟩ => ⟨S2048x1024, .f32⟩
  | .hbm, ⟨17, _⟩ => ⟨S8x8x2048, .f32⟩
  | .local _ .vmem, ⟨0, _⟩ => ⟨S2048x128, .bf16⟩
  | .local _ .vmem, ⟨1, _⟩ => ⟨S2048x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S1x2x2048, .f32⟩
  | .local _ .vmem, ⟨9, _⟩ => ⟨S1x2x2048, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S1x8x2048, .f32⟩
  | .local _ .vmem, ⟨15, _⟩ => ⟨S1x8x2048, .f32⟩
  | .local _ .vmem, ⟨16, _⟩ => ⟨S2048x128, .bf16⟩
  | .local _ .vmem, ⟨17, _⟩ => ⟨S2048x128, .bf16⟩
  | .local _ .vmem, ⟨18, _⟩ => ⟨S2048x128, .f32⟩
  | .local _ .vmem, ⟨19, _⟩ => ⟨S2048x128, .f32⟩
  | .local _ .vmem, ⟨20, _⟩ => ⟨S2048x128, .f32⟩
  | .local _ .vmem, ⟨21, _⟩ => ⟨S2048x128, .f32⟩
  | .local _ .vmem, ⟨22, _⟩ => ⟨S1x8x2048, .f32⟩
  | .local _ .vmem, ⟨23, _⟩ => ⟨S1x8x2048, .f32⟩
  | .local _ .vmem, ⟨24, _⟩ => ⟨S2x2048x128, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6_0 : Ref sig .tc := ⟨.hbm, 14, rfl⟩
abbrev main_v6_1 : Ref sig .tc := ⟨.hbm, 15, rfl⟩
abbrev main_v6_2 : Ref sig .tc := ⟨.hbm, 16, rfl⟩
abbrev main_v6_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2048x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x8x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== FoxAddIdeal.lean ====
variable {F : FTy → Type} [FloatOps F] [Named F]
def κ : String → Option EReal := fun
  | "mask" => some ⊥
  | _ => none
-- ==== FoxAddRefIdeal.lean ====
abbrev S2048x1024 : Shape := ⟨2, ![2048, 1024]⟩
abbrev S2048x2048 : Shape := ⟨2, ![2048, 2048]⟩
abbrev S2048x16 : Shape := ⟨2, ![2048, 16]⟩
abbrev S8x8x2048 : Shape := ⟨3, ![8, 8, 2048]⟩
abbrev S2048x16x64 : Shape := ⟨3, ![2048, 16, 64]⟩
abbrev S16x2048 : Shape := ⟨2, ![16, 2048]⟩
abbrev S16x2048x2048 : Shape := ⟨3, ![16, 2048, 2048]⟩
abbrev S_ : Shape := ⟨0, ![]⟩
abbrev S16x2048x1 : Shape := ⟨3, ![16, 2048, 1]⟩
abbrev S16x1x2048 : Shape := ⟨3, ![16, 1, 2048]⟩
abbrev S2048 : Shape := ⟨1, ![2048]⟩
abbrev S2048x1 : Shape := ⟨2, ![2048, 1]⟩
abbrev S1x2048 : Shape := ⟨2, ![1, 2048]⟩
abbrev S16x64x2048 : Shape := ⟨3, ![16, 64, 2048]⟩
abbrev S16x2048x64 : Shape := ⟨3, ![16, 2048, 64]⟩
abbrev S8x2x2048 : Shape := ⟨3, ![8, 2, 2048]⟩

abbrev nBuf : Space → Nat
  | .hbm => 136
  | .vmem => 0
  | .smem => 0
  | _ => 0

abbrev hbmTy0_0 (i : Nat) : BufTy := match i % 128 with
  | 0 => ⟨S2048x1024, .bf16⟩
  | 1 => ⟨S2048x2048, .bf16⟩
  | 2 => ⟨S2048x1024, .bf16⟩
  | 3 => ⟨S2048x16, .f32⟩
  | 4 => ⟨S2048x1024, .f32⟩
  | 5 => ⟨S2048x1024, .f32⟩
  | 6 => ⟨S8x8x2048, .f32⟩
  | 7 => ⟨S2048x1024, .f32⟩
  | 8 => ⟨S2048x16x64, .f32⟩
  | 9 => ⟨S2048x1024, .bf16⟩
  | 10 => ⟨S2048x1024, .f32⟩
  | 11 => ⟨S2048x16x64, .f32⟩
  | 12 => ⟨S2048x1024, .bf16⟩
  | 13 => ⟨S2048x1024, .f32⟩
  | 14 => ⟨S2048x16x64, .f32⟩
  | 15 => ⟨S2048x1024, .f32⟩
  | 16 => ⟨S2048x16x64, .f32⟩
  | 17 => ⟨S16x2048, .f32⟩
  | 18 => ⟨S16x2048x2048, .f32⟩
  | 19 => ⟨S_, .f32⟩
  | 20 => ⟨S16x2048x2048, .f32⟩
  | 21 => ⟨S16x2048x2048, .f32⟩
  | 22 => ⟨S16x2048x1, .f32⟩
  | 23 => ⟨S16x1x2048, .f32⟩
  | 24 => ⟨S16x2048x2048, .f32⟩
  | 25 => ⟨S16x2048x2048, .f32⟩
  | 26 => ⟨S16x2048x2048, .f32⟩
  | 27 => ⟨S16x2048x2048, .f32⟩
  | 28 => ⟨S2048, .i32⟩
  | 29 => ⟨S2048x1, .i32⟩
  | 30 => ⟨S2048, .i32⟩
  | 31 => ⟨S1x2048, .i32⟩
  | 32 => ⟨S2048x2048, .i32⟩
  | 33 => ⟨S2048x2048, .i32⟩
  | 34 => ⟨S2048x2048, .i1⟩
  | 35 => ⟨S_, .f32⟩
  | 36 => ⟨S_, .f32⟩
  | 37 => ⟨S16x2048x2048, .i1⟩
  | 38 => ⟨S16x2048x2048, .f32⟩
  | 39 => ⟨S16x2048x2048, .f32⟩
  | 40 => ⟨S_, .f32⟩
  | 41 => ⟨S16x2048x2048, .f32⟩
  | 42 => ⟨S_, .f32⟩
  | 43 => ⟨S16x2048, .f32⟩
  | 44 => ⟨S16x2048x1, .f32⟩
  | 45 => ⟨S16x2048x2048, .f32⟩
  | 46 => ⟨S16x2048x2048, .i1⟩
  | 47 => ⟨S16x2048x2048, .f32⟩
  | 48 => ⟨S_, .f32⟩
  | 49 => ⟨S16x2048, .f32⟩
  | 50 => ⟨S_, .f32⟩
  | 51 => ⟨S16x2048, .f32⟩
  | 52 => ⟨S16x2048, .f32⟩
  | 53 => ⟨S_, .f32⟩
  | 54 => ⟨S16x2048, .f32⟩
  | 55 => ⟨S16x2048, .i1⟩
  | 56 => ⟨S_, .f32⟩
  | 57 => ⟨S16x2048, .f32⟩
  | 58 => ⟨S16x2048, .i1⟩
  | 59 => ⟨S_, .f32⟩
  | 60 => ⟨S16x2048, .f32⟩
  | 61 => ⟨S_, .f32⟩
  | 62 => ⟨S16x2048, .f32⟩
  | 63 => ⟨S_, .f32⟩
  | 64 => ⟨S16x2048, .f32⟩
  | 65 => ⟨S16x2048, .f32⟩
  | 66 => ⟨S16x2048, .f32⟩
  | 67 => ⟨S16x2048x1, .f32⟩
  | 68 => ⟨S16x2048x2048, .f32⟩
  | 69 => ⟨S16x2048x2048, .f32⟩
  | 70 => ⟨S16x2048x2048, .f32⟩
  | 71 => ⟨S_, .f32⟩
  | 72 => ⟨S16x2048, .f32⟩
  | 73 => ⟨S16x2048x1, .f32⟩
  | 74 => ⟨S16x2048x2048, .f32⟩
  | 75 => ⟨S16x2048x2048, .f32⟩
  | 76 => ⟨S16x2048x1, .f32⟩
  | 77 => ⟨S_, .f32⟩
  | 78 => ⟨S16x2048x1, .f32⟩
  | 79 => ⟨S16x2048x1, .f32⟩
  | 80 => ⟨S16x64x2048, .f32⟩
  | 81 => ⟨S2048x16x64, .f32⟩
  | 82 => ⟨S16x64x2048, .f32⟩
  | 83 => ⟨S16x2048x2048, .f32⟩
  | 84 => ⟨S16x64x2048, .f32⟩
  | 85 => ⟨S2048x16x64, .f32⟩
  | 86 => ⟨S16x2048x2048, .f32⟩
  | 87 => ⟨S16x2048x2048, .f32⟩
  | 88 => ⟨S16x2048x2048, .f32⟩
  | 89 => ⟨S_, .f32⟩
  | 90 => ⟨S16x2048, .f32⟩
  | 91 => ⟨S16x2048x1, .f32⟩
  | 92 => ⟨S16x2048x1, .f32⟩
  | 93 => ⟨S16x2048x2048, .f32⟩
  | 94 => ⟨S16x2048x2048, .f32⟩
  | 95 => ⟨S_, .f32⟩
  | 96 => ⟨S16x2048, .f32⟩
  | 97 => ⟨S16x2048x2048, .f32⟩
  | 98 => ⟨S16x2048x2048, .f32⟩
  | 99 => ⟨S16x2048x2048, .f32⟩
  | 100 => ⟨S_, .f32⟩
  | 101 => ⟨S16x2048x2048, .f32⟩
  | 102 => ⟨S16x2048x2048, .f32⟩
  | 103 => ⟨S_, .f32⟩
  | 104 => ⟨S16x2048, .f32⟩
  | 105 => ⟨S16x2048x1, .f32⟩
  | 106 => ⟨S16x2048x2048, .f32⟩
  | 107 => ⟨S_, .f32⟩
  | 108 => ⟨S16x2048, .f32⟩
  | 109 => ⟨S16x1x2048, .f32⟩
  | 110 => ⟨S_, .f32⟩
  | 111 => ⟨S16x2048, .f32⟩
  | 112 => ⟨S_, .f32⟩
  | 113 => ⟨S16x2048, .f32⟩
  | 114 => ⟨S16x2048, .f32⟩
  | 115 => ⟨S_, .f32⟩
  | 116 => ⟨S16x2048x2048, .f32⟩
  | 117 => ⟨S16x2048x2048, .f32⟩
  | 118 => ⟨S16x2048x64, .f32⟩
  | 119 => ⟨S2048x16x64, .f32⟩
  | 120 => ⟨S16x2048x64, .f32⟩
  | 121 => ⟨S2048x16x64, .f32⟩
  | 122 => ⟨S2048x16, .f32⟩
  | 123 => ⟨S16x2048, .f32⟩
  | 124 => ⟨S8x2x2048, .f32⟩
  | 125 => ⟨S8x2x2048, .f32⟩
  | 126 => ⟨S_, .i32⟩
  | 127 => ⟨S_, .f32⟩
  | _ => ⟨S2048x1024, .bf16⟩

abbrev hbmTy0_1 (i : Nat) : BufTy := match i % 128 with
  | 0 => ⟨S8x8x2048, .f32⟩
  | 1 => ⟨S2048x1024, .f32⟩
  | 2 => ⟨S2048x1024, .bf16⟩
  | 3 => ⟨S2048x1024, .f32⟩
  | 4 => ⟨S2048x1024, .f32⟩
  | 5 => ⟨S2048x1024, .f32⟩
  | 6 => ⟨S2048x1024, .f32⟩
  | 7 => ⟨S8x8x2048, .f32⟩
  | _ => ⟨S2048x1024, .bf16⟩

abbrev hbmTy (i : Nat) : BufTy := match i / 128 with
  | 0 => hbmTy0_0 i
  | 1 => hbmTy0_1 i
  | _ => ⟨S2048x1024, .bf16⟩

abbrev bufTy : (tb : Table) → Fin (tcTables nBuf tb) → BufTy
  | .hbm, ⟨i, _⟩ => hbmTy i
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_0 : Ref sig .tc := ⟨.hbm, 35, rfl⟩
abbrev main_call0_v0 : Ref sig .tc := ⟨.hbm, 36, rfl⟩
abbrev main_v27_1 : Ref sig .tc := ⟨.hbm, 37, rfl⟩
abbrev main_call0_v2 : Ref sig .tc := ⟨.hbm, 38, rfl⟩
abbrev main_v27_0 : Ref sig .tc := ⟨.hbm, 39, rfl⟩
abbrev main_call0_cst : Ref sig .tc := ⟨.hbm, 40, rfl⟩
abbrev main_v27_2 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_cst_4 : Ref sig .tc := ⟨.hbm, 53, rfl⟩
abbrev main_v36 : Ref sig .tc := ⟨.hbm, 54, rfl⟩
abbrev main_v37 : Ref sig .tc := ⟨.hbm, 55, rfl⟩
abbrev main_cst_5 : Ref sig .tc := ⟨.hbm, 56, rfl⟩
abbrev main_v38 : Ref sig .tc := ⟨.hbm, 57, rfl⟩
abbrev main_v39 : Ref sig .tc := ⟨.hbm, 58, rfl⟩
abbrev main_cst_6 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_10 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_11 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_call1_cst : Ref sig .tc := ⟨.hbm, 100, rfl⟩
abbrev main_call1_v0 : Ref sig .tc := ⟨.hbm, 101, rfl⟩
abbrev main_v74 : Ref sig .tc := ⟨.hbm, 102, rfl⟩
abbrev main_cst_13 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_14 : Ref sig .tc := ⟨.hbm, 107, rfl⟩
abbrev main_v78 : Ref sig .tc := ⟨.hbm, 108, rfl⟩
abbrev main_v79 : Ref sig .tc := ⟨.hbm, 109, rfl⟩
abbrev main_cst_15 : Ref sig .tc := ⟨.hbm, 110, rfl⟩
abbrev main_v80 : Ref sig .tc := ⟨.hbm, 111, rfl⟩
abbrev main_cst_16 : Ref sig .tc := ⟨.hbm, 112, rfl⟩
abbrev main_v81 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c : Ref sig .tc := ⟨.hbm, 126, rfl⟩
abbrev main_call2_v0 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]
-- ==== ConvBwd.lean ====
abbrev S2048x5632 : Shape := ⟨2, ![2048, 5632]⟩
abbrev S2048x2816 : Shape := ⟨2, ![2048, 2816]⟩
abbrev S3x5632 : Shape := ⟨2, ![3, 5632]⟩
abbrev S1x5632 : Shape := ⟨2, ![1, 5632]⟩
abbrev S2x2048x2816 : Shape := ⟨3, ![2, 2048, 2816]⟩
abbrev S2x3x2816 : Shape := ⟨3, ![2, 3, 2816]⟩
abbrev S2x1x2816 : Shape := ⟨3, ![2, 1, 2816]⟩
abbrev S2048x128 : Shape := ⟨2, ![2048, 128]⟩
abbrev S3x128 : Shape := ⟨2, ![3, 128]⟩
abbrev S1x128 : Shape := ⟨2, ![1, 128]⟩
abbrev S2x2048x128 : Shape := ⟨3, ![2, 2048, 128]⟩
abbrev S2x3x128 : Shape := ⟨3, ![2, 3, 128]⟩
abbrev S2x1x128 : Shape := ⟨3, ![2, 1, 128]⟩
abbrev S1x2048x128 : Shape := ⟨3, ![1, 2048, 128]⟩
abbrev S128 : Shape := ⟨1, ![128]⟩
abbrev S1x1x128 : Shape := ⟨3, ![1, 1, 128]⟩

abbrev nBuf : Space → Nat
  | .hbm => 7
  | .vmem => 20
  | .smem => 0
  | _ => 0

abbrev bufTy : (tb : Table) → Fin (tcTables nBuf tb) → BufTy
  | .hbm, ⟨0, _⟩ => ⟨S2048x5632, .f32⟩
  | .hbm, ⟨1, _⟩ => ⟨S2048x2816, .f32⟩
  | .hbm, ⟨2, _⟩ => ⟨S3x5632, .f32⟩
  | .hbm, ⟨3, _⟩ => ⟨S1x5632, .f32⟩
  | .hbm, ⟨4, _⟩ => ⟨S2x2048x2816, .bf16⟩
  | .hbm, ⟨5, _⟩ => ⟨S2x3x2816, .f32⟩
  | .hbm, ⟨6, _⟩ => ⟨S2x1x2816, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2048x128, .f32⟩
  | .local _ .vmem, ⟨13, _⟩ => ⟨S2048x128, .f32⟩
  | .local _ .vmem, ⟨14, _⟩ => ⟨S2x2048x128, .bf16⟩
  | .local _ .vmem, ⟨15, _⟩ => ⟨S2x2048x128, .bf16⟩
  | .local _ .vmem, ⟨16, _⟩ => ⟨S2x3x128, .f32⟩
  | .local _ .vmem, ⟨17, _⟩ => ⟨S2x3x128, .f32⟩
  | .local _ .vmem, ⟨18, _⟩ => ⟨S2x1x128, .f32⟩
  | .local _ .vmem, ⟨19, _⟩ => ⟨S2x1x128, .f32⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x3x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvBwdIdeal.lean ====
variable {F : FTy → Type} [FloatOps F] [Named F]
def κ : String → Option EReal := fun
  | "c" => some ((8943 / 200000 : ℝ) : EReal)
  | "c3" => some ((26829 / 200000 : ℝ) : EReal)
  | _ => none
-- ==== ConvBwdRefIdeal.lean ====
abbrev S2048x5632 : Shape := ⟨2, ![2048, 5632]⟩
abbrev S2048x2816 : Shape := ⟨2, ![2048, 2816]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S2x5632 : Shape := ⟨2, ![2, 5632]⟩
abbrev S2050x5632 : Shape := ⟨2, ![2050, 5632]⟩
abbrev S1x2048x2816 : Shape := ⟨3, ![1, 2048, 2816]⟩
abbrev S2x2048x2816 : Shape := ⟨3, ![2, 2048, 2816]⟩
abbrev S3x2816 : Shape := ⟨2, ![3, 2816]⟩
abbrev S1x3x2816 : Shape := ⟨3, ![1, 3, 2816]⟩
abbrev S2x3x2816 : Shape := ⟨3, ![2, 3, 2816]⟩
abbrev S1x2816 : Shape := ⟨2, ![1, 2816]⟩
abbrev S1x1x2816 : Shape := ⟨3, ![1, 1, 2816]⟩
abbrev S2x1x2816 : Shape := ⟨3, ![2, 1, 2816]⟩

abbrev nBuf : Space → Nat
  | .hbm => 153
  | .vmem => 0
  | .smem => 0
  | _ => 0

abbrev hbmTy0_0 (i : Nat) : BufTy := match i % 128 with
  | 0 => ⟨S2048x5632, .f32⟩
  | 1 => ⟨S2048x2816, .f32⟩
  | 2 => ⟨S3x5632, .f32⟩
  | 3 => ⟨S1x5632, .f32⟩
  | 4 => ⟨S5632, .f32⟩
  | 5 => ⟨S_, .f32⟩
  | 6 => ⟨S2x5632, .f32⟩
  | 7 => ⟨S2050x5632, .f32⟩
  | 8 => ⟨S_, .f32⟩
  | 9 => ⟨S2x5632, .f32⟩
  | 10 => ⟨S2048x5632, .f32⟩
  | 11 => ⟨S1x5632, .f32⟩
  | 12 => ⟨S5632, .f32⟩
  | 13 => ⟨S1x5632, .f32⟩
  | 14 => ⟨S2048x5632, .f32⟩
  | 15 => ⟨S2048x5632, .f32⟩
  | 16 => ⟨S_, .f32⟩
  | 17 => ⟨S2048x5632, .f32⟩
  | 18 => ⟨S2048x5632, .f32⟩
  | 19 => ⟨S2048x5632, .f32⟩
  | 20 => ⟨S1x5632, .f32⟩
  | 21 => ⟨S5632, .f32⟩
  | 22 => ⟨S1x5632, .f32⟩
  | 23 => ⟨S2048x5632, .f32⟩
  | 24 => ⟨S2048x5632, .f32⟩
  | 25 => ⟨S2048x5632, .f32⟩
  | 26 => ⟨S2048x5632, .f32⟩
  | 27 => ⟨S1x5632, .f32⟩
  | 28 => ⟨S5632, .f32⟩
  | 29 => ⟨S1x5632, .f32⟩
  | 30 => ⟨S2048x5632, .f32⟩
  | 31 => ⟨S2048x5632, .f32⟩
  | 32 => ⟨S2048x5632, .f32⟩
  | 33 => ⟨S1x5632, .f32⟩
  | 34 => ⟨S2048x5632, .f32⟩
  | 35 => ⟨S2048x5632, .f32⟩
  | 36 => ⟨S2048x2816, .f32⟩
  | 37 => ⟨S2048x2816, .f32⟩
  | 38 => ⟨S_, .f32⟩
  | 39 => ⟨S_, .f32⟩
  | 40 => ⟨S_, .f32⟩
  | 41 => ⟨S2048x2816, .f32⟩
  | 42 => ⟨S2048x2816, .f32⟩
  | 43 => ⟨S2048x2816, .f32⟩
  | 44 => ⟨S_, .f32⟩
  | 45 => ⟨S2048x2816, .f32⟩
  | 46 => ⟨S2048x2816, .f32⟩
  | 47 => ⟨S2048x2816, .f32⟩
  | 48 => ⟨S2048x2816, .f32⟩
  | 49 => ⟨S2048x2816, .f32⟩
  | 50 => ⟨S_, .f32⟩
  | 51 => ⟨S2048x2816, .f32⟩
  | 52 => ⟨S2048x2816, .f32⟩
  | 53 => ⟨S2048x2816, .f32⟩
  | 54 => ⟨S_, .f32⟩
  | 55 => ⟨S2048x2816, .f32⟩
  | 56 => ⟨S2048x2816, .f32⟩
  | 57 => ⟨S_, .f32⟩
  | 58 => ⟨S2048x2816, .f32⟩
  | 59 => ⟨S2048x2816, .f32⟩
  | 60 => ⟨S2048x2816, .f32⟩
  | 61 => ⟨S_, .f32⟩
  | 62 => ⟨S2048x2816, .f32⟩
  | 63 => ⟨S2048x2816, .f32⟩
  | 64 => ⟨S_, .f32⟩
  | 65 => ⟨S2048x2816, .f32⟩
  | 66 => ⟨S2048x2816, .f32⟩
  | 67 => ⟨S2048x2816, .f32⟩
  | 68 => ⟨S2048x2816, .f32⟩
  | 69 => ⟨S2048x2816, .f32⟩
  | 70 => ⟨S2048x2816, .f32⟩
  | 71 => ⟨S2048x2816, .f32⟩
  | 72 => ⟨S2048x2816, .f32⟩
  | 73 => ⟨S_, .f32⟩
  | 74 => ⟨S2048x2816, .f32⟩
  | 75 => ⟨S2048x2816, .f32⟩
  | 76 => ⟨S2048x2816, .f32⟩
  | 77 => ⟨S_, .f32⟩
  | 78 => ⟨S2048x2816, .f32⟩
  | 79 => ⟨S2048x2816, .f32⟩
  | 80 => ⟨S2048x2816, .f32⟩
  | 81 => ⟨S2048x2816, .f32⟩
  | 82 => ⟨S2048x2816, .f32⟩
  | 83 => ⟨S2048x2816, .f32⟩
  | 84 => ⟨S2048x2816, .f32⟩
  | 85 => ⟨S2048x5632, .f32⟩
  | 86 => ⟨S_, .f32⟩
  | 87 => ⟨S5632, .f32⟩
  | 88 => ⟨S1x5632, .f32⟩
  | 89 => ⟨S_, .f32⟩
  | 90 => ⟨S5632, .f32⟩
  | 91 => ⟨S2048x5632, .f32⟩
  | 92 => ⟨S_, .f32⟩
  | 93 => ⟨S5632, .f32⟩
  | 94 => ⟨S1x5632, .f32⟩
  | 95 => ⟨S2048x5632, .f32⟩
  | 96 => ⟨S2048x5632, .f32⟩
  | 97 => ⟨S_, .f32⟩
  | 98 => ⟨S5632, .f32⟩
  | 99 => ⟨S1x5632, .f32⟩
  | 100 => ⟨S_, .f32⟩
  | 101 => ⟨S3x5632, .f32⟩
  | 102 => ⟨S_, .f32⟩
  | 103 => ⟨S2050x5632, .f32⟩
  | 104 => ⟨S2048x5632, .f32⟩
  | 105 => ⟨S_, .f32⟩
  | 106 => ⟨S5632, .f32⟩
  | 107 => ⟨S1x5632, .f32⟩
  | 108 => ⟨S2048x5632, .f32⟩
  | 109 => ⟨S2048x5632, .f32⟩
  | 110 => ⟨S_, .f32⟩
  | 111 => ⟨S5632, .f32⟩
  | 112 => ⟨S1x5632, .f32⟩
  | 113 => ⟨S_, .f32⟩
  | 114 => ⟨S3x5632, .f32⟩
  | 115 => ⟨S3x5632, .f32⟩
  | 116 => ⟨S_, .f32⟩
  | 117 => ⟨S2050x5632, .f32⟩
  | 118 => ⟨S2050x5632, .f32⟩
  | 119 => ⟨S2048x5632, .f32⟩
  | 120 => ⟨S_, .f32⟩
  | 121 => ⟨S5632, .f32⟩
  | 122 => ⟨S1x5632, .f32⟩
  | 123 => ⟨S2048x5632, .f32⟩
  | 124 => ⟨S2048x5632, .f32⟩
  | 125 => ⟨S_, .f32⟩
  | 126 => ⟨S5632, .f32⟩
  | 127 => ⟨S1x5632, .f32⟩
  | _ => ⟨S2048x5632, .f32⟩

abbrev hbmTy0_1 (i : Nat) : BufTy := match i % 128 with
  | 0 => ⟨S_, .f32⟩
  | 1 => ⟨S3x5632, .f32⟩
  | 2 => ⟨S3x5632, .f32⟩
  | 3 => ⟨S_, .f32⟩
  | 4 => ⟨S2050x5632, .f32⟩
  | 5 => ⟨S2050x5632, .f32⟩
  | 6 => ⟨S2x5632, .f32⟩
  | 7 => ⟨S2048x5632, .f32⟩
  | 8 => ⟨S2048x2816, .f32⟩
  | 9 => ⟨S2048x2816, .f32⟩
  | 10 => ⟨S1x2048x2816, .f32⟩
  | 11 => ⟨S1x2048x2816, .f32⟩
  | 12 => ⟨S2x2048x2816, .f32⟩
  | 13 => ⟨S2x2048x2816, .bf16⟩
  | 14 => ⟨S3x2816, .f32⟩
  | 15 => ⟨S3x2816, .f32⟩
  | 16 => ⟨S1x3x2816, .f32⟩
  | 17 => ⟨S1x3x2816, .f32⟩
  | 18 => ⟨S2x3x2816, .f32⟩
  | 19 => ⟨S1x5632, .f32⟩
  | 20 => ⟨S1x2816, .f32⟩
  | 21 => ⟨S1x2816, .f32⟩
  | 22 => ⟨S1x1x2816, .f32⟩
  | 23 => ⟨S1x1x2816, .f32⟩
  | 24 => ⟨S2x1x2816, .f32⟩
  | _ => ⟨S2048x5632, .f32⟩

abbrev hbmTy (i : Nat) : BufTy := match i / 128 with
  | 0 => hbmTy0_0 i
  | 1 => hbmTy0_1 i
  | _ => ⟨S2048x5632, .f32⟩

abbrev bufTy : (tb : Table) → Fin (tcTables nBuf tb) → BufTy
  | .hbm, ⟨i, _⟩ => hbmTy i
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_cst_3 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_cst_4 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_5 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_6 : Ref sig .tc := ⟨.hbm, 54, rfl⟩
abbrev main_v43 : Ref sig .tc := ⟨.hbm, 55, rfl⟩
abbrev main_v44 : Ref sig .tc := ⟨.hbm, 56, rfl⟩
abbrev main_cst_7 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_cst_8 : Ref sig .tc := ⟨.hbm, 61, rfl⟩
abbrev main_v48 : Ref sig .tc := ⟨.hbm, 62, rfl⟩
abbrev main_v49 : Ref sig .tc := ⟨.hbm, 63, rfl⟩
abbrev main_cst_9 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_cst_11 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_cst_12 : Ref sig .tc := ⟨.hbm, 86, rfl⟩
abbrev main_v69 : Ref sig .tc := ⟨.hbm, 87, rfl⟩
abbrev main_v70 : Ref sig .tc := ⟨.hbm, 88, rfl⟩
abbrev main_cst_13 : Ref sig .tc := ⟨.hbm, 89, rfl⟩
abbrev main_v71 : Ref sig .tc := ⟨.hbm, 90, rfl⟩
abbrev main_v72 : Ref sig .tc := ⟨.hbm, 91, rfl⟩
abbrev main_cst_14 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_cst_15 : Ref sig .tc := ⟨.hbm, 97, rfl⟩
abbrev main_v77 : Ref sig .tc := ⟨.hbm, 98, rfl⟩
abbrev main_v78 : Ref sig .tc := ⟨.hbm, 99, rfl⟩
abbrev main_cst_16 : Ref sig .tc := ⟨.hbm, 100, rfl⟩
abbrev main_v79 : Ref sig .tc := ⟨.hbm, 101, rfl⟩
abbrev main_cst_17 : Ref sig .tc := ⟨.hbm, 102, rfl⟩
abbrev main_v80 : Ref sig .tc := ⟨.hbm, 103, rfl⟩
abbrev main_v81 : Ref sig .tc := ⟨.hbm, 104, rfl⟩
abbrev main_cst_18 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_cst_19 : Ref sig .tc := ⟨.hbm, 110, rfl⟩
abbrev main_v86 : Ref sig .tc := ⟨.hbm, 111, rfl⟩
abbrev main_v87 : Ref sig .tc := ⟨.hbm, 112, rfl⟩
abbrev main_cst_20 : Ref sig .tc := ⟨.hbm, 113, rfl⟩
abbrev main_v88 : Ref sig .tc := ⟨.hbm, 114, rfl⟩
abbrev main_v89 : Ref sig .tc := ⟨.hbm, 115, rfl⟩
abbrev main_cst_21 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_cst_22 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_cst_23 : Ref sig .tc := ⟨.hbm, 125, rfl⟩
abbrev main_v97 : Ref sig .tc := ⟨.hbm, 126, rfl⟩
abbrev main_v98 : Ref sig .tc := ⟨.hbm, 127, rfl⟩
abbrev main_cst_24 : Ref sig .tc := ⟨.hbm, 128, rfl⟩
abbrev main_v99 : Ref sig .tc := ⟨.hbm, 129, rfl⟩
abbrev main_v100 : Ref sig .tc := ⟨.hbm, 130, rfl⟩
abbrev main_cst_25 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩

abbrev nD : Nat := 1
abbrev τ : Topo := Topo.v7x

variable {F : FTy → Type} [FloatOps F]
-- ==== ConvFwd.lean ====
abbrev S2048x5632 : Shape := ⟨2, ![2048, 5632]⟩
abbrev S3x5632 : Shape := ⟨2, ![3, 5632]⟩
abbrev S1x5632 : Shape := ⟨2, ![1, 5632]⟩
abbrev S2048x2816 : Shape := ⟨2, ![2048, 2816]⟩
abbrev S2048x128 : Shape := ⟨2, ![2048, 128]⟩
abbrev S3x128 : Shape := ⟨2, ![3, 128]⟩
abbrev S1x128 : Shape := ⟨2, ![1, 128]⟩

abbrev nBuf : Space → Nat
  | .hbm => 4
  | .vmem => 14
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S2048x2816, .bf16⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S3x128, .f32⟩
  | .local _ .vmem, ⟨5, _⟩ => ⟨S3x128, .f32⟩
  | .local _ .vmem, ⟨6, _⟩ => ⟨S3x128, .f32⟩
  | .local _ .vmem, ⟨7, _⟩ => ⟨S3x128, .f32⟩
  | .local _ .vmem, ⟨8, _⟩ => ⟨S1x128, .f32⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S2048x128, .bf16⟩
  | .local _ .vmem, ⟨13, _⟩ => ⟨S2048x128, .bf16⟩
  | _, _ => ⟨S2048x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let c22_i32 : BitVec 32 := 22#32
  let v0 : BitVec 32 := Scalar.addi arg0 c22_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ConvFwdRefIdeal.lean ====
abbrev S2048x5632 : Shape := ⟨2, ![2048, 5632]⟩
abbrev S3x5632 : Shape := ⟨2, ![3, 5632]⟩
abbrev S1x5632 : Shape := ⟨2, ![1, 5632]⟩
abbrev S5632 : Shape := ⟨1, ![5632]⟩
abbrev S_ : Shape := ⟨0, ![]⟩
abbrev S2x5632 : Shape := ⟨2, ![2, 5632]⟩
abbrev S2050x5632 : Shape := ⟨2, ![2050, 5632]⟩
abbrev S2048x2816 : Shape := ⟨2, ![2048, 2816]⟩

abbrev nBuf : Space → Nat
  | .hbm => 54
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S3x5632, .f32⟩
  | .hbm, ⟨2, _⟩ => ⟨S1x5632, .f32⟩
  | .hbm, ⟨3, _⟩ => ⟨S5632, .f32⟩
  | .hbm, ⟨4, _⟩ => ⟨S_, .f32⟩
  | .hbm, ⟨5, _⟩ => ⟨S2x5632, .f32⟩
  | .hbm, ⟨6, _⟩ => ⟨S2050x5632, .f32⟩
  | .hbm, ⟨7, _⟩ => ⟨S2048x5632, .f32⟩
  | .hbm, ⟨8, _⟩ => ⟨S1x5632, .f32⟩
  | .hbm, ⟨9, _⟩ => ⟨S5632, .f32⟩
  | .hbm, ⟨10, _⟩ => ⟨S1x5632, .f32⟩
  | .hbm, ⟨11, _⟩ => ⟨S2048x5632, .f32⟩
  | .hbm, ⟨12, _⟩ => ⟨S2048x5632, .f32⟩
  | .hbm, ⟨13, _⟩ => ⟨S_, .f32⟩
  | .hbm, ⟨14, _⟩ => ⟨S2048x5632, .f32⟩
  | .hbm, ⟨15, _⟩ => ⟨S2048x5632, .f32⟩
  | .hbm, ⟨16, _⟩ => ⟨S2048x5632, .f32⟩
  | .hbm, ⟨17, _⟩ => ⟨S1x5632, .f32⟩
  | .hbm, ⟨18, _⟩ => ⟨S5632, .f32⟩
  | .hbm, ⟨19, _⟩ => ⟨S1x5632, .f32⟩
  | .hbm, ⟨20, _⟩ => ⟨S2048x5632, .f32⟩
  | .hbm, ⟨21, _⟩ => ⟨S2048x5632, .f32⟩
  | .hbm, ⟨22, _⟩ => ⟨S2048x5632, .f32⟩
  | .hbm, ⟨23, _⟩ => ⟨S2048x5632, .f32⟩
  | .hbm, ⟨24, _⟩ => ⟨S1x5632, .f32⟩
  | .hbm, ⟨25, _⟩ => ⟨S5632, .f32⟩
  | .hbm, ⟨26, _⟩ => ⟨S1x5632, .f32⟩
  | .hbm, ⟨27, _⟩ => ⟨S2048x5632, .f32⟩
  | .hbm, ⟨28, _⟩ => ⟨S2048x5632, .f32⟩
  | .hbm, ⟨29, _⟩ => ⟨S2048x5632, .f32⟩
  | .hbm, ⟨30, _⟩ => ⟨S1x5632, .f32⟩
  | .hbm, ⟨31, _⟩ => ⟨S2048x5632, .f32⟩
  | .hbm, ⟨32, _⟩ => ⟨S2048x5632, .f32⟩
  | .hbm, ⟨33, _⟩ => ⟨S2048x2816, .f32⟩
  | .hbm, ⟨34, _⟩ => ⟨S2048x2816, .f32⟩
  | .hbm, ⟨35, _⟩ => ⟨S2048x2816, .f32⟩
  | .hbm, ⟨36, _⟩ => ⟨S2048x2816, .f32⟩
  | .hbm, ⟨37, _⟩ => ⟨S_, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S_, .f32⟩
  | .hbm, ⟨42, _⟩ => ⟨S2048x2816, .f32⟩
  | .hbm, ⟨43, _⟩ => ⟨S2048x2816, .f32⟩
  | .hbm, ⟨44, _⟩ => ⟨S2048x2816, .f32⟩
  | .hbm, ⟨45, _⟩ => ⟨S_, .f32⟩
  | .hbm, ⟨46, _⟩ => ⟨S2048x2816, .f32⟩
  | .hbm, ⟨47, _⟩ => ⟨S2048x2816, .f32⟩
  | .hbm, ⟨48, _⟩ => ⟨S_, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S2048x2816, .f32⟩
  | .hbm, ⟨53, _⟩ => ⟨S2048x2816, .bf16⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_cst_1 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_cst_2 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩

abbrev nD : Nat := 1
abbrev τ : Topo := Topo.v7x

variable {F : FTy → Type} [FloatOps F]
-- ==== RmsIn.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsInRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== RmsRes.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== RmsResRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 21
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== RmsResIn.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RmsResInRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 40
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S1x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S1024, .f32⟩
  | .hbm, ⟨23, _⟩ => ⟨S2048x1024, .f32⟩
  | .hbm, ⟨24, _⟩ => ⟨S_, .f32⟩
  | .hbm, ⟨25, _⟩ => ⟨S2048, .f32⟩
  | .hbm, ⟨26, _⟩ => ⟨S2048x1, .f32⟩
  | .hbm, ⟨27, _⟩ => ⟨S_, .f32⟩
  | .hbm, ⟨28, _⟩ => ⟨S2048x1, .f32⟩
  | .hbm, ⟨29, _⟩ => ⟨S2048x1, .f32⟩
  | .hbm, ⟨30, _⟩ => ⟨S_, .f32⟩
  | .hbm, ⟨31, _⟩ => ⟨S2048x1, .f32⟩
  | .hbm, ⟨32, _⟩ => ⟨S2048x1, .f32⟩
  | .hbm, ⟨33, _⟩ => ⟨S2048x1, .f32⟩
  | .hbm, ⟨34, _⟩ => ⟨S2048x1024, .f32⟩
  | .hbm, ⟨35, _⟩ => ⟨S2048x1024, .f32⟩
  | .hbm, ⟨36, _⟩ => ⟨S1x1024, .f32⟩
  | .hbm, ⟨37, _⟩ => ⟨S2048x1024, .f32⟩
  | .hbm, ⟨38, _⟩ => ⟨S2048x1024, .f32⟩
  | .hbm, ⟨39, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== RmsBwd.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 5
  | .vmem => 8
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .bf16⟩
  | .hbm, ⟨4, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | .local _ .vmem, ⟨7, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== RmsBwdRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 51
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1, .f32⟩
  | .hbm, ⟨39, _⟩ => ⟨S_, .f32⟩
  | .hbm, ⟨40, _⟩ => ⟨S2048x1, .f32⟩
  | .hbm, ⟨41, _⟩ => ⟨S2048x1, .f32⟩
  | .hbm, ⟨42, _⟩ => ⟨S_, .f32⟩
  | .hbm, ⟨43, _⟩ => ⟨S2048, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .bf16⟩
  | .hbm, ⟨50, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_4 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_cst_7 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩

abbrev nD : Nat := 1
abbrev τ : Topo := Topo.v7x

variable {F : FTy → Type} [FloatOps F]
-- ==== RmsBwdRes.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RmsBwdResRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 52
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S2048x1024, .f32⟩
  | .hbm, ⟨34, _⟩ => ⟨S_, .f32⟩
  | .hbm, ⟨35, _⟩ => ⟨S2048, .f32⟩
  | .hbm, ⟨36, _⟩ => ⟨S2048x1, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1, .f32⟩
  | .hbm, ⟨41, _⟩ => ⟨S_, .f32⟩
  | .hbm, ⟨42, _⟩ => ⟨S2048x1, .f32⟩
  | .hbm, ⟨43, _⟩ => ⟨S2048x1, .f32⟩
  | .hbm, ⟨44, _⟩ => ⟨S_, .f32⟩
  | .hbm, ⟨45, _⟩ => ⟨S2048, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== RmsBwdTwo.lean ====
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S2048x1024, .f32⟩
  | .hbm, ⟨7, _⟩ => ⟨S2048x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RmsBwdTwoRefIdeal.lean ====
abbrev S2048x1024 : Shape := ⟨2, ![2048, 1024]⟩
abbrev S1x1024 : Shape := ⟨2, ![1, 1024]⟩
abbrev S1024 : Shape := ⟨1, ![1024]⟩
abbrev S_ : Shape := ⟨0, ![]⟩
abbrev S2048 : Shape := ⟨1, ![2048]⟩
abbrev S2048x1 : Shape := ⟨2, ![2048, 1]⟩

abbrev nBuf : Space → Nat
  | .hbm => 102
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .hbm, ⟨6, _⟩ => ⟨S1024, .f32⟩
  | .hbm, ⟨7, _⟩ => ⟨S2048x1024, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S_, .f32⟩
  | .hbm, ⟨20, _⟩ => ⟨S2048x1, .f32⟩
  | .hbm, ⟨21, _⟩ => ⟨S2048x1, .f32⟩
  | .hbm, ⟨22, _⟩ => ⟨S2048x1024, .f32⟩
  | .hbm, ⟨23, _⟩ => ⟨S2048x1024, .f32⟩
  | .hbm, ⟨24, _⟩ => ⟨S1x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S1024, .f32⟩
  | .hbm, ⟨54, _⟩ => ⟨S2048x1024, .f32⟩
  | .hbm, ⟨55, _⟩ => ⟨S_, .f32⟩
  | .hbm, ⟨56, _⟩ => ⟨S2048, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048x1, .f32⟩
  | .hbm, ⟨63, _⟩ => ⟨S2048x1, .f32⟩
  | .hbm, ⟨64, _⟩ => ⟨S2048x1, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S2048x1024, .f32⟩
  | .hbm, ⟨70, _⟩ => ⟨S2048x1024, .f32⟩
  | .hbm, ⟨71, _⟩ => ⟨S1x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S_, .f32⟩
  | .hbm, ⟨76, _⟩ => ⟨S1024, .f32⟩
  | .hbm, ⟨77, _⟩ => ⟨S1x1024, .f32⟩
  | .hbm, ⟨78, _⟩ => ⟨S2048x1024, .f32⟩
  | .hbm, ⟨79, _⟩ => ⟨S2048x1024, .f32⟩
  | .hbm, ⟨80, _⟩ => ⟨S_, .f32⟩
  | .hbm, ⟨81, _⟩ => ⟨S1024, .f32⟩
  | .hbm, ⟨82, _⟩ => ⟨S2048x1024, .f32⟩
  | .hbm, ⟨83, _⟩ => ⟨S_, .f32⟩
  | .hbm, ⟨84, _⟩ => ⟨S2048, .f32⟩
  | .hbm, ⟨85, _⟩ => ⟨S2048x1, .f32⟩
  | .hbm, ⟨86, _⟩ => ⟨S2048x1024, .f32⟩
  | .hbm, ⟨87, _⟩ => ⟨S2048x1024, .f32⟩
  | .hbm, ⟨88, _⟩ => ⟨S2048x1, .f32⟩
  | .hbm, ⟨89, _⟩ => ⟨S_, .f32⟩
  | .hbm, ⟨90, _⟩ => ⟨S2048x1, .f32⟩
  | .hbm, ⟨91, _⟩ => ⟨S2048x1, .f32⟩
  | .hbm, ⟨92, _⟩ => ⟨S_, .f32⟩
  | .hbm, ⟨93, _⟩ => ⟨S2048, .f32⟩
  | .hbm, ⟨94, _⟩ => ⟨S2048x1024, .f32⟩
  | .hbm, ⟨95, _⟩ => ⟨S2048x1024, .f32⟩
  | .hbm, ⟨96, _⟩ => ⟨S2048x1024, .f32⟩
  | .hbm, ⟨97, _⟩ => ⟨S2048x1024, .f32⟩
  | .hbm, ⟨98, _⟩ => ⟨S2048x1024, .f32⟩
  | .hbm, ⟨99, _⟩ => ⟨S2048x1024, .bf16⟩
  | .hbm, ⟨100, _⟩ => ⟨S1x1024, .f32⟩
  | .hbm, ⟨101, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Proof.UpDxVal.lean ====
/-
  The kernel of the gradient the up-projection hands back: four blocks of the contraction summed in a scratch buffer are the whole
  product, and so is its reference's.
-/
module

public import proofs.«01_k».proof.Proof.Gen.UpDxIdeal.Value
public import proofs.«01_k».proof.Proof.Gen.UpDxRefIdeal.Read
public import Idealize.ShloMosaic.Lib.Pipeline.ValueKit
public import Idealize.ShloMosaic.Lib.Pointwise

@[expose] public section
set_option maxRecDepth 16384
noncomputable section
namespace Cert.UpDxIdeal.Arr
open Cert.UpDxIdeal Cert.UpDxIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![t.val % 4 / 2, t.val / 4, t.val % 4 % 2] ∧ win0_1.index t = ![0, t.val % 4] ∧ win0_2.index t = ![t.val / 4, 0] ∧ t.val < 8 :=
  (by decide +kernel : ∀ t : Fin grid0.N, _)

theorem iblk0 (c : Dev nD) (t : Fin cfg0.N) (r : Fin 1024) (k : Fin 1408) (h : t.val % 4 / 2 < 2) (h' : 1024 * (t.val / 4) + r.val < 2048)
    (h'' : 1408 * (t.val % 4 % 2) + k.val < 2816) :
    iblk m c 0 t (ix3 0 r k) = m ((c : Thread nD τ).loc main_arg0) (ix3 ⟨t.val % 4 / 2, h⟩ ⟨1024 * (t.val / 4) + r.val, h'⟩ ⟨1408 * (t.val % 4 % 2) + k.val, h''⟩) := by
  blk_ext [iblk, V, idx t]
theorem iblk1 (c : Dev nD) (t : Fin cfg0.N) (r : Fin 1024) (k : Fin 1408) (h : 1408 * (t.val % 4) + k.val < 5632) :
    iblk m c 1 t (ix2 r k) = m ((c : Thread nD τ).loc main_arg1) (ix2 r ⟨1408 * (t.val % 4) + k.val, h⟩) := by
  blk_ext [iblk, V, idx t]

/-- The product of two blocks at an entry. -/
def part (x0 : Vec Ideal S1x1024x1408 .bf16) (x1 : Vec Ideal S1024x1408 .bf16) (r l : Fin 1024) : EReal :=
  ∑ k : Fin 1408, @HMul.hMul EReal EReal EReal _ (x0 (ix3 0 r k)) (x1 (ix2 l k))

theorem pay1_apply (x0 : Vec Ideal S1x1024x1408 .bf16) (x1 : Vec Ideal S1024x1408 .bf16) (r l : Fin 1024) :
    k0_pay1 x0 x1 (ix2 r l) = part x0 x1 r l := by
  unfold part
  pointwise [k0_pay1]
theorem pay2_apply (s : Vec Ideal S1024x1024 .f32) (x0 : Vec Ideal S1x1024x1408 .bf16) (x1 : Vec Ideal S1024x1408 .bf16) (r l : Fin 1024) :
    k0_pay2 s x0 x1 (ix2 r l) = @HAdd.hAdd EReal EReal EReal _ (s (ix2 r l)) (part x0 x1 r l) := by
  unfold part
  pointwise [k0_pay2]
theorem pay3_apply (s : Vec Ideal S1024x1024 .f32) (x0 : Vec Ideal S1x1024x1408 .bf16) (x1 : Vec Ideal S1024x1408 .bf16) (r l : Fin 1024) :
    k0_pay3 s x0 x1 (ix2 r l) = @HAdd.hAdd EReal EReal EReal _ (s (ix2 r l)) (part x0 x1 r l) := by
  unfold part
  pointwise [k0_pay3]

/-- What the scratch buffer holds after the first of the four blocks. -/
theorem scA (c : Dev nD) (t : Fin cfg0.N) (h0 : t.val % 4 = 0) (r l : Fin 1024) :
    (outsAt0 m c t.val t.isLt).2 (ix2 r l) = part (iblk m c 0 t) (iblk m c 1 t) r l := by
  rw [outsAt0_A m c t h0 (by omega) (by omega)]
  dsimp only
  unfold sout0_A_0
  frame_open
  frame_out
  exact pay1_apply _ _ r l

/-- What the scratch buffer holds after the second or third. -/
theorem scB (c : Dev nD) (t : Fin cfg0.N) (h0 : 1 ≤ t.val % 4 ∧ t.val % 4 ≤ 2) (r l : Fin 1024) :
    (outsAt0 m c t.val t.isLt).2 (ix2 r l) = @HAdd.hAdd EReal EReal EReal _ ((outsAt0 m c (t.val - 1) (Nat.lt_of_le_of_lt (Nat.sub_le _ _) t.isLt)).2 (ix2 r l))
      (part (iblk m c 0 t) (iblk m c 1 t) r l) := by
  rw [outsAt0_B m c t (by omega) h0 (by omega)]
  dsimp only
  unfold sout0_B_0
  generalize (outsAt0 m c (t.val - 1) (Nat.lt_of_le_of_lt (Nat.sub_le _ _) t.isLt)).2 = s
  frame_open
  frame_out
  exact (congrArg (fun s => k0_pay2 s (iblk m c 0 t) (iblk m c 1 t) (ix2 r l)) (by exact (Memref.isWhole_whole cc0_scratch0).read_unread s)).trans (pay2_apply s _ _ r l)

/-- What the result's block holds after the fourth. -/
theorem outC (c : Dev nD) (t : Fin cfg0.N) (h0 : t.val % 4 = 3) (r l : Fin 1024) :
    (outsAt0 m c t.val t.isLt).1 (ix2 r l) = @HAdd.hAdd EReal EReal EReal _ ((outsAt0 m c (t.val - 1) (Nat.lt_of_le_of_lt (Nat.sub_le _ _) t.isLt)).2 (ix2 r l))
      (part (iblk m c 0 t) (iblk m c 1 t) r l) := by
  rw [outsAt0_C m c t (by omega) (by omega) h0]
  dsimp only
  unfold out0_C_2
  generalize (outsAt0 m c (t.val - 1) (Nat.lt_of_le_of_lt (Nat.sub_le _ _) t.isLt)).2 = s
  frame_open
  frame_out
  exact (congrArg (fun s => k0_pay3 s (iblk m c 0 t) (iblk m c 1 t) (ix2 r l)) (by exact (Memref.isWhole_whole cc0_scratch0).read_unread s)).trans (pay3_apply s _ _ r l)

/-- A pair of blocks' product in the arguments' entries. -/
theorem part_eq (c : Dev nD) (t : Fin cfg0.N) (a : Fin 2) (k : Fin 4) (ht : t.val = 4 * a.val + k.val) (r l : Fin 1024) :
    part (iblk m c 0 t) (iblk m c 1 t) r l = ∑ x : Fin 1408, @HMul.hMul EReal EReal EReal _
      (m ((c : Thread nD τ).loc main_arg0) (ix3 ⟨(x.val + 1408 * k.val) / 2816, by omega⟩ ⟨1024 * a.val + r.val, by omega⟩ ⟨(x.val + 1408 * k.val) % 2816, Nat.mod_lt _ (by decide)⟩))
      (m ((c : Thread nD τ).loc main_arg1) (ix2 l ⟨x.val + 1408 * k.val, by omega⟩)) := by
  unfold part
  refine Finset.sum_congr rfl fun x _ => ?_
  have hx := x.isLt
  refine (congrArg₂ (@HMul.hMul EReal EReal EReal _) (iblk0 m c t r x (by omega) (by omega) (by omega)) (iblk1 m c t l x (by omega))).trans ?_
  have e : ∀ (p p' : Fin 2) (q q' : Fin 2048) (s s' : Fin 2816), p.val = p'.val → q.val = q'.val → s.val = s'.val → ix3 p q s = ix3 p' q' s' := by
    rintro p p' q q' s s' h h' h''
    rw [Fin.ext h, Fin.ext h', Fin.ext h'']
  refine congrArg₂ (@HMul.hMul EReal EReal EReal _) (congrArg _ (e _ _ _ _ _ _ ?_ ?_ ?_)) (congrArg _ (congrArg (ix2 l) (Fin.ext ?_)))
  all_goals dsimp only
  all_goals omega

/-- The product of the halves of the cotangent, side by side, with the transposed weights. -/
def prod (a : (⟨S2x2048x2816, .bf16⟩ : BufTy).Contents (Elt Ideal)) (b : (⟨S1024x5632, .bf16⟩ : BufTy).Contents (Elt Ideal)) (i : S2048x1024.Idx) : EReal :=
  ∑ k : Fin 5632, @HMul.hMul EReal EReal EReal _ (a (ix3 ⟨k.val / 2816, by omega⟩ (i 0) ⟨k.val % 2816, Nat.mod_lt _ (by decide)⟩)) (b (ix2 (i 1) k))

theorem out_eq (c : Dev nD) (t : Fin cfg0.N) (h : t.val % 4 = 3) (a : Fin 2) (ha : t.val / 4 = a.val) (r l : Fin 1024) :
    (outsAt0 m c t.val t.isLt).1 (ix2 r l) = prod (m ((c : Thread nD τ).loc main_arg0)) (m ((c : Thread nD τ).loc main_arg1)) (ix2 ⟨1024 * a.val + r.val, by omega⟩ l) := by
  have hN : cfg0.N = 8 := N_0
  obtain ⟨n, hn⟩ := t
  dsimp only at h ha
  obtain ⟨p, rfl⟩ : ∃ p, n = p + 3 := ⟨n - 3, by omega⟩
  refine (outC m c ⟨p + 3, hn⟩ h r l).trans ?_
  refine (congrArg (fun x : EReal => x + part (iblk m c 0 ⟨p + 3, hn⟩) (iblk m c 1 ⟨p + 3, hn⟩) r l) (scB m c ⟨p + 2, by omega⟩ (by dsimp only; omega) r l)).trans ?_
  refine (congrArg (fun x : EReal => x + part (iblk m c 0 ⟨p + 2, by omega⟩) (iblk m c 1 ⟨p + 2, by omega⟩) r l + part (iblk m c 0 ⟨p + 3, hn⟩) (iblk m c 1 ⟨p + 3, hn⟩) r l)
    (scB m c ⟨p + 1, by omega⟩ (by dsimp only; omega) r l)).trans ?_
  refine (congrArg (fun x : EReal => x + part (iblk m c 0 ⟨p + 1, by omega⟩) (iblk m c 1 ⟨p + 1, by omega⟩) r l + part (iblk m c 0 ⟨p + 2, by omega⟩) (iblk m c 1 ⟨p + 2, by omega⟩) r l
    + part (iblk m c 0 ⟨p + 3, hn⟩) (iblk m c 1 ⟨p + 3, hn⟩) r l) (scA m c ⟨p, by omega⟩ (by dsimp only; omega) r l)).trans ?_
  rw [part_eq m c ⟨p, by omega⟩ a 0 (by dsimp only; omega), part_eq m c ⟨p + 1, by omega⟩ a 1 (by show p + 1 = 4 * a.val + 1; omega),
    part_eq m c ⟨p + 2, by omega⟩ a 2 (by show p + 2 = 4 * a.val + 2; omega), part_eq m c ⟨p + 3, hn⟩ a 3 (by show p + 3 = 4 * a.val + 3; omega)]
  unfold prod
  refine Eq.trans ?_ (Equiv.sum_comp (finProdFinEquiv (m := 4) (n := 1408)) (fun k : Fin 5632 => @HMul.hMul EReal EReal EReal _
    (m ((c : Thread nD τ).loc main_arg0) (ix3 ⟨k.val / 2816, by omega⟩ ⟨1024 * a.val + r.val, by omega⟩ ⟨k.val % 2816, Nat.mod_lt _ (by decide)⟩))
    (m ((c : Thread nD τ).loc main_arg1) (ix2 l k))))
  rw [Fintype.sum_prod_type, Fin.sum_univ_four]
  rfl

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 8 := (idx t).2.2.2
  have h3 : t.val % 4 = 3 := (flush0_2 t).mp hf
  have hr : (y 0).val < 1024 := (y 0).isLt
  have hl : (y 1).val < 1024 := (y 1).isLt
  blk_simp
  rw [after0_2]
  have hy : y = ix2 (y 0) (y 1) := by funext a; fin_cases a <;> rfl
  refine (congrArg _ hy).trans ((out_eq m c t h3 ⟨t.val / 4, by omega⟩ rfl _ _).trans ?_)
  refine congrArg (prod _ _) (funext fun x => Fin.ext ?_)
  fin_cases x
  · blk_simp [idx t]
    show 1024 * (t.val / 4) + (y 0).val = t.val / 4 * 1024 + (y 0).val
    omega
  · blk_simp [idx t]
    rfl

/-- The reference's two halves side by side. -/
theorem cat (b : (⟨S2x2048x2816, .bf16⟩ : BufTy).Contents (Elt Ideal)) (k : Fin 2048) (q : Fin 5632) :
    Cert.UpDxRefIdeal.Read.val_main_v4 (F := Ideal) b (ix2 k q)
      = b (ix3 ⟨q.val / 2816, by omega⟩ k ⟨q.val % 2816, Nat.mod_lt _ (by decide)⟩) := by
  have ha : ∀ (p p' : Fin 2) (s s' : Fin 2816), p.val = p'.val → s.val = s'.val → b (ix3 p k s) = b (ix3 p' k s') := by
    rintro p p' s s' h h'
    rw [Fin.ext h, Fin.ext h']
  have hk : k.val < 2048 := k.isLt
  unfold Cert.UpDxRefIdeal.Read.val_main_v4
  by_cases hq : q.val < 2816
  · refine (concatenate_pair_apply_left (t := Cert.UpDxRefIdeal.S2048x5632) (s₁ := Cert.UpDxRefIdeal.S2048x2816) (s₂ := Cert.UpDxRefIdeal.S2048x2816) 1 _ _ _ (ix2 k q) rfl (ix2 k ⟨q.val, hq⟩ : Cert.UpDxRefIdeal.S2048x2816.Idx) (fun x => by fin_cases x <;> rfl)).trans ?_
    refine (Cert.UpDxRefIdeal.Read.val_main_v1_apply b _).trans ((Cert.UpDxRefIdeal.Read.val_main_v0_apply b _).trans ?_)
    refine Eq.trans (congrArg b ?_) (ha 0 _ ⟨q.val, hq⟩ _ ?_ ?_)
    · funext x
      fin_cases x
      · rfl
      · refine Fin.ext ?_
        show (k.val * 2816 + q.val) / 2816 % 2048 = k.val
        omega
      · refine Fin.ext ?_
        show (k.val * 2816 + q.val) % 2816 = q.val
        omega
    · show 0 = q.val / 2816
      omega
    · show q.val = q.val % 2816
      omega
  · refine (concatenate_pair_apply_right (t := Cert.UpDxRefIdeal.S2048x5632) (s₁ := Cert.UpDxRefIdeal.S2048x2816) (s₂ := Cert.UpDxRefIdeal.S2048x2816) 1 _ _ _ (ix2 k q) rfl rfl (ix2 k ⟨q.val - 2816, by omega⟩ : Cert.UpDxRefIdeal.S2048x2816.Idx)
      (fun x hx => by
        fin_cases x
        · rfl
        · exact absurd rfl hx) (by show q.val - 2816 + 2816 = q.val; omega)).trans ?_
    refine (Cert.UpDxRefIdeal.Read.val_main_v3_apply b _).trans ((Cert.UpDxRefIdeal.Read.val_main_v2_apply b _).trans ?_)
    refine Eq.trans (congrArg b ?_) (ha 1 _ ⟨q.val - 2816, by omega⟩ _ ?_ ?_)
    · funext x
      fin_cases x
      · rfl
      · refine Fin.ext ?_
        show (k.val * 2816 + (q.val - 2816)) / 2816 % 2048 = k.val
        omega
      · refine Fin.ext ?_
        show (k.val * 2816 + (q.val - 2816)) % 2816 = q.val - 2816
        omega
    · show 1 = q.val / 2816
      omega
    · show q.val - 2816 = q.val % 2816
      omega

/-- The reference's result is the same product. -/
theorem ref (a : (⟨S2x2048x2816, .bf16⟩ : BufTy).Contents (Elt Ideal)) (b : (⟨S1024x5632, .bf16⟩ : BufTy).Contents (Elt Ideal)) :
    Cert.UpDxRefIdeal.Read.val_main_v7 (F := Ideal) a b = prod a b := by
  funext i
  unfold prod
  refine (Cert.UpDxRefIdeal.Read.val_main_v7_apply a b i).trans ?_
  refine Finset.sum_congr rfl fun k _ => congrArg₂ (@HMul.hMul EReal EReal EReal _) ?_ (congrArg b (funext fun x => by fin_cases x <;> rfl))
  exact (congrArg (Cert.UpDxRefIdeal.Read.val_main_v4 (F := Ideal) a) (funext fun x => by fin_cases x <;> rfl)).trans (cat a (i 0) k)

end Cert.UpDxIdeal.Arr
end
-- ==== Proof.UpDwVal.lean ====
/-
  The kernel of the gradient of the up-projection's weights: its result array is the whole product, and so is its reference's.
-/
module

public import proofs.«01_k».proof.Proof.Gen.UpDwIdeal.Value
public import proofs.«01_k».proof.Proof.Gen.UpDwRefIdeal.Read
public import Idealize.ShloMosaic.Lib.Pipeline.ValueKit
public import Idealize.ShloMosaic.Lib.Pointwise

@[expose] public section
set_option maxRecDepth 16384
noncomputable section
namespace Cert.UpDwIdeal.Arr
open Cert.UpDwIdeal Cert.UpDwIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![t.val / 2, 0, t.val % 2] ∧ win0_2.index t = ![0, t.val] ∧ t.val < 4 :=
  (by decide +kernel : ∀ t : Fin grid0.N, _)
theorem iblk0 (c : Dev nD) (t : Fin cfg0.N) (r : Fin 1024) (k : Fin 2048) :
    iblk m c 0 t (ix2 k r) = m ((c : Thread nD τ).loc main_arg0) (ix2 k r) := by
  blk_ext [iblk, V, idx t]
theorem iblk1 (c : Dev nD) (t : Fin cfg0.N) (r : Fin 1408) (k : Fin 2048) (h : t.val / 2 < 2) (h' : 1408 * (t.val % 2) + r.val < 2816) :
    iblk m c 1 t (ix3 0 k r) = m ((c : Thread nD τ).loc main_arg1) (ix3 ⟨t.val / 2, h⟩ k ⟨1408 * (t.val % 2) + r.val, h'⟩) := by
  blk_ext [iblk, V, idx t]

theorem out_apply (x0 : Vec Ideal S2048x1024 .bf16) (x1 : Vec Ideal S1x2048x1408 .bf16) (r : Fin 1024) (l : Fin 1408) :
    out0_2 x0 x1 (ix2 r l) = ∑ k : Fin 2048, @HMul.hMul EReal EReal EReal _ (x0 (ix2 k r)) (x1 (ix3 0 k l)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S2x2048x2816, .bf16⟩ : BufTy).Contents (Elt Ideal)) (i : S1024x5632.Idx) : EReal :=
  ∑ k : Fin 2048, @HMul.hMul EReal EReal EReal _ (a (ix2 k (i 0))) (b (ix3 ⟨(i 1).val / 2816, by have h : (i 1).val < 5632 := (i 1).isLt; omega⟩ k ⟨(i 1).val % 2816, Nat.mod_lt _ (by decide)⟩))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 4 := (idx t).2.2.2
  have hr : (y 0).val < 1024 := (y 0).isLt
  have hl : (y 1).val < 1408 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _ (by omega) (by omega))).trans ?_
  refine congrArg₂ (@HMul.hMul EReal EReal EReal _) (congrArg _ (congrArg (ix2 k) ?_)) (congrArg _ (congrArg₂ (fun x y => ix3 x k y) ?_ ?_))
  · refine Fin.ext ?_
    blk_simp [idx t]
  · refine Fin.ext ?_
    blk_simp [idx t]
    show t.val / 2 = (t.val * 1408 + (y 1).val) / 2816
    omega
  · refine Fin.ext ?_
    blk_simp [idx t]
    show 1408 * (t.val % 2) + (y 1).val = (t.val * 1408 + (y 1).val) % 2816
    omega

/-- The reference's two halves side by side. -/
theorem cat (b : (⟨S2x2048x2816, .bf16⟩ : BufTy).Contents (Elt Ideal)) (k : Fin 2048) (q : Fin 5632) :
    Cert.UpDwRefIdeal.Read.val_main_v4 (F := Ideal) b (ix2 k q)
      = b (ix3 ⟨q.val / 2816, by omega⟩ k ⟨q.val % 2816, Nat.mod_lt _ (by decide)⟩) := by
  have ha : ∀ (p p' : Fin 2) (s s' : Fin 2816), p.val = p'.val → s.val = s'.val → b (ix3 p k s) = b (ix3 p' k s') := by
    rintro p p' s s' h h'
    rw [Fin.ext h, Fin.ext h']
  have hk : k.val < 2048 := k.isLt
  unfold Cert.UpDwRefIdeal.Read.val_main_v4
  by_cases hq : q.val < 2816
  · refine (concatenate_pair_apply_left (t := Cert.UpDwRefIdeal.S2048x5632) (s₁ := Cert.UpDwRefIdeal.S2048x2816) (s₂ := Cert.UpDwRefIdeal.S2048x2816) 1 _ _ _ (ix2 k q) rfl (ix2 k ⟨q.val, hq⟩ : Cert.UpDwRefIdeal.S2048x2816.Idx) (fun x => by fin_cases x <;> rfl)).trans ?_
    refine (Cert.UpDwRefIdeal.Read.val_main_v1_apply b _).trans ((Cert.UpDwRefIdeal.Read.val_main_v0_apply b _).trans ?_)
    refine Eq.trans (congrArg b ?_) (ha 0 _ ⟨q.val, hq⟩ _ ?_ ?_)
    · funext x
      fin_cases x
      · rfl
      · refine Fin.ext ?_
        show (k.val * 2816 + q.val) / 2816 % 2048 = k.val
        omega
      · refine Fin.ext ?_
        show (k.val * 2816 + q.val) % 2816 = q.val
        omega
    · show 0 = q.val / 2816
      omega
    · show q.val = q.val % 2816
      omega
  · refine (concatenate_pair_apply_right (t := Cert.UpDwRefIdeal.S2048x5632) (s₁ := Cert.UpDwRefIdeal.S2048x2816) (s₂ := Cert.UpDwRefIdeal.S2048x2816) 1 _ _ _ (ix2 k q) rfl rfl (ix2 k ⟨q.val - 2816, by omega⟩ : Cert.UpDwRefIdeal.S2048x2816.Idx)
      (fun x hx => by
        fin_cases x
        · rfl
        · exact absurd rfl hx) (by show q.val - 2816 + 2816 = q.val; omega)).trans ?_
    refine (Cert.UpDwRefIdeal.Read.val_main_v3_apply b _).trans ((Cert.UpDwRefIdeal.Read.val_main_v2_apply b _).trans ?_)
    refine Eq.trans (congrArg b ?_) (ha 1 _ ⟨q.val - 2816, by omega⟩ _ ?_ ?_)
    · funext x
      fin_cases x
      · rfl
      · refine Fin.ext ?_
        show (k.val * 2816 + (q.val - 2816)) / 2816 % 2048 = k.val
        omega
      · refine Fin.ext ?_
        show (k.val * 2816 + (q.val - 2816)) % 2816 = q.val - 2816
        omega
    · show 1 = q.val / 2816
      omega
    · show q.val - 2816 = q.val % 2816
      omega

/-- The reference's result is the same product. -/
theorem ref (a : (⟨S2048x1024, .bf16⟩ : BufTy).Contents (Elt Ideal)) (b : (⟨S2x2048x2816, .bf16⟩ : BufTy).Contents (Elt Ideal)) :
    Cert.UpDwRefIdeal.Read.val_main_v9 (F := Ideal) a b = prod a b := by
  funext i
  unfold prod
  refine ((Cert.UpDwRefIdeal.Read.val_main_v8_apply a b i).trans (Cert.UpDwRefIdeal.Read.val_main_v7_apply a b _)).trans ?_
  refine Finset.sum_congr rfl fun k _ => (mul_comm _ _).trans (congrArg₂ (@HMul.hMul EReal EReal EReal _) (congrArg a (funext fun x => by fin_cases x <;> rfl)) ?_)
  exact (congrArg (Cert.UpDwRefIdeal.Read.val_main_v4 (F := Ideal) b) (funext fun x => by fin_cases x <;> rfl)).trans (cat b k (i 1))

end Cert.UpDwIdeal.Arr
end
-- ==== Proof.DownDxVal.lean ====
/-
  The kernel of the gradient the down-projection hands back: its result array is the whole product, and so is its reference's.
-/
module

public import proofs.«01_k».proof.Proof.Gen.DownDxIdeal.Value
public import proofs.«01_k».proof.Proof.Gen.DownDxRefIdeal.Read
public import Idealize.ShloMosaic.Lib.Pipeline.ValueKit
public import Idealize.ShloMosaic.Lib.Pointwise

@[expose] public section
set_option maxRecDepth 16384
noncomputable section
namespace Cert.DownDxIdeal.Arr
open Cert.DownDxIdeal Cert.DownDxIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![t.val, 0] ∧ win0_2.index t = ![0, t.val] ∧ t.val < 11 :=
  (by decide +kernel : ∀ t : Fin grid0.N, _)
theorem iblk0 (c : Dev nD) (t : Fin cfg0.N) (r : Fin 2048) (k : Fin 1024) :
    iblk m c 0 t (ix2 r k) = m ((c : Thread nD τ).loc main_arg0) (ix2 r k) := by
  blk_ext [iblk, V, idx t]
theorem iblk1 (c : Dev nD) (t : Fin cfg0.N) (r : Fin 256) (k : Fin 1024) (h : 256 * t.val + r.val < 2816) :
    iblk m c 1 t (ix2 r k) = m ((c : Thread nD τ).loc main_arg1) (ix2 ⟨256 * t.val + r.val, h⟩ k) := by
  blk_ext [iblk, V, idx t]

theorem out_apply (x0 : Vec Ideal S2048x1024 .bf16) (x1 : Vec Ideal S256x1024 .bf16) (r : Fin 2048) (l : Fin 256) :
    out0_2 x0 x1 (ix2 r l) = ∑ k : Fin 1024, @HMul.hMul EReal EReal EReal _ (x0 (ix2 r k)) (x1 (ix2 l k)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S2816x1024, .bf16⟩ : BufTy).Contents (Elt Ideal)) (i : S2048x2816.Idx) : EReal :=
  ∑ k : Fin 1024, @HMul.hMul EReal EReal EReal _ (a (ix2 (i 0) k)) (b (ix2 (i 1) k))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 11 := (idx t).2.2.2
  have hr : (y 0).val < 2048 := (y 0).isLt
  have hl : (y 1).val < 256 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _ (by omega))).trans ?_
  refine congrArg₂ (@HMul.hMul EReal EReal EReal _) (congrArg _ (congrArg₂ ix2 ?_ rfl)) (congrArg _ (congrArg₂ ix2 ?_ rfl))
  · refine Fin.ext ?_
    blk_simp [idx t]
  · refine Fin.ext ?_
    blk_simp [idx t]
    show 256 * t.val + (y 1).val = _
    omega

/-- The reference's result is the same product. -/
theorem ref (a : (⟨S2048x1024, .bf16⟩ : BufTy).Contents (Elt Ideal)) (b : (⟨S2816x1024, .bf16⟩ : BufTy).Contents (Elt Ideal)) :
    Cert.DownDxRefIdeal.Read.val_main_v2 (F := Ideal) a b = prod a b := by
  funext i
  unfold prod
  refine (Cert.DownDxRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.DownDxIdeal.Arr
end
-- ==== Proof.DownDwVal.lean ====
/-
  The kernel of the gradient of the down-projection's weights: its result array is the whole product, and so is its reference's.
-/
module

public import proofs.«01_k».proof.Proof.Gen.DownDwIdeal.Value
public import proofs.«01_k».proof.Proof.Gen.DownDwRefIdeal.Read
public import Idealize.ShloMosaic.Lib.Pipeline.ValueKit
public import Idealize.ShloMosaic.Lib.Pointwise

@[expose] public section
set_option maxRecDepth 16384
noncomputable section
namespace Cert.DownDwIdeal.Arr
open Cert.DownDwIdeal Cert.DownDwIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, t.val] ∧ win0_1.index t = ![0, 0] ∧ win0_2.index t = ![t.val, 0] ∧ t.val < 2 :=
  (by decide +kernel : ∀ t : Fin grid0.N, _)
theorem iblk0 (c : Dev nD) (t : Fin cfg0.N) (r : Fin 1408) (k : Fin 2048) (h : 1408 * t.val + r.val < 2816) :
    iblk m c 0 t (ix2 k r) = m ((c : Thread nD τ).loc main_arg0) (ix2 k ⟨1408 * t.val + r.val, h⟩) := by
  blk_ext [iblk, V, idx t]
theorem iblk1 (c : Dev nD) (t : Fin cfg0.N) (r : Fin 1024) (k : Fin 2048) :
    iblk m c 1 t (ix2 k r) = m ((c : Thread nD τ).loc main_arg1) (ix2 k r) := by
  blk_ext [iblk, V, idx t]

theorem out_apply (x0 : Vec Ideal S2048x1408 .bf16) (x1 : Vec Ideal S2048x1024 .bf16) (r : Fin 1408) (l : Fin 1024) :
    out0_2 x0 x1 (ix2 r l) = ∑ k : Fin 2048, @HMul.hMul EReal EReal EReal _ (x0 (ix2 k r)) (x1 (ix2 k l)) := by
  rw [out0_2, View.canon_cons_unit_lit _ _ _ (by intro a; fin_cases a <;> rfl)]
  pointwise [k0_pay1]

/-- The product of two arrays, entry by entry. -/
def prod (a : (⟨S2048x2816, .bf16⟩ : BufTy).Contents (Elt Ideal)) (b : (⟨S2048x1024, .bf16⟩ : BufTy).Contents (Elt Ideal)) (i : S2816x1024.Idx) : EReal :=
  ∑ k : Fin 2048, @HMul.hMul EReal EReal EReal _ (a (ix2 k (i 0))) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 2 := (idx t).2.2.2
  have hr : (y 0).val < 1408 := (y 0).isLt
  have hl : (y 1).val < 1024 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _ (by omega)) (iblk1 m c t _ _)).trans ?_
  refine congrArg₂ (@HMul.hMul EReal EReal EReal _) (congrArg _ (congrArg (ix2 k) ?_)) (congrArg _ (congrArg (ix2 k) ?_))
  · refine Fin.ext ?_
    blk_simp [idx t]
    show 1408 * t.val + (y 0).val = _
    omega
  · refine Fin.ext ?_
    blk_simp [idx t]

/-- The reference's result is the same product. -/
theorem ref (a : (⟨S2048x2816, .bf16⟩ : BufTy).Contents (Elt Ideal)) (b : (⟨S2048x1024, .bf16⟩ : BufTy).Contents (Elt Ideal)) :
    Cert.DownDwRefIdeal.Read.val_main_v4 (F := Ideal) a b = prod a b := by
  funext i
  unfold prod
  refine ((Cert.DownDwRefIdeal.Read.val_main_v3_apply a b i).trans (Cert.DownDwRefIdeal.Read.val_main_v2_apply a b _)).trans ?_
  exact Finset.sum_congr rfl fun k _ => (mul_comm _ _).trans (congrArg₂ (@HMul.hMul EReal EReal EReal _) (congrArg a (funext fun x => by fin_cases x <;> rfl)) (congrArg b (funext fun x => by fin_cases x <;> rfl)))

end Cert.DownDwIdeal.Arr
end
-- ==== Proof.UpVal.lean ====
/-
  The kernel of the up-projection: its result array is the whole product, and so is its reference's.
-/
module

public import proofs.«01_k».proof.Proof.Gen.UpIdeal.Value
public import proofs.«01_k».proof.Proof.Gen.UpRefIdeal.Read
public import Idealize.ShloMosaic.Lib.Pipeline.ValueKit
public import Idealize.ShloMosaic.Lib.Pointwise

@[expose] public section
set_option maxRecDepth 16384
noncomputable section
namespace Cert.UpIdeal.Arr
open Cert.UpIdeal Cert.UpIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, t.val] ∧ win0_2.index t = ![0, t.val] ∧ t.val < 11 :=
  (by decide +kernel : ∀ t : Fin grid0.N, _)
theorem iblk0 (c : Dev nD) (t : Fin cfg0.N) (r : Fin 2048) (k : Fin 1024) :
    iblk m c 0 t (ix2 r k) = m ((c : Thread nD τ).loc main_arg0) (ix2 r k) := by
  blk_ext [iblk, V, idx t]
theorem iblk1 (c : Dev nD) (t : Fin cfg0.N) (r : Fin 512) (k : Fin 1024) (h : 512 * t.val + r.val < 5632) :
    iblk m c 1 t (ix2 k r) = m ((c : Thread nD τ).loc main_arg1) (ix2 k ⟨512 * t.val + r.val, h⟩) := by
  blk_ext [iblk, V, idx t]

theorem out_apply (x0 : Vec Ideal S2048x1024 .bf16) (x1 : Vec Ideal S1024x512 .bf16) (r : Fin 2048) (l : Fin 512) :
    out0_2 x0 x1 (ix2 r l) = ∑ k : Fin 1024, @HMul.hMul EReal EReal EReal _ (x0 (ix2 r k)) (x1 (ix2 k l)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S1024x5632, .bf16⟩ : BufTy).Contents (Elt Ideal)) (i : S2048x5632.Idx) : EReal :=
  ∑ k : Fin 1024, @HMul.hMul EReal EReal EReal _ (a (ix2 (i 0) k)) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 11 := (idx t).2.2.2
  have hr : (y 0).val < 2048 := (y 0).isLt
  have hl : (y 1).val < 512 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _ (by omega))).trans ?_
  refine congrArg₂ (@HMul.hMul EReal EReal EReal _) (congrArg _ (congrArg₂ ix2 ?_ rfl)) (congrArg _ (congrArg (ix2 k) ?_))
  · refine Fin.ext ?_
    blk_simp [idx t]
  · refine Fin.ext ?_
    blk_simp [idx t]
    show 512 * t.val + (y 1).val = _
    omega

/-- The reference's result is the same product. -/
theorem ref (a : (⟨S2048x1024, .bf16⟩ : BufTy).Contents (Elt Ideal)) (b : (⟨S1024x5632, .bf16⟩ : BufTy).Contents (Elt Ideal)) :
    Cert.UpRefIdeal.Read.val_main_v2 (F := Ideal) a b = prod a b := by
  funext i
  unfold prod
  refine (Cert.UpRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.UpIdeal.Arr
end
-- ==== Proof.DownVal.lean ====
/-
  The kernel of the down-projection: its result array is the whole product, and so is its reference's.
-/
module

public import proofs.«01_k».proof.Proof.Gen.DownIdeal.Value
public import proofs.«01_k».proof.Proof.Gen.DownRefIdeal.Read
public import Idealize.ShloMosaic.Lib.Pipeline.ValueKit
public import Idealize.ShloMosaic.Lib.Pointwise

@[expose] public section
set_option maxRecDepth 16384
noncomputable section
namespace Cert.DownIdeal.Arr
open Cert.DownIdeal Cert.DownIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![t.val / 2, 0] ∧ win0_1.index t = ![0, t.val % 2] ∧ win0_2.index t = ![t.val / 2, t.val % 2] ∧ t.val < 4 :=
  (by decide +kernel : ∀ t : Fin grid0.N, _)
theorem iblk0 (c : Dev nD) (t : Fin cfg0.N) (r : Fin 1024) (k : Fin 2816) (h : 1024 * (t.val / 2) + r.val < 2048) :
    iblk m c 0 t (ix2 r k) = m ((c : Thread nD τ).loc main_arg0) (ix2 ⟨1024 * (t.val / 2) + r.val, h⟩ k) := by
  blk_ext [iblk, V, idx t]
theorem iblk1 (c : Dev nD) (t : Fin cfg0.N) (r : Fin 512) (k : Fin 2816) (h : 512 * (t.val % 2) + r.val < 1024) :
    iblk m c 1 t (ix2 k r) = m ((c : Thread nD τ).loc main_arg1) (ix2 k ⟨512 * (t.val % 2) + r.val, h⟩) := by
  blk_ext [iblk, V, idx t]

theorem out_apply (x0 : Vec Ideal S1024x2816 .bf16) (x1 : Vec Ideal S2816x512 .bf16) (r : Fin 1024) (l : Fin 512) :
    out0_2 x0 x1 (ix2 r l) = ∑ k : Fin 2816, @HMul.hMul EReal EReal EReal _ (x0 (ix2 r k)) (x1 (ix2 k l)) := by
  rw [out0_2, View.canon_cons_unit_lit _ _ _ (by intro a; fin_cases a <;> rfl)]
  pointwise [k0_pay1]

/-- The product of two arrays, entry by entry. -/
def prod (a : (⟨S2048x2816, .bf16⟩ : BufTy).Contents (Elt Ideal)) (b : (⟨S2816x1024, .bf16⟩ : BufTy).Contents (Elt Ideal)) (i : S2048x1024.Idx) : EReal :=
  ∑ k : Fin 2816, @HMul.hMul EReal EReal EReal _ (a (ix2 (i 0) k)) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 4 := (idx t).2.2.2
  have hr : (y 0).val < 1024 := (y 0).isLt
  have hl : (y 1).val < 512 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _ (by omega)) (iblk1 m c t _ _ (by omega))).trans ?_
  refine congrArg₂ (@HMul.hMul EReal EReal EReal _) (congrArg _ (congrArg₂ ix2 ?_ rfl)) (congrArg _ (congrArg (ix2 k) ?_))
  · refine Fin.ext ?_
    blk_simp [idx t]
    show 1024 * (t.val / 2) + (y 0).val = _
    omega
  · refine Fin.ext ?_
    blk_simp [idx t]
    show 512 * (t.val % 2) + (y 1).val = _
    omega

/-- The reference's result is the same product. -/
theorem ref (a : (⟨S2048x2816, .bf16⟩ : BufTy).Contents (Elt Ideal)) (b : (⟨S2816x1024, .bf16⟩ : BufTy).Contents (Elt Ideal)) :
    Cert.DownRefIdeal.Read.val_main_v2 (F := Ideal) a b = prod a b := by
  funext i
  unfold prod
  refine (Cert.DownRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.DownIdeal.Arr
end
-- ==== Proof.QkvVal.lean ====
/-
  The kernel of the banded attention's query, key and value projection: its result array is the whole product, and so is its reference's.
-/
module

public import proofs.«01_k».proof.Proof.Gen.QkvIdeal.Value
public import proofs.«01_k».proof.Proof.Gen.QkvRefIdeal.Read
public import Idealize.ShloMosaic.Lib.Pipeline.ValueKit
public import Idealize.ShloMosaic.Lib.Pointwise

@[expose] public section
set_option maxRecDepth 16384
noncomputable section
namespace Cert.QkvIdeal.Arr
open Cert.QkvIdeal Cert.QkvIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, t.val] ∧ win0_2.index t = ![0, t.val] ∧ t.val < 3 :=
  (by decide +kernel : ∀ t : Fin grid0.N, _)
theorem iblk0 (c : Dev nD) (t : Fin cfg0.N) (r : Fin 2048) (k : Fin 1024) :
    iblk m c 0 t (ix2 r k) = m ((c : Thread nD τ).loc main_arg0) (ix2 r k) := by
  blk_ext [iblk, V, idx t]
theorem iblk1 (c : Dev nD) (t : Fin cfg0.N) (r : Fin 768) (k : Fin 1024) (h : 768 * t.val + r.val < 2304) :
    iblk m c 1 t (ix2 k r) = m ((c : Thread nD τ).loc main_arg1) (ix2 k ⟨768 * t.val + r.val, h⟩) := by
  blk_ext [iblk, V, idx t]

theorem out_apply (x0 : Vec Ideal S2048x1024 .bf16) (x1 : Vec Ideal S1024x768 .bf16) (r : Fin 2048) (l : Fin 768) :
    out0_2 x0 x1 (ix2 r l) = ∑ k : Fin 1024, @HMul.hMul EReal EReal EReal _ (x0 (ix2 r k)) (x1 (ix2 k l)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S1024x2304, .bf16⟩ : BufTy).Contents (Elt Ideal)) (i : S2048x2304.Idx) : EReal :=
  ∑ k : Fin 1024, @HMul.hMul EReal EReal EReal _ (a (ix2 (i 0) k)) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 3 := (idx t).2.2.2
  have hr : (y 0).val < 2048 := (y 0).isLt
  have hl : (y 1).val < 768 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _ (by omega))).trans ?_
  refine congrArg₂ (@HMul.hMul EReal EReal EReal _) (congrArg _ (congrArg₂ ix2 ?_ rfl)) (congrArg _ (congrArg (ix2 k) ?_))
  · refine Fin.ext ?_
    blk_simp [idx t]
  · refine Fin.ext ?_
    blk_simp [idx t]
    show 768 * t.val + (y 1).val = _
    omega

/-- The reference's result is the same product. -/
theorem ref (a : (⟨S2048x1024, .bf16⟩ : BufTy).Contents (Elt Ideal)) (b : (⟨S1024x2304, .bf16⟩ : BufTy).Contents (Elt Ideal)) :
    Cert.QkvRefIdeal.Read.val_main_v2 (F := Ideal) a b = prod a b := by
  funext i
  unfold prod
  refine (Cert.QkvRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.QkvIdeal.Arr
end
-- ==== Proof.OAVal.lean ====
/-
  The kernel of the banded attention's output projection: its result array is the whole product, and so is its reference's.
-/
module

public import proofs.«01_k».proof.Proof.Gen.OAIdeal.Value
public import proofs.«01_k».proof.Proof.Gen.OARefIdeal.Read
public import Idealize.ShloMosaic.Lib.Pipeline.ValueKit
public import Idealize.ShloMosaic.Lib.Pointwise

@[expose] public section
set_option maxRecDepth 16384
noncomputable section
namespace Cert.OAIdeal.Arr
open Cert.OAIdeal Cert.OAIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, t.val] ∧ win0_2.index t = ![0, t.val] ∧ t.val < 2 :=
  (by decide +kernel : ∀ t : Fin grid0.N, _)
theorem iblk0 (c : Dev nD) (t : Fin cfg0.N) (r : Fin 2048) (k : Fin 768) :
    iblk m c 0 t (ix2 r k) = m ((c : Thread nD τ).loc main_arg0) (ix2 r k) := by
  blk_ext [iblk, V, idx t]
theorem iblk1 (c : Dev nD) (t : Fin cfg0.N) (r : Fin 512) (k : Fin 768) (h : 512 * t.val + r.val < 1024) :
    iblk m c 1 t (ix2 k r) = m ((c : Thread nD τ).loc main_arg1) (ix2 k ⟨512 * t.val + r.val, h⟩) := by
  blk_ext [iblk, V, idx t]

theorem out_apply (x0 : Vec Ideal S2048x768 .bf16) (x1 : Vec Ideal S768x512 .bf16) (r : Fin 2048) (l : Fin 512) :
    out0_2 x0 x1 (ix2 r l) = ∑ k : Fin 768, @HMul.hMul EReal EReal EReal _ (x0 (ix2 r k)) (x1 (ix2 k l)) := by
  rw [out0_2, View.canon_cons_unit_lit _ _ _ (by intro a; fin_cases a <;> rfl)]
  pointwise [k0_pay1]

/-- The product of two arrays, entry by entry. -/
def prod (a : (⟨S2048x768, .bf16⟩ : BufTy).Contents (Elt Ideal)) (b : (⟨S768x1024, .bf16⟩ : BufTy).Contents (Elt Ideal)) (i : S2048x1024.Idx) : EReal :=
  ∑ k : Fin 768, @HMul.hMul EReal EReal EReal _ (a (ix2 (i 0) k)) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 2 := (idx t).2.2.2
  have hr : (y 0).val < 2048 := (y 0).isLt
  have hl : (y 1).val < 512 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _ (by omega))).trans ?_
  refine congrArg₂ (@HMul.hMul EReal EReal EReal _) (congrArg _ (congrArg₂ ix2 ?_ rfl)) (congrArg _ (congrArg (ix2 k) ?_))
  · refine Fin.ext ?_
    blk_simp [idx t]
  · refine Fin.ext ?_
    blk_simp [idx t]
    show 512 * t.val + (y 1).val = _
    omega

/-- The reference's result is the same product. -/
theorem ref (a : (⟨S2048x768, .bf16⟩ : BufTy).Contents (Elt Ideal)) (b : (⟨S768x1024, .bf16⟩ : BufTy).Contents (Elt Ideal)) :
    Cert.OARefIdeal.Read.val_main_v2 (F := Ideal) a b = prod a b := by
  funext i
  unfold prod
  refine (Cert.OARefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.OAIdeal.Arr
end
-- ==== Proof.KvVal.lean ====
/-
  The kernel of the shared key and value projection: its result array is the whole product, and so is its reference's.
-/
module

public import proofs.«01_k».proof.Proof.Gen.KvIdeal.Value
public import proofs.«01_k».proof.Proof.Gen.KvRefIdeal.Read
public import Idealize.ShloMosaic.Lib.Pipeline.ValueKit
public import Idealize.ShloMosaic.Lib.Pointwise

@[expose] public section
set_option maxRecDepth 16384
noncomputable section
namespace Cert.KvIdeal.Arr
open Cert.KvIdeal Cert.KvIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, t.val] ∧ win0_2.index t = ![0, t.val] ∧ t.val < 4 :=
  (by decide +kernel : ∀ t : Fin grid0.N, _)
theorem iblk0 (c : Dev nD) (t : Fin cfg0.N) (r : Fin 2048) (k : Fin 1024) :
    iblk m c 0 t (ix2 r k) = m ((c : Thread nD τ).loc main_arg0) (ix2 r k) := by
  blk_ext [iblk, V, idx t]
theorem iblk1 (c : Dev nD) (t : Fin cfg0.N) (r : Fin 512) (k : Fin 1024) (h : 512 * t.val + r.val < 2048) :
    iblk m c 1 t (ix2 k r) = m ((c : Thread nD τ).loc main_arg1) (ix2 k ⟨512 * t.val + r.val, h⟩) := by
  blk_ext [iblk, V, idx t]

theorem out_apply (x0 : Vec Ideal S2048x1024 .bf16) (x1 : Vec Ideal S1024x512 .bf16) (r : Fin 2048) (l : Fin 512) :
    out0_2 x0 x1 (ix2 r l) = ∑ k : Fin 1024, @HMul.hMul EReal EReal EReal _ (x0 (ix2 r k)) (x1 (ix2 k l)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S1024x2048, .bf16⟩ : BufTy).Contents (Elt Ideal)) (i : S2048x2048.Idx) : EReal :=
  ∑ k : Fin 1024, @HMul.hMul EReal EReal EReal _ (a (ix2 (i 0) k)) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 4 := (idx t).2.2.2
  have hr : (y 0).val < 2048 := (y 0).isLt
  have hl : (y 1).val < 512 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _ (by omega))).trans ?_
  refine congrArg₂ (@HMul.hMul EReal EReal EReal _) (congrArg _ (congrArg₂ ix2 ?_ rfl)) (congrArg _ (congrArg (ix2 k) ?_))
  · refine Fin.ext ?_
    blk_simp [idx t]
  · refine Fin.ext ?_
    blk_simp [idx t]
    show 512 * t.val + (y 1).val = _
    omega

/-- The reference's result is the same product. -/
theorem ref (a : (⟨S2048x1024, .bf16⟩ : BufTy).Contents (Elt Ideal)) (b : (⟨S1024x2048, .bf16⟩ : BufTy).Contents (Elt Ideal)) :
    Cert.KvRefIdeal.Read.val_main_v3 (F := Ideal) a b = prod a b := by
  funext i
  unfold prod
  refine (Cert.KvRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.KvIdeal.Arr
end
-- ==== Proof.GateVal.lean ====
/-
  The kernel of the forget gates' projection: its result array is the whole product, and so is its reference's.
-/
module

public import proofs.«01_k».proof.Proof.Gen.GateIdeal.Value
public import proofs.«01_k».proof.Proof.Gen.GateRefIdeal.Read
public import Idealize.ShloMosaic.Lib.Pipeline.ValueKit
public import Idealize.ShloMosaic.Lib.Pointwise

@[expose] public section
set_option maxRecDepth 16384
noncomputable section
namespace Cert.GateIdeal.Arr
open Cert.GateIdeal Cert.GateIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, 0] ∧ win0_2.index t = ![0, 0] ∧ t.val < 1 :=
  (by decide +kernel : ∀ t : Fin grid0.N, _)
theorem iblk0 (c : Dev nD) (t : Fin cfg0.N) (r : Fin 2048) (k : Fin 1024) :
    iblk m c 0 t (ix2 r k) = m ((c : Thread nD τ).loc main_arg0) (ix2 r k) := by
  blk_ext [iblk, V, idx t]
theorem iblk1 (c : Dev nD) (t : Fin cfg0.N) (r : Fin 128) (k : Fin 1024) :
    iblk m c 1 t (ix2 k r) = m ((c : Thread nD τ).loc main_arg1) (ix2 k r) := by
  blk_ext [iblk, V, idx t]

theorem out_apply (x0 : Vec Ideal S2048x1024 .bf16) (x1 : Vec Ideal S1024x128 .bf16) (r : Fin 2048) (l : Fin 128) :
    out0_2 x0 x1 (ix2 r l) = ∑ k : Fin 1024, @HMul.hMul EReal EReal EReal _ (x0 (ix2 r k)) (x1 (ix2 k l)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S1024x128, .bf16⟩ : BufTy).Contents (Elt Ideal)) (i : S2048x128.Idx) : EReal :=
  ∑ k : Fin 1024, @HMul.hMul EReal EReal EReal _ (a (ix2 (i 0) k)) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 1 := (idx t).2.2.2
  have hr : (y 0).val < 2048 := (y 0).isLt
  have hl : (y 1).val < 128 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _)).trans ?_
  refine congrArg₂ (@HMul.hMul EReal EReal EReal _) (congrArg _ (congrArg₂ ix2 ?_ rfl)) (congrArg _ (congrArg (ix2 k) ?_))
  · refine Fin.ext ?_
    blk_simp [idx t]
  · refine Fin.ext ?_
    blk_simp [idx t]

/-- The reference's result is the same product. -/
theorem ref (a : (⟨S2048x1024, .bf16⟩ : BufTy).Contents (Elt Ideal)) (b : (⟨S1024x128, .bf16⟩ : BufTy).Contents (Elt Ideal)) :
    Cert.GateRefIdeal.Read.val_main_v2 (F := Ideal) a b = prod a b := by
  funext i
  unfold prod
  refine (Cert.GateRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.GateIdeal.Arr
end
-- ==== Proof.QBVal.lean ====
/-
  The kernel of the forgetting attention's query projection, scaled: its result array is the whole product, and so is its reference's.
-/
module

public import proofs.«01_k».proof.Proof.Gen.QBIdeal.Value
public import proofs.«01_k».proof.Proof.Gen.QBRefIdeal.Read
public import Idealize.ShloMosaic.Lib.Pipeline.ValueKit
public import Idealize.ShloMosaic.Lib.Pointwise

@[expose] public section
set_option maxRecDepth 16384
noncomputable section
namespace Cert.QBIdeal.Arr
open Cert.QBIdeal Cert.QBIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, t.val] ∧ win0_2.index t = ![0, t.val] ∧ t.val < 2 :=
  (by decide +kernel : ∀ t : Fin grid0.N, _)
theorem iblk0 (c : Dev nD) (t : Fin cfg0.N) (r : Fin 2048) (k : Fin 1024) :
    iblk m c 0 t (ix2 r k) = m ((c : Thread nD τ).loc main_arg0) (ix2 r k) := by
  blk_ext [iblk, V, idx t]
theorem iblk1 (c : Dev nD) (t : Fin cfg0.N) (r : Fin 512) (k : Fin 1024) (h : 512 * t.val + r.val < 1024) :
    iblk m c 1 t (ix2 k r) = m ((c : Thread nD τ).loc main_arg1) (ix2 k ⟨512 * t.val + r.val, h⟩) := by
  blk_ext [iblk, V, idx t]

theorem out_apply (x0 : Vec Ideal S2048x1024 .bf16) (x1 : Vec Ideal S1024x512 .bf16) (r : Fin 2048) (l : Fin 512) :
    out0_2 x0 x1 (ix2 r l) = @HMul.hMul EReal EReal EReal _ (∑ k : Fin 1024, @HMul.hMul EReal EReal EReal _ (x0 (ix2 r k)) (x1 (ix2 k l))) (Ideal.ofBits .f32 0x3E000000#32) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S1024x1024, .bf16⟩ : BufTy).Contents (Elt Ideal)) (i : S2048x1024.Idx) : EReal :=
  @HMul.hMul EReal EReal EReal _ (∑ k : Fin 1024, @HMul.hMul EReal EReal EReal _ (a (ix2 (i 0) k)) (b (ix2 k (i 1)))) (Ideal.ofBits .f32 0x3E000000#32)

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 2 := (idx t).2.2.2
  have hr : (y 0).val < 2048 := (y 0).isLt
  have hl : (y 1).val < 512 := (y 1).isLt
  unfold prod
  blk_simp
  rw [after0_2]
  have hy : y = ix2 (y 0) (y 1) := by funext a; fin_cases a <;> rfl
  refine (congrArg _ hy).trans ((out_apply _ _ _ _).trans ?_)
  refine congrArg (fun x => @HMul.hMul EReal EReal EReal _ x (Ideal.ofBits .f32 0x3E000000#32)) ?_
  refine Finset.sum_congr rfl fun k _ => ?_
  refine (congrArg₂ (@HMul.hMul EReal EReal EReal _) (iblk0 m c t _ _) (iblk1 m c t _ _ (by omega))).trans ?_
  refine congrArg₂ (@HMul.hMul EReal EReal EReal _) (congrArg _ (congrArg₂ ix2 ?_ rfl)) (congrArg _ (congrArg (ix2 k) ?_))
  · refine Fin.ext ?_
    blk_simp [idx t]
  · refine Fin.ext ?_
    blk_simp [idx t]
    show 512 * t.val + (y 1).val = _
    omega

/-- The reference's result is the same product. -/
theorem ref (a : (⟨S2048x1024, .bf16⟩ : BufTy).Contents (Elt Ideal)) (b : (⟨S1024x1024, .bf16⟩ : BufTy).Contents (Elt Ideal)) :
    Cert.QBRefIdeal.Read.val_main_v5 (F := Ideal) a b = prod a b := by
  funext i
  unfold prod
  refine (congrArg₂ (@HMul.hMul EReal EReal EReal _) (Cert.QBRefIdeal.Read.val_main_v2_apply a b i) rfl).trans (congrArg (fun x => @HMul.hMul EReal EReal EReal _ x (Ideal.ofBits .f32 0x3E000000#32)) ?_)
  exact Finset.sum_congr rfl fun k _ => congrArg₂ (@HMul.hMul EReal EReal EReal _) (congrArg a (funext fun x => by fin_cases x <;> rfl)) (congrArg b (funext fun x => by fin_cases x <;> rfl))

end Cert.QBIdeal.Arr
end
-- ==== Proof.OBVal.lean ====
/-
  The kernel of the forgetting attention's output projection: its result array is the whole product, and so is its reference's.
-/
module

public import proofs.«01_k».proof.Proof.Gen.OBIdeal.Value
public import proofs.«01_k».proof.Proof.Gen.OBRefIdeal.Read
public import Idealize.ShloMosaic.Lib.Pipeline.ValueKit
public import Idealize.ShloMosaic.Lib.Pointwise

@[expose] public section
set_option maxRecDepth 16384
noncomputable section
namespace Cert.OBIdeal.Arr
open Cert.OBIdeal Cert.OBIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, t.val] ∧ win0_2.index t = ![0, t.val] ∧ t.val < 2 :=
  (by decide +kernel : ∀ t : Fin grid0.N, _)
theorem iblk0 (c : Dev nD) (t : Fin cfg0.N) (r : Fin 2048) (k : Fin 1024) :
    iblk m c 0 t (ix2 r k) = m ((c : Thread nD τ).loc main_arg0) (ix2 r k) := by
  blk_ext [iblk, V, idx t]
theorem iblk1 (c : Dev nD) (t : Fin cfg0.N) (r : Fin 512) (k : Fin 1024) (h : 512 * t.val + r.val < 1024) :
    iblk m c 1 t (ix2 k r) = m ((c : Thread nD τ).loc main_arg1) (ix2 k ⟨512 * t.val + r.val, h⟩) := by
  blk_ext [iblk, V, idx t]

theorem out_apply (x0 : Vec Ideal S2048x1024 .bf16) (x1 : Vec Ideal S1024x512 .bf16) (r : Fin 2048) (l : Fin 512) :
    out0_2 x0 x1 (ix2 r l) = ∑ k : Fin 1024, @HMul.hMul EReal EReal EReal _ (x0 (ix2 r k)) (x1 (ix2 k l)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S1024x1024, .bf16⟩ : BufTy).Contents (Elt Ideal)) (i : S2048x1024.Idx) : EReal :=
  ∑ k : Fin 1024, @HMul.hMul EReal EReal EReal _ (a (ix2 (i 0) k)) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 2 := (idx t).2.2.2
  have hr : (y 0).val < 2048 := (y 0).isLt
  have hl : (y 1).val < 512 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _ (by omega))).trans ?_
  refine congrArg₂ (@HMul.hMul EReal EReal EReal _) (congrArg _ (congrArg₂ ix2 ?_ rfl)) (congrArg _ (congrArg (ix2 k) ?_))
  · refine Fin.ext ?_
    blk_simp [idx t]
  · refine Fin.ext ?_
    blk_simp [idx t]
    show 512 * t.val + (y 1).val = _
    omega

/-- The reference's result is the same product. -/
theorem ref (a : (⟨S2048x1024, .bf16⟩ : BufTy).Contents (Elt Ideal)) (b : (⟨S1024x1024, .bf16⟩ : BufTy).Contents (Elt Ideal)) :
    Cert.OBRefIdeal.Read.val_main_v2 (F := Ideal) a b = prod a b := by
  funext i
  unfold prod
  refine (Cert.OBRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.OBIdeal.Arr
end
-- ==== Proof.OADxVal.lean ====
/-
  The kernel of the gradient the banded attention's output projection hands back: its result array is the whole product, and so is its reference's.
-/
module

public import proofs.«01_k».proof.Proof.Gen.OADxIdeal.Value
public import proofs.«01_k».proof.Proof.Gen.OADxRefIdeal.Read
public import Idealize.ShloMosaic.Lib.Pipeline.ValueKit
public import Idealize.ShloMosaic.Lib.Pointwise

@[expose] public section
set_option maxRecDepth 16384
noncomputable section
namespace Cert.OADxIdeal.Arr
open Cert.OADxIdeal Cert.OADxIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, 0] ∧ win0_2.index t = ![0, 0] ∧ t.val < 1 :=
  (by decide +kernel : ∀ t : Fin grid0.N, _)
theorem iblk0 (c : Dev nD) (t : Fin cfg0.N) (r : Fin 2048) (k : Fin 1024) :
    iblk m c 0 t (ix2 r k) = m ((c : Thread nD τ).loc main_arg0) (ix2 r k) := by
  blk_ext [iblk, V, idx t]
theorem iblk1 (c : Dev nD) (t : Fin cfg0.N) (r : Fin 768) (k : Fin 1024) :
    iblk m c 1 t (ix2 r k) = m ((c : Thread nD τ).loc main_arg1) (ix2 r k) := by
  blk_ext [iblk, V, idx t]

theorem out_apply (x0 : Vec Ideal S2048x1024 .bf16) (x1 : Vec Ideal S768x1024 .bf16) (r : Fin 2048) (l : Fin 768) :
    out0_2 x0 x1 (ix2 r l) = ∑ k : Fin 1024, @HMul.hMul EReal EReal EReal _ (x0 (ix2 r k)) (x1 (ix2 l k)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S768x1024, .bf16⟩ : BufTy).Contents (Elt Ideal)) (i : S2048x768.Idx) : EReal :=
  ∑ k : Fin 1024, @HMul.hMul EReal EReal EReal _ (a (ix2 (i 0) k)) (b (ix2 (i 1) k))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 1 := (idx t).2.2.2
  have hr : (y 0).val < 2048 := (y 0).isLt
  have hl : (y 1).val < 768 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _)).trans ?_
  refine congrArg₂ (@HMul.hMul EReal EReal EReal _) (congrArg _ (congrArg₂ ix2 ?_ rfl)) (congrArg _ (congrArg₂ ix2 ?_ rfl))
  · refine Fin.ext ?_
    blk_simp [idx t]
  · refine Fin.ext ?_
    blk_simp [idx t]

/-- The reference's result is the same product. -/
theorem ref (a : (⟨S2048x1024, .bf16⟩ : BufTy).Contents (Elt Ideal)) (b : (⟨S768x1024, .bf16⟩ : BufTy).Contents (Elt Ideal)) :
    Cert.OADxRefIdeal.Read.val_main_v2 (F := Ideal) a b = prod a b := by
  funext i
  unfold prod
  refine (Cert.OADxRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.OADxIdeal.Arr
end
-- ==== Proof.OADwVal.lean ====
/-
  The kernel of the gradient of the banded attention's output weights: its result array is the whole product, and so is its reference's.
-/
module

public import proofs.«01_k».proof.Proof.Gen.OADwIdeal.Value
public import proofs.«01_k».proof.Proof.Gen.OADwRefIdeal.Read
public import Idealize.ShloMosaic.Lib.Pipeline.ValueKit
public import Idealize.ShloMosaic.Lib.Pointwise

@[expose] public section
set_option maxRecDepth 16384
noncomputable section
namespace Cert.OADwIdeal.Arr
open Cert.OADwIdeal Cert.OADwIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, 0] ∧ win0_2.index t = ![0, 0] ∧ t.val < 1 :=
  (by decide +kernel : ∀ t : Fin grid0.N, _)
theorem iblk0 (c : Dev nD) (t : Fin cfg0.N) (r : Fin 768) (k : Fin 2048) :
    iblk m c 0 t (ix2 k r) = m ((c : Thread nD τ).loc main_arg0) (ix2 k r) := by
  blk_ext [iblk, V, idx t]
theorem iblk1 (c : Dev nD) (t : Fin cfg0.N) (r : Fin 1024) (k : Fin 2048) :
    iblk m c 1 t (ix2 k r) = m ((c : Thread nD τ).loc main_arg1) (ix2 k r) := by
  blk_ext [iblk, V, idx t]

theorem out_apply (x0 : Vec Ideal S2048x768 .bf16) (x1 : Vec Ideal S2048x1024 .bf16) (r : Fin 768) (l : Fin 1024) :
    out0_2 x0 x1 (ix2 r l) = ∑ k : Fin 2048, @HMul.hMul EReal EReal EReal _ (x0 (ix2 k r)) (x1 (ix2 k l)) := by
  rw [out0_2, View.canon_cons_unit_lit _ _ _ (by intro a; fin_cases a <;> rfl)]
  pointwise [k0_pay1]

/-- The product of two arrays, entry by entry. -/
def prod (a : (⟨S2048x768, .bf16⟩ : BufTy).Contents (Elt Ideal)) (b : (⟨S2048x1024, .bf16⟩ : BufTy).Contents (Elt Ideal)) (i : S768x1024.Idx) : EReal :=
  ∑ k : Fin 2048, @HMul.hMul EReal EReal EReal _ (a (ix2 k (i 0))) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 1 := (idx t).2.2.2
  have hr : (y 0).val < 768 := (y 0).isLt
  have hl : (y 1).val < 1024 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _)).trans ?_
  refine congrArg₂ (@HMul.hMul EReal EReal EReal _) (congrArg _ (congrArg (ix2 k) ?_)) (congrArg _ (congrArg (ix2 k) ?_))
  · refine Fin.ext ?_
    blk_simp [idx t]
  · refine Fin.ext ?_
    blk_simp [idx t]

/-- The reference's result is the same product. -/
theorem ref (a : (⟨S2048x768, .bf16⟩ : BufTy).Contents (Elt Ideal)) (b : (⟨S2048x1024, .bf16⟩ : BufTy).Contents (Elt Ideal)) :
    Cert.OADwRefIdeal.Read.val_main_v4 (F := Ideal) a b = prod a b := by
  funext i
  unfold prod
  refine ((Cert.OADwRefIdeal.Read.val_main_v3_apply a b i).trans (Cert.OADwRefIdeal.Read.val_main_v2_apply a b _)).trans ?_
  exact Finset.sum_congr rfl fun k _ => (mul_comm _ _).trans (congrArg₂ (@HMul.hMul EReal EReal EReal _) (congrArg a (funext fun x => by fin_cases x <;> rfl)) (congrArg b (funext fun x => by fin_cases x <;> rfl)))

end Cert.OADwIdeal.Arr
end
-- ==== Proof.QkvDxVal.lean ====
/-
  The kernel of the gradient the banded attention's input projection hands back: its result array is the whole product, and so is its reference's.
-/
module

public import proofs.«01_k».proof.Proof.Gen.QkvDxIdeal.Value
public import proofs.«01_k».proof.Proof.Gen.QkvDxRefIdeal.Read
public import Idealize.ShloMosaic.Lib.Pipeline.ValueKit
public import Idealize.ShloMosaic.Lib.Pointwise

@[expose] public section
set_option maxRecDepth 16384
noncomputable section
namespace Cert.QkvDxIdeal.Arr
open Cert.QkvDxIdeal Cert.QkvDxIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![t.val, 0] ∧ win0_1.index t = ![0, 0] ∧ win0_2.index t = ![t.val, 0] ∧ t.val < 2 :=
  (by decide +kernel : ∀ t : Fin grid0.N, _)
theorem iblk0 (c : Dev nD) (t : Fin cfg0.N) (r : Fin 1024) (k : Fin 2304) (h : 1024 * t.val + r.val < 2048) :
    iblk m c 0 t (ix2 r k) = m ((c : Thread nD τ).loc main_arg0) (ix2 ⟨1024 * t.val + r.val, h⟩ k) := by
  blk_ext [iblk, V, idx t]
theorem iblk1 (c : Dev nD) (t : Fin cfg0.N) (r : Fin 1024) (k : Fin 2304) :
    iblk m c 1 t (ix2 r k) = m ((c : Thread nD τ).loc main_arg1) (ix2 r k) := by
  blk_ext [iblk, V, idx t]

theorem out_apply (x0 : Vec Ideal S1024x2304 .bf16) (x1 : Vec Ideal S1024x2304 .bf16) (r : Fin 1024) (l : Fin 1024) :
    out0_2 x0 x1 (ix2 r l) = ∑ k : Fin 2304, @HMul.hMul EReal EReal EReal _ (x0 (ix2 r k)) (x1 (ix2 l k)) := by
  rw [out0_2, View.canon_cons_unit_lit _ _ _ (by intro a; fin_cases a <;> rfl)]
  pointwise [k0_pay1]

/-- The product of two arrays, entry by entry. -/
def prod (a : (⟨S2048x2304, .bf16⟩ : BufTy).Contents (Elt Ideal)) (b : (⟨S1024x2304, .bf16⟩ : BufTy).Contents (Elt Ideal)) (i : S2048x1024.Idx) : EReal :=
  ∑ k : Fin 2304, @HMul.hMul EReal EReal EReal _ (a (ix2 (i 0) k)) (b (ix2 (i 1) k))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 2 := (idx t).2.2.2
  have hr : (y 0).val < 1024 := (y 0).isLt
  have hl : (y 1).val < 1024 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _ (by omega)) (iblk1 m c t _ _)).trans ?_
  refine congrArg₂ (@HMul.hMul EReal EReal EReal _) (congrArg _ (congrArg₂ ix2 ?_ rfl)) (congrArg _ (congrArg₂ ix2 ?_ rfl))
  · refine Fin.ext ?_
    blk_simp [idx t]
    show 1024 * t.val + (y 0).val = _
    omega
  · refine Fin.ext ?_
    blk_simp [idx t]

/-- The reference's result is the same product. -/
theorem ref (a : (⟨S2048x2304, .bf16⟩ : BufTy).Contents (Elt Ideal)) (b : (⟨S1024x2304, .bf16⟩ : BufTy).Contents (Elt Ideal)) :
    Cert.QkvDxRefIdeal.Read.val_main_v2 (F := Ideal) a b = prod a b := by
  funext i
  unfold prod
  refine (Cert.QkvDxRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.QkvDxIdeal.Arr
end
-- ==== Proof.QkvDwVal.lean ====
/-
  The kernel of the gradient of the banded attention's input weights: its result array is the whole product, and so is its reference's.
-/
module

public import proofs.«01_k».proof.Proof.Gen.QkvDwIdeal.Value
public import proofs.«01_k».proof.Proof.Gen.QkvDwRefIdeal.Read
public import Idealize.ShloMosaic.Lib.Pipeline.ValueKit
public import Idealize.ShloMosaic.Lib.Pointwise

@[expose] public section
set_option maxRecDepth 16384
noncomputable section
namespace Cert.QkvDwIdeal.Arr
open Cert.QkvDwIdeal Cert.QkvDwIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, t.val] ∧ win0_2.index t = ![0, t.val] ∧ t.val < 3 :=
  (by decide +kernel : ∀ t : Fin grid0.N, _)
theorem iblk0 (c : Dev nD) (t : Fin cfg0.N) (r : Fin 1024) (k : Fin 2048) :
    iblk m c 0 t (ix2 k r) = m ((c : Thread nD τ).loc main_arg0) (ix2 k r) := by
  blk_ext [iblk, V, idx t]
theorem iblk1 (c : Dev nD) (t : Fin cfg0.N) (r : Fin 768) (k : Fin 2048) (h : 768 * t.val + r.val < 2304) :
    iblk m c 1 t (ix2 k r) = m ((c : Thread nD τ).loc main_arg1) (ix2 k ⟨768 * t.val + r.val, h⟩) := by
  blk_ext [iblk, V, idx t]

theorem out_apply (x0 : Vec Ideal S2048x1024 .bf16) (x1 : Vec Ideal S2048x768 .bf16) (r : Fin 1024) (l : Fin 768) :
    out0_2 x0 x1 (ix2 r l) = ∑ k : Fin 2048, @HMul.hMul EReal EReal EReal _ (x0 (ix2 k r)) (x1 (ix2 k l)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S2048x2304, .bf16⟩ : BufTy).Contents (Elt Ideal)) (i : S1024x2304.Idx) : EReal :=
  ∑ k : Fin 2048, @HMul.hMul EReal EReal EReal _ (a (ix2 k (i 0))) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 3 := (idx t).2.2.2
  have hr : (y 0).val < 1024 := (y 0).isLt
  have hl : (y 1).val < 768 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _ (by omega))).trans ?_
  refine congrArg₂ (@HMul.hMul EReal EReal EReal _) (congrArg _ (congrArg (ix2 k) ?_)) (congrArg _ (congrArg (ix2 k) ?_))
  · refine Fin.ext ?_
    blk_simp [idx t]
  · refine Fin.ext ?_
    blk_simp [idx t]
    show 768 * t.val + (y 1).val = _
    omega

/-- The reference's result is the same product. -/
theorem ref (a : (⟨S2048x1024, .bf16⟩ : BufTy).Contents (Elt Ideal)) (b : (⟨S2048x2304, .bf16⟩ : BufTy).Contents (Elt Ideal)) :
    Cert.QkvDwRefIdeal.Read.val_main_v4 (F := Ideal) a b = prod a b := by
  funext i
  unfold prod
  refine ((Cert.QkvDwRefIdeal.Read.val_main_v3_apply a b i).trans (Cert.QkvDwRefIdeal.Read.val_main_v2_apply a b _)).trans ?_
  exact Finset.sum_congr rfl fun k _ => (mul_comm _ _).trans (congrArg₂ (@HMul.hMul EReal EReal EReal _) (congrArg a (funext fun x => by fin_cases x <;> rfl)) (congrArg b (funext fun x => by fin_cases x <;> rfl)))

end Cert.QkvDwIdeal.Arr
end
-- ==== Proof.OBDxVal.lean ====
/-
  The kernel of the gradient the forgetting attention's output projection hands back: its result array is the whole product, and so is its reference's.
-/
module

public import proofs.«01_k».proof.Proof.Gen.OBDxIdeal.Value
public import proofs.«01_k».proof.Proof.Gen.OBDxRefIdeal.Read
public import Idealize.ShloMosaic.Lib.Pipeline.ValueKit
public import Idealize.ShloMosaic.Lib.Pointwise

@[expose] public section
set_option maxRecDepth 16384
noncomputable section
namespace Cert.OBDxIdeal.Arr
open Cert.OBDxIdeal Cert.OBDxIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![t.val, 0] ∧ win0_2.index t = ![0, t.val] ∧ t.val < 2 :=
  (by decide +kernel : ∀ t : Fin grid0.N, _)
theorem iblk0 (c : Dev nD) (t : Fin cfg0.N) (r : Fin 2048) (k : Fin 1024) :
    iblk m c 0 t (ix2 r k) = m ((c : Thread nD τ).loc main_arg0) (ix2 r k) := by
  blk_ext [iblk, V, idx t]
theorem iblk1 (c : Dev nD) (t : Fin cfg0.N) (r : Fin 512) (k : Fin 1024) (h : 512 * t.val + r.val < 1024) :
    iblk m c 1 t (ix2 r k) = m ((c : Thread nD τ).loc main_arg1) (ix2 ⟨512 * t.val + r.val, h⟩ k) := by
  blk_ext [iblk, V, idx t]

theorem out_apply (x0 : Vec Ideal S2048x1024 .bf16) (x1 : Vec Ideal S512x1024 .bf16) (r : Fin 2048) (l : Fin 512) :
    out0_2 x0 x1 (ix2 r l) = ∑ k : Fin 1024, @HMul.hMul EReal EReal EReal _ (x0 (ix2 r k)) (x1 (ix2 l k)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S1024x1024, .bf16⟩ : BufTy).Contents (Elt Ideal)) (i : S2048x1024.Idx) : EReal :=
  ∑ k : Fin 1024, @HMul.hMul EReal EReal EReal _ (a (ix2 (i 0) k)) (b (ix2 (i 1) k))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 2 := (idx t).2.2.2
  have hr : (y 0).val < 2048 := (y 0).isLt
  have hl : (y 1).val < 512 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _ (by omega))).trans ?_
  refine congrArg₂ (@HMul.hMul EReal EReal EReal _) (congrArg _ (congrArg₂ ix2 ?_ rfl)) (congrArg _ (congrArg₂ ix2 ?_ rfl))
  · refine Fin.ext ?_
    blk_simp [idx t]
  · refine Fin.ext ?_
    blk_simp [idx t]
    show 512 * t.val + (y 1).val = _
    omega

/-- The reference's result is the same product. -/
theorem ref (a : (⟨S2048x1024, .bf16⟩ : BufTy).Contents (Elt Ideal)) (b : (⟨S1024x1024, .bf16⟩ : BufTy).Contents (Elt Ideal)) :
    Cert.OBDxRefIdeal.Read.val_main_v3 (F := Ideal) a b = prod a b := by
  funext i
  unfold prod
  refine (Cert.OBDxRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.OBDxIdeal.Arr
end
-- ==== Proof.OBDwVal.lean ====
/-
  The kernel of the gradient of the forgetting attention's output weights: its result array is the whole product, and so is its reference's.
-/
module

public import proofs.«01_k».proof.Proof.Gen.OBDwIdeal.Value
public import proofs.«01_k».proof.Proof.Gen.OBDwRefIdeal.Read
public import Idealize.ShloMosaic.Lib.Pipeline.ValueKit
public import Idealize.ShloMosaic.Lib.Pointwise

@[expose] public section
set_option maxRecDepth 16384
noncomputable section
namespace Cert.OBDwIdeal.Arr
open Cert.OBDwIdeal Cert.OBDwIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, 0] ∧ win0_2.index t = ![0, 0] ∧ t.val < 1 :=
  (by decide +kernel : ∀ t : Fin grid0.N, _)
theorem iblk0 (c : Dev nD) (t : Fin cfg0.N) (r : Fin 1024) (k : Fin 2048) :
    iblk m c 0 t (ix2 k r) = m ((c : Thread nD τ).loc main_arg0) (ix2 k r) := by
  blk_ext [iblk, V, idx t]
theorem iblk1 (c : Dev nD) (t : Fin cfg0.N) (r : Fin 1024) (k : Fin 2048) :
    iblk m c 1 t (ix2 k r) = m ((c : Thread nD τ).loc main_arg1) (ix2 k r) := by
  blk_ext [iblk, V, idx t]

theorem out_apply (x0 : Vec Ideal S2048x1024 .bf16) (x1 : Vec Ideal S2048x1024 .bf16) (r : Fin 1024) (l : Fin 1024) :
    out0_2 x0 x1 (ix2 r l) = ∑ k : Fin 2048, @HMul.hMul EReal EReal EReal _ (x0 (ix2 k r)) (x1 (ix2 k l)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S2048x1024, .bf16⟩ : BufTy).Contents (Elt Ideal)) (i : S1024x1024.Idx) : EReal :=
  ∑ k : Fin 2048, @HMul.hMul EReal EReal EReal _ (a (ix2 k (i 0))) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 1 := (idx t).2.2.2
  have hr : (y 0).val < 1024 := (y 0).isLt
  have hl : (y 1).val < 1024 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _)).trans ?_
  refine congrArg₂ (@HMul.hMul EReal EReal EReal _) (congrArg _ (congrArg (ix2 k) ?_)) (congrArg _ (congrArg (ix2 k) ?_))
  · refine Fin.ext ?_
    blk_simp [idx t]
  · refine Fin.ext ?_
    blk_simp [idx t]

/-- The reference's result is the same product. -/
theorem ref (a : (⟨S2048x1024, .bf16⟩ : BufTy).Contents (Elt Ideal)) (b : (⟨S2048x1024, .bf16⟩ : BufTy).Contents (Elt Ideal)) :
    Cert.OBDwRefIdeal.Read.val_main_v4 (F := Ideal) a b = prod a b := by
  funext i
  unfold prod
  refine ((Cert.OBDwRefIdeal.Read.val_main_v3_apply a b i).trans (Cert.OBDwRefIdeal.Read.val_main_v2_apply a b _)).trans ?_
  exact Finset.sum_congr rfl fun k _ => (mul_comm _ _).trans (congrArg₂ (@HMul.hMul EReal EReal EReal _) (congrArg a (funext fun x => by fin_cases x <;> rfl)) (congrArg b (funext fun x => by fin_cases x <;> rfl)))

end Cert.OBDwIdeal.Arr
end
-- ==== Proof.QBDxVal.lean ====
/-
  The kernel of the gradient the forgetting attention's query projection hands back: its result array is the whole product, and so is its reference's.
-/
module

public import proofs.«01_k».proof.Proof.Gen.QBDxIdeal.Value
public import proofs.«01_k».proof.Proof.Gen.QBDxRefIdeal.Read
public import Idealize.ShloMosaic.Lib.Pipeline.ValueKit
public import Idealize.ShloMosaic.Lib.Pointwise

@[expose] public section
set_option maxRecDepth 16384
noncomputable section
namespace Cert.QBDxIdeal.Arr
open Cert.QBDxIdeal Cert.QBDxIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![t.val, 0] ∧ win0_2.index t = ![0, t.val] ∧ t.val < 2 :=
  (by decide +kernel : ∀ t : Fin grid0.N, _)
theorem iblk0 (c : Dev nD) (t : Fin cfg0.N) (r : Fin 2048) (k : Fin 1024) :
    iblk m c 0 t (ix2 r k) = m ((c : Thread nD τ).loc main_arg0) (ix2 r k) := by
  blk_ext [iblk, V, idx t]
theorem iblk1 (c : Dev nD) (t : Fin cfg0.N) (r : Fin 512) (k : Fin 1024) (h : 512 * t.val + r.val < 1024) :
    iblk m c 1 t (ix2 r k) = m ((c : Thread nD τ).loc main_arg1) (ix2 ⟨512 * t.val + r.val, h⟩ k) := by
  blk_ext [iblk, V, idx t]

theorem out_apply (x0 : Vec Ideal S2048x1024 .bf16) (x1 : Vec Ideal S512x1024 .bf16) (r : Fin 2048) (l : Fin 512) :
    out0_2 x0 x1 (ix2 r l) = ∑ k : Fin 1024, @HMul.hMul EReal EReal EReal _ (x0 (ix2 r k)) (x1 (ix2 l k)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S1024x1024, .bf16⟩ : BufTy).Contents (Elt Ideal)) (i : S2048x1024.Idx) : EReal :=
  ∑ k : Fin 1024, @HMul.hMul EReal EReal EReal _ (a (ix2 (i 0) k)) (b (ix2 (i 1) k))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 2 := (idx t).2.2.2
  have hr : (y 0).val < 2048 := (y 0).isLt
  have hl : (y 1).val < 512 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _ (by omega))).trans ?_
  refine congrArg₂ (@HMul.hMul EReal EReal EReal _) (congrArg _ (congrArg₂ ix2 ?_ rfl)) (congrArg _ (congrArg₂ ix2 ?_ rfl))
  · refine Fin.ext ?_
    blk_simp [idx t]
  · refine Fin.ext ?_
    blk_simp [idx t]
    show 512 * t.val + (y 1).val = _
    omega

/-- The reference's result is the same product. -/
theorem ref (a : (⟨S2048x1024, .bf16⟩ : BufTy).Contents (Elt Ideal)) (b : (⟨S1024x1024, .bf16⟩ : BufTy).Contents (Elt Ideal)) :
    Cert.QBDxRefIdeal.Read.val_main_v2 (F := Ideal) a b = prod a b := by
  funext i
  unfold prod
  refine (Cert.QBDxRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.QBDxIdeal.Arr
end
-- ==== Proof.QBDwVal.lean ====
/-
  The kernel of the gradient of the forgetting attention's query weights: its result array is the whole product, and so is its reference's.
-/
module

public import proofs.«01_k».proof.Proof.Gen.QBDwIdeal.Value
public import proofs.«01_k».proof.Proof.Gen.QBDwRefIdeal.Read
public import Idealize.ShloMosaic.Lib.Pipeline.ValueKit
public import Idealize.ShloMosaic.Lib.Pointwise

@[expose] public section
set_option maxRecDepth 16384
noncomputable section
namespace Cert.QBDwIdeal.Arr
open Cert.QBDwIdeal Cert.QBDwIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, 0] ∧ win0_1.index t = ![0, 0] ∧ win0_2.index t = ![0, 0] ∧ t.val < 1 :=
  (by decide +kernel : ∀ t : Fin grid0.N, _)
theorem iblk0 (c : Dev nD) (t : Fin cfg0.N) (r : Fin 1024) (k : Fin 2048) :
    iblk m c 0 t (ix2 k r) = m ((c : Thread nD τ).loc main_arg0) (ix2 k r) := by
  blk_ext [iblk, V, idx t]
theorem iblk1 (c : Dev nD) (t : Fin cfg0.N) (r : Fin 1024) (k : Fin 2048) :
    iblk m c 1 t (ix2 k r) = m ((c : Thread nD τ).loc main_arg1) (ix2 k r) := by
  blk_ext [iblk, V, idx t]

theorem out_apply (x0 : Vec Ideal S2048x1024 .bf16) (x1 : Vec Ideal S2048x1024 .bf16) (r : Fin 1024) (l : Fin 1024) :
    out0_2 x0 x1 (ix2 r l) = ∑ k : Fin 2048, @HMul.hMul EReal EReal EReal _ (x0 (ix2 k r)) (x1 (ix2 k l)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S2048x1024, .bf16⟩ : BufTy).Contents (Elt Ideal)) (i : S1024x1024.Idx) : EReal :=
  ∑ k : Fin 2048, @HMul.hMul EReal EReal EReal _ (a (ix2 k (i 0))) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 1 := (idx t).2.2.2
  have hr : (y 0).val < 1024 := (y 0).isLt
  have hl : (y 1).val < 1024 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _) (iblk1 m c t _ _)).trans ?_
  refine congrArg₂ (@HMul.hMul EReal EReal EReal _) (congrArg _ (congrArg (ix2 k) ?_)) (congrArg _ (congrArg (ix2 k) ?_))
  · refine Fin.ext ?_
    blk_simp [idx t]
  · refine Fin.ext ?_
    blk_simp [idx t]

/-- The reference's result is the same product. -/
theorem ref (a : (⟨S2048x1024, .bf16⟩ : BufTy).Contents (Elt Ideal)) (b : (⟨S2048x1024, .bf16⟩ : BufTy).Contents (Elt Ideal)) :
    Cert.QBDwRefIdeal.Read.val_main_v4 (F := Ideal) a b = prod a b := by
  funext i
  unfold prod
  refine ((Cert.QBDwRefIdeal.Read.val_main_v3_apply a b i).trans (Cert.QBDwRefIdeal.Read.val_main_v2_apply a b _)).trans ?_
  exact Finset.sum_congr rfl fun k _ => (mul_comm _ _).trans (congrArg₂ (@HMul.hMul EReal EReal EReal _) (congrArg a (funext fun x => by fin_cases x <;> rfl)) (congrArg b (funext fun x => by fin_cases x <;> rfl)))

end Cert.QBDwIdeal.Arr
end
-- ==== Proof.KvfDxVal.lean ====
/-
  The kernel of the gradient the shared projection hands back: its result array is the whole product, and so is its reference's.
-/
module

public import proofs.«01_k».proof.Proof.Gen.KvfDxIdeal.Value
public import proofs.«01_k».proof.Proof.Gen.KvfDxRefIdeal.Read
public import Idealize.ShloMosaic.Lib.Pipeline.ValueKit
public import Idealize.ShloMosaic.Lib.Pointwise

@[expose] public section
set_option maxRecDepth 16384
noncomputable section
namespace Cert.KvfDxIdeal.Arr
open Cert.KvfDxIdeal Cert.KvfDxIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![t.val, 0] ∧ win0_1.index t = ![0, 0] ∧ win0_2.index t = ![t.val, 0] ∧ t.val < 2 :=
  (by decide +kernel : ∀ t : Fin grid0.N, _)
theorem iblk0 (c : Dev nD) (t : Fin cfg0.N) (r : Fin 1024) (k : Fin 2176) (h : 1024 * t.val + r.val < 2048) :
    iblk m c 0 t (ix2 r k) = m ((c : Thread nD τ).loc main_arg0) (ix2 ⟨1024 * t.val + r.val, h⟩ k) := by
  blk_ext [iblk, V, idx t]
theorem iblk1 (c : Dev nD) (t : Fin cfg0.N) (r : Fin 1024) (k : Fin 2176) :
    iblk m c 1 t (ix2 r k) = m ((c : Thread nD τ).loc main_arg1) (ix2 r k) := by
  blk_ext [iblk, V, idx t]

theorem out_apply (x0 : Vec Ideal S1024x2176 .bf16) (x1 : Vec Ideal S1024x2176 .bf16) (r : Fin 1024) (l : Fin 1024) :
    out0_2 x0 x1 (ix2 r l) = ∑ k : Fin 2176, @HMul.hMul EReal EReal EReal _ (x0 (ix2 r k)) (x1 (ix2 l k)) := by
  rw [out0_2, View.canon_cons_unit_lit _ _ _ (by intro a; fin_cases a <;> rfl)]
  pointwise [k0_pay1]

/-- The product of two arrays, entry by entry. -/
def prod (a : (⟨S2048x2176, .bf16⟩ : BufTy).Contents (Elt Ideal)) (b : (⟨S1024x2176, .bf16⟩ : BufTy).Contents (Elt Ideal)) (i : S2048x1024.Idx) : EReal :=
  ∑ k : Fin 2176, @HMul.hMul EReal EReal EReal _ (a (ix2 (i 0) k)) (b (ix2 (i 1) k))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 2 := (idx t).2.2.2
  have hr : (y 0).val < 1024 := (y 0).isLt
  have hl : (y 1).val < 1024 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _ (by omega)) (iblk1 m c t _ _)).trans ?_
  refine congrArg₂ (@HMul.hMul EReal EReal EReal _) (congrArg _ (congrArg₂ ix2 ?_ rfl)) (congrArg _ (congrArg₂ ix2 ?_ rfl))
  · refine Fin.ext ?_
    blk_simp [idx t]
    show 1024 * t.val + (y 0).val = _
    omega
  · refine Fin.ext ?_
    blk_simp [idx t]

/-- The reference's result is the same product. -/
theorem ref (a : (⟨S2048x2176, .bf16⟩ : BufTy).Contents (Elt Ideal)) (b : (⟨S1024x2176, .bf16⟩ : BufTy).Contents (Elt Ideal)) :
    Cert.KvfDxRefIdeal.Read.val_main_v2 (F := Ideal) a b = prod a b := by
  funext i
  unfold prod
  refine (Cert.KvfDxRefIdeal.Read.val_main_v2_apply a b i).trans ?_
  exact Finset.sum_congr rfl fun k _ => congrArg₂ (@HMul.hMul EReal EReal EReal _) (congrArg a (funext fun x => by fin_cases x <;> rfl)) (congrArg b (funext fun x => by fin_cases x <;> rfl))

end Cert.KvfDxIdeal.Arr
end
-- ==== Proof.KvfDwVal.lean ====
/-
  The kernel of the gradient of the shared projection's weights: its result array is the whole product, and so is its reference's.
-/
module

public import proofs.«01_k».proof.Proof.Gen.KvfDwIdeal.Value
public import proofs.«01_k».proof.Proof.Gen.KvfDwRefIdeal.Read
public import Idealize.ShloMosaic.Lib.Pipeline.ValueKit
public import Idealize.ShloMosaic.Lib.Pointwise

@[expose] public section
set_option maxRecDepth 16384
noncomputable section
namespace Cert.KvfDwIdeal.Arr
open Cert.KvfDwIdeal Cert.KvfDwIdeal.Gen Idealize.ShloMosaic Idealize.ShloMosaic.TcCoe Idealize.SL.Sem

variable (m : (ℓ : Loc nD τ sig) → Buf (Elt Ideal) ℓ)

/-- Where each window's block of a grid point lies. -/
theorem idx : ∀ t : Fin cfg0.N, win0_0.index t = ![0, t.val] ∧ win0_1.index t = ![0, 0] ∧ win0_2.index t = ![t.val, 0] ∧ t.val < 2 :=
  (by decide +kernel : ∀ t : Fin grid0.N, _)
theorem iblk0 (c : Dev nD) (t : Fin cfg0.N) (r : Fin 512) (k : Fin 2048) (h : 512 * t.val + r.val < 1024) :
    iblk m c 0 t (ix2 k r) = m ((c : Thread nD τ).loc main_arg0) (ix2 k ⟨512 * t.val + r.val, h⟩) := by
  blk_ext [iblk, V, idx t]
theorem iblk1 (c : Dev nD) (t : Fin cfg0.N) (r : Fin 2176) (k : Fin 2048) :
    iblk m c 1 t (ix2 k r) = m ((c : Thread nD τ).loc main_arg1) (ix2 k r) := by
  blk_ext [iblk, V, idx t]

theorem out_apply (x0 : Vec Ideal S2048x512 .bf16) (x1 : Vec Ideal S2048x2176 .bf16) (r : Fin 512) (l : Fin 2176) :
    out0_2 x0 x1 (ix2 r l) = ∑ k : Fin 2048, @HMul.hMul EReal EReal EReal _ (x0 (ix2 k r)) (x1 (ix2 k l)) := by
  rw [out0_2, View.canon_cons_unit_lit _ _ _ (by intro a; fin_cases a <;> rfl)]
  pointwise [k0_pay1]

/-- The product of two arrays, entry by entry. -/
def prod (a : (⟨S2048x1024, .bf16⟩ : BufTy).Contents (Elt Ideal)) (b : (⟨S2048x2176, .bf16⟩ : BufTy).Contents (Elt Ideal)) (i : S1024x2176.Idx) : EReal :=
  ∑ k : Fin 2048, @HMul.hMul EReal EReal EReal _ (a (ix2 k (i 0))) (b (ix2 k (i 1)))

theorem final (c : Dev nD) : (dats m 0 c).arrAt 2 (cfgs 0).N = prod (m ((c : Thread nD τ).loc main_arg0)) (m ((c : Thread nD τ).loc main_arg1)) := by
  refine (dats m 0 c).arrAt_eq_of_covers 2 _ (by decide +kernel) fun t hf y => ?_
  have ht : t.val < 2 := (idx t).2.2.2
  have hr : (y 0).val < 512 := (y 0).isLt
  have hl : (y 1).val < 2176 := (y 1).isLt
  unfold prod
  blk_simp
  rw [after0_2]
  have hy : y = ix2 (y 0) (y 1) := by funext a; fin_cases a <;> rfl
  refine (congrArg _ hy).trans ((out_apply _ _ _ _).trans ?_)
  refine Finset.sum_congr rfl fun k _ => ?_
  refine (congrArg₂ (@HMul.hMul EReal EReal EReal _) (iblk0 m c t _ _ (by omega)) (iblk1 m c t _ _)).trans ?_
  refine congrArg₂ (@HMul.hMul EReal EReal EReal _) (congrArg _ (congrArg (ix2 k) ?_)) (congrArg _ (congrArg (ix2 k) ?_))
  · refine Fin.ext ?_
    blk_simp [idx t]
    show 512 * t.val + (y 0).val = _
    omega
  · refine Fin.ext ?_
    blk_simp [idx t]

/-- The reference's result is the same product. -/
theorem ref (a : (⟨S2048x1024, .bf16⟩ : BufTy).Contents (Elt Ideal)) (b : (⟨S2048x2176, .bf16⟩ : BufTy).Contents (Elt Ideal)) :
    Cert.KvfDwRefIdeal.Read.val_main_v4 (F := Ideal) a b = prod a b := by
  funext i
  unfold prod
  refine ((Cert.KvfDwRefIdeal.Read.val_main_v3_apply a b i).trans (Cert.KvfDwRefIdeal.Read.val_main_v2_apply a b _)).trans ?_
  exact Finset.sum_congr rfl fun k _ => (mul_comm _ _).trans (congrArg₂ (@HMul.hMul EReal EReal EReal _) (congrArg a (funext fun x => by fin_cases x <;> rfl)) (congrArg b (funext fun x => by fin_cases x <;> rfl)))

end Cert.KvfDwIdeal.Arr
end
-- ==== Proof.Soft.lean ====
/-
  Real arithmetic of the forgetting attention's causal softmax: the two-part running maximum and sum of a row of scores give
  the row's softmax, whatever real the maximum is; and small lemmas on sums of reals inside the extended reals.
-/
module

public import Idealize.ShloMosaic.PureOps.Ideal
public import Idealize.ShloMosaic.PureOps.Ideal.Laws
public import Idealize.ShloMosaic.Lib.IdealHost
public import Mathlib.Data.Finset.Fold

@[expose] public section
noncomputable section
namespace Cert.Soft
open Idealize.ShloMosaic

theorem coe_sum {ι : Type*} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A sum over `Fin n` of reals, as one real over `range n`. -/
theorem fin_sum {n : ℕ} (f : Fin n → EReal) (g : ℕ → ℝ) (h : ∀ i : Fin n, f i = ((g i.val : ℝ) : EReal)) :
    ∑ i, f i = ((∑ i ∈ Finset.range n, g i : ℝ) : EReal) := by
  rw [Finset.sum_congr rfl fun i _ => h i, ← coe_sum, Fin.sum_univ_eq_sum_range]

theorem real_of {x : EReal} (h : ⊥ < x) (h' : x < ⊤) : ∃ r : ℝ, x = (r : EReal) :=
  ⟨x.toReal, (EReal.coe_toReal h'.ne h.ne').symm⟩

/-- The greatest of finitely many values below ⊤, one of them above ⊥, is a real. -/
theorem fold_real {n : ℕ} (f : Fin n → EReal) (h : ∀ i, f i < ⊤) (i : Fin n) (hi : ⊥ < f i) :
    ∃ r : ℝ, Finset.univ.fold max ⊥ f = (r : EReal) :=
  real_of ((Finset.lt_fold_max _).mpr (.inr ⟨i, Finset.mem_univ _, hi⟩))
    ((Finset.fold_max_lt _).mpr ⟨bot_lt_top, fun x _ => h x⟩)

theorem fold_lt_top {n : ℕ} (f : Fin n → EReal) (h : ∀ i, f i < ⊤) : Finset.univ.fold max ⊥ f < ⊤ :=
  (Finset.fold_max_lt _).mpr ⟨bot_lt_top, fun x _ => h x⟩

/-- The causal softmax of scores `s` at row `t`. -/
def P (s : ℕ → ℝ) (t u : ℕ) : ℝ := if u ≤ t then Real.exp (s u) / ∑ x ∈ Finset.range (t + 1), Real.exp (s x) else 0

theorem Z_pos (s : ℕ → ℝ) (t : ℕ) : 0 < ∑ x ∈ Finset.range (t + 1), Real.exp (s x) :=
  Finset.sum_pos (fun _ _ => Real.exp_pos _) ⟨0, by simp⟩

/-- A sum of causal terms over any range that holds the row's past is the sum over the past. -/
theorem sum_causal (t n : ℕ) (h : t < n) (f : ℕ → ℝ) (hf : ∀ u, t < u → f u = 0) :
    ∑ u ∈ Finset.range n, f u = ∑ u ∈ Finset.range (t + 1), f u := by
  symm
  refine Finset.sum_subset (fun x hx => ?_) fun x _ hx => hf x ?_
  · simp only [Finset.mem_range] at hx ⊢; omega
  · simp only [Finset.mem_range] at hx; omega

theorem P_shift (s : ℕ → ℝ) (a : ℝ) (t u : ℕ) : P (fun x => s x + a) t u = P s t u := by
  unfold P
  split_ifs
  · have := Z_pos s t
    simp only [Real.exp_add]
    rw [← Finset.sum_mul, mul_div_mul_right _ _ (Real.exp_pos a).ne']
  · rfl

/-- The exponential of a masked score less a real. -/
def E (s : ℕ → ℝ) (μ : ℝ) (t u : ℕ) : ℝ := if u ≤ t then Real.exp (s u - μ) else 0

theorem exp_masked (s : ℕ → ℝ) (μ : ℝ) (t u : ℕ) (x : EReal) (hx : x = if u ≤ t then ((s u : ℝ) : EReal) else ⊥) :
    Ideal.exp (x - (μ : EReal)) = ((E s μ t u : ℝ) : EReal) := by
  subst hx
  unfold E
  split_ifs
  · rw [← EReal.coe_sub, Ideal.exp_coe]
  · rw [sub_eq_add_neg, EReal.bot_add, Ideal.exp_bot, EReal.coe_zero]

theorem E_sum (s : ℕ → ℝ) (μ : ℝ) (t n : ℕ) (h : t < n) :
    ∑ u ∈ Finset.range n, E s μ t u = (∑ x ∈ Finset.range (t + 1), Real.exp (s x)) * Real.exp (-μ) := by
  rw [sum_causal t n h _ (fun u hu => by unfold E; rw [if_neg (by omega)]), Finset.sum_mul]
  refine Finset.sum_congr rfl fun u hu => ?_
  have : u ≤ t := by simpa [Nat.lt_succ_iff] using hu
  rw [E, if_pos this, sub_eq_add_neg, Real.exp_add]

/-- The exponential divided by the row's sum of exponentials is the softmax. -/
theorem E_div (s : ℕ → ℝ) (μ : ℝ) (t u n : ℕ) (h : t < n) :
    E s μ t u * (1 / ∑ u ∈ Finset.range n, E s μ t u) = P s t u := by
  rw [E_sum s μ t n h]
  unfold E P
  split_ifs
  · have := Z_pos s t
    have := Real.exp_pos (-μ)
    rw [sub_eq_add_neg, Real.exp_add]
    field_simp
  · rw [zero_mul]

theorem E_sum_pos (s : ℕ → ℝ) (μ : ℝ) (t n : ℕ) (h : t < n) : 0 < ∑ u ∈ Finset.range n, E s μ t u := by
  rw [E_sum s μ t n h]; exact mul_pos (Z_pos s t) (Real.exp_pos _)

theorem P_of_lt (s : ℕ → ℝ) (t u : ℕ) (h : t < u) : P s t u = 0 := by unfold P; rw [if_neg (by omega)]

theorem P_sum (s : ℕ → ℝ) (t n : ℕ) (h : t < n) : ∑ u ∈ Finset.range n, P s t u = 1 := by
  rw [sum_causal t n h _ (P_of_lt s t)]
  have : ∀ u ∈ Finset.range (t + 1), P s t u = Real.exp (s u) / ∑ x ∈ Finset.range (t + 1), Real.exp (s x) := fun u hu => by
    rw [P, if_pos (by simpa [Nat.lt_succ_iff] using hu)]
  rw [Finset.sum_congr rfl this, ← Finset.sum_div, div_self (Z_pos s t).ne']

/-- The gradient of the softmax: `P (g − Σ P g)`. -/
def DS (s g : ℕ → ℝ) (t u : ℕ) : ℝ := P s t u * (g u - ∑ x ∈ Finset.range (t + 1), P s t x * g x)

theorem DS_of_lt (s g : ℕ → ℝ) (t u : ℕ) (h : t < u) : DS s g t u = 0 := by unfold DS; rw [P_of_lt s t u h, zero_mul]

/-- A row of the softmax's gradient sums to zero. -/
theorem DS_sum (s g : ℕ → ℝ) (t n : ℕ) (h : t < n) : ∑ u ∈ Finset.range n, DS s g t u = 0 := by
  unfold DS
  simp only [mul_sub]
  rw [Finset.sum_sub_distrib, ← Finset.sum_mul, P_sum s t n h, one_mul,
    sum_causal t n h (fun u => P s t u * g u) (fun u hu => by rw [P_of_lt s t u hu, zero_mul]), sub_self]

end Cert.Soft
end
-- ==== Proof.Sec.lean ====
/-
  One row block of one head of the forgetting attention's backward pass, as functions of the vectors the kernel's body reads,
  and what those functions hold when their inputs are reals.
-/
module

public import proofs.«01_k».proof.Proof.Gen.KernelIdeal.Value
public import proofs.«01_k».proof.Proof.Soft
public import Idealize.ShloMosaic.Lib.Pipeline.ValueKit
public import Idealize.ShloMosaic.Lib.Pipeline.ReadBack
public import Idealize.ShloMosaic.Lib.Pointwise

@[expose] public section
set_option maxRecDepth 16384
noncomputable section
namespace Cert.KernelIdeal.Sec
open Cert.KernelIdeal Cert.KernelIdeal.Gen Idealize.ShloMosaic Idealize.ShloMosaic.TcCoe Idealize.SL.Sem
open Cert.Soft

abbrev M2 (a b : ℕ) : Shape := ⟨2, ![a, b]⟩

/-- The vector's entries are the reals `A`. -/
def Re {a b : ℕ} {φ : FTy} (f : FVec Ideal (M2 a b) φ) (A : ℕ → ℕ → ℝ) : Prop :=
  ∀ (i : Fin a) (j : Fin b), f (ix2 i j) = ((A i.val j.val : ℝ) : EReal)

/-! ## Rows of scores -/

def diag (n np : ℕ) (hs : (M2 512 n).Slices ![0, np] S512x512) (S : FVec Ideal (M2 512 n) .f32) : FVec Ideal S512x512 .f32 :=
  select (cmpi .sle (iota .tc S512x512 32 [1] iota_S512x512_d1_w32) (iota .tc S512x512 32 [0] iota_S512x512_d0_w32))
    (extractStridedSlice S512x512 ![0, np] S hs) (broadcast S512x512 (Named.named κ "mask" 0xF149F2CA#32))

def rowMax (n : ℕ) (h : (M2 512 n).Reduces [1] S512) (x : FVec Ideal (M2 512 n) .f32) : FVec Ideal S512x1 .f32 :=
  shapeCast S512x1 (multiReduction .maximumf [1] S512 x 0xFF800000#32 h (.inl rfl) rfl) shapeCasts_S512_S512x1

def rowSum (n : ℕ) (h : (M2 512 n).Reduces [1] S512) (x : FVec Ideal (M2 512 n) .f32) : FVec Ideal S512x1 .f32 :=
  shapeCast S512x1 (multiReduction .add [1] S512 x 0x00000000#32 h (.inl rfl) rfl) shapeCasts_S512_S512x1

theorem rowSum_apply (n : ℕ) (h : (M2 512 n).Reduces [1] S512) (x : FVec Ideal (M2 512 n) .f32) (r : Fin 512) (z : Fin 1) :
    rowSum n h x (ix2 r z) = ∑ u : Fin n, x (ix2 r u) := by
  pointwise [rowSum]

theorem ofBits_neg_inf : Ideal.ofBits FTy.f32 0xFF800000#32 = ⊥ := by simp [Ideal.ofBits, Ideal.ieee]

theorem rowMax_apply (n : ℕ) (h : (M2 512 n).Reduces [1] S512) (x : FVec Ideal (M2 512 n) .f32) (r : Fin 512) (z : Fin 1) :
    rowMax n h x (ix2 r z) = Finset.univ.fold max ⊥ fun u : Fin n => x (ix2 r u) := by
  rw [← ofBits_neg_inf]
  pointwise [rowMax]

theorem mask_eq : Named.named (F := Ideal) κ "mask" (φ := .f32) 0xF149F2CA#32 = (⊥ : EReal) :=
  IdealRules.named_const.ideal_named_scalar _ _ _ _ rfl

theorem slice_apply (n w o : ℕ) (hs : (M2 512 n).Slices ![0, o] (M2 512 w)) (S : FVec Ideal (M2 512 n) .f32) (r : Fin 512)
    (l : Fin w) (h : o + l.val < n) : extractStridedSlice (M2 512 w) ![0, o] S hs (ix2 r l) = S (ix2 r ⟨o + l.val, h⟩) := by
  refine extractStridedSlice_apply _ _ _ _ (ix2 r ⟨o + l.val, h⟩) fun a => ?_
  fin_cases a <;> simp [ix2]

theorem sle_iota (r l : Fin 512) : (IntOp.cmpi CmpIPredicate.sle (BitVec.ofNat 32 l.val) (BitVec.ofNat 32 r.val) = 1) ↔ l.val ≤ r.val := by
  have e : ∀ x : Fin 512, (BitVec.ofNat 32 x.val).toInt = x.val := fun x => by
    rw [BitVec.toInt_eq_toNat_of_lt (by simp; omega)]; simp; omega
  have : IntOp.cmpi CmpIPredicate.sle (BitVec.ofNat 32 l.val) (BitVec.ofNat 32 r.val)
      = BitVec.ofBool ((BitVec.ofNat 32 l.val).sle (BitVec.ofNat 32 r.val)) := rfl
  rw [this, BitVec.sle_eq_decide, e, e]
  by_cases h : l.val ≤ r.val <;> simp [h]

theorem diag_apply (n np : ℕ) (hs : (M2 512 n).Slices ![0, np] S512x512) (S : FVec Ideal (M2 512 n) .f32) (r l : Fin 512)
    (h : np + l.val < n) : diag n np hs S (ix2 r l) = if np + l.val ≤ np + r.val then S (ix2 r ⟨np + l.val, h⟩) else ⊥ := by
  have e : diag n np hs S (ix2 r l) = Scalar.select (IntOp.cmpi CmpIPredicate.sle (BitVec.ofNat 32 l.val) (BitVec.ofNat 32 r.val))
      (extractStridedSlice S512x512 ![0, np] S hs (ix2 r l)) (Named.named (F := Ideal) κ "mask" (φ := .f32) 0xF149F2CA#32) := by
    pointwise [diag]
  rw [e, slice_apply n 512 np hs S r l h, mask_eq, Scalar.select]
  by_cases hl : l.val ≤ r.val
  · rw [if_pos ((sle_iota r l).mpr hl), if_pos (by omega)]
  · rw [if_neg (fun hh => hl ((sle_iota r l).mp hh)), if_neg (by omega)]

/-- The softmax of a row block's scores: the past and the diagonal square exponentiated apart, over their two maxima's maximum. -/
def PR (n np : ℕ) (hs : (M2 512 n).Slices ![0, np] S512x512) (hp : (M2 512 n).Slices ![0, 0] (M2 512 np))
    (hr : (M2 512 np).Reduces [1] S512) (hb : S512x1.Broadcasts (M2 512 np)) (hb' : S512x1.Broadcasts (M2 512 n))
    (hc : Shape.Concatenates [M2 512 np, S512x512] (M2 512 n) 1) (S : FVec Ideal (M2 512 n) .f32) : FVec Ideal (M2 512 n) .f32 :=
  let d := diag n np hs S
  let p := extractStridedSlice (M2 512 np) ![0, 0] S hp
  let mx := maximumf (rowMax 512 reduces_S512x512_S512 d) (rowMax np hr p)
  let ep := exp (subf p (broadcastTo (M2 512 np) mx hb))
  let ed := exp (subf d (broadcastTo S512x512 mx broadcasts_S512x1_S512x512))
  mulf (concatenate (M2 512 n) 1 [⟨M2 512 np, ep⟩, ⟨S512x512, ed⟩] hc)
    (broadcastTo (M2 512 n) (divf (broadcast S512x1 (Scalar.ofBits .f32 0x3F800000#32))
      (addf (rowSum np hr ep) (rowSum 512 reduces_S512x512_S512 ed))) hb')

/-- The first row block has no past. -/
def PR0 (S : FVec Ideal S512x512 .f32) : FVec Ideal S512x512 .f32 :=
  let d := select (cmpi .sle (iota .tc S512x512 32 [1] iota_S512x512_d1_w32) (iota .tc S512x512 32 [0] iota_S512x512_d0_w32))
    S (broadcast S512x512 (Named.named κ "mask" 0xF149F2CA#32))
  let mx := rowMax 512 reduces_S512x512_S512 d
  let ed := exp (subf d (broadcastTo S512x512 mx broadcasts_S512x1_S512x512))
  mulf ed (broadcastTo S512x512 (divf (broadcast S512x1 (Scalar.ofBits .f32 0x3F800000#32))
      (rowSum 512 reduces_S512x512_S512 ed)) broadcasts_S512x1_S512x512)

theorem expsub_apply (n : ℕ) (hb : S512x1.Broadcasts (M2 512 n)) (x : FVec Ideal (M2 512 n) .f32) (mx : FVec Ideal S512x1 .f32)
    (r : Fin 512) (l : Fin n) : exp (subf x (broadcastTo (M2 512 n) mx hb)) (ix2 r l) = Ideal.exp (x (ix2 r l) - mx (ix2 r 0)) := by
  pointwise []

theorem PR_law (n np : ℕ) (hs hp hr hb hb' hc) (hn : n = np + 512) (S : FVec Ideal (M2 512 n) .f32) (s : ℕ → ℕ → ℝ) (hS : Re S s) :
    Re (PR n np hs hp hr hb hb' hc S) (fun r u => P (s r) (np + r) u) := by
  intro r l
  set d := diag n np hs S with hd
  set p := extractStridedSlice (M2 512 np) ![0, 0] S hp with hpd
  set mx := maximumf (rowMax 512 reduces_S512x512_S512 d) (rowMax np hr p) with hmx
  have dv : ∀ u : Fin 512, d (ix2 r u) = if np + u.val ≤ np + r.val then ((s r (np + u.val) : ℝ) : EReal) else ⊥ := fun u => by
    rw [hd, diag_apply n np hs S r u (by omega), hS]
  have pv : ∀ u : Fin np, p (ix2 r u) = if u.val ≤ np + r.val then ((s r u.val : ℝ) : EReal) else ⊥ := fun u => by
    rw [hpd, slice_apply n np 0 hp S r u (by omega), hS, if_pos (by omega)]; simp
  obtain ⟨μ, hμ⟩ : ∃ μ : ℝ, mx (ix2 r 0) = (μ : EReal) := by
    obtain ⟨a, ha⟩ := fold_real (fun u : Fin 512 => d (ix2 r u)) (fun u => by
      rw [dv]; split_ifs <;> simp) (0 : Fin 512) (by rw [dv]; simp)
    refine real_of ?_ ?_
    · have : mx (ix2 r 0) = max (rowMax 512 reduces_S512x512_S512 d (ix2 r 0)) (rowMax np hr p (ix2 r 0)) := rfl
      rw [this, rowMax_apply, ha]
      exact lt_max_of_lt_left (EReal.bot_lt_coe a)
    · have : mx (ix2 r 0) = max (rowMax 512 reduces_S512x512_S512 d (ix2 r 0)) (rowMax np hr p (ix2 r 0)) := rfl
      rw [this, rowMax_apply, ha, rowMax_apply]
      refine max_lt (EReal.coe_lt_top a) (fold_lt_top _ fun u => ?_)
      rw [pv]; split_ifs <;> simp
  set ep := exp (subf p (broadcastTo (M2 512 np) mx hb)) with hep
  set ed := exp (subf d (broadcastTo S512x512 mx broadcasts_S512x1_S512x512)) with hed
  have epv : ∀ u : Fin np, ep (ix2 r u) = ((E (s r) μ (np + r.val) u.val : ℝ) : EReal) := fun u => by
    rw [hep, expsub_apply, hμ, exp_masked (s r) μ (np + r.val) u.val _ (pv u)]
  have edv : ∀ u : Fin 512, ed (ix2 r u) = ((E (s r) μ (np + r.val) (np + u.val) : ℝ) : EReal) := fun u => by
    rw [hed, expsub_apply, hμ, exp_masked (s r) μ (np + r.val) (np + u.val) _ (dv u)]
  have e : PR n np hs hp hr hb hb' hc S (ix2 r l) = (if h : l.val < np then ep (ix2 r ⟨l.val, h⟩) else ed (ix2 r ⟨l.val - np, by omega⟩))
      * Ideal.div 1 (rowSum np hr ep (ix2 r 0) + rowSum 512 reduces_S512x512_S512 ed (ix2 r 0)) := by
    show mulf (concatenate (M2 512 n) 1 [⟨M2 512 np, ep⟩, ⟨S512x512, ed⟩] hc)
      (broadcastTo (M2 512 n) (divf (broadcast S512x1 (Scalar.ofBits .f32 0x3F800000#32))
      (addf (rowSum np hr ep) (rowSum 512 reduces_S512x512_S512 ed))) hb') (ix2 r l) = _
    clear_value ep ed
    pointwise []
    refine congrArg (· * _) ?_
    split_ifs with h
    · exact congrArg ep (by funext b; fin_cases b <;> rfl)
    all_goals rfl
  have ev : (if h : l.val < np then ep (ix2 r ⟨l.val, h⟩) else ed (ix2 r ⟨l.val - np, by omega⟩)) = ((E (s r) μ (np + r.val) l.val : ℝ) : EReal) := by
    split_ifs with h
    · exact epv _
    · rw [edv]; simp only; rw [show np + (l.val - np) = l.val by omega]
  rw [e, ev, rowSum_apply, rowSum_apply, fin_sum _ _ epv, fin_sum _ (fun u => E (s r) μ (np + r.val) (np + u)) edv, ← EReal.coe_add,
    ← Finset.sum_range_add (fun u => E (s r) μ (np + r.val) u) np 512, ← hn,
    Ideal.div_coe (E_sum_pos _ _ _ _ (by omega)).ne', one_mul, ← EReal.coe_mul, E_div _ _ _ _ _ (by omega)]

theorem PR0_law (S : FVec Ideal S512x512 .f32) (s : ℕ → ℕ → ℝ) (hS : Re (a := 512) (b := 512) S s) :
    Re (a := 512) (b := 512) (PR0 S) (fun r u => P (s r) (0 + r) u) := by
  intro r l
  set d := select (cmpi .sle (iota .tc S512x512 32 [1] iota_S512x512_d1_w32) (iota .tc S512x512 32 [0] iota_S512x512_d0_w32))
    S (broadcast S512x512 (Named.named (F := Ideal) κ "mask" (φ := .f32) 0xF149F2CA#32)) with hd
  set mx := rowMax 512 reduces_S512x512_S512 d with hmx
  have dv : ∀ u : Fin 512, d (ix2 r u) = if u.val ≤ 0 + r.val then ((s r u.val : ℝ) : EReal) else ⊥ := fun u => by
    have e : d (ix2 r u) = Scalar.select (IntOp.cmpi CmpIPredicate.sle (BitVec.ofNat 32 u.val) (BitVec.ofNat 32 r.val))
      (S (ix2 r u)) (Named.named (F := Ideal) κ "mask" (φ := .f32) 0xF149F2CA#32) := by
      rw [hd]; pointwise []
    rw [e, mask_eq, Scalar.select, hS]
    by_cases hl : u.val ≤ r.val
    · rw [if_pos ((sle_iota r u).mpr hl), if_pos (by omega)]
    · rw [if_neg (fun hh => hl ((sle_iota r u).mp hh)), if_neg (by omega)]
  obtain ⟨μ, hμ⟩ : ∃ μ : ℝ, mx (ix2 r 0) = (μ : EReal) := by
    rw [hmx, rowMax_apply]
    exact fold_real (fun u : Fin 512 => d (ix2 r u)) (fun u => by
      rw [dv]; split_ifs <;> simp) (0 : Fin 512) (by rw [dv]; simp)
  set ed := exp (subf d (broadcastTo S512x512 mx broadcasts_S512x1_S512x512)) with hed
  have edv : ∀ u : Fin 512, ed (ix2 r u) = ((E (s r) μ (0 + r.val) u.val : ℝ) : EReal) := fun u => by
    rw [hed]
    refine (expsub_apply 512 _ d mx r u).trans ?_
    rw [hμ, exp_masked (s r) μ (0 + r.val) u.val _ (dv u)]
  have e : PR0 S (ix2 r l) = ed (ix2 r l) * Ideal.div 1 (rowSum 512 reduces_S512x512_S512 ed (ix2 r 0)) := by
    show mulf ed (broadcastTo S512x512 (divf (broadcast S512x1 (Scalar.ofBits .f32 0x3F800000#32))
      (rowSum 512 reduces_S512x512_S512 ed)) broadcasts_S512x1_S512x512) (ix2 r l) = _
    clear_value ed
    pointwise []
  rw [e, edv, rowSum_apply, fin_sum _ _ edv,
    Ideal.div_coe (E_sum_pos _ _ _ _ (by omega)).ne', one_mul, ← EReal.coe_mul, E_div _ _ _ _ _ (by omega)]

/-- The gradient of the softmax, from the probabilities and their cotangents. -/
def DSf (n : ℕ) (hr : (M2 512 n).Reduces [1] S512) (hb : S512x1.Broadcasts (M2 512 n)) (pr dp : FVec Ideal (M2 512 n) .f32) : FVec Ideal (M2 512 n) .f32 :=
  mulf pr (subf dp (broadcastTo (M2 512 n) (rowSum n hr (mulf pr dp)) hb))

theorem DSf_law (n np : ℕ) (hr hb) (hn : n = np + 512) (pr dp : FVec Ideal (M2 512 n) .f32) (s g : ℕ → ℕ → ℝ)
    (hp : Re pr fun r u => P (s r) (np + r) u) (hg : Re dp g) : Re (DSf n hr hb pr dp) fun r u => DS (s r) (g r) (np + r) u := by
  intro r l
  have e : DSf n hr hb pr dp (ix2 r l) = pr (ix2 r l) * (dp (ix2 r l) - rowSum n hr (mulf pr dp) (ix2 r 0)) := by
    unfold DSf
    generalize mulf pr dp = x
    pointwise []
  have e2 : ∀ u : Fin n, mulf pr dp (ix2 r u) = ((P (s r) (np + r.val) u.val * g r u.val : ℝ) : EReal) := fun u => by
    rw [EReal.coe_mul, ← hp, ← hg]; rfl
  rw [e, rowSum_apply, fin_sum _ (fun u => P (s r) (np + r.val) u * g r u) e2, hp, hg, ← EReal.coe_sub, ← EReal.coe_mul]
  simp only [DS]
  rw [sum_causal (np + r.val) n (by omega) _ (fun u hu => by rw [P_of_lt _ _ _ hu, zero_mul])]

/-! ## One side: the operations at one number of keys -/

/-- A head's lanes of a pair of heads' columns, the other head's set to zero: the lanes `l` with `l p 64`. -/
def hm (p : CmpIPredicate) (a : ℕ) (hi : (M2 a 128).Iotas .tc 32 [1]) (x : FVec Ideal (M2 a 128) .bf16) : FVec Ideal (M2 a 128) .bf16 :=
  truncf .bf16 (select (cmpi p (iota .tc (M2 a 128) 32 [1] hi) (broadcast (M2 a 128) 64#32))
    (extf .f32 x bitsLt_bf16_f32) (broadcast (M2 a 128) (Scalar.ofBits .f32 0x00000000#32))) bitsLt_bf16_f32

/-- `x` on the lanes `l` with `l p 64`, zero on the others. -/
def keep (p : CmpIPredicate) (l : ℕ) (x : ℝ) : ℝ := if IntOp.cmpi p (BitVec.ofNat 32 l) 64#32 = 1 then x else 0

theorem keep_slt (l : ℕ) (h : l < 128) (x : ℝ) : keep .slt l x = if l < 64 then x else 0 := by
  have : (IntOp.cmpi CmpIPredicate.slt (BitVec.ofNat 32 l) 64#32 = 1) ↔ l < 64 := by
    revert h; revert l; decide
  simp only [keep, this]

theorem keep_sge (l : ℕ) (h : l < 128) (x : ℝ) : keep .sge l x = if l < 64 then 0 else x := by
  have : (IntOp.cmpi CmpIPredicate.sge (BitVec.ofNat 32 l) 64#32 = 1) ↔ ¬ l < 64 := by
    revert h; revert l; decide
  simp only [keep, this]; split_ifs <;> simp_all

theorem hm_law (p : CmpIPredicate) (a : ℕ) (hi) (x : FVec Ideal (M2 a 128) .bf16) (X : ℕ → ℕ → ℝ) (hx : Re x X) :
    Re (hm p a hi x) fun r l => keep p l (X r l) := by
  intro r l
  have e : hm p a hi x (ix2 r l) = Scalar.select (IntOp.cmpi p (BitVec.ofNat 32 l.val) 64#32) (x (ix2 r l)) 0 := by
    pointwise [hm]
  rw [e, Scalar.select, hx]
  simp only [keep]
  split_ifs <;> simp

structure Side (n np : ℕ) where
  pr : FVec Ideal (M2 512 n) .f32 → FVec Ideal (M2 512 n) .f32
  nt : FVec Ideal S512x128 .bf16 → FVec Ideal (M2 n 128) .bf16 → FVec Ideal (M2 512 n) .f32
  nn : FVec Ideal (M2 512 n) .bf16 → FVec Ideal (M2 n 128) .bf16 → FVec Ideal S512x128 .f32
  tn : FVec Ideal (M2 512 n) .bf16 → FVec Ideal S512x128 .bf16 → FVec Ideal (M2 n 128) .f32
  cb : FVec Ideal ⟨3, ![1, 1, n]⟩ .f32 → FVec Ideal (M2 512 n) .f32
  cs : FVec Ideal ⟨3, ![1, 1, n]⟩ .f32 → FVec Ideal (M2 512 n) .f32 → FVec Ideal ⟨3, ![1, 1, n]⟩ .f32
  hr : (M2 512 n).Reduces [1] S512
  hb : S512x1.Broadcasts (M2 512 n)
  hn : n = np + 512
  pr_law : ∀ S s, Re S s → Re (pr S) fun r u => P (s r) (np + r) u
  nt_law : ∀ a b r u, nt a b (ix2 r u) = ∑ x : Fin 128, a (ix2 r x) * b (ix2 u x)
  nn_law : ∀ a b r l, nn a b (ix2 r l) = ∑ u : Fin n, a (ix2 r u) * b (ix2 u l)
  tn_law : ∀ a b u l, tn a b (ix2 u l) = ∑ r : Fin 512, a (ix2 r u) * b (ix2 r l)
  cb_law : ∀ ck r u, cb ck (ix2 r u) = ck (ix3 0 0 u)
  cs_law : ∀ c x u, cs c x (ix3 0 0 u) = c (ix3 0 0 u) + ∑ r : Fin 512, x (ix2 r u)

def side4 : Side 2048 1536 where
  pr := PR 2048 1536 slices_S512x2048_o0_1536_S512x512 slices_S512x2048_o0_0_S512x1536 reduces_S512x1536_S512
    broadcasts_S512x1_S512x1536 broadcasts_S512x1_S512x2048 concatenates_S512x1536_S512x512_S512x2048_d1
  nt a b := matmul dot_S512x128_S2048x128_S512x2048_1_1_0_0_n_n none a b (constant S512x2048 .f32 0x00000000#32)
  nn a b := matmul dot_S512x2048_S2048x128_S512x128_1_0_0_1_n_n none a b (constant S512x128 .f32 0x00000000#32)
  tn a b := matmul dot_S512x2048_S512x128_S2048x128_0_0_1_1_n_n none a b (constant S2048x128 .f32 0x00000000#32)
  cb ck := broadcastTo S512x2048 (shapeCast S1x2048 ck shapeCasts_S1x1x2048_S1x2048) broadcasts_S1x2048_S512x2048
  cs c x := shapeCast S1x1x2048 (addf (shapeCast S1x2048 c shapeCasts_S1x1x2048_S1x2048)
    (shapeCast S1x2048 (multiReduction .add [0] S2048 x 0x00000000#32 reduces_S512x2048_S2048 (.inl rfl) rfl) shapeCasts_S2048_S1x2048))
    shapeCasts_S1x2048_S1x1x2048
  hr := reduces_S512x2048_S512
  hb := broadcasts_S512x1_S512x2048
  hn := rfl
  pr_law S s := PR_law 2048 1536 _ _ _ _ _ _ rfl S s
  nt_law a b r u := by pointwise []
  nn_law a b r l := by pointwise []
  tn_law a b u l := by pointwise []
  cb_law ck r u := by pointwise []
  cs_law c x u := by pointwise []

def side3 : Side 1536 1024 where
  pr := PR 1536 1024 slices_S512x1536_o0_1024_S512x512 slices_S512x1536_o0_0_S512x1024 reduces_S512x1024_S512
    broadcasts_S512x1_S512x1024 broadcasts_S512x1_S512x1536 concatenates_S512x1024_S512x512_S512x1536_d1
  nt a b := matmul dot_S512x128_S1536x128_S512x1536_1_1_0_0_n_n none a b (constant S512x1536 .f32 0x00000000#32)
  nn a b := matmul dot_S512x1536_S1536x128_S512x128_1_0_0_1_n_n none a b (constant S512x128 .f32 0x00000000#32)
  tn a b := matmul dot_S512x1536_S512x128_S1536x128_0_0_1_1_n_n none a b (constant S1536x128 .f32 0x00000000#32)
  cb ck := broadcastTo S512x1536 (shapeCast S1x1536 ck shapeCasts_S1x1x1536_S1x1536) broadcasts_S1x1536_S512x1536
  cs c x := shapeCast S1x1x1536 (addf (shapeCast S1x1536 c shapeCasts_S1x1x1536_S1x1536)
    (shapeCast S1x1536 (multiReduction .add [0] S1536 x 0x00000000#32 reduces_S512x1536_S1536 (.inl rfl) rfl) shapeCasts_S1536_S1x1536))
    shapeCasts_S1x1536_S1x1x1536
  hr := reduces_S512x1536_S512
  hb := broadcasts_S512x1_S512x1536
  hn := rfl
  pr_law S s := PR_law 1536 1024 _ _ _ _ _ _ rfl S s
  nt_law a b r u := by pointwise []
  nn_law a b r l := by pointwise []
  tn_law a b u l := by pointwise []
  cb_law ck r u := by pointwise []
  cs_law c x u := by pointwise []

def side2 : Side 1024 512 where
  pr := PR 1024 512 slices_S512x1024_o0_512_S512x512 slices_S512x1024_o0_0_S512x512 reduces_S512x512_S512
    broadcasts_S512x1_S512x512 broadcasts_S512x1_S512x1024 concatenates_S512x512_S512x512_S512x1024_d1
  nt a b := matmul dot_S512x128_S1024x128_S512x1024_1_1_0_0_n_n none a b (constant S512x1024 .f32 0x00000000#32)
  nn a b := matmul dot_S512x1024_S1024x128_S512x128_1_0_0_1_n_n none a b (constant S512x128 .f32 0x00000000#32)
  tn a b := matmul dot_S512x1024_S512x128_S1024x128_0_0_1_1_n_n none a b (constant S1024x128 .f32 0x00000000#32)
  cb ck := broadcastTo S512x1024 (shapeCast S1x1024 ck shapeCasts_S1x1x1024_S1x1024) broadcasts_S1x1024_S512x1024
  cs c x := shapeCast S1x1x1024 (addf (shapeCast S1x1024 c shapeCasts_S1x1x1024_S1x1024)
    (shapeCast S1x1024 (multiReduction .add [0] S1024 x 0x00000000#32 reduces_S512x1024_S1024 (.inl rfl) rfl) shapeCasts_S1024_S1x1024))
    shapeCasts_S1x1024_S1x1x1024
  hr := reduces_S512x1024_S512
  hb := broadcasts_S512x1_S512x1024
  hn := rfl
  pr_law S s := PR_law 1024 512 _ _ _ _ _ _ rfl S s
  nt_law a b r u := by pointwise []
  nn_law a b r l := by pointwise []
  tn_law a b u l := by pointwise []
  cb_law ck r u := by pointwise []
  cs_law c x u := by pointwise []

def side1 : Side 512 0 where
  pr := PR0
  nt a b := matmul dot_S512x128_S512x128_S512x512_1_1_0_0_n_n none a b (constant S512x512 .f32 0x00000000#32)
  nn a b := matmul dot_S512x512_S512x128_S512x128_1_0_0_1_n_n none a b (constant S512x128 .f32 0x00000000#32)
  tn a b := matmul dot_S512x512_S512x128_S512x128_0_0_1_1_n_n none a b (constant S512x128 .f32 0x00000000#32)
  cb ck := broadcastTo S512x512 (shapeCast S1x512 ck shapeCasts_S1x1x512_S1x512) broadcasts_S1x512_S512x512
  cs c x := shapeCast S1x1x512 (addf (shapeCast S1x512 c shapeCasts_S1x1x512_S1x512)
    (shapeCast S1x512 (multiReduction .add [0] S512 x 0x00000000#32 reduces_S512x512_S512_2 (.inl rfl) rfl) shapeCasts_S512_S1x512))
    shapeCasts_S1x512_S1x1x512
  hr := reduces_S512x512_S512
  hb := broadcasts_S512x1_S512x512
  hn := rfl
  pr_law S s := PR0_law S s
  nt_law a b r u := by pointwise []
  nn_law a b r l := by pointwise []
  tn_law a b u l := by pointwise []
  cb_law ck r u := by pointwise []
  cs_law c x u := by pointwise []

/-! ## One row block -/

section
variable {n np : ℕ} (sd : Side n np) (p : CmpIPredicate) (q d : FVec Ideal S512x128 .bf16) (k v m0 m1 : FVec Ideal (M2 n 128) .bf16)
  (c c0 c1 : FVec Ideal ⟨3, ![1, 1, n]⟩ .f32)

def PRb : FVec Ideal (M2 512 n) .f32 := sd.pr (subf (sd.nt (hm p 512 iota_S512x128_d1_w32 q) k) (sd.cb c))
def DSb : FVec Ideal (M2 512 n) .f32 := DSf n sd.hr sd.hb (PRb sd p q k c) (sd.nt (hm p 512 iota_S512x128_d1_w32 d) v)

def DQp : FVec Ideal S512x128 .bf16 :=
  truncf .bf16 (mulf (addf (addf (broadcast S512x128 (Scalar.ofBits .f32 0x00000000#32))
    (sd.nn (truncf .bf16 (DSb sd .slt q d k v c0) bitsLt_bf16_f32) m0))
    (sd.nn (truncf .bf16 (DSb sd .sge q d k v c1) bitsLt_bf16_f32) m1)) (broadcast S512x128 (Scalar.ofBits .f32 0x3E000000#32))) bitsLt_bf16_f32

def DKp : FVec Ideal (M2 n 128) .f32 :=
  addf (addf (broadcast (M2 n 128) (Scalar.ofBits .f32 0x00000000#32))
    (sd.tn (truncf .bf16 (DSb sd .slt q d k v c0) bitsLt_bf16_f32) (hm .slt 512 iota_S512x128_d1_w32 q)))
    (sd.tn (truncf .bf16 (DSb sd .sge q d k v c1) bitsLt_bf16_f32) (hm .sge 512 iota_S512x128_d1_w32 q))

def DVp : FVec Ideal (M2 n 128) .f32 :=
  addf (addf (broadcast (M2 n 128) (Scalar.ofBits .f32 0x00000000#32))
    (sd.tn (truncf .bf16 (PRb sd .slt q k c0) bitsLt_bf16_f32) (hm .slt 512 iota_S512x128_d1_w32 d)))
    (sd.tn (truncf .bf16 (PRb sd .sge q k c1) bitsLt_bf16_f32) (hm .sge 512 iota_S512x128_d1_w32 d))

/-- The scores of a row against all keys, and the cotangents of its probabilities. -/
def scr (p : CmpIPredicate) (Q K : ℕ → ℕ → ℝ) (C : ℕ → ℝ) (r u : ℕ) : ℝ := ∑ x ∈ Finset.range 128, keep p x (Q r x) * K u x - C u
def dpr (p : CmpIPredicate) (D V : ℕ → ℕ → ℝ) (r u : ℕ) : ℝ := ∑ x ∈ Finset.range 128, keep p x (D r x) * V u x

variable {q d k v m0 m1 c c0 c1} {Q D K V : ℕ → ℕ → ℝ} {C C0 C1 : ℕ → ℝ}

theorem nt_re (hq : Re q Q) (hk : Re k K) :
    Re (sd.nt (hm p 512 iota_S512x128_d1_w32 q) k) fun r u => ∑ x ∈ Finset.range 128, keep p x (Q r x) * K u x := by
  intro r u
  rw [sd.nt_law, fin_sum _ (fun x => keep p x (Q r x) * K u x)]
  intro x
  rw [hm_law p 512 _ q Q hq, hk, EReal.coe_mul]

theorem PRb_law (hq : Re q Q) (hk : Re k K) (hc : ∀ u : Fin n, c (ix3 0 0 u) = ((C u.val : ℝ) : EReal)) :
    Re (PRb sd p q k c) fun r u => P (scr p Q K C r) (np + r) u := by
  refine sd.pr_law _ _ fun r u => ?_
  have : subf (sd.nt (hm p 512 iota_S512x128_d1_w32 q) k) (sd.cb c) (ix2 r u)
      = sd.nt (hm p 512 iota_S512x128_d1_w32 q) k (ix2 r u) - sd.cb c (ix2 r u) := rfl
  rw [this, nt_re sd p hq hk, sd.cb_law, hc, scr, EReal.coe_sub]

theorem DSb_law (hq : Re q Q) (hd : Re d D) (hk : Re k K) (hv : Re v V) (hc : ∀ u : Fin n, c (ix3 0 0 u) = ((C u.val : ℝ) : EReal)) :
    Re (DSb sd p q d k v c) fun r u => DS (scr p Q K C r) (dpr p D V r) (np + r) u :=
  DSf_law n np sd.hr sd.hb sd.hn _ _ _ _ (PRb_law sd p hq hk hc) (nt_re sd p hd hv)

theorem tn_re {x : FVec Ideal (M2 512 n) .f32} {y : FVec Ideal S512x128 .bf16} {X Y : ℕ → ℕ → ℝ} (hx : Re x X) (hy : Re y Y) (u : Fin n) (l : Fin 128) :
    sd.tn (truncf .bf16 x bitsLt_bf16_f32) y (ix2 u l) = ((∑ r ∈ Finset.range 512, X r u * Y r l : ℝ) : EReal) := by
  rw [sd.tn_law, fin_sum _ (fun r => X r u * Y r l)]
  intro r
  have : truncf .bf16 x bitsLt_bf16_f32 (ix2 r u) = x (ix2 r u) := rfl
  rw [this, hx, hy, EReal.coe_mul]

theorem nn_re {x : FVec Ideal (M2 512 n) .f32} {y : FVec Ideal (M2 n 128) .bf16} {X Y : ℕ → ℕ → ℝ} (hx : Re x X) (hy : Re y Y) (r : Fin 512) (l : Fin 128) :
    sd.nn (truncf .bf16 x bitsLt_bf16_f32) y (ix2 r l) = ((∑ u ∈ Finset.range n, X r u * Y u l : ℝ) : EReal) := by
  rw [sd.nn_law, fin_sum _ (fun u => X r u * Y u l)]
  intro u
  have : truncf .bf16 x bitsLt_bf16_f32 (ix2 r u) = x (ix2 r u) := rfl
  rw [this, hx, hy, EReal.coe_mul]

theorem ofBits_eighth : Ideal.ofBits .f32 0x3E000000#32 = ((1 / 8 : ℝ) : EReal) := by
  simp [Ideal.ofBits, Ideal.ieee, -EReal.coe_mul]; norm_num

theorem DQp_law (hq : Re q Q) (hd : Re d D) (hk : Re k K) (hv : Re v V)
    (hc0 : ∀ u : Fin n, c0 (ix3 0 0 u) = ((C0 u.val : ℝ) : EReal)) (hc1 : ∀ u : Fin n, c1 (ix3 0 0 u) = ((C1 u.val : ℝ) : EReal))
    (hm0 : Re m0 fun u l => keep .slt l (K u l)) (hm1 : Re m1 fun u l => keep .sge l (K u l)) :
    Re (DQp sd q d k v m0 m1 c0 c1) fun r l =>
      (∑ u ∈ Finset.range n, DS (scr .slt Q K C0 r) (dpr .slt D V r) (np + r) u * keep .slt l (K u l)
        + ∑ u ∈ Finset.range n, DS (scr .sge Q K C1 r) (dpr .sge D V r) (np + r) u * keep .sge l (K u l)) * (1 / 8) := by
  intro r l
  have e : DQp sd q d k v m0 m1 c0 c1 (ix2 r l) = (Ideal.ofBits .f32 0x00000000#32
      + sd.nn (truncf .bf16 (DSb sd .slt q d k v c0) bitsLt_bf16_f32) m0 (ix2 r l)
      + sd.nn (truncf .bf16 (DSb sd .sge q d k v c1) bitsLt_bf16_f32) m1 (ix2 r l)) * Ideal.ofBits .f32 0x3E000000#32 := rfl
  rw [e, ofBits_eighth, Ideal.ofBits_zero_f32, zero_add, nn_re sd (DSb_law sd .slt hq hd hk hv hc0) hm0,
    nn_re sd (DSb_law sd .sge hq hd hk hv hc1) hm1, ← EReal.coe_add, ← EReal.coe_mul]

theorem DKp_law (hq : Re q Q) (hd : Re d D) (hk : Re k K) (hv : Re v V)
    (hc0 : ∀ u : Fin n, c0 (ix3 0 0 u) = ((C0 u.val : ℝ) : EReal)) (hc1 : ∀ u : Fin n, c1 (ix3 0 0 u) = ((C1 u.val : ℝ) : EReal)) :
    Re (DKp sd q d k v c0 c1) fun u l =>
      ∑ r ∈ Finset.range 512, DS (scr .slt Q K C0 r) (dpr .slt D V r) (np + r) u * keep .slt l (Q r l)
        + ∑ r ∈ Finset.range 512, DS (scr .sge Q K C1 r) (dpr .sge D V r) (np + r) u * keep .sge l (Q r l) := by
  intro u l
  have e : DKp sd q d k v c0 c1 (ix2 u l) = Ideal.ofBits .f32 0x00000000#32
      + sd.tn (truncf .bf16 (DSb sd .slt q d k v c0) bitsLt_bf16_f32) (hm .slt 512 iota_S512x128_d1_w32 q) (ix2 u l)
      + sd.tn (truncf .bf16 (DSb sd .sge q d k v c1) bitsLt_bf16_f32) (hm .sge 512 iota_S512x128_d1_w32 q) (ix2 u l) := rfl
  rw [e, Ideal.ofBits_zero_f32, zero_add, tn_re sd (DSb_law sd .slt hq hd hk hv hc0) (hm_law _ _ _ _ _ hq),
    tn_re sd (DSb_law sd .sge hq hd hk hv hc1) (hm_law _ _ _ _ _ hq), ← EReal.coe_add]

theorem DVp_law (hq : Re q Q) (hd : Re d D) (hk : Re k K)
    (hc0 : ∀ u : Fin n, c0 (ix3 0 0 u) = ((C0 u.val : ℝ) : EReal)) (hc1 : ∀ u : Fin n, c1 (ix3 0 0 u) = ((C1 u.val : ℝ) : EReal)) :
    Re (DVp sd q d k c0 c1) fun u l =>
      ∑ r ∈ Finset.range 512, P (scr .slt Q K C0 r) (np + r) u * keep .slt l (D r l)
        + ∑ r ∈ Finset.range 512, P (scr .sge Q K C1 r) (np + r) u * keep .sge l (D r l) := by
  intro u l
  have e : DVp sd q d k c0 c1 (ix2 u l) = Ideal.ofBits .f32 0x00000000#32
      + sd.tn (truncf .bf16 (PRb sd .slt q k c0) bitsLt_bf16_f32) (hm .slt 512 iota_S512x128_d1_w32 d) (ix2 u l)
      + sd.tn (truncf .bf16 (PRb sd .sge q k c1) bitsLt_bf16_f32) (hm .sge 512 iota_S512x128_d1_w32 d) (ix2 u l) := rfl
  rw [e, Ideal.ofBits_zero_f32, zero_add, tn_re sd (PRb_law sd .slt hq hk hc0) (hm_law _ _ _ _ _ hd),
    tn_re sd (PRb_law sd .sge hq hk hc1) (hm_law _ _ _ _ _ hd), ← EReal.coe_add]

/-- The column sums of a row block, added to what is there. -/
theorem cs_re {x : FVec Ideal (M2 512 n) .f32} {X : ℕ → ℕ → ℝ} (hx : Re x X) (u : Fin n) (hc : c (ix3 0 0 u) = ((C u.val : ℝ) : EReal)) :
    sd.cs c x (ix3 0 0 u) = ((C u.val + ∑ r ∈ Finset.range 512, X r u : ℝ) : EReal) := by
  rw [sd.cs_law, hc, fin_sum _ (fun r => X r u) (fun r => hx r u), EReal.coe_add]

end

end Cert.KernelIdeal.Sec
end
-- ==== Proof.Out.lean ====
/-
  What the forgetting attention's backward kernel leaves in its four output blocks at a point of its grid, as the stores of its
  four row blocks over the blocks it reads.
-/
module

public import proofs.«01_k».proof.Proof.Sec

@[expose] public section
set_option maxRecDepth 16384
noncomputable section
namespace Cert.KernelIdeal.Out
open Cert.KernelIdeal Cert.KernelIdeal.Gen Idealize.ShloMosaic Idealize.ShloMosaic.TcCoe Idealize.SL.Sem
open Cert.KernelIdeal.Sec

/-- Two vectors joined, with their shapes apart from their entries. -/
def cat2 {α : Type} (t : Shape) (a : Fin t.rank) {s1 s2 : Shape} (x : s1.Idx → α) (y : s2.Idx → α) (h : Shape.Concatenates [s1, s2] t a) : t.Idx → α :=
  concatenate t a [⟨s1, x⟩, ⟨s2, y⟩] h

theorem concatenate_eq_cat2 {α : Type} (t : Shape) (a : Fin t.rank) {s1 s2 : Shape} (x : s1.Idx → α) (y : s2.Idx → α) (h) :
    concatenate t a [⟨s1, x⟩, ⟨s2, y⟩] h = cat2 t a x y h := rfl

section
variable (X0 X1 X2 X3 : FVec Ideal S2048x128 .bf16) (X4 : FVec Ideal S1x2x2048 .f32)

abbrev PB := View.Piece (Elt Ideal) S2048x128 .bf16
abbrev PF := View.Piece (Elt Ideal) S2048x128 .f32
abbrev PC := View.Piece (Elt Ideal) S1x8x2048 .f32
abbrev PS := View.Piece (Elt Ideal) S2x2048x128 .bf16

def pc0 : PS := ⟨Rect.unit ![0, 0, 0] ![1, 2048, 128] inb_S2x2048x128_S1x2048x128_0_0_0, shapeCast S1x2048x128 (hm .slt 2048 iota_S2048x128_d1_w32 X1) shapeCasts_S2048x128_S1x2048x128⟩
def pc1 : PS := ⟨Rect.unit ![1, 0, 0] ![1, 2048, 128] inb_S2x2048x128_S1x2048x128_1_0_0, shapeCast S1x2048x128 (hm .sge 2048 iota_S2048x128_d1_w32 X1) shapeCasts_S2048x128_S1x2048x128⟩

def q1 : FVec Ideal S512x128 .bf16 := View.ld (Val := Elt Ideal) (e' := .bf16) X0 (Rect.unit (s := S2048x128) ![0, 0] ![512, 128] inb_S2048x128_S512x128_0_0)
def k1 : FVec Ideal S512x128 .bf16 := View.ld (Val := Elt Ideal) (e' := .bf16) X1 (Rect.unit (s := S2048x128) ![0, 0] ![512, 128] inb_S2048x128_S512x128_0_0)
def c10 : FVec Ideal S1x1x512 .f32 := View.ld (Val := Elt Ideal) (e' := .f32) X4 (Rect.unit (s := S1x2x2048) ![0, 0, 0] ![1, 1, 512] inb_S1x2x2048_S1x1x512_0_0_0)
def m10 : FVec Ideal S512x128 .bf16 := shapeCast S512x128 ((View.whole cc0_scratch0).readCov [pc0 X1] (Rect.unit (s := S2x2048x128) ![0, 0, 0] ![1, 512, 128] inb_S2x2048x128_S1x512x128_0_0_0).toLoadRect) shapeCasts_S1x512x128_S512x128
def c11 : FVec Ideal S1x1x512 .f32 := View.ld (Val := Elt Ideal) (e' := .f32) X4 (Rect.unit (s := S1x2x2048) ![0, 1, 0] ![1, 1, 512] inb_S1x2x2048_S1x1x512_0_1_0)
def m11 : FVec Ideal S512x128 .bf16 := shapeCast S512x128 ((View.whole cc0_scratch0).readCov [pc1 X1, pc0 X1] (Rect.unit (s := S2x2048x128) ![1, 0, 0] ![1, 512, 128] inb_S2x2048x128_S1x512x128_1_0_0).toLoadRect) shapeCasts_S1x512x128_S512x128
def q2 : FVec Ideal S512x128 .bf16 := View.ld (Val := Elt Ideal) (e' := .bf16) X0 (Rect.unit (s := S2048x128) ![512, 0] ![512, 128] inb_S2048x128_S512x128_512_0)
def k2 : FVec Ideal S1024x128 .bf16 := View.ld (Val := Elt Ideal) (e' := .bf16) X1 (Rect.unit (s := S2048x128) ![0, 0] ![1024, 128] inb_S2048x128_S1024x128_0_0)
def c20 : FVec Ideal S1x1x1024 .f32 := View.ld (Val := Elt Ideal) (e' := .f32) X4 (Rect.unit (s := S1x2x2048) ![0, 0, 0] ![1, 1, 1024] inb_S1x2x2048_S1x1x1024_0_0_0)
def m20 : FVec Ideal S1024x128 .bf16 := shapeCast S1024x128 ((View.whole cc0_scratch0).readCov [pc0 X1] (Rect.unit (s := S2x2048x128) ![0, 0, 0] ![1, 1024, 128] inb_S2x2048x128_S1x1024x128_0_0_0).toLoadRect) shapeCasts_S1x1024x128_S1024x128
def c21 : FVec Ideal S1x1x1024 .f32 := View.ld (Val := Elt Ideal) (e' := .f32) X4 (Rect.unit (s := S1x2x2048) ![0, 1, 0] ![1, 1, 1024] inb_S1x2x2048_S1x1x1024_0_1_0)
def m21 : FVec Ideal S1024x128 .bf16 := shapeCast S1024x128 ((View.whole cc0_scratch0).readCov [pc1 X1, pc0 X1] (Rect.unit (s := S2x2048x128) ![1, 0, 0] ![1, 1024, 128] inb_S2x2048x128_S1x1024x128_1_0_0).toLoadRect) shapeCasts_S1x1024x128_S1024x128
def q3 : FVec Ideal S512x128 .bf16 := View.ld (Val := Elt Ideal) (e' := .bf16) X0 (Rect.unit (s := S2048x128) ![1024, 0] ![512, 128] inb_S2048x128_S512x128_1024_0)
def k3 : FVec Ideal S1536x128 .bf16 := View.ld (Val := Elt Ideal) (e' := .bf16) X1 (Rect.unit (s := S2048x128) ![0, 0] ![1536, 128] inb_S2048x128_S1536x128_0_0)
def c30 : FVec Ideal S1x1x1536 .f32 := View.ld (Val := Elt Ideal) (e' := .f32) X4 (Rect.unit (s := S1x2x2048) ![0, 0, 0] ![1, 1, 1536] inb_S1x2x2048_S1x1x1536_0_0_0)
def m30 : FVec Ideal S1536x128 .bf16 := shapeCast S1536x128 ((View.whole cc0_scratch0).readCov [pc0 X1] (Rect.unit (s := S2x2048x128) ![0, 0, 0] ![1, 1536, 128] inb_S2x2048x128_S1x1536x128_0_0_0).toLoadRect) shapeCasts_S1x1536x128_S1536x128
def c31 : FVec Ideal S1x1x1536 .f32 := View.ld (Val := Elt Ideal) (e' := .f32) X4 (Rect.unit (s := S1x2x2048) ![0, 1, 0] ![1, 1, 1536] inb_S1x2x2048_S1x1x1536_0_1_0)
def m31 : FVec Ideal S1536x128 .bf16 := shapeCast S1536x128 ((View.whole cc0_scratch0).readCov [pc1 X1, pc0 X1] (Rect.unit (s := S2x2048x128) ![1, 0, 0] ![1, 1536, 128] inb_S2x2048x128_S1x1536x128_1_0_0).toLoadRect) shapeCasts_S1x1536x128_S1536x128
def q4 : FVec Ideal S512x128 .bf16 := View.ld (Val := Elt Ideal) (e' := .bf16) X0 (Rect.unit (s := S2048x128) ![1536, 0] ![512, 128] inb_S2048x128_S512x128_1536_0)
def k4 : FVec Ideal S2048x128 .bf16 := X1
def c40 : FVec Ideal S1x1x2048 .f32 := View.ld (Val := Elt Ideal) (e' := .f32) X4 (Rect.unit (s := S1x2x2048) ![0, 0, 0] ![1, 1, 2048] inb_S1x2x2048_S1x1x2048_0_0_0)
def m40 : FVec Ideal S2048x128 .bf16 := hm .slt 2048 iota_S2048x128_d1_w32 X1
def c41 : FVec Ideal S1x1x2048 .f32 := View.ld (Val := Elt Ideal) (e' := .f32) X4 (Rect.unit (s := S1x2x2048) ![0, 1, 0] ![1, 1, 2048] inb_S1x2x2048_S1x1x2048_0_1_0)
def m41 : FVec Ideal S2048x128 .bf16 := hm .sge 2048 iota_S2048x128_d1_w32 X1

def dq1 : FVec Ideal S512x128 .bf16 := DQp side1 (q1 X0) (q1 X3) (k1 X1) (k1 X2) (m10 X1) (m11 X1) (c10 X4) (c11 X4)
def dk1 : FVec Ideal S512x128 .f32 := DKp side1 (q1 X0) (q1 X3) (k1 X1) (k1 X2) (c10 X4) (c11 X4)
def dv1 : FVec Ideal S512x128 .f32 := DVp side1 (q1 X0) (q1 X3) (k1 X1) (c10 X4) (c11 X4)
def ds10 : FVec Ideal S512x512 .f32 := DSb side1 .slt (q1 X0) (q1 X3) (k1 X1) (k1 X2) (c10 X4)
def ds11 : FVec Ideal S512x512 .f32 := DSb side1 .sge (q1 X0) (q1 X3) (k1 X1) (k1 X2) (c11 X4)
def dq2 : FVec Ideal S512x128 .bf16 := DQp side2 (q2 X0) (q2 X3) (k2 X1) (k2 X2) (m20 X1) (m21 X1) (c20 X4) (c21 X4)
def dk2 : FVec Ideal S1024x128 .f32 := DKp side2 (q2 X0) (q2 X3) (k2 X1) (k2 X2) (c20 X4) (c21 X4)
def dv2 : FVec Ideal S1024x128 .f32 := DVp side2 (q2 X0) (q2 X3) (k2 X1) (c20 X4) (c21 X4)
def ds20 : FVec Ideal S512x1024 .f32 := DSb side2 .slt (q2 X0) (q2 X3) (k2 X1) (k2 X2) (c20 X4)
def ds21 : FVec Ideal S512x1024 .f32 := DSb side2 .sge (q2 X0) (q2 X3) (k2 X1) (k2 X2) (c21 X4)
def dq3 : FVec Ideal S512x128 .bf16 := DQp side3 (q3 X0) (q3 X3) (k3 X1) (k3 X2) (m30 X1) (m31 X1) (c30 X4) (c31 X4)
def dk3 : FVec Ideal S1536x128 .f32 := DKp side3 (q3 X0) (q3 X3) (k3 X1) (k3 X2) (c30 X4) (c31 X4)
def dv3 : FVec Ideal S1536x128 .f32 := DVp side3 (q3 X0) (q3 X3) (k3 X1) (c30 X4) (c31 X4)
def ds30 : FVec Ideal S512x1536 .f32 := DSb side3 .slt (q3 X0) (q3 X3) (k3 X1) (k3 X2) (c30 X4)
def ds31 : FVec Ideal S512x1536 .f32 := DSb side3 .sge (q3 X0) (q3 X3) (k3 X1) (k3 X2) (c31 X4)
def dq4 : FVec Ideal S512x128 .bf16 := DQp side4 (q4 X0) (q4 X3) (k4 X1) (k4 X2) (m40 X1) (m41 X1) (c40 X4) (c41 X4)
def dk4 : FVec Ideal S2048x128 .f32 := DKp side4 (q4 X0) (q4 X3) (k4 X1) (k4 X2) (c40 X4) (c41 X4)
def dv4 : FVec Ideal S2048x128 .f32 := DVp side4 (q4 X0) (q4 X3) (k4 X1) (c40 X4) (c41 X4)
def ds40 : FVec Ideal S512x2048 .f32 := DSb side4 .slt (q4 X0) (q4 X3) (k4 X1) (k4 X2) (c40 X4)
def ds41 : FVec Ideal S512x2048 .f32 := DSb side4 .sge (q4 X0) (q4 X3) (k4 X1) (k4 X2) (c41 X4)

def dqL : List PB := [⟨Rect.unit ![1536, 0] ![512, 128] inb_S2048x128_S512x128_1536_0, dq4 X0 X1 X2 X3 X4⟩, ⟨Rect.unit ![1024, 0] ![512, 128] inb_S2048x128_S512x128_1024_0, dq3 X0 X1 X2 X3 X4⟩, ⟨Rect.unit ![512, 0] ![512, 128] inb_S2048x128_S512x128_512_0, dq2 X0 X1 X2 X3 X4⟩, ⟨Rect.unit ![0, 0] ![512, 128] inb_S2048x128_S512x128_0_0, dq1 X0 X1 X2 X3 X4⟩]

def dkL0 : List PF := [⟨Rect.unit ![0, 0] ![2048, 128] inb_S2048x128_S2048x128_0_0, broadcast S2048x128 (Scalar.ofBits (F := Ideal) .f32 0x00000000#32)⟩]
def dkL1 (v : View sig .tc .vmem S2048x128 .f32) : List PF := ⟨Rect.unit ![0, 0] ![512, 128] inb_S2048x128_S512x128_0_0, addf (v.readCov (dkL0) (Rect.unit (s := S2048x128) ![0, 0] ![512, 128] inb_S2048x128_S512x128_0_0).toLoadRect) (dk1 X0 X1 X2 X3 X4)⟩ :: dkL0
def dkL2 (v : View sig .tc .vmem S2048x128 .f32) : List PF := ⟨Rect.unit ![0, 0] ![1024, 128] inb_S2048x128_S1024x128_0_0, addf (v.readCov (dkL1 X0 X1 X2 X3 X4 v) (Rect.unit (s := S2048x128) ![0, 0] ![1024, 128] inb_S2048x128_S1024x128_0_0).toLoadRect) (dk2 X0 X1 X2 X3 X4)⟩ :: dkL1 X0 X1 X2 X3 X4 v
def dkL3 (v : View sig .tc .vmem S2048x128 .f32) : List PF := ⟨Rect.unit ![0, 0] ![1536, 128] inb_S2048x128_S1536x128_0_0, addf (v.readCov (dkL2 X0 X1 X2 X3 X4 v) (Rect.unit (s := S2048x128) ![0, 0] ![1536, 128] inb_S2048x128_S1536x128_0_0).toLoadRect) (dk3 X0 X1 X2 X3 X4)⟩ :: dkL2 X0 X1 X2 X3 X4 v
def dkL4 (v : View sig .tc .vmem S2048x128 .f32) : List PF := ⟨Rect.unit ![0, 0] ![2048, 128] inb_S2048x128_S2048x128_0_0, addf (v.readCov (dkL3 X0 X1 X2 X3 X4 v) (Rect.unit (s := S2048x128) ![0, 0] ![2048, 128] inb_S2048x128_S2048x128_0_0).toLoadRect) (dk4 X0 X1 X2 X3 X4)⟩ :: dkL3 X0 X1 X2 X3 X4 v

def dvL0 : List PF := [⟨Rect.unit ![0, 0] ![2048, 128] inb_S2048x128_S2048x128_0_0, broadcast S2048x128 (Scalar.ofBits (F := Ideal) .f32 0x00000000#32)⟩]
def dvL1 (v : View sig .tc .vmem S2048x128 .f32) : List PF := ⟨Rect.unit ![0, 0] ![512, 128] inb_S2048x128_S512x128_0_0, addf (v.readCov (dvL0) (Rect.unit (s := S2048x128) ![0, 0] ![512, 128] inb_S2048x128_S512x128_0_0).toLoadRect) (dv1 X0 X1 X3 X4)⟩ :: dvL0
def dvL2 (v : View sig .tc .vmem S2048x128 .f32) : List PF := ⟨Rect.unit ![0, 0] ![1024, 128] inb_S2048x128_S1024x128_0_0, addf (v.readCov (dvL1 X0 X1 X3 X4 v) (Rect.unit (s := S2048x128) ![0, 0] ![1024, 128] inb_S2048x128_S1024x128_0_0).toLoadRect) (dv2 X0 X1 X3 X4)⟩ :: dvL1 X0 X1 X3 X4 v
def dvL3 (v : View sig .tc .vmem S2048x128 .f32) : List PF := ⟨Rect.unit ![0, 0] ![1536, 128] inb_S2048x128_S1536x128_0_0, addf (v.readCov (dvL2 X0 X1 X3 X4 v) (Rect.unit (s := S2048x128) ![0, 0] ![1536, 128] inb_S2048x128_S1536x128_0_0).toLoadRect) (dv3 X0 X1 X3 X4)⟩ :: dvL2 X0 X1 X3 X4 v
def dvL4 (v : View sig .tc .vmem S2048x128 .f32) : List PF := ⟨Rect.unit ![0, 0] ![2048, 128] inb_S2048x128_S2048x128_0_0, addf (v.readCov (dvL3 X0 X1 X3 X4 v) (Rect.unit (s := S2048x128) ![0, 0] ![2048, 128] inb_S2048x128_S2048x128_0_0).toLoadRect) (dv4 X0 X1 X3 X4)⟩ :: dvL3 X0 X1 X3 X4 v

def ckZ : PC := ⟨Rect.unit ![0, 0, 0] ![1, 8, 2048] inb_S1x8x2048_S1x8x2048_0_0_0, broadcast S1x8x2048 (Scalar.ofBits (F := Ideal) .f32 0x00000000#32)⟩
def ck10 (v : View sig .tc .vmem S1x8x2048 .f32) : PC := ⟨Rect.unit ![0, 0, 0] ![1, 1, 512] inb_S1x8x2048_S1x1x512_0_0_0, side1.cs (v.readCov [ckZ] (Rect.unit (s := S1x8x2048) ![0, 0, 0] ![1, 1, 512] inb_S1x8x2048_S1x1x512_0_0_0).toLoadRect) (ds10 X0 X1 X2 X3 X4)⟩
def ck11 (v : View sig .tc .vmem S1x8x2048 .f32) : PC := ⟨Rect.unit ![0, 1, 0] ![1, 1, 512] inb_S1x8x2048_S1x1x512_0_1_0, side1.cs (v.readCov [ckZ] (Rect.unit (s := S1x8x2048) ![0, 1, 0] ![1, 1, 512] inb_S1x8x2048_S1x1x512_0_1_0).toLoadRect) (ds11 X0 X1 X2 X3 X4)⟩
def ck20 (v : View sig .tc .vmem S1x8x2048 .f32) : PC := ⟨Rect.unit ![0, 0, 0] ![1, 1, 1024] inb_S1x8x2048_S1x1x1024_0_0_0, side2.cs (v.readCov [ck10 X0 X1 X2 X3 X4 v, ckZ] (Rect.unit (s := S1x8x2048) ![0, 0, 0] ![1, 1, 1024] inb_S1x8x2048_S1x1x1024_0_0_0).toLoadRect) (ds20 X0 X1 X2 X3 X4)⟩
def ck21 (v : View sig .tc .vmem S1x8x2048 .f32) : PC := ⟨Rect.unit ![0, 1, 0] ![1, 1, 1024] inb_S1x8x2048_S1x1x1024_0_1_0, side2.cs (v.readCov [ck11 X0 X1 X2 X3 X4 v, ck10 X0 X1 X2 X3 X4 v, ckZ] (Rect.unit (s := S1x8x2048) ![0, 1, 0] ![1, 1, 1024] inb_S1x8x2048_S1x1x1024_0_1_0).toLoadRect) (ds21 X0 X1 X2 X3 X4)⟩
def ck30 (v : View sig .tc .vmem S1x8x2048 .f32) : PC := ⟨Rect.unit ![0, 0, 0] ![1, 1, 1536] inb_S1x8x2048_S1x1x1536_0_0_0, side3.cs (v.readCov [ck20 X0 X1 X2 X3 X4 v, ck11 X0 X1 X2 X3 X4 v, ck10 X0 X1 X2 X3 X4 v, ckZ] (Rect.unit (s := S1x8x2048) ![0, 0, 0] ![1, 1, 1536] inb_S1x8x2048_S1x1x1536_0_0_0).toLoadRect) (ds30 X0 X1 X2 X3 X4)⟩
def ck31 (v : View sig .tc .vmem S1x8x2048 .f32) : PC := ⟨Rect.unit ![0, 1, 0] ![1, 1, 1536] inb_S1x8x2048_S1x1x1536_0_1_0, side3.cs (v.readCov [ck21 X0 X1 X2 X3 X4 v, ck20 X0 X1 X2 X3 X4 v, ck11 X0 X1 X2 X3 X4 v, ck10 X0 X1 X2 X3 X4 v, ckZ] (Rect.unit (s := S1x8x2048) ![0, 1, 0] ![1, 1, 1536] inb_S1x8x2048_S1x1x1536_0_1_0).toLoadRect) (ds31 X0 X1 X2 X3 X4)⟩
def ck40 (v : View sig .tc .vmem S1x8x2048 .f32) : PC := ⟨Rect.unit ![0, 0, 0] ![1, 1, 2048] inb_S1x8x2048_S1x1x2048_0_0_0, side4.cs (v.readCov [ck30 X0 X1 X2 X3 X4 v, ck21 X0 X1 X2 X3 X4 v, ck20 X0 X1 X2 X3 X4 v, ck11 X0 X1 X2 X3 X4 v, ck10 X0 X1 X2 X3 X4 v, ckZ] (Rect.unit (s := S1x8x2048) ![0, 0, 0] ![1, 1, 2048] inb_S1x8x2048_S1x1x2048_0_0_0).toLoadRect) (ds40 X0 X1 X2 X3 X4)⟩
def ck41 (v : View sig .tc .vmem S1x8x2048 .f32) : PC := ⟨Rect.unit ![0, 1, 0] ![1, 1, 2048] inb_S1x8x2048_S1x1x2048_0_1_0, side4.cs (v.readCov [ck31 X0 X1 X2 X3 X4 v, ck30 X0 X1 X2 X3 X4 v, ck21 X0 X1 X2 X3 X4 v, ck20 X0 X1 X2 X3 X4 v, ck11 X0 X1 X2 X3 X4 v, ck10 X0 X1 X2 X3 X4 v, ckZ] (Rect.unit (s := S1x8x2048) ![0, 1, 0] ![1, 1, 2048] inb_S1x8x2048_S1x1x2048_0_1_0).toLoadRect) (ds41 X0 X1 X2 X3 X4)⟩
def ckL (v : View sig .tc .vmem S1x8x2048 .f32) : List PC := [ck41 X0 X1 X2 X3 X4 v, ck40 X0 X1 X2 X3 X4 v, ck31 X0 X1 X2 X3 X4 v, ck30 X0 X1 X2 X3 X4 v, ck21 X0 X1 X2 X3 X4 v, ck20 X0 X1 X2 X3 X4 v, ck11 X0 X1 X2 X3 X4 v, ck10 X0 X1 X2 X3 X4 v, ckZ]

end

variable (m : (ℓ : Loc nD τ sig) → Buf (Elt Ideal) ℓ)

set_option maxHeartbeats 400000 in
theorem dq_open (c : Dev nD) (t : Fin cfg0.N) : (outsAt0 m c t).1 = View.canon (dqL (iblk m c 0 t) (iblk m c 1 t) (iblk m c 2 t) (iblk m c 3 t) (iblk m c 4 t)) := by
  funext y
  rw [outsAt0]; dsimp only
  frame_open
  simp (disch := decide) only [↓ View.readCov_skip, ↓ View.readCov_cons_toLoadRect, ↓ View.readCov_fill, ↓ concatenate_eq_cat2]
  frame_out
  generalize iblk m c 0 t = X0
  generalize iblk m c 1 t = X1
  generalize iblk m c 2 t = X2
  generalize iblk m c 3 t = X3
  generalize iblk m c 4 t = X4
  simp only [↓ concatenate_eq_cat2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, shapeCast_self, shapeCast_shapeCast]
  rfl

set_option maxHeartbeats 400000 in
theorem dk_open (c : Dev nD) (t : Fin cfg0.N) : (outsAt0 m c t).2.1 = addf (F := Ideal) (φ := .f32) ((ms0_6 t).view.readCov (dkL3 (iblk m c 0 t) (iblk m c 1 t) (iblk m c 2 t) (iblk m c 3 t) (iblk m c 4 t) (ms0_6 t).view) (Rect.unit (s := S2048x128) ![0, 0] ![2048, 128] inb_S2048x128_S2048x128_0_0).toLoadRect) (dk4 (iblk m c 0 t) (iblk m c 1 t) (iblk m c 2 t) (iblk m c 3 t) (iblk m c 4 t)) := by
  funext y
  rw [outsAt0]; dsimp only
  frame_open
  simp (disch := decide) only [↓ View.readCov_skip, ↓ View.readCov_cons_toLoadRect, ↓ concatenate_eq_cat2]
  frame_out
  generalize iblk m c 0 t = X0
  generalize iblk m c 1 t = X1
  generalize iblk m c 2 t = X2
  generalize iblk m c 3 t = X3
  generalize iblk m c 4 t = X4
  simp only [↓ concatenate_eq_cat2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, shapeCast_self, shapeCast_shapeCast]
  rfl

set_option maxHeartbeats 400000 in
theorem dv_open (c : Dev nD) (t : Fin cfg0.N) : (outsAt0 m c t).2.2.1 = addf (F := Ideal) (φ := .f32) ((ms0_7 t).view.readCov (dvL3 (iblk m c 0 t) (iblk m c 1 t) (iblk m c 3 t) (iblk m c 4 t) (ms0_7 t).view) (Rect.unit (s := S2048x128) ![0, 0] ![2048, 128] inb_S2048x128_S2048x128_0_0).toLoadRect) (dv4 (iblk m c 0 t) (iblk m c 1 t) (iblk m c 3 t) (iblk m c 4 t)) := by
  funext y
  rw [outsAt0]; dsimp only
  frame_open
  simp (disch := decide) only [↓ View.readCov_skip, ↓ View.readCov_cons_toLoadRect, ↓ concatenate_eq_cat2]
  frame_out
  generalize iblk m c 0 t = X0
  generalize iblk m c 1 t = X1
  generalize iblk m c 2 t = X2
  generalize iblk m c 3 t = X3
  generalize iblk m c 4 t = X4
  simp only [↓ concatenate_eq_cat2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, shapeCast_self, shapeCast_shapeCast]
  rfl

set_option maxHeartbeats 400000 in
theorem ck_open (c : Dev nD) (t : Fin cfg0.N) : (outsAt0 m c t).2.2.2 = View.canon (ckL (iblk m c 0 t) (iblk m c 1 t) (iblk m c 2 t) (iblk m c 3 t) (iblk m c 4 t) (ms0_8 t).view) := by
  funext y
  rw [outsAt0]; dsimp only
  frame_open
  simp (disch := decide) only [↓ View.readCov_skip, ↓ View.readCov_cons_toLoadRect, ↓ concatenate_eq_cat2]
  frame_out
  generalize iblk m c 0 t = X0
  generalize iblk m c 1 t = X1
  generalize iblk m c 2 t = X2
  generalize iblk m c 3 t = X3
  generalize iblk m c 4 t = X4
  simp only [↓ concatenate_eq_cat2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, shapeCast_self, shapeCast_shapeCast]
  rfl

end Cert.KernelIdeal.Out
end
-- ==== Proof.Val.lean ====
/-
  What the backward kernel's four output blocks hold at an index, as real numbers, of blocks that hold real numbers.
-/
module

public import proofs.«01_k».proof.Proof.Out
public import Idealize.ShloMosaic.Lib.ValueLayout

@[expose] public section
set_option maxRecDepth 16384
noncomputable section
namespace Cert.KernelIdeal.Val
open Cert.KernelIdeal Cert.KernelIdeal.Gen Idealize.ShloMosaic Idealize.ShloMosaic.TcCoe Idealize.SL.Sem
open Cert.KernelIdeal.Sec Cert.KernelIdeal.Out Cert.Soft

/-- A load of whole rows. -/
theorem ld2 (X : FVec Ideal S2048x128 .bf16) {A : ℕ → ℕ → ℝ} (hX : Re X A) (o n : ℕ) (h) :
    Re (φ := .bf16) (a := n) (b := 128) (View.ld (Val := Elt Ideal) (e' := .bf16) X (Rect.unit (s := S2048x128) ![o, 0] ![n, 128] h)) fun r l => A (o + r) l := by
  intro r l
  have h0 : o + r.val < 2048 := by have := h 0; have h1 : o + n ≤ 2048 := this; omega
  have e := (View.ld_unit_apply_of (Val := Elt Ideal) (e := .bf16) X _ _ h (ix2 r l) (ix2 ⟨o + r.val, h0⟩ l) (fun a => by
    refine Fin.cases ?_ (fun b => ?_) a
    · rfl
    · have : b = 0 := Subsingleton.elim _ _
      subst this; exact (Nat.zero_add _).symm))
  exact e.trans (hX _ _)

/-- A load of the start of one of the two gate rows. -/
theorem ld3 (X : FVec Ideal S1x2x2048 .f32) {C : ℕ → ℕ → ℝ} (hX : ∀ (e : Fin 2) (u : Fin 2048), X (ix3 0 e u) = ((C e.val u.val : ℝ) : EReal))
    (e n : ℕ) (he : e < 2) (h) (u : Fin n) :
    View.ld (Val := Elt Ideal) (e' := .f32) X (Rect.unit (s := S1x2x2048) ![0, e, 0] ![1, 1, n] h) (ix3 (0 : Fin 1) (0 : Fin 1) u) = ((C e u.val : ℝ) : EReal) := by
  have h0 : u.val < 2048 := by have := h 2; have h1 : 0 + n ≤ 2048 := this; omega
  have e := (View.ld_unit_apply_of (Val := Elt Ideal) (e := .f32) X _ _ h (ix3 (0 : Fin 1) (0 : Fin 1) u) (ix3 (0 : Fin 1) ⟨e, he⟩ ⟨u.val, h0⟩) (fun a => by
    fin_cases a
    · rfl
    · rfl
    · exact (Nat.zero_add _).symm))
  exact e.trans (hX _ _)

/-- The index of row `r`, lane `l` of a block under a store of the first `n` rows. -/
theorem emb2 {S : Shape} (o n N : ℕ) (h : ∀ a, (![o, 0] : Fin 2 → ℕ) a + (![n, 128] : Fin 2 → ℕ) a ≤ (M2 N 128).size a) (r : Fin n) (l : Fin 128) (h0 : o + r.val < N) :
    (Rect.unit (s := M2 N 128) ![o, 0] ![n, 128] h).emb (ix2 r l) = ix2 ⟨o + r.val, h0⟩ l := by
  funext a
  apply Fin.ext
  rw [Rect.emb_apply]
  fin_cases a
  · show o + 1 * r.val = o + r.val; omega
  · show 0 + 1 * l.val = l.val; omega

/-- A further row block's contribution added into the first `n` rows. -/
theorem acc2 (v : View sig .tc .vmem S2048x128 .f32) (L : List PF) {A A' : ℕ → ℕ → ℝ} (n : ℕ) (h) (x : FVec Ideal (M2 n 128) .f32) {X : ℕ → ℕ → ℝ}
    (hL : ∀ (u : Fin 2048) (l : Fin 128), View.canon L (ix2 u l) = ((A u.val l.val : ℝ) : EReal)) (hx : Re x X)
    (hin : ∀ u l, u < n → A' u l = A u l + X u l) (hout : ∀ u l, n ≤ u → A' u l = A u l) (u : Fin 2048) (l : Fin 128) :
    View.canon (⟨Rect.unit (s := S2048x128) ![0, 0] ![n, 128] h, addf (F := Ideal) (φ := .f32) (v.readCov L (Rect.unit (s := S2048x128) ![0, 0] ![n, 128] h).toLoadRect) x⟩ :: L : List PF) (ix2 u l)
      = ((A' u.val l.val : ℝ) : EReal) := by
  by_cases hu : u.val < n
  · have e := emb2 (S := S2048x128) 0 n 2048 h ⟨u.val, hu⟩ l (by have := u.isLt; simpa using this)
    have e' : (ix2 u l : S2048x128.Idx) = (Rect.unit (s := S2048x128) ![0, 0] ![n, 128] h).emb (ix2 (⟨u.val, hu⟩ : Fin n) l) := by
      rw [e]; congr 1; apply Fin.ext; simp
    rw [e', View.canon_cons_emb]
    have : addf (F := Ideal) (φ := .f32) (v.readCov L (Rect.unit (s := S2048x128) ![0, 0] ![n, 128] h).toLoadRect) x (ix2 (⟨u.val, hu⟩ : Fin n) l)
      = v.readCov L (Rect.unit (s := S2048x128) ![0, 0] ![n, 128] h).toLoadRect (ix2 (⟨u.val, hu⟩ : Fin n) l) + x (ix2 (⟨u.val, hu⟩ : Fin n) l) := rfl
    rw [this, hx, View.readCov_eq_canon']
    have e3 : (Rect.unit (s := S2048x128) ![0, 0] ![n, 128] h).toLoadRect.idx (ix2 (⟨u.val, hu⟩ : Fin n) l) = ix2 u l := e'.symm
    beta_reduce
    rw [e3, hL, hin _ _ hu, EReal.coe_add]
  · rw [View.canon_cons_of_not_mem, hL, hout _ _ (by omega)]
    intro hm
    have hm' : (ix2 u l : S2048x128.Idx) ∈ (Rect.unit (s := S2048x128) ![0, 0] ![n, 128] h).set := hm
    have := (Rect.mem_set_unit.mp hm') 0
    exact hu (by have h2 : u.val < 0 + n := this.2; omega)

/-- A further row block's column sums added into the first `n` entries of row `e`. -/
theorem acc3 (v : View sig .tc .vmem S1x8x2048 .f32) (L' L : List PC) {A A' : ℕ → ℕ → ℝ} {B : ℕ → ℝ} {n np : ℕ} (sd : Side n np) (e : ℕ) (he : e < 8) (h)
    (x : FVec Ideal (M2 512 n) .f32) {X : ℕ → ℕ → ℝ}
    (hL' : ∀ u : Fin 2048, View.canon L' (ix3 0 ⟨e, he⟩ u) = ((B u.val : ℝ) : EReal))
    (hL : ∀ (a : Fin 8) (u : Fin 2048), View.canon L (ix3 0 a u) = ((A a.val u.val : ℝ) : EReal)) (hx : Re x X)
    (hin : ∀ u, u < n → A' e u = B u + ∑ r ∈ Finset.range 512, X r u) (hout : ∀ a u, ¬ (a = e ∧ u < n) → A' a u = A a u)
    (a : Fin 8) (u : Fin 2048) :
    View.canon (⟨Rect.unit (s := S1x8x2048) ![0, e, 0] ![1, 1, n] h, sd.cs (v.readCov L' (Rect.unit (s := S1x8x2048) ![0, e, 0] ![1, 1, n] h).toLoadRect) x⟩ :: L : List PC) (ix3 0 a u)
      = ((A' a.val u.val : ℝ) : EReal) := by
  by_cases hu : a.val = e ∧ u.val < n
  · have e' : (ix3 0 a u : S1x8x2048.Idx) = (Rect.unit (s := S1x8x2048) ![0, e, 0] ![1, 1, n] h).emb (ix3 (0 : Fin 1) (0 : Fin 1) (⟨u.val, hu.2⟩ : Fin n)) := by
      funext b
      apply Fin.ext
      rw [Rect.emb_apply]
      fin_cases b
      · rfl
      · show a.val = e + 1 * 0; omega
      · show u.val = 0 + 1 * u.val; omega
    rw [e', View.canon_cons_emb]
    have ha : a = ⟨e, he⟩ := Fin.ext hu.1
    have hA : A' a.val u.val = B u.val + ∑ r ∈ Finset.range 512, X r u.val := by rw [hu.1]; exact hin _ hu.2
    rw [cs_re sd (C := B) hx ⟨u.val, hu.2⟩, hA]
    rw [View.readCov_eq_canon']
    have e3 : (Rect.unit (s := S1x8x2048) ![0, e, 0] ![1, 1, n] h).toLoadRect.idx (ix3 (0 : Fin 1) (0 : Fin 1) (⟨u.val, hu.2⟩ : Fin n)) = ix3 0 ⟨e, he⟩ u := by
      rw [← ha]; exact e'.symm
    beta_reduce
    rw [e3, hL']
  · rw [View.canon_cons_of_not_mem, hL, hout _ _ hu]
    intro hm
    have hm' : (ix3 0 a u : S1x8x2048.Idx) ∈ (Rect.unit (s := S1x8x2048) ![0, e, 0] ![1, 1, n] h).set := hm
    have h1 := (Rect.mem_set_unit.mp hm') 1
    have h2 := (Rect.mem_set_unit.mp hm') 2
    refine hu ⟨?_, ?_⟩
    · have h3 : e ≤ a.val := h1.1
      have h4 : a.val < e + 1 := h1.2
      omega
    · have h4 : u.val < 0 + n := h2.2
      omega

/-- One head's masked keys, read back out of the scratch. -/
theorem mlaw (X1 : FVec Ideal S2048x128 .bf16) {K : ℕ → ℕ → ℝ} (hK : Re X1 K) (p : CmpIPredicate) (e n : ℕ) (he : e < 2) (L : List PS) (hi hh h2 h h') :
    Re (a := n) (b := 128) (φ := .bf16) (shapeCast (M2 n 128) ((View.whole cc0_scratch0).readCov
      (⟨Rect.unit (s := S2x2048x128) ![e, 0, 0] ![1, 2048, 128] hh, shapeCast S1x2048x128 (hm p 2048 hi X1) h2⟩ :: L : List PS)
      (Rect.unit (s := S2x2048x128) ![e, 0, 0] ![1, n, 128] h).toLoadRect) h') fun u l => keep p l (K u l) := by
  intro r l
  have h0 : r.val < 2048 := by have := h 1; have h1 : 0 + n ≤ 2048 := this; omega
  refine (ValueIdx.shapeCast_1ab_ab_apply _ h' r l).trans ?_
  rw [View.readCov_eq_canon']
  beta_reduce
  have e3 : (Rect.unit (s := S2x2048x128) ![e, 0, 0] ![1, n, 128] h).toLoadRect.idx (ix3 (0 : Fin 1) r l)
    = (Rect.unit (s := S2x2048x128) ![e, 0, 0] ![1, 2048, 128] hh).emb (ix3 (0 : Fin 1) (⟨r.val, h0⟩ : Fin 2048) l) := by
    funext a; apply Fin.ext; fin_cases a <;> rfl
  refine (congrArg _ e3).trans ?_
  rw [View.canon_cons_emb]
  exact (ValueIdx.shapeCast_ab_1ab_apply _ h2 0 (⟨r.val, h0⟩ : Fin 2048) l).trans (hm_law p 2048 hi X1 K hK ⟨r.val, h0⟩ l)

/-- A row block's contribution to sums over the rows, the terms of a row before the key being zero. -/
theorem acc2s (v : View sig .tc .vmem S2048x128 .f32) (L : List PF) (f : ℕ → ℕ → ℕ → ℝ) (hf : ∀ t u l, t < u → f t u l = 0) (np n : ℕ) (hn : n = np + 512) (h) (x : FVec Ideal (M2 n 128) .f32)
    (hL : ∀ (u : Fin 2048) (l : Fin 128), View.canon L (ix2 u l) = ((∑ t ∈ Finset.range np, f t u.val l.val : ℝ) : EReal))
    (hx : Re x fun u l => ∑ r ∈ Finset.range 512, f (np + r) u l) (u : Fin 2048) (l : Fin 128) :
    View.canon (⟨Rect.unit (s := S2048x128) ![0, 0] ![n, 128] h, addf (F := Ideal) (φ := .f32) (v.readCov L (Rect.unit (s := S2048x128) ![0, 0] ![n, 128] h).toLoadRect) x⟩ :: L : List PF) (ix2 u l)
      = ((∑ t ∈ Finset.range n, f t u.val l.val : ℝ) : EReal) := by
  refine acc2 v L (A := fun u l => ∑ t ∈ Finset.range np, f t u l) (A' := fun u l => ∑ t ∈ Finset.range n, f t u l) n h x hL hx ?_ ?_ u l
  · intro u l _
    subst hn
    exact Finset.sum_range_add _ _ _
  · intro u l hu
    subst hn
    show ∑ t ∈ Finset.range (np + 512), f t u l = ∑ t ∈ Finset.range np, f t u l
    rw [Finset.sum_range_add, Finset.sum_eq_zero (s := Finset.range 512), add_zero]
    intro r hr
    rw [Finset.mem_range] at hr
    exact hf _ _ _ (by omega)

/-- The state of the gate block after the first `n0` rows of head 0 and the first `n1` rows of head 1. -/
def CA (f : ℕ → ℕ → ℕ → ℝ) (n0 n1 a u : ℕ) : ℝ :=
  if a = 0 then ∑ t ∈ Finset.range n0, f 0 t u else if a = 1 then ∑ t ∈ Finset.range n1, f 1 t u else 0

theorem acc3_0 (v : View sig .tc .vmem S1x8x2048 .f32) (L' L : List PC) (f : ℕ → ℕ → ℕ → ℝ) (hf : ∀ e t u, t < u → f e t u = 0) {n np : ℕ} (sd : Side n np) (m m' : ℕ) (h)
    (x : FVec Ideal (M2 512 n) .f32)
    (hL' : ∀ (a : Fin 8) (u : Fin 2048), View.canon L' (ix3 0 a u) = ((CA f np m' a.val u.val : ℝ) : EReal))
    (hL : ∀ (a : Fin 8) (u : Fin 2048), View.canon L (ix3 0 a u) = ((CA f np m a.val u.val : ℝ) : EReal))
    (hx : Re x fun r u => f 0 (np + r) u) (a : Fin 8) (u : Fin 2048) :
    View.canon (⟨Rect.unit (s := S1x8x2048) ![0, 0, 0] ![1, 1, n] h, sd.cs (v.readCov L' (Rect.unit (s := S1x8x2048) ![0, 0, 0] ![1, 1, n] h).toLoadRect) x⟩ :: L : List PC) (ix3 0 a u)
      = ((CA f n m a.val u.val : ℝ) : EReal) := by
  refine acc3 v L' L (A := CA f np m) (A' := CA f n m) (B := CA f np m' 0) sd 0 (by decide) h x (fun u => hL' _ u) hL hx ?_ ?_ a u
  · intro u _
    rw [sd.hn]
    simp only [CA, if_true]
    exact Finset.sum_range_add _ _ _
  · intro a u hu
    unfold CA
    split_ifs with h0 h1
    · rw [sd.hn, Finset.sum_range_add, Finset.sum_eq_zero (s := Finset.range 512), add_zero]
      intro r hr
      rw [Finset.mem_range] at hr
      refine hf _ _ _ ?_
      have := sd.hn
      have : ¬ u < n := fun h => hu ⟨h0, h⟩
      omega
    · rfl
    · rfl

theorem acc3_1 (v : View sig .tc .vmem S1x8x2048 .f32) (L' L : List PC) (f : ℕ → ℕ → ℕ → ℝ) (hf : ∀ e t u, t < u → f e t u = 0) {n np : ℕ} (sd : Side n np) (m m' : ℕ) (h)
    (x : FVec Ideal (M2 512 n) .f32)
    (hL' : ∀ (a : Fin 8) (u : Fin 2048), View.canon L' (ix3 0 a u) = ((CA f m' np a.val u.val : ℝ) : EReal))
    (hL : ∀ (a : Fin 8) (u : Fin 2048), View.canon L (ix3 0 a u) = ((CA f m np a.val u.val : ℝ) : EReal))
    (hx : Re x fun r u => f 1 (np + r) u) (a : Fin 8) (u : Fin 2048) :
    View.canon (⟨Rect.unit (s := S1x8x2048) ![0, 1, 0] ![1, 1, n] h, sd.cs (v.readCov L' (Rect.unit (s := S1x8x2048) ![0, 1, 0] ![1, 1, n] h).toLoadRect) x⟩ :: L : List PC) (ix3 0 a u)
      = ((CA f m n a.val u.val : ℝ) : EReal) := by
  refine acc3 v L' L (A := CA f m np) (A' := CA f m n) (B := CA f m' np 1) sd 1 (by decide) h x (fun u => hL' _ u) hL hx ?_ ?_ a u
  · intro u _
    rw [sd.hn]
    simp only [CA, if_true, one_ne_zero, if_false]
    exact Finset.sum_range_add _ _ _
  · intro a u hu
    unfold CA
    split_ifs with h0 h1
    · rfl
    · rw [sd.hn, Finset.sum_range_add, Finset.sum_eq_zero (s := Finset.range 512), add_zero]
      intro r hr
      rw [Finset.mem_range] at hr
      refine hf _ _ _ ?_
      have := sd.hn
      have : ¬ u < n := fun h => hu ⟨h1, h⟩
      omega
    · rfl

/-- The blocks of a grid point hold these real numbers. -/
structure Reals (X0 X1 X2 X3 : FVec Ideal S2048x128 .bf16) (X4 : FVec Ideal S1x2x2048 .f32) (Q K V D C : ℕ → ℕ → ℝ) : Prop where
  q : Re X0 Q
  k : Re X1 K
  v : Re X2 V
  d : Re X3 D
  c : ∀ (e : Fin 2) (u : Fin 2048), X4 (ix3 0 e u) = ((C e.val u.val : ℝ) : EReal)

section
variable (Q K V D C : ℕ → ℕ → ℝ)

/-- The probability of key `u` for row `t` of one head, and the gradient of its score. -/
def pw (p : CmpIPredicate) (e t u : ℕ) : ℝ := P (scr p Q K (C e) t) t u
def ds (p : CmpIPredicate) (e t u : ℕ) : ℝ := DS (scr p Q K (C e) t) (dpr p D V t) t u
/-- The three gradients of a pair of heads, as real numbers. -/
def DQ (t l : ℕ) : ℝ :=
  (∑ u ∈ Finset.range 2048, ds Q K V D C .slt 0 t u * keep .slt l (K u l) + ∑ u ∈ Finset.range 2048, ds Q K V D C .sge 1 t u * keep .sge l (K u l)) * (1 / 8)
def fK (t u l : ℕ) : ℝ := ds Q K V D C .slt 0 t u * keep .slt l (Q t l) + ds Q K V D C .sge 1 t u * keep .sge l (Q t l)
def fV (t u l : ℕ) : ℝ := pw Q K C .slt 0 t u * keep .slt l (D t l) + pw Q K C .sge 1 t u * keep .sge l (D t l)
def fC (e t u : ℕ) : ℝ := if e = 0 then ds Q K V D C .slt 0 t u else ds Q K V D C .sge 1 t u

theorem fK_of_lt (t u l : ℕ) (h : t < u) : fK Q K V D C t u l = 0 := by
  rw [fK, ds, ds, DS_of_lt _ _ _ _ h, DS_of_lt _ _ _ _ h, zero_mul, zero_mul, add_zero]
theorem fV_of_lt (t u l : ℕ) (h : t < u) : fV Q K D C t u l = 0 := by
  rw [fV, pw, pw, P_of_lt _ _ _ h, P_of_lt _ _ _ h, zero_mul, zero_mul, add_zero]
theorem fC_of_lt (e t u : ℕ) (h : t < u) : fC Q K V D C e t u = 0 := by
  rw [fC, ds, ds, DS_of_lt _ _ _ _ h, DS_of_lt _ _ _ _ h, ite_self]

variable {X0 X1 X2 X3 : FVec Ideal S2048x128 .bf16} {X4 : FVec Ideal S1x2x2048 .f32}
variable {Q K V D C}
variable (H : Reals X0 X1 X2 X3 X4 Q K V D C)
include H

theorem q1_re : Re (q1 X0) fun r l => Q (0 + r) l := ld2 X0 H.q 0 512 _
theorem d1_re : Re (q1 X3) fun r l => D (0 + r) l := ld2 X3 H.d 0 512 _
theorem k1_re : Re (k1 X1) K := fun r l => (ld2 X1 H.k 0 512 _ r l).trans (by simp only [Nat.zero_add])
theorem v1_re : Re (k1 X2) V := fun r l => (ld2 X2 H.v 0 512 _ r l).trans (by simp only [Nat.zero_add])
theorem c10_re (u : Fin 512) : c10 X4 (ix3 0 0 u) = ((C 0 u.val : ℝ) : EReal) := ld3 X4 H.c 0 512 (by decide) _ u
theorem m10_re : Re (m10 X1) fun u l => keep .slt l (K u l) := mlaw X1 H.k .slt 0 512 (by decide) _ _ _ _ _ _
theorem c11_re (u : Fin 512) : c11 X4 (ix3 0 0 u) = ((C 1 u.val : ℝ) : EReal) := ld3 X4 H.c 1 512 (by decide) _ u
theorem m11_re : Re (m11 X1) fun u l => keep .sge l (K u l) := mlaw X1 H.k .sge 1 512 (by decide) _ _ _ _ _ _

theorem dq1_re : Re (dq1 X0 X1 X2 X3 X4) fun r l => DQ Q K V D C (0 + r) l := by
  intro r l
  refine (DQp_law side1 (q1_re H) (d1_re H) (k1_re H) (v1_re H) (c10_re H) (c11_re H) (m10_re H) (m11_re H) r l).trans ?_
  have hr := r.isLt
  have h0 := fun u (hu : 0 + r.val < u) => show ds Q K V D C .slt 0 (0 + r.val) u * keep .slt l.val (K u l.val) = 0 by rw [ds, DS_of_lt _ _ _ _ hu, zero_mul]
  have h1 := fun u (hu : 0 + r.val < u) => show ds Q K V D C .sge 1 (0 + r.val) u * keep .sge l.val (K u l.val) = 0 by rw [ds, DS_of_lt _ _ _ _ hu, zero_mul]
  show _ = ((DQ Q K V D C (0 + r.val) l.val : ℝ) : EReal)
  rw [DQ, sum_causal _ 2048 (by omega) _ h0, sum_causal _ 2048 (by omega) _ h1, ← sum_causal _ 512 (by omega) _ h0, ← sum_causal _ 512 (by omega) _ h1]
  rfl

theorem dk1_re : Re (dk1 X0 X1 X2 X3 X4) fun u l => ∑ r ∈ Finset.range 512, fK Q K V D C (0 + r) u l := by
  intro u l
  refine (DKp_law side1 (q1_re H) (d1_re H) (k1_re H) (v1_re H) (c10_re H) (c11_re H) u l).trans ?_
  simp only [fK, Finset.sum_add_distrib]
  rfl

theorem dv1_re : Re (dv1 X0 X1 X3 X4) fun u l => ∑ r ∈ Finset.range 512, fV Q K D C (0 + r) u l := by
  intro u l
  refine (DVp_law side1 (q1_re H) (d1_re H) (k1_re H) (c10_re H) (c11_re H) u l).trans ?_
  simp only [fV, Finset.sum_add_distrib]
  rfl

theorem ds10_re : Re (ds10 X0 X1 X2 X3 X4) fun r u => fC Q K V D C 0 (0 + r) u :=
  DSb_law side1 .slt (q1_re H) (d1_re H) (k1_re H) (v1_re H) (c10_re H)
theorem ds11_re : Re (ds11 X0 X1 X2 X3 X4) fun r u => fC Q K V D C 1 (0 + r) u :=
  DSb_law side1 .sge (q1_re H) (d1_re H) (k1_re H) (v1_re H) (c11_re H)

theorem q2_re : Re (q2 X0) fun r l => Q (512 + r) l := ld2 X0 H.q 512 512 _
theorem d2_re : Re (q2 X3) fun r l => D (512 + r) l := ld2 X3 H.d 512 512 _
theorem k2_re : Re (k2 X1) K := fun r l => (ld2 X1 H.k 0 1024 _ r l).trans (by simp only [Nat.zero_add])
theorem v2_re : Re (k2 X2) V := fun r l => (ld2 X2 H.v 0 1024 _ r l).trans (by simp only [Nat.zero_add])
theorem c20_re (u : Fin 1024) : c20 X4 (ix3 0 0 u) = ((C 0 u.val : ℝ) : EReal) := ld3 X4 H.c 0 1024 (by decide) _ u
theorem m20_re : Re (m20 X1) fun u l => keep .slt l (K u l) := mlaw X1 H.k .slt 0 1024 (by decide) _ _ _ _ _ _
theorem c21_re (u : Fin 1024) : c21 X4 (ix3 0 0 u) = ((C 1 u.val : ℝ) : EReal) := ld3 X4 H.c 1 1024 (by decide) _ u
theorem m21_re : Re (m21 X1) fun u l => keep .sge l (K u l) := mlaw X1 H.k .sge 1 1024 (by decide) _ _ _ _ _ _

theorem dq2_re : Re (dq2 X0 X1 X2 X3 X4) fun r l => DQ Q K V D C (512 + r) l := by
  intro r l
  refine (DQp_law side2 (q2_re H) (d2_re H) (k2_re H) (v2_re H) (c20_re H) (c21_re H) (m20_re H) (m21_re H) r l).trans ?_
  have hr := r.isLt
  have h0 := fun u (hu : 512 + r.val < u) => show ds Q K V D C .slt 0 (512 + r.val) u * keep .slt l.val (K u l.val) = 0 by rw [ds, DS_of_lt _ _ _ _ hu, zero_mul]
  have h1 := fun u (hu : 512 + r.val < u) => show ds Q K V D C .sge 1 (512 + r.val) u * keep .sge l.val (K u l.val) = 0 by rw [ds, DS_of_lt _ _ _ _ hu, zero_mul]
  show _ = ((DQ Q K V D C (512 + r.val) l.val : ℝ) : EReal)
  rw [DQ, sum_causal _ 2048 (by omega) _ h0, sum_causal _ 2048 (by omega) _ h1, ← sum_causal _ 1024 (by omega) _ h0, ← sum_causal _ 1024 (by omega) _ h1]
  rfl

theorem dk2_re : Re (dk2 X0 X1 X2 X3 X4) fun u l => ∑ r ∈ Finset.range 512, fK Q K V D C (512 + r) u l := by
  intro u l
  refine (DKp_law side2 (q2_re H) (d2_re H) (k2_re H) (v2_re H) (c20_re H) (c21_re H) u l).trans ?_
  simp only [fK, Finset.sum_add_distrib]
  rfl

theorem dv2_re : Re (dv2 X0 X1 X3 X4) fun u l => ∑ r ∈ Finset.range 512, fV Q K D C (512 + r) u l := by
  intro u l
  refine (DVp_law side2 (q2_re H) (d2_re H) (k2_re H) (c20_re H) (c21_re H) u l).trans ?_
  simp only [fV, Finset.sum_add_distrib]
  rfl

theorem ds20_re : Re (ds20 X0 X1 X2 X3 X4) fun r u => fC Q K V D C 0 (512 + r) u :=
  DSb_law side2 .slt (q2_re H) (d2_re H) (k2_re H) (v2_re H) (c20_re H)
theorem ds21_re : Re (ds21 X0 X1 X2 X3 X4) fun r u => fC Q K V D C 1 (512 + r) u :=
  DSb_law side2 .sge (q2_re H) (d2_re H) (k2_re H) (v2_re H) (c21_re H)

theorem q3_re : Re (q3 X0) fun r l => Q (1024 + r) l := ld2 X0 H.q 1024 512 _
theorem d3_re : Re (q3 X3) fun r l => D (1024 + r) l := ld2 X3 H.d 1024 512 _
theorem k3_re : Re (k3 X1) K := fun r l => (ld2 X1 H.k 0 1536 _ r l).trans (by simp only [Nat.zero_add])
theorem v3_re : Re (k3 X2) V := fun r l => (ld2 X2 H.v 0 1536 _ r l).trans (by simp only [Nat.zero_add])
theorem c30_re (u : Fin 1536) : c30 X4 (ix3 0 0 u) = ((C 0 u.val : ℝ) : EReal) := ld3 X4 H.c 0 1536 (by decide) _ u
theorem m30_re : Re (m30 X1) fun u l => keep .slt l (K u l) := mlaw X1 H.k .slt 0 1536 (by decide) _ _ _ _ _ _
theorem c31_re (u : Fin 1536) : c31 X4 (ix3 0 0 u) = ((C 1 u.val : ℝ) : EReal) := ld3 X4 H.c 1 1536 (by decide) _ u
theorem m31_re : Re (m31 X1) fun u l => keep .sge l (K u l) := mlaw X1 H.k .sge 1 1536 (by decide) _ _ _ _ _ _

theorem dq3_re : Re (dq3 X0 X1 X2 X3 X4) fun r l => DQ Q K V D C (1024 + r) l := by
  intro r l
  refine (DQp_law side3 (q3_re H) (d3_re H) (k3_re H) (v3_re H) (c30_re H) (c31_re H) (m30_re H) (m31_re H) r l).trans ?_
  have hr := r.isLt
  have h0 := fun u (hu : 1024 + r.val < u) => show ds Q K V D C .slt 0 (1024 + r.val) u * keep .slt l.val (K u l.val) = 0 by rw [ds, DS_of_lt _ _ _ _ hu, zero_mul]
  have h1 := fun u (hu : 1024 + r.val < u) => show ds Q K V D C .sge 1 (1024 + r.val) u * keep .sge l.val (K u l.val) = 0 by rw [ds, DS_of_lt _ _ _ _ hu, zero_mul]
  show _ = ((DQ Q K V D C (1024 + r.val) l.val : ℝ) : EReal)
  rw [DQ, sum_causal _ 2048 (by omega) _ h0, sum_causal _ 2048 (by omega) _ h1, ← sum_causal _ 1536 (by omega) _ h0, ← sum_causal _ 1536 (by omega) _ h1]
  rfl

theorem dk3_re : Re (dk3 X0 X1 X2 X3 X4) fun u l => ∑ r ∈ Finset.range 512, fK Q K V D C (1024 + r) u l := by
  intro u l
  refine (DKp_law side3 (q3_re H) (d3_re H) (k3_re H) (v3_re H) (c30_re H) (c31_re H) u l).trans ?_
  simp only [fK, Finset.sum_add_distrib]
  rfl

theorem dv3_re : Re (dv3 X0 X1 X3 X4) fun u l => ∑ r ∈ Finset.range 512, fV Q K D C (1024 + r) u l := by
  intro u l
  refine (DVp_law side3 (q3_re H) (d3_re H) (k3_re H) (c30_re H) (c31_re H) u l).trans ?_
  simp only [fV, Finset.sum_add_distrib]
  rfl

theorem ds30_re : Re (ds30 X0 X1 X2 X3 X4) fun r u => fC Q K V D C 0 (1024 + r) u :=
  DSb_law side3 .slt (q3_re H) (d3_re H) (k3_re H) (v3_re H) (c30_re H)
theorem ds31_re : Re (ds31 X0 X1 X2 X3 X4) fun r u => fC Q K V D C 1 (1024 + r) u :=
  DSb_law side3 .sge (q3_re H) (d3_re H) (k3_re H) (v3_re H) (c31_re H)

theorem q4_re : Re (q4 X0) fun r l => Q (1536 + r) l := ld2 X0 H.q 1536 512 _
theorem d4_re : Re (q4 X3) fun r l => D (1536 + r) l := ld2 X3 H.d 1536 512 _
theorem k4_re : Re (k4 X1) K := H.k
theorem v4_re : Re (k4 X2) V := H.v
theorem c40_re (u : Fin 2048) : c40 X4 (ix3 0 0 u) = ((C 0 u.val : ℝ) : EReal) := ld3 X4 H.c 0 2048 (by decide) _ u
theorem m40_re : Re (m40 X1) fun u l => keep .slt l (K u l) := hm_law .slt 2048 _ X1 K H.k
theorem c41_re (u : Fin 2048) : c41 X4 (ix3 0 0 u) = ((C 1 u.val : ℝ) : EReal) := ld3 X4 H.c 1 2048 (by decide) _ u
theorem m41_re : Re (m41 X1) fun u l => keep .sge l (K u l) := hm_law .sge 2048 _ X1 K H.k

theorem dq4_re : Re (dq4 X0 X1 X2 X3 X4) fun r l => DQ Q K V D C (1536 + r) l := by
  intro r l
  refine (DQp_law side4 (q4_re H) (d4_re H) (k4_re H) (v4_re H) (c40_re H) (c41_re H) (m40_re H) (m41_re H) r l).trans ?_
  have hr := r.isLt
  have h0 := fun u (hu : 1536 + r.val < u) => show ds Q K V D C .slt 0 (1536 + r.val) u * keep .slt l.val (K u l.val) = 0 by rw [ds, DS_of_lt _ _ _ _ hu, zero_mul]
  have h1 := fun u (hu : 1536 + r.val < u) => show ds Q K V D C .sge 1 (1536 + r.val) u * keep .sge l.val (K u l.val) = 0 by rw [ds, DS_of_lt _ _ _ _ hu, zero_mul]
  show _ = ((DQ Q K V D C (1536 + r.val) l.val : ℝ) : EReal)
  rw [DQ, sum_causal _ 2048 (by omega) _ h0, sum_causal _ 2048 (by omega) _ h1, ← sum_causal _ 2048 (by omega) _ h0, ← sum_causal _ 2048 (by omega) _ h1]
  rfl

theorem dk4_re : Re (dk4 X0 X1 X2 X3 X4) fun u l => ∑ r ∈ Finset.range 512, fK Q K V D C (1536 + r) u l := by
  intro u l
  refine (DKp_law side4 (q4_re H) (d4_re H) (k4_re H) (v4_re H) (c40_re H) (c41_re H) u l).trans ?_
  simp only [fK, Finset.sum_add_distrib]
  rfl

theorem dv4_re : Re (dv4 X0 X1 X3 X4) fun u l => ∑ r ∈ Finset.range 512, fV Q K D C (1536 + r) u l := by
  intro u l
  refine (DVp_law side4 (q4_re H) (d4_re H) (k4_re H) (c40_re H) (c41_re H) u l).trans ?_
  simp only [fV, Finset.sum_add_distrib]
  rfl

theorem ds40_re : Re (ds40 X0 X1 X2 X3 X4) fun r u => fC Q K V D C 0 (1536 + r) u :=
  DSb_law side4 .slt (q4_re H) (d4_re H) (k4_re H) (v4_re H) (c40_re H)
theorem ds41_re : Re (ds41 X0 X1 X2 X3 X4) fun r u => fC Q K V D C 1 (1536 + r) u :=
  DSb_law side4 .sge (q4_re H) (d4_re H) (k4_re H) (v4_re H) (c41_re H)

theorem dq_re : Re (a := 2048) (b := 128) (φ := .bf16) (View.canon (dqL X0 X1 X2 X3 X4)) (DQ Q K V D C) := by
  intro t l
  have key : ∀ (o : ℕ) (h) (x : FVec Ideal S512x128 .bf16) (L : List PB), (Re x fun r l => DQ Q K V D C (o + r) l) → o ≤ t.val → t.val < o + 512 →
      View.canon (⟨Rect.unit (s := S2048x128) ![o, 0] ![512, 128] h, x⟩ :: L : List PB) (ix2 t l) = ((DQ Q K V D C t.val l.val : ℝ) : EReal) := by
    intro o h x L hx h1 h2
    have e' : (ix2 t l : S2048x128.Idx) = (Rect.unit (s := S2048x128) ![o, 0] ![512, 128] h).emb (ix2 (⟨t.val - o, by omega⟩ : Fin 512) l) := by
      rw [emb2 (S := S2048x128) o 512 2048 h _ l (by have := t.isLt; simp only; omega)]
      congr 1; apply Fin.ext; simp only; omega
    rw [e', View.canon_cons_emb, hx]
    have : o + (t.val - o) = t.val := by omega
    simp only [this]
  have skip : ∀ (o : ℕ) (h) (x : FVec Ideal S512x128 .bf16) (L : List PB), t.val < o →
      View.canon (⟨Rect.unit (s := S2048x128) ![o, 0] ![512, 128] h, x⟩ :: L : List PB) (ix2 t l) = View.canon L (ix2 t l) := by
    intro o h x L h1
    rw [View.canon_cons_of_not_mem]
    intro hm
    have hm' : (ix2 t l : S2048x128.Idx) ∈ (Rect.unit (s := S2048x128) ![o, 0] ![512, 128] h).set := hm
    have h2 : o ≤ t.val := ((Rect.mem_set_unit.mp hm') 0).1
    omega
  have ht := t.isLt
  unfold dqL
  by_cases h4 : 1536 ≤ t.val
  · exact key 1536 _ _ _ (dq4_re H) h4 (by omega)
  rw [skip 1536 _ _ _ (by omega)]
  by_cases h3 : 1024 ≤ t.val
  · exact key 1024 _ _ _ (dq3_re H) h3 (by omega)
  rw [skip 1024 _ _ _ (by omega)]
  by_cases h2 : 512 ≤ t.val
  · exact key 512 _ _ _ (dq2_re H) h2 (by omega)
  rw [skip 512 _ _ _ (by omega)]
  exact key 0 _ _ _ (dq1_re H) (by omega) (by omega)

theorem dk_re (v : View sig .tc .vmem S2048x128 .f32) (u : Fin 2048) (l : Fin 128) :
    View.canon (dkL4 X0 X1 X2 X3 X4 v) (ix2 u l) = ((∑ t ∈ Finset.range 2048, fK Q K V D C t u.val l.val : ℝ) : EReal) := by
  have hf := fun t u l h => fK_of_lt Q K V D C t u l h
  refine acc2s v _ _ hf 1536 2048 rfl _ _ ?_ (dk4_re H) u l
  refine acc2s v _ _ hf 1024 1536 rfl _ _ ?_ (dk3_re H)
  refine acc2s v _ _ hf 512 1024 rfl _ _ ?_ (dk2_re H)
  refine acc2s v _ _ hf 0 512 rfl _ _ ?_ (dk1_re H)
  intro u l
  rw [dkL0, View.canon_cons_unit_lit _ _ _ (by intro a; fin_cases a <;> rfl)]
  show Ideal.ofBits .f32 0x00000000#32 = _
  rw [Ideal.ofBits_zero_f32, Finset.range_zero, Finset.sum_empty, EReal.coe_zero]

theorem dv_re (v : View sig .tc .vmem S2048x128 .f32) (u : Fin 2048) (l : Fin 128) :
    View.canon (dvL4 X0 X1 X3 X4 v) (ix2 u l) = ((∑ t ∈ Finset.range 2048, fV Q K D C t u.val l.val : ℝ) : EReal) := by
  have hf := fun t u l h => fV_of_lt Q K D C t u l h
  refine acc2s v _ _ hf 1536 2048 rfl _ _ ?_ (dv4_re H) u l
  refine acc2s v _ _ hf 1024 1536 rfl _ _ ?_ (dv3_re H)
  refine acc2s v _ _ hf 512 1024 rfl _ _ ?_ (dv2_re H)
  refine acc2s v _ _ hf 0 512 rfl _ _ ?_ (dv1_re H)
  intro u l
  rw [dvL0, View.canon_cons_unit_lit _ _ _ (by intro a; fin_cases a <;> rfl)]
  show Ideal.ofBits .f32 0x00000000#32 = _
  rw [Ideal.ofBits_zero_f32, Finset.range_zero, Finset.sum_empty, EReal.coe_zero]

theorem ck_re (v : View sig .tc .vmem S1x8x2048 .f32) (a : Fin 8) (u : Fin 2048) :
    View.canon (ckL X0 X1 X2 X3 X4 v) (ix3 0 a u) = ((CA (fC Q K V D C) 2048 2048 a.val u.val : ℝ) : EReal) := by
  have hf := fC_of_lt Q K V D C
  have z : ∀ (a : Fin 8) (u : Fin 2048), View.canon [ckZ] (ix3 0 a u) = ((CA (fC Q K V D C) 0 0 a.val u.val : ℝ) : EReal) := by
    intro a u
    rw [ckZ, View.canon_cons_unit_lit _ _ _ (by intro a; fin_cases a <;> rfl)]
    show Ideal.ofBits .f32 0x00000000#32 = _
    rw [Ideal.ofBits_zero_f32]
    simp only [CA, Finset.range_zero, Finset.sum_empty, ite_self, EReal.coe_zero]
  have s10 : ∀ (a : Fin 8) (u : Fin 2048), View.canon [ck10 X0 X1 X2 X3 X4 v, ckZ] (ix3 0 a u) = ((CA (fC Q K V D C) 512 0 a.val u.val : ℝ) : EReal) :=
    acc3_0 v _ _ _ hf side1 _ _ _ _ z z (ds10_re H)
  have s11 : ∀ (a : Fin 8) (u : Fin 2048), View.canon [ck11 X0 X1 X2 X3 X4 v, ck10 X0 X1 X2 X3 X4 v, ckZ] (ix3 0 a u) = ((CA (fC Q K V D C) 512 512 a.val u.val : ℝ) : EReal) :=
    acc3_1 v _ _ _ hf side1 _ _ _ _ z s10 (ds11_re H)
  have s20 : ∀ (a : Fin 8) (u : Fin 2048), View.canon [ck20 X0 X1 X2 X3 X4 v, ck11 X0 X1 X2 X3 X4 v, ck10 X0 X1 X2 X3 X4 v, ckZ] (ix3 0 a u) = ((CA (fC Q K V D C) 1024 512 a.val u.val : ℝ) : EReal) :=
    acc3_0 v _ _ _ hf side2 _ _ _ _ s10 s11 (ds20_re H)
  have s21 : ∀ (a : Fin 8) (u : Fin 2048), View.canon [ck21 X0 X1 X2 X3 X4 v, ck20 X0 X1 X2 X3 X4 v, ck11 X0 X1 X2 X3 X4 v, ck10 X0 X1 X2 X3 X4 v, ckZ] (ix3 0 a u) = ((CA (fC Q K V D C) 1024 1024 a.val u.val : ℝ) : EReal) :=
    acc3_1 v _ _ _ hf side2 _ _ _ _ s11 s20 (ds21_re H)
  have s30 : ∀ (a : Fin 8) (u : Fin 2048), View.canon [ck30 X0 X1 X2 X3 X4 v, ck21 X0 X1 X2 X3 X4 v, ck20 X0 X1 X2 X3 X4 v, ck11 X0 X1 X2 X3 X4 v, ck10 X0 X1 X2 X3 X4 v, ckZ] (ix3 0 a u) = ((CA (fC Q K V D C) 1536 1024 a.val u.val : ℝ) : EReal) :=
    acc3_0 v _ _ _ hf side3 _ _ _ _ s20 s21 (ds30_re H)
  have s31 : ∀ (a : Fin 8) (u : Fin 2048), View.canon [ck31 X0 X1 X2 X3 X4 v, ck30 X0 X1 X2 X3 X4 v, ck21 X0 X1 X2 X3 X4 v, ck20 X0 X1 X2 X3 X4 v, ck11 X0 X1 X2 X3 X4 v, ck10 X0 X1 X2 X3 X4 v, ckZ] (ix3 0 a u) = ((CA (fC Q K V D C) 1536 1536 a.val u.val : ℝ) : EReal) :=
    acc3_1 v _ _ _ hf side3 _ _ _ _ s21 s30 (ds31_re H)
  have s40 : ∀ (a : Fin 8) (u : Fin 2048), View.canon [ck40 X0 X1 X2 X3 X4 v, ck31 X0 X1 X2 X3 X4 v, ck30 X0 X1 X2 X3 X4 v, ck21 X0 X1 X2 X3 X4 v, ck20 X0 X1 X2 X3 X4 v, ck11 X0 X1 X2 X3 X4 v, ck10 X0 X1 X2 X3 X4 v, ckZ] (ix3 0 a u) = ((CA (fC Q K V D C) 2048 1536 a.val u.val : ℝ) : EReal) :=
    acc3_0 v _ _ _ hf side4 _ _ _ _ s30 s31 (ds40_re H)
  have s41 : ∀ (a : Fin 8) (u : Fin 2048), View.canon [ck41 X0 X1 X2 X3 X4 v, ck40 X0 X1 X2 X3 X4 v, ck31 X0 X1 X2 X3 X4 v, ck30 X0 X1 X2 X3 X4 v, ck21 X0 X1 X2 X3 X4 v, ck20 X0 X1 X2 X3 X4 v, ck11 X0 X1 X2 X3 X4 v, ck10 X0 X1 X2 X3 X4 v, ckZ] (ix3 0 a u) = ((CA (fC Q K V D C) 2048 2048 a.val u.val : ℝ) : EReal) :=
    acc3_1 v _ _ _ hf side4 _ _ _ _ s31 s40 (ds41_re H)
  exact s41 a u

end

end Cert.KernelIdeal.Val
end
-- ==== Proof.Arr.lean ====
/-
  The backward kernel's four result arrays as real numbers of real arguments.
-/
module

public import proofs.«01_k».proof.Proof.Val
public import proofs.«01_k».proof.Proof.Gen.KernelIdeal.Value
public import Idealize.ShloMosaic.Lib.Pipeline.ValueKit

@[expose] public section
set_option maxRecDepth 16384
noncomputable section
namespace Cert.KernelIdeal.Arr
open Cert.KernelIdeal Cert.KernelIdeal.Gen Idealize.ShloMosaic Idealize.ShloMosaic.TcCoe Idealize.SL.Sem
open Cert.KernelIdeal.Sec Cert.KernelIdeal.Out Cert.KernelIdeal.Val Cert.Soft
open Idealize.ShloMosaic.Pipeline (Dat)

variable (m : (ℓ : Loc nD τ sig) → Buf (Elt Ideal) ℓ)

/-- Where each window's block of a grid point lies. -/
theorem idx : ∀ t : Fin cfg0.N, win0_0.index t = ![0, t.val] ∧ win0_1.index t = ![0, t.val] ∧ win0_2.index t = ![0, 8 + t.val]
    ∧ win0_3.index t = ![0, t.val] ∧ win0_4.index t = ![t.val, 0, 0] ∧ win0_5.index t = ![0, t.val] ∧ win0_6.index t = ![0, t.val]
    ∧ win0_7.index t = ![0, t.val] ∧ win0_8.index t = ![t.val, 0, 0] ∧ t.val < 8 :=
  (by decide +kernel : ∀ t : Fin grid0.N, _)

/-- The arguments hold these real numbers. -/
structure Args (c : Dev nD) (q k d g : ℕ → ℕ → ℝ) : Prop where
  q : Re (a := 2048) (b := 1024) (φ := .bf16) (m ((c : Thread nD τ).loc main_arg0)) q
  k : Re (a := 2048) (b := 2048) (φ := .bf16) (m ((c : Thread nD τ).loc main_arg1)) k
  d : Re (a := 2048) (b := 1024) (φ := .bf16) (m ((c : Thread nD τ).loc main_arg2)) d
  g : Re (a := 2048) (b := 16) (φ := .f32) (m ((c : Thread nD τ).loc main_arg3)) g

theorem iblk0 (c : Dev nD) (t : Fin cfg0.N) (r : Fin 2048) (l : Fin 128) (h : 128 * t.val + l.val < 1024) :
    iblk m c 0 t (ix2 r l) = @HMul.hMul EReal EReal EReal _ (m ((c : Thread nD τ).loc main_arg0) (ix2 r ⟨128 * t.val + l.val, h⟩)) (Ideal.ofBits .f32 0x3E000000#32) := by
  blk_simp [iblk]
  entry_read
  pointwise []
  congr 1
  blk_ext [idx t]
theorem iblk1 (c : Dev nD) (t : Fin cfg0.N) (r : Fin 2048) (l : Fin 128) (h : 128 * t.val + l.val < 2048) :
    iblk m c 1 t (ix2 r l) = m ((c : Thread nD τ).loc main_arg1) (ix2 r ⟨128 * t.val + l.val, h⟩) := by
  blk_ext [iblk, V, idx t]
theorem iblk2 (c : Dev nD) (t : Fin cfg0.N) (r : Fin 2048) (l : Fin 128) (h : 1024 + (128 * t.val + l.val) < 2048) :
    iblk m c 2 t (ix2 r l) = m ((c : Thread nD τ).loc main_arg1) (ix2 r ⟨1024 + (128 * t.val + l.val), h⟩) := by
  blk_ext [iblk, V, idx t]
theorem iblk3 (c : Dev nD) (t : Fin cfg0.N) (r : Fin 2048) (l : Fin 128) (h : 128 * t.val + l.val < 1024) :
    iblk m c 3 t (ix2 r l) = m ((c : Thread nD τ).loc main_arg2) (ix2 r ⟨128 * t.val + l.val, h⟩) := by
  blk_ext [iblk, V, idx t]
theorem iblk4 (c : Dev nD) (t : Fin cfg0.N) (e : Fin 2) (u : Fin 2048) (h : 2 * t.val + e.val < 16) :
    iblk m c 4 t (ix3 0 e u) = m ((c : Thread nD τ).loc main_arg3) (ix2 u ⟨2 * t.val + e.val, h⟩) := by
  blk_simp [iblk]
  entry_read
  pointwise []
  blk_ext [idx t]

theorem idx5 (t : Fin cfg0.N) : win0_5.index t = ![0, t.val] := (idx t).2.2.2.2.2.1
theorem idx6 (t : Fin cfg0.N) : win0_6.index t = ![0, t.val] := (idx t).2.2.2.2.2.2.1
theorem idx7 (t : Fin cfg0.N) : win0_7.index t = ![0, t.val] := (idx t).2.2.2.2.2.2.2.1
theorem idx8 (t : Fin cfg0.N) : win0_8.index t = ![t.val, 0, 0] := (idx t).2.2.2.2.2.2.2.2.1
theorem dk_canon (c : Dev nD) (t : Fin cfg0.N) : (outsAt0 m c t).2.1 = View.canon (dkL4 (iblk m c 0 t) (iblk m c 1 t) (iblk m c 2 t) (iblk m c 3 t) (iblk m c 4 t) (ms0_6 t).view) := by
  rw [dkL4, View.canon_cons_unit_lit _ _ _ (by intro a; fin_cases a <;> rfl)]
  exact dk_open m c t
theorem dv_canon (c : Dev nD) (t : Fin cfg0.N) : (outsAt0 m c t).2.2.1 = View.canon (dvL4 (iblk m c 0 t) (iblk m c 1 t) (iblk m c 3 t) (iblk m c 4 t) (ms0_7 t).view) := by
  rw [dvL4, View.canon_cons_unit_lit _ _ _ (by intro a; fin_cases a <;> rfl)]
  exact dv_open m c t

variable {m}
section
variable {c : Dev nD} {q k d g : ℕ → ℕ → ℝ} (H : Args m c q k d g) (t : Fin cfg0.N)
include H

/-- The blocks of a pair of heads as real numbers. -/
theorem reals : Reals (iblk m c 0 t) (iblk m c 1 t) (iblk m c 2 t) (iblk m c 3 t) (iblk m c 4 t)
    (fun r l => q r (128 * t.val + l) * (1 / 8)) (fun r l => k r (128 * t.val + l)) (fun r l => k r (1024 + (128 * t.val + l)))
    (fun r l => d r (128 * t.val + l)) (fun e u => g u (2 * t.val + e)) where
  q r l := by
    have ht : t.val < 8 := (idx t).2.2.2.2.2.2.2.2.2
    have hl := l.isLt
    rw [iblk0 m c t r l (by omega), H.q, ofBits_eighth, ← EReal.coe_mul]
  k r l := by
    have ht : t.val < 8 := (idx t).2.2.2.2.2.2.2.2.2
    have hl := l.isLt
    exact (iblk1 m c t r l (by omega)).trans (H.k _ _)
  v r l := by
    have ht : t.val < 8 := (idx t).2.2.2.2.2.2.2.2.2
    have hl := l.isLt
    exact (iblk2 m c t r l (by omega)).trans (H.k _ _)
  d r l := by
    have ht : t.val < 8 := (idx t).2.2.2.2.2.2.2.2.2
    have hl := l.isLt
    exact (iblk3 m c t r l (by omega)).trans (H.d _ _)
  c e u := by
    have ht : t.val < 8 := (idx t).2.2.2.2.2.2.2.2.2
    have he := e.isLt
    exact (iblk4 m c t e u (by omega)).trans (H.g _ _)

end

section
variable (q k d g : ℕ → ℕ → ℝ)
/-- The four gradients of a pair of heads. -/
def gq (p t l : ℕ) : ℝ := DQ (fun r l => q r (128 * p + l) * (1 / 8)) (fun r l => k r (128 * p + l)) (fun r l => k r (1024 + (128 * p + l)))
  (fun r l => d r (128 * p + l)) (fun e u => g u (2 * p + e)) t l
def gk (p u l : ℕ) : ℝ := ∑ t ∈ Finset.range 2048, fK (fun r l => q r (128 * p + l) * (1 / 8)) (fun r l => k r (128 * p + l)) (fun r l => k r (1024 + (128 * p + l)))
  (fun r l => d r (128 * p + l)) (fun e u => g u (2 * p + e)) t u l
def gv (p u l : ℕ) : ℝ := ∑ t ∈ Finset.range 2048, fV (fun r l => q r (128 * p + l) * (1 / 8)) (fun r l => k r (128 * p + l))
  (fun r l => d r (128 * p + l)) (fun e u => g u (2 * p + e)) t u l
def gc (p a u : ℕ) : ℝ := CA (fC (fun r l => q r (128 * p + l) * (1 / 8)) (fun r l => k r (128 * p + l)) (fun r l => k r (1024 + (128 * p + l)))
  (fun r l => d r (128 * p + l)) (fun e u => g u (2 * p + e))) 2048 2048 a u
end

section
variable {c : Dev nD} {q k d g : ℕ → ℕ → ℝ} (H : Args m c q k d g)
include H

theorem dq_final : (dats m 0 c).arrAt 5 (cfgs 0).N = fun i : S2048x1024.Idx => ((gq q k d g ((i 1).val / 128) (i 0).val ((i 1).val % 128) : ℝ) : EReal) := by
  refine (dats m 0 c).arrAt_eq_of_covers 5 _ (by decide +kernel) fun t hf y => ?_
  blk_simp
  rw [after0_5, dq_open]
  have hy : y = ix2 (y 0) (y 1) := by funext a; fin_cases a <;> rfl
  have h0 : win0_5.index t 0 = 0 := by rw [idx5 t]; rfl
  have h1 : win0_5.index t 1 = t.val := by rw [idx5 t]; rfl
  have hl : (y 1).val < 128 := (y 1).isLt
  rw [h0, h1]
  have e1 : (t.val * 128 + (y 1).val) / 128 = t.val := by omega
  have e2 : (t.val * 128 + (y 1).val) % 128 = (y 1).val := by omega
  rw [e1, e2, Nat.zero_mul, Nat.zero_add]
  refine (congrArg _ hy).trans ?_
  exact dq_re (reals H t) (y 0) (y 1)

theorem dk_final : (dats m 0 c).arrAt 6 (cfgs 0).N = fun i : S2048x1024.Idx => ((gk q k d g ((i 1).val / 128) (i 0).val ((i 1).val % 128) : ℝ) : EReal) := by
  refine (dats m 0 c).arrAt_eq_of_covers 6 _ (by decide +kernel) fun t hf y => ?_
  blk_simp
  rw [after0_6, dk_canon]
  have hy : y = ix2 (y 0) (y 1) := by funext a; fin_cases a <;> rfl
  have h0 : win0_6.index t 0 = 0 := by rw [idx6 t]; rfl
  have h1 : win0_6.index t 1 = t.val := by rw [idx6 t]; rfl
  have hl : (y 1).val < 128 := (y 1).isLt
  rw [h0, h1]
  have e1 : (t.val * 128 + (y 1).val) / 128 = t.val := by omega
  have e2 : (t.val * 128 + (y 1).val) % 128 = (y 1).val := by omega
  rw [e1, e2, Nat.zero_mul, Nat.zero_add]
  refine (congrArg _ hy).trans ?_
  exact dk_re (reals H t) _ (y 0) (y 1)

theorem dv_final : (dats m 0 c).arrAt 7 (cfgs 0).N = fun i : S2048x1024.Idx => ((gv q k d g ((i 1).val / 128) (i 0).val ((i 1).val % 128) : ℝ) : EReal) := by
  refine (dats m 0 c).arrAt_eq_of_covers 7 _ (by decide +kernel) fun t hf y => ?_
  blk_simp
  rw [after0_7, dv_canon]
  have hy : y = ix2 (y 0) (y 1) := by funext a; fin_cases a <;> rfl
  have h0 : win0_7.index t 0 = 0 := by rw [idx7 t]; rfl
  have h1 : win0_7.index t 1 = t.val := by rw [idx7 t]; rfl
  have hl : (y 1).val < 128 := (y 1).isLt
  rw [h0, h1]
  have e1 : (t.val * 128 + (y 1).val) / 128 = t.val := by omega
  have e2 : (t.val * 128 + (y 1).val) % 128 = (y 1).val := by omega
  rw [e1, e2, Nat.zero_mul, Nat.zero_add]
  refine (congrArg _ hy).trans ?_
  exact dv_re (reals H t) _ (y 0) (y 1)

theorem dc_final : (dats m 0 c).arrAt 8 (cfgs 0).N = fun i : S8x8x2048.Idx => ((gc q k d g (i 0).val (i 1).val (i 2).val : ℝ) : EReal) := by
  refine (dats m 0 c).arrAt_eq_of_covers 8 _ (by decide +kernel) fun t hf y => ?_
  blk_simp
  rw [after0_8, ck_open]
  have hy : y = ix3 0 (y 1) (y 2) := by funext a; fin_cases a <;> first | rfl | exact Subsingleton.elim (α := Fin 1) _ _
  have h0 : win0_8.index t 0 = t.val := by rw [idx8 t]; rfl
  have h1 : win0_8.index t 1 = 0 := by rw [idx8 t]; rfl
  have h2 : win0_8.index t 2 = 0 := by rw [idx8 t]; rfl
  rw [h0, h1, h2]
  simp only [Nat.zero_mul, Nat.zero_add, Nat.mul_one, Nat.add_zero]
  refine (congrArg _ hy).trans ?_
  exact ck_re (reals H t) _ (y 1) (y 2)

end
end Cert.KernelIdeal.Arr
end
-- ==== Proof.Ref.lean ====
/-
  The reference's results as real numbers of real arguments.
-/
module

public import proofs.«01_k».proof.Proof.Sec
public import proofs.«01_k».proof.Proof.Gen.ReferenceIdeal.Read
public import Idealize.ShloMosaic.Lib.Pipeline.ValueKit

@[expose] public section
set_option maxRecDepth 16384
noncomputable section
namespace Cert.ReferenceIdeal.Ref
open Cert.ReferenceIdeal Cert.ReferenceIdeal.Gen Cert.ReferenceIdeal.Read Idealize.ShloMosaic Idealize.ShloMosaic.TcCoe Idealize.SL.Sem
open Cert.Soft
open Cert.KernelIdeal.Sec (Re ofBits_eighth ofBits_neg_inf)

variable (x0 : (⟨S2048x1024, .bf16⟩ : BufTy).Contents (Elt Ideal)) (x1 : (⟨S2048x2048, .bf16⟩ : BufTy).Contents (Elt Ideal))
  (x2 : (⟨S2048x1024, .bf16⟩ : BufTy).Contents (Elt Ideal)) (x3 : (⟨S2048x16, .f32⟩ : BufTy).Contents (Elt Ideal))

/-- The arguments hold these real numbers. -/
structure Args (q k d g : ℕ → ℕ → ℝ) : Prop where
  q : Re (a := 2048) (b := 1024) (φ := .bf16) x0 q
  k : Re (a := 2048) (b := 2048) (φ := .bf16) x1 k
  d : Re (a := 2048) (b := 1024) (φ := .bf16) x2 d
  g : Re (a := 2048) (b := 16) (φ := .f32) x3 g

section
variable (q k d g : ℕ → ℕ → ℝ)
/-- The scores of a head, and the cotangents of its probabilities. -/
def sr (h t u : ℕ) : ℝ := (∑ e ∈ Finset.range 64, q t (64 * h + e) * k u (64 * h + e)) * (1 / 8) + (g t h - g u h)
def dr (h t u : ℕ) : ℝ := ∑ e ∈ Finset.range 64, d t (64 * h + e) * k u (1024 + (64 * h + e))
end

variable {x0 x1 x2 x3} {q k d g : ℕ → ℕ → ℝ} (H : Args x0 x1 x2 x3 q k d g)
include H

theorem v1_re (t : Fin 2048) (h : Fin 16) (e : Fin 64) : val_main_v1 (F := Ideal) x0 (ix3 t h e) = ((q t.val (64 * h.val + e.val) : ℝ) : EReal) := by
  have hh := h.isLt
  have he := e.isLt
  have e1 : val_main_v1 (F := Ideal) x0 (ix3 t h e) = x0 (ix2 t ⟨64 * h.val + e.val, by omega⟩) := by
    rw [val_main_v1_apply, val_main_v0_apply]
    refine congrArg x0 ?_
    funext a
    apply Fin.ext
    fin_cases a
    · show ((t.val * 16 + h.val) * 64 + e.val) / 1024 = t.val; omega
    · show ((t.val * 16 + h.val) * 64 + e.val) % 1024 = 64 * h.val + e.val; omega
  exact e1.trans (H.q _ _)

theorem v4_re (t : Fin 2048) (h : Fin 16) (e : Fin 64) : val_main_v4 (F := Ideal) x1 (ix3 t h e) = ((k t.val (64 * h.val + e.val) : ℝ) : EReal) := by
  have hh := h.isLt
  have he := e.isLt
  have e1 : val_main_v4 (F := Ideal) x1 (ix3 t h e) = x1 (ix2 t ⟨64 * h.val + e.val, by omega⟩) := by
    rw [val_main_v4_apply, val_main_v3_apply, val_main_v2_apply]
    refine congrArg x1 ?_
    funext a
    apply Fin.ext
    fin_cases a
    · show ((t.val * 16 + h.val) * 64 + e.val) / 1024 = t.val; omega
    · show ((t.val * 16 + h.val) * 64 + e.val) % 1024 = 64 * h.val + e.val; omega
  exact e1.trans (H.k _ _)

theorem v7_re (t : Fin 2048) (h : Fin 16) (e : Fin 64) : val_main_v7 (F := Ideal) x1 (ix3 t h e) = ((k t.val (1024 + (64 * h.val + e.val)) : ℝ) : EReal) := by
  have hh := h.isLt
  have he := e.isLt
  have e1 : val_main_v7 (F := Ideal) x1 (ix3 t h e) = x1 (ix2 t ⟨1024 + (64 * h.val + e.val), by omega⟩) := by
    rw [val_main_v7_apply, val_main_v6_apply, val_main_v5_apply]
    refine congrArg x1 ?_
    funext a
    apply Fin.ext
    fin_cases a
    · show ((t.val * 16 + h.val) * 64 + e.val) / 1024 = t.val; omega
    · show 1024 + ((t.val * 16 + h.val) * 64 + e.val) % 1024 = 1024 + (64 * h.val + e.val); omega
  exact e1.trans (H.k _ _)

theorem v9_re (t : Fin 2048) (h : Fin 16) (e : Fin 64) : val_main_v9 (F := Ideal) x2 (ix3 t h e) = ((d t.val (64 * h.val + e.val) : ℝ) : EReal) := by
  have hh := h.isLt
  have he := e.isLt
  have e1 : val_main_v9 (F := Ideal) x2 (ix3 t h e) = x2 (ix2 t ⟨64 * h.val + e.val, by omega⟩) := by
    rw [val_main_v9_apply, val_main_v8_apply]
    refine congrArg x2 ?_
    funext a
    apply Fin.ext
    fin_cases a
    · show ((t.val * 16 + h.val) * 64 + e.val) / 1024 = t.val; omega
    · show ((t.val * 16 + h.val) * 64 + e.val) % 1024 = 64 * h.val + e.val; omega
  exact e1.trans (H.d _ _)

theorem v19_re (h : Fin 16) (t u : Fin 2048) : val_main_v19 (F := Ideal) x0 x1 x3 (ix3 h t u) = ((sr q k g h.val t.val u.val : ℝ) : EReal) := by
  have e1 : val_main_v19 (F := Ideal) x0 x1 x3 (ix3 h t u) = (∑ e : Fin 64, val_main_v1 (F := Ideal) x0 (ix3 t h e) * val_main_v4 (F := Ideal) x1 (ix3 u h e)) * Ideal.ofBits .f32 0x3E000000#32
      + (x3 (ix2 t h) - x3 (ix2 u h)) := by
    pointwise [val_main_v19, val_main_v13, val_main_v12, val_main_cst, val_main_v11, val_main_v18, val_main_v17, val_main_v16, val_main_v15, val_main_v14, val_main_v10]
  rw [e1, ofBits_eighth, fin_sum _ (fun e => q t.val (64 * h.val + e) * k u.val (64 * h.val + e)) (fun e => by rw [v1_re H, v4_re H, EReal.coe_mul]), sr,
    EReal.coe_add, EReal.coe_mul, EReal.coe_sub]
  congr 1
  exact congrArg₂ _ (H.g _ _) (H.g _ _)

theorem v59_re (h : Fin 16) (t u : Fin 2048) : val_main_v59 (F := Ideal) x1 x2 (ix3 h t u) = ((dr k d h.val t.val u.val : ℝ) : EReal) := by
  have e1 : val_main_v59 (F := Ideal) x1 x2 (ix3 h t u) = ∑ e : Fin 64, val_main_v9 (F := Ideal) x2 (ix3 t h e) * val_main_v7 (F := Ideal) x1 (ix3 u h e) := by
    pointwise [val_main_v59, val_main_v58]
  rw [e1, fin_sum _ (fun e => d t.val (64 * h.val + e) * k u.val (1024 + (64 * h.val + e))) (fun e => by rw [v9_re H, v7_re H, EReal.coe_mul]), dr]

omit H in
theorem mask_re (h : Fin 16) (t u : Fin 2048) (a b : EReal) :
    Scalar.select (val_main_v27_1 (F := Ideal) (ix3 h t u)) a b = if u.val ≤ t.val then a else b := by
  have e1 : val_main_v27_1 (F := Ideal) (ix3 h t u) = IntOp.cmpi .sge (BitVec.ofNat 32 t.val) (BitVec.ofNat 32 u.val) := by
    pointwise [val_main_v27_1, val_main_v26, val_main_v25, val_main_v24, val_main_v23, val_main_v22, val_main_v21, val_main_v20]
  rw [e1]
  have ht := t.isLt
  have hu := u.isLt
  have e2 : (IntOp.cmpi CmpIPredicate.sge (BitVec.ofNat 32 t.val) (BitVec.ofNat 32 u.val) = 1) ↔ u.val ≤ t.val := by
    have e3 : (BitVec.ofNat 32 u.val).sle (BitVec.ofNat 32 t.val) = decide (u.val ≤ t.val) := by
      have e4 : ∀ n : ℕ, n < 2048 → (BitVec.ofNat 32 n).toInt = n := fun n hn => by
        have e5 : (BitVec.ofNat 32 n).toNat = n := by rw [BitVec.toNat_ofNat]; omega
        rw [BitVec.toInt_eq_toNat_of_lt (by omega), e5]
      rw [BitVec.sle_eq_decide, e4 _ hu, e4 _ ht]
      exact decide_eq_decide.mpr Int.ofNat_le
    show (BitVec.ofBool ((BitVec.ofNat 32 u.val).sle (BitVec.ofNat 32 t.val)) = 1) ↔ _
    rw [e3]
    by_cases hut : u.val ≤ t.val <;> simp [hut]
  simp only [Scalar.select, e2]

theorem v27_re (h : Fin 16) (t u : Fin 2048) : val_main_v27_0 (F := Ideal) x0 x1 x3 (ix3 h t u) = if u.val ≤ t.val then ((sr q k g h.val t.val u.val : ℝ) : EReal) else ⊥ := by
  have e1 : val_main_v27_0 (F := Ideal) x0 x1 x3 (ix3 h t u) = Scalar.select (val_main_v27_1 (F := Ideal) (ix3 h t u)) (val_main_v19 (F := Ideal) x0 x1 x3 (ix3 h t u)) (Ideal.ofBits .f32 0xFF800000#32) := by
    rw [val_main_v27_0_apply, val_main_call0_v2_apply]; rfl
  rw [e1, mask_re, v19_re H, ofBits_neg_inf]

omit H in
theorem max_at (y : FVec Ideal S16x2048x2048 .f32) (h : Fin 16) (t : Fin 2048) :
    Host.reduce (FloatOps.maximumf (F := Ideal) (φ := .f32)) y (val_main_cst_1 (F := Ideal)) reducesTo_S16x2048x2048_S16x2048_d2 h_S_ (ix2 h t)
      = Finset.univ.fold max (Ideal.ofBits .f32 0xFF800000#32) fun u : Fin 2048 => y (ix3 h t u) := by
  pointwise [val_main_cst_1]

theorem v35_re (h : Fin 16) (t : Fin 2048) : ∃ μ : ℝ, val_main_v35 (F := Ideal) x0 x1 x3 (ix2 h t) = (μ : EReal) := by
  have hf : ∀ u : Fin 2048, val_main_v27_0 (F := Ideal) x0 x1 x3 (ix3 h t u) < ⊤ := fun u => by
    rw [v27_re H]; split_ifs
    · exact EReal.coe_lt_top _
    · exact bot_lt_top
  obtain ⟨μ, hμ⟩ := fold_real _ hf t (by rw [v27_re H, if_pos le_rfl]; exact EReal.bot_lt_coe _)
  refine ⟨μ, ?_⟩
  rw [val_main_v35_apply, val_main_v34_apply, val_main_v28, max_at, ofBits_neg_inf, hμ]
  show max (Ideal.ofBits .f32 0xFF800000#32) (μ : EReal) = _
  rw [ofBits_neg_inf]
  exact max_eq_right bot_le

theorem v48_re (h : Fin 16) (t : Fin 2048) : ∃ μ : ℝ, ∀ u : Fin 2048, val_main_v48 (F := Ideal) x0 x1 x3 (ix3 h t u) = ((E (sr q k g h.val t.val) μ t.val u.val : ℝ) : EReal) := by
  obtain ⟨μ, hμ⟩ := v35_re H h t
  refine ⟨μ, fun u => ?_⟩
  have e1 : val_main_v48 (F := Ideal) x0 x1 x3 (ix3 h t u) = Ideal.exp (val_main_v27_0 (F := Ideal) x0 x1 x3 (ix3 h t u) - val_main_v35 (F := Ideal) x0 x1 x3 (ix2 h t)) := by
    pointwise [val_main_v48, val_main_v47, val_main_v46, val_main_v45]
  rw [e1, hμ]
  exact exp_masked _ _ _ _ _ (v27_re H h t u)

omit H in
theorem v50_at (h : Fin 16) (t : Fin 2048) : val_main_v50 (F := Ideal) x0 x1 x3 (ix3 h t (0 : Fin 1)) = ∑ u : Fin 2048, val_main_v48 (F := Ideal) x0 x1 x3 (ix3 h t u) := by
  pointwise [val_main_v50, val_main_v49, val_main_cst_9]

theorem v52_re (h : Fin 16) (t u : Fin 2048) : val_main_v52 (F := Ideal) x0 x1 x3 (ix3 h t u) = ((P (sr q k g h.val t.val) t.val u.val : ℝ) : EReal) := by
  obtain ⟨μ, hμ⟩ := v48_re H h t
  have e1 : val_main_v52 (F := Ideal) x0 x1 x3 (ix3 h t u) = Ideal.div (val_main_v48 (F := Ideal) x0 x1 x3 (ix3 h t u)) (val_main_v50 (F := Ideal) x0 x1 x3 (ix3 h t (0 : Fin 1))) := by
    pointwise [val_main_v52, val_main_v51]
  have hL := E_sum_pos (sr q k g h.val t.val) μ t.val 2048 t.isLt
  rw [e1, v50_at, fin_sum _ _ hμ, hμ, Ideal.div_coe hL.ne', ← E_div _ μ _ _ 2048 t.isLt, EReal.coe_mul]

/-- The masked gradient of the scores. -/
theorem v74_re (h : Fin 16) (t u : Fin 2048) : val_main_v74 (F := Ideal) x0 x1 x2 x3 (ix3 h t u) = ((DS (sr q k g h.val t.val) (dr k d h.val t.val) t.val u.val : ℝ) : EReal) := by
  obtain ⟨μ, hμ⟩ := v48_re H h t
  have hL := E_sum_pos (sr q k g h.val t.val) μ t.val 2048 t.isLt
  set L := ∑ u ∈ Finset.range 2048, E (sr q k g h.val t.val) μ t.val u with hLd
  have e50 : val_main_v50 (F := Ideal) x0 x1 x3 (ix3 h t (0 : Fin 1)) = (L : EReal) := (v50_at h t).trans (fin_sum _ _ hμ)
  have e55 : val_main_v55 (F := Ideal) x0 x1 x3 (ix3 h t (0 : Fin 1)) = ((1 / (L * L) : ℝ) : EReal) := by
    have e1 : val_main_v55 (F := Ideal) x0 x1 x3 (ix3 h t (0 : Fin 1)) = Ideal.div (Ideal.ofBits .f32 0x3F800000#32)
        (val_main_v50 (F := Ideal) x0 x1 x3 (ix3 h t (0 : Fin 1)) * val_main_v50 (F := Ideal) x0 x1 x3 (ix3 h t (0 : Fin 1))) := by
      pointwise [val_main_v55, val_main_v54, val_main_v53, val_main_cst_10]
    rw [e1, e50, Ideal.ofBits_one_f32, ← EReal.coe_mul, Ideal.div_coe (mul_pos hL hL).ne', one_mul]
  have e64 : ∀ u : Fin 2048, val_main_v64 (F := Ideal) x0 x1 x2 x3 (ix3 h t u) = ((dr k d h.val t.val u.val * (1 / (L * L)) * E (sr q k g h.val t.val) μ t.val u.val : ℝ) : EReal) := fun u => by
    have e1 : val_main_v64 (F := Ideal) x0 x1 x2 x3 (ix3 h t u) = val_main_v59 (F := Ideal) x1 x2 (ix3 h t u) * val_main_v55 (F := Ideal) x0 x1 x3 (ix3 h t (0 : Fin 1)) * val_main_v48 (F := Ideal) x0 x1 x3 (ix3 h t u) := by
      pointwise [val_main_v64, val_main_v63, val_main_v62]
    rw [e1, v59_re H, e55, hμ, EReal.coe_mul, EReal.coe_mul]
  set S := ∑ u ∈ Finset.range 2048, dr k d h.val t.val u * (1 / (L * L)) * E (sr q k g h.val t.val) μ t.val u with hS
  have e65 : val_main_v65 (F := Ideal) x0 x1 x2 x3 (ix2 h t) = (S : EReal) := by
    have e1 : val_main_v65 (F := Ideal) x0 x1 x2 x3 (ix2 h t) = ∑ u : Fin 2048, val_main_v64 (F := Ideal) x0 x1 x2 x3 (ix3 h t u) := by
      pointwise [val_main_v65, val_main_cst_11]
    rw [e1]
    exact fin_sum _ (fun u => dr k d h.val t.val u * (1 / (L * L)) * E (sr q k g h.val t.val) μ t.val u) e64
  have e70 : val_main_v70 (F := Ideal) x0 x1 x2 x3 (ix2 h t) = ((-S : ℝ) : EReal) := by
    have e1 : val_main_v70 (F := Ideal) x0 x1 x2 x3 (ix2 h t) = -val_main_v65 (F := Ideal) x0 x1 x2 x3 (ix2 h t) := by
      pointwise [val_main_v70, val_main_cst_12, val_main_v67, val_main_v66]
      exact Fin.sum_univ_one _
    rw [e1, e65, EReal.coe_neg]
  have e73 : val_main_v73 (F := Ideal) x0 x1 x2 x3 (ix3 h t u) = (((dr k d h.val t.val u.val / L + -S) * E (sr q k g h.val t.val) μ t.val u.val : ℝ) : EReal) := by
    have e1 : val_main_v73 (F := Ideal) x0 x1 x2 x3 (ix3 h t u) = (Ideal.div (val_main_v59 (F := Ideal) x1 x2 (ix3 h t u)) (val_main_v50 (F := Ideal) x0 x1 x3 (ix3 h t (0 : Fin 1)))
        + val_main_v70 (F := Ideal) x0 x1 x2 x3 (ix2 h t)) * val_main_v48 (F := Ideal) x0 x1 x3 (ix3 h t u) := by
      pointwise [val_main_v73, val_main_v72, val_main_v71, val_main_v69, val_main_v68]
    rw [e1, v59_re H, e50, e70, hμ, Ideal.div_coe hL.ne', ← EReal.coe_mul, ← EReal.coe_add, ← EReal.coe_mul, mul_one_div]
  have e74 : val_main_v74 (F := Ideal) x0 x1 x2 x3 (ix3 h t u) = Scalar.select (val_main_v27_1 (F := Ideal) (ix3 h t u)) (val_main_v73 (F := Ideal) x0 x1 x2 x3 (ix3 h t u)) (Ideal.ofBits .f32 0x00000000#32) := by
    rw [val_main_v74_apply, val_main_call1_v0_apply]; rfl
  rw [e74, mask_re, e73]
  have hE : ∀ u, P (sr q k g h.val t.val) t.val u = E (sr q k g h.val t.val) μ t.val u / L := fun u => by
    rw [← E_div _ μ _ _ 2048 t.isLt, mul_one_div]
  split_ifs with hut
  · congr 1
    have hS' : ∑ x ∈ Finset.range (t.val + 1), P (sr q k g h.val t.val) t.val x * dr k d h.val t.val x = S * L := by
      rw [← sum_causal t.val 2048 t.isLt _ (fun x hx => by rw [P_of_lt _ _ _ hx, zero_mul]), hS, Finset.sum_mul]
      refine Finset.sum_congr rfl fun x _ => ?_
      rw [hE]
      field_simp
    rw [DS, hS', hE]
    field_simp
    ring
  · rw [DS_of_lt _ _ _ _ (by omega), EReal.coe_zero]
    exact Ideal.ofBits_zero_f32

/-- The cumulative gates' gradient. -/
theorem v82_re (h : Fin 16) (u : Fin 2048) : val_main_v82 (F := Ideal) x0 x1 x2 x3 (ix2 h u)
    = ((-∑ t ∈ Finset.range 2048, DS (sr q k g h.val t) (dr k d h.val t) t u.val : ℝ) : EReal) := by
  have e81 : val_main_v81 (F := Ideal) x0 x1 x2 x3 (ix2 h u) = 0 := by
    have e1 : val_main_v81 (F := Ideal) x0 x1 x2 x3 (ix2 h u) = ∑ x : Fin 2048, val_main_v74 (F := Ideal) x0 x1 x2 x3 (ix3 h u x) := by
      pointwise [val_main_v81, val_main_cst_16, val_main_v76, val_main_v75, val_main_cst_13]
      exact Fin.sum_univ_one _
    rw [e1, fin_sum _ _ (v74_re H h u), DS_sum _ _ _ _ u.isLt, EReal.coe_zero]
  have e80 : val_main_v80 (F := Ideal) x0 x1 x2 x3 (ix2 h u) = ∑ t : Fin 2048, -val_main_v74 (F := Ideal) x0 x1 x2 x3 (ix3 h t u) := by
    pointwise [val_main_v80, val_main_cst_15, val_main_v79, val_main_v78, val_main_cst_14, val_main_v77]
    exact Fin.sum_univ_one _
  rw [val_main_v82_apply]
  show val_main_v80 (F := Ideal) x0 x1 x2 x3 (ix2 h u) + val_main_v81 (F := Ideal) x0 x1 x2 x3 (ix2 h u) = _
  rw [e81, add_zero, e80, fin_sum _ (fun t => -DS (sr q k g h.val t) (dr k d h.val t) t u.val) (fun t => by rw [v74_re H, EReal.coe_neg]), Finset.sum_neg_distrib]

theorem dc_re (i : S8x8x2048.Idx) : val_main_v93 (F := Ideal) x0 x1 x2 x3 i = (((if (i 1).val < 2 then ∑ t ∈ Finset.range 2048,
      DS (sr q k g (2 * (i 0).val + (i 1).val) t) (dr k d (2 * (i 0).val + (i 1).val) t) t (i 2).val else 0 : ℝ)) : EReal) := by
  obtain ⟨p, a, u, rfl⟩ : ∃ (p : Fin 8) (a : Fin 8) (u : Fin 2048), i = ix3 p a u := ⟨i 0, i 1, i 2, by funext x; fin_cases x <;> rfl⟩
  show val_main_v93 (F := Ideal) x0 x1 x2 x3 (ix3 p a u) = (((if a.val < 2 then ∑ t ∈ Finset.range 2048,
      DS (sr q k g (2 * p.val + a.val) t) (dr k d (2 * p.val + a.val) t) t u.val else 0 : ℝ)) : EReal)
  have hp := p.isLt
  split_ifs with ha
  · have e1 : val_main_v93 (F := Ideal) x0 x1 x2 x3 (ix3 p a u) = -val_main_v82 (F := Ideal) x0 x1 x2 x3 (ix2 (⟨2 * p.val + a.val, by omega⟩ : Fin 16) u) := by
      pointwise [val_main_v93, val_main_v92, val_main_v91, val_main_v90, val_main_v89]
      rw [dif_pos ha]
      refine congrArg (fun x => -val_main_v82 (F := Ideal) x0 x1 x2 x3 (ix2 x u)) (Fin.ext ?_)
      show p.val * 2 + a.val = 2 * p.val + a.val
      omega
    rw [e1, v82_re H, ← EReal.coe_neg, neg_neg]
  · have e1 : val_main_v93 (F := Ideal) x0 x1 x2 x3 (ix3 p a u) = 0 := by
      pointwise [val_main_v93]
      rw [dif_neg ha]
      show (((0#32 : BitVec 32).toInt : ℝ) : EReal) = 0
      simp
    rw [e1, EReal.coe_zero]

omit H in
theorem v94_at (r : Fin 2048) (j : Fin 1024) : val_main_v94 (F := Ideal) x0 x1 x2 x3 (ix2 r j)
    = val_main_v88 (F := Ideal) x0 x1 x2 x3 (ix3 r (⟨j.val / 64, by omega⟩ : Fin 16) (⟨j.val % 64, by omega⟩ : Fin 64)) := by
  rw [val_main_v94_apply]
  refine congrArg (val_main_v88 (F := Ideal) x0 x1 x2 x3) ?_
  funext a
  apply Fin.ext
  have hr := r.isLt
  have hj := j.isLt
  fin_cases a
  · show (r.val * 1024 + j.val) / 1024 = r.val; omega
  · show (r.val * 1024 + j.val) / 64 % 16 = j.val / 64; omega
  · show (r.val * 1024 + j.val) % 64 = j.val % 64; omega

omit H in
theorem v96_at (r : Fin 2048) (j : Fin 1024) : val_main_v96 (F := Ideal) x0 x1 x2 x3 (ix2 r j)
    = val_main_v86 (F := Ideal) x0 x1 x2 x3 (ix3 r (⟨j.val / 64, by omega⟩ : Fin 16) (⟨j.val % 64, by omega⟩ : Fin 64)) := by
  rw [val_main_v96_apply]
  refine congrArg (val_main_v86 (F := Ideal) x0 x1 x2 x3) ?_
  funext a
  apply Fin.ext
  have hr := r.isLt
  have hj := j.isLt
  fin_cases a
  · show (r.val * 1024 + j.val) / 1024 = r.val; omega
  · show (r.val * 1024 + j.val) / 64 % 16 = j.val / 64; omega
  · show (r.val * 1024 + j.val) % 64 = j.val % 64; omega

omit H in
theorem v97_at (r : Fin 2048) (j : Fin 1024) : val_main_v97 (F := Ideal) x0 x1 x2 x3 (ix2 r j)
    = val_main_v61 (F := Ideal) x0 x1 x2 x3 (ix3 r (⟨j.val / 64, by omega⟩ : Fin 16) (⟨j.val % 64, by omega⟩ : Fin 64)) := by
  rw [val_main_v97_apply]
  refine congrArg (val_main_v61 (F := Ideal) x0 x1 x2 x3) ?_
  funext a
  apply Fin.ext
  have hr := r.isLt
  have hj := j.isLt
  fin_cases a
  · show (r.val * 1024 + j.val) / 1024 = r.val; omega
  · show (r.val * 1024 + j.val) / 64 % 16 = j.val / 64; omega
  · show (r.val * 1024 + j.val) % 64 = j.val % 64; omega

theorem dq_re (r : Fin 2048) (j : Fin 1024) : val_main_v95 (F := Ideal) x0 x1 x2 x3 (ix2 r j) = ((∑ x ∈ Finset.range 2048,
      DS (sr q k g (j.val / 64) r.val) (dr k d (j.val / 64) r.val) r.val x * (1 / 8) * k x j.val : ℝ) : EReal) := by
  have hj := j.isLt
  have ej : 64 * (j.val / 64) + j.val % 64 = j.val := by omega
  have e1 : val_main_v95 (F := Ideal) x0 x1 x2 x3 (ix2 r j) = ∑ x : Fin 2048, val_main_v74 (F := Ideal) x0 x1 x2 x3 (ix3 (⟨j.val / 64, by omega⟩ : Fin 16) r x) * Ideal.ofBits .f32 0x3E000000#32 * val_main_v4 (F := Ideal) x1 (ix3 x (⟨j.val / 64, by omega⟩ : Fin 16) (⟨j.val % 64, by omega⟩ : Fin 64)) := by
    refine Eq.trans (b := val_main_v94 (F := Ideal) x0 x1 x2 x3 (ix2 r j)) rfl ?_
    rw [v94_at]
    pointwise [val_main_v88, val_main_v87, val_main_v84, val_main_v83, val_main_cst_17]
  rw [e1]
  refine fin_sum _ (fun x => DS (sr q k g (j.val / 64) r.val) (dr k d (j.val / 64) r.val) r.val x * (1 / 8) * k x j.val) fun x => ?_
  rw [v74_re H, v4_re H, ofBits_eighth, ← EReal.coe_mul, ← EReal.coe_mul]
  show ((_ * k x.val (64 * (j.val / 64) + j.val % 64) : ℝ) : EReal) = _
  rw [ej]

theorem dk_re (r : Fin 2048) (j : Fin 1024) : val_main_v96 (F := Ideal) x0 x1 x2 x3 (ix2 r j) = ((∑ x ∈ Finset.range 2048,
      DS (sr q k g (j.val / 64) x) (dr k d (j.val / 64) x) x r.val * (1 / 8) * q x j.val : ℝ) : EReal) := by
  have hj := j.isLt
  have ej : 64 * (j.val / 64) + j.val % 64 = j.val := by omega
  have e1 : val_main_v96 (F := Ideal) x0 x1 x2 x3 (ix2 r j) = ∑ x : Fin 2048, val_main_v74 (F := Ideal) x0 x1 x2 x3 (ix3 (⟨j.val / 64, by omega⟩ : Fin 16) x r) * Ideal.ofBits .f32 0x3E000000#32 * val_main_v1 (F := Ideal) x0 (ix3 x (⟨j.val / 64, by omega⟩ : Fin 16) (⟨j.val % 64, by omega⟩ : Fin 64)) := by
    skip
    rw [v96_at]
    pointwise [val_main_v86, val_main_v85, val_main_v84, val_main_v83, val_main_cst_17]
  rw [e1]
  refine fin_sum _ (fun x => DS (sr q k g (j.val / 64) x) (dr k d (j.val / 64) x) x r.val * (1 / 8) * q x j.val) fun x => ?_
  rw [v74_re H, v1_re H, ofBits_eighth, ← EReal.coe_mul, ← EReal.coe_mul]
  show ((_ * q x.val (64 * (j.val / 64) + j.val % 64) : ℝ) : EReal) = _
  rw [ej]

theorem dv_re (r : Fin 2048) (j : Fin 1024) : val_main_v97 (F := Ideal) x0 x1 x2 x3 (ix2 r j) = ((∑ x ∈ Finset.range 2048,
      d x j.val * P (sr q k g (j.val / 64) x) x r.val : ℝ) : EReal) := by
  have hj := j.isLt
  have ej : 64 * (j.val / 64) + j.val % 64 = j.val := by omega
  have e1 : val_main_v97 (F := Ideal) x0 x1 x2 x3 (ix2 r j) = ∑ x : Fin 2048, val_main_v9 (F := Ideal) x2 (ix3 x (⟨j.val / 64, by omega⟩ : Fin 16) (⟨j.val % 64, by omega⟩ : Fin 64)) * val_main_v52 (F := Ideal) x0 x1 x3 (ix3 (⟨j.val / 64, by omega⟩ : Fin 16) x r) := by
    skip
    rw [v97_at]
    pointwise [val_main_v61, val_main_v60, val_main_v58]
  rw [e1]
  refine fin_sum _ (fun x => d x j.val * P (sr q k g (j.val / 64) x) x r.val) fun x => ?_
  rw [v52_re H, v9_re H, ← EReal.coe_mul]
  show ((d x.val (64 * (j.val / 64) + j.val % 64) * _ : ℝ) : EReal) = _
  rw [ej]

end Cert.ReferenceIdeal.Ref
end
-- ==== Proof.Bridge.lean ====
/-
  The kernel's four results and the reference's four results are the same real numbers: the lanes of a pair of heads are two
  heads of sixty-four lanes, the scale is moved across the product, and a row's own gate leaves its softmax unchanged.
-/
module

public import proofs.«01_k».proof.Proof.Arr
public import proofs.«01_k».proof.Proof.Ref

@[expose] public section
noncomputable section
namespace Cert.Bridge
open Idealize.ShloMosaic
open Cert.Soft Cert.KernelIdeal.Sec Cert.KernelIdeal.Val Cert.KernelIdeal.Arr Cert.ReferenceIdeal.Ref

theorem half_slt (a b : ℕ → ℝ) : ∑ x ∈ Finset.range 128, keep .slt x (a x) * b x = ∑ e ∈ Finset.range 64, a e * b e := by
  rw [show 128 = 64 + 64 from rfl, Finset.sum_range_add]
  have h1 : ∑ e ∈ Finset.range 64, keep .slt e (a e) * b e = ∑ e ∈ Finset.range 64, a e * b e :=
    Finset.sum_congr rfl fun e he => by
      have := Finset.mem_range.mp he
      rw [keep_slt _ (by omega), if_pos this]
  have h2 : ∑ e ∈ Finset.range 64, keep .slt (64 + e) (a (64 + e)) * b (64 + e) = 0 :=
    Finset.sum_eq_zero fun e he => by
      have := Finset.mem_range.mp he
      rw [keep_slt _ (by omega), if_neg (by omega), zero_mul]
  rw [h1, h2, add_zero]

theorem half_sge (a b : ℕ → ℝ) : ∑ x ∈ Finset.range 128, keep .sge x (a x) * b x = ∑ e ∈ Finset.range 64, a (64 + e) * b (64 + e) := by
  rw [show 128 = 64 + 64 from rfl, Finset.sum_range_add]
  have h1 : ∑ e ∈ Finset.range 64, keep .sge e (a e) * b e = 0 :=
    Finset.sum_eq_zero fun e he => by
      have := Finset.mem_range.mp he
      rw [keep_sge _ (by omega), if_pos this, zero_mul]
  have h2 : ∑ e ∈ Finset.range 64, keep .sge (64 + e) (a (64 + e)) * b (64 + e) = ∑ e ∈ Finset.range 64, a (64 + e) * b (64 + e) :=
    Finset.sum_congr rfl fun e he => by
      have := Finset.mem_range.mp he
      rw [keep_sge _ (by omega), if_neg (by omega)]
  rw [h1, h2, zero_add]

theorem DS_shift (s g : ℕ → ℝ) (a : ℝ) (t u : ℕ) : DS (fun x => s x + a) g t u = DS s g t u := by
  unfold DS
  simp only [P_shift]

variable (q k d g : ℕ → ℕ → ℝ)

theorem scr_slt (p t : ℕ) : scr .slt (fun r l => q r (128 * p + l) * (1 / 8)) (fun r l => k r (128 * p + l)) (fun u => g u (2 * p + 0)) t
    = fun u => sr q k g (2 * p) t u + -g t (2 * p) := by
  funext u
  rw [scr, half_slt (fun l => q t (128 * p + l) * (1 / 8)) (fun l => k u (128 * p + l)), sr, Finset.sum_mul]
  have : ∑ e ∈ Finset.range 64, q t (128 * p + e) * (1 / 8) * k u (128 * p + e)
      = ∑ e ∈ Finset.range 64, q t (64 * (2 * p) + e) * k u (64 * (2 * p) + e) * (1 / 8) := Finset.sum_congr rfl fun e _ => by
    rw [show 64 * (2 * p) + e = 128 * p + e by omega]; ring
  rw [this]
  ring

theorem scr_sge (p t : ℕ) : scr .sge (fun r l => q r (128 * p + l) * (1 / 8)) (fun r l => k r (128 * p + l)) (fun u => g u (2 * p + 1)) t
    = fun u => sr q k g (2 * p + 1) t u + -g t (2 * p + 1) := by
  funext u
  rw [scr, half_sge (fun l => q t (128 * p + l) * (1 / 8)) (fun l => k u (128 * p + l)), sr, Finset.sum_mul]
  have : ∑ e ∈ Finset.range 64, q t (128 * p + (64 + e)) * (1 / 8) * k u (128 * p + (64 + e))
      = ∑ e ∈ Finset.range 64, q t (64 * (2 * p + 1) + e) * k u (64 * (2 * p + 1) + e) * (1 / 8) := Finset.sum_congr rfl fun e _ => by
    rw [show 64 * (2 * p + 1) + e = 128 * p + (64 + e) by omega]; ring
  rw [this]
  ring

theorem dpr_slt (p t : ℕ) : dpr .slt (fun r l => d r (128 * p + l)) (fun r l => k r (1024 + (128 * p + l))) t = dr k d (2 * p) t := by
  funext u
  rw [dpr, half_slt (fun l => d t (128 * p + l)) (fun l => k u (1024 + (128 * p + l))), dr]
  exact Finset.sum_congr rfl fun e _ => by rw [show 64 * (2 * p) + e = 128 * p + e by omega]

theorem dpr_sge (p t : ℕ) : dpr .sge (fun r l => d r (128 * p + l)) (fun r l => k r (1024 + (128 * p + l))) t = dr k d (2 * p + 1) t := by
  funext u
  rw [dpr, half_sge (fun l => d t (128 * p + l)) (fun l => k u (1024 + (128 * p + l))), dr]
  exact Finset.sum_congr rfl fun e _ => by rw [show 64 * (2 * p + 1) + e = 128 * p + (64 + e) by omega]

theorem ds_slt (p t u : ℕ) : ds (fun r l => q r (128 * p + l) * (1 / 8)) (fun r l => k r (128 * p + l)) (fun r l => k r (1024 + (128 * p + l)))
    (fun r l => d r (128 * p + l)) (fun e u => g u (2 * p + e)) .slt 0 t u = DS (sr q k g (2 * p) t) (dr k d (2 * p) t) t u := by
  show DS (scr .slt _ _ (fun u => g u (2 * p + 0)) t) (dpr .slt _ _ t) t u = _
  rw [scr_slt, dpr_slt, DS_shift]

theorem ds_sge (p t u : ℕ) : ds (fun r l => q r (128 * p + l) * (1 / 8)) (fun r l => k r (128 * p + l)) (fun r l => k r (1024 + (128 * p + l)))
    (fun r l => d r (128 * p + l)) (fun e u => g u (2 * p + e)) .sge 1 t u = DS (sr q k g (2 * p + 1) t) (dr k d (2 * p + 1) t) t u := by
  show DS (scr .sge _ _ (fun u => g u (2 * p + 1)) t) (dpr .sge _ _ t) t u = _
  rw [scr_sge, dpr_sge, DS_shift]

theorem pw_slt (p t u : ℕ) : pw (fun r l => q r (128 * p + l) * (1 / 8)) (fun r l => k r (128 * p + l))
    (fun e u => g u (2 * p + e)) .slt 0 t u = P (sr q k g (2 * p) t) t u := by
  show P (scr .slt _ _ (fun u => g u (2 * p + 0)) t) t u = _
  rw [scr_slt, P_shift]

theorem pw_sge (p t u : ℕ) : pw (fun r l => q r (128 * p + l) * (1 / 8)) (fun r l => k r (128 * p + l))
    (fun e u => g u (2 * p + e)) .sge 1 t u = P (sr q k g (2 * p + 1) t) t u := by
  show P (scr .sge _ _ (fun u => g u (2 * p + 1)) t) t u = _
  rw [scr_sge, P_shift]

/-- Of the two masked terms of a lane, the one of the lane's own head is left. -/
theorem lane (f : ℕ → ℝ) (y : ℕ → ℝ) (j : ℕ) :
    f (2 * (j / 128)) * keep .slt (j % 128) (y (128 * (j / 128) + j % 128)) + f (2 * (j / 128) + 1) * keep .sge (j % 128) (y (128 * (j / 128) + j % 128))
      = f (j / 64) * y j := by
  have h : j % 128 < 128 := Nat.mod_lt _ (by omega)
  rw [keep_slt _ h, keep_sge _ h, show 128 * (j / 128) + j % 128 = j by omega]
  split_ifs with hl
  · rw [show j / 64 = 2 * (j / 128) by omega, mul_zero, add_zero]
  · rw [show j / 64 = 2 * (j / 128) + 1 by omega, mul_zero, zero_add]

theorem gq_eq (t j : ℕ) : gq q k d g (j / 128) t (j % 128)
    = ∑ u ∈ Finset.range 2048, DS (sr q k g (j / 64) t) (dr k d (j / 64) t) t u * (1 / 8) * k u j := by
  unfold gq DQ
  rw [← Finset.sum_add_distrib, Finset.sum_mul]
  refine Finset.sum_congr rfl fun u _ => ?_
  rw [ds_slt, ds_sge, lane (fun h => DS (sr q k g h t) (dr k d h t) t u) (k u)]
  ring

theorem gk_eq (u j : ℕ) : gk q k d g (j / 128) u (j % 128)
    = ∑ t ∈ Finset.range 2048, DS (sr q k g (j / 64) t) (dr k d (j / 64) t) t u * (1 / 8) * q t j := by
  unfold gk fK
  refine Finset.sum_congr rfl fun t _ => ?_
  rw [ds_slt, ds_sge, lane (fun h => DS (sr q k g h t) (dr k d h t) t u) (fun j => q t j * (1 / 8))]
  ring

theorem gv_eq (u j : ℕ) : gv q k d g (j / 128) u (j % 128)
    = ∑ t ∈ Finset.range 2048, d t j * P (sr q k g (j / 64) t) t u := by
  unfold gv fV
  refine Finset.sum_congr rfl fun t _ => ?_
  rw [pw_slt, pw_sge, lane (fun h => P (sr q k g h t) t u) (d t)]
  ring

theorem gc_eq (p a u : ℕ) : gc q k d g p a u
    = if a < 2 then ∑ t ∈ Finset.range 2048, DS (sr q k g (2 * p + a) t) (dr k d (2 * p + a) t) t u else 0 := by
  unfold gc CA
  by_cases h0 : a = 0
  · subst h0
    rw [if_pos rfl, if_pos (by omega)]
    exact Finset.sum_congr rfl fun t _ => by rw [fC, if_pos rfl, ds_slt]; rfl
  · rw [if_neg h0]
    by_cases h1 : a = 1
    · subst h1
      rw [if_pos rfl, if_pos (by omega)]
      exact Finset.sum_congr rfl fun t _ => by rw [fC, if_neg (by omega), ds_sge]
    · rw [if_neg h1, if_neg (by omega)]

end Cert.Bridge
end
-- ==== Proof.Fin.lean ====
/-
  The precondition: arguments of finite magnitude hold real numbers.
-/
module

public import proofs.«01_k».proof.Pre_finite
public import proofs.«01_k».proof.Proof.Sec

@[expose] public section
noncomputable section
namespace Cert.Fin
open Idealize.ShloMosaic Cert.Soft Cert.KernelIdeal.Sec

instance facts : Cert.Pre_finite.Facts := ⟨by decide, by decide, by decide, by decide⟩

theorem ofBits_inf : Ideal.ofBits .f32 0x7F800000#32 = ⊤ := by simp [Ideal.ofBits, Ideal.ieee]

theorem real_of_cmp (x : EReal) (h : Ideal.cmp .olt (max x (-x)) (Ideal.ofBits .f32 0x7F800000#32) = 1#1) : x = ((x.toReal : ℝ) : EReal) := by
  rw [ofBits_inf] at h
  have h' : max x (-x) < ⊤ := by
    by_contra hn
    simp [Ideal.cmp, hn] at h
  have h1 : x < ⊤ := (le_max_left _ _).trans_lt h'
  have h2 : -x < ⊤ := (le_max_right _ _).trans_lt h'
  refine (EReal.coe_toReal h1.ne fun hb => ?_).symm
  rw [hb, EReal.neg_bot] at h2
  exact lt_irrefl _ h2

/-- The real numbers an array of finite numbers holds. -/
def reals {a b : ℕ} (x : (M2 a b).Idx → EReal) (i j : ℕ) : ℝ := if h : i < a ∧ j < b then (x (ix2 ⟨i, h.1⟩ ⟨j, h.2⟩)).toReal else 0

theorem reals_at {a b : ℕ} (x : (M2 a b).Idx → EReal) (h : ∀ i, Ideal.cmp .olt (max (x i) (-x i)) (Ideal.ofBits .f32 0x7F800000#32) = 1#1)
    (i : Fin a) (j : Fin b) : x (ix2 i j) = ((reals x i.val j.val : ℝ) : EReal) := by
  rw [reals, dif_pos ⟨i.isLt, j.isLt⟩]
  exact real_of_cmp _ (h _)

variable {x0 : FVec Ideal Cert.Pre_finite.S2048x1024 .bf16} {x1 : FVec Ideal Cert.Pre_finite.S2048x2048 .bf16}
  {x2 : FVec Ideal Cert.Pre_finite.S2048x1024 .bf16} {x3 : FVec Ideal Cert.Pre_finite.S2048x16 .f32}

theorem re0 (h : (Cert.Pre_finite.fn (F := Ideal) x0 x1 x2 x3).1 = fun _ => 1#1) : Re (a := 2048) (b := 1024) (φ := .bf16) x0 (reals (a := 2048) (b := 1024) x0) :=
  reals_at (a := 2048) (b := 1024) x0 fun i => congrFun h i
theorem re1 (h : (Cert.Pre_finite.fn (F := Ideal) x0 x1 x2 x3).2.1 = fun _ => 1#1) : Re (a := 2048) (b := 2048) (φ := .bf16) x1 (reals (a := 2048) (b := 2048) x1) :=
  reals_at (a := 2048) (b := 2048) x1 fun i => congrFun h i
theorem re2 (h : (Cert.Pre_finite.fn (F := Ideal) x0 x1 x2 x3).2.2.1 = fun _ => 1#1) : Re (a := 2048) (b := 1024) (φ := .bf16) x2 (reals (a := 2048) (b := 1024) x2) :=
  reals_at (a := 2048) (b := 1024) x2 fun i => congrFun h i
theorem re3 (h : (Cert.Pre_finite.fn (F := Ideal) x0 x1 x2 x3).2.2.2 = fun _ => 1#1) : Re (a := 2048) (b := 16) (φ := .f32) x3 (reals (a := 2048) (b := 16) x3) :=
  reals_at (a := 2048) (b := 16) x3 fun i => congrFun h i

end Cert.Fin
end
-- ==== Proof.FwdSec.lean ====
/-
  One row block of the forgetting attention's forward pass: the exponentials of its scores and their row sums, the products with
  the values divided by the sums, and what these hold when their inputs are reals.
-/
module

public import proofs.«01_k».proof.Proof.Gen.FoxFwdIdeal.Value
public import proofs.«01_k».proof.Proof.Val

@[expose] public section
set_option maxRecDepth 16384
noncomputable section
namespace Cert.Fwd
open Cert.KernelIdeal Cert.KernelIdeal.Gen Idealize.ShloMosaic Idealize.ShloMosaic.TcCoe Idealize.SL.Sem
open Cert.KernelIdeal.Sec Cert.Soft

/-- The exponentials of a row block's scores less their row's maximum, and their row sums. -/
def EX (n np : ℕ) (hs : (M2 512 n).Slices ![0, np] S512x512) (hp : (M2 512 n).Slices ![0, 0] (M2 512 np))
    (hr : (M2 512 np).Reduces [1] S512) (hb : S512x1.Broadcasts (M2 512 np))
    (hc : Shape.Concatenates [M2 512 np, S512x512] (M2 512 n) 1) (S : FVec Ideal (M2 512 n) .f32) : FVec Ideal (M2 512 n) .f32 :=
  let d := diag n np hs S
  let p := extractStridedSlice (M2 512 np) ![0, 0] S hp
  let mx := maximumf (rowMax 512 reduces_S512x512_S512 d) (rowMax np hr p)
  concatenate (M2 512 n) 1 [⟨M2 512 np, exp (subf p (broadcastTo (M2 512 np) mx hb))⟩,
    ⟨S512x512, exp (subf d (broadcastTo S512x512 mx broadcasts_S512x1_S512x512))⟩] hc

def LS (n np : ℕ) (hs : (M2 512 n).Slices ![0, np] S512x512) (hp : (M2 512 n).Slices ![0, 0] (M2 512 np))
    (hr : (M2 512 np).Reduces [1] S512) (hb : S512x1.Broadcasts (M2 512 np)) (S : FVec Ideal (M2 512 n) .f32) : FVec Ideal S512x1 .f32 :=
  let d := diag n np hs S
  let p := extractStridedSlice (M2 512 np) ![0, 0] S hp
  let mx := maximumf (rowMax 512 reduces_S512x512_S512 d) (rowMax np hr p)
  addf (rowSum np hr (exp (subf p (broadcastTo (M2 512 np) mx hb))))
    (rowSum 512 reduces_S512x512_S512 (exp (subf d (broadcastTo S512x512 mx broadcasts_S512x1_S512x512))))

/-- The first row block has no past. -/
def EX0 (S : FVec Ideal S512x512 .f32) : FVec Ideal S512x512 .f32 :=
  let d := select (cmpi .sle (iota .tc S512x512 32 [1] iota_S512x512_d1_w32) (iota .tc S512x512 32 [0] iota_S512x512_d0_w32))
    S (broadcast S512x512 (Named.named κ "mask" 0xF149F2CA#32))
  exp (subf d (broadcastTo S512x512 (rowMax 512 reduces_S512x512_S512 d) broadcasts_S512x1_S512x512))

def LS0 (S : FVec Ideal S512x512 .f32) : FVec Ideal S512x1 .f32 := rowSum 512 reduces_S512x512_S512 (EX0 S)

theorem EX_law (n np : ℕ) (hs hp hr hb hc) (hn : n = np + 512) (S : FVec Ideal (M2 512 n) .f32) (s : ℕ → ℕ → ℝ) (hS : Re S s) (r : Fin 512) :
    ∃ μ : ℝ, (∀ u : Fin n, EX n np hs hp hr hb hc S (ix2 r u) = ((E (s r) μ (np + r) u : ℝ) : EReal))
      ∧ LS n np hs hp hr hb S (ix2 r 0) = ((∑ u ∈ Finset.range n, E (s r) μ (np + r) u : ℝ) : EReal) := by
  set d := diag n np hs S with hd
  set p := extractStridedSlice (M2 512 np) ![0, 0] S hp with hpd
  set mx := maximumf (rowMax 512 reduces_S512x512_S512 d) (rowMax np hr p) with hmx
  have dv : ∀ u : Fin 512, d (ix2 r u) = if np + u.val ≤ np + r.val then ((s r (np + u.val) : ℝ) : EReal) else ⊥ := fun u => by
    rw [hd, diag_apply n np hs S r u (by omega), hS]
  have pv : ∀ u : Fin np, p (ix2 r u) = if u.val ≤ np + r.val then ((s r u.val : ℝ) : EReal) else ⊥ := fun u => by
    rw [hpd, slice_apply n np 0 hp S r u (by omega), hS, if_pos (by omega)]; simp
  obtain ⟨μ, hμ⟩ : ∃ μ : ℝ, mx (ix2 r 0) = (μ : EReal) := by
    obtain ⟨a, ha⟩ := fold_real (fun u : Fin 512 => d (ix2 r u)) (fun u => by
      rw [dv]; split_ifs <;> simp) (0 : Fin 512) (by rw [dv]; simp)
    have : mx (ix2 r 0) = max (rowMax 512 reduces_S512x512_S512 d (ix2 r 0)) (rowMax np hr p (ix2 r 0)) := rfl
    refine real_of ?_ ?_
    · rw [this, rowMax_apply, ha]
      exact lt_max_of_lt_left (EReal.bot_lt_coe a)
    · rw [this, rowMax_apply, ha, rowMax_apply]
      refine max_lt (EReal.coe_lt_top a) (fold_lt_top _ fun u => ?_)
      rw [pv]; split_ifs <;> simp
  set ep := exp (subf p (broadcastTo (M2 512 np) mx hb)) with hep
  set ed := exp (subf d (broadcastTo S512x512 mx broadcasts_S512x1_S512x512)) with hed
  have epv : ∀ u : Fin np, ep (ix2 r u) = ((E (s r) μ (np + r.val) u.val : ℝ) : EReal) := fun u => by
    rw [hep, expsub_apply, hμ, exp_masked (s r) μ (np + r.val) u.val _ (pv u)]
  have edv : ∀ u : Fin 512, ed (ix2 r u) = ((E (s r) μ (np + r.val) (np + u.val) : ℝ) : EReal) := fun u => by
    rw [hed, expsub_apply, hμ, exp_masked (s r) μ (np + r.val) (np + u.val) _ (dv u)]
  refine ⟨μ, fun l => ?_, ?_⟩
  · have e : EX n np hs hp hr hb hc S (ix2 r l) = (if h : l.val < np then ep (ix2 r ⟨l.val, h⟩) else ed (ix2 r ⟨l.val - np, by omega⟩)) := by
      show concatenate (M2 512 n) 1 [⟨M2 512 np, ep⟩, ⟨S512x512, ed⟩] hc (ix2 r l) = _
      clear_value ep ed
      pointwise []
      split_ifs with h
      · exact congrArg ep (by funext b; fin_cases b <;> rfl)
      all_goals rfl
    rw [e]
    split_ifs with h
    · exact epv _
    · rw [edv]; simp only; rw [show np + (l.val - np) = l.val by omega]
  · show rowSum np hr ep (ix2 r 0) + rowSum 512 reduces_S512x512_S512 ed (ix2 r 0) = _
    rw [rowSum_apply, rowSum_apply, fin_sum _ _ epv, fin_sum _ (fun u => E (s r) μ (np + r.val) (np + u)) edv, ← EReal.coe_add,
      ← Finset.sum_range_add (fun u => E (s r) μ (np + r.val) u) np 512, ← hn]

theorem EX0_law (S : FVec Ideal S512x512 .f32) (s : ℕ → ℕ → ℝ) (hS : Re (a := 512) (b := 512) S s) (r : Fin 512) :
    ∃ μ : ℝ, (∀ u : Fin 512, EX0 S (ix2 r u) = ((E (s r) μ (0 + r) u : ℝ) : EReal))
      ∧ LS0 S (ix2 r 0) = ((∑ u ∈ Finset.range 512, E (s r) μ (0 + r) u : ℝ) : EReal) := by
  set d := select (cmpi .sle (iota .tc S512x512 32 [1] iota_S512x512_d1_w32) (iota .tc S512x512 32 [0] iota_S512x512_d0_w32))
    S (broadcast S512x512 (Named.named (F := Ideal) κ "mask" (φ := .f32) 0xF149F2CA#32)) with hd
  set mx := rowMax 512 reduces_S512x512_S512 d with hmx
  have dv : ∀ u : Fin 512, d (ix2 r u) = if u.val ≤ 0 + r.val then ((s r u.val : ℝ) : EReal) else ⊥ := fun u => by
    have e : d (ix2 r u) = Scalar.select (IntOp.cmpi CmpIPredicate.sle (BitVec.ofNat 32 u.val) (BitVec.ofNat 32 r.val))
      (S (ix2 r u)) (Named.named (F := Ideal) κ "mask" (φ := .f32) 0xF149F2CA#32) := by
      rw [hd]; pointwise []
    rw [e, mask_eq, Scalar.select, hS]
    by_cases hl : u.val ≤ r.val
    · rw [if_pos ((sle_iota r u).mpr hl), if_pos (by omega)]
    · rw [if_neg (fun hh => hl ((sle_iota r u).mp hh)), if_neg (by omega)]
  obtain ⟨μ, hμ⟩ : ∃ μ : ℝ, mx (ix2 r 0) = (μ : EReal) := by
    rw [hmx, rowMax_apply]
    exact fold_real (fun u : Fin 512 => d (ix2 r u)) (fun u => by
      rw [dv]; split_ifs <;> simp) (0 : Fin 512) (by rw [dv]; simp)
  have edv : ∀ u : Fin 512, EX0 S (ix2 r u) = ((E (s r) μ (0 + r.val) u.val : ℝ) : EReal) := fun u => by
    refine (expsub_apply 512 _ d mx r u).trans ?_
    rw [hμ, exp_masked (s r) μ (0 + r.val) u.val _ (dv u)]
  exact ⟨μ, edv, (rowSum_apply 512 _ (EX0 S) r 0).trans (fin_sum _ _ edv)⟩

/-- The exponentials at one number of keys. -/
structure FSide (n np : ℕ) where
  sd : Side n np
  ex : FVec Ideal (M2 512 n) .f32 → FVec Ideal (M2 512 n) .f32
  ls : FVec Ideal (M2 512 n) .f32 → FVec Ideal S512x1 .f32
  law : ∀ S s, Re S s → ∀ r : Fin 512, ∃ μ : ℝ, (∀ u : Fin n, ex S (ix2 r u) = ((E (s r) μ (np + r) u : ℝ) : EReal))
      ∧ ls S (ix2 r 0) = ((∑ u ∈ Finset.range n, E (s r) μ (np + r) u : ℝ) : EReal)

def fside4 : FSide 2048 1536 where
  sd := side4
  ex := EX 2048 1536 slices_S512x2048_o0_1536_S512x512 slices_S512x2048_o0_0_S512x1536 reduces_S512x1536_S512
    broadcasts_S512x1_S512x1536 concatenates_S512x1536_S512x512_S512x2048_d1
  ls := LS 2048 1536 slices_S512x2048_o0_1536_S512x512 slices_S512x2048_o0_0_S512x1536 reduces_S512x1536_S512 broadcasts_S512x1_S512x1536
  law S s := EX_law 2048 1536 _ _ _ _ _ rfl S s

def fside3 : FSide 1536 1024 where
  sd := side3
  ex := EX 1536 1024 slices_S512x1536_o0_1024_S512x512 slices_S512x1536_o0_0_S512x1024 reduces_S512x1024_S512
    broadcasts_S512x1_S512x1024 concatenates_S512x1024_S512x512_S512x1536_d1
  ls := LS 1536 1024 slices_S512x1536_o0_1024_S512x512 slices_S512x1536_o0_0_S512x1024 reduces_S512x1024_S512 broadcasts_S512x1_S512x1024
  law S s := EX_law 1536 1024 _ _ _ _ _ rfl S s

def fside2 : FSide 1024 512 where
  sd := side2
  ex := EX 1024 512 slices_S512x1024_o0_512_S512x512 slices_S512x1024_o0_0_S512x512 reduces_S512x512_S512
    broadcasts_S512x1_S512x512 concatenates_S512x512_S512x512_S512x1024_d1
  ls := LS 1024 512 slices_S512x1024_o0_512_S512x512 slices_S512x1024_o0_0_S512x512 reduces_S512x512_S512 broadcasts_S512x1_S512x512
  law S s := EX_law 1024 512 _ _ _ _ _ rfl S s

def fside1 : FSide 512 0 where
  sd := side1
  ex := EX0
  ls := LS0
  law S s := EX0_law S s

section
variable {n np : ℕ} (fs : FSide n np) (p : CmpIPredicate) (q : FVec Ideal S512x128 .bf16) (k m m0 m1 : FVec Ideal (M2 n 128) .bf16)
  (c c0 c1 : FVec Ideal ⟨3, ![1, 1, n]⟩ .f32)

/-- One head's scores, and its part of the output. -/
def SC : FVec Ideal (M2 512 n) .f32 := subf (fs.sd.nt (hm p 512 iota_S512x128_d1_w32 q) k) (fs.sd.cb c)
def OH : FVec Ideal S512x128 .f32 :=
  divf (fs.sd.nn (truncf .bf16 (fs.ex (SC fs p q k c)) bitsLt_bf16_f32) m)
    (broadcastTo S512x128 (fs.ls (SC fs p q k c)) Cert.FoxFwdIdeal.Facts₀.broadcasts_S512x1_S512x128)
def Op : FVec Ideal S512x128 .bf16 :=
  truncf .bf16 (addf (addf (broadcast S512x128 (Scalar.ofBits .f32 0x00000000#32)) (OH fs .slt q k m0 c0)) (OH fs .sge q k m1 c1)) bitsLt_bf16_f32

variable {q k m m0 m1 c c0 c1} {Q K V M : ℕ → ℕ → ℝ} {C C0 C1 : ℕ → ℝ}

theorem SC_law (hq : Re q Q) (hk : Re k K) (hc : ∀ u : Fin n, c (ix3 0 0 u) = ((C u.val : ℝ) : EReal)) :
    Re (SC fs p q k c) (scr p Q K C) := by
  intro r u
  have : SC fs p q k c (ix2 r u) = fs.sd.nt (hm p 512 iota_S512x128_d1_w32 q) k (ix2 r u) - fs.sd.cb c (ix2 r u) := rfl
  rw [this, nt_re fs.sd p hq hk, fs.sd.cb_law, hc, scr, EReal.coe_sub]

theorem OH_law (hq : Re q Q) (hk : Re k K) (hc : ∀ u : Fin n, c (ix3 0 0 u) = ((C u.val : ℝ) : EReal)) (hm : Re m M) (r : Fin 512) (l : Fin 128) :
    OH fs p q k m c (ix2 r l) = ((∑ u ∈ Finset.range n, P (scr p Q K C r) (np + r) u * M u l : ℝ) : EReal) := by
  obtain ⟨μ, he, hl⟩ := fs.law _ _ (SC_law fs p hq hk hc) r
  have e : OH fs p q k m c (ix2 r l) = Ideal.div (fs.sd.nn (truncf .bf16 (fs.ex (SC fs p q k c)) bitsLt_bf16_f32) m (ix2 r l)) (fs.ls (SC fs p q k c) (ix2 r 0)) := by
    unfold OH
    generalize fs.sd.nn (truncf .bf16 (fs.ex (SC fs p q k c)) bitsLt_bf16_f32) m = x
    generalize fs.ls (SC fs p q k c) = y
    pointwise []
  have hn := fs.sd.hn
  have e2 : fs.sd.nn (truncf .bf16 (fs.ex (SC fs p q k c)) bitsLt_bf16_f32) m (ix2 r l)
      = ((∑ u ∈ Finset.range n, E (scr p Q K C r) μ (np + r) u * M u l : ℝ) : EReal) := by
    rw [fs.sd.nn_law, fin_sum _ (fun u => E (scr p Q K C r) μ (np + r) u * M u l)]
    intro u
    have : truncf .bf16 (fs.ex (SC fs p q k c)) bitsLt_bf16_f32 (ix2 r u) = fs.ex (SC fs p q k c) (ix2 r u) := rfl
    rw [this, he, hm, EReal.coe_mul]
  rw [e, e2, hl, Ideal.div_coe (E_sum_pos _ _ _ _ (by omega)).ne', ← EReal.coe_mul, Finset.sum_mul]
  refine congrArg _ (Finset.sum_congr rfl fun u _ => ?_)
  rw [← E_div _ μ _ _ n (by omega)]
  ring

theorem Op_law (hq : Re q Q) (hk : Re k K)
    (hc0 : ∀ u : Fin n, c0 (ix3 0 0 u) = ((C0 u.val : ℝ) : EReal)) (hc1 : ∀ u : Fin n, c1 (ix3 0 0 u) = ((C1 u.val : ℝ) : EReal))
    (hm0 : Re m0 fun u l => keep .slt l (V u l)) (hm1 : Re m1 fun u l => keep .sge l (V u l)) :
    Re (Op fs q k m0 m1 c0 c1) fun r l =>
      ∑ u ∈ Finset.range n, P (scr .slt Q K C0 r) (np + r) u * keep .slt l (V u l)
        + ∑ u ∈ Finset.range n, P (scr .sge Q K C1 r) (np + r) u * keep .sge l (V u l) := by
  intro r l
  have e : Op fs q k m0 m1 c0 c1 (ix2 r l) = Ideal.ofBits .f32 0x00000000#32 + OH fs .slt q k m0 c0 (ix2 r l) + OH fs .sge q k m1 c1 (ix2 r l) := rfl
  rw [e, Ideal.ofBits_zero_f32, zero_add, OH_law fs .slt hq hk hc0 hm0, OH_law fs .sge hq hk hc1 hm1, ← EReal.coe_add]

end

end Cert.Fwd
end
-- ==== Proof.FwdOut.lean ====
/-
  What the forgetting attention's forward kernel leaves in its output block at a point of its grid.
-/
module

public import proofs.«01_k».proof.Proof.FwdSec

@[expose] public section
set_option maxRecDepth 16384
noncomputable section
namespace Cert.Fwd
open Cert.KernelIdeal Cert.KernelIdeal.Gen Idealize.ShloMosaic Idealize.ShloMosaic.TcCoe Idealize.SL.Sem
open Cert.KernelIdeal.Sec Cert.KernelIdeal.Out Cert.Soft

section
variable (X0 X1 X2 : FVec Ideal S2048x128 .bf16) (X3 : FVec Ideal S1x2x2048 .f32)

def o1 : FVec Ideal S512x128 .bf16 := Op fside1 (q1 X0) (k1 X1) (m10 X2) (m11 X2) (c10 X3) (c11 X3)
def o2 : FVec Ideal S512x128 .bf16 := Op fside2 (q2 X0) (k2 X1) (m20 X2) (m21 X2) (c20 X3) (c21 X3)
def o3 : FVec Ideal S512x128 .bf16 := Op fside3 (q3 X0) (k3 X1) (m30 X2) (m31 X2) (c30 X3) (c31 X3)
def o4 : FVec Ideal S512x128 .bf16 := Op fside4 (q4 X0) (k4 X1) (m40 X2) (m41 X2) (c40 X3) (c41 X3)

def oL : List PB := [⟨Rect.unit ![1536, 0] ![512, 128] inb_S2048x128_S512x128_1536_0, o4 X0 X1 X2 X3⟩, ⟨Rect.unit ![1024, 0] ![512, 128] inb_S2048x128_S512x128_1024_0, o3 X0 X1 X2 X3⟩, ⟨Rect.unit ![512, 0] ![512, 128] inb_S2048x128_S512x128_512_0, o2 X0 X1 X2 X3⟩, ⟨Rect.unit ![0, 0] ![512, 128] inb_S2048x128_S512x128_0_0, o1 X0 X1 X2 X3⟩]

end

/-- A read of the stores so far does not look at the buffer they went to. -/
theorem toK (L : List PS) (B : LoadRect S2x2048x128) :
    (View.whole Cert.FoxFwdIdeal.cc0_scratch0).readCov (Val := Elt Ideal) L B = (View.whole Cert.KernelIdeal.cc0_scratch0).readCov L B := by
  rw [View.readCov_eq_canon', View.readCov_eq_canon']; rfl

end Cert.Fwd

namespace Cert.FoxFwdIdeal.Out
open Cert.FoxFwdIdeal Cert.FoxFwdIdeal.Gen Idealize.ShloMosaic Idealize.ShloMosaic.TcCoe Idealize.SL.Sem

variable (m : (ℓ : Loc nD τ sig) → Buf (Elt Ideal) ℓ)

set_option maxHeartbeats 400000 in
theorem o_open (c : Dev nD) (t : Fin cfg0.N) : outsAt0 m c t = View.canon (Cert.Fwd.oL (iblk m c 0 t) (iblk m c 1 t) (iblk m c 2 t) (iblk m c 3 t)) := by
  funext y
  rw [outsAt0]
  frame_open
  simp (disch := decide) only [↓ View.readCov_skip, ↓ View.readCov_cons_toLoadRect, ↓ View.readCov_fill, ↓ Cert.KernelIdeal.Out.concatenate_eq_cat2]
  frame_out
  generalize iblk m c 0 t = X0
  generalize iblk m c 1 t = X1
  generalize iblk m c 2 t = X2
  generalize iblk m c 3 t = X3
  simp only [↓ Cert.KernelIdeal.Out.concatenate_eq_cat2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, shapeCast_self, shapeCast_shapeCast]
  simp only [Cert.Fwd.toK]
  rfl

end Cert.FoxFwdIdeal.Out
end
-- ==== Proof.FwdArr.lean ====
/-
  The forgetting attention's forward result array as real numbers of real arguments.
-/
module

public import proofs.«01_k».proof.Proof.FwdOut
public import Idealize.ShloMosaic.Lib.Pipeline.ValueKit

@[expose] public section
set_option maxRecDepth 16384
noncomputable section
namespace Cert.Fwd
open Cert.KernelIdeal Cert.KernelIdeal.Gen Idealize.ShloMosaic Idealize.ShloMosaic.TcCoe Idealize.SL.Sem
open Cert.KernelIdeal.Sec Cert.KernelIdeal.Out Cert.KernelIdeal.Val Cert.Soft

/-- The output of a pair of heads at a row and a lane. -/
def OV (Q K V C : ℕ → ℕ → ℝ) (t l : ℕ) : ℝ :=
  ∑ u ∈ Finset.range 2048, pw Q K C .slt 0 t u * keep .slt l (V u l) + ∑ u ∈ Finset.range 2048, pw Q K C .sge 1 t u * keep .sge l (V u l)

section
variable {Q K V C : ℕ → ℕ → ℝ} {X0 X1 X2 : FVec Ideal S2048x128 .bf16} {X3 : FVec Ideal S1x2x2048 .f32}
variable (H : Reals X0 X1 X2 X0 X3 Q K V Q C)
include H

theorem o1_re : Re (o1 X0 X1 X2 X3) fun r l => OV Q K V C (0 + r) l := by
  intro r l
  refine (Op_law fside1 (q1_re H) (k1_re H) (c10_re H) (c11_re H) (V := V)
    (mlaw X2 H.v .slt 0 512 (by decide) _ _ _ _ _ _) (mlaw X2 H.v .sge 1 512 (by decide) _ _ _ _ _ _) r l).trans ?_
  have hr := r.isLt
  have h0 := fun u (hu : 0 + r.val < u) => show pw Q K C .slt 0 (0 + r.val) u * keep .slt l.val (V u l.val) = 0 by rw [pw, P_of_lt _ _ _ hu, zero_mul]
  have h1 := fun u (hu : 0 + r.val < u) => show pw Q K C .sge 1 (0 + r.val) u * keep .sge l.val (V u l.val) = 0 by rw [pw, P_of_lt _ _ _ hu, zero_mul]
  show _ = ((OV Q K V C (0 + r.val) l.val : ℝ) : EReal)
  rw [OV, sum_causal _ 2048 (by omega) _ h0, sum_causal _ 2048 (by omega) _ h1, ← sum_causal _ 512 (by omega) _ h0, ← sum_causal _ 512 (by omega) _ h1]
  rfl

theorem o2_re : Re (o2 X0 X1 X2 X3) fun r l => OV Q K V C (512 + r) l := by
  intro r l
  refine (Op_law fside2 (q2_re H) (k2_re H) (c20_re H) (c21_re H) (V := V)
    (mlaw X2 H.v .slt 0 1024 (by decide) _ _ _ _ _ _) (mlaw X2 H.v .sge 1 1024 (by decide) _ _ _ _ _ _) r l).trans ?_
  have hr := r.isLt
  have h0 := fun u (hu : 512 + r.val < u) => show pw Q K C .slt 0 (512 + r.val) u * keep .slt l.val (V u l.val) = 0 by rw [pw, P_of_lt _ _ _ hu, zero_mul]
  have h1 := fun u (hu : 512 + r.val < u) => show pw Q K C .sge 1 (512 + r.val) u * keep .sge l.val (V u l.val) = 0 by rw [pw, P_of_lt _ _ _ hu, zero_mul]
  show _ = ((OV Q K V C (512 + r.val) l.val : ℝ) : EReal)
  rw [OV, sum_causal _ 2048 (by omega) _ h0, sum_causal _ 2048 (by omega) _ h1, ← sum_causal _ 1024 (by omega) _ h0, ← sum_causal _ 1024 (by omega) _ h1]
  rfl

theorem o3_re : Re (o3 X0 X1 X2 X3) fun r l => OV Q K V C (1024 + r) l := by
  intro r l
  refine (Op_law fside3 (q3_re H) (k3_re H) (c30_re H) (c31_re H) (V := V)
    (mlaw X2 H.v .slt 0 1536 (by decide) _ _ _ _ _ _) (mlaw X2 H.v .sge 1 1536 (by decide) _ _ _ _ _ _) r l).trans ?_
  have hr := r.isLt
  have h0 := fun u (hu : 1024 + r.val < u) => show pw Q K C .slt 0 (1024 + r.val) u * keep .slt l.val (V u l.val) = 0 by rw [pw, P_of_lt _ _ _ hu, zero_mul]
  have h1 := fun u (hu : 1024 + r.val < u) => show pw Q K C .sge 1 (1024 + r.val) u * keep .sge l.val (V u l.val) = 0 by rw [pw, P_of_lt _ _ _ hu, zero_mul]
  show _ = ((OV Q K V C (1024 + r.val) l.val : ℝ) : EReal)
  rw [OV, sum_causal _ 2048 (by omega) _ h0, sum_causal _ 2048 (by omega) _ h1, ← sum_causal _ 1536 (by omega) _ h0, ← sum_causal _ 1536 (by omega) _ h1]
  rfl

theorem o4_re : Re (o4 X0 X1 X2 X3) fun r l => OV Q K V C (1536 + r) l := by
  intro r l
  refine (Op_law fside4 (q4_re H) (k4_re H) (c40_re H) (c41_re H) (V := V)
    (hm_law .slt 2048 _ X2 V H.v) (hm_law .sge 2048 _ X2 V H.v) r l).trans ?_
  have hr := r.isLt
  have h0 := fun u (hu : 1536 + r.val < u) => show pw Q K C .slt 0 (1536 + r.val) u * keep .slt l.val (V u l.val) = 0 by rw [pw, P_of_lt _ _ _ hu, zero_mul]
  have h1 := fun u (hu : 1536 + r.val < u) => show pw Q K C .sge 1 (1536 + r.val) u * keep .sge l.val (V u l.val) = 0 by rw [pw, P_of_lt _ _ _ hu, zero_mul]
  show _ = ((OV Q K V C (1536 + r.val) l.val : ℝ) : EReal)
  rw [OV, sum_causal _ 2048 (by omega) _ h0, sum_causal _ 2048 (by omega) _ h1, ← sum_causal _ 2048 (by omega) _ h0, ← sum_causal _ 2048 (by omega) _ h1]
  rfl

theorem o_re : Re (a := 2048) (b := 128) (φ := .bf16) (View.canon (oL X0 X1 X2 X3)) (OV Q K V C) := by
  intro t l
  have key : ∀ (o : ℕ) (h) (x : FVec Ideal S512x128 .bf16) (L : List PB), (Re x fun r l => OV Q K V C (o + r) l) → o ≤ t.val → t.val < o + 512 →
      View.canon (⟨Rect.unit (s := S2048x128) ![o, 0] ![512, 128] h, x⟩ :: L : List PB) (ix2 t l) = ((OV Q K V C t.val l.val : ℝ) : EReal) := by
    intro o h x L hx h1 h2
    have e' : (ix2 t l : S2048x128.Idx) = (Rect.unit (s := S2048x128) ![o, 0] ![512, 128] h).emb (ix2 (⟨t.val - o, by omega⟩ : Fin 512) l) := by
      rw [emb2 (S := S2048x128) o 512 2048 h _ l (by have := t.isLt; simp only; omega)]
      congr 1; apply Fin.ext; simp only; omega
    rw [e', View.canon_cons_emb, hx]
    have : o + (t.val - o) = t.val := by omega
    simp only [this]
  have skip : ∀ (o : ℕ) (h) (x : FVec Ideal S512x128 .bf16) (L : List PB), t.val < o →
      View.canon (⟨Rect.unit (s := S2048x128) ![o, 0] ![512, 128] h, x⟩ :: L : List PB) (ix2 t l) = View.canon L (ix2 t l) := by
    intro o h x L h1
    rw [View.canon_cons_of_not_mem]
    intro hm
    have hm' : (ix2 t l : S2048x128.Idx) ∈ (Rect.unit (s := S2048x128) ![o, 0] ![512, 128] h).set := hm
    have h2 : o ≤ t.val := ((Rect.mem_set_unit.mp hm') 0).1
    omega
  have ht := t.isLt
  unfold oL
  by_cases h4 : 1536 ≤ t.val
  · exact key 1536 _ _ _ (o4_re H) h4 (by omega)
  rw [skip 1536 _ _ _ (by omega)]
  by_cases h3 : 1024 ≤ t.val
  · exact key 1024 _ _ _ (o3_re H) h3 (by omega)
  rw [skip 1024 _ _ _ (by omega)]
  by_cases h2 : 512 ≤ t.val
  · exact key 512 _ _ _ (o2_re H) h2 (by omega)
  rw [skip 512 _ _ _ (by omega)]
  exact key 0 _ _ _ (o1_re H) (by omega) (by omega)

end

/-- The output of a pair of heads, of the whole arguments. -/
def go (q k g : ℕ → ℕ → ℝ) (p t l : ℕ) : ℝ := OV (fun r l => q r (128 * p + l) * (1 / 8)) (fun r l => k r (128 * p + l)) (fun r l => k r (1024 + (128 * p + l)))
  (fun e u => g u (2 * p + e)) t l

end Cert.Fwd

namespace Cert.FoxFwdIdeal.Arr
open Cert.FoxFwdIdeal Cert.FoxFwdIdeal.Gen Idealize.ShloMosaic Idealize.ShloMosaic.TcCoe Idealize.SL.Sem
open Cert.KernelIdeal.Sec (Re ofBits_eighth)
open Cert.KernelIdeal.Val (Reals)
open Idealize.ShloMosaic.Pipeline (Dat)

variable (m : (ℓ : Loc nD τ sig) → Buf (Elt Ideal) ℓ)

/-- Where each window's block of a grid point lies. -/
theorem idx : ∀ t : Fin cfg0.N, win0_0.index t = ![0, t.val] ∧ win0_1.index t = ![0, t.val] ∧ win0_2.index t = ![0, 8 + t.val]
    ∧ win0_3.index t = ![t.val, 0, 0] ∧ win0_4.index t = ![0, t.val] ∧ t.val < 8 :=
  (by decide +kernel : ∀ t : Fin grid0.N, _)

/-- The arguments hold these real numbers. -/
structure Args (c : Dev nD) (q k g : ℕ → ℕ → ℝ) : Prop where
  q : Re (a := 2048) (b := 1024) (φ := .bf16) (m ((c : Thread nD τ).loc main_arg0)) q
  k : Re (a := 2048) (b := 2048) (φ := .bf16) (m ((c : Thread nD τ).loc main_arg1)) k
  g : Re (a := 2048) (b := 16) (φ := .f32) (m ((c : Thread nD τ).loc main_arg2)) g

theorem iblk0 (c : Dev nD) (t : Fin cfg0.N) (r : Fin 2048) (l : Fin 128) (h : 128 * t.val + l.val < 1024) :
    iblk m c 0 t (ix2 r l) = @HMul.hMul EReal EReal EReal _ (m ((c : Thread nD τ).loc main_arg0) (ix2 r ⟨128 * t.val + l.val, h⟩)) (Ideal.ofBits .f32 0x3E000000#32) := by
  blk_simp [iblk]
  entry_read
  pointwise []
  congr 1
  blk_ext [idx t]
theorem iblk1 (c : Dev nD) (t : Fin cfg0.N) (r : Fin 2048) (l : Fin 128) (h : 128 * t.val + l.val < 2048) :
    iblk m c 1 t (ix2 r l) = m ((c : Thread nD τ).loc main_arg1) (ix2 r ⟨128 * t.val + l.val, h⟩) := by
  blk_ext [iblk, V, idx t]
theorem iblk2 (c : Dev nD) (t : Fin cfg0.N) (r : Fin 2048) (l : Fin 128) (h : 1024 + (128 * t.val + l.val) < 2048) :
    iblk m c 2 t (ix2 r l) = m ((c : Thread nD τ).loc main_arg1) (ix2 r ⟨1024 + (128 * t.val + l.val), h⟩) := by
  blk_ext [iblk, V, idx t]
theorem iblk3 (c : Dev nD) (t : Fin cfg0.N) (e : Fin 2) (u : Fin 2048) (h : 2 * t.val + e.val < 16) :
    iblk m c 3 t (ix3 0 e u) = m ((c : Thread nD τ).loc main_arg2) (ix2 u ⟨2 * t.val + e.val, h⟩) := by
  blk_simp [iblk]
  entry_read
  pointwise []
  blk_ext [idx t]

theorem idx4 (t : Fin cfg0.N) : win0_4.index t = ![0, t.val] := (idx t).2.2.2.2.1

variable {m}
variable {c : Dev nD} {q k g : ℕ → ℕ → ℝ} (H : Args m c q k g)
include H

/-- The blocks of a pair of heads as real numbers. -/
theorem reals (t : Fin cfg0.N) : Reals (iblk m c 0 t) (iblk m c 1 t) (iblk m c 2 t) (iblk m c 0 t) (iblk m c 3 t)
    (fun r l => q r (128 * t.val + l) * (1 / 8)) (fun r l => k r (128 * t.val + l)) (fun r l => k r (1024 + (128 * t.val + l)))
    (fun r l => q r (128 * t.val + l) * (1 / 8)) (fun e u => g u (2 * t.val + e)) := by
  have ht : t.val < 8 := (idx t).2.2.2.2.2
  have hq : Re (a := 2048) (b := 128) (φ := .bf16) (iblk m c 0 t) (fun r l => q r (128 * t.val + l) * (1 / 8)) := fun r l => by
    have hl := l.isLt
    rw [iblk0 m c t r l (by omega), H.q, ofBits_eighth, ← EReal.coe_mul]
  exact {
    q := hq
    k := fun r l => by
      have hl := l.isLt
      exact (iblk1 m c t r l (by omega)).trans (H.k _ _)
    v := fun r l => by
      have hl := l.isLt
      exact (iblk2 m c t r l (by omega)).trans (H.k _ _)
    d := hq
    c := fun e u => by
      have he := e.isLt
      exact (iblk3 m c t e u (by omega)).trans (H.g _ _) }

theorem o_final : (dats m 0 c).arrAt 4 (cfgs 0).N = fun i : S2048x1024.Idx => ((Cert.Fwd.go q k g ((i 1).val / 128) (i 0).val ((i 1).val % 128) : ℝ) : EReal) := by
  refine (dats m 0 c).arrAt_eq_of_covers 4 _ (by decide +kernel) fun t hf y => ?_
  blk_simp
  rw [after0_4, Out.o_open]
  have hy : y = ix2 (y 0) (y 1) := by funext a; fin_cases a <;> rfl
  have h0 : win0_4.index t 0 = 0 := by rw [idx4 t]; rfl
  have h1 : win0_4.index t 1 = t.val := by rw [idx4 t]; rfl
  have hl : (y 1).val < 128 := (y 1).isLt
  rw [h0, h1]
  have e1 : (t.val * 128 + (y 1).val) / 128 = t.val := by omega
  have e2 : (t.val * 128 + (y 1).val) % 128 = (y 1).val := by omega
  rw [e1, e2, Nat.zero_mul, Nat.zero_add]
  refine (congrArg _ hy).trans ?_
  exact Cert.Fwd.o_re (reals H t) (y 0) (y 1)

end Cert.FoxFwdIdeal.Arr
end
-- ==== Proof.FwdRef.lean ====
/-
  The forgetting attention's forward reference as real numbers of real arguments, and the kernel's result against it.
-/
module

public import proofs.«01_k».proof.Proof.FwdArr
public import proofs.«01_k».proof.Proof.Bridge
public import proofs.«01_k».proof.Proof.Gen.FoxFwdRefIdeal.Read

@[expose] public section
set_option maxRecDepth 16384
noncomputable section
namespace Cert.FoxFwdRefIdeal.Ref
open Cert.FoxFwdRefIdeal Cert.FoxFwdRefIdeal.Gen Cert.FoxFwdRefIdeal.Read Idealize.ShloMosaic Idealize.ShloMosaic.TcCoe Idealize.SL.Sem
open Cert.Soft
open Cert.ReferenceIdeal.Ref (Args sr)

variable {x0 : (⟨S2048x1024, .bf16⟩ : BufTy).Contents (Elt Ideal)} {x1 : (⟨S2048x2048, .bf16⟩ : BufTy).Contents (Elt Ideal)}
  {x2 : (⟨S2048x16, .f32⟩ : BufTy).Contents (Elt Ideal)}

/-- The probabilities are the ones the backward pass takes again. -/
theorem v36_eq : val_main_v36 (F := Ideal) x0 x1 x2 = Cert.ReferenceIdeal.Read.val_main_v52 (F := Ideal) x0 x1 x2 := rfl
theorem v7_eq : val_main_v7 (F := Ideal) x1 = Cert.ReferenceIdeal.Read.val_main_v7 (F := Ideal) x1 := rfl

variable {q k g : ℕ → ℕ → ℝ} (H : Args x0 x1 x0 x2 q k q g)

omit H in
theorem v39_at (r : Fin 2048) (j : Fin 1024) : val_main_v39 (F := Ideal) x0 x1 x2 (ix2 r j)
    = val_main_v38 (F := Ideal) x0 x1 x2 (ix3 r (⟨j.val / 64, by omega⟩ : Fin 16) (⟨j.val % 64, by omega⟩ : Fin 64)) := by
  rw [val_main_v39_apply]
  refine congrArg (val_main_v38 (F := Ideal) x0 x1 x2) ?_
  funext a
  apply Fin.ext
  have hr := r.isLt
  have hj := j.isLt
  fin_cases a
  · show (r.val * 1024 + j.val) / 1024 = r.val; omega
  · show (r.val * 1024 + j.val) / 64 % 16 = j.val / 64; omega
  · show (r.val * 1024 + j.val) % 64 = j.val % 64; omega

include H

theorem o_re (r : Fin 2048) (j : Fin 1024) : val_main_v40 (F := Ideal) x0 x1 x2 (ix2 r j) = ((∑ u ∈ Finset.range 2048,
      P (sr q k g (j.val / 64) r.val) r.val u * k u (1024 + j.val) : ℝ) : EReal) := by
  have hj := j.isLt
  have ej : 64 * (j.val / 64) + j.val % 64 = j.val := by omega
  have e1 : val_main_v40 (F := Ideal) x0 x1 x2 (ix2 r j) = ∑ u : Fin 2048, val_main_v7 (F := Ideal) x1 (ix3 u (⟨j.val / 64, by omega⟩ : Fin 16) (⟨j.val % 64, by omega⟩ : Fin 64)) * val_main_v36 (F := Ideal) x0 x1 x2 (ix3 (⟨j.val / 64, by omega⟩ : Fin 16) r u) := by
    refine Eq.trans (b := val_main_v39 (F := Ideal) x0 x1 x2 (ix2 r j)) rfl ?_
    rw [v39_at]
    pointwise [val_main_v38, val_main_v37]
  rw [e1]
  refine fin_sum _ (fun u => P (sr q k g (j.val / 64) r.val) r.val u * k u (1024 + j.val)) fun u => ?_
  rw [v36_eq, v7_eq, Cert.ReferenceIdeal.Ref.v52_re H, Cert.ReferenceIdeal.Ref.v7_re H, ← EReal.coe_mul, mul_comm]
  show ((_ * k u.val (1024 + (64 * (j.val / 64) + j.val % 64)) : ℝ) : EReal) = _
  rw [ej]

omit H in
theorem go_eq (t j : ℕ) : Cert.Fwd.go q k g (j / 128) t (j % 128)
    = ∑ u ∈ Finset.range 2048, P (sr q k g (j / 64) t) t u * k u (1024 + j) := by
  unfold Cert.Fwd.go Cert.Fwd.OV
  rw [← Finset.sum_add_distrib]
  refine Finset.sum_congr rfl fun u _ => ?_
  rw [Cert.Bridge.pw_slt, Cert.Bridge.pw_sge, Cert.Bridge.lane (fun h => P (sr q k g h t) t u) (fun j => k u (1024 + j))]

end Cert.FoxFwdRefIdeal.Ref
end
-- ==== Proof.AddOut.lean ====
/-
  What the forgetting attention's backward kernel leaves in its four output blocks at a point of its grid when it starts from
  sums it is given.
-/
module

public import proofs.«01_k».proof.Proof.Val
public import proofs.«01_k».proof.Proof.Gen.FoxAddIdeal.Value

@[expose] public section
set_option maxRecDepth 16384
noncomputable section
namespace Cert.FoxAddIdeal.Out
open Cert.FoxAddIdeal Cert.FoxAddIdeal.Gen Idealize.ShloMosaic Idealize.ShloMosaic.TcCoe Idealize.SL.Sem
open Cert.KernelIdeal.Sec (side1 side2 side3 side4)
open Cert.KernelIdeal.Out (concatenate_eq_cat2 PF PC PS dqL dk1 dk2 dk3 dk4 dv1 dv2 dv3 dv4 ds10 ds11 ds20 ds21 ds30 ds31 ds40 ds41)

/-- A read of the stores so far does not look at the buffer they went to. -/
theorem toK (L : List PS) (B : LoadRect S2x2048x128) :
    (View.whole Cert.FoxAddIdeal.cc0_scratch0).readCov (Val := Elt Ideal) L B = (View.whole Cert.KernelIdeal.cc0_scratch0).readCov L B := by
  rw [View.readCov_eq_canon', View.readCov_eq_canon']; rfl

section
variable (X0 X1 X2 X3 : FVec Ideal S2048x128 .bf16) (X4 : FVec Ideal S1x2x2048 .f32) (X5 X6 : FVec Ideal S2048x128 .f32) (X7 : FVec Ideal S1x8x2048 .f32)

def ak0 : List PF := [⟨Rect.unit ![0, 0] ![2048, 128] inb_S2048x128_S2048x128_0_0, X5⟩]
def ak1 (v : View sig .tc .vmem S2048x128 .f32) : List PF := ⟨Rect.unit ![0, 0] ![512, 128] inb_S2048x128_S512x128_0_0, addf (F := Ideal) (φ := .f32) (v.readCov (ak0 X5) (Rect.unit (s := S2048x128) ![0, 0] ![512, 128] inb_S2048x128_S512x128_0_0).toLoadRect) (dk1 X0 X1 X2 X3 X4)⟩ :: ak0 X5
def ak2 (v : View sig .tc .vmem S2048x128 .f32) : List PF := ⟨Rect.unit ![0, 0] ![1024, 128] inb_S2048x128_S1024x128_0_0, addf (F := Ideal) (φ := .f32) (v.readCov (ak1 X0 X1 X2 X3 X4 X5 v) (Rect.unit (s := S2048x128) ![0, 0] ![1024, 128] inb_S2048x128_S1024x128_0_0).toLoadRect) (dk2 X0 X1 X2 X3 X4)⟩ :: ak1 X0 X1 X2 X3 X4 X5 v
def ak3 (v : View sig .tc .vmem S2048x128 .f32) : List PF := ⟨Rect.unit ![0, 0] ![1536, 128] inb_S2048x128_S1536x128_0_0, addf (F := Ideal) (φ := .f32) (v.readCov (ak2 X0 X1 X2 X3 X4 X5 v) (Rect.unit (s := S2048x128) ![0, 0] ![1536, 128] inb_S2048x128_S1536x128_0_0).toLoadRect) (dk3 X0 X1 X2 X3 X4)⟩ :: ak2 X0 X1 X2 X3 X4 X5 v
def ak4 (v : View sig .tc .vmem S2048x128 .f32) : List PF := ⟨Rect.unit ![0, 0] ![2048, 128] inb_S2048x128_S2048x128_0_0, addf (F := Ideal) (φ := .f32) (v.readCov (ak3 X0 X1 X2 X3 X4 X5 v) (Rect.unit (s := S2048x128) ![0, 0] ![2048, 128] inb_S2048x128_S2048x128_0_0).toLoadRect) (dk4 X0 X1 X2 X3 X4)⟩ :: ak3 X0 X1 X2 X3 X4 X5 v

def av0 : List PF := [⟨Rect.unit ![0, 0] ![2048, 128] inb_S2048x128_S2048x128_0_0, X6⟩]
def av1 (v : View sig .tc .vmem S2048x128 .f32) : List PF := ⟨Rect.unit ![0, 0] ![512, 128] inb_S2048x128_S512x128_0_0, addf (F := Ideal) (φ := .f32) (v.readCov (av0 X6) (Rect.unit (s := S2048x128) ![0, 0] ![512, 128] inb_S2048x128_S512x128_0_0).toLoadRect) (dv1 X0 X1 X3 X4)⟩ :: av0 X6
def av2 (v : View sig .tc .vmem S2048x128 .f32) : List PF := ⟨Rect.unit ![0, 0] ![1024, 128] inb_S2048x128_S1024x128_0_0, addf (F := Ideal) (φ := .f32) (v.readCov (av1 X0 X1 X3 X4 X6 v) (Rect.unit (s := S2048x128) ![0, 0] ![1024, 128] inb_S2048x128_S1024x128_0_0).toLoadRect) (dv2 X0 X1 X3 X4)⟩ :: av1 X0 X1 X3 X4 X6 v
def av3 (v : View sig .tc .vmem S2048x128 .f32) : List PF := ⟨Rect.unit ![0, 0] ![1536, 128] inb_S2048x128_S1536x128_0_0, addf (F := Ideal) (φ := .f32) (v.readCov (av2 X0 X1 X3 X4 X6 v) (Rect.unit (s := S2048x128) ![0, 0] ![1536, 128] inb_S2048x128_S1536x128_0_0).toLoadRect) (dv3 X0 X1 X3 X4)⟩ :: av2 X0 X1 X3 X4 X6 v
def av4 (v : View sig .tc .vmem S2048x128 .f32) : List PF := ⟨Rect.unit ![0, 0] ![2048, 128] inb_S2048x128_S2048x128_0_0, addf (F := Ideal) (φ := .f32) (v.readCov (av3 X0 X1 X3 X4 X6 v) (Rect.unit (s := S2048x128) ![0, 0] ![2048, 128] inb_S2048x128_S2048x128_0_0).toLoadRect) (dv4 X0 X1 X3 X4)⟩ :: av3 X0 X1 X3 X4 X6 v

def acZ : PC := ⟨Rect.unit ![0, 0, 0] ![1, 8, 2048] inb_S1x8x2048_S1x8x2048_0_0_0, X7⟩
def ac10 (v : View sig .tc .vmem S1x8x2048 .f32) : PC := ⟨Rect.unit ![0, 0, 0] ![1, 1, 512] inb_S1x8x2048_S1x1x512_0_0_0, side1.cs (v.readCov [acZ X7] (Rect.unit (s := S1x8x2048) ![0, 0, 0] ![1, 1, 512] inb_S1x8x2048_S1x1x512_0_0_0).toLoadRect) (ds10 X0 X1 X2 X3 X4)⟩
def ac11 (v : View sig .tc .vmem S1x8x2048 .f32) : PC := ⟨Rect.unit ![0, 1, 0] ![1, 1, 512] inb_S1x8x2048_S1x1x512_0_1_0, side1.cs (v.readCov [acZ X7] (Rect.unit (s := S1x8x2048) ![0, 1, 0] ![1, 1, 512] inb_S1x8x2048_S1x1x512_0_1_0).toLoadRect) (ds11 X0 X1 X2 X3 X4)⟩
def ac20 (v : View sig .tc .vmem S1x8x2048 .f32) : PC := ⟨Rect.unit ![0, 0, 0] ![1, 1, 1024] inb_S1x8x2048_S1x1x1024_0_0_0, side2.cs (v.readCov [ac10 X0 X1 X2 X3 X4 X7 v, acZ X7] (Rect.unit (s := S1x8x2048) ![0, 0, 0] ![1, 1, 1024] inb_S1x8x2048_S1x1x1024_0_0_0).toLoadRect) (ds20 X0 X1 X2 X3 X4)⟩
def ac21 (v : View sig .tc .vmem S1x8x2048 .f32) : PC := ⟨Rect.unit ![0, 1, 0] ![1, 1, 1024] inb_S1x8x2048_S1x1x1024_0_1_0, side2.cs (v.readCov [ac11 X0 X1 X2 X3 X4 X7 v, ac10 X0 X1 X2 X3 X4 X7 v, acZ X7] (Rect.unit (s := S1x8x2048) ![0, 1, 0] ![1, 1, 1024] inb_S1x8x2048_S1x1x1024_0_1_0).toLoadRect) (ds21 X0 X1 X2 X3 X4)⟩
def ac30 (v : View sig .tc .vmem S1x8x2048 .f32) : PC := ⟨Rect.unit ![0, 0, 0] ![1, 1, 1536] inb_S1x8x2048_S1x1x1536_0_0_0, side3.cs (v.readCov [ac20 X0 X1 X2 X3 X4 X7 v, ac11 X0 X1 X2 X3 X4 X7 v, ac10 X0 X1 X2 X3 X4 X7 v, acZ X7] (Rect.unit (s := S1x8x2048) ![0, 0, 0] ![1, 1, 1536] inb_S1x8x2048_S1x1x1536_0_0_0).toLoadRect) (ds30 X0 X1 X2 X3 X4)⟩
def ac31 (v : View sig .tc .vmem S1x8x2048 .f32) : PC := ⟨Rect.unit ![0, 1, 0] ![1, 1, 1536] inb_S1x8x2048_S1x1x1536_0_1_0, side3.cs (v.readCov [ac21 X0 X1 X2 X3 X4 X7 v, ac20 X0 X1 X2 X3 X4 X7 v, ac11 X0 X1 X2 X3 X4 X7 v, ac10 X0 X1 X2 X3 X4 X7 v, acZ X7] (Rect.unit (s := S1x8x2048) ![0, 1, 0] ![1, 1, 1536] inb_S1x8x2048_S1x1x1536_0_1_0).toLoadRect) (ds31 X0 X1 X2 X3 X4)⟩
def ac40 (v : View sig .tc .vmem S1x8x2048 .f32) : PC := ⟨Rect.unit ![0, 0, 0] ![1, 1, 2048] inb_S1x8x2048_S1x1x2048_0_0_0, side4.cs (v.readCov [ac30 X0 X1 X2 X3 X4 X7 v, ac21 X0 X1 X2 X3 X4 X7 v, ac20 X0 X1 X2 X3 X4 X7 v, ac11 X0 X1 X2 X3 X4 X7 v, ac10 X0 X1 X2 X3 X4 X7 v, acZ X7] (Rect.unit (s := S1x8x2048) ![0, 0, 0] ![1, 1, 2048] inb_S1x8x2048_S1x1x2048_0_0_0).toLoadRect) (ds40 X0 X1 X2 X3 X4)⟩
def ac41 (v : View sig .tc .vmem S1x8x2048 .f32) : PC := ⟨Rect.unit ![0, 1, 0] ![1, 1, 2048] inb_S1x8x2048_S1x1x2048_0_1_0, side4.cs (v.readCov [ac31 X0 X1 X2 X3 X4 X7 v, ac30 X0 X1 X2 X3 X4 X7 v, ac21 X0 X1 X2 X3 X4 X7 v, ac20 X0 X1 X2 X3 X4 X7 v, ac11 X0 X1 X2 X3 X4 X7 v, ac10 X0 X1 X2 X3 X4 X7 v, acZ X7] (Rect.unit (s := S1x8x2048) ![0, 1, 0] ![1, 1, 2048] inb_S1x8x2048_S1x1x2048_0_1_0).toLoadRect) (ds41 X0 X1 X2 X3 X4)⟩
def acL (v : View sig .tc .vmem S1x8x2048 .f32) : List PC := [ac41 X0 X1 X2 X3 X4 X7 v, ac40 X0 X1 X2 X3 X4 X7 v, ac31 X0 X1 X2 X3 X4 X7 v, ac30 X0 X1 X2 X3 X4 X7 v, ac21 X0 X1 X2 X3 X4 X7 v, ac20 X0 X1 X2 X3 X4 X7 v, ac11 X0 X1 X2 X3 X4 X7 v, ac10 X0 X1 X2 X3 X4 X7 v, acZ X7]

end

variable (m : (ℓ : Loc nD τ sig) → Buf (Elt Ideal) ℓ)

set_option maxHeartbeats 400000 in
theorem dq_open (c : Dev nD) (t : Fin cfg0.N) : (outsAt0 m c t).1 = View.canon (dqL (iblk m c 0 t) (iblk m c 1 t) (iblk m c 2 t) (iblk m c 3 t) (iblk m c 4 t)) := by
  funext y
  rw [outsAt0]; dsimp only
  frame_open
  simp (disch := decide) only [↓ View.readCov_skip, ↓ View.readCov_cons_toLoadRect, ↓ View.readCov_fill, ↓ concatenate_eq_cat2]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  simp only [↓ concatenate_eq_cat2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, shapeCast_self, shapeCast_shapeCast]
  simp only [toK]
  rfl

set_option maxHeartbeats 400000 in
theorem dk_open (c : Dev nD) (t : Fin cfg0.N) : (outsAt0 m c t).2.1 = addf (F := Ideal) (φ := .f32) ((ms0_9 t).view.readCov (ak3 (iblk m c 0 t) (iblk m c 1 t) (iblk m c 2 t) (iblk m c 3 t) (iblk m c 4 t) (iblk m c 5 t) (ms0_9 t).view) (Rect.unit (s := S2048x128) ![0, 0] ![2048, 128] inb_S2048x128_S2048x128_0_0).toLoadRect) (dk4 (iblk m c 0 t) (iblk m c 1 t) (iblk m c 2 t) (iblk m c 3 t) (iblk m c 4 t)) := by
  funext y
  rw [outsAt0]; dsimp only
  frame_open
  simp (disch := decide) only [↓ View.readCov_skip, ↓ View.readCov_cons_toLoadRect, ↓ concatenate_eq_cat2]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  simp only [↓ concatenate_eq_cat2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, shapeCast_self, shapeCast_shapeCast]
  rfl

set_option maxHeartbeats 400000 in
theorem dv_open (c : Dev nD) (t : Fin cfg0.N) : (outsAt0 m c t).2.2.1 = addf (F := Ideal) (φ := .f32) ((ms0_10 t).view.readCov (av3 (iblk m c 0 t) (iblk m c 1 t) (iblk m c 3 t) (iblk m c 4 t) (iblk m c 6 t) (ms0_10 t).view) (Rect.unit (s := S2048x128) ![0, 0] ![2048, 128] inb_S2048x128_S2048x128_0_0).toLoadRect) (dv4 (iblk m c 0 t) (iblk m c 1 t) (iblk m c 3 t) (iblk m c 4 t)) := by
  funext y
  rw [outsAt0]; dsimp only
  frame_open
  simp (disch := decide) only [↓ View.readCov_skip, ↓ View.readCov_cons_toLoadRect, ↓ concatenate_eq_cat2]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  simp only [↓ concatenate_eq_cat2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, shapeCast_self, shapeCast_shapeCast]
  rfl

set_option maxHeartbeats 400000 in
theorem ck_open (c : Dev nD) (t : Fin cfg0.N) : (outsAt0 m c t).2.2.2 = View.canon (acL (iblk m c 0 t) (iblk m c 1 t) (iblk m c 2 t) (iblk m c 3 t) (iblk m c 4 t) (iblk m c 7 t) (ms0_11 t).view) := by
  funext y
  rw [outsAt0]; dsimp only
  frame_open
  simp (disch := decide) only [↓ View.readCov_skip, ↓ View.readCov_cons_toLoadRect, ↓ concatenate_eq_cat2]
  frame_out
  generalize iblk m c 0 t = X0
  generalize iblk m c 1 t = X1
  generalize iblk m c 2 t = X2
  generalize iblk m c 3 t = X3
  generalize iblk m c 4 t = X4
  generalize iblk m c 5 t = X5
  generalize iblk m c 6 t = X6
  generalize iblk m c 7 t = X7
  simp only [↓ concatenate_eq_cat2, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, shapeCast_self, shapeCast_shapeCast]
  rfl

end Cert.FoxAddIdeal.Out
end
-- ==== Proof.AddArr.lean ====
/-
  The backward kernel's four result arrays when it starts from given sums: the gradients of its own rows added to them.
-/
module

public import proofs.«01_k».proof.Proof.AddOut
public import proofs.«01_k».proof.Proof.Arr

@[expose] public section
set_option maxRecDepth 16384
noncomputable section
namespace Cert.FoxAddIdeal.Arr
open Cert.FoxAddIdeal Cert.FoxAddIdeal.Gen Cert.FoxAddIdeal.Out Idealize.ShloMosaic Idealize.ShloMosaic.TcCoe Idealize.SL.Sem
open Cert.KernelIdeal.Sec (Re M2 Side side1 side2 side3 side4 ofBits_eighth)
open Cert.KernelIdeal.Out (PF PC)
open Cert.KernelIdeal.Val
open Cert.KernelIdeal.Arr (gq gk gv gc)
open Cert.Soft
open Idealize.ShloMosaic.Pipeline (Dat)

/-- A row block's contribution to sums over the rows that start from given numbers. -/
theorem acc2 (v : View sig .tc .vmem S2048x128 .f32) (L : List PF) (z : Fin 2048 → Fin 128 → EReal) (f : ℕ → ℕ → ℕ → ℝ) (hf : ∀ t u l, t < u → f t u l = 0) (np n : ℕ) (hn : n = np + 512) (h) (x : FVec Ideal (M2 n 128) .f32)
    (hL : ∀ (u : Fin 2048) (l : Fin 128), View.canon L (ix2 u l) = z u l + ((∑ t ∈ Finset.range np, f t u.val l.val : ℝ) : EReal))
    (hx : Re x fun u l => ∑ r ∈ Finset.range 512, f (np + r) u l) (u : Fin 2048) (l : Fin 128) :
    View.canon (⟨Rect.unit (s := S2048x128) ![0, 0] ![n, 128] h, addf (F := Ideal) (φ := .f32) (v.readCov L (Rect.unit (s := S2048x128) ![0, 0] ![n, 128] h).toLoadRect) x⟩ :: L : List PF) (ix2 u l)
      = z u l + ((∑ t ∈ Finset.range n, f t u.val l.val : ℝ) : EReal) := by
  by_cases hu : u.val < n
  · have e := emb2 (S := S2048x128) 0 n 2048 h ⟨u.val, hu⟩ l (by have := u.isLt; simpa using this)
    have e' : (ix2 u l : S2048x128.Idx) = (Rect.unit (s := S2048x128) ![0, 0] ![n, 128] h).emb (ix2 (⟨u.val, hu⟩ : Fin n) l) := by
      rw [e]; congr 1; apply Fin.ext; simp
    rw [e', View.canon_cons_emb]
    have : addf (F := Ideal) (φ := .f32) (v.readCov L (Rect.unit (s := S2048x128) ![0, 0] ![n, 128] h).toLoadRect) x (ix2 (⟨u.val, hu⟩ : Fin n) l)
      = v.readCov L (Rect.unit (s := S2048x128) ![0, 0] ![n, 128] h).toLoadRect (ix2 (⟨u.val, hu⟩ : Fin n) l) + x (ix2 (⟨u.val, hu⟩ : Fin n) l) := rfl
    rw [this, hx, View.readCov_eq_canon']
    have e3 : (Rect.unit (s := S2048x128) ![0, 0] ![n, 128] h).toLoadRect.idx (ix2 (⟨u.val, hu⟩ : Fin n) l) = ix2 u l := e'.symm
    beta_reduce
    rw [e3, hL]
    have hs : ∑ t ∈ Finset.range n, f t u.val l.val = ∑ t ∈ Finset.range np, f t u.val l.val + ∑ r ∈ Finset.range 512, f (np + r) u.val l.val := by
      rw [hn, Finset.sum_range_add]
    rw [hs, EReal.coe_add, add_assoc]
  · have hs : ∑ t ∈ Finset.range n, f t u.val l.val = ∑ t ∈ Finset.range np, f t u.val l.val := by
      rw [hn, Finset.sum_range_add, Finset.sum_eq_zero (s := Finset.range 512), add_zero]
      intro r hr
      rw [Finset.mem_range] at hr
      exact hf _ _ _ (by omega)
    rw [View.canon_cons_of_not_mem, hL, hs]
    intro hm
    have hm' : (ix2 u l : S2048x128.Idx) ∈ (Rect.unit (s := S2048x128) ![0, 0] ![n, 128] h).set := hm
    have := (Rect.mem_set_unit.mp hm') 0
    exact hu (by have h2 : u.val < 0 + n := this.2; omega)

/-- A further row block's column sums added into the first `n` entries of row `e`, from given numbers. -/
theorem acc3 (v : View sig .tc .vmem S1x8x2048 .f32) (L' L : List PC) (z : Fin 8 → Fin 2048 → EReal) {A A' : ℕ → ℕ → ℝ} {B : ℕ → ℝ} {n np : ℕ} (sd : Side n np) (e : ℕ) (he : e < 8) (h)
    (x : FVec Ideal (M2 512 n) .f32) {X : ℕ → ℕ → ℝ}
    (hL' : ∀ u : Fin 2048, View.canon L' (ix3 0 ⟨e, he⟩ u) = z ⟨e, he⟩ u + ((B u.val : ℝ) : EReal))
    (hL : ∀ (a : Fin 8) (u : Fin 2048), View.canon L (ix3 0 a u) = z a u + ((A a.val u.val : ℝ) : EReal)) (hx : Re x X)
    (hin : ∀ u, u < n → A' e u = B u + ∑ r ∈ Finset.range 512, X r u) (hout : ∀ a u, ¬ (a = e ∧ u < n) → A' a u = A a u)
    (a : Fin 8) (u : Fin 2048) :
    View.canon (⟨Rect.unit (s := S1x8x2048) ![0, e, 0] ![1, 1, n] h, sd.cs (v.readCov L' (Rect.unit (s := S1x8x2048) ![0, e, 0] ![1, 1, n] h).toLoadRect) x⟩ :: L : List PC) (ix3 0 a u)
      = z a u + ((A' a.val u.val : ℝ) : EReal) := by
  by_cases hu : a.val = e ∧ u.val < n
  · have e' : (ix3 0 a u : S1x8x2048.Idx) = (Rect.unit (s := S1x8x2048) ![0, e, 0] ![1, 1, n] h).emb (ix3 (0 : Fin 1) (0 : Fin 1) (⟨u.val, hu.2⟩ : Fin n)) := by
      funext b
      apply Fin.ext
      rw [Rect.emb_apply]
      fin_cases b
      · rfl
      · show a.val = e + 1 * 0; omega
      · show u.val = 0 + 1 * u.val; omega
    rw [e', View.canon_cons_emb]
    have ha : a = ⟨e, he⟩ := Fin.ext hu.1
    have hA : A' a.val u.val = B u.val + ∑ r ∈ Finset.range 512, X r u.val := by rw [hu.1]; exact hin _ hu.2
    rw [sd.cs_law, fin_sum _ (fun r => X r u.val) (fun r => hx r ⟨u.val, hu.2⟩), hA, View.readCov_eq_canon']
    have e3 : (Rect.unit (s := S1x8x2048) ![0, e, 0] ![1, 1, n] h).toLoadRect.idx (ix3 (0 : Fin 1) (0 : Fin 1) (⟨u.val, hu.2⟩ : Fin n)) = ix3 0 ⟨e, he⟩ u := by
      rw [← ha]; exact e'.symm
    beta_reduce
    rw [e3, hL', EReal.coe_add, ← ha, add_assoc]
  · rw [View.canon_cons_of_not_mem, hL, hout _ _ hu]
    intro hm
    have hm' : (ix3 0 a u : S1x8x2048.Idx) ∈ (Rect.unit (s := S1x8x2048) ![0, e, 0] ![1, 1, n] h).set := hm
    have h1 := (Rect.mem_set_unit.mp hm') 1
    have h2 := (Rect.mem_set_unit.mp hm') 2
    refine hu ⟨?_, ?_⟩
    · have h3 : e ≤ a.val := h1.1
      have h4 : a.val < e + 1 := h1.2
      omega
    · have h4 : u.val < 0 + n := h2.2
      omega

theorem acc3_0 (v : View sig .tc .vmem S1x8x2048 .f32) (L' L : List PC) (z : Fin 8 → Fin 2048 → EReal) (f : ℕ → ℕ → ℕ → ℝ) (hf : ∀ e t u, t < u → f e t u = 0) {n np : ℕ} (sd : Side n np) (m m' : ℕ) (h)
    (x : FVec Ideal (M2 512 n) .f32)
    (hL' : ∀ (a : Fin 8) (u : Fin 2048), View.canon L' (ix3 0 a u) = z a u + ((CA f np m' a.val u.val : ℝ) : EReal))
    (hL : ∀ (a : Fin 8) (u : Fin 2048), View.canon L (ix3 0 a u) = z a u + ((CA f np m a.val u.val : ℝ) : EReal))
    (hx : Re x fun r u => f 0 (np + r) u) (a : Fin 8) (u : Fin 2048) :
    View.canon (⟨Rect.unit (s := S1x8x2048) ![0, 0, 0] ![1, 1, n] h, sd.cs (v.readCov L' (Rect.unit (s := S1x8x2048) ![0, 0, 0] ![1, 1, n] h).toLoadRect) x⟩ :: L : List PC) (ix3 0 a u)
      = z a u + ((CA f n m a.val u.val : ℝ) : EReal) := by
  refine acc3 v L' L z (A := CA f np m) (A' := CA f n m) (B := CA f np m' 0) sd 0 (by decide) h x (fun u => hL' _ u) hL hx ?_ ?_ a u
  · intro u _
    rw [sd.hn]
    simp only [CA, if_true]
    exact Finset.sum_range_add _ _ _
  · intro a u hu
    unfold CA
    split_ifs with h0 h1
    · rw [sd.hn, Finset.sum_range_add, Finset.sum_eq_zero (s := Finset.range 512), add_zero]
      intro r hr
      rw [Finset.mem_range] at hr
      refine hf _ _ _ ?_
      have := sd.hn
      have : ¬ u < n := fun h => hu ⟨h0, h⟩
      omega
    · rfl
    · rfl

theorem acc3_1 (v : View sig .tc .vmem S1x8x2048 .f32) (L' L : List PC) (z : Fin 8 → Fin 2048 → EReal) (f : ℕ → ℕ → ℕ → ℝ) (hf : ∀ e t u, t < u → f e t u = 0) {n np : ℕ} (sd : Side n np) (m m' : ℕ) (h)
    (x : FVec Ideal (M2 512 n) .f32)
    (hL' : ∀ (a : Fin 8) (u : Fin 2048), View.canon L' (ix3 0 a u) = z a u + ((CA f m' np a.val u.val : ℝ) : EReal))
    (hL : ∀ (a : Fin 8) (u : Fin 2048), View.canon L (ix3 0 a u) = z a u + ((CA f m np a.val u.val : ℝ) : EReal))
    (hx : Re x fun r u => f 1 (np + r) u) (a : Fin 8) (u : Fin 2048) :
    View.canon (⟨Rect.unit (s := S1x8x2048) ![0, 1, 0] ![1, 1, n] h, sd.cs (v.readCov L' (Rect.unit (s := S1x8x2048) ![0, 1, 0] ![1, 1, n] h).toLoadRect) x⟩ :: L : List PC) (ix3 0 a u)
      = z a u + ((CA f m n a.val u.val : ℝ) : EReal) := by
  refine acc3 v L' L z (A := CA f m np) (A' := CA f m n) (B := CA f m' np 1) sd 1 (by decide) h x (fun u => hL' _ u) hL hx ?_ ?_ a u
  · intro u _
    rw [sd.hn]
    simp only [CA, if_true, one_ne_zero, if_false]
    exact Finset.sum_range_add _ _ _
  · intro a u hu
    unfold CA
    split_ifs with h0 h1
    · rfl
    · rw [sd.hn, Finset.sum_range_add, Finset.sum_eq_zero (s := Finset.range 512), add_zero]
      intro r hr
      rw [Finset.mem_range] at hr
      refine hf _ _ _ ?_
      have := sd.hn
      have : ¬ u < n := fun h => hu ⟨h1, h⟩
      omega
    · rfl

section
variable {Q K V D C : ℕ → ℕ → ℝ} {X0 X1 X2 X3 : FVec Ideal S2048x128 .bf16} {X4 : FVec Ideal S1x2x2048 .f32}
variable (H : Reals X0 X1 X2 X3 X4 Q K V D C) (X5 X6 : FVec Ideal S2048x128 .f32) (X7 : FVec Ideal S1x8x2048 .f32)
include H

theorem dk_re (v : View sig .tc .vmem S2048x128 .f32) (u : Fin 2048) (l : Fin 128) :
    View.canon (ak4 X0 X1 X2 X3 X4 X5 v) (ix2 u l) = X5 (ix2 u l) + ((∑ t ∈ Finset.range 2048, fK Q K V D C t u.val l.val : ℝ) : EReal) := by
  have hf := fun t u l h => fK_of_lt Q K V D C t u l h
  let z : Fin 2048 → Fin 128 → EReal := fun u l => X5 (ix2 u l)
  refine acc2 v _ z _ hf 1536 2048 rfl _ _ ?_ (dk4_re H) u l
  refine acc2 v _ z _ hf 1024 1536 rfl _ _ ?_ (dk3_re H)
  refine acc2 v _ z _ hf 512 1024 rfl _ _ ?_ (dk2_re H)
  refine acc2 v _ z _ hf 0 512 rfl _ _ ?_ (dk1_re H)
  intro u l
  rw [ak0, View.canon_cons_unit_lit _ _ _ (by intro a; fin_cases a <;> rfl), Finset.range_zero, Finset.sum_empty, EReal.coe_zero, add_zero]

theorem dv_re (v : View sig .tc .vmem S2048x128 .f32) (u : Fin 2048) (l : Fin 128) :
    View.canon (av4 X0 X1 X3 X4 X6 v) (ix2 u l) = X6 (ix2 u l) + ((∑ t ∈ Finset.range 2048, fV Q K D C t u.val l.val : ℝ) : EReal) := by
  have hf := fun t u l h => fV_of_lt Q K D C t u l h
  let z : Fin 2048 → Fin 128 → EReal := fun u l => X6 (ix2 u l)
  refine acc2 v _ z _ hf 1536 2048 rfl _ _ ?_ (dv4_re H) u l
  refine acc2 v _ z _ hf 1024 1536 rfl _ _ ?_ (dv3_re H)
  refine acc2 v _ z _ hf 512 1024 rfl _ _ ?_ (dv2_re H)
  refine acc2 v _ z _ hf 0 512 rfl _ _ ?_ (dv1_re H)
  intro u l
  rw [av0, View.canon_cons_unit_lit _ _ _ (by intro a; fin_cases a <;> rfl), Finset.range_zero, Finset.sum_empty, EReal.coe_zero, add_zero]

theorem ck_re (v : View sig .tc .vmem S1x8x2048 .f32) (a : Fin 8) (u : Fin 2048) :
    View.canon (acL X0 X1 X2 X3 X4 X7 v) (ix3 0 a u) = X7 (ix3 0 a u) + ((CA (fC Q K V D C) 2048 2048 a.val u.val : ℝ) : EReal) := by
  have hf := fC_of_lt Q K V D C
  let z0 : Fin 8 → Fin 2048 → EReal := fun a u => X7 (ix3 0 a u)
  have z : ∀ (a : Fin 8) (u : Fin 2048), View.canon [acZ X7] (ix3 0 a u) = X7 (ix3 0 a u) + ((CA (fC Q K V D C) 0 0 a.val u.val : ℝ) : EReal) := by
    intro a u
    rw [acZ, View.canon_cons_unit_lit _ _ _ (by intro a; fin_cases a <;> rfl)]
    simp only [CA, Finset.range_zero, Finset.sum_empty, ite_self, EReal.coe_zero, add_zero]
  have s10 : ∀ (a : Fin 8) (u : Fin 2048), View.canon [ac10 X0 X1 X2 X3 X4 X7 v, acZ X7] (ix3 0 a u) = X7 (ix3 0 a u) + ((CA (fC Q K V D C) 512 0 a.val u.val : ℝ) : EReal) :=
    acc3_0 v _ _ z0 _ hf side1 _ _ _ _ z z (ds10_re H)
  have s11 : ∀ (a : Fin 8) (u : Fin 2048), View.canon [ac11 X0 X1 X2 X3 X4 X7 v, ac10 X0 X1 X2 X3 X4 X7 v, acZ X7] (ix3 0 a u) = X7 (ix3 0 a u) + ((CA (fC Q K V D C) 512 512 a.val u.val : ℝ) : EReal) :=
    acc3_1 v _ _ z0 _ hf side1 _ _ _ _ z s10 (ds11_re H)
  have s20 : ∀ (a : Fin 8) (u : Fin 2048), View.canon [ac20 X0 X1 X2 X3 X4 X7 v, ac11 X0 X1 X2 X3 X4 X7 v, ac10 X0 X1 X2 X3 X4 X7 v, acZ X7] (ix3 0 a u) = X7 (ix3 0 a u) + ((CA (fC Q K V D C) 1024 512 a.val u.val : ℝ) : EReal) :=
    acc3_0 v _ _ z0 _ hf side2 _ _ _ _ s10 s11 (ds20_re H)
  have s21 : ∀ (a : Fin 8) (u : Fin 2048), View.canon [ac21 X0 X1 X2 X3 X4 X7 v, ac20 X0 X1 X2 X3 X4 X7 v, ac11 X0 X1 X2 X3 X4 X7 v, ac10 X0 X1 X2 X3 X4 X7 v, acZ X7] (ix3 0 a u) = X7 (ix3 0 a u) + ((CA (fC Q K V D C) 1024 1024 a.val u.val : ℝ) : EReal) :=
    acc3_1 v _ _ z0 _ hf side2 _ _ _ _ s11 s20 (ds21_re H)
  have s30 : ∀ (a : Fin 8) (u : Fin 2048), View.canon [ac30 X0 X1 X2 X3 X4 X7 v, ac21 X0 X1 X2 X3 X4 X7 v, ac20 X0 X1 X2 X3 X4 X7 v, ac11 X0 X1 X2 X3 X4 X7 v, ac10 X0 X1 X2 X3 X4 X7 v, acZ X7] (ix3 0 a u) = X7 (ix3 0 a u) + ((CA (fC Q K V D C) 1536 1024 a.val u.val : ℝ) : EReal) :=
    acc3_0 v _ _ z0 _ hf side3 _ _ _ _ s20 s21 (ds30_re H)
  have s31 : ∀ (a : Fin 8) (u : Fin 2048), View.canon [ac31 X0 X1 X2 X3 X4 X7 v, ac30 X0 X1 X2 X3 X4 X7 v, ac21 X0 X1 X2 X3 X4 X7 v, ac20 X0 X1 X2 X3 X4 X7 v, ac11 X0 X1 X2 X3 X4 X7 v, ac10 X0 X1 X2 X3 X4 X7 v, acZ X7] (ix3 0 a u) = X7 (ix3 0 a u) + ((CA (fC Q K V D C) 1536 1536 a.val u.val : ℝ) : EReal) :=
    acc3_1 v _ _ z0 _ hf side3 _ _ _ _ s21 s30 (ds31_re H)
  have s40 : ∀ (a : Fin 8) (u : Fin 2048), View.canon [ac40 X0 X1 X2 X3 X4 X7 v, ac31 X0 X1 X2 X3 X4 X7 v, ac30 X0 X1 X2 X3 X4 X7 v, ac21 X0 X1 X2 X3 X4 X7 v, ac20 X0 X1 X2 X3 X4 X7 v, ac11 X0 X1 X2 X3 X4 X7 v, ac10 X0 X1 X2 X3 X4 X7 v, acZ X7] (ix3 0 a u) = X7 (ix3 0 a u) + ((CA (fC Q K V D C) 2048 1536 a.val u.val : ℝ) : EReal) :=
    acc3_0 v _ _ z0 _ hf side4 _ _ _ _ s30 s31 (ds40_re H)
  have s41 : ∀ (a : Fin 8) (u : Fin 2048), View.canon [ac41 X0 X1 X2 X3 X4 X7 v, ac40 X0 X1 X2 X3 X4 X7 v, ac31 X0 X1 X2 X3 X4 X7 v, ac30 X0 X1 X2 X3 X4 X7 v, ac21 X0 X1 X2 X3 X4 X7 v, ac20 X0 X1 X2 X3 X4 X7 v, ac11 X0 X1 X2 X3 X4 X7 v, ac10 X0 X1 X2 X3 X4 X7 v, acZ X7] (ix3 0 a u) = X7 (ix3 0 a u) + ((CA (fC Q K V D C) 2048 2048 a.val u.val : ℝ) : EReal) :=
    acc3_1 v _ _ z0 _ hf side4 _ _ _ _ s31 s40 (ds41_re H)
  exact s41 a u

end

variable (m : (ℓ : Loc nD τ sig) → Buf (Elt Ideal) ℓ)

/-- Where each window's block of a grid point lies. -/
theorem idx : ∀ t : Fin cfg0.N, win0_0.index t = ![0, t.val] ∧ win0_1.index t = ![0, t.val] ∧ win0_2.index t = ![0, 8 + t.val]
    ∧ win0_3.index t = ![0, t.val] ∧ win0_4.index t = ![t.val, 0, 0] ∧ win0_5.index t = ![0, t.val] ∧ win0_6.index t = ![0, t.val]
    ∧ win0_7.index t = ![t.val, 0, 0] ∧ t.val < 8 :=
  (by decide +kernel : ∀ t : Fin grid0.N, _)
theorem idxo : ∀ t : Fin cfg0.N, win0_8.index t = ![0, t.val] ∧ win0_9.index t = ![0, t.val] ∧ win0_10.index t = ![0, t.val] ∧ win0_11.index t = ![t.val, 0, 0] :=
  (by decide +kernel : ∀ t : Fin grid0.N, _)
theorem lt8 (t : Fin cfg0.N) : t.val < 8 := (idx t).2.2.2.2.2.2.2.2

/-- The arguments hold these real numbers; of the sums the kernel starts from nothing is asked. -/
structure Args (c : Dev nD) (q k d g : ℕ → ℕ → ℝ) : Prop where
  q : Re (a := 2048) (b := 1024) (φ := .bf16) (m ((c : Thread nD τ).loc main_arg0)) q
  k : Re (a := 2048) (b := 2048) (φ := .bf16) (m ((c : Thread nD τ).loc main_arg1)) k
  d : Re (a := 2048) (b := 1024) (φ := .bf16) (m ((c : Thread nD τ).loc main_arg2)) d
  g : Re (a := 2048) (b := 16) (φ := .f32) (m ((c : Thread nD τ).loc main_arg3)) g

theorem iblk0 (c : Dev nD) (t : Fin cfg0.N) (r : Fin 2048) (l : Fin 128) (h : 128 * t.val + l.val < 1024) :
    iblk m c 0 t (ix2 r l) = @HMul.hMul EReal EReal EReal _ (m ((c : Thread nD τ).loc main_arg0) (ix2 r ⟨128 * t.val + l.val, h⟩)) (Ideal.ofBits .f32 0x3E000000#32) := by
  blk_simp [iblk]
  entry_read
  pointwise []
  congr 1
  blk_ext [idx t]
theorem iblk1 (c : Dev nD) (t : Fin cfg0.N) (r : Fin 2048) (l : Fin 128) (h : 128 * t.val + l.val < 2048) :
    iblk m c 1 t (ix2 r l) = m ((c : Thread nD τ).loc main_arg1) (ix2 r ⟨128 * t.val + l.val, h⟩) := by
  blk_ext [iblk, V, idx t]
theorem iblk2 (c : Dev nD) (t : Fin cfg0.N) (r : Fin 2048) (l : Fin 128) (h : 1024 + (128 * t.val + l.val) < 2048) :
    iblk m c 2 t (ix2 r l) = m ((c : Thread nD τ).loc main_arg1) (ix2 r ⟨1024 + (128 * t.val + l.val), h⟩) := by
  blk_ext [iblk, V, idx t]
theorem iblk3 (c : Dev nD) (t : Fin cfg0.N) (r : Fin 2048) (l : Fin 128) (h : 128 * t.val + l.val < 1024) :
    iblk m c 3 t (ix2 r l) = m ((c : Thread nD τ).loc main_arg2) (ix2 r ⟨128 * t.val + l.val, h⟩) := by
  blk_ext [iblk, V, idx t]
theorem iblk4 (c : Dev nD) (t : Fin cfg0.N) (e : Fin 2) (u : Fin 2048) (h : 2 * t.val + e.val < 16) :
    iblk m c 4 t (ix3 0 e u) = m ((c : Thread nD τ).loc main_arg3) (ix2 u ⟨2 * t.val + e.val, h⟩) := by
  blk_simp [iblk]
  entry_read
  pointwise []
  blk_ext [idx t]
theorem iblk5 (c : Dev nD) (t : Fin cfg0.N) (r : Fin 2048) (l : Fin 128) (h : t.val * 128 + l.val < 1024) :
    iblk m c 5 t (ix2 r l) = m ((c : Thread nD τ).loc main_arg4) (ix2 r ⟨t.val * 128 + l.val, h⟩) := by
  blk_ext [iblk, V, idx t]
theorem iblk6 (c : Dev nD) (t : Fin cfg0.N) (r : Fin 2048) (l : Fin 128) (h : t.val * 128 + l.val < 1024) :
    iblk m c 6 t (ix2 r l) = m ((c : Thread nD τ).loc main_arg5) (ix2 r ⟨t.val * 128 + l.val, h⟩) := by
  blk_ext [iblk, V, idx t]
theorem iblk7 (c : Dev nD) (t : Fin cfg0.N) (e : Fin 8) (u : Fin 2048) :
    iblk m c 7 t (ix3 0 e u) = m ((c : Thread nD τ).loc main_arg6) (ix3 ⟨t.val, lt8 t⟩ e u) := by
  blk_ext [iblk, V, idx t]

theorem dk_canon (c : Dev nD) (t : Fin cfg0.N) : (outsAt0 m c t).2.1 = View.canon (ak4 (iblk m c 0 t) (iblk m c 1 t) (iblk m c 2 t) (iblk m c 3 t) (iblk m c 4 t) (iblk m c 5 t) (ms0_9 t).view) := by
  rw [ak4, View.canon_cons_unit_lit _ _ _ (by intro a; fin_cases a <;> rfl)]
  exact dk_open m c t
theorem dv_canon (c : Dev nD) (t : Fin cfg0.N) : (outsAt0 m c t).2.2.1 = View.canon (av4 (iblk m c 0 t) (iblk m c 1 t) (iblk m c 3 t) (iblk m c 4 t) (iblk m c 6 t) (ms0_10 t).view) := by
  rw [av4, View.canon_cons_unit_lit _ _ _ (by intro a; fin_cases a <;> rfl)]
  exact dv_open m c t

variable {m}
variable {c : Dev nD} {q k d g : ℕ → ℕ → ℝ} (H : Args m c q k d g)
include H

/-- The blocks of a pair of heads as real numbers. -/
theorem reals (t : Fin cfg0.N) : Reals (iblk m c 0 t) (iblk m c 1 t) (iblk m c 2 t) (iblk m c 3 t) (iblk m c 4 t)
    (fun r l => q r (128 * t.val + l) * (1 / 8)) (fun r l => k r (128 * t.val + l)) (fun r l => k r (1024 + (128 * t.val + l)))
    (fun r l => d r (128 * t.val + l)) (fun e u => g u (2 * t.val + e)) where
  q r l := by
    have ht := lt8 t
    have hl := l.isLt
    rw [iblk0 m c t r l (by omega), H.q, ofBits_eighth, ← EReal.coe_mul]
  k r l := by
    have ht := lt8 t
    have hl := l.isLt
    exact (iblk1 m c t r l (by omega)).trans (H.k _ _)
  v r l := by
    have ht := lt8 t
    have hl := l.isLt
    exact (iblk2 m c t r l (by omega)).trans (H.k _ _)
  d r l := by
    have ht := lt8 t
    have hl := l.isLt
    exact (iblk3 m c t r l (by omega)).trans (H.d _ _)
  c e u := by
    have ht := lt8 t
    have he := e.isLt
    exact (iblk4 m c t e u (by omega)).trans (H.g _ _)

theorem dq_final : (dats m 0 c).arrAt 8 (cfgs 0).N = fun i : S2048x1024.Idx => ((gq q k d g ((i 1).val / 128) (i 0).val ((i 1).val % 128) : ℝ) : EReal) := by
  refine (dats m 0 c).arrAt_eq_of_covers 8 _ (by decide +kernel) fun t hf y => ?_
  blk_simp
  rw [after0_8, dq_open]
  have hy : y = ix2 (y 0) (y 1) := by funext a; fin_cases a <;> rfl
  have h0 : win0_8.index t 0 = 0 := by rw [(idxo t).1]; rfl
  have h1 : win0_8.index t 1 = t.val := by rw [(idxo t).1]; rfl
  have hl : (y 1).val < 128 := (y 1).isLt
  rw [h0, h1]
  have e1 : (t.val * 128 + (y 1).val) / 128 = t.val := by omega
  have e2 : (t.val * 128 + (y 1).val) % 128 = (y 1).val := by omega
  rw [e1, e2, Nat.zero_mul, Nat.zero_add]
  refine (congrArg _ hy).trans ?_
  exact dq_re (reals H t) (y 0) (y 1)

theorem dk_final : (dats m 0 c).arrAt 9 (cfgs 0).N = fun i : S2048x1024.Idx => @HAdd.hAdd EReal EReal EReal _ (m ((c : Thread nD τ).loc main_arg4) i) ((gk q k d g ((i 1).val / 128) (i 0).val ((i 1).val % 128) : ℝ) : EReal) := by
  refine (dats m 0 c).arrAt_eq_of_covers 9 _ (by decide +kernel) fun t hf y => ?_
  have hy : y = ix2 (y 0) (y 1) := by funext a; fin_cases a <;> rfl
  have ht := lt8 t
  have hl : (y 1).val < 128 := (y 1).isLt
  have h0 : win0_9.index t 0 = 0 := by rw [(idxo t).2.1]; rfl
  have h1 : win0_9.index t 1 = t.val := by rw [(idxo t).2.1]; rfl
  blk_simp
  rw [after0_9, dk_canon]
  rw [h0, h1]
  have e1 : (t.val * 128 + (y 1).val) / 128 = t.val := by omega
  have e2 : (t.val * 128 + (y 1).val) % 128 = (y 1).val := by omega
  rw [e1, e2, Nat.zero_mul, Nat.zero_add]
  refine (congrArg _ hy).trans ?_
  refine (dk_re (reals H t) _ _ (y 0) (y 1)).trans ?_
  refine congrArg₂ (fun a b : EReal => a + b) ((iblk5 m c t (y 0) (y 1) (by omega)).trans ?_) rfl
  blk_ext [idxo t]

theorem dv_final : (dats m 0 c).arrAt 10 (cfgs 0).N = fun i : S2048x1024.Idx => @HAdd.hAdd EReal EReal EReal _ (m ((c : Thread nD τ).loc main_arg5) i) ((gv q k d g ((i 1).val / 128) (i 0).val ((i 1).val % 128) : ℝ) : EReal) := by
  refine (dats m 0 c).arrAt_eq_of_covers 10 _ (by decide +kernel) fun t hf y => ?_
  have hy : y = ix2 (y 0) (y 1) := by funext a; fin_cases a <;> rfl
  have ht := lt8 t
  have hl : (y 1).val < 128 := (y 1).isLt
  have h0 : win0_10.index t 0 = 0 := by rw [(idxo t).2.2.1]; rfl
  have h1 : win0_10.index t 1 = t.val := by rw [(idxo t).2.2.1]; rfl
  blk_simp
  rw [after0_10, dv_canon]
  rw [h0, h1]
  have e1 : (t.val * 128 + (y 1).val) / 128 = t.val := by omega
  have e2 : (t.val * 128 + (y 1).val) % 128 = (y 1).val := by omega
  rw [e1, e2, Nat.zero_mul, Nat.zero_add]
  refine (congrArg _ hy).trans ?_
  refine (dv_re (reals H t) _ _ (y 0) (y 1)).trans ?_
  refine congrArg₂ (fun a b : EReal => a + b) ((iblk6 m c t (y 0) (y 1) (by omega)).trans ?_) rfl
  blk_ext [idxo t]

theorem dc_final : (dats m 0 c).arrAt 11 (cfgs 0).N = fun i : S8x8x2048.Idx => @HAdd.hAdd EReal EReal EReal _ (m ((c : Thread nD τ).loc main_arg6) i) ((gc q k d g (i 0).val (i 1).val (i 2).val : ℝ) : EReal) := by
  refine (dats m 0 c).arrAt_eq_of_covers 11 _ (by decide +kernel) fun t hf y => ?_
  blk_simp
  rw [after0_11, ck_open]
  have hy : y = ix3 0 (y 1) (y 2) := by funext a; fin_cases a <;> first | rfl | exact Subsingleton.elim (α := Fin 1) _ _
  have h0 : win0_11.index t 0 = t.val := by rw [(idxo t).2.2.2]; rfl
  have h1 : win0_11.index t 1 = 0 := by rw [(idxo t).2.2.2]; rfl
  have h2 : win0_11.index t 2 = 0 := by rw [(idxo t).2.2.2]; rfl
  rw [h0, h1, h2]
  simp only [Nat.zero_mul, Nat.zero_add, Nat.mul_one, Nat.add_zero]
  refine (congrArg _ hy).trans ?_
  refine (ck_re (reals H t) _ _ (y 1) (y 2)).trans ?_
  refine congrArg₂ (fun a b : EReal => a + b) ((iblk7 m c t (y 1) (y 2)).trans ?_) rfl
  blk_ext [idxo t]

end Cert.FoxAddIdeal.Arr
end
-- ==== Proof.AddRef.lean ====
/-
  The reference that starts from given sums takes the backward reference's gradients and adds them; and what the preconditions of
  the forward call and of this one say of their arguments.
-/
module

public import proofs.«01_k».proof.Proof.Gen.FoxAddRefIdeal.Read
public import proofs.«01_k».proof.Proof.Gen.ReferenceIdeal.Read
public import proofs.«01_k».proof.Proof.Fin
public import proofs.«01_k».proof.Pre_finite_fwd
public import proofs.«01_k».proof.Pre_finite_add

@[expose] public section
set_option maxRecDepth 16384
noncomputable section
namespace Cert.FoxAddRefIdeal.Ref
open Cert.FoxAddRefIdeal Cert.FoxAddRefIdeal.Gen Cert.FoxAddRefIdeal.Read Idealize.ShloMosaic Idealize.ShloMosaic.TcCoe Idealize.SL.Sem

variable {x0 : (⟨S2048x1024, .bf16⟩ : BufTy).Contents (Elt Ideal)} {x1 : (⟨S2048x2048, .bf16⟩ : BufTy).Contents (Elt Ideal)}
  {x2 : (⟨S2048x1024, .bf16⟩ : BufTy).Contents (Elt Ideal)} {x3 : (⟨S2048x16, .f32⟩ : BufTy).Contents (Elt Ideal)}

theorem v95_eq : val_main_v95 (F := Ideal) x0 x1 x2 x3 = Cert.ReferenceIdeal.Read.val_main_v95 (F := Ideal) x0 x1 x2 x3 := rfl
theorem v96_eq : val_main_v96 (F := Ideal) x0 x1 x2 x3 = Cert.ReferenceIdeal.Read.val_main_v96 (F := Ideal) x0 x1 x2 x3 := rfl
theorem v97_eq : val_main_v97 (F := Ideal) x0 x1 x2 x3 = Cert.ReferenceIdeal.Read.val_main_v97 (F := Ideal) x0 x1 x2 x3 := rfl
theorem v93_eq : val_main_v93 (F := Ideal) x0 x1 x2 x3 = Cert.ReferenceIdeal.Read.val_main_v93 (F := Ideal) x0 x1 x2 x3 := rfl

end Cert.FoxAddRefIdeal.Ref

namespace Cert.Fin
open Idealize.ShloMosaic Cert.Soft Cert.KernelIdeal.Sec

instance facts_fwd : Cert.Pre_finite_fwd.Facts := ⟨by decide, by decide, by decide, by decide⟩
instance facts_add : Cert.Pre_finite_add.Facts := ⟨by decide, by decide, by decide, by decide⟩

variable {x0 x2 : (M2 2048 1024).Idx → EReal} {x1 : (M2 2048 2048).Idx → EReal} {x3 : (M2 2048 16).Idx → EReal}
  {x4 x5 : (M2 2048 1024).Idx → EReal} {x6 : (⟨3, ![8, 8, 2048]⟩ : Shape).Idx → EReal}

theorem fwd0 (h : (Cert.Pre_finite_fwd.fn (F := Ideal) x0 x1 x3).1 = fun _ => 1#1) : Re (a := 2048) (b := 1024) (φ := .bf16) x0 (reals (a := 2048) (b := 1024) x0) :=
  reals_at (a := 2048) (b := 1024) x0 fun i => congrFun h i
theorem fwd1 (h : (Cert.Pre_finite_fwd.fn (F := Ideal) x0 x1 x3).2.1 = fun _ => 1#1) : Re (a := 2048) (b := 2048) (φ := .bf16) x1 (reals (a := 2048) (b := 2048) x1) :=
  reals_at (a := 2048) (b := 2048) x1 fun i => congrFun h i
theorem fwd2 (h : (Cert.Pre_finite_fwd.fn (F := Ideal) x0 x1 x3).2.2 = fun _ => 1#1) : Re (a := 2048) (b := 16) (φ := .f32) x3 (reals (a := 2048) (b := 16) x3) :=
  reals_at (a := 2048) (b := 16) x3 fun i => congrFun h i

theorem add0 (h : (Cert.Pre_finite_add.fn (F := Ideal) x0 x1 x2 x3 x4 x5 x6).1 = fun _ => 1#1) : Re (a := 2048) (b := 1024) (φ := .bf16) x0 (reals (a := 2048) (b := 1024) x0) :=
  reals_at (a := 2048) (b := 1024) x0 fun i => congrFun h i
theorem add1 (h : (Cert.Pre_finite_add.fn (F := Ideal) x0 x1 x2 x3 x4 x5 x6).2.1 = fun _ => 1#1) : Re (a := 2048) (b := 2048) (φ := .bf16) x1 (reals (a := 2048) (b := 2048) x1) :=
  reals_at (a := 2048) (b := 2048) x1 fun i => congrFun h i
theorem add2 (h : (Cert.Pre_finite_add.fn (F := Ideal) x0 x1 x2 x3 x4 x5 x6).2.2.1 = fun _ => 1#1) : Re (a := 2048) (b := 1024) (φ := .bf16) x2 (reals (a := 2048) (b := 1024) x2) :=
  reals_at (a := 2048) (b := 1024) x2 fun i => congrFun h i
theorem add3 (h : (Cert.Pre_finite_add.fn (F := Ideal) x0 x1 x2 x3 x4 x5 x6).2.2.2 = fun _ => 1#1) : Re (a := 2048) (b := 16) (φ := .f32) x3 (reals (a := 2048) (b := 16) x3) :=
  reals_at (a := 2048) (b := 16) x3 fun i => congrFun h i

end Cert.Fin
end
-- ==== Proof.ConvSec.lean ====
/-
  One column block of the convolution gate's backward pass: the kernel's vectors, and what they hold when their inputs are reals.
-/
module

public import proofs.«01_k».proof.Proof.Gen.ConvBwdIdeal.Value
public import proofs.«01_k».proof.Proof.Sec

@[expose] public section
set_option maxRecDepth 16384
noncomputable section
namespace Cert.Conv
open Cert.ConvBwdIdeal Cert.ConvBwdIdeal.Gen Idealize.ShloMosaic Idealize.ShloMosaic.TcCoe Idealize.SL.Sem
open Cert.KernelIdeal.Sec (M2 Re)
open Cert.Soft

/-! ## The convolution gate of one column, over the reals -/

/-- A column moved down, and up, by `n` rows, with zeros where it leaves. -/
def sh (n : ℕ) (z : ℕ → ℝ) (t : ℕ) : ℝ := if n ≤ t then z (t - n) else 0
def up (n : ℕ) (d : ℕ → ℝ) (t : ℕ) : ℝ := if t < 2048 - n then d (t + n) else 0
/-- The causal convolution of width three, and its transpose. -/
def cv (w0 w1 w2 b : ℝ) (z : ℕ → ℝ) (t : ℕ) : ℝ := w2 * z t + w1 * sh 1 z t + w0 * sh 2 z t + b
def vc (w0 w1 w2 : ℝ) (d : ℕ → ℝ) (t : ℕ) : ℝ := w2 * d t + w1 * up 1 d t + w0 * up 2 d t
def K : ℝ := 13386282 / 16777216
def th (g : ℝ) : ℝ := Real.tanh (K * (g + 8943 / 200000 * g * g * g))
def gel (g : ℝ) : ℝ := 1 / 2 * g * (1 + th g)
def dgel (g : ℝ) : ℝ := 1 / 2 * (1 + th g) + 1 / 2 * g * (1 - th g * th g) * K * (1 + 26829 / 200000 * g * g)

theorem ofBits_K : Ideal.ofBits FTy.f32 0x3F4C422A#32 = ((K : ℝ) : EReal) := by
  simp [Ideal.ofBits, Ideal.ieee, K, -EReal.coe_mul]; norm_num
theorem ofBits_half : Ideal.ofBits FTy.f32 0x3F000000#32 = ((1 / 2 : ℝ) : EReal) := by
  simp [Ideal.ofBits, Ideal.ieee, -EReal.coe_mul]; norm_num
theorem ofBits_one : Ideal.ofBits FTy.f32 0x3F800000#32 = ((1 : ℝ) : EReal) := by
  simp [Ideal.ofBits, Ideal.ieee, -EReal.coe_mul]; norm_num
theorem c_eq : Named.named (F := Ideal) κ "c" (φ := .f32) 0x3D372713#32 = ((8943 / 200000 : ℝ) : EReal) :=
  IdealRules.named_const.ideal_named_scalar _ _ _ _ rfl
theorem c3_eq : Named.named (F := Ideal) κ "c3" (φ := .f32) 0x3E095D4F#32 = ((26829 / 200000 : ℝ) : EReal) :=
  IdealRules.named_const.ideal_named_scalar _ _ _ _ rfl

theorem toInt_of_lt (x : ℕ) (h : x < 2048) : (BitVec.ofNat 32 x).toInt = x := by
  rw [BitVec.toInt_eq_toNat_of_lt (by simp; omega)]; simp; omega
theorem sel_ge (a n : ℕ) (ha : a < 2048) (hn : n < 2048) (x y : EReal) :
    Scalar.select (IntOp.cmpi CmpIPredicate.sge (BitVec.ofNat 32 a) (BitVec.ofNat 32 n)) x y = if n ≤ a then x else y := by
  have : IntOp.cmpi CmpIPredicate.sge (BitVec.ofNat 32 a) (BitVec.ofNat 32 n)
      = BitVec.ofBool ((BitVec.ofNat 32 n).sle (BitVec.ofNat 32 a)) := rfl
  rw [this, BitVec.sle_eq_decide, toInt_of_lt a ha, toInt_of_lt n hn, Scalar.select]
  by_cases h : n ≤ a <;> simp [h]
theorem sel_lt (a n : ℕ) (ha : a < 2048) (hn : n < 2048) (x y : EReal) :
    Scalar.select (IntOp.cmpi CmpIPredicate.slt (BitVec.ofNat 32 a) (BitVec.ofNat 32 n)) x y = if a < n then x else y := by
  have : IntOp.cmpi CmpIPredicate.slt (BitVec.ofNat 32 a) (BitVec.ofNat 32 n)
      = BitVec.ofBool ((BitVec.ofNat 32 a).slt (BitVec.ofNat 32 n)) := rfl
  rw [this, BitVec.slt_eq_decide, toInt_of_lt a ha, toInt_of_lt n hn, Scalar.select]
  by_cases h : a < n <;> simp [h]

/-! ## The kernel's vectors -/

section
variable {z d : FVec Ideal S2048x128 .f32} {Z D : ℕ → ℕ → ℝ}

theorem pay2_re (hz : Re z Z) : Re (k0_pay2 (F := Ideal) z) fun t l => sh 1 (fun s => Z s l) t := by
  intro t l
  have ht := t.isLt
  pointwise [k0_pay2]
  rw [sel_ge _ 1 ht (by decide), hz, sh]
  split_ifs with h
  · exact congrArg (fun n => ((Z n l.val : ℝ) : EReal)) (show (t.val + 2048 - 1) % 2048 = t.val - 1 by omega)
  · rfl
theorem pay3_re (hz : Re z Z) : Re (k0_pay3 (F := Ideal) z) fun t l => sh 2 (fun s => Z s l) t := by
  intro t l
  have ht := t.isLt
  pointwise [k0_pay3]
  rw [sel_ge _ 2 ht (by decide), hz, sh]
  split_ifs with h
  · exact congrArg (fun n => ((Z n l.val : ℝ) : EReal)) (show (t.val + 2048 - 2) % 2048 = t.val - 2 by omega)
  · rfl
theorem pay5_re (hz : Re z Z) : Re (k0_pay5 (F := Ideal) z) fun t l => sh 1 (fun s => Z s l) t := pay2_re hz
theorem pay8_re (hz : Re z Z) : Re (k0_pay8 (F := Ideal) k0_pay6 (k0_pay7 z) (Scalar.ofBits .f32 0x00000000#32)) fun t l => sh 2 (fun s => Z s l) t := pay3_re hz
theorem pay23_re (hd : Re d D) : Re (k0_pay23 (F := Ideal) (iota .tc S2048x128 32 [0] iota_S2048x128_d0_w32) d) fun t l => up 1 (fun s => D s l) t := by
  intro t l
  have ht := t.isLt
  pointwise [k0_pay23]
  rw [sel_lt _ 2047 ht (by decide), hd, up]
  split_ifs with h
  · exact congrArg (fun n => ((D n l.val : ℝ) : EReal)) (show (t.val + 2048 - 2047) % 2048 = t.val + 1 by omega)
  · rfl
theorem pay24_re (hd : Re d D) : Re (k0_pay24 (F := Ideal) (iota .tc S2048x128 32 [0] iota_S2048x128_d0_w32) d) fun t l => up 2 (fun s => D s l) t := by
  intro t l
  have ht := t.isLt
  pointwise [k0_pay24]
  rw [sel_lt _ 2046 ht (by decide), hd, up]
  split_ifs with h
  · exact congrArg (fun n => ((D n l.val : ℝ) : EReal)) (show (t.val + 2048 - 2046) % 2048 = t.val + 2 by omega)
  · rfl

theorem pay20_re (hz : Re z Z) (hd : Re d D) (e k : Fin 1) (l : Fin 128) :
    k0_pay20 (F := Ideal) z d (ix3 e k l) = ((∑ t ∈ Finset.range 2048, D t l * Z t l : ℝ) : EReal) := by
  pointwise [k0_pay20]
  exact fin_sum _ (fun t => D t l * Z t l) fun t => by rw [hz, hd, ← EReal.coe_mul]
theorem pay22_re (hd : Re d D) (e k : Fin 1) (l : Fin 128) :
    k0_pay22 (F := Ideal) d (ix3 e k l) = ((∑ t ∈ Finset.range 2048, D t l : ℝ) : EReal) := by
  pointwise [k0_pay22]
  exact fin_sum _ (fun t => D t l) fun t => hd _ _

variable {w0 w1 w2 b : FVec Ideal S1x128 .f32} {W0 W1 W2 B : ℕ → ℝ}

theorem pay4_re (hz : Re z Z) (h0 : Re w0 fun _ => W0) (h1 : Re w1 fun _ => W1) (h2 : Re w2 fun _ => W2) (hb : Re b fun _ => B) :
    Re (k0_pay4 (F := Ideal) z w2 w1 w0 b) fun t l => cv (W0 l) (W1 l) (W2 l) (B l) (fun s => Z s l) t := by
  intro t l
  have e : k0_pay4 (F := Ideal) z w2 w1 w0 b (ix2 t l) = @HAdd.hAdd EReal EReal EReal _ (w2 (ix2 0 l) * z (ix2 t l) + w1 (ix2 0 l) * k0_pay2 (F := Ideal) z (ix2 t l) + w0 (ix2 0 l) * k0_pay3 (F := Ideal) z (ix2 t l)) (b (ix2 0 l)) := by
    unfold k0_pay4
    generalize k0_pay2 (F := Ideal) z = p
    generalize k0_pay3 (F := Ideal) z = q
    pointwise []
  rw [e, pay2_re hz, pay3_re hz, hz, h0, h1, h2, hb]
  simp only [← EReal.coe_mul, ← EReal.coe_add]
  rfl

theorem pay17'_re (hd : Re d D) (h0 : Re w0 fun _ => W0) (h1 : Re w1 fun _ => W1) (h2 : Re w2 fun _ => W2) (e : Fin 1) (t : Fin 2048) (l : Fin 128) :
    k0_pay26 (F := Ideal) (k0_pay23 (iota .tc S2048x128 32 [0] iota_S2048x128_d0_w32) d) (k0_pay24 (iota .tc S2048x128 32 [0] iota_S2048x128_d0_w32) d)
      (k0_pay25 d w2) w1 w0 (ix3 e t l) = ((vc (W0 l) (W1 l) (W2 l) (fun s => D s l) t : ℝ) : EReal) := by
  have e1 : k0_pay26 (F := Ideal) (k0_pay23 (iota .tc S2048x128 32 [0] iota_S2048x128_d0_w32) d) (k0_pay24 (iota .tc S2048x128 32 [0] iota_S2048x128_d0_w32) d)
      (k0_pay25 d w2) w1 w0 (ix3 e t l) = @HAdd.hAdd EReal EReal EReal _ (w2 (ix2 0 l) * d (ix2 t l) + w1 (ix2 0 l) * k0_pay23 (F := Ideal) (iota .tc S2048x128 32 [0] iota_S2048x128_d0_w32) d (ix2 t l)) (w0 (ix2 0 l) * k0_pay24 (F := Ideal) (iota .tc S2048x128 32 [0] iota_S2048x128_d0_w32) d (ix2 t l)) := by
    generalize k0_pay23 (F := Ideal) (iota .tc S2048x128 32 [0] iota_S2048x128_d0_w32) d = p
    generalize k0_pay24 (F := Ideal) (iota .tc S2048x128 32 [0] iota_S2048x128_d0_w32) d = q
    pointwise [k0_pay26, k0_pay25]
  rw [e1, pay23_re hd, pay24_re hd, hd, h0, h1, h2]
  simp only [← EReal.coe_mul, ← EReal.coe_add]
  rfl

variable {g v u : FVec Ideal S2048x128 .f32} {G V U : ℕ → ℕ → ℝ}

theorem pay10_re (hg : Re g G) : Re (k0_pay10 (F := Ideal) g) fun t l => th (G t l) := by
  intro t l
  pointwise [k0_pay10]
  rw [hg, c_eq, ofBits_K]
  simp only [← EReal.coe_mul, ← EReal.coe_add]
  rfl
theorem pay16_re (hg : Re g G) (hu : Re u U) : Re (k0_pay16 (F := Ideal) u (k0_pay11 g)) fun t l => U t l * gel (G t l) := by
  intro t l
  have e : k0_pay16 (F := Ideal) u (k0_pay11 g) (ix2 t l) = @HMul.hMul EReal EReal EReal _ (u (ix2 t l)) (Ideal.ofBits .f32 0x3F000000#32 * g (ix2 t l) * (Ideal.ofBits .f32 0x3F800000#32 + k0_pay10 (F := Ideal) g (ix2 t l))) := by
    unfold k0_pay11
    generalize k0_pay10 (F := Ideal) g = p
    rfl
  rw [e, pay10_re hg, hg, hu, ofBits_half, ofBits_one]
  simp only [← EReal.coe_mul, ← EReal.coe_add]
  rfl
theorem pay15_re (hg : Re g G) (hv : Re v V) (hu : Re u U) :
    Re (k0_pay15 (F := Ideal) g v u (k0_pay12 g) (k0_pay13 g) k0_pay14) fun t l => U t l * V t l * dgel (G t l) := by
  intro t l
  have e : k0_pay15 (F := Ideal) g v u (k0_pay12 g) (k0_pay13 g) k0_pay14 (ix2 t l) = @HMul.hMul EReal EReal EReal _ (u (ix2 t l) * v (ix2 t l))
      (Ideal.ofBits .f32 0x3F000000#32 * (Ideal.ofBits .f32 0x3F800000#32 + k0_pay10 (F := Ideal) g (ix2 t l))
        + Ideal.ofBits .f32 0x3F000000#32 * g (ix2 t l) * (Ideal.ofBits .f32 0x3F800000#32 - k0_pay10 (F := Ideal) g (ix2 t l) * k0_pay10 (F := Ideal) g (ix2 t l))
          * Ideal.ofBits .f32 0x3F4C422A#32 * (Ideal.ofBits .f32 0x3F800000#32 + Named.named (F := Ideal) κ "c3" (φ := .f32) 0x3E095D4F#32 * g (ix2 t l) * g (ix2 t l))) := by
    unfold k0_pay12 k0_pay13
    generalize k0_pay10 (F := Ideal) g = p
    rfl
  rw [e, pay10_re hg, hg, hu, hv, ofBits_half, ofBits_one, ofBits_K, c3_eq]
  simp only [← EReal.coe_mul, ← EReal.coe_add, ← EReal.coe_sub]
  rfl
end

/-! ## One grid point's blocks -/

/-- The blocks of a grid point hold these real numbers. -/
structure Blk (X0 X1 : FVec Ideal S2048x128 .f32) (X2 X3 : FVec Ideal S3x128 .f32) (X4 X5 : FVec Ideal S1x128 .f32) (X6 : FVec Ideal S2048x128 .f32)
    (zg zv wg wv : ℕ → ℕ → ℝ) (bg bv : ℕ → ℝ) (u : ℕ → ℕ → ℝ) : Prop where
  zg : Re X0 zg
  zv : Re X1 zv
  wg : Re X2 wg
  wv : Re X3 wv
  bg : Re X4 fun _ => bg
  bv : Re X5 fun _ => bv
  u : Re X6 u

/-- The two halves' convolutions, their cotangents, and what the backward pass returns of a half. -/
def cvb (z w : ℕ → ℕ → ℝ) (b : ℕ → ℝ) (t l : ℕ) : ℝ := cv (w 0 l) (w 1 l) (w 2 l) (b l) (fun s => z s l) t
def dg (zg zv wg wv : ℕ → ℕ → ℝ) (bg bv : ℕ → ℝ) (u : ℕ → ℕ → ℝ) (t l : ℕ) : ℝ := u t l * cvb zv wv bv t l * dgel (cvb zg wg bg t l)
def dv (zg wg : ℕ → ℕ → ℝ) (bg : ℕ → ℝ) (u : ℕ → ℕ → ℝ) (t l : ℕ) : ℝ := u t l * gel (cvb zg wg bg t l)
def da (w d : ℕ → ℕ → ℝ) (t l : ℕ) : ℝ := vc (w 0 l) (w 1 l) (w 2 l) (fun s => d s l) t
def dw (z d : ℕ → ℕ → ℝ) (k l : ℕ) : ℝ := ∑ t ∈ Finset.range 2048, d t l * sh (2 - k) (fun s => z s l) t
def db (d : ℕ → ℕ → ℝ) (l : ℕ) : ℝ := ∑ t ∈ Finset.range 2048, d t l

section
variable {X0 X1 : FVec Ideal S2048x128 .f32} {X2 X3 : FVec Ideal S3x128 .f32} {X4 X5 : FVec Ideal S1x128 .f32} {X6 : FVec Ideal S2048x128 .f32}
  {zg zv wg wv : ℕ → ℕ → ℝ} {bg bv : ℕ → ℝ} {u : ℕ → ℕ → ℝ} (H : Blk X0 X1 X2 X3 X4 X5 X6 zg zv wg wv bg bv u)

theorem ld_whole (x : FVec Ideal S2048x128 .f32) : View.ld (Val := Elt Ideal) (e' := .f32) x r0_0 = x := by
  funext j
  have hj : j = ix2 (j 0) (j 1) := by funext a; fin_cases a <;> rfl
  rw [hj]; pointwise []
theorem ld_b (x : FVec Ideal S1x128 .f32) : View.ld (Val := Elt Ideal) (e' := .f32) x r0_4 = x := by
  funext j
  have hj : j = ix2 (0 : Fin 1) (j 1) := by
    funext a; fin_cases a
    · exact Subsingleton.elim (α := Fin 1) _ _
    · rfl
  rw [hj]; pointwise []
theorem ld_w {x : FVec Ideal S3x128 .f32} {w : ℕ → ℕ → ℝ} (h : Re x w) :
    (Re (a := 1) (b := 128) (φ := .f32) (View.ld (Val := Elt Ideal) (e' := .f32) x r0_3) fun _ => w 0)
    ∧ (Re (a := 1) (b := 128) (φ := .f32) (View.ld (Val := Elt Ideal) (e' := .f32) x r0_2) fun _ => w 1)
    ∧ (Re (a := 1) (b := 128) (φ := .f32) (View.ld (Val := Elt Ideal) (e' := .f32) x r0_1) fun _ => w 2) := by
  refine ⟨fun i j => ?_, fun i j => ?_, fun i j => ?_⟩
  · refine Eq.trans (b := x (ix2 0 j)) (by pointwise []) (h _ _)
  · refine Eq.trans (b := x (ix2 1 j)) (by pointwise []) (h _ _)
  · refine Eq.trans (b := x (ix2 2 j)) (by pointwise []) (h _ _)

include H

theorem p31 : Re (k0_pay31 (F := Ideal) X0 X1 X2 X3 X4 X5 X6) (cvb zg wg bg) := by
  obtain ⟨h0, h1, h2⟩ := ld_w H.wg
  unfold k0_pay31
  rw [ld_whole, ld_b]
  exact pay4_re H.zg h0 h1 h2 H.bg
theorem p35 : Re (k0_pay35 (F := Ideal) X0 X1 X2 X3 X4 X5 X6) (cvb zv wv bv) := by
  obtain ⟨h0, h1, h2⟩ := ld_w H.wv
  unfold k0_pay35 k0_pay32 k0_pay33 k0_pay34
  rw [ld_whole, ld_b]
  exact pay4_re H.zv h0 h1 h2 H.bv
theorem p40 : Re (k0_pay40 (F := Ideal) X0 X1 X2 X3 X4 X5 X6) (dg zg zv wg wv bg bv u) := by
  unfold k0_pay40 k0_pay36 k0_pay37 k0_pay38
  rw [ld_whole]
  exact pay15_re (p31 H) (p35 H) H.u
theorem p41 : Re (k0_pay41 (F := Ideal) X0 X1 X2 X3 X4 X5 X6) (dv zg wg bg u) := by
  unfold k0_pay41
  rw [ld_whole]
  exact pay16_re (p31 H) H.u

/-! ## The output blocks -/

omit H in
theorem canon_hit {A B : ℕ} {e : EltTy} (o p n q : ℕ) (h : ∀ a, (![o, p, 0] : Fin 3 → ℕ) a + (![n, q, 128] : Fin 3 → ℕ) a ≤ (⟨3, ![A, B, 128]⟩ : Shape).size a)
    (x : (⟨3, ![n, q, 128]⟩ : Shape).Idx → Elt Ideal e) (L : List (View.Piece (Elt Ideal) ⟨3, ![A, B, 128]⟩ e)) (i : Fin A) (j : Fin B) (l : Fin 128)
    (r : Fin n) (s : Fin q) (hr : i.val = o + r.val) (hs : j.val = p + s.val) :
    View.canon (⟨Rect.unit (s := ⟨3, ![A, B, 128]⟩) ![o, p, 0] ![n, q, 128] h, x⟩ :: L) (ix3 i j l) = x (ix3 r s l) := by
  have e' : (ix3 i j l : (⟨3, ![A, B, 128]⟩ : Shape).Idx) = (Rect.unit (s := ⟨3, ![A, B, 128]⟩) ![o, p, 0] ![n, q, 128] h).emb (ix3 r s l) := by
    funext a
    apply Fin.ext
    rw [Rect.emb_apply]
    fin_cases a
    · show i.val = o + 1 * r.val; omega
    · show j.val = p + 1 * s.val; omega
    · show l.val = 0 + 1 * l.val; omega
  rw [e', View.canon_cons_emb]

omit H in
theorem canon_skip {A B : ℕ} {e : EltTy} (o p n q : ℕ) (h : ∀ a, (![o, p, 0] : Fin 3 → ℕ) a + (![n, q, 128] : Fin 3 → ℕ) a ≤ (⟨3, ![A, B, 128]⟩ : Shape).size a)
    (x : (⟨3, ![n, q, 128]⟩ : Shape).Idx → Elt Ideal e) (L : List (View.Piece (Elt Ideal) ⟨3, ![A, B, 128]⟩ e)) (i : Fin A) (j : Fin B) (l : Fin 128)
    (hr : ¬(o ≤ i.val ∧ p ≤ j.val)) :
    View.canon (⟨Rect.unit (s := ⟨3, ![A, B, 128]⟩) ![o, p, 0] ![n, q, 128] h, x⟩ :: L) (ix3 i j l) = View.canon L (ix3 i j l) := by
  rw [View.canon_cons_of_not_mem]
  intro hm
  have hm' : (ix3 i j l : (⟨3, ![A, B, 128]⟩ : Shape).Idx) ∈ (Rect.unit (s := ⟨3, ![A, B, 128]⟩) ![o, p, 0] ![n, q, 128] h).set := hm
  exact hr ⟨((Rect.mem_set_unit.mp hm') 0).1, ((Rect.mem_set_unit.mp hm') 1).1⟩

theorem out7_0 (t : Fin 2048) (l : Fin 128) : out0_7 (F := Ideal) X0 X1 X2 X3 X4 X5 X6 (ix3 0 t l) = ((da wg (dg zg zv wg wv bg bv u) t l : ℝ) : EReal) := by
  obtain ⟨h0, h1, h2⟩ := ld_w H.wg
  refine (canon_skip 1 0 1 2048 _ _ _ 0 t l (by simp)).trans ?_
  refine (canon_hit 0 0 1 2048 _ _ _ 0 t l 0 t (by simp) (by simp)).trans ?_
  exact pay17'_re (p40 H) h0 h1 h2 0 t l
theorem out7_1 (t : Fin 2048) (l : Fin 128) : out0_7 (F := Ideal) X0 X1 X2 X3 X4 X5 X6 (ix3 1 t l) = ((da wv (dv zg wg bg u) t l : ℝ) : EReal) := by
  obtain ⟨h0, h1, h2⟩ := ld_w H.wv
  refine (canon_hit 1 0 1 2048 _ _ _ 1 t l 0 t (by simp) (by simp)).trans ?_
  exact pay17'_re (p41 H) h0 h1 h2 0 t l

theorem out8_0 (k : Fin 3) (l : Fin 128) : out0_8 (F := Ideal) X0 X1 X2 X3 X4 X5 X6 (ix3 0 k l) = ((dw zg (dg zg zv wg wv bg bv u) k l : ℝ) : EReal) := by
  have e := ld_whole X0
  refine (canon_skip 1 2 1 1 _ _ _ 0 k l (by simp)).trans ?_
  refine (canon_skip 1 1 1 1 _ _ _ 0 k l (by simp)).trans ?_
  refine (canon_skip 1 0 1 1 _ _ _ 0 k l (by simp)).trans ?_
  fin_cases k
  · refine (canon_skip 0 2 1 1 _ _ _ 0 0 l (by simp)).trans ?_
    refine (canon_skip 0 1 1 1 _ _ _ 0 0 l (by simp)).trans ?_
    refine (canon_hit 0 0 1 1 _ _ _ 0 0 l 0 0 (by simp) (by simp)).trans ?_
    rw [e]
    exact pay20_re (pay3_re H.zg) (p40 H) 0 0 l
  · refine (canon_skip 0 2 1 1 _ _ _ 0 1 l (by simp)).trans ?_
    refine (canon_hit 0 1 1 1 _ _ _ 0 1 l 0 0 (by simp) (by simp)).trans ?_
    rw [e]
    exact pay20_re (pay2_re H.zg) (p40 H) 0 0 l
  · refine (canon_hit 0 2 1 1 _ _ _ 0 2 l 0 0 (by simp) (by simp)).trans ?_
    rw [e]
    exact pay20_re H.zg (p40 H) 0 0 l
theorem out8_1 (k : Fin 3) (l : Fin 128) : out0_8 (F := Ideal) X0 X1 X2 X3 X4 X5 X6 (ix3 1 k l) = ((dw zv (dv zg wg bg u) k l : ℝ) : EReal) := by
  have e := ld_whole X1
  fin_cases k
  · refine (canon_skip 1 2 1 1 _ _ _ 1 0 l (by simp)).trans ?_
    refine (canon_skip 1 1 1 1 _ _ _ 1 0 l (by simp)).trans ?_
    refine (canon_hit 1 0 1 1 _ _ _ 1 0 l 0 0 (by simp) (by simp)).trans ?_
    unfold k0_pay33 k0_pay34
    rw [e]
    exact pay20_re (pay8_re H.zv) (p41 H) 0 0 l
  · refine (canon_skip 1 2 1 1 _ _ _ 1 1 l (by simp)).trans ?_
    refine (canon_hit 1 1 1 1 _ _ _ 1 1 l 0 0 (by simp) (by simp)).trans ?_
    unfold k0_pay32
    rw [e]
    exact pay20_re (pay5_re H.zv) (p41 H) 0 0 l
  · refine (canon_hit 1 2 1 1 _ _ _ 1 2 l 0 0 (by simp) (by simp)).trans ?_
    rw [e]
    exact pay20_re H.zv (p41 H) 0 0 l

theorem out9_0 (k : Fin 1) (l : Fin 128) : out0_9 (F := Ideal) X0 X1 X2 X3 X4 X5 X6 (ix3 0 k l) = ((db (dg zg zv wg wv bg bv u) l : ℝ) : EReal) := by
  refine (canon_skip 1 0 1 1 _ _ _ 0 k l (by simp)).trans ?_
  refine (canon_hit 0 0 1 1 _ _ _ 0 k l 0 k (by simp) (by simp)).trans ?_
  exact pay22_re (p40 H) 0 k l
theorem out9_1 (k : Fin 1) (l : Fin 128) : out0_9 (F := Ideal) X0 X1 X2 X3 X4 X5 X6 (ix3 1 k l) = ((db (dv zg wg bg u) l : ℝ) : EReal) := by
  refine (canon_hit 1 0 1 1 _ _ _ 1 k l 0 k (by simp) (by simp)).trans ?_
  exact pay22_re (p41 H) 0 k l

end
end Cert.Conv
end
-- ==== Proof.ConvArr.lean ====
/-
  The convolution gate's backward result arrays as real numbers of real arguments.
-/
module

public import proofs.«01_k».proof.Proof.ConvSec
public import Idealize.ShloMosaic.Lib.Pipeline.ValueKit

@[expose] public section
set_option maxRecDepth 16384
noncomputable section

namespace Cert.Conv

/-- The right half's columns. -/
def rt (z : ℕ → ℕ → ℝ) (t j : ℕ) : ℝ := z t (2816 + j)
/-- The cotangents of the two halves' convolutions, of the whole arguments. -/
def gg (a w u : ℕ → ℕ → ℝ) (b : ℕ → ℝ) : ℕ → ℕ → ℝ := dg a (rt a) w (rt w) b (fun j => b (2816 + j)) u
def gv (a w u : ℕ → ℕ → ℝ) (b : ℕ → ℝ) : ℕ → ℕ → ℝ := dv a w b u

end Cert.Conv

namespace Cert.ConvBwdIdeal.Arr
open Cert.ConvBwdIdeal Cert.ConvBwdIdeal.Gen Idealize.ShloMosaic Idealize.ShloMosaic.TcCoe Idealize.SL.Sem
open Cert.KernelIdeal.Sec (M2 Re)
open Cert.Conv
open Idealize.ShloMosaic.Pipeline (Dat)

variable (m : (ℓ : Loc nD τ sig) → Buf (Elt Ideal) ℓ)

/-- Where each window's block of a grid point lies. -/
theorem idx : ∀ t : Fin cfg0.N, win0_0.index t = ![0, t.val] ∧ win0_1.index t = ![0, 22 + t.val] ∧ win0_2.index t = ![0, t.val]
    ∧ win0_3.index t = ![0, 22 + t.val] ∧ win0_4.index t = ![0, t.val] ∧ win0_5.index t = ![0, 22 + t.val] ∧ win0_6.index t = ![0, t.val]
    ∧ win0_7.index t = ![0, 0, t.val] ∧ win0_8.index t = ![0, 0, t.val] ∧ win0_9.index t = ![0, 0, t.val] ∧ t.val < 22 :=
  (by decide +kernel : ∀ t : Fin grid0.N, _)

/-- The arguments hold these real numbers. -/
structure Args (c : Dev nD) (a u w : ℕ → ℕ → ℝ) (b : ℕ → ℝ) : Prop where
  a : Re (a := 2048) (b := 5632) (φ := .f32) (m ((c : Thread nD τ).loc main_arg0)) a
  u : Re (a := 2048) (b := 2816) (φ := .f32) (m ((c : Thread nD τ).loc main_arg1)) u
  w : Re (a := 3) (b := 5632) (φ := .f32) (m ((c : Thread nD τ).loc main_arg2)) w
  b : Re (a := 1) (b := 5632) (φ := .f32) (m ((c : Thread nD τ).loc main_arg3)) fun _ => b

theorem iblk0 (c : Dev nD) (t : Fin cfg0.N) (r : Fin 2048) (l : Fin 128) (h : 128 * t.val + l.val < 5632) :
    iblk m c 0 t (ix2 r l) = m ((c : Thread nD τ).loc main_arg0) (ix2 r ⟨128 * t.val + l.val, h⟩) := by
  blk_ext [iblk, V, idx t]
theorem iblk1 (c : Dev nD) (t : Fin cfg0.N) (r : Fin 2048) (l : Fin 128) (h : 2816 + (128 * t.val + l.val) < 5632) :
    iblk m c 1 t (ix2 r l) = m ((c : Thread nD τ).loc main_arg0) (ix2 r ⟨2816 + (128 * t.val + l.val), h⟩) := by
  blk_ext [iblk, V, idx t]
theorem iblk2 (c : Dev nD) (t : Fin cfg0.N) (r : Fin 3) (l : Fin 128) (h : 128 * t.val + l.val < 5632) :
    iblk m c 2 t (ix2 r l) = m ((c : Thread nD τ).loc main_arg2) (ix2 r ⟨128 * t.val + l.val, h⟩) := by
  blk_ext [iblk, V, idx t]
theorem iblk3 (c : Dev nD) (t : Fin cfg0.N) (r : Fin 3) (l : Fin 128) (h : 2816 + (128 * t.val + l.val) < 5632) :
    iblk m c 3 t (ix2 r l) = m ((c : Thread nD τ).loc main_arg2) (ix2 r ⟨2816 + (128 * t.val + l.val), h⟩) := by
  blk_ext [iblk, V, idx t]
theorem iblk4 (c : Dev nD) (t : Fin cfg0.N) (r : Fin 1) (l : Fin 128) (h : 128 * t.val + l.val < 5632) :
    iblk m c 4 t (ix2 r l) = m ((c : Thread nD τ).loc main_arg3) (ix2 r ⟨128 * t.val + l.val, h⟩) := by
  blk_ext [iblk, V, idx t]
theorem iblk5 (c : Dev nD) (t : Fin cfg0.N) (r : Fin 1) (l : Fin 128) (h : 2816 + (128 * t.val + l.val) < 5632) :
    iblk m c 5 t (ix2 r l) = m ((c : Thread nD τ).loc main_arg3) (ix2 r ⟨2816 + (128 * t.val + l.val), h⟩) := by
  blk_ext [iblk, V, idx t]
theorem iblk6 (c : Dev nD) (t : Fin cfg0.N) (r : Fin 2048) (l : Fin 128) (h : 128 * t.val + l.val < 2816) :
    iblk m c 6 t (ix2 r l) = m ((c : Thread nD τ).loc main_arg1) (ix2 r ⟨128 * t.val + l.val, h⟩) := by
  blk_ext [iblk, V, idx t]

theorem lt22 (t : Fin cfg0.N) : t.val < 22 := (idx t).2.2.2.2.2.2.2.2.2.2
theorem idx7 (t : Fin cfg0.N) : win0_7.index t = ![0, 0, t.val] := (idx t).2.2.2.2.2.2.2.1
theorem idx8 (t : Fin cfg0.N) : win0_8.index t = ![0, 0, t.val] := (idx t).2.2.2.2.2.2.2.2.1
theorem idx9 (t : Fin cfg0.N) : win0_9.index t = ![0, 0, t.val] := (idx t).2.2.2.2.2.2.2.2.2.1

variable {m}
variable {c : Dev nD} {a u w : ℕ → ℕ → ℝ} {b : ℕ → ℝ} (H : Args m c a u w b)
include H

/-- The blocks of a grid point as real numbers. -/
theorem reals (t : Fin cfg0.N) : Blk (iblk m c 0 t) (iblk m c 1 t) (iblk m c 2 t) (iblk m c 3 t) (iblk m c 4 t) (iblk m c 5 t) (iblk m c 6 t)
    (fun r l => a r (128 * t.val + l)) (fun r l => rt a r (128 * t.val + l)) (fun r l => w r (128 * t.val + l)) (fun r l => rt w r (128 * t.val + l))
    (fun l => b (128 * t.val + l)) (fun l => b (2816 + (128 * t.val + l))) (fun r l => u r (128 * t.val + l)) := by
  have ht := lt22 t
  exact {
    zg := fun r l => by have hl := l.isLt; exact (iblk0 m c t r l (by omega)).trans (H.a _ _)
    zv := fun r l => by have hl := l.isLt; exact (iblk1 m c t r l (by omega)).trans (H.a _ _)
    wg := fun r l => by have hl := l.isLt; exact (iblk2 m c t r l (by omega)).trans (H.w _ _)
    wv := fun r l => by have hl := l.isLt; exact (iblk3 m c t r l (by omega)).trans (H.w _ _)
    bg := fun r l => by have hl := l.isLt; exact (iblk4 m c t r l (by omega)).trans (H.b _ _)
    bv := fun r l => by have hl := l.isLt; exact (iblk5 m c t r l (by omega)).trans (H.b _ _)
    u := fun r l => by have hl := l.isLt; exact (iblk6 m c t r l (by omega)).trans (H.u _ _) }

theorem half7 (t : Fin cfg0.N) (h : Fin 2) (r : Fin 2048) (l : Fin 128) :
    out0_7 (F := Ideal) (iblk m c 0 t) (iblk m c 1 t) (iblk m c 2 t) (iblk m c 3 t) (iblk m c 4 t) (iblk m c 5 t) (iblk m c 6 t) (ix3 h r l)
      = ((if h.val = 0 then da w (gg a w u b) r.val (128 * t.val + l.val) else da (rt w) (gv a w u b) r.val (128 * t.val + l.val) : ℝ) : EReal) := by
  rcases (show h = 0 ∨ h = 1 by omega) with rfl | rfl
  · exact out7_0 (reals H t) r l
  · exact out7_1 (reals H t) r l

theorem final7 : (dats m 0 c).arrAt 7 (cfgs 0).N = fun i : S2x2048x2816.Idx =>
    ((if (i 0).val = 0 then da w (gg a w u b) (i 1).val (i 2).val else da (rt w) (gv a w u b) (i 1).val (i 2).val : ℝ) : EReal) := by
  refine (dats m 0 c).arrAt_eq_of_covers 7 _ (by decide +kernel) fun t hf y => ?_
  blk_simp
  rw [after0_7]
  have h0 : win0_7.index t 0 = 0 := by rw [idx7 t]; rfl
  have h1 : win0_7.index t 1 = 0 := by rw [idx7 t]; rfl
  have h2 : win0_7.index t 2 = t.val := by rw [idx7 t]; rfl
  rw [h0, h1, h2]
  have hy : y = ix3 (y 0) (y 1) (y 2) := by funext a; fin_cases a <;> rfl
  have e : t.val * 128 + (y 2).val = 128 * t.val + (y 2).val := by omega
  rw [e]
  simp only [Nat.zero_mul, Nat.zero_add]
  exact (congrArg _ hy).trans (half7 H t (y 0) (y 1) (y 2))

theorem half8 (t : Fin cfg0.N) (h : Fin 2) (r : Fin 3) (l : Fin 128) :
    out0_8 (F := Ideal) (iblk m c 0 t) (iblk m c 1 t) (iblk m c 2 t) (iblk m c 3 t) (iblk m c 4 t) (iblk m c 5 t) (iblk m c 6 t) (ix3 h r l)
      = ((if h.val = 0 then dw a (gg a w u b) r.val (128 * t.val + l.val) else dw (rt a) (gv a w u b) r.val (128 * t.val + l.val) : ℝ) : EReal) := by
  rcases (show h = 0 ∨ h = 1 by omega) with rfl | rfl
  · exact out8_0 (reals H t) r l
  · exact out8_1 (reals H t) r l

theorem final8 : (dats m 0 c).arrAt 8 (cfgs 0).N = fun i : S2x3x2816.Idx =>
    ((if (i 0).val = 0 then dw a (gg a w u b) (i 1).val (i 2).val else dw (rt a) (gv a w u b) (i 1).val (i 2).val : ℝ) : EReal) := by
  refine (dats m 0 c).arrAt_eq_of_covers 8 _ (by decide +kernel) fun t hf y => ?_
  blk_simp
  rw [after0_8]
  have h0 : win0_8.index t 0 = 0 := by rw [idx8 t]; rfl
  have h1 : win0_8.index t 1 = 0 := by rw [idx8 t]; rfl
  have h2 : win0_8.index t 2 = t.val := by rw [idx8 t]; rfl
  rw [h0, h1, h2]
  have hy : y = ix3 (y 0) (y 1) (y 2) := by funext a; fin_cases a <;> rfl
  have e : t.val * 128 + (y 2).val = 128 * t.val + (y 2).val := by omega
  rw [e]
  simp only [Nat.zero_mul, Nat.zero_add]
  exact (congrArg _ hy).trans (half8 H t (y 0) (y 1) (y 2))

theorem half9 (t : Fin cfg0.N) (h : Fin 2) (r : Fin 1) (l : Fin 128) :
    out0_9 (F := Ideal) (iblk m c 0 t) (iblk m c 1 t) (iblk m c 2 t) (iblk m c 3 t) (iblk m c 4 t) (iblk m c 5 t) (iblk m c 6 t) (ix3 h r l)
      = ((if h.val = 0 then db (gg a w u b) (128 * t.val + l.val) else db (gv a w u b) (128 * t.val + l.val) : ℝ) : EReal) := by
  rcases (show h = 0 ∨ h = 1 by omega) with rfl | rfl
  · exact out9_0 (reals H t) r l
  · exact out9_1 (reals H t) r l

theorem final9 : (dats m 0 c).arrAt 9 (cfgs 0).N = fun i : S2x1x2816.Idx =>
    ((if (i 0).val = 0 then db (gg a w u b) (i 2).val else db (gv a w u b) (i 2).val : ℝ) : EReal) := by
  refine (dats m 0 c).arrAt_eq_of_covers 9 _ (by decide +kernel) fun t hf y => ?_
  blk_simp
  rw [after0_9]
  have h0 : win0_9.index t 0 = 0 := by rw [idx9 t]; rfl
  have h2 : win0_9.index t 2 = t.val := by rw [idx9 t]; rfl
  rw [h0, h2]
  have hy : y = ix3 (y 0) (y 1) (y 2) := by funext a; fin_cases a <;> rfl
  have e : t.val * 128 + (y 2).val = 128 * t.val + (y 2).val := by omega
  rw [e]
  simp only [Nat.zero_mul, Nat.zero_add]
  exact (congrArg _ hy).trans (half9 H t (y 0) (y 1) (y 2))

end Cert.ConvBwdIdeal.Arr
end
-- ==== Proof.ConvRef.lean ====
/-
  The convolution gate's backward reference as real numbers of real arguments.
-/
module

public import proofs.«01_k».proof.Proof.ConvArr
public import proofs.«01_k».proof.Proof.Fin
public import proofs.«01_k».proof.Pre_finite_conv
public import proofs.«01_k».proof.Proof.Gen.ConvBwdRefIdeal.Read
public import Idealize.ShloMosaic.Lib.KernelVsHost

@[expose] public section
set_option maxRecDepth 16384
noncomputable section
namespace Cert.ConvBwdRefIdeal.Ref
open Cert.ConvBwdRefIdeal Cert.ConvBwdRefIdeal.Gen Cert.ConvBwdRefIdeal.Read Idealize.ShloMosaic Idealize.ShloMosaic.TcCoe Idealize.SL.Sem
open Cert.Soft Cert.Conv
open Cert.KernelIdeal.Sec (Re)

variable {x0 : (⟨S2048x5632, .f32⟩ : BufTy).Contents (Elt Ideal)} {x1 : (⟨S2048x2816, .f32⟩ : BufTy).Contents (Elt Ideal)}
  {x2 : (⟨S3x5632, .f32⟩ : BufTy).Contents (Elt Ideal)} {x3 : (⟨S1x5632, .f32⟩ : BufTy).Contents (Elt Ideal)}

/-- The arguments hold these real numbers. -/
structure Args (x0 : (⟨S2048x5632, .f32⟩ : BufTy).Contents (Elt Ideal)) (x1 : (⟨S2048x2816, .f32⟩ : BufTy).Contents (Elt Ideal))
    (x2 : (⟨S3x5632, .f32⟩ : BufTy).Contents (Elt Ideal)) (x3 : (⟨S1x5632, .f32⟩ : BufTy).Contents (Elt Ideal))
    (a u w : ℕ → ℕ → ℝ) (b : ℕ → ℝ) : Prop where
  a : Re (a := 2048) (b := 5632) (φ := .f32) x0 a
  u : Re (a := 2048) (b := 2816) (φ := .f32) x1 u
  w : Re (a := 3) (b := 5632) (φ := .f32) x2 w
  b : Re (a := 1) (b := 5632) (φ := .f32) x3 fun _ => b

theorem ofBits_three : Ideal.ofBits FTy.f32 0x40400000#32 = ((3 : ℝ) : EReal) := by
  simp [Ideal.ofBits, Ideal.ieee, -EReal.coe_mul]; norm_num
theorem ofBits_num : Ideal.ofBits FTy.f32 0x472EAB00#32 = ((44715 : ℝ) : EReal) := by
  simp [Ideal.ofBits, Ideal.ieee, -EReal.coe_mul]; norm_num
theorem ofBits_den : Ideal.ofBits FTy.f32 0x49742400#32 = ((1000000 : ℝ) : EReal) := by
  simp [Ideal.ofBits, Ideal.ieee, -EReal.coe_mul]; norm_num
theorem quot : Ideal.div ((44715 : ℝ) : EReal) ((1000000 : ℝ) : EReal) = ((8943 / 200000 : ℝ) : EReal) := by
  rw [Ideal.div_coe (by norm_num), ← EReal.coe_mul]
  norm_num

/-- The cotangents of both halves side by side. -/
def dd (a w u : ℕ → ℕ → ℝ) (b : ℕ → ℝ) (t J : ℕ) : ℝ := if J < 2816 then gg a w u b t J else gv a w u b t (J - 2816)

theorem v4_at (t : Fin 2048) (j : Fin 5632) : val_main_v4 (F := Ideal) x0 (ix2 t j) = if h : 2 ≤ t.val then x0 (ix2 (⟨t.val - 2, by omega⟩ : Fin 2048) j) else 0 := by
  pointwise [val_main_v4, val_main_v2, val_main_v1, val_main_cst]
  rcases Nat.lt_or_ge t.val 2 with h | h
  · rw [dif_pos h, dif_neg (by omega)]
  · rw [dif_neg (by omega), dif_pos h]
theorem v12_at (t : Fin 2048) (j : Fin 5632) : val_main_v12 (F := Ideal) x0 (ix2 t j) = if h : 1 ≤ t.val then x0 (ix2 (⟨t.val - 1, by omega⟩ : Fin 2048) j) else 0 := by
  pointwise [val_main_v12, val_main_v2, val_main_v1, val_main_cst]
  rcases Nat.lt_or_ge t.val 1 with h | h
  · rw [dif_pos (by omega), dif_neg (by omega)]
  · rw [dif_neg (by omega), dif_pos h]
    refine congrArg x0 (congrArg (fun s => ix2 s j) (Fin.ext ?_))
    show 1 + t.val - 2 = t.val - 1
    omega
theorem v19_at (t : Fin 2048) (j : Fin 5632) : val_main_v19 (F := Ideal) x0 (ix2 t j) = x0 (ix2 t j) := by
  pointwise [val_main_v19, val_main_v2, val_main_v1, val_main_cst]
theorem v8_at (t : Fin 2048) (j : Fin 5632) : val_main_v8 (F := Ideal) x2 (ix2 t j) = x2 (ix2 0 j) := by
  pointwise [val_main_v8, val_main_v7, val_main_v6, val_main_v5]
theorem v16_at (t : Fin 2048) (j : Fin 5632) : val_main_v16 (F := Ideal) x2 (ix2 t j) = x2 (ix2 1 j) := by
  pointwise [val_main_v16, val_main_v15, val_main_v14, val_main_v13]
theorem v23_at (t : Fin 2048) (j : Fin 5632) : val_main_v23 (F := Ideal) x2 (ix2 t j) = x2 (ix2 2 j) := by
  pointwise [val_main_v23, val_main_v22, val_main_v21, val_main_v20]
theorem v75_at (t : Fin 2048) (j : Fin 5632) : val_main_v75 (F := Ideal) x2 (ix2 t j) = x2 (ix2 2 j) := by
  pointwise [val_main_v75, val_main_v22, val_main_v21, val_main_v20]
theorem v84_at (t : Fin 2048) (j : Fin 5632) : val_main_v84 (F := Ideal) x2 (ix2 t j) = x2 (ix2 1 j) := by
  pointwise [val_main_v84, val_main_v15, val_main_v14, val_main_v13]
theorem v95_at (t : Fin 2048) (j : Fin 5632) : val_main_v95 (F := Ideal) x2 (ix2 t j) = x2 (ix2 0 j) := by
  pointwise [val_main_v95, val_main_v7, val_main_v6, val_main_v5]
theorem v27_at (t : Fin 2048) (j : Fin 5632) : val_main_v27 (F := Ideal) x3 (ix2 t j) = x3 (ix2 0 j) := by
  pointwise [val_main_v27, val_main_v26, val_main_v0]
theorem v28_at (t : Fin 2048) (j : Fin 5632) : val_main_v28 (F := Ideal) x0 x2 x3 (ix2 t j)
    = val_main_v4 (F := Ideal) x0 (ix2 t j) * val_main_v8 (F := Ideal) x2 (ix2 t j) + val_main_v12 (F := Ideal) x0 (ix2 t j) * val_main_v16 (F := Ideal) x2 (ix2 t j)
      + val_main_v19 (F := Ideal) x0 (ix2 t j) * val_main_v23 (F := Ideal) x2 (ix2 t j) + val_main_v27 (F := Ideal) x3 (ix2 t j) := by
  pointwise [val_main_v28, val_main_v25, val_main_v18, val_main_v11, val_main_v10, val_main_cst_1, val_main_v9, val_main_v17, val_main_v24]

variable {a u w : ℕ → ℕ → ℝ} {b : ℕ → ℝ} (H : Args x0 x1 x2 x3 a u w b)
include H

theorem v4_re (t : Fin 2048) (j : Fin 5632) : val_main_v4 (F := Ideal) x0 (ix2 t j) = ((sh 2 (fun s => a s j.val) t.val : ℝ) : EReal) := by
  rw [v4_at]
  unfold sh
  split
  · exact H.a _ _
  · rfl
theorem v12_re (t : Fin 2048) (j : Fin 5632) : val_main_v12 (F := Ideal) x0 (ix2 t j) = ((sh 1 (fun s => a s j.val) t.val : ℝ) : EReal) := by
  rw [v12_at]
  unfold sh
  split
  · exact H.a _ _
  · rfl
theorem v19_re (t : Fin 2048) (j : Fin 5632) : val_main_v19 (F := Ideal) x0 (ix2 t j) = ((a t.val j.val : ℝ) : EReal) := by
  rw [v19_at]; exact H.a _ _

/-- The convolution. -/
theorem v28_re (t : Fin 2048) (j : Fin 5632) : val_main_v28 (F := Ideal) x0 x2 x3 (ix2 t j) = ((cvb a w b t.val j.val : ℝ) : EReal) := by
  rw [v28_at, v4_re H, v12_re H, v19_re H, v8_at, v16_at, v23_at, v27_at, H.w, H.w, H.w, H.b]
  simp only [← EReal.coe_mul, ← EReal.coe_add]
  refine congrArg _ ?_
  show sh 2 (fun s => a s j.val) t.val * w 0 j.val + sh 1 (fun s => a s j.val) t.val * w 1 j.val + a t.val j.val * w 2 j.val + b j.val = _
  unfold cvb cv
  ring
theorem v29_re (t : Fin 2048) (j : Fin 2816) : val_main_v29 (F := Ideal) x0 x2 x3 (ix2 t j) = ((cvb a w b t.val j.val : ℝ) : EReal) := by
  have e : val_main_v29 (F := Ideal) x0 x2 x3 (ix2 t j) = val_main_v28 (F := Ideal) x0 x2 x3 (ix2 t (⟨j.val, by omega⟩ : Fin 5632)) := by
    pointwise [val_main_v29]
  rw [e, v28_re H]
theorem v30_re (t : Fin 2048) (j : Fin 2816) : val_main_v30 (F := Ideal) x0 x2 x3 (ix2 t j)
    = ((cvb (rt a) (rt w) (fun j => b (2816 + j)) t.val j.val : ℝ) : EReal) := by
  have e : val_main_v30 (F := Ideal) x0 x2 x3 (ix2 t j) = val_main_v28 (F := Ideal) x0 x2 x3 (ix2 t (⟨2816 + j.val, by omega⟩ : Fin 5632)) := by
    pointwise [val_main_v30]
  rw [e, v28_re H]
  rfl
omit H in
theorem v31_re : val_main_v31 (F := Ideal) ix0 = ((8943 / 200000 : ℝ) : EReal) := by
  pointwise [val_main_v31, val_main_cst_2, val_main_cst_3]
  rw [ofBits_num, ofBits_den]
  exact quot
theorem v42_re (t : Fin 2048) (j : Fin 2816) : val_main_v42 (F := Ideal) x0 x2 x3 (ix2 t j) = ((th (cvb a w b t.val j.val) : ℝ) : EReal) := by
  pointwise [val_main_v42, val_main_v41, val_main_v40, val_main_cst_5, val_main_v39, val_main_v38, val_main_v37, val_main_v33, val_main_v32]
  rw [v29_re H, v31_re, ofBits_K]
  simp only [← EReal.coe_mul, ← EReal.coe_add]
  refine (Ideal.tanh_coe _).trans (congrArg _ ?_)
  unfold th
  refine congrArg Real.tanh ?_
  ring
theorem v54_re (t : Fin 2048) (j : Fin 2816) : val_main_v54 (F := Ideal) x0 x1 x2 x3 (ix2 t j) = ((gv a w u b t.val j.val : ℝ) : EReal) := by
  pointwise [val_main_v54, val_main_v52, val_main_v51, val_main_v50, val_main_v49, val_main_v48, val_main_cst_8, val_main_cst_9]
  rw [v29_re H, v42_re H, ofBits_half, ← EReal.coe_one, H.u]
  simp only [← EReal.coe_mul, ← EReal.coe_add]
  refine congrArg _ ?_
  unfold gv dv gel
  ring
theorem v67_re (t : Fin 2048) (j : Fin 2816) : val_main_v67 (F := Ideal) x0 x1 x2 x3 (ix2 t j) = ((gg a w u b t.val j.val : ℝ) : EReal) := by
  pointwise [val_main_v67, val_main_v66, val_main_v65, val_main_v64, val_main_v63, val_main_v62, val_main_v61, val_main_v60, val_main_v59, val_main_v58, val_main_v57, val_main_v56, val_main_v55, val_main_v51, val_main_v50, val_main_v49, val_main_v48, val_main_v47, val_main_v46, val_main_v45, val_main_v44, val_main_v43, val_main_v36, val_main_v35, val_main_v34, val_main_cst_4, val_main_cst_6, val_main_cst_7, val_main_cst_8, val_main_cst_9, val_main_cst_10, val_main_cst_11]
  rw [v29_re H, v42_re H, v30_re H, v31_re, ofBits_half, ← EReal.coe_one, ofBits_K, ofBits_three, H.u]
  simp only [← EReal.coe_mul, ← EReal.coe_add, ← EReal.coe_sub]
  refine congrArg _ ?_
  unfold gg dg dgel
  ring
theorem v68_re (t : Fin 2048) (j : Fin 5632) : val_main_v68 (F := Ideal) x0 x1 x2 x3 (ix2 t j) = ((dd a w u b t.val j.val : ℝ) : EReal) := by
  pointwise [val_main_v68]
  unfold dd
  split
  · exact v67_re H t _
  · exact v54_re H t _

/-! ## The gradient of the activations -/

theorem v104_re (t : Fin 2048) (j : Fin 5632) : val_main_v104 (F := Ideal) x0 x1 x2 x3 (ix2 t j) = ((da w (dd a w u b) t.val j.val : ℝ) : EReal) := by
  have ht := t.isLt
  pointwise [val_main_v104, val_main_v102, val_main_v91, val_main_v80, val_main_v90, val_main_v101, val_main_v76, val_main_v85, val_main_v96, val_main_cst_17, val_main_cst_20, val_main_cst_21, val_main_cst_24, val_main_cst_25, val_main_cst_19]
  have e1 : (if h : 1 ≤ 2 + t.val ∧ 2 + t.val - 1 < 2048 then
        val_main_v68 (F := Ideal) x0 x1 x2 x3 (ix2 (⟨2 + t.val - 1, h.2⟩ : Fin 2048) j) * val_main_v84 (F := Ideal) x2 (ix2 (⟨2 + t.val - 1, h.2⟩ : Fin 2048) j)
      else 0) = ((w 1 j.val * up 1 (fun s => dd a w u b s j.val) t.val : ℝ) : EReal) := by
    unfold up
    by_cases h : t.val < 2048 - 1
    · rw [dif_pos (by omega), if_pos h, v68_re H, v84_at, H.w, ← EReal.coe_mul, mul_comm]
      show ((w 1 j.val * dd a w u b (2 + t.val - 1) j.val : ℝ) : EReal) = _
      rw [show 2 + t.val - 1 = t.val + 1 by omega]
    · rw [dif_neg (by omega), if_neg h, mul_zero]
      rfl
  have e2 : (if h : 2 + t.val < 2048 then
        val_main_v68 (F := Ideal) x0 x1 x2 x3 (ix2 (⟨2 + t.val, h⟩ : Fin 2048) j) * val_main_v95 (F := Ideal) x2 (ix2 (⟨2 + t.val, h⟩ : Fin 2048) j)
      else 0) = ((w 0 j.val * up 2 (fun s => dd a w u b s j.val) t.val : ℝ) : EReal) := by
    unfold up
    by_cases h : t.val < 2048 - 2
    · rw [dif_pos (by omega), if_pos h, v68_re H, v95_at, H.w, ← EReal.coe_mul, mul_comm]
      show ((w 0 j.val * dd a w u b (2 + t.val) j.val : ℝ) : EReal) = _
      rw [show 2 + t.val = t.val + 2 by omega]
    · rw [dif_neg (by omega), if_neg h, mul_zero]
      rfl
  refine (congrArg₂ (· + ·) (congrArg₂ (· + ·) (?_ : _ = ((w 2 j.val * dd a w u b t.val j.val : ℝ) : EReal)) e1) e2).trans ?_
  · rw [v68_re H, v75_at, H.w, ← EReal.coe_mul, mul_comm]
    rfl
  · simp only [← EReal.coe_add]
    rfl

/-! ## The gradient of the taps -/

theorem v78_re (k : Fin 1) (j : Fin 5632) : val_main_v78 (F := Ideal) x0 x1 x2 x3 (ix2 k j)
    = ((∑ t ∈ Finset.range 2048, dd a w u b t j.val * sh 0 (fun s => a s j.val) t : ℝ) : EReal) := by
  pointwise [val_main_v78, val_main_v77, val_main_v74, val_main_v73, val_main_v72, val_main_cst_14, val_main_cst_15]
  rw [Fin.sum_univ_one]
  refine fin_sum _ (fun t => dd a w u b t j.val * sh 0 (fun s => a s j.val) t) fun t => ?_
  rw [v19_re H, v68_re H, ← EReal.coe_mul, mul_comm, show sh 0 (fun s => a s j.val) t.val = a t.val j.val from if_pos (Nat.zero_le _)]
theorem v87_re (k : Fin 1) (j : Fin 5632) : val_main_v87 (F := Ideal) x0 x1 x2 x3 (ix2 k j)
    = ((∑ t ∈ Finset.range 2048, dd a w u b t j.val * sh 1 (fun s => a s j.val) t : ℝ) : EReal) := by
  pointwise [val_main_v87, val_main_v86, val_main_v83, val_main_v82, val_main_v81, val_main_cst_18, val_main_cst_19]
  rw [Fin.sum_univ_one]
  refine fin_sum _ (fun t => dd a w u b t j.val * sh 1 (fun s => a s j.val) t) fun t => ?_
  rw [v12_re H, v68_re H, ← EReal.coe_mul, mul_comm]
theorem v98_re (k : Fin 1) (j : Fin 5632) : val_main_v98 (F := Ideal) x0 x1 x2 x3 (ix2 k j)
    = ((∑ t ∈ Finset.range 2048, dd a w u b t j.val * sh 2 (fun s => a s j.val) t : ℝ) : EReal) := by
  pointwise [val_main_v98, val_main_v97, val_main_v94, val_main_v93, val_main_v92, val_main_cst_22, val_main_cst_23]
  rw [Fin.sum_univ_one]
  refine fin_sum _ (fun t => dd a w u b t j.val * sh 2 (fun s => a s j.val) t) fun t => ?_
  rw [v4_re H, v68_re H, ← EReal.coe_mul, mul_comm]

theorem v100_re (k : Fin 3) (j : Fin 5632) : val_main_v100 (F := Ideal) x0 x1 x2 x3 (ix2 k j) = ((dw a (dd a w u b) k.val j.val : ℝ) : EReal) := by
  pointwise [val_main_v100, val_main_v89, val_main_v79, val_main_v88, val_main_v99, val_main_cst_16, val_main_cst_20, val_main_cst_24]
  rcases (show k = 0 ∨ k = 1 ∨ k = 2 by omega) with rfl | rfl | rfl
  · rw [dif_neg (by decide), dif_neg (by decide), dif_pos (by decide), zero_add, zero_add]
    exact v98_re H 0 j
  · rw [dif_neg (by decide), dif_pos (by decide), dif_neg (by decide), zero_add, add_zero]
    exact v87_re H 0 j
  · rw [dif_pos (by decide), dif_neg (by decide), dif_neg (by decide), add_zero, add_zero]
    exact v78_re H 0 j

/-! ## The gradient of the bias -/

theorem v71_re (j : Fin 5632) : val_main_v71 (F := Ideal) x0 x1 x2 x3 (ix1 j) = ((db (dd a w u b) j.val : ℝ) : EReal) := by
  pointwise [val_main_v71, val_main_v70, val_main_v69, val_main_cst_12, val_main_cst_13]
  rw [Fin.sum_univ_one]
  exact fin_sum _ (fun t => dd a w u b t j.val) fun t => v68_re H t j

/-! ## Column by column -/

omit H in
theorem dd_l (j : Fin 2816) : (fun s => dd a w u b s j.val) = fun s => gg a w u b s j.val :=
  funext fun s => if_pos j.isLt
omit H in
theorem dd_r (j : Fin 2816) : (fun s => dd a w u b s (2816 + j.val)) = fun s => gv a w u b s j.val :=
  funext fun s => (if_neg (by omega)).trans (by rw [Nat.add_sub_cancel_left])
omit H in
theorem da_l (t : ℕ) (j : Fin 2816) : da w (dd a w u b) t j.val = da w (gg a w u b) t j.val := by
  unfold da; rw [dd_l]
omit H in
theorem da_r (t : ℕ) (j : Fin 2816) : da w (dd a w u b) t (2816 + j.val) = da (rt w) (gv a w u b) t j.val := by
  unfold da; rw [dd_r]; rfl
omit H in
theorem dw_l (k : ℕ) (j : Fin 2816) : dw a (dd a w u b) k j.val = dw a (gg a w u b) k j.val :=
  Finset.sum_congr rfl fun t _ => by rw [congrFun (dd_l (a := a) (w := w) (u := u) (b := b) j) t]
omit H in
theorem dw_r (k : ℕ) (j : Fin 2816) : dw a (dd a w u b) k (2816 + j.val) = dw (rt a) (gv a w u b) k j.val :=
  Finset.sum_congr rfl fun t _ => by rw [congrFun (dd_r (a := a) (w := w) (u := u) (b := b) j) t]; rfl
omit H in
theorem db_l (j : Fin 2816) : db (dd a w u b) j.val = db (gg a w u b) j.val :=
  Finset.sum_congr rfl fun t _ => congrFun (dd_l (a := a) (w := w) (u := u) (b := b) j) t
omit H in
theorem db_r (j : Fin 2816) : db (dd a w u b) (2816 + j.val) = db (gv a w u b) j.val :=
  Finset.sum_congr rfl fun t _ => congrFun (dd_r (a := a) (w := w) (u := u) (b := b) j) t

/-! ## The three results -/

theorem v110_re (h : Fin 2) (t : Fin 2048) (j : Fin 2816) : val_main_v110 (F := Ideal) x0 x1 x2 x3 (ix3 h t j)
    = ((if h.val = 0 then da w (gg a w u b) t.val j.val else da (rt w) (gv a w u b) t.val j.val : ℝ) : EReal) := by
  pointwise [val_main_v110, val_main_v109, val_main_v108, val_main_v107, val_main_v105, val_main_v106]
  rcases (show h = 0 ∨ h = 1 by omega) with rfl | rfl
  · rw [dif_pos (by decide), v104_re H]
    exact congrArg _ (da_l _ _)
  · rw [dif_neg (by decide), v104_re H]
    exact congrArg _ (da_r _ _)

theorem v115_re (h : Fin 2) (k : Fin 3) (j : Fin 2816) : val_main_v115 (F := Ideal) x0 x1 x2 x3 (ix3 h k j)
    = ((if h.val = 0 then dw a (gg a w u b) k.val j.val else dw (rt a) (gv a w u b) k.val j.val : ℝ) : EReal) := by
  pointwise [val_main_v115, val_main_v114, val_main_v113, val_main_v112, val_main_v111]
  rcases (show h = 0 ∨ h = 1 by omega) with rfl | rfl
  · rw [dif_pos (by decide), v100_re H]
    exact congrArg _ (dw_l _ _)
  · rw [dif_neg (by decide), v100_re H]
    exact congrArg _ (dw_r _ _)

theorem v121_re (h : Fin 2) (k : Fin 1) (j : Fin 2816) : val_main_v121 (F := Ideal) x0 x1 x2 x3 (ix3 h k j)
    = ((if h.val = 0 then db (gg a w u b) j.val else db (gv a w u b) j.val : ℝ) : EReal) := by
  pointwise [val_main_v121, val_main_v120, val_main_v119, val_main_v118, val_main_v117, val_main_v116]
  rcases (show h = 0 ∨ h = 1 by omega) with rfl | rfl
  · rw [dif_pos (by decide), v71_re H]
    exact congrArg _ (db_l _)
  · rw [dif_neg (by decide), v71_re H]
    exact congrArg _ (db_r _)

end Cert.ConvBwdRefIdeal.Ref

namespace Cert.Fin
open Idealize.ShloMosaic Cert.Soft Cert.KernelIdeal.Sec

instance facts_conv : Cert.Pre_finite_conv.Facts := ⟨by decide, by decide, by decide, by decide⟩

variable {x0 : (M2 2048 5632).Idx → EReal} {x1 : (M2 2048 2816).Idx → EReal} {x2 : (M2 3 5632).Idx → EReal} {x3 : (M2 1 5632).Idx → EReal}

theorem conv0 (h : (Cert.Pre_finite_conv.fn (F := Ideal) x0 x1 x2 x3).1 = fun _ => 1#1) : Re (a := 2048) (b := 5632) (φ := .f32) x0 (reals (a := 2048) (b := 5632) x0) :=
  reals_at (a := 2048) (b := 5632) x0 fun i => congrFun h i
theorem conv1 (h : (Cert.Pre_finite_conv.fn (F := Ideal) x0 x1 x2 x3).2.1 = fun _ => 1#1) : Re (a := 2048) (b := 2816) (φ := .f32) x1 (reals (a := 2048) (b := 2816) x1) :=
  reals_at (a := 2048) (b := 2816) x1 fun i => congrFun h i
theorem conv2 (h : (Cert.Pre_finite_conv.fn (F := Ideal) x0 x1 x2 x3).2.2.1 = fun _ => 1#1) : Re (a := 3) (b := 5632) (φ := .f32) x2 (reals (a := 3) (b := 5632) x2) :=
  reals_at (a := 3) (b := 5632) x2 fun i => congrFun h i
theorem conv3 (h : (Cert.Pre_finite_conv.fn (F := Ideal) x0 x1 x2 x3).2.2.2 = fun _ => 1#1) : Re (a := 1) (b := 5632) (φ := .f32) x3 fun _ => reals (a := 1) (b := 5632) x3 0 :=
  fun i j => by
    have e := reals_at (a := 1) (b := 5632) x3 (fun i => congrFun h i) i j
    rw [Subsingleton.elim i 0] at e ⊢
    exact e

end Cert.Fin
end
-- ==== Proof.ConvFwdVal.lean ====
/-
  The convolution gate's forward pass: the kernel's result and the reference's are one array of extended reals, on all arguments.
-/
module

public import proofs.«01_k».proof.Proof.ConvSec
public import proofs.«01_k».proof.Proof.Gen.ConvFwdIdeal.Value
public import proofs.«01_k».proof.Proof.Gen.ConvFwdRefIdeal.Read
public import Idealize.ShloMosaic.Lib.Pipeline.ValueKit
public import Idealize.ShloMosaic.Lib.KernelVsHost

@[expose] public section
set_option maxRecDepth 16384
noncomputable section

namespace Cert.ConvE
open Idealize.ShloMosaic
open Cert.KernelIdeal.Sec (M2)

/-- A matrix as a function of its two places, and what it is to be one. -/
def Ex {a b : ℕ} {φ : FTy} (f : FVec Ideal (M2 a b) φ) (A : ℕ → ℕ → EReal) : Prop :=
  ∀ (i : Fin a) (j : Fin b), f (ix2 i j) = A i.val j.val
def ext {a b : ℕ} {φ : FTy} (f : FVec Ideal (M2 a b) φ) (i j : ℕ) : EReal :=
  if h : i < a ∧ j < b then f (ix2 ⟨i, h.1⟩ ⟨j, h.2⟩) else 0
theorem ex_ext {a b : ℕ} {φ : FTy} (f : FVec Ideal (M2 a b) φ) : Ex f (ext f) := by
  intro i j
  unfold ext
  rw [dif_pos ⟨i.isLt, j.isLt⟩]
theorem ex_row {b : ℕ} {φ : FTy} (f : FVec Ideal (M2 1 b) φ) : Ex f fun _ => ext f 0 := by
  intro i j
  rw [Subsingleton.elim i 0]
  exact ex_ext f 0 j

/-- A column shifted down by `n` rows, the causal convolution of width three, and the gate. -/
def sh (n : ℕ) (z : ℕ → EReal) (t : ℕ) : EReal := if n ≤ t then z (t - n) else 0
def cv (w : ℕ → ℕ → EReal) (b : ℕ → EReal) (z : ℕ → ℕ → EReal) (t l : ℕ) : EReal :=
  w 2 l * z t l + w 1 l * sh 1 (fun s => z s l) t + w 0 l * sh 2 (fun s => z s l) t + b l
def gate (g v : EReal) : EReal :=
  Ideal.ofBits FTy.f32 0x3F000000#32 * g * (1 + Ideal.tanh (Ideal.ofBits FTy.f32 0x3F4C422A#32 * (g + Ideal.ofBits FTy.f32 0x3D372713#32 * g * g * g))) * v

end Cert.ConvE

namespace Cert.ConvFwdIdeal.Val
open Cert.ConvFwdIdeal Cert.ConvFwdIdeal.Gen Idealize.ShloMosaic Idealize.ShloMosaic.TcCoe Idealize.SL.Sem
open Cert.KernelIdeal.Sec (M2)
open Cert.Conv (sel_ge)
open Cert.ConvE
open Idealize.ShloMosaic.Pipeline (Dat)

section
variable {z : FVec Ideal S2048x128 .f32} {Z : ℕ → ℕ → EReal}

theorem pay3_ex (hz : Ex z Z) : Ex (k0_pay3 (F := Ideal) z) fun t l => sh 1 (fun s => Z s l) t := by
  intro t l
  have ht := t.isLt
  pointwise [k0_pay3]
  rw [sel_ge _ 1 ht (by decide), hz, sh]
  split_ifs with h
  · exact congrArg (fun n => Z n l.val) (show (t.val + 2048 - 1) % 2048 = t.val - 1 by omega)
  · rfl
theorem sh2_ex (hz : Ex z Z) (t : Fin 2048) (l : Fin 128) :
    select (k0_pay4 : IVec S2048x128 1) (k0_pay5 (F := Ideal) z) (broadcast S2048x128 (Scalar.ofBits (F := Ideal) .f32 0x00000000#32)) (ix2 t l) = sh 2 (fun s => Z s l.val) t.val := by
  have ht := t.isLt
  pointwise [k0_pay4, k0_pay5]
  rw [sel_ge _ 2 ht (by decide), hz, sh]
  split_ifs with h
  · exact congrArg (fun n => Z n l.val) (show (t.val + 2048 - 2) % 2048 = t.val - 2 by omega)
  · rfl

variable {w0 w1 w2 b : FVec Ideal S1x128 .f32} {W : ℕ → ℕ → EReal} {B : ℕ → EReal}

theorem pay2_ex (hz : Ex z Z) (h0 : Ex w0 fun _ => W 0) (h1 : Ex w1 fun _ => W 1) (h2 : Ex w2 fun _ => W 2) (hb : Ex b fun _ => B) :
    Ex (k0_pay2 (F := Ideal) z w2 w1 w0 b) (cv W B Z) := by
  intro t l
  have e : k0_pay2 (F := Ideal) z w2 w1 w0 b (ix2 t l) = @HAdd.hAdd EReal EReal EReal _ (w2 (ix2 0 l) * z (ix2 t l) + w1 (ix2 0 l) * k0_pay3 (F := Ideal) z (ix2 t l)
      + w0 (ix2 0 l) * select (k0_pay4 : IVec S2048x128 1) (k0_pay5 (F := Ideal) z) (broadcast S2048x128 (Scalar.ofBits (F := Ideal) .f32 0x00000000#32)) (ix2 t l)) (b (ix2 0 l)) := by
    pointwise [k0_pay2, k0_pay3, k0_pay4, k0_pay5]
  rw [e, pay3_ex hz, sh2_ex hz, hz, h0, h1, h2, hb]
  rfl

theorem pay1_ex {g v : FVec Ideal S2048x128 .f32} {G V : ℕ → ℕ → EReal} (hg : Ex g G) (hv : Ex v V)
    (h0 : Ex w0 fun _ => W 0) (h1 : Ex w1 fun _ => W 1) (h2 : Ex w2 fun _ => W 2) (hb : Ex b fun _ => B) :
    Ex (k0_pay1 (F := Ideal) g v (k0_pay3 v) k0_pay4 (k0_pay5 v) (Scalar.ofBits .f32 0x00000000#32) w2 w1 w0 b) fun t l => gate (G t l) (cv W B V t l) := by
  intro t l
  have e : k0_pay1 (F := Ideal) g v (k0_pay3 v) k0_pay4 (k0_pay5 v) (Scalar.ofBits .f32 0x00000000#32) w2 w1 w0 b (ix2 t l)
      = gate (g (ix2 t l)) (k0_pay2 (F := Ideal) v w2 w1 w0 b (ix2 t l)) := by
    unfold gate
    pointwise [k0_pay1, k0_pay2, k0_pay3, k0_pay4, k0_pay5]
  rw [e, pay2_ex hv h0 h1 h2 hb, hg]
end

theorem ld_whole (x : FVec Ideal S2048x128 .f32) : View.ld (Val := Elt Ideal) (e' := .f32) x r0_0 = x := by
  funext j
  have hj : j = ix2 (j 0) (j 1) := by funext a; fin_cases a <;> rfl
  rw [hj]; pointwise []
theorem ld_b (x : FVec Ideal S1x128 .f32) : View.ld (Val := Elt Ideal) (e' := .f32) x r0_4 = x := by
  funext j
  have hj : j = ix2 (0 : Fin 1) (j 1) := by
    funext a; fin_cases a
    · exact Subsingleton.elim (α := Fin 1) _ _
    · rfl
  rw [hj]; pointwise []
theorem ld_w {x : FVec Ideal S3x128 .f32} {w : ℕ → ℕ → EReal} (h : Ex x w) :
    (Ex (a := 1) (b := 128) (φ := .f32) (View.ld (Val := Elt Ideal) (e' := .f32) x r0_3) fun _ => w 0)
    ∧ (Ex (a := 1) (b := 128) (φ := .f32) (View.ld (Val := Elt Ideal) (e' := .f32) x r0_2) fun _ => w 1)
    ∧ (Ex (a := 1) (b := 128) (φ := .f32) (View.ld (Val := Elt Ideal) (e' := .f32) x r0_1) fun _ => w 2) := by
  refine ⟨fun i j => ?_, fun i j => ?_, fun i j => ?_⟩
  · refine Eq.trans (b := x (ix2 0 j)) (by pointwise []) (h _ _)
  · refine Eq.trans (b := x (ix2 1 j)) (by pointwise []) (h _ _)
  · refine Eq.trans (b := x (ix2 2 j)) (by pointwise []) (h _ _)

/-- What a grid point's body leaves in the output block. -/
theorem out6 {X0 X1 : FVec Ideal S2048x128 .f32} {X2 X3 : FVec Ideal S3x128 .f32} {X4 X5 : FVec Ideal S1x128 .f32} {zg zv wg wv : ℕ → ℕ → EReal} {bg bv : ℕ → EReal}
    (h0 : Ex X0 zg) (h1 : Ex X1 zv) (h2 : Ex X2 wg) (h3 : Ex X3 wv) (h4 : Ex X4 fun _ => bg) (h5 : Ex X5 fun _ => bv) (t : Fin 2048) (l : Fin 128) :
    out0_6 (F := Ideal) X0 X1 X2 X3 X4 X5 (ix2 t l) = gate (cv wg bg zg t.val l.val) (cv wv bv zv t.val l.val) := by
  obtain ⟨g0, g1, g2⟩ := ld_w h2
  obtain ⟨v0, v1, v2⟩ := ld_w h3
  unfold out0_6
  rw [ld_whole, ld_whole, ld_b, ld_b]
  have e' : (ix2 t l : S2048x128.Idx) = r0_0.emb (ix2 t l) := by
    funext a
    apply Fin.ext
    rw [Rect.emb_apply]
    fin_cases a
    · show t.val = 0 + 1 * t.val; omega
    · show l.val = 0 + 1 * l.val; omega
  rw [e', View.canon_cons_emb]
  exact pay1_ex (pay2_ex h0 g0 g1 g2 h4) h1 v0 v1 v2 h5 t l

/-! ## The whole array -/

variable (m : (ℓ : Loc nD τ sig) → Buf (Elt Ideal) ℓ)

theorem idx : ∀ t : Fin cfg0.N, win0_0.index t = ![0, t.val] ∧ win0_1.index t = ![0, 22 + t.val] ∧ win0_2.index t = ![0, t.val]
    ∧ win0_3.index t = ![0, 22 + t.val] ∧ win0_4.index t = ![0, t.val] ∧ win0_5.index t = ![0, 22 + t.val] ∧ win0_6.index t = ![0, t.val] ∧ t.val < 22 :=
  (by decide +kernel : ∀ t : Fin grid0.N, _)

theorem iblk0 (c : Dev nD) (t : Fin cfg0.N) (r : Fin 2048) (l : Fin 128) (h : 128 * t.val + l.val < 5632) :
    iblk m c 0 t (ix2 r l) = m ((c : Thread nD τ).loc main_arg0) (ix2 r ⟨128 * t.val + l.val, h⟩) := by
  blk_ext [iblk, V, idx t]
theorem iblk1 (c : Dev nD) (t : Fin cfg0.N) (r : Fin 2048) (l : Fin 128) (h : 2816 + (128 * t.val + l.val) < 5632) :
    iblk m c 1 t (ix2 r l) = m ((c : Thread nD τ).loc main_arg0) (ix2 r ⟨2816 + (128 * t.val + l.val), h⟩) := by
  blk_ext [iblk, V, idx t]
theorem iblk2 (c : Dev nD) (t : Fin cfg0.N) (r : Fin 3) (l : Fin 128) (h : 128 * t.val + l.val < 5632) :
    iblk m c 2 t (ix2 r l) = m ((c : Thread nD τ).loc main_arg1) (ix2 r ⟨128 * t.val + l.val, h⟩) := by
  blk_ext [iblk, V, idx t]
theorem iblk3 (c : Dev nD) (t : Fin cfg0.N) (r : Fin 3) (l : Fin 128) (h : 2816 + (128 * t.val + l.val) < 5632) :
    iblk m c 3 t (ix2 r l) = m ((c : Thread nD τ).loc main_arg1) (ix2 r ⟨2816 + (128 * t.val + l.val), h⟩) := by
  blk_ext [iblk, V, idx t]
theorem iblk4 (c : Dev nD) (t : Fin cfg0.N) (r : Fin 1) (l : Fin 128) (h : 128 * t.val + l.val < 5632) :
    iblk m c 4 t (ix2 r l) = m ((c : Thread nD τ).loc main_arg2) (ix2 r ⟨128 * t.val + l.val, h⟩) := by
  blk_ext [iblk, V, idx t]
theorem iblk5 (c : Dev nD) (t : Fin cfg0.N) (r : Fin 1) (l : Fin 128) (h : 2816 + (128 * t.val + l.val) < 5632) :
    iblk m c 5 t (ix2 r l) = m ((c : Thread nD τ).loc main_arg2) (ix2 r ⟨2816 + (128 * t.val + l.val), h⟩) := by
  blk_ext [iblk, V, idx t]

theorem lt22 (t : Fin cfg0.N) : t.val < 22 := (idx t).2.2.2.2.2.2.2
theorem idx6 (t : Fin cfg0.N) : win0_6.index t = ![0, t.val] := (idx t).2.2.2.2.2.2.1

variable {m}
variable {c : Dev nD} {a w : ℕ → ℕ → EReal} {b : ℕ → EReal}
  (ha : Ex (a := 2048) (b := 5632) (φ := .f32) (m ((c : Thread nD τ).loc main_arg0)) a)
  (hw : Ex (a := 3) (b := 5632) (φ := .f32) (m ((c : Thread nD τ).loc main_arg1)) w)
  (hb : Ex (a := 1) (b := 5632) (φ := .f32) (m ((c : Thread nD τ).loc main_arg2)) fun _ => b)
include ha hw hb

theorem blk6 (t : Fin cfg0.N) (r : Fin 2048) (l : Fin 128) :
    out0_6 (F := Ideal) (iblk m c 0 t) (iblk m c 1 t) (iblk m c 2 t) (iblk m c 3 t) (iblk m c 4 t) (iblk m c 5 t) (ix2 r l)
      = gate (cv w b a r.val (128 * t.val + l.val)) (cv w b a r.val (2816 + (128 * t.val + l.val))) := by
  have ht := lt22 t
  exact out6 (zg := fun r l => a r (128 * t.val + l)) (zv := fun r l => a r (2816 + (128 * t.val + l))) (wg := fun r l => w r (128 * t.val + l))
    (wv := fun r l => w r (2816 + (128 * t.val + l))) (bg := fun l => b (128 * t.val + l)) (bv := fun l => b (2816 + (128 * t.val + l)))
    (fun r l => by have hl := l.isLt; exact (iblk0 m c t r l (by omega)).trans (ha _ _))
    (fun r l => by have hl := l.isLt; exact (iblk1 m c t r l (by omega)).trans (ha _ _))
    (fun r l => by have hl := l.isLt; exact (iblk2 m c t r l (by omega)).trans (hw _ _))
    (fun r l => by have hl := l.isLt; exact (iblk3 m c t r l (by omega)).trans (hw _ _))
    (fun r l => by have hl := l.isLt; exact (iblk4 m c t r l (by omega)).trans (hb _ _))
    (fun r l => by have hl := l.isLt; exact (iblk5 m c t r l (by omega)).trans (hb _ _)) r l

theorem final6 : (dats m 0 c).arrAt 6 (cfgs 0).N = fun i : S2048x2816.Idx =>
    gate (cv w b a (i 0).val (i 1).val) (cv w b a (i 0).val (2816 + (i 1).val)) := by
  refine (dats m 0 c).arrAt_eq_of_covers 6 _ (by decide +kernel) fun t hf y => ?_
  blk_simp
  rw [after0_6]
  have h0 : win0_6.index t 0 = 0 := by rw [idx6 t]; rfl
  have h1 : win0_6.index t 1 = t.val := by rw [idx6 t]; rfl
  rw [h0, h1]
  have hy : y = ix2 (y 0) (y 1) := by funext a; fin_cases a <;> rfl
  have e : t.val * 128 + (y 1).val = 128 * t.val + (y 1).val := by omega
  rw [e]
  simp only [Nat.zero_mul, Nat.zero_add]
  exact (congrArg _ hy).trans (blk6 ha hw hb t (y 0) (y 1))

end Cert.ConvFwdIdeal.Val

namespace Cert.ConvFwdRefIdeal.Ref
open Cert.ConvFwdRefIdeal Cert.ConvFwdRefIdeal.Gen Cert.ConvFwdRefIdeal.Read Idealize.ShloMosaic Idealize.ShloMosaic.TcCoe Idealize.SL.Sem
open Cert.ConvE

variable {x0 : (⟨S2048x5632, .f32⟩ : BufTy).Contents (Elt Ideal)} {x1 : (⟨S3x5632, .f32⟩ : BufTy).Contents (Elt Ideal)}
  {x2 : (⟨S1x5632, .f32⟩ : BufTy).Contents (Elt Ideal)}

theorem v3_at (t : Fin 2048) (j : Fin 5632) : val_main_v3 (F := Ideal) x0 (ix2 t j) = if h : 2 ≤ t.val then x0 (ix2 (⟨t.val - 2, by omega⟩ : Fin 2048) j) else 0 := by
  pointwise [val_main_v3, val_main_v2, val_main_v1, val_main_cst]
  rcases Nat.lt_or_ge t.val 2 with h | h
  · rw [dif_pos h, dif_neg (by omega)]
  · rw [dif_neg (by omega), dif_pos h]
theorem v11_at (t : Fin 2048) (j : Fin 5632) : val_main_v11 (F := Ideal) x0 (ix2 t j) = if h : 1 ≤ t.val then x0 (ix2 (⟨t.val - 1, by omega⟩ : Fin 2048) j) else 0 := by
  pointwise [val_main_v11, val_main_v2, val_main_v1, val_main_cst]
  rcases Nat.lt_or_ge t.val 1 with h | h
  · rw [dif_pos (by omega), dif_neg (by omega)]
  · rw [dif_neg (by omega), dif_pos h]
    refine congrArg x0 (congrArg (fun s => ix2 s j) (Fin.ext ?_))
    show 1 + t.val - 2 = t.val - 1
    omega
theorem v18_at (t : Fin 2048) (j : Fin 5632) : val_main_v18 (F := Ideal) x0 (ix2 t j) = x0 (ix2 t j) := by
  pointwise [val_main_v18, val_main_v2, val_main_v1, val_main_cst]
theorem v7_at (t : Fin 2048) (j : Fin 5632) : val_main_v7 (F := Ideal) x1 (ix2 t j) = x1 (ix2 0 j) := by
  pointwise [val_main_v7, val_main_v6, val_main_v5, val_main_v4]
theorem v15_at (t : Fin 2048) (j : Fin 5632) : val_main_v15 (F := Ideal) x1 (ix2 t j) = x1 (ix2 1 j) := by
  pointwise [val_main_v15, val_main_v14, val_main_v13, val_main_v12]
theorem v22_at (t : Fin 2048) (j : Fin 5632) : val_main_v22 (F := Ideal) x1 (ix2 t j) = x1 (ix2 2 j) := by
  pointwise [val_main_v22, val_main_v21, val_main_v20, val_main_v19]
theorem v26_at (t : Fin 2048) (j : Fin 5632) : val_main_v26 (F := Ideal) x2 (ix2 t j) = x2 (ix2 0 j) := by
  pointwise [val_main_v26, val_main_v25, val_main_v0]
theorem v27_at (t : Fin 2048) (j : Fin 5632) : val_main_v27 (F := Ideal) x0 x1 x2 (ix2 t j)
    = val_main_v3 (F := Ideal) x0 (ix2 t j) * val_main_v7 (F := Ideal) x1 (ix2 t j) + val_main_v11 (F := Ideal) x0 (ix2 t j) * val_main_v15 (F := Ideal) x1 (ix2 t j)
      + val_main_v18 (F := Ideal) x0 (ix2 t j) * val_main_v22 (F := Ideal) x1 (ix2 t j) + val_main_v26 (F := Ideal) x2 (ix2 t j) := by
  pointwise [val_main_v27, val_main_v24, val_main_v17, val_main_v10, val_main_v9, val_main_cst_0, val_main_v8, val_main_v16, val_main_v23]

variable {a w : ℕ → ℕ → EReal} {b : ℕ → EReal}
  (ha : Ex (a := 2048) (b := 5632) (φ := .f32) x0 a) (hw : Ex (a := 3) (b := 5632) (φ := .f32) x1 w)
  (hb : Ex (a := 1) (b := 5632) (φ := .f32) x2 fun _ => b)
include ha hw hb

/-- The convolution. -/
theorem v27_ex (t : Fin 2048) (j : Fin 5632) : val_main_v27 (F := Ideal) x0 x1 x2 (ix2 t j) = cv w b a t.val j.val := by
  have e2 : val_main_v3 (F := Ideal) x0 (ix2 t j) = sh 2 (fun s => a s j.val) t.val := by
    rw [v3_at]
    unfold sh
    split
    · exact ha _ _
    · rfl
  have e1 : val_main_v11 (F := Ideal) x0 (ix2 t j) = sh 1 (fun s => a s j.val) t.val := by
    rw [v11_at]
    unfold sh
    split
    · exact ha _ _
    · rfl
  rw [v27_at, e2, e1, v18_at, v7_at, v15_at, v22_at, v26_at, ha, hw, hw, hw, hb]
  show sh 2 (fun s => a s j.val) t.val * w 0 j.val + sh 1 (fun s => a s j.val) t.val * w 1 j.val + a t.val j.val * w 2 j.val + b j.val = cv w b a t.val j.val
  unfold cv
  ac_rfl

theorem v44_ex (t : Fin 2048) (j : Fin 2816) : val_main_v44 (F := Ideal) x0 x1 x2 (ix2 t j)
    = gate (cv w b a t.val j.val) (cv w b a t.val (2816 + j.val)) := by
  have e1 : val_main_v28 (F := Ideal) x0 x1 x2 (ix2 t j) = cv w b a t.val j.val :=
    Eq.trans (b := val_main_v27 (F := Ideal) x0 x1 x2 (ix2 t (⟨j.val, by omega⟩ : Fin 5632))) (by pointwise [val_main_v28]) (v27_ex ha hw hb _ _)
  have e2 : val_main_v29 (F := Ideal) x0 x1 x2 (ix2 t j) = cv w b a t.val (2816 + j.val) :=
    Eq.trans (b := val_main_v27 (F := Ideal) x0 x1 x2 (ix2 t (⟨2816 + j.val, by omega⟩ : Fin 5632))) (by pointwise [val_main_v29]) (v27_ex ha hw hb _ _)
  pointwise [val_main_v44, val_main_v43, val_main_v42, val_main_v41, val_main_v40, val_main_v39, val_main_v38, val_main_v37, val_main_v36, val_main_v35, val_main_v34, val_main_v33, val_main_v32, val_main_v31, val_main_v30, val_main_cst_1, val_main_cst_2, val_main_cst_3, val_main_cst_4]
  rw [e1, e2]
  unfold gate
  ac_rfl

end Cert.ConvFwdRefIdeal.Ref
end
-- ==== Proof.Norm.lean ====
/-
  The norm of a row by its root mean square, and its gradient in two forms, over the extended reals.
-/
module

public import Idealize.ShloMosaic.Lib.Pointwise
public import Idealize.ShloMosaic.Lib.KernelVsHost

@[expose] public section
noncomputable section
namespace Cert.Norm
open Idealize.ShloMosaic

abbrev Row := Fin 1024 → EReal

/-- The mean square of a row with the small number added, the reciprocal of its root, and the norm with its gain. -/
def ms (x : Row) : EReal := Ideal.div (∑ k, x k * x k) (Ideal.ofBits FTy.f32 0x44800000#32) + Ideal.ofBits FTy.f32 0x358637BD#32
def rs (x : Row) : EReal := Ideal.rsqrt (ms x)
def nf (x g : Row) : Row := fun j => x j * rs x * g j
/-- The gradient that the kernel computes of the cotangent `d` of the normalised row, and the one by the chain rule. -/
def dn (d x : Row) : Row := fun j => rs x * (d j - x j * rs x * Ideal.div (∑ k, d k * (x k * rs x)) (Ideal.ofBits FTy.f32 0x44800000#32))
def mm (d x : Row) : EReal :=
  Ideal.div ((∑ k, x k * d k) * (Ideal.ofBits FTy.f32 0xBF000000#32 * Ideal.div (rs x) (ms x))) (Ideal.ofBits FTy.f32 0x44800000#32)
def dc (d x : Row) : Row := fun j => d j * rs x + x j * mm d x + mm d x * x j

/-- A column's sum of products over some rows. -/
def part {n : ℕ} (dy x : Fin n → Row) (l : Fin 1024) : EReal := ∑ r, dy r l * (x r l * rs (x r))

theorem ofBits_n : Ideal.ofBits FTy.f32 0x44800000#32 = ((1024 : ℝ) : EReal) := by
  simp [Ideal.ofBits, Ideal.ieee, -EReal.coe_mul]; norm_num
theorem ofBits_neg_half : Ideal.ofBits FTy.f32 0xBF000000#32 = ((-(1 / 2) : ℝ) : EReal) := by
  simp [Ideal.ofBits, Ideal.ieee, -EReal.coe_mul]; norm_num
theorem ofBits_eps : ∃ e : ℝ, 0 < e ∧ Ideal.ofBits FTy.f32 0x358637BD#32 = ((e : ℝ) : EReal) := by
  refine ⟨8796093 / 8796093022208, by norm_num, ?_⟩
  simp [Ideal.ofBits, Ideal.ieee, -EReal.coe_mul]; norm_num

theorem sq_nonneg (x : EReal) : 0 ≤ x * x := by
  induction x with
  | bot => simp
  | top => simp
  | coe x => rw [← EReal.coe_mul]; exact_mod_cast mul_self_nonneg x

theorem div_n (x : EReal) : Ideal.div x (Ideal.ofBits FTy.f32 0x44800000#32) = x * ((1024⁻¹ : ℝ) : EReal) := by
  rw [ofBits_n, Ideal.div_coe (by norm_num), one_div]

theorem ms_cases (x : Row) : ms x = ⊤ ∨ ∃ s : ℝ, 0 < s ∧ ms x = (s : EReal) := by
  obtain ⟨e, he, hb⟩ := ofBits_eps
  have h0 : 0 ≤ (∑ k, x k * x k) * ((1024⁻¹ : ℝ) : EReal) :=
    mul_nonneg (Finset.sum_nonneg fun k _ => sq_nonneg _) (by exact_mod_cast (by norm_num : (0 : ℝ) ≤ 1024⁻¹))
  unfold ms
  rw [div_n, hb]
  generalize (∑ k, x k * x k) * ((1024⁻¹ : ℝ) : EReal) = y at h0 ⊢
  induction y with
  | bot => exact absurd h0 (by simp)
  | top => left; simp
  | coe y => exact .inr ⟨y + e, add_pos_of_nonneg_of_pos (by exact_mod_cast h0) he, by rw [EReal.coe_add]⟩

theorem coe_mul_add (r : ℝ) (hr : 0 ≤ r) (a b : EReal) : (r : EReal) * (a + b) = r * a + r * b :=
  EReal.left_distrib_of_nonneg_of_ne_top (by exact_mod_cast hr) (EReal.coe_ne_top _) a b
theorem coe_mul_sum (r : ℝ) (hr : 0 ≤ r) {n : ℕ} (f : Fin n → EReal) : (r : EReal) * ∑ k, f k = ∑ k, (r : EReal) * f k := by
  classical
  induction (Finset.univ : Finset (Fin n)) using Finset.induction_on with
  | empty => simp
  | insert a s ha ih => rw [Finset.sum_insert ha, Finset.sum_insert ha, coe_mul_add r hr, ih]

theorem dn_eq (d x : Row) : dn d x = dc d x := by
  funext j
  unfold dn dc mm
  rw [ofBits_neg_half, div_n, div_n]
  rcases ms_cases x with h | ⟨s, hs, h⟩
  · have hr : rs x = 0 := by unfold rs; rw [h]; rfl
    have hd : Ideal.div (0 : EReal) ⊤ = 0 := by simp [Ideal.div]
    rw [hr, h, hd]
    simp
  · have hr : rs x = (((Real.sqrt s)⁻¹ : ℝ) : EReal) := by
      unfold rs; rw [h, Ideal.rsqrt_coe, if_neg (not_lt.mpr hs.le), if_neg hs.ne']
    have hr0 : 0 ≤ (Real.sqrt s)⁻¹ := by positivity
    have hrs : (Real.sqrt s)⁻¹ * (Real.sqrt s)⁻¹ = s⁻¹ := by rw [← mul_inv, Real.mul_self_sqrt hs.le]
    rw [hr, h, Ideal.div_coe hs.ne', one_div s]
    generalize (Real.sqrt s)⁻¹ = r at hr0 hrs
    have hT : ∑ k, d k * (x k * (r : EReal)) = r * ∑ k, x k * d k := by
      rw [coe_mul_sum r hr0]
      exact Finset.sum_congr rfl fun k _ => by rw [← mul_assoc, mul_comm (d k), mul_comm]
    rw [hT]
    generalize ∑ k, x k * d k = t
    rw [sub_eq_add_neg, coe_mul_add r hr0]
    have e : ∀ q : EReal, (r : EReal) * -(q * r * (r * t * ((1024⁻¹ : ℝ) : EReal))) = ((-(r * s⁻¹ * 1024⁻¹) : ℝ) : EReal) * (q * t) := by
      intro q
      rw [← hrs, mul_neg, EReal.coe_neg, neg_mul]
      push_cast
      congr 1
      ac_rfl
    have h2 : ∀ q : EReal, q * (t * (((-(1 / 2) : ℝ) : EReal) * (r * ((s⁻¹ : ℝ) : EReal))) * ((1024⁻¹ : ℝ) : EReal)) = -(((r * s⁻¹ * 1024⁻¹ / 2 : ℝ) : EReal) * (q * t)) := by
      intro q
      have : (r * s⁻¹ * 1024⁻¹ / 2 : ℝ) = (1 / 2) * (r * s⁻¹ * 1024⁻¹) := by ring
      rw [this, EReal.coe_neg, neg_mul, mul_neg, neg_mul, mul_neg]
      push_cast
      congr 1
      ac_rfl
    have hc : 0 ≤ r * s⁻¹ * 1024⁻¹ / 2 := by positivity
    rw [e, add_assoc, mul_comm (t * _ * _) (x j), h2, mul_comm (r : EReal) (d j)]
    congr 1
    have : (-(r * s⁻¹ * 1024⁻¹) : ℝ) = -(r * s⁻¹ * 1024⁻¹ / 2 + r * s⁻¹ * 1024⁻¹ / 2) := by ring
    rw [this, EReal.coe_neg, neg_mul, EReal.coe_add, EReal.right_distrib_of_nonneg (by exact_mod_cast hc) (by exact_mod_cast hc)]
    generalize ((r * s⁻¹ * 1024⁻¹ / 2 : ℝ) : EReal) * (x j * t) = z
    induction z with
    | bot => rfl
    | top => rfl
    | coe z => norm_cast; ring

/-- The rows of one of four blocks, and a column's sum as the four blocks' sums. -/
def blk (A : Fin 2048 → Row) (k : Fin 4) : Fin 512 → Row := fun r => A ⟨512 * k.val + r.val, by omega⟩
theorem part_four (dy x : Fin 2048 → Row) (l : Fin 1024) :
    part (blk dy 0) (blk x 0) l + part (blk dy 1) (blk x 1) l + part (blk dy 2) (blk x 2) l + part (blk dy 3) (blk x 3) l = part dy x l := by
  unfold part
  refine Eq.trans ?_ (Equiv.sum_comp (finProdFinEquiv (m := 4) (n := 512)) (fun r : Fin 2048 => dy r l * (x r l * rs (x r))))
  rw [Fintype.sum_prod_type, Fin.sum_univ_four]
  have e : ∀ (k : Fin 4) (r : Fin 512), (finProdFinEquiv (k, r) : Fin 2048) = ⟨512 * k.val + r.val, by omega⟩ := fun k r =>
    Fin.ext (show r.val + 512 * k.val = 512 * k.val + r.val by omega)
  simp only [e]
  rfl

end Cert.Norm
end
-- ==== Proof.RmsInVal.lean ====
/-
  The norm: the kernel's result and the reference's are one array of extended reals, on all arguments.
-/
module

public import proofs.«01_k».proof.Proof.Norm
public import proofs.«01_k».proof.Proof.Gen.RmsInIdeal.Value
public import proofs.«01_k».proof.Proof.Gen.RmsInRefIdeal.Read
public import Idealize.ShloMosaic.Lib.Pipeline.ValueKit
public import Idealize.ShloMosaic.Lib.KernelVsHost

@[expose] public section
set_option maxRecDepth 16384
noncomputable section
namespace Cert.RmsInIdeal.Val
open Cert.RmsInIdeal Cert.RmsInIdeal.Gen Idealize.ShloMosaic Idealize.ShloMosaic.TcCoe Idealize.SL.Sem
open Cert.Norm

/-- The norm of every row. -/
def nrm (a0 : FVec Ideal S2048x1024 .f32) (a1 : FVec Ideal S1x1024 .f32) : FVec Ideal S2048x1024 .bf16 := fun i =>
  nf (fun k => a0 (ix2 (i 0) k)) (fun k => a1 (ix2 0 k)) (i 1)

theorem out2 (a0 : FVec Ideal S256x1024 .f32) (a1 : FVec Ideal S1x1024 .f32) (r : Fin 256) (l : Fin 1024) :
    out0_2 (F := Ideal) a0 a1 (ix2 r l) = nf (fun k => a0 (ix2 r k)) (fun k => a1 (ix2 0 k)) l := by
  have e' : (ix2 r l : S256x1024.Idx) = r0_0.emb (ix2 r l) := by
    funext a
    apply Fin.ext
    rw [Rect.emb_apply]
    fin_cases a
    · show r.val = 0 + 1 * r.val; omega
    · show l.val = 0 + 1 * l.val; omega
  unfold out0_2 nf rs ms
  refine (congrArg _ e').trans ((View.canon_cons_emb _ _ _ _).trans ?_)
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ t.val < 8 :=
  (by decide +kernel : ∀ t : Fin grid0.N, _)

theorem iblk0 (c : Dev nD) (t : Fin cfg0.N) (r : Fin 256) (l : Fin 1024) (h : 256 * t.val + r.val < 2048) :
    iblk m c 0 t (ix2 r l) = m ((c : Thread nD τ).loc main_arg0) (ix2 ⟨256 * t.val + r.val, h⟩ l) := by
  blk_ext [iblk, V, idx t]
theorem iblk1 (c : Dev nD) (t : Fin cfg0.N) (l : Fin 1024) :
    iblk m c 1 t (ix2 0 l) = m ((c : Thread nD τ).loc main_arg1) (ix2 0 l) := by
  blk_ext [iblk, V, idx t]

theorem final2 (c : Dev nD) : (dats m 0 c).arrAt 2 (cfgs 0).N = nrm (m ((c : Thread nD τ).loc main_arg0)) (m ((c : Thread nD τ).loc main_arg1)) := by
  refine (dats m 0 c).arrAt_eq_of_covers 2 _ (by decide +kernel) fun t hf y => ?_
  have ht : t.val < 8 := (idx t).2.2.2
  have hr : (y 0).val < 256 := (y 0).isLt
  have hl : (y 1).val < 1024 := (y 1).isLt
  have h : 256 * t.val + (y 0).val < 2048 := by omega
  blk_simp
  rw [after0_2]
  have hy : y = ix2 (y 0) (y 1) := by funext a; fin_cases a <;> rfl
  refine (congrArg _ hy).trans ((out2 _ _ _ _).trans ?_)
  have e0 : ∀ k : Fin 1024, iblk m c 0 t (ix2 (y 0) k) = m ((c : Thread nD τ).loc main_arg0) (ix2 ⟨256 * t.val + (y 0).val, h⟩ k) := fun k => iblk0 m c t (y 0) k h
  have e1 : ∀ k : Fin 1024, iblk m c 1 t (ix2 0 k) = m ((c : Thread nD τ).loc main_arg1) (ix2 0 k) := fun k => iblk1 m c t k
  simp only [e0, e1]
  refine congrArg (nrm _ _) (a₁ := ix2 ⟨256 * t.val + (y 0).val, h⟩ (y 1)) (funext fun x => Fin.ext ?_)
  fin_cases x
  · blk_simp [idx t]
    show 256 * t.val + (y 0).val = t.val * 256 + (y 0).val
    omega
  · blk_simp [idx t]
    rfl

open Cert.RmsInRefIdeal.Read in
theorem ref2 (a0 : FVec Ideal S2048x1024 .f32) (a1 : FVec Ideal S1x1024 .f32) : val_main_v14 (F := Ideal) a0 a1 = nrm a0 a1 := by
  funext i
  obtain ⟨r, l, rfl⟩ : ∃ (r : Fin 2048) (l : Fin 1024), i = ix2 r l := ⟨i 0, i 1, by funext a; fin_cases a <;> rfl⟩
  refine Eq.trans (b := nf (fun k => a0 (ix2 r k)) (fun k => a1 (ix2 0 k)) l) ?_ rfl
  unfold nf rs ms
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]

end Cert.RmsInIdeal.Val
end
-- ==== Proof.RmsResVal.lean ====
/-
  The norm added to the residual: the kernel's result and the reference's are one array of extended reals, on all arguments.
-/
module

public import proofs.«01_k».proof.Proof.Norm
public import proofs.«01_k».proof.Proof.Gen.RmsResIdeal.Value
public import proofs.«01_k».proof.Proof.Gen.RmsResRefIdeal.Read
public import Idealize.ShloMosaic.Lib.Pipeline.ValueKit
public import Idealize.ShloMosaic.Lib.KernelVsHost

@[expose] public section
set_option maxRecDepth 16384
noncomputable section
namespace Cert.RmsResIdeal.Val
open Cert.RmsResIdeal Cert.RmsResIdeal.Gen Idealize.ShloMosaic Idealize.ShloMosaic.TcCoe Idealize.SL.Sem
open Cert.Norm

/-- The residual with the norm of every row added. -/
def nrm (a0 : FVec Ideal S2048x1024 .f32) (a1 : FVec Ideal S1x1024 .f32) (a2 : FVec Ideal S2048x1024 .f32) : FVec Ideal S2048x1024 .f32 := fun i =>
  @HAdd.hAdd EReal EReal EReal _ (nf (fun k => a0 (ix2 (i 0) k)) (fun k => a1 (ix2 0 k)) (i 1)) (a2 (ix2 (i 0) (i 1)))

theorem out3 (a0 : FVec Ideal S256x1024 .f32) (a1 : FVec Ideal S1x1024 .f32) (a2 : FVec Ideal S256x1024 .f32) (r : Fin 256) (l : Fin 1024) :
    out0_3 (F := Ideal) a0 a1 a2 (ix2 r l) = @HAdd.hAdd EReal EReal EReal _ (nf (fun k => a0 (ix2 r k)) (fun k => a1 (ix2 0 k)) l) (a2 (ix2 r l)) := by
  have e' : (ix2 r l : S256x1024.Idx) = r0_0.emb (ix2 r l) := by
    funext a
    apply Fin.ext
    rw [Rect.emb_apply]
    fin_cases a
    · show r.val = 0 + 1 * r.val; omega
    · show l.val = 0 + 1 * l.val; omega
  unfold out0_3 nf rs ms
  refine (congrArg _ e').trans ((View.canon_cons_emb _ _ _ _).trans ?_)
  pointwise [k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0] ∧ t.val < 8 :=
  (by decide +kernel : ∀ t : Fin grid0.N, _)

theorem iblk0 (c : Dev nD) (t : Fin cfg0.N) (r : Fin 256) (l : Fin 1024) (h : 256 * t.val + r.val < 2048) :
    iblk m c 0 t (ix2 r l) = m ((c : Thread nD τ).loc main_arg0) (ix2 ⟨256 * t.val + r.val, h⟩ l) := by
  blk_ext [iblk, V, idx t]
theorem iblk1 (c : Dev nD) (t : Fin cfg0.N) (l : Fin 1024) :
    iblk m c 1 t (ix2 0 l) = m ((c : Thread nD τ).loc main_arg1) (ix2 0 l) := by
  blk_ext [iblk, V, idx t]
theorem iblk2 (c : Dev nD) (t : Fin cfg0.N) (r : Fin 256) (l : Fin 1024) (h : 256 * t.val + r.val < 2048) :
    iblk m c 2 t (ix2 r l) = m ((c : Thread nD τ).loc main_arg2) (ix2 ⟨256 * t.val + r.val, h⟩ l) := by
  blk_ext [iblk, V, idx t]

theorem final3 (c : Dev nD) : (dats m 0 c).arrAt 3 (cfgs 0).N = nrm (m ((c : Thread nD τ).loc main_arg0)) (m ((c : Thread nD τ).loc main_arg1)) (m ((c : Thread nD τ).loc main_arg2)) := by
  refine (dats m 0 c).arrAt_eq_of_covers 3 _ (by decide +kernel) fun t hf y => ?_
  have ht : t.val < 8 := (idx t).2.2.2.2
  have hr : (y 0).val < 256 := (y 0).isLt
  have hl : (y 1).val < 1024 := (y 1).isLt
  have h : 256 * t.val + (y 0).val < 2048 := by omega
  blk_simp
  rw [after0_3]
  have hy : y = ix2 (y 0) (y 1) := by funext a; fin_cases a <;> rfl
  refine (congrArg _ hy).trans ((out3 _ _ _ _ _).trans ?_)
  have e0 : ∀ k : Fin 1024, iblk m c 0 t (ix2 (y 0) k) = m ((c : Thread nD τ).loc main_arg0) (ix2 ⟨256 * t.val + (y 0).val, h⟩ k) := fun k => iblk0 m c t (y 0) k h
  have e1 : ∀ k : Fin 1024, iblk m c 1 t (ix2 0 k) = m ((c : Thread nD τ).loc main_arg1) (ix2 0 k) := fun k => iblk1 m c t k
  have e2 : iblk m c 2 t (ix2 (y 0) (y 1)) = m ((c : Thread nD τ).loc main_arg2) (ix2 ⟨256 * t.val + (y 0).val, h⟩ (y 1)) := iblk2 m c t (y 0) (y 1) h
  simp only [e0, e1]
  rw [e2]
  refine congrArg (nrm _ _ _) (a₁ := ix2 ⟨256 * t.val + (y 0).val, h⟩ (y 1)) (funext fun x => Fin.ext ?_)
  fin_cases x
  · blk_simp [idx t]
    show 256 * t.val + (y 0).val = t.val * 256 + (y 0).val
    omega
  · blk_simp [idx t]
    rfl

open Cert.RmsResRefIdeal.Read in
theorem ref3 (a0 : FVec Ideal S2048x1024 .f32) (a1 : FVec Ideal S1x1024 .f32) (a2 : FVec Ideal S2048x1024 .f32) : val_main_v14 (F := Ideal) a0 a1 a2 = nrm a0 a1 a2 := by
  funext i
  obtain ⟨r, l, rfl⟩ : ∃ (r : Fin 2048) (l : Fin 1024), i = ix2 r l := ⟨i 0, i 1, by funext a; fin_cases a <;> rfl⟩
  refine Eq.trans (b := @HAdd.hAdd EReal EReal EReal _ (a2 (ix2 r l)) (nf (fun k => a0 (ix2 r k)) (fun k => a1 (ix2 0 k)) l)) ?_ (add_comm _ _)
  unfold nf rs ms
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14]

end Cert.RmsResIdeal.Val
end
-- ==== Proof.RmsResInVal.lean ====
/-
  A norm added to the residual, and the norm of the sum: the kernel's results and the reference's are one pair of arrays of extended reals, on all arguments.
-/
module

public import proofs.«01_k».proof.Proof.Norm
public import proofs.«01_k».proof.Proof.Gen.RmsResInIdeal.Value
public import proofs.«01_k».proof.Proof.Gen.RmsResInRefIdeal.Read
public import Idealize.ShloMosaic.Lib.Pipeline.ValueKit
public import Idealize.ShloMosaic.Lib.KernelVsHost

@[expose] public section
set_option maxRecDepth 16384
noncomputable section
namespace Cert.RmsResInIdeal.Val
open Cert.RmsResInIdeal Cert.RmsResInIdeal.Gen Idealize.ShloMosaic Idealize.ShloMosaic.TcCoe Idealize.SL.Sem
open Cert.Norm

/-- The residual with the norm of every row added. -/
def res (a0 : FVec Ideal S2048x1024 .f32) (a1 : FVec Ideal S1x1024 .f32) (a2 : FVec Ideal S2048x1024 .f32) : FVec Ideal S2048x1024 .f32 := fun i =>
  @HAdd.hAdd EReal EReal EReal _ (a2 (ix2 (i 0) (i 1))) (nf (fun k => a0 (ix2 (i 0) k)) (fun k => a1 (ix2 0 k)) (i 1))

theorem out4 (a0 : FVec Ideal S512x1024 .f32) (a1 : FVec Ideal S1x1024 .f32) (a2 : FVec Ideal S512x1024 .f32) (a3 : FVec Ideal S1x1024 .f32) (r : Fin 512) (l : Fin 1024) :
    out0_4 (F := Ideal) a0 a1 a2 a3 (ix2 r l) = @HAdd.hAdd EReal EReal EReal _ (a2 (ix2 r l)) (nf (fun k => a0 (ix2 r k)) (fun k => a1 (ix2 0 k)) l) := by
  have e' : (ix2 r l : S512x1024.Idx) = r0_0.emb (ix2 r l) := by
    funext a
    apply Fin.ext
    rw [Rect.emb_apply]
    fin_cases a
    · show r.val = 0 + 1 * r.val; omega
    · show l.val = 0 + 1 * l.val; omega
  unfold out0_4 nf rs ms
  refine (congrArg _ e').trans ((View.canon_cons_emb _ _ _ _).trans ?_)
  pointwise [k0_pay1]

/-- The norm of every row of that sum. -/
def nrm (a0 : FVec Ideal S2048x1024 .f32) (a1 : FVec Ideal S1x1024 .f32) (a2 : FVec Ideal S2048x1024 .f32) (a3 : FVec Ideal S1x1024 .f32) : FVec Ideal S2048x1024 .bf16 := fun i =>
  nf (fun k => @HAdd.hAdd EReal EReal EReal _ (a2 (ix2 (i 0) k)) (nf (fun k => a0 (ix2 (i 0) k)) (fun k => a1 (ix2 0 k)) k)) (fun k => a3 (ix2 0 k)) (i 1)

theorem out5 (a0 : FVec Ideal S512x1024 .f32) (a1 : FVec Ideal S1x1024 .f32) (a2 : FVec Ideal S512x1024 .f32) (a3 : FVec Ideal S1x1024 .f32) (r : Fin 512) (l : Fin 1024) :
    out0_5 (F := Ideal) a0 a1 a2 a3 (ix2 r l) = nf (fun k => @HAdd.hAdd EReal EReal EReal _ (a2 (ix2 r k)) (nf (fun k => a0 (ix2 r k)) (fun k => a1 (ix2 0 k)) k)) (fun k => a3 (ix2 0 k)) l := by
  have e' : (ix2 r l : S512x1024.Idx) = r0_0.emb (ix2 r l) := by
    funext a
    apply Fin.ext
    rw [Rect.emb_apply]
    fin_cases a
    · show r.val = 0 + 1 * r.val; omega
    · show l.val = 0 + 1 * l.val; omega
  unfold out0_5 nf rs ms
  refine (congrArg _ e').trans ((View.canon_cons_emb _ _ _ _).trans ?_)
  pointwise [k0_pay2, k0_pay1]

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ t.val < 4 :=
  (by decide +kernel : ∀ t : Fin grid0.N, _)

theorem iblk0 (c : Dev nD) (t : Fin cfg0.N) (r : Fin 512) (l : Fin 1024) (h : 512 * t.val + r.val < 2048) :
    iblk m c 0 t (ix2 r l) = m ((c : Thread nD τ).loc main_arg0) (ix2 ⟨512 * t.val + r.val, h⟩ l) := by
  blk_ext [iblk, V, idx t]
theorem iblk1 (c : Dev nD) (t : Fin cfg0.N) (l : Fin 1024) :
    iblk m c 1 t (ix2 0 l) = m ((c : Thread nD τ).loc main_arg1) (ix2 0 l) := by
  blk_ext [iblk, V, idx t]
theorem iblk2 (c : Dev nD) (t : Fin cfg0.N) (r : Fin 512) (l : Fin 1024) (h : 512 * t.val + r.val < 2048) :
    iblk m c 2 t (ix2 r l) = m ((c : Thread nD τ).loc main_arg2) (ix2 ⟨512 * t.val + r.val, h⟩ l) := by
  blk_ext [iblk, V, idx t]
theorem iblk3 (c : Dev nD) (t : Fin cfg0.N) (l : Fin 1024) :
    iblk m c 3 t (ix2 0 l) = m ((c : Thread nD τ).loc main_arg3) (ix2 0 l) := by
  blk_ext [iblk, V, idx t]

theorem final4 (c : Dev nD) : (dats m 0 c).arrAt 4 (cfgs 0).N = res (m ((c : Thread nD τ).loc main_arg0)) (m ((c : Thread nD τ).loc main_arg1)) (m ((c : Thread nD τ).loc main_arg2)) := by
  refine (dats m 0 c).arrAt_eq_of_covers 4 _ (by decide +kernel) fun t hf y => ?_
  have ht : t.val < 4 := (idx t).2.2.2.2.2.2
  have hr : (y 0).val < 512 := (y 0).isLt
  have hl : (y 1).val < 1024 := (y 1).isLt
  have h : 512 * t.val + (y 0).val < 2048 := by omega
  blk_simp
  rw [after0_4]
  have hy : y = ix2 (y 0) (y 1) := by funext a; fin_cases a <;> rfl
  refine (congrArg _ hy).trans ((out4 _ _ _ _ _ _).trans ?_)
  have e0 : ∀ k : Fin 1024, iblk m c 0 t (ix2 (y 0) k) = m ((c : Thread nD τ).loc main_arg0) (ix2 ⟨512 * t.val + (y 0).val, h⟩ k) := fun k => iblk0 m c t (y 0) k h
  have e1 : ∀ k : Fin 1024, iblk m c 1 t (ix2 0 k) = m ((c : Thread nD τ).loc main_arg1) (ix2 0 k) := fun k => iblk1 m c t k
  have e2 : iblk m c 2 t (ix2 (y 0) (y 1)) = m ((c : Thread nD τ).loc main_arg2) (ix2 ⟨512 * t.val + (y 0).val, h⟩ (y 1)) := iblk2 m c t (y 0) (y 1) h
  simp only [e0, e1]
  rw [e2]
  refine congrArg (res _ _ _) (a₁ := ix2 ⟨512 * t.val + (y 0).val, h⟩ (y 1)) (funext fun x => Fin.ext ?_)
  fin_cases x
  · blk_simp [idx t]
    show 512 * t.val + (y 0).val = t.val * 512 + (y 0).val
    omega
  · blk_simp [idx t]
    rfl

open Cert.RmsResInRefIdeal.Read in
theorem ref4 (a0 : FVec Ideal S2048x1024 .f32) (a1 : FVec Ideal S1x1024 .f32) (a2 : FVec Ideal S2048x1024 .f32) : val_main_v14 (F := Ideal) a0 a1 a2 = res a0 a1 a2 := by
  funext i
  obtain ⟨r, l, rfl⟩ : ∃ (r : Fin 2048) (l : Fin 1024), i = ix2 r l := ⟨i 0, i 1, by funext a; fin_cases a <;> rfl⟩
  refine Eq.trans (b := @HAdd.hAdd EReal EReal EReal _ (a2 (ix2 r l)) (nf (fun k => a0 (ix2 r k)) (fun k => a1 (ix2 0 k)) l)) ?_ rfl
  unfold nf rs ms
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28, val_main_v29]

theorem final5 (c : Dev nD) : (dats m 0 c).arrAt 5 (cfgs 0).N = nrm (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  have ht : t.val < 4 := (idx t).2.2.2.2.2.2
  have hr : (y 0).val < 512 := (y 0).isLt
  have hl : (y 1).val < 1024 := (y 1).isLt
  have h : 512 * t.val + (y 0).val < 2048 := by omega
  blk_simp
  rw [after0_5]
  have hy : y = ix2 (y 0) (y 1) := by funext a; fin_cases a <;> rfl
  refine (congrArg _ hy).trans ((out5 _ _ _ _ _ _).trans ?_)
  have e0 : ∀ k : Fin 1024, iblk m c 0 t (ix2 (y 0) k) = m ((c : Thread nD τ).loc main_arg0) (ix2 ⟨512 * t.val + (y 0).val, h⟩ k) := fun k => iblk0 m c t (y 0) k h
  have e1 : ∀ k : Fin 1024, iblk m c 1 t (ix2 0 k) = m ((c : Thread nD τ).loc main_arg1) (ix2 0 k) := fun k => iblk1 m c t k
  have e2 : ∀ k : Fin 1024, iblk m c 2 t (ix2 (y 0) k) = m ((c : Thread nD τ).loc main_arg2) (ix2 ⟨512 * t.val + (y 0).val, h⟩ k) := fun k => iblk2 m c t (y 0) k h
  have e3 : ∀ k : Fin 1024, iblk m c 3 t (ix2 0 k) = m ((c : Thread nD τ).loc main_arg3) (ix2 0 k) := fun k => iblk3 m c t k
  simp only [e0, e1, e2, e3]
  refine congrArg (nrm _ _ _ _) (a₁ := ix2 ⟨512 * t.val + (y 0).val, h⟩ (y 1)) (funext fun x => Fin.ext ?_)
  fin_cases x
  · blk_simp [idx t]
    show 512 * t.val + (y 0).val = t.val * 512 + (y 0).val
    omega
  · blk_simp [idx t]
    rfl

open Cert.RmsResInRefIdeal.Read in
theorem ref5 (a0 : FVec Ideal S2048x1024 .f32) (a1 : FVec Ideal S1x1024 .f32) (a2 : FVec Ideal S2048x1024 .f32) (a3 : FVec Ideal S1x1024 .f32) : val_main_v29 (F := Ideal) a0 a1 a2 a3 = nrm a0 a1 a2 a3 := by
  funext i
  obtain ⟨r, l, rfl⟩ : ∃ (r : Fin 2048) (l : Fin 1024), i = ix2 r l := ⟨i 0, i 1, by funext a; fin_cases a <;> rfl⟩
  refine Eq.trans (b := nf (fun k => @HAdd.hAdd EReal EReal EReal _ (a2 (ix2 r k)) (nf (fun k => a0 (ix2 r k)) (fun k => a1 (ix2 0 k)) k)) (fun k => a3 (ix2 0 k)) l) ?_ rfl
  unfold nf rs ms
  pointwise [val_main_v0, val_main_v1, val_main_cst, val_main_v2, val_main_v3, val_main_cst_0, val_main_v4, val_main_v5, val_main_cst_1, val_main_v6, val_main_v7, val_main_v8, val_main_v9, val_main_v10, val_main_v11, val_main_v12, val_main_v13, val_main_v14, val_main_v15, val_main_v16, val_main_cst_2, val_main_v17, val_main_v18, val_main_cst_3, val_main_v19, val_main_v20, val_main_cst_4, val_main_v21, val_main_v22, val_main_v23, val_main_v24, val_main_v25, val_main_v26, val_main_v27, val_main_v28, val_main_v29]

end Cert.RmsResInIdeal.Val
end
-- ==== Proof.RmsBwdVal.lean ====
/-
  The gradient of a norm: the kernel's results and the reference's are one pair of arrays of extended reals, on all arguments.
-/
module

public import proofs.«01_k».proof.Proof.Norm
public import proofs.«01_k».proof.Proof.Gen.RmsBwdIdeal.Value
public import proofs.«01_k».proof.Proof.Gen.RmsBwdRefIdeal.Read
public import Idealize.ShloMosaic.Lib.Pipeline.ValueKit
public import Idealize.ShloMosaic.Lib.KernelVsHost

@[expose] public section
set_option maxRecDepth 16384
noncomputable section
namespace Cert.RmsBwdIdeal.Val
open Cert.RmsBwdIdeal Cert.RmsBwdIdeal.Gen Idealize.ShloMosaic Idealize.ShloMosaic.TcCoe Idealize.SL.Sem
open Cert.Norm

theorem pay3_apply (x dy : FVec Ideal S512x1024 .f32) (g : FVec Ideal S1x1024 .f32) (r : Fin 512) (l : Fin 1024) :
    k0_pay3 (F := Ideal) x dy g (ix2 r l) = dn (fun k => @HMul.hMul EReal EReal EReal _ (dy (ix2 r k)) (g (ix2 0 k))) (fun k => x (ix2 r k)) l := by
  unfold dn rs ms
  pointwise [k0_pay3, k0_pay2, k0_pay1]

theorem pay4_apply (l : Fin 1024) : k0_pay4 (F := Ideal) (ix2 0 l) = (0 : EReal) := by
  pointwise [k0_pay4]

theorem pay5_apply (x dy : FVec Ideal S512x1024 .f32) (a : FVec Ideal S1x1024 .f32) (l : Fin 1024) :
    k0_pay5 (F := Ideal) x dy a (ix2 0 l) = @HAdd.hAdd EReal EReal EReal _ (a (ix2 0 l)) (part (fun r k => dy (ix2 r k)) (fun r k => x (ix2 r k)) l) := by
  unfold part rs ms
  pointwise [k0_pay5, k0_pay2, k0_pay1]

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![0, 0] ∧ t.val < 4 :=
  (by decide +kernel : ∀ t : Fin grid0.N, _)

theorem iblk0 (c : Dev nD) (t : Fin cfg0.N) (r : Fin 512) (l : Fin 1024) (h : 512 * t.val + r.val < 2048) :
    iblk m c 0 t (ix2 r l) = m ((c : Thread nD τ).loc main_arg0) (ix2 ⟨512 * t.val + r.val, h⟩ l) := by
  blk_ext [iblk, V, idx t]
theorem iblk1 (c : Dev nD) (t : Fin cfg0.N) (r : Fin 512) (l : Fin 1024) (h : 512 * t.val + r.val < 2048) :
    iblk m c 1 t (ix2 r l) = m ((c : Thread nD τ).loc main_arg1) (ix2 ⟨512 * t.val + r.val, h⟩ l) := by
  blk_ext [iblk, V, idx t]
theorem iblk2 (c : Dev nD) (t : Fin cfg0.N) (l : Fin 1024) :
    iblk m c 2 t (ix2 0 l) = m ((c : Thread nD τ).loc main_arg2) (ix2 0 l) := by
  blk_ext [iblk, V, idx t]

/-- What a grid point leaves in the first result's block. -/
theorem dx_out (c : Dev nD) (t : Fin cfg0.N) (r : Fin 512) (l : Fin 1024) :
    (outsAt0 m c t.val t.isLt).1 (ix2 r l) = k0_pay3 (F := Ideal) (iblk m c 1 t) (iblk m c 0 t) (iblk m c 2 t) (ix2 r l) := by
  by_cases h0 : t.val % 4 = 0
  · rw [outsAt0_A m c t h0]
    dsimp only
    unfold out0_A_3
    frame_open
    frame_out
  · rw [outsAt0_B m c t h0]
    dsimp only
    unfold out0_B_3
    frame_open
    frame_out

/-- What the first grid point leaves in the second result's block. -/
theorem dgA (c : Dev nD) (t : Fin cfg0.N) (h0 : t.val % 4 = 0) (l : Fin 1024) :
    (outsAt0 m c t.val t.isLt).2 (ix2 0 l) = part (fun r k => iblk m c 0 t (ix2 r k)) (fun r k => iblk m c 1 t (ix2 r k)) l := by
  rw [outsAt0_A m c t h0]
  dsimp only
  unfold out0_A_4
  frame_open
  simp only [↓ View.readCov_cons_toLoadRect]
  frame_out
  refine (pay5_apply _ _ _ l).trans ?_
  refine (congrArg (fun z : EReal => z + _) (pay4_apply l)).trans (zero_add _)

/-- What each further one leaves there. -/
theorem dgB (c : Dev nD) (t : Fin cfg0.N) (h0 : ¬t.val % 4 = 0) (l : Fin 1024) :
    (outsAt0 m c t.val t.isLt).2 (ix2 0 l) = @HAdd.hAdd EReal EReal EReal _ ((outsAt0 m c (t.val - 1) (Nat.lt_of_le_of_lt (Nat.sub_le _ _) t.isLt)).2 (ix2 0 l))
      (part (fun r k => iblk m c 0 t (ix2 r k)) (fun r k => iblk m c 1 t (ix2 r k)) l) := by
  rw [outsAt0_B m c t h0]
  dsimp only
  unfold out0_B_4
  generalize (outsAt0 m c (t.val - 1) (Nat.lt_of_le_of_lt (Nat.sub_le _ _) t.isLt)).2 = s
  frame_open
  frame_out
  exact (congrArg (fun s => k0_pay5 (F := Ideal) (iblk m c 1 t) (iblk m c 0 t) s (ix2 0 l)) rfl).trans (pay5_apply _ _ s l)

/-- The gradients of the norm's argument and of its gain, as arrays. -/
def dxv (dy x : FVec Ideal S2048x1024 .f32) (g : FVec Ideal S1x1024 .f32) : FVec Ideal S2048x1024 .bf16 := fun i =>
  dn (fun k => @HMul.hMul EReal EReal EReal _ (dy (ix2 (i 0) k)) (g (ix2 0 k))) (fun k => x (ix2 (i 0) k)) (i 1)
def dgv (dy x : FVec Ideal S2048x1024 .f32) : FVec Ideal S1x1024 .f32 := fun i =>
  part (n := 2048) (fun r k => dy (ix2 r k)) (fun r k => x (ix2 r k)) (i 1)

theorem dx_final (c : Dev nD) : (dats m 0 c).arrAt 3 (cfgs 0).N = dxv (m ((c : Thread nD τ).loc main_arg0)) (m ((c : Thread nD τ).loc main_arg1))
    (m ((c : Thread nD τ).loc main_arg2)) := by
  refine (dats m 0 c).arrAt_eq_of_covers 3 _ (by decide +kernel) fun t hf y => ?_
  have ht : t.val < 4 := (idx t).2.2.2.2.2
  have hr : (y 0).val < 512 := (y 0).isLt
  have hl : (y 1).val < 1024 := (y 1).isLt
  have h : 512 * t.val + (y 0).val < 2048 := by omega
  blk_simp
  rw [after0_3]
  have hy : y = ix2 (y 0) (y 1) := by funext a; fin_cases a <;> rfl
  refine (congrArg _ hy).trans ((dx_out m c t _ _).trans ((pay3_apply _ _ _ _ _).trans ?_))
  have e0 : (fun k => iblk m c 0 t (ix2 (y 0) k)) = fun k => m ((c : Thread nD τ).loc main_arg0) (ix2 ⟨512 * t.val + (y 0).val, h⟩ k) := funext fun k => iblk0 m c t (y 0) k h
  have e1 : (fun k => iblk m c 1 t (ix2 (y 0) k)) = fun k => m ((c : Thread nD τ).loc main_arg1) (ix2 ⟨512 * t.val + (y 0).val, h⟩ k) := funext fun k => iblk1 m c t (y 0) k h
  have e2 : (fun k : Fin 1024 => iblk m c 2 t (ix2 0 k)) = fun k => m ((c : Thread nD τ).loc main_arg2) (ix2 0 k) := funext fun k => iblk2 m c t k
  refine (congrArg₂ (fun d x => dn d x (y 1)) (congrArg₂ (fun (d g : Row) (k : Fin 1024) => d k * g k) e0 e2) e1).trans ?_
  refine congrArg (dxv _ _ _) (a₁ := ix2 ⟨512 * t.val + (y 0).val, h⟩ (y 1)) (funext fun x => Fin.ext ?_)
  fin_cases x
  · blk_simp [idx t]
    show 512 * t.val + (y 0).val = t.val * 512 + (y 0).val
    omega
  · blk_simp [idx t]
    rfl

theorem part_eq (c : Dev nD) (t : Fin cfg0.N) (k : Fin 4) (ht : t.val = k.val) (l : Fin 1024) :
    part (n := 512) (fun r k => iblk m c 0 t (ix2 r k)) (fun r k => iblk m c 1 t (ix2 r k)) l
      = part (blk (fun r k => m ((c : Thread nD τ).loc main_arg0) (ix2 r k)) k) (blk (fun r k => m ((c : Thread nD τ).loc main_arg1) (ix2 r k)) k) l := by
  obtain ⟨n, hn⟩ := t
  obtain ⟨k, hk⟩ := k
  dsimp only at ht
  subst ht
  refine congrArg₂ (fun a b => part a b l) (funext fun r => funext fun k => iblk0 m c _ r k ?_) (funext fun r => funext fun k => iblk1 m c _ r k ?_)
  all_goals (dsimp only; omega)

theorem dg_out (c : Dev nD) (t : Fin cfg0.N) (h : t.val = 3) (l : Fin 1024) :
    (outsAt0 m c t.val t.isLt).2 (ix2 0 l) = dgv (m ((c : Thread nD τ).loc main_arg0)) (m ((c : Thread nD τ).loc main_arg1)) (ix2 0 l) := by
  have hN : cfg0.N = 4 := N_0
  obtain ⟨n, hn⟩ := t
  obtain rfl : n = 3 := h
  refine ((dgB m c ⟨3, hn⟩ (by show ¬3 % 4 = 0; decide) l).trans (congrArg₂ (@HAdd.hAdd EReal EReal EReal _) ((dgB m c ⟨2, by omega⟩ (by show ¬2 % 4 = 0; decide) l).trans (congrArg₂ (@HAdd.hAdd EReal EReal EReal _)
    ((dgB m c ⟨1, by omega⟩ (by show ¬1 % 4 = 0; decide) l).trans (congrArg₂ (@HAdd.hAdd EReal EReal EReal _) ((dgA m c ⟨0, by omega⟩ (by show 0 % 4 = 0; decide) l).trans (part_eq m c _ 0 rfl _)) (part_eq m c _ 1 rfl _))) (part_eq m c _ 2 rfl _)))
    (part_eq m c _ 3 rfl _))).trans ((part_four _ _ _).trans rfl)

theorem dg_final (c : Dev nD) : (dats m 0 c).arrAt 4 (cfgs 0).N = dgv (m ((c : Thread nD τ).loc main_arg0)) (m ((c : Thread nD τ).loc main_arg1)) := by
  refine (dats m 0 c).arrAt_eq_of_covers 4 _ (by decide +kernel) fun t hf y => ?_
  have ht : t.val < 4 := (idx t).2.2.2.2.2
  have h3 : t.val % 4 = 3 := (flush0_4 t).mp hf
  blk_simp
  rw [after0_4]
  have hy : y = ix2 0 (y 1) := by
    funext a; fin_cases a
    · exact Subsingleton.elim (α := Fin 1) _ _
    · rfl
  refine (congrArg _ hy).trans ((dg_out m c t (by omega) (y 1)).trans ?_)
  refine congrArg (dgv _ _) (a₁ := ix2 0 (y 1)) (funext fun x => Fin.ext ?_)
  fin_cases x
  · exact congrArg Fin.val (Subsingleton.elim (α := Fin 1) _ _)
  · blk_simp [idx t]
    rfl

open Cert.RmsBwdRefIdeal.Read in
theorem ref_dx_apply (dy x : FVec Ideal S2048x1024 .f32) (g : FVec Ideal S1x1024 .f32) (r : Fin 2048) (l : Fin 1024) (d : Row)
    (hd : ∀ k, d k = @HMul.hMul EReal EReal EReal _ (dy (ix2 r k)) (g (ix2 0 k))) :
    val_main_v37 (F := Ideal) dy x g (ix2 r l) = @HAdd.hAdd EReal EReal EReal _ (@HAdd.hAdd EReal EReal EReal _ (d l * rs fun k => x (ix2 r k))
      (@HMul.hMul EReal EReal EReal _ (x (ix2 r l)) (∑ _ : Fin 1, mm d fun k => x (ix2 r k)))) (@HMul.hMul EReal EReal EReal _ (∑ _ : Fin 1, mm d fun k => x (ix2 r k)) (x (ix2 r l))) := by
  unfold mm rs ms
  simp only [hd]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38]

open Cert.RmsBwdRefIdeal.Read in
theorem ref_dx (dy x : FVec Ideal S2048x1024 .f32) (g : FVec Ideal S1x1024 .f32) :
    val_main_v37 (F := Ideal) dy x g = dxv dy x g := by
  funext i
  have hi : i = ix2 (i 0) (i 1) := by funext a; fin_cases a <;> rfl
  rw [hi]
  refine (ref_dx_apply dy x g (i 0) (i 1) _ fun _ => rfl).trans ?_
  rw [Fin.sum_univ_one]
  exact (congrFun (dn_eq (fun k => @HMul.hMul EReal EReal EReal _ (dy (ix2 (i 0) k)) (g (ix2 0 k))) fun k => x (ix2 (i 0) k)) (i 1)).symm

open Cert.RmsBwdRefIdeal.Read in
theorem ref_dg_apply (dy x : FVec Ideal S2048x1024 .f32) (l : Fin 1024) :
    val_main_v38 (F := Ideal) dy x (ix2 0 l) = ∑ _ : Fin 1, ∑ r : Fin 2048, @HMul.hMul EReal EReal EReal _ (@HMul.hMul EReal EReal EReal _ (x (ix2 r l)) (rs fun k => x (ix2 r k))) (dy (ix2 r l)) := by
  unfold rs ms
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_cst_6, val_main_v29, val_main_v30, val_main_cst_7, val_main_v31, val_main_v32, val_main_v33, val_main_v34, val_main_v35, val_main_v36, val_main_v37, val_main_v38]

open Cert.RmsBwdRefIdeal.Read in
theorem ref_dg (dy x : FVec Ideal S2048x1024 .f32) : val_main_v38 (F := Ideal) dy x = dgv dy x := by
  funext i
  have hi : i = ix2 0 (i 1) := by
    funext a; fin_cases a
    · exact Subsingleton.elim (α := Fin 1) _ _
    · rfl
  rw [hi]
  refine (ref_dg_apply dy x (i 1)).trans ?_
  rw [Fin.sum_univ_one]
  exact Finset.sum_congr rfl fun r _ => mul_comm _ _

end Cert.RmsBwdIdeal.Val
end
-- ==== Proof.RmsBwdResVal.lean ====
/-
  The gradient of a norm with the cotangent of the residual added: the kernel's results and the reference's are one pair of arrays of
  extended reals, on all arguments.
-/
module

public import proofs.«01_k».proof.Proof.Norm
public import proofs.«01_k».proof.Proof.Gen.RmsBwdResIdeal.Value
public import proofs.«01_k».proof.Proof.Gen.RmsBwdResRefIdeal.Read
public import Idealize.ShloMosaic.Lib.Pipeline.ValueKit
public import Idealize.ShloMosaic.Lib.KernelVsHost

@[expose] public section
set_option maxRecDepth 16384
noncomputable section
namespace Cert.RmsBwdResIdeal.Val
open Cert.RmsBwdResIdeal Cert.RmsBwdResIdeal.Gen Idealize.ShloMosaic Idealize.ShloMosaic.TcCoe Idealize.SL.Sem
open Cert.Norm

theorem pay3_apply (x dy : FVec Ideal S512x1024 .f32) (g : FVec Ideal S1x1024 .f32) (dres : FVec Ideal S512x1024 .f32) (r : Fin 512) (l : Fin 1024) :
    k0_pay3 (F := Ideal) x dy g dres (ix2 r l) = @HAdd.hAdd EReal EReal EReal _ (dn (fun k => @HMul.hMul EReal EReal EReal _ (dy (ix2 r k)) (g (ix2 0 k))) (fun k => x (ix2 r k)) l) (dres (ix2 r l)) := by
  unfold dn rs ms
  pointwise [k0_pay3, k0_pay2, k0_pay1]

theorem pay4_apply (l : Fin 1024) : k0_pay4 (F := Ideal) (ix2 0 l) = (0 : EReal) := by
  pointwise [k0_pay4]

theorem pay5_apply (x dy : FVec Ideal S512x1024 .f32) (a : FVec Ideal S1x1024 .f32) (l : Fin 1024) :
    k0_pay5 (F := Ideal) x dy a (ix2 0 l) = @HAdd.hAdd EReal EReal EReal _ (a (ix2 0 l)) (part (fun r k => dy (ix2 r k)) (fun r k => x (ix2 r k)) l) := by
  unfold part rs ms
  pointwise [k0_pay5, k0_pay2, k0_pay1]

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0] ∧ t.val < 4 :=
  (by decide +kernel : ∀ t : Fin grid0.N, _)

theorem iblk0 (c : Dev nD) (t : Fin cfg0.N) (r : Fin 512) (l : Fin 1024) (h : 512 * t.val + r.val < 2048) :
    iblk m c 0 t (ix2 r l) = m ((c : Thread nD τ).loc main_arg0) (ix2 ⟨512 * t.val + r.val, h⟩ l) := by
  blk_ext [iblk, V, idx t]
theorem iblk1 (c : Dev nD) (t : Fin cfg0.N) (r : Fin 512) (l : Fin 1024) (h : 512 * t.val + r.val < 2048) :
    iblk m c 1 t (ix2 r l) = m ((c : Thread nD τ).loc main_arg1) (ix2 ⟨512 * t.val + r.val, h⟩ l) := by
  blk_ext [iblk, V, idx t]
theorem iblk2 (c : Dev nD) (t : Fin cfg0.N) (l : Fin 1024) :
    iblk m c 2 t (ix2 0 l) = m ((c : Thread nD τ).loc main_arg2) (ix2 0 l) := by
  blk_ext [iblk, V, idx t]
theorem iblk3 (c : Dev nD) (t : Fin cfg0.N) (r : Fin 512) (l : Fin 1024) (h : 512 * t.val + r.val < 2048) :
    iblk m c 3 t (ix2 r l) = m ((c : Thread nD τ).loc main_arg3) (ix2 ⟨512 * t.val + r.val, h⟩ l) := by
  blk_ext [iblk, V, idx t]

/-- What a grid point leaves in the first result's block. -/
theorem dx_out (c : Dev nD) (t : Fin cfg0.N) (r : Fin 512) (l : Fin 1024) :
    (outsAt0 m c t.val t.isLt).1 (ix2 r l) = k0_pay3 (F := Ideal) (iblk m c 1 t) (iblk m c 0 t) (iblk m c 2 t) (iblk m c 3 t) (ix2 r l) := by
  by_cases h0 : t.val % 4 = 0
  · rw [outsAt0_A m c t h0]
    dsimp only
    unfold out0_A_4
    frame_open
    frame_out
  · rw [outsAt0_B m c t h0]
    dsimp only
    unfold out0_B_4
    frame_open
    frame_out

/-- What the first grid point leaves in the second result's block. -/
theorem dgA (c : Dev nD) (t : Fin cfg0.N) (h0 : t.val % 4 = 0) (l : Fin 1024) :
    (outsAt0 m c t.val t.isLt).2 (ix2 0 l) = part (fun r k => iblk m c 0 t (ix2 r k)) (fun r k => iblk m c 1 t (ix2 r k)) l := by
  rw [outsAt0_A m c t h0]
  dsimp only
  unfold out0_A_5
  frame_open
  simp only [↓ View.readCov_cons_toLoadRect]
  frame_out
  refine (pay5_apply _ _ _ l).trans ?_
  refine (congrArg (fun z : EReal => z + _) (pay4_apply l)).trans (zero_add _)

/-- What each further one leaves there. -/
theorem dgB (c : Dev nD) (t : Fin cfg0.N) (h0 : ¬t.val % 4 = 0) (l : Fin 1024) :
    (outsAt0 m c t.val t.isLt).2 (ix2 0 l) = @HAdd.hAdd EReal EReal EReal _ ((outsAt0 m c (t.val - 1) (Nat.lt_of_le_of_lt (Nat.sub_le _ _) t.isLt)).2 (ix2 0 l))
      (part (fun r k => iblk m c 0 t (ix2 r k)) (fun r k => iblk m c 1 t (ix2 r k)) l) := by
  rw [outsAt0_B m c t h0]
  dsimp only
  unfold out0_B_5
  generalize (outsAt0 m c (t.val - 1) (Nat.lt_of_le_of_lt (Nat.sub_le _ _) t.isLt)).2 = s
  frame_open
  frame_out
  exact (congrArg (fun s => k0_pay5 (F := Ideal) (iblk m c 1 t) (iblk m c 0 t) s (ix2 0 l)) rfl).trans (pay5_apply _ _ s l)

/-- The gradient of the norm's argument with the residual's cotangent, and of its gain, as arrays. -/
def dxv (dy x : FVec Ideal S2048x1024 .f32) (g : FVec Ideal S1x1024 .f32) (dres : FVec Ideal S2048x1024 .f32) : FVec Ideal S2048x1024 .f32 := fun i =>
  @HAdd.hAdd EReal EReal EReal _ (dn (fun k => @HMul.hMul EReal EReal EReal _ (dy (ix2 (i 0) k)) (g (ix2 0 k))) (fun k => x (ix2 (i 0) k)) (i 1)) (dres i)
def dgv (dy x : FVec Ideal S2048x1024 .f32) : FVec Ideal S1x1024 .f32 := fun i =>
  part (n := 2048) (fun r k => dy (ix2 r k)) (fun r k => x (ix2 r k)) (i 1)

theorem dx_final (c : Dev nD) : (dats m 0 c).arrAt 4 (cfgs 0).N = dxv (m ((c : Thread nD τ).loc main_arg0)) (m ((c : Thread nD τ).loc main_arg1))
    (m ((c : Thread nD τ).loc main_arg2)) (m ((c : Thread nD τ).loc main_arg3)) := by
  refine (dats m 0 c).arrAt_eq_of_covers 4 _ (by decide +kernel) fun t hf y => ?_
  have ht : t.val < 4 := (idx t).2.2.2.2.2.2
  have hr : (y 0).val < 512 := (y 0).isLt
  have hl : (y 1).val < 1024 := (y 1).isLt
  have h : 512 * t.val + (y 0).val < 2048 := by omega
  blk_simp
  rw [after0_4]
  have hy : y = ix2 (y 0) (y 1) := by funext a; fin_cases a <;> rfl
  refine (congrArg _ hy).trans ((dx_out m c t _ _).trans ((pay3_apply _ _ _ _ _ _).trans ?_))
  have e0 : (fun k => iblk m c 0 t (ix2 (y 0) k)) = fun k => m ((c : Thread nD τ).loc main_arg0) (ix2 ⟨512 * t.val + (y 0).val, h⟩ k) := funext fun k => iblk0 m c t (y 0) k h
  have e1 : (fun k => iblk m c 1 t (ix2 (y 0) k)) = fun k => m ((c : Thread nD τ).loc main_arg1) (ix2 ⟨512 * t.val + (y 0).val, h⟩ k) := funext fun k => iblk1 m c t (y 0) k h
  have e2 : (fun k : Fin 1024 => iblk m c 2 t (ix2 0 k)) = fun k => m ((c : Thread nD τ).loc main_arg2) (ix2 0 k) := funext fun k => iblk2 m c t k
  have e3 := iblk3 m c t (y 0) (y 1) h
  refine (congrArg₂ (@HAdd.hAdd EReal EReal EReal _) (congrArg₂ (fun d x => dn d x (y 1)) (congrArg₂ (fun (d g : Row) (k : Fin 1024) => d k * g k) e0 e2) e1) e3).trans ?_
  refine congrArg (dxv _ _ _ _) (a₁ := ix2 ⟨512 * t.val + (y 0).val, h⟩ (y 1)) (funext fun x => Fin.ext ?_)
  fin_cases x
  · blk_simp [idx t]
    show 512 * t.val + (y 0).val = t.val * 512 + (y 0).val
    omega
  · blk_simp [idx t]
    rfl

theorem part_eq (c : Dev nD) (t : Fin cfg0.N) (k : Fin 4) (ht : t.val = k.val) (l : Fin 1024) :
    part (n := 512) (fun r k => iblk m c 0 t (ix2 r k)) (fun r k => iblk m c 1 t (ix2 r k)) l
      = part (blk (fun r k => m ((c : Thread nD τ).loc main_arg0) (ix2 r k)) k) (blk (fun r k => m ((c : Thread nD τ).loc main_arg1) (ix2 r k)) k) l := by
  obtain ⟨n, hn⟩ := t
  obtain ⟨k, hk⟩ := k
  dsimp only at ht
  subst ht
  refine congrArg₂ (fun a b => part a b l) (funext fun r => funext fun k => iblk0 m c _ r k ?_) (funext fun r => funext fun k => iblk1 m c _ r k ?_)
  all_goals (dsimp only; omega)

theorem dg_out (c : Dev nD) (t : Fin cfg0.N) (h : t.val = 3) (l : Fin 1024) :
    (outsAt0 m c t.val t.isLt).2 (ix2 0 l) = dgv (m ((c : Thread nD τ).loc main_arg0)) (m ((c : Thread nD τ).loc main_arg1)) (ix2 0 l) := by
  have hN : cfg0.N = 4 := N_0
  obtain ⟨n, hn⟩ := t
  obtain rfl : n = 3 := h
  refine ((dgB m c ⟨3, hn⟩ (by show ¬3 % 4 = 0; decide) l).trans (congrArg₂ (@HAdd.hAdd EReal EReal EReal _) ((dgB m c ⟨2, by omega⟩ (by show ¬2 % 4 = 0; decide) l).trans (congrArg₂ (@HAdd.hAdd EReal EReal EReal _)
    ((dgB m c ⟨1, by omega⟩ (by show ¬1 % 4 = 0; decide) l).trans (congrArg₂ (@HAdd.hAdd EReal EReal EReal _) ((dgA m c ⟨0, by omega⟩ (by show 0 % 4 = 0; decide) l).trans (part_eq m c _ 0 rfl _)) (part_eq m c _ 1 rfl _))) (part_eq m c _ 2 rfl _)))
    (part_eq m c _ 3 rfl _))).trans ((part_four _ _ _).trans rfl)

theorem dg_final (c : Dev nD) : (dats m 0 c).arrAt 5 (cfgs 0).N = dgv (m ((c : Thread nD τ).loc main_arg0)) (m ((c : Thread nD τ).loc main_arg1)) := by
  refine (dats m 0 c).arrAt_eq_of_covers 5 _ (by decide +kernel) fun t hf y => ?_
  have ht : t.val < 4 := (idx t).2.2.2.2.2.2
  have h3 : t.val % 4 = 3 := (flush0_5 t).mp hf
  blk_simp
  rw [after0_5]
  have hy : y = ix2 0 (y 1) := by
    funext a; fin_cases a
    · exact Subsingleton.elim (α := Fin 1) _ _
    · rfl
  refine (congrArg _ hy).trans ((dg_out m c t (by omega) (y 1)).trans ?_)
  refine congrArg (dgv _ _) (a₁ := ix2 0 (y 1)) (funext fun x => Fin.ext ?_)
  fin_cases x
  · exact congrArg Fin.val (Subsingleton.elim (α := Fin 1) _ _)
  · blk_simp [idx t]
    rfl

open Cert.RmsBwdResRefIdeal.Read in
theorem ref_dx_apply (dy x : FVec Ideal S2048x1024 .f32) (g : FVec Ideal S1x1024 .f32) (dres : FVec Ideal S2048x1024 .f32) (r : Fin 2048) (l : Fin 1024) (d : Row)
    (hd : ∀ k, d k = @HMul.hMul EReal EReal EReal _ (dy (ix2 r k)) (g (ix2 0 k))) :
    val_main_v37 (F := Ideal) dy x g dres (ix2 r l) = @HAdd.hAdd EReal EReal EReal _ (@HAdd.hAdd EReal EReal EReal _ (@HAdd.hAdd EReal EReal EReal _ (dres (ix2 r l)) (d l * rs fun k => x (ix2 r k)))
      (@HMul.hMul EReal EReal EReal _ (x (ix2 r l)) (∑ _ : Fin 1, mm d fun k => x (ix2 r k)))) (@HMul.hMul EReal EReal EReal _ (∑ _ : Fin 1, mm d fun k => x (ix2 r k)) (x (ix2 r l))) := by
  unfold mm rs ms
  simp only [hd]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_v29, val_main_cst_6, val_main_v30, val_main_v31, val_main_cst_7, val_main_v32, val_main_v33, val_main_v34, val_main_v35, val_main_v36, val_main_v37, val_main_v38]

open Cert.RmsBwdResRefIdeal.Read in
theorem ref_dx (dy x : FVec Ideal S2048x1024 .f32) (g : FVec Ideal S1x1024 .f32) (dres : FVec Ideal S2048x1024 .f32) :
    val_main_v37 (F := Ideal) dy x g dres = dxv dy x g dres := by
  funext i
  have hi : i = ix2 (i 0) (i 1) := by funext a; fin_cases a <;> rfl
  rw [hi]
  refine (ref_dx_apply dy x g dres (i 0) (i 1) _ fun _ => rfl).trans ?_
  rw [Fin.sum_univ_one, add_assoc, add_assoc, add_comm (dres _), ← add_assoc]
  exact congrArg (fun z : EReal => z + dres (ix2 (i 0) (i 1))) (congrFun (dn_eq (fun k => @HMul.hMul EReal EReal EReal _ (dy (ix2 (i 0) k)) (g (ix2 0 k))) fun k => x (ix2 (i 0) k)) (i 1)).symm

open Cert.RmsBwdResRefIdeal.Read in
theorem ref_dg_apply (dy x : FVec Ideal S2048x1024 .f32) (l : Fin 1024) :
    val_main_v38 (F := Ideal) dy x (ix2 0 l) = ∑ _ : Fin 1, ∑ r : Fin 2048, @HMul.hMul EReal EReal EReal _ (@HMul.hMul EReal EReal EReal _ (x (ix2 r l)) (rs fun k => x (ix2 r k))) (dy (ix2 r l)) := by
  unfold rs ms
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_v29, val_main_cst_6, val_main_v30, val_main_v31, val_main_cst_7, val_main_v32, val_main_v33, val_main_v34, val_main_v35, val_main_v36, val_main_v37, val_main_v38]

open Cert.RmsBwdResRefIdeal.Read in
theorem ref_dg (dy x : FVec Ideal S2048x1024 .f32) : val_main_v38 (F := Ideal) dy x = dgv dy x := by
  funext i
  have hi : i = ix2 0 (i 1) := by
    funext a; fin_cases a
    · exact Subsingleton.elim (α := Fin 1) _ _
    · rfl
  rw [hi]
  refine (ref_dg_apply dy x (i 1)).trans ?_
  rw [Fin.sum_univ_one]
  exact Finset.sum_congr rfl fun r _ => mul_comm _ _

end Cert.RmsBwdResIdeal.Val
end
-- ==== Proof.RmsBwdTwoVal.lean ====
/-
  The gradients of two norms in a row, the first with the cotangent of the residual added: the kernel's results and the reference's are
  the same four arrays of extended reals, on all arguments.
-/
module

public import proofs.«01_k».proof.Proof.Norm
public import proofs.«01_k».proof.Proof.Gen.RmsBwdTwoIdeal.Value
public import proofs.«01_k».proof.Proof.Gen.RmsBwdTwoRefIdeal.Read
public import Idealize.ShloMosaic.Lib.Pipeline.ValueKit
public import Idealize.ShloMosaic.Lib.KernelVsHost

@[expose] public section
set_option maxRecDepth 16384
noncomputable section
namespace Cert.RmsBwdTwoIdeal.Val
open Cert.RmsBwdTwoIdeal Cert.RmsBwdTwoIdeal.Gen Idealize.ShloMosaic Idealize.ShloMosaic.TcCoe Idealize.SL.Sem
open Cert.Norm

theorem pay11_apply (dy x : FVec Ideal S512x1024 .f32) (g : FVec Ideal S1x1024 .f32) (dres : FVec Ideal S512x1024 .f32) (r : Fin 512) (l : Fin 1024) :
    k0_pay11 (F := Ideal) dy x g dres (ix2 r l) = @HAdd.hAdd EReal EReal EReal _ (dn (fun k => @HMul.hMul EReal EReal EReal _ (dy (ix2 r k)) (g (ix2 0 k))) (fun k => x (ix2 r k)) l) (dres (ix2 r l)) := by
  unfold dn rs ms
  pointwise [k0_pay11, k0_pay9, k0_pay8]

theorem pay3_apply (v x : FVec Ideal S512x1024 .f32) (g : FVec Ideal S1x1024 .f32) (r : Fin 512) (l : Fin 1024) :
    k0_pay3 (F := Ideal) v x g (k0_pay12 x) (Scalar.ofBits (F := Ideal) .f32 0x44800000#32) (ix2 r l) = dn (fun k => @HMul.hMul EReal EReal EReal _ (v (ix2 r k)) (g (ix2 0 k))) (fun k => x (ix2 r k)) l := by
  unfold dn rs ms
  pointwise [k0_pay3, k0_pay2, k0_pay1, k0_pay12]

theorem pay4_apply (l : Fin 1024) : k0_pay4 (F := Ideal) (ix2 0 l) = (0 : EReal) := by
  pointwise [k0_pay4]
theorem pay5_apply (l : Fin 1024) : k0_pay5 (F := Ideal) (ix2 0 l) = (0 : EReal) := by
  pointwise [k0_pay5]

theorem pay6_apply (x dy : FVec Ideal S512x1024 .f32) (a : FVec Ideal S1x1024 .f32) (l : Fin 1024) :
    k0_pay6 (F := Ideal) (k0_pay10 dy x) a (ix2 0 l) = @HAdd.hAdd EReal EReal EReal _ (a (ix2 0 l)) (part (fun r k => dy (ix2 r k)) (fun r k => x (ix2 r k)) l) := by
  unfold part rs ms
  pointwise [k0_pay6, k0_pay10, k0_pay9, k0_pay8]

theorem pay7_apply (v x : FVec Ideal S512x1024 .f32) (a : FVec Ideal S1x1024 .f32) (l : Fin 1024) :
    k0_pay7 (F := Ideal) v x (k0_pay12 x) (Scalar.ofBits (F := Ideal) .f32 0x44800000#32) a (ix2 0 l) = @HAdd.hAdd EReal EReal EReal _ (a (ix2 0 l)) (part (fun r k => v (ix2 r k)) (fun r k => x (ix2 r k)) l) := by
  unfold part rs ms
  pointwise [k0_pay7, k0_pay2, k0_pay1, k0_pay12]

variable (m : (ℓ : Loc nD τ sig) → Buf (Elt Ideal) ℓ)

theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![0, 0]
    ∧ win0_6.index t = ![t.val, 0] ∧ win0_7.index t = ![t.val, 0] ∧ win0_8.index t = ![0, 0] ∧ win0_9.index t = ![0, 0] ∧ t.val < 4 :=
  (by decide +kernel : ∀ t : Fin grid0.N, _)

theorem iblk0 (c : Dev nD) (t : Fin cfg0.N) (r : Fin 512) (l : Fin 1024) (h : 512 * t.val + r.val < 2048) :
    iblk m c 0 t (ix2 r l) = m ((c : Thread nD τ).loc main_arg0) (ix2 ⟨512 * t.val + r.val, h⟩ l) := by
  blk_ext [iblk, V, idx t]
theorem iblk1 (c : Dev nD) (t : Fin cfg0.N) (r : Fin 512) (l : Fin 1024) (h : 512 * t.val + r.val < 2048) :
    iblk m c 1 t (ix2 r l) = m ((c : Thread nD τ).loc main_arg1) (ix2 ⟨512 * t.val + r.val, h⟩ l) := by
  blk_ext [iblk, V, idx t]
theorem iblk2 (c : Dev nD) (t : Fin cfg0.N) (l : Fin 1024) :
    iblk m c 2 t (ix2 0 l) = m ((c : Thread nD τ).loc main_arg2) (ix2 0 l) := by
  blk_ext [iblk, V, idx t]
theorem iblk3 (c : Dev nD) (t : Fin cfg0.N) (r : Fin 512) (l : Fin 1024) (h : 512 * t.val + r.val < 2048) :
    iblk m c 3 t (ix2 r l) = m ((c : Thread nD τ).loc main_arg3) (ix2 ⟨512 * t.val + r.val, h⟩ l) := by
  blk_ext [iblk, V, idx t]
theorem iblk4 (c : Dev nD) (t : Fin cfg0.N) (r : Fin 512) (l : Fin 1024) (h : 512 * t.val + r.val < 2048) :
    iblk m c 4 t (ix2 r l) = m ((c : Thread nD τ).loc main_arg4) (ix2 ⟨512 * t.val + r.val, h⟩ l) := by
  blk_ext [iblk, V, idx t]
theorem iblk5 (c : Dev nD) (t : Fin cfg0.N) (l : Fin 1024) :
    iblk m c 5 t (ix2 0 l) = m ((c : Thread nD τ).loc main_arg5) (ix2 0 l) := by
  blk_ext [iblk, V, idx t]

/-- What a grid point leaves in the first result's block. -/
theorem dx_out (c : Dev nD) (t : Fin cfg0.N) (r : Fin 512) (l : Fin 1024) :
    (outsAt0 m c t.val t.isLt).1 (ix2 r l) = (k0_pay11 (F := Ideal) (iblk m c 0 t) (iblk m c 1 t) (iblk m c 2 t) (iblk m c 3 t)) (ix2 r l) := by
  by_cases h0 : t.val % 4 = 0
  · rw [outsAt0_A m c t h0]
    dsimp only
    unfold out0_A_6
    frame_open
    frame_out
  · rw [outsAt0_B m c t h0]
    dsimp only
    unfold out0_B_6
    frame_open
    frame_out

/-- What it leaves in the second's. -/
theorem d2_out (c : Dev nD) (t : Fin cfg0.N) (r : Fin 512) (l : Fin 1024) :
    (outsAt0 m c t.val t.isLt).2.1 (ix2 r l) = k0_pay3 (F := Ideal) (k0_pay11 (F := Ideal) (iblk m c 0 t) (iblk m c 1 t) (iblk m c 2 t) (iblk m c 3 t)) (iblk m c 4 t) (iblk m c 5 t) (k0_pay12 (iblk m c 4 t)) (Scalar.ofBits (F := Ideal) .f32 0x44800000#32) (ix2 r l) := by
  by_cases h0 : t.val % 4 = 0
  · rw [outsAt0_A m c t h0]
    dsimp only
    unfold out0_A_7
    frame_open
    frame_out
  · rw [outsAt0_B m c t h0]
    dsimp only
    unfold out0_B_7
    frame_open
    frame_out

/-- What the first grid point leaves in the block of this gain's gradient, and what each further one leaves there. -/
theorem dgA (c : Dev nD) (t : Fin cfg0.N) (h0 : t.val % 4 = 0) (l : Fin 1024) :
    (outsAt0 m c t.val t.isLt).2.2.1 (ix2 0 l) = part (fun r k => iblk m c 0 t (ix2 r k)) (fun r k => iblk m c 1 t (ix2 r k)) l := by
  rw [outsAt0_A m c t h0]
  dsimp only
  unfold out0_A_8
  frame_open
  simp only [↓ View.readCov_cons_toLoadRect]
  frame_out
  refine (pay6_apply _ _ _ l).trans ?_
  refine (congrArg (fun z : EReal => z + _) (pay4_apply l)).trans (zero_add _)
theorem dgB (c : Dev nD) (t : Fin cfg0.N) (h0 : ¬t.val % 4 = 0) (l : Fin 1024) :
    (outsAt0 m c t.val t.isLt).2.2.1 (ix2 0 l) = @HAdd.hAdd EReal EReal EReal _ ((outsAt0 m c (t.val - 1) (Nat.lt_of_le_of_lt (Nat.sub_le _ _) t.isLt)).2.2.1 (ix2 0 l)) (part (fun r k => iblk m c 0 t (ix2 r k)) (fun r k => iblk m c 1 t (ix2 r k)) l) := by
  rw [outsAt0_B m c t h0]
  dsimp only
  unfold out0_B_8
  generalize (outsAt0 m c (t.val - 1) (Nat.lt_of_le_of_lt (Nat.sub_le _ _) t.isLt)).2.2.1 = s
  frame_open
  frame_out
  exact pay6_apply _ _ s l

/-- What the first grid point leaves in the block of this gain's gradient, and what each further one leaves there. -/
theorem dhA (c : Dev nD) (t : Fin cfg0.N) (h0 : t.val % 4 = 0) (l : Fin 1024) :
    (outsAt0 m c t.val t.isLt).2.2.2 (ix2 0 l) = part (fun r k => (k0_pay11 (F := Ideal) (iblk m c 0 t) (iblk m c 1 t) (iblk m c 2 t) (iblk m c 3 t)) (ix2 r k)) (fun r k => iblk m c 4 t (ix2 r k)) l := by
  rw [outsAt0_A m c t h0]
  dsimp only
  unfold out0_A_9
  frame_open
  simp only [↓ View.readCov_cons_toLoadRect]
  frame_out
  refine (pay7_apply _ _ _ l).trans ?_
  refine (congrArg (fun z : EReal => z + _) (pay5_apply l)).trans (zero_add _)
theorem dhB (c : Dev nD) (t : Fin cfg0.N) (h0 : ¬t.val % 4 = 0) (l : Fin 1024) :
    (outsAt0 m c t.val t.isLt).2.2.2 (ix2 0 l) = @HAdd.hAdd EReal EReal EReal _ ((outsAt0 m c (t.val - 1) (Nat.lt_of_le_of_lt (Nat.sub_le _ _) t.isLt)).2.2.2 (ix2 0 l)) (part (fun r k => (k0_pay11 (F := Ideal) (iblk m c 0 t) (iblk m c 1 t) (iblk m c 2 t) (iblk m c 3 t)) (ix2 r k)) (fun r k => iblk m c 4 t (ix2 r k)) l) := by
  rw [outsAt0_B m c t h0]
  dsimp only
  unfold out0_B_9
  generalize (outsAt0 m c (t.val - 1) (Nat.lt_of_le_of_lt (Nat.sub_le _ _) t.isLt)).2.2.2 = s
  frame_open
  frame_out
  exact pay7_apply _ _ s l

/-- The gradients of the first norm's argument with the residual's cotangent, of the second's, and of a gain, as arrays. -/
def dxv (dy x : FVec Ideal S2048x1024 .f32) (g : FVec Ideal S1x1024 .f32) (dres : FVec Ideal S2048x1024 .f32) : FVec Ideal S2048x1024 .f32 := fun i =>
  @HAdd.hAdd EReal EReal EReal _ (dn (fun k => @HMul.hMul EReal EReal EReal _ (dy (ix2 (i 0) k)) (g (ix2 0 k))) (fun k => x (ix2 (i 0) k)) (i 1)) (dres i)
def d2v (d x : FVec Ideal S2048x1024 .f32) (g : FVec Ideal S1x1024 .f32) : FVec Ideal S2048x1024 .bf16 := fun i =>
  dn (fun k => @HMul.hMul EReal EReal EReal _ (d (ix2 (i 0) k)) (g (ix2 0 k))) (fun k => x (ix2 (i 0) k)) (i 1)
def dgv (dy x : FVec Ideal S2048x1024 .f32) : FVec Ideal S1x1024 .f32 := fun i =>
  part (n := 2048) (fun r k => dy (ix2 r k)) (fun r k => x (ix2 r k)) (i 1)

theorem dx_blk (c : Dev nD) (t : Fin cfg0.N) (r : Fin 512) (l : Fin 1024) (h : 512 * t.val + r.val < 2048) :
    (k0_pay11 (F := Ideal) (iblk m c 0 t) (iblk m c 1 t) (iblk m c 2 t) (iblk m c 3 t)) (ix2 r l) = dxv (m ((c : Thread nD τ).loc main_arg0)) (m ((c : Thread nD τ).loc main_arg1)) (m ((c : Thread nD τ).loc main_arg2)) (m ((c : Thread nD τ).loc main_arg3)) (ix2 ⟨512 * t.val + r.val, h⟩ l) := by
  have e0 : (fun k => iblk m c 0 t (ix2 r k)) = fun k => m ((c : Thread nD τ).loc main_arg0) (ix2 ⟨512 * t.val + r.val, h⟩ k) := funext fun k => iblk0 m c t r k h
  have e1 : (fun k => iblk m c 1 t (ix2 r k)) = fun k => m ((c : Thread nD τ).loc main_arg1) (ix2 ⟨512 * t.val + r.val, h⟩ k) := funext fun k => iblk1 m c t r k h
  have e2 : (fun k : Fin 1024 => iblk m c 2 t (ix2 0 k)) = fun k => m ((c : Thread nD τ).loc main_arg2) (ix2 0 k) := funext fun k => iblk2 m c t k
  have e3 := iblk3 m c t r l h
  exact (pay11_apply _ _ _ _ _ _).trans (congrArg₂ (@HAdd.hAdd EReal EReal EReal _) (congrArg₂ (fun d x => dn d x l) (congrArg₂ (fun (d g : Row) (k : Fin 1024) => d k * g k) e0 e2) e1) e3)

theorem dx_final (c : Dev nD) : (dats m 0 c).arrAt 6 (cfgs 0).N = dxv (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  have ht : t.val < 4 := (idx t).2.2.2.2.2.2.2.2.2.2
  have hr : (y 0).val < 512 := (y 0).isLt
  have hl : (y 1).val < 1024 := (y 1).isLt
  have h : 512 * t.val + (y 0).val < 2048 := by omega
  blk_simp
  rw [after0_6]
  have hy : y = ix2 (y 0) (y 1) := by funext a; fin_cases a <;> rfl
  refine (congrArg _ hy).trans ((dx_out m c t _ _).trans ((dx_blk m c t _ _ h).trans ?_))
  refine congrArg (dxv _ _ _ _) (a₁ := ix2 ⟨512 * t.val + (y 0).val, h⟩ (y 1)) (funext fun x => Fin.ext ?_)
  fin_cases x
  · blk_simp [idx t]
    show 512 * t.val + (y 0).val = t.val * 512 + (y 0).val
    omega
  · blk_simp [idx t]
    rfl

theorem d2_final (c : Dev nD) : (dats m 0 c).arrAt 7 (cfgs 0).N = d2v (dxv (m ((c : Thread nD τ).loc main_arg0)) (m ((c : Thread nD τ).loc main_arg1)) (m ((c : Thread nD τ).loc main_arg2)) (m ((c : Thread nD τ).loc main_arg3))) (m ((c : Thread nD τ).loc main_arg4)) (m ((c : Thread nD τ).loc main_arg5)) := by
  refine (dats m 0 c).arrAt_eq_of_covers 7 _ (by decide +kernel) fun t hf y => ?_
  have ht : t.val < 4 := (idx t).2.2.2.2.2.2.2.2.2.2
  have hr : (y 0).val < 512 := (y 0).isLt
  have hl : (y 1).val < 1024 := (y 1).isLt
  have h : 512 * t.val + (y 0).val < 2048 := by omega
  blk_simp
  rw [after0_7]
  have hy : y = ix2 (y 0) (y 1) := by funext a; fin_cases a <;> rfl
  refine (congrArg _ hy).trans ((d2_out m c t _ _).trans ((pay3_apply _ _ _ _ _).trans ?_))
  have e0 : (fun k => (k0_pay11 (F := Ideal) (iblk m c 0 t) (iblk m c 1 t) (iblk m c 2 t) (iblk m c 3 t)) (ix2 (y 0) k)) = fun k => dxv (m ((c : Thread nD τ).loc main_arg0)) (m ((c : Thread nD τ).loc main_arg1)) (m ((c : Thread nD τ).loc main_arg2)) (m ((c : Thread nD τ).loc main_arg3)) (ix2 ⟨512 * t.val + (y 0).val, h⟩ k) := funext fun k => dx_blk m c t (y 0) k h
  have e1 : (fun k => iblk m c 4 t (ix2 (y 0) k)) = fun k => m ((c : Thread nD τ).loc main_arg4) (ix2 ⟨512 * t.val + (y 0).val, h⟩ k) := funext fun k => iblk4 m c t (y 0) k h
  have e2 : (fun k : Fin 1024 => iblk m c 5 t (ix2 0 k)) = fun k => m ((c : Thread nD τ).loc main_arg5) (ix2 0 k) := funext fun k => iblk5 m c t k
  refine (congrArg₂ (fun d x => dn d x (y 1)) (congrArg₂ (fun (d g : Row) (k : Fin 1024) => d k * g k) e0 e2) e1).trans ?_
  refine congrArg (d2v _ _ _) (a₁ := ix2 ⟨512 * t.val + (y 0).val, h⟩ (y 1)) (funext fun x => Fin.ext ?_)
  fin_cases x
  · blk_simp [idx t]
    show 512 * t.val + (y 0).val = t.val * 512 + (y 0).val
    omega
  · blk_simp [idx t]
    rfl

theorem part_eq (c : Dev nD) (t : Fin cfg0.N) (k : Fin 4) (ht : t.val = k.val) (l : Fin 1024) :
    part (n := 512) (fun r k => iblk m c 0 t (ix2 r k)) (fun r k => iblk m c 1 t (ix2 r k)) l
      = part (blk (fun r k => (m ((c : Thread nD τ).loc main_arg0)) (ix2 r k)) k) (blk (fun r k => (m ((c : Thread nD τ).loc main_arg1)) (ix2 r k)) k) l := by
  obtain ⟨n, hn⟩ := t
  obtain ⟨k, hk⟩ := k
  dsimp only at ht
  subst ht
  refine congrArg₂ (fun a b => part a b l) (funext fun r => funext fun k => iblk0 m c _ r k ?_) (funext fun r => funext fun k => iblk1 m c _ r k ?_)
  all_goals (dsimp only; omega)

theorem dg_out (c : Dev nD) (t : Fin cfg0.N) (h : t.val = 3) (l : Fin 1024) :
    (outsAt0 m c t.val t.isLt).2.2.1 (ix2 0 l) = dgv (m ((c : Thread nD τ).loc main_arg0)) (m ((c : Thread nD τ).loc main_arg1)) (ix2 0 l) := by
  have hN : cfg0.N = 4 := N_0
  obtain ⟨n, hn⟩ := t
  obtain rfl : n = 3 := h
  refine ((dgB m c ⟨3, hn⟩ (by show ¬3 % 4 = 0; decide) l).trans (congrArg₂ (@HAdd.hAdd EReal EReal EReal _) ((dgB m c ⟨2, by omega⟩ (by show ¬2 % 4 = 0; decide) l).trans (congrArg₂ (@HAdd.hAdd EReal EReal EReal _)
    ((dgB m c ⟨1, by omega⟩ (by show ¬1 % 4 = 0; decide) l).trans (congrArg₂ (@HAdd.hAdd EReal EReal EReal _) ((dgA m c ⟨0, by omega⟩ (by show 0 % 4 = 0; decide) l).trans (part_eq m c _ 0 rfl _)) (part_eq m c _ 1 rfl _))) (part_eq m c _ 2 rfl _)))
    (part_eq m c _ 3 rfl _))).trans ((part_four _ _ _).trans rfl)

theorem dg_final (c : Dev nD) : (dats m 0 c).arrAt 8 (cfgs 0).N = dgv (m ((c : Thread nD τ).loc main_arg0)) (m ((c : Thread nD τ).loc main_arg1)) := by
  refine (dats m 0 c).arrAt_eq_of_covers 8 _ (by decide +kernel) fun t hf y => ?_
  have ht : t.val < 4 := (idx t).2.2.2.2.2.2.2.2.2.2
  have h3 : t.val % 4 = 3 := (flush0_8 t).mp hf
  blk_simp
  rw [after0_8]
  have hy : y = ix2 0 (y 1) := by
    funext a; fin_cases a
    · exact Subsingleton.elim (α := Fin 1) _ _
    · rfl
  refine (congrArg _ hy).trans ((dg_out m c t (by omega) (y 1)).trans ?_)
  refine congrArg (dgv _ _) (a₁ := ix2 0 (y 1)) (funext fun x => Fin.ext ?_)
  fin_cases x
  · exact congrArg Fin.val (Subsingleton.elim (α := Fin 1) _ _)
  · blk_simp [idx t]
    rfl

theorem part_eq2 (c : Dev nD) (t : Fin cfg0.N) (k : Fin 4) (ht : t.val = k.val) (l : Fin 1024) :
    part (n := 512) (fun r k => (k0_pay11 (F := Ideal) (iblk m c 0 t) (iblk m c 1 t) (iblk m c 2 t) (iblk m c 3 t)) (ix2 r k)) (fun r k => iblk m c 4 t (ix2 r k)) l
      = part (blk (fun r k => (dxv (m ((c : Thread nD τ).loc main_arg0)) (m ((c : Thread nD τ).loc main_arg1)) (m ((c : Thread nD τ).loc main_arg2)) (m ((c : Thread nD τ).loc main_arg3))) (ix2 r k)) k) (blk (fun r k => (m ((c : Thread nD τ).loc main_arg4)) (ix2 r k)) k) l := by
  obtain ⟨n, hn⟩ := t
  obtain ⟨k, hk⟩ := k
  dsimp only at ht
  subst ht
  refine congrArg₂ (fun a b => part a b l) (funext fun r => funext fun k => dx_blk m c _ r k ?_) (funext fun r => funext fun k => iblk4 m c _ r k ?_)
  all_goals (dsimp only; omega)

theorem dh_out (c : Dev nD) (t : Fin cfg0.N) (h : t.val = 3) (l : Fin 1024) :
    (outsAt0 m c t.val t.isLt).2.2.2 (ix2 0 l) = dgv (dxv (m ((c : Thread nD τ).loc main_arg0)) (m ((c : Thread nD τ).loc main_arg1)) (m ((c : Thread nD τ).loc main_arg2)) (m ((c : Thread nD τ).loc main_arg3))) (m ((c : Thread nD τ).loc main_arg4)) (ix2 0 l) := by
  have hN : cfg0.N = 4 := N_0
  obtain ⟨n, hn⟩ := t
  obtain rfl : n = 3 := h
  refine ((dhB m c ⟨3, hn⟩ (by show ¬3 % 4 = 0; decide) l).trans (congrArg₂ (@HAdd.hAdd EReal EReal EReal _) ((dhB m c ⟨2, by omega⟩ (by show ¬2 % 4 = 0; decide) l).trans (congrArg₂ (@HAdd.hAdd EReal EReal EReal _)
    ((dhB m c ⟨1, by omega⟩ (by show ¬1 % 4 = 0; decide) l).trans (congrArg₂ (@HAdd.hAdd EReal EReal EReal _) ((dhA m c ⟨0, by omega⟩ (by show 0 % 4 = 0; decide) l).trans (part_eq2 m c _ 0 rfl _)) (part_eq2 m c _ 1 rfl _))) (part_eq2 m c _ 2 rfl _)))
    (part_eq2 m c _ 3 rfl _))).trans ((part_four _ _ _).trans rfl)

theorem dh_final (c : Dev nD) : (dats m 0 c).arrAt 9 (cfgs 0).N = dgv (dxv (m ((c : Thread nD τ).loc main_arg0)) (m ((c : Thread nD τ).loc main_arg1)) (m ((c : Thread nD τ).loc main_arg2)) (m ((c : Thread nD τ).loc main_arg3))) (m ((c : Thread nD τ).loc main_arg4)) := by
  refine (dats m 0 c).arrAt_eq_of_covers 9 _ (by decide +kernel) fun t hf y => ?_
  have ht : t.val < 4 := (idx t).2.2.2.2.2.2.2.2.2.2
  have h3 : t.val % 4 = 3 := (flush0_9 t).mp hf
  blk_simp
  rw [after0_9]
  have hy : y = ix2 0 (y 1) := by
    funext a; fin_cases a
    · exact Subsingleton.elim (α := Fin 1) _ _
    · rfl
  refine (congrArg _ hy).trans ((dh_out m c t (by omega) (y 1)).trans ?_)
  refine congrArg (dgv _ _) (a₁ := ix2 0 (y 1)) (funext fun x => Fin.ext ?_)
  fin_cases x
  · exact congrArg Fin.val (Subsingleton.elim (α := Fin 1) _ _)
  · blk_simp [idx t]
    rfl

open Cert.RmsBwdTwoRefIdeal.Read in
theorem ref_dx_apply (dy x : FVec Ideal S2048x1024 .f32) (g : FVec Ideal S1x1024 .f32) (dres : FVec Ideal S2048x1024 .f32) (r : Fin 2048) (l : Fin 1024) (d : Row)
    (hd : ∀ k, d k = @HMul.hMul EReal EReal EReal _ (dy (ix2 r k)) (g (ix2 0 k))) :
    val_main_v37 (F := Ideal) dy x g dres (ix2 r l) = @HAdd.hAdd EReal EReal EReal _ (@HAdd.hAdd EReal EReal EReal _ (@HAdd.hAdd EReal EReal EReal _ (dres (ix2 r l)) (d l * rs fun k => x (ix2 r k)))
      (@HMul.hMul EReal EReal EReal _ (x (ix2 r l)) (∑ _ : Fin 1, mm d fun k => x (ix2 r k)))) (@HMul.hMul EReal EReal EReal _ (∑ _ : Fin 1, mm d fun k => x (ix2 r k)) (x (ix2 r l))) := by
  unfold mm rs ms
  simp only [hd]
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_v29, val_main_cst_6, val_main_v30, val_main_v31, val_main_cst_7, val_main_v32, val_main_v33, val_main_v34, val_main_v35, val_main_v36, val_main_v37]

open Cert.RmsBwdTwoRefIdeal.Read in
theorem ref_dx (dy x : FVec Ideal S2048x1024 .f32) (g : FVec Ideal S1x1024 .f32) (dres : FVec Ideal S2048x1024 .f32) :
    val_main_v37 (F := Ideal) dy x g dres = dxv dy x g dres := by
  funext i
  have hi : i = ix2 (i 0) (i 1) := by funext a; fin_cases a <;> rfl
  rw [hi]
  refine (ref_dx_apply dy x g dres (i 0) (i 1) _ fun _ => rfl).trans ?_
  rw [Fin.sum_univ_one, add_assoc, add_assoc, add_comm (dres _), ← add_assoc]
  exact congrArg (fun z : EReal => z + dres (ix2 (i 0) (i 1))) (congrFun (dn_eq (fun k => @HMul.hMul EReal EReal EReal _ (dy (ix2 (i 0) k)) (g (ix2 0 k))) fun k => x (ix2 (i 0) k)) (i 1)).symm

open Cert.RmsBwdTwoRefIdeal.Read in
theorem ref_dg_apply (dy x : FVec Ideal S2048x1024 .f32) (l : Fin 1024) :
    val_main_v76 (F := Ideal) dy x (ix2 0 l) = ∑ _ : Fin 1, ∑ r : Fin 2048, @HMul.hMul EReal EReal EReal _ (@HMul.hMul EReal EReal EReal _ (x (ix2 r l)) (rs fun k => x (ix2 r k))) (dy (ix2 r l)) := by
  unfold rs ms
  pointwise [val_main_v0, val_main_v1, val_main_cst, val_main_v2, val_main_v3, val_main_cst_0, val_main_v4, val_main_v5, val_main_cst_1, val_main_v6, val_main_v7, val_main_v8, val_main_v9, val_main_cst_2, val_main_v10, val_main_v11, val_main_v12, val_main_v13, val_main_v14, val_main_v15, val_main_v16, val_main_v17, val_main_cst_3, val_main_v18, val_main_v19, val_main_v20, val_main_v21, val_main_cst_4, val_main_v22, val_main_v23, val_main_cst_5, val_main_v24, val_main_v25, val_main_v26, val_main_v27, val_main_v28, val_main_v29, val_main_cst_6, val_main_v30, val_main_v31, val_main_cst_7, val_main_v32, val_main_v33, val_main_v34, val_main_v35, val_main_v36, val_main_v37, val_main_v76]

open Cert.RmsBwdTwoRefIdeal.Read in
theorem ref_dg (dy x : FVec Ideal S2048x1024 .f32) : val_main_v76 (F := Ideal) dy x = dgv dy x := by
  funext i
  have hi : i = ix2 0 (i 1) := by
    funext a; fin_cases a
    · exact Subsingleton.elim (α := Fin 1) _ _
    · rfl
  rw [hi]
  refine (ref_dg_apply dy x (i 1)).trans ?_
  rw [Fin.sum_univ_one]
  exact Finset.sum_congr rfl fun r _ => mul_comm _ _

open Cert.RmsBwdTwoRefIdeal.Read in
theorem ref_d2_apply (dy x : FVec Ideal S2048x1024 .f32) (g : FVec Ideal S1x1024 .f32) (dres x2 : FVec Ideal S2048x1024 .f32) (g2 : FVec Ideal S1x1024 .f32) (r : Fin 2048) (l : Fin 1024) (v : FVec Ideal S2048x1024 .f32) (hv : val_main_v37 (F := Ideal) dy x g dres = v) (d : Row)
    (hd : ∀ k, d k = @HMul.hMul EReal EReal EReal _ (v (ix2 r k)) (g2 (ix2 0 k))) :
    val_main_v75 (F := Ideal) dy x g dres x2 g2 (ix2 r l) = @HAdd.hAdd EReal EReal EReal _ (@HAdd.hAdd EReal EReal EReal _ (d l * rs fun k => x2 (ix2 r k))
      (@HMul.hMul EReal EReal EReal _ (x2 (ix2 r l)) (∑ _ : Fin 1, mm d fun k => x2 (ix2 r k)))) (@HMul.hMul EReal EReal EReal _ (∑ _ : Fin 1, mm d fun k => x2 (ix2 r k)) (x2 (ix2 r l))) := by
  unfold mm rs ms
  simp only [hd, ← hv]
  clear hd hv
  pointwise [val_main_v38, val_main_v39, val_main_cst_8, val_main_v40, val_main_v41, val_main_cst_9, val_main_v42, val_main_v43, val_main_cst_10, val_main_v44, val_main_v45, val_main_v46, val_main_v47, val_main_cst_11, val_main_v48, val_main_v49, val_main_v50, val_main_v51, val_main_v52, val_main_v53, val_main_v54, val_main_v55, val_main_cst_12, val_main_v56, val_main_v57, val_main_v58, val_main_v59, val_main_cst_13, val_main_v60, val_main_v61, val_main_cst_14, val_main_v62, val_main_v63, val_main_v64, val_main_v65, val_main_v66, val_main_cst_15, val_main_v67, val_main_v68, val_main_cst_16, val_main_v69, val_main_v70, val_main_v71, val_main_v72, val_main_v73, val_main_v74, val_main_v75]

open Cert.RmsBwdTwoRefIdeal.Read in
theorem ref_d2 (dy x : FVec Ideal S2048x1024 .f32) (g : FVec Ideal S1x1024 .f32) (dres x2 : FVec Ideal S2048x1024 .f32) (g2 : FVec Ideal S1x1024 .f32) :
    val_main_v75 (F := Ideal) dy x g dres x2 g2 = d2v (dxv dy x g dres) x2 g2 := by
  funext i
  have hi : i = ix2 (i 0) (i 1) := by funext a; fin_cases a <;> rfl
  rw [hi]
  refine (ref_d2_apply dy x g dres x2 g2 (i 0) (i 1) _ (ref_dx dy x g dres) _ fun _ => rfl).trans ?_
  rw [Fin.sum_univ_one]
  exact (congrFun (dn_eq (fun k => @HMul.hMul EReal EReal EReal _ (dxv dy x g dres (ix2 (i 0) k)) (g2 (ix2 0 k))) fun k => x2 (ix2 (i 0) k)) (i 1)).symm

open Cert.RmsBwdTwoRefIdeal.Read in
theorem ref_dh_apply (dy x : FVec Ideal S2048x1024 .f32) (g : FVec Ideal S1x1024 .f32) (dres x2 : FVec Ideal S2048x1024 .f32) (l : Fin 1024) (v : FVec Ideal S2048x1024 .f32) (hv : val_main_v37 (F := Ideal) dy x g dres = v) :
    val_main_v77 (F := Ideal) dy x g dres x2 (ix2 0 l) = ∑ _ : Fin 1, ∑ r : Fin 2048, @HMul.hMul EReal EReal EReal _ (@HMul.hMul EReal EReal EReal _ (x2 (ix2 r l)) (rs fun k => x2 (ix2 r k))) (v (ix2 r l)) := by
  unfold rs ms
  simp only [← hv]
  clear hv
  pointwise [val_main_v38, val_main_v39, val_main_cst_8, val_main_v40, val_main_v41, val_main_cst_9, val_main_v42, val_main_v43, val_main_cst_10, val_main_v44, val_main_v45, val_main_v46, val_main_v47, val_main_cst_11, val_main_v48, val_main_v49, val_main_v50, val_main_v51, val_main_v52, val_main_v53, val_main_v54, val_main_v55, val_main_cst_12, val_main_v56, val_main_v57, val_main_v58, val_main_v59, val_main_cst_13, val_main_v60, val_main_v61, val_main_cst_14, val_main_v62, val_main_v63, val_main_v64, val_main_v65, val_main_v66, val_main_cst_15, val_main_v67, val_main_v68, val_main_cst_16, val_main_v69, val_main_v70, val_main_v71, val_main_v72, val_main_v73, val_main_v74, val_main_v75, val_main_v77]

open Cert.RmsBwdTwoRefIdeal.Read in
theorem ref_dh (dy x : FVec Ideal S2048x1024 .f32) (g : FVec Ideal S1x1024 .f32) (dres x2 : FVec Ideal S2048x1024 .f32) : val_main_v77 (F := Ideal) dy x g dres x2 = dgv (dxv dy x g dres) x2 := by
  funext i
  have hi : i = ix2 0 (i 1) := by
    funext a; fin_cases a
    · exact Subsingleton.elim (α := Fin 1) _ _
    · rfl
  rw [hi]
  refine (ref_dh_apply dy x g dres x2 (i 1) _ (ref_dx dy x g dres)).trans ?_
  rw [Fin.sum_univ_one]
  exact Finset.sum_congr rfl fun r _ => mul_comm _ _

end Cert.RmsBwdTwoIdeal.Val
end
-- ==== Proof.lean ====
/-
  The certificate of the forgetting attention, of the convolution gate, of the norms and of the step's matrix products: every program runs and
  leaves its arguments; the attention's ideal kernels name their mask minus infinity, and the gate's backward kernel names its two
  constants; on finite arguments the attention's forward pass and its two backward passes, from zero and from given sums, and the
  gate's backward pass have the results of their references, and the gate's forward pass, the norms with their gradients and the
  products have theirs on all arguments.
-/
module

public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal.Read
public import proofs.«01_k».proof.Proof.UpDxVal
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal.Read
public import proofs.«01_k».proof.Proof.UpDwVal
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal.Read
public import proofs.«01_k».proof.Proof.DownDxVal
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal.Read
public import proofs.«01_k».proof.Proof.DownDwVal
public import proofs.«01_k».proof.Proof.Gen.Up.Frame
public import proofs.«01_k».proof.Proof.Gen.UpIdeal.Frame
public import proofs.«01_k».proof.Proof.Gen.UpIdeal.Value
public import proofs.«01_k».proof.Proof.Gen.UpRefIdeal.Run
public import proofs.«01_k».proof.Proof.Gen.UpRefIdeal.Read
public import proofs.«01_k».proof.Proof.UpVal
public import proofs.«01_k».proof.Proof.Gen.Down.Frame
public import proofs.«01_k».proof.Proof.Gen.DownIdeal.Frame
public import proofs.«01_k».proof.Proof.Gen.DownIdeal.Value
public import proofs.«01_k».proof.Proof.Gen.DownRefIdeal.Run
public import proofs.«01_k».proof.Proof.Gen.DownRefIdeal.Read
public import proofs.«01_k».proof.Proof.DownVal
public import proofs.«01_k».proof.Proof.Gen.Qkv.Frame
public import proofs.«01_k».proof.Proof.Gen.QkvIdeal.Frame
public import proofs.«01_k».proof.Proof.Gen.QkvIdeal.Value
public import proofs.«01_k».proof.Proof.Gen.QkvRefIdeal.Run
public import proofs.«01_k».proof.Proof.Gen.QkvRefIdeal.Read
public import proofs.«01_k».proof.Proof.QkvVal
public import proofs.«01_k».proof.Proof.Gen.OA.Frame
public import proofs.«01_k».proof.Proof.Gen.OAIdeal.Frame
public import proofs.«01_k».proof.Proof.Gen.OAIdeal.Value
public import proofs.«01_k».proof.Proof.Gen.OARefIdeal.Run
public import proofs.«01_k».proof.Proof.Gen.OARefIdeal.Read
public import proofs.«01_k».proof.Proof.OAVal
public import proofs.«01_k».proof.Proof.Gen.Kv.Frame
public import proofs.«01_k».proof.Proof.Gen.KvIdeal.Frame
public import proofs.«01_k».proof.Proof.Gen.KvIdeal.Value
public import proofs.«01_k».proof.Proof.Gen.KvRefIdeal.Run
public import proofs.«01_k».proof.Proof.Gen.KvRefIdeal.Read
public import proofs.«01_k».proof.Proof.KvVal
public import proofs.«01_k».proof.Proof.Gen.Gate.Frame
public import proofs.«01_k».proof.Proof.Gen.GateIdeal.Frame
public import proofs.«01_k».proof.Proof.Gen.GateIdeal.Value
public import proofs.«01_k».proof.Proof.Gen.GateRefIdeal.Run
public import proofs.«01_k».proof.Proof.Gen.GateRefIdeal.Read
public import proofs.«01_k».proof.Proof.GateVal
public import proofs.«01_k».proof.Proof.Gen.QB.Frame
public import proofs.«01_k».proof.Proof.Gen.QBIdeal.Frame
public import proofs.«01_k».proof.Proof.Gen.QBIdeal.Value
public import proofs.«01_k».proof.Proof.Gen.QBRefIdeal.Run
public import proofs.«01_k».proof.Proof.Gen.QBRefIdeal.Read
public import proofs.«01_k».proof.Proof.QBVal
public import proofs.«01_k».proof.Proof.Gen.OB.Frame
public import proofs.«01_k».proof.Proof.Gen.OBIdeal.Frame
public import proofs.«01_k».proof.Proof.Gen.OBIdeal.Value
public import proofs.«01_k».proof.Proof.Gen.OBRefIdeal.Run
public import proofs.«01_k».proof.Proof.Gen.OBRefIdeal.Read
public import proofs.«01_k».proof.Proof.OBVal
public import proofs.«01_k».proof.Proof.Gen.OADx.Frame
public import proofs.«01_k».proof.Proof.Gen.OADxIdeal.Frame
public import proofs.«01_k».proof.Proof.Gen.OADxIdeal.Value
public import proofs.«01_k».proof.Proof.Gen.OADxRefIdeal.Run
public import proofs.«01_k».proof.Proof.Gen.OADxRefIdeal.Read
public import proofs.«01_k».proof.Proof.OADxVal
public import proofs.«01_k».proof.Proof.Gen.OADw.Frame
public import proofs.«01_k».proof.Proof.Gen.OADwIdeal.Frame
public import proofs.«01_k».proof.Proof.Gen.OADwIdeal.Value
public import proofs.«01_k».proof.Proof.Gen.OADwRefIdeal.Run
public import proofs.«01_k».proof.Proof.Gen.OADwRefIdeal.Read
public import proofs.«01_k».proof.Proof.OADwVal
public import proofs.«01_k».proof.Proof.Gen.QkvDx.Frame
public import proofs.«01_k».proof.Proof.Gen.QkvDxIdeal.Frame
public import proofs.«01_k».proof.Proof.Gen.QkvDxIdeal.Value
public import proofs.«01_k».proof.Proof.Gen.QkvDxRefIdeal.Run
public import proofs.«01_k».proof.Proof.Gen.QkvDxRefIdeal.Read
public import proofs.«01_k».proof.Proof.QkvDxVal
public import proofs.«01_k».proof.Proof.Gen.QkvDw.Frame
public import proofs.«01_k».proof.Proof.Gen.QkvDwIdeal.Frame
public import proofs.«01_k».proof.Proof.Gen.QkvDwIdeal.Value
public import proofs.«01_k».proof.Proof.Gen.QkvDwRefIdeal.Run
public import proofs.«01_k».proof.Proof.Gen.QkvDwRefIdeal.Read
public import proofs.«01_k».proof.Proof.QkvDwVal
public import proofs.«01_k».proof.Proof.Gen.OBDx.Frame
public import proofs.«01_k».proof.Proof.Gen.OBDxIdeal.Frame
public import proofs.«01_k».proof.Proof.Gen.OBDxIdeal.Value
public import proofs.«01_k».proof.Proof.Gen.OBDxRefIdeal.Run
public import proofs.«01_k».proof.Proof.Gen.OBDxRefIdeal.Read
public import proofs.«01_k».proof.Proof.OBDxVal
public import proofs.«01_k».proof.Proof.Gen.OBDw.Frame
public import proofs.«01_k».proof.Proof.Gen.OBDwIdeal.Frame
public import proofs.«01_k».proof.Proof.Gen.OBDwIdeal.Value
public import proofs.«01_k».proof.Proof.Gen.OBDwRefIdeal.Run
public import proofs.«01_k».proof.Proof.Gen.OBDwRefIdeal.Read
public import proofs.«01_k».proof.Proof.OBDwVal
public import proofs.«01_k».proof.Proof.Gen.QBDx.Frame
public import proofs.«01_k».proof.Proof.Gen.QBDxIdeal.Frame
public import proofs.«01_k».proof.Proof.Gen.QBDxIdeal.Value
public import proofs.«01_k».proof.Proof.Gen.QBDxRefIdeal.Run
public import proofs.«01_k».proof.Proof.Gen.QBDxRefIdeal.Read
public import proofs.«01_k».proof.Proof.QBDxVal
public import proofs.«01_k».proof.Proof.Gen.QBDw.Frame
public import proofs.«01_k».proof.Proof.Gen.QBDwIdeal.Frame
public import proofs.«01_k».proof.Proof.Gen.QBDwIdeal.Value
public import proofs.«01_k».proof.Proof.Gen.QBDwRefIdeal.Run
public import proofs.«01_k».proof.Proof.Gen.QBDwRefIdeal.Read
public import proofs.«01_k».proof.Proof.QBDwVal
public import proofs.«01_k».proof.Proof.Gen.KvfDx.Frame
public import proofs.«01_k».proof.Proof.Gen.KvfDxIdeal.Frame
public import proofs.«01_k».proof.Proof.Gen.KvfDxIdeal.Value
public import proofs.«01_k».proof.Proof.Gen.KvfDxRefIdeal.Run
public import proofs.«01_k».proof.Proof.Gen.KvfDxRefIdeal.Read
public import proofs.«01_k».proof.Proof.KvfDxVal
public import proofs.«01_k».proof.Proof.Gen.KvfDw.Frame
public import proofs.«01_k».proof.Proof.Gen.KvfDwIdeal.Frame
public import proofs.«01_k».proof.Proof.Gen.KvfDwIdeal.Value
public import proofs.«01_k».proof.Proof.Gen.KvfDwRefIdeal.Run
public import proofs.«01_k».proof.Proof.Gen.KvfDwRefIdeal.Read
public import proofs.«01_k».proof.Proof.KvfDwVal
public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Bridge
public import proofs.«01_k».proof.Proof.Fin
public import proofs.«01_k».proof.Proof.FwdRef
public import proofs.«01_k».proof.Proof.AddArr
public import proofs.«01_k».proof.Proof.AddRef
public import proofs.«01_k».proof.Proof.ConvArr
public import proofs.«01_k».proof.Proof.ConvRef
public import proofs.«01_k».proof.Proof.ConvFwdVal
public import Idealize.ShloMosaic.Lib.Quiescent
public import proofs.«01_k».proof.Proof.Gen.FoxFwd.Frame
public import proofs.«01_k».proof.Proof.Gen.FoxFwdIdeal.Frame
public import proofs.«01_k».proof.Proof.Gen.FoxFwdIdeal.Value
public import proofs.«01_k».proof.Proof.Gen.FoxFwdRefIdeal.Run
public import proofs.«01_k».proof.Proof.Gen.FoxFwdRefIdeal.Read
public import proofs.«01_k».proof.Proof.Gen.FoxAdd.Frame
public import proofs.«01_k».proof.Proof.Gen.FoxAddIdeal.Frame
public import proofs.«01_k».proof.Proof.Gen.FoxAddIdeal.Value
public import proofs.«01_k».proof.Proof.Gen.FoxAddRefIdeal.Run
public import proofs.«01_k».proof.Proof.Gen.FoxAddRefIdeal.Read
public import proofs.«01_k».proof.Proof.Gen.ConvBwd.Frame
public import proofs.«01_k».proof.Proof.Gen.ConvBwdIdeal.Frame
public import proofs.«01_k».proof.Proof.Gen.ConvBwdIdeal.Value
public import proofs.«01_k».proof.Proof.Gen.ConvBwdRefIdeal.Run
public import proofs.«01_k».proof.Proof.Gen.ConvBwdRefIdeal.Read
public import proofs.«01_k».proof.Proof.Gen.ConvFwd.Frame
public import proofs.«01_k».proof.Proof.Gen.ConvFwdIdeal.Frame
public import proofs.«01_k».proof.Proof.Gen.ConvFwdIdeal.Value
public import proofs.«01_k».proof.Proof.Gen.ConvFwdRefIdeal.Run
public import proofs.«01_k».proof.Proof.Gen.ConvFwdRefIdeal.Read
public import proofs.«01_k».proof.Proof.Gen.RmsIn.Frame
public import proofs.«01_k».proof.Proof.Gen.RmsInIdeal.Frame
public import proofs.«01_k».proof.Proof.Gen.RmsInIdeal.Value
public import proofs.«01_k».proof.Proof.Gen.RmsInRefIdeal.Run
public import proofs.«01_k».proof.Proof.Gen.RmsInRefIdeal.Read
public import proofs.«01_k».proof.Proof.RmsInVal
public import proofs.«01_k».proof.Proof.Gen.RmsRes.Frame
public import proofs.«01_k».proof.Proof.Gen.RmsResIdeal.Frame
public import proofs.«01_k».proof.Proof.Gen.RmsResIdeal.Value
public import proofs.«01_k».proof.Proof.Gen.RmsResRefIdeal.Run
public import proofs.«01_k».proof.Proof.Gen.RmsResRefIdeal.Read
public import proofs.«01_k».proof.Proof.RmsResVal
public import proofs.«01_k».proof.Proof.Gen.RmsResIn.Frame
public import proofs.«01_k».proof.Proof.Gen.RmsResInIdeal.Frame
public import proofs.«01_k».proof.Proof.Gen.RmsResInIdeal.Value
public import proofs.«01_k».proof.Proof.Gen.RmsResInRefIdeal.Run
public import proofs.«01_k».proof.Proof.Gen.RmsResInRefIdeal.Read
public import proofs.«01_k».proof.Proof.RmsResInVal
public import proofs.«01_k».proof.Proof.Gen.RmsBwd.Frame
public import proofs.«01_k».proof.Proof.Gen.RmsBwdIdeal.Frame
public import proofs.«01_k».proof.Proof.Gen.RmsBwdIdeal.Value
public import proofs.«01_k».proof.Proof.Gen.RmsBwdRefIdeal.Run
public import proofs.«01_k».proof.Proof.Gen.RmsBwdRefIdeal.Read
public import proofs.«01_k».proof.Proof.RmsBwdVal
public import proofs.«01_k».proof.Proof.Gen.RmsBwdRes.Frame
public import proofs.«01_k».proof.Proof.Gen.RmsBwdResIdeal.Frame
public import proofs.«01_k».proof.Proof.Gen.RmsBwdResIdeal.Value
public import proofs.«01_k».proof.Proof.Gen.RmsBwdResRefIdeal.Run
public import proofs.«01_k».proof.Proof.Gen.RmsBwdResRefIdeal.Read
public import proofs.«01_k».proof.Proof.RmsBwdResVal
public import proofs.«01_k».proof.Proof.Gen.RmsBwdTwo.Frame
public import proofs.«01_k».proof.Proof.Gen.RmsBwdTwoIdeal.Frame
public import proofs.«01_k».proof.Proof.Gen.RmsBwdTwoIdeal.Value
public import proofs.«01_k».proof.Proof.Gen.RmsBwdTwoRefIdeal.Run
public import proofs.«01_k».proof.Proof.Gen.RmsBwdTwoRefIdeal.Read
public import proofs.«01_k».proof.Proof.RmsBwdTwoVal

@[expose] public section
noncomputable section
namespace Cert.Proof
open Idealize.ShloMosaic Idealize.ShloMosaic.TcCoe Idealize.SL.Sem

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite (hPre_finite := Cert.Fin.facts) := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)
theorem frame_ri_pre : Cert.quiescent_ReferenceIdeal_pre_finite (hPre_finite := Cert.Fin.facts) := fun m ρ _ => frame_ri m ρ trivial

theorem preserves : Cert.preserves_Kernel_KernelIdeal := IdealRules.named_const.statement Cert.KernelIdeal.κ "mask" .f32 0xF149F2CA#32 ⊥ rfl

theorem at2 {a b : ℕ} (i : Cert.KernelIdeal.Sec.M2 a b |>.Idx) : i = ix2 (i 0) (i 1) := by funext x; fin_cases x <;> rfl

theorem algebraic : Cert.algebraic_KernelIdeal_ReferenceIdeal_pre_finite (hPre_finite := Cert.Fin.facts) := by
  intro m ρ m' ρ' hpre hagree
  refine ⟨_, _, _, _, Cert.KernelIdeal.Value.run_blocks (F := Ideal) m ρ, ?_⟩
  refine (θ_run Cert.ReferenceIdeal.defs _ _).mono (fun _ h c => ?_) (Cert.ReferenceIdeal.Value.run (F := Ideal) m' ρ')
  obtain ⟨p0, p1, p2, p3⟩ := hpre c
  obtain ⟨a0, a1, a2, a3⟩ := hagree c
  have hK : Cert.KernelIdeal.Arr.Args m c _ _ _ _ := ⟨Cert.Fin.re0 p0, Cert.Fin.re1 p1, Cert.Fin.re2 p2, Cert.Fin.re3 p3⟩
  have hR : Cert.ReferenceIdeal.Ref.Args (m ((c : Thread Cert.KernelIdeal.nD Cert.KernelIdeal.τ).loc Cert.KernelIdeal.main_arg0))
      (m ((c : Thread Cert.KernelIdeal.nD Cert.KernelIdeal.τ).loc Cert.KernelIdeal.main_arg1)) (m ((c : Thread Cert.KernelIdeal.nD Cert.KernelIdeal.τ).loc Cert.KernelIdeal.main_arg2))
      (m ((c : Thread Cert.KernelIdeal.nD Cert.KernelIdeal.τ).loc Cert.KernelIdeal.main_arg3)) _ _ _ _ := ⟨hK.q, hK.k, hK.d, hK.g⟩
  obtain ⟨h0, h1, h2, h3, hargs⟩ := h c
  refine ⟨h0.trans ?_, h1.trans ?_, h2.trans ?_, h3.trans ?_, hargs⟩
  · rw [Cert.ReferenceIdeal.Read.val_main_v95_eq, a0, a1, a2, a3]
    refine Eq.trans ?_ (Cert.KernelIdeal.Arr.dq_final hK).symm
    funext i
    refine (congrArg _ (at2 i)).trans ((Cert.ReferenceIdeal.Ref.dq_re hR _ _).trans ?_)
    exact congrArg _ (Cert.Bridge.gq_eq _ _ _ _ _ _).symm
  · rw [Cert.ReferenceIdeal.Read.val_main_v96_eq, a0, a1, a2, a3]
    refine Eq.trans ?_ (Cert.KernelIdeal.Arr.dk_final hK).symm
    funext i
    refine (congrArg _ (at2 i)).trans ((Cert.ReferenceIdeal.Ref.dk_re hR _ _).trans ?_)
    exact congrArg _ (Cert.Bridge.gk_eq _ _ _ _ _ _).symm
  · rw [Cert.ReferenceIdeal.Read.val_main_v97_eq, a0, a1, a2, a3]
    refine Eq.trans ?_ (Cert.KernelIdeal.Arr.dv_final hK).symm
    funext i
    refine (congrArg _ (at2 i)).trans ((Cert.ReferenceIdeal.Ref.dv_re hR _ _).trans ?_)
    exact congrArg _ (Cert.Bridge.gv_eq _ _ _ _ _ _).symm
  · rw [Cert.ReferenceIdeal.Read.val_main_v93_eq, a0, a1, a2, a3]
    refine Eq.trans ?_ (Cert.KernelIdeal.Arr.dc_final hK).symm
    funext i
    refine (Cert.ReferenceIdeal.Ref.dc_re hR i).trans ?_
    exact congrArg _ (Cert.Bridge.gc_eq _ _ _ _ _ _ _).symm

/-! ### `UpDx` -/
theorem UpDx.frame_p : Cert.quiescent_UpDx := fun m ρ _ => Cert.UpDx.Gen.frame m ρ
theorem UpDx.frame_pi : Cert.quiescent_UpDxIdeal := fun m ρ _ => Cert.UpDxIdeal.Gen.frame m ρ
theorem UpDx.frame_ri : Cert.quiescent_UpDxRefIdeal := fun m ρ _ =>
  (θ_run Cert.UpDxRefIdeal.defs _ _).mono (fun r h => ⟨fun c => (h c).2, Idealize.ShloMosaic.sem_eq_zero_of_no_sems (by decide) r.2⟩)
    (Cert.UpDxRefIdeal.Value.run (F := Ideal) m ρ)
theorem UpDx.preserves : Cert.preserves_UpDx_UpDxIdeal := trivial
theorem UpDx.algebraic : Cert.algebraic_UpDxIdeal_UpDxRefIdeal := by
  intro m ρ m' ρ' _ hagree
  refine ⟨_, Cert.UpDxIdeal.Value.run_blocks (F := Ideal) m ρ, ?_⟩
  refine (θ_run Cert.UpDxRefIdeal.defs _ _).mono (fun _ h c => ⟨(h c).1.trans ?_, (h c).2⟩) (Cert.UpDxRefIdeal.Value.run (F := Ideal) m' ρ')
  rw [Cert.UpDxRefIdeal.Read.val_main_v7_eq, (hagree c).1, (hagree c).2]
  exact (Cert.UpDxIdeal.Arr.ref _ _).trans (Cert.UpDxIdeal.Arr.final m c).symm

/-! ### `UpDw` -/
theorem UpDw.frame_p : Cert.quiescent_UpDw := fun m ρ _ => Cert.UpDw.Gen.frame m ρ
theorem UpDw.frame_pi : Cert.quiescent_UpDwIdeal := fun m ρ _ => Cert.UpDwIdeal.Gen.frame m ρ
theorem UpDw.frame_ri : Cert.quiescent_UpDwRefIdeal := fun m ρ _ =>
  (θ_run Cert.UpDwRefIdeal.defs _ _).mono (fun r h => ⟨fun c => (h c).2, Idealize.ShloMosaic.sem_eq_zero_of_no_sems (by decide) r.2⟩)
    (Cert.UpDwRefIdeal.Value.run (F := Ideal) m ρ)
theorem UpDw.preserves : Cert.preserves_UpDw_UpDwIdeal := trivial
theorem UpDw.algebraic : Cert.algebraic_UpDwIdeal_UpDwRefIdeal := by
  intro m ρ m' ρ' _ hagree
  refine ⟨_, Cert.UpDwIdeal.Value.run_blocks (F := Ideal) m ρ, ?_⟩
  refine (θ_run Cert.UpDwRefIdeal.defs _ _).mono (fun _ h c => ⟨(h c).1.trans ?_, (h c).2⟩) (Cert.UpDwRefIdeal.Value.run (F := Ideal) m' ρ')
  rw [Cert.UpDwRefIdeal.Read.val_main_v9_eq, (hagree c).1, (hagree c).2]
  exact (Cert.UpDwIdeal.Arr.ref _ _).trans (Cert.UpDwIdeal.Arr.final m c).symm

/-! ### `DownDx` -/
theorem DownDx.frame_p : Cert.quiescent_DownDx := fun m ρ _ => Cert.DownDx.Gen.frame m ρ
theorem DownDx.frame_pi : Cert.quiescent_DownDxIdeal := fun m ρ _ => Cert.DownDxIdeal.Gen.frame m ρ
theorem DownDx.frame_ri : Cert.quiescent_DownDxRefIdeal := fun m ρ _ =>
  (θ_run Cert.DownDxRefIdeal.defs _ _).mono (fun r h => ⟨fun c => (h c).2, Idealize.ShloMosaic.sem_eq_zero_of_no_sems (by decide) r.2⟩)
    (Cert.DownDxRefIdeal.Value.run (F := Ideal) m ρ)
theorem DownDx.preserves : Cert.preserves_DownDx_DownDxIdeal := trivial
theorem DownDx.algebraic : Cert.algebraic_DownDxIdeal_DownDxRefIdeal := by
  intro m ρ m' ρ' _ hagree
  refine ⟨_, Cert.DownDxIdeal.Value.run_blocks (F := Ideal) m ρ, ?_⟩
  refine (θ_run Cert.DownDxRefIdeal.defs _ _).mono (fun _ h c => ⟨(h c).1.trans ?_, (h c).2⟩) (Cert.DownDxRefIdeal.Value.run (F := Ideal) m' ρ')
  rw [Cert.DownDxRefIdeal.Read.val_main_v2_eq, (hagree c).1, (hagree c).2]
  exact (Cert.DownDxIdeal.Arr.ref _ _).trans (Cert.DownDxIdeal.Arr.final m c).symm

/-! ### `DownDw` -/
theorem DownDw.frame_p : Cert.quiescent_DownDw := fun m ρ _ => Cert.DownDw.Gen.frame m ρ
theorem DownDw.frame_pi : Cert.quiescent_DownDwIdeal := fun m ρ _ => Cert.DownDwIdeal.Gen.frame m ρ
theorem DownDw.frame_ri : Cert.quiescent_DownDwRefIdeal := fun m ρ _ =>
  (θ_run Cert.DownDwRefIdeal.defs _ _).mono (fun r h => ⟨fun c => (h c).2, Idealize.ShloMosaic.sem_eq_zero_of_no_sems (by decide) r.2⟩)
    (Cert.DownDwRefIdeal.Value.run (F := Ideal) m ρ)
theorem DownDw.preserves : Cert.preserves_DownDw_DownDwIdeal := trivial
theorem DownDw.algebraic : Cert.algebraic_DownDwIdeal_DownDwRefIdeal := by
  intro m ρ m' ρ' _ hagree
  refine ⟨_, Cert.DownDwIdeal.Value.run_blocks (F := Ideal) m ρ, ?_⟩
  refine (θ_run Cert.DownDwRefIdeal.defs _ _).mono (fun _ h c => ⟨(h c).1.trans ?_, (h c).2⟩) (Cert.DownDwRefIdeal.Value.run (F := Ideal) m' ρ')
  rw [Cert.DownDwRefIdeal.Read.val_main_v4_eq, (hagree c).1, (hagree c).2]
  exact (Cert.DownDwIdeal.Arr.ref _ _).trans (Cert.DownDwIdeal.Arr.final m c).symm

/-! ### `Up` -/
theorem Up.frame_p : Cert.quiescent_Up := fun m ρ _ => Cert.Up.Gen.frame m ρ
theorem Up.frame_pi : Cert.quiescent_UpIdeal := fun m ρ _ => Cert.UpIdeal.Gen.frame m ρ
theorem Up.frame_ri : Cert.quiescent_UpRefIdeal := fun m ρ _ =>
  (θ_run Cert.UpRefIdeal.defs _ _).mono (fun r h => ⟨fun c => (h c).2, Idealize.ShloMosaic.sem_eq_zero_of_no_sems (by decide) r.2⟩)
    (Cert.UpRefIdeal.Value.run (F := Ideal) m ρ)
theorem Up.preserves : Cert.preserves_Up_UpIdeal := trivial
theorem Up.algebraic : Cert.algebraic_UpIdeal_UpRefIdeal := by
  intro m ρ m' ρ' _ hagree
  refine ⟨_, Cert.UpIdeal.Value.run_blocks (F := Ideal) m ρ, ?_⟩
  refine (θ_run Cert.UpRefIdeal.defs _ _).mono (fun _ h c => ⟨(h c).1.trans ?_, (h c).2⟩) (Cert.UpRefIdeal.Value.run (F := Ideal) m' ρ')
  rw [Cert.UpRefIdeal.Read.val_main_v2_eq, (hagree c).1, (hagree c).2]
  exact (Cert.UpIdeal.Arr.ref _ _).trans (Cert.UpIdeal.Arr.final m c).symm

/-! ### `Down` -/
theorem Down.frame_p : Cert.quiescent_Down := fun m ρ _ => Cert.Down.Gen.frame m ρ
theorem Down.frame_pi : Cert.quiescent_DownIdeal := fun m ρ _ => Cert.DownIdeal.Gen.frame m ρ
theorem Down.frame_ri : Cert.quiescent_DownRefIdeal := fun m ρ _ =>
  (θ_run Cert.DownRefIdeal.defs _ _).mono (fun r h => ⟨fun c => (h c).2, Idealize.ShloMosaic.sem_eq_zero_of_no_sems (by decide) r.2⟩)
    (Cert.DownRefIdeal.Value.run (F := Ideal) m ρ)
theorem Down.preserves : Cert.preserves_Down_DownIdeal := trivial
theorem Down.algebraic : Cert.algebraic_DownIdeal_DownRefIdeal := by
  intro m ρ m' ρ' _ hagree
  refine ⟨_, Cert.DownIdeal.Value.run_blocks (F := Ideal) m ρ, ?_⟩
  refine (θ_run Cert.DownRefIdeal.defs _ _).mono (fun _ h c => ⟨(h c).1.trans ?_, (h c).2⟩) (Cert.DownRefIdeal.Value.run (F := Ideal) m' ρ')
  rw [Cert.DownRefIdeal.Read.val_main_v2_eq, (hagree c).1, (hagree c).2]
  exact (Cert.DownIdeal.Arr.ref _ _).trans (Cert.DownIdeal.Arr.final m c).symm

/-! ### `Qkv` -/
theorem Qkv.frame_p : Cert.quiescent_Qkv := fun m ρ _ => Cert.Qkv.Gen.frame m ρ
theorem Qkv.frame_pi : Cert.quiescent_QkvIdeal := fun m ρ _ => Cert.QkvIdeal.Gen.frame m ρ
theorem Qkv.frame_ri : Cert.quiescent_QkvRefIdeal := fun m ρ _ =>
  (θ_run Cert.QkvRefIdeal.defs _ _).mono (fun r h => ⟨fun c => (h c).2, Idealize.ShloMosaic.sem_eq_zero_of_no_sems (by decide) r.2⟩)
    (Cert.QkvRefIdeal.Value.run (F := Ideal) m ρ)
theorem Qkv.preserves : Cert.preserves_Qkv_QkvIdeal := trivial
theorem Qkv.algebraic : Cert.algebraic_QkvIdeal_QkvRefIdeal := by
  intro m ρ m' ρ' _ hagree
  refine ⟨_, Cert.QkvIdeal.Value.run_blocks (F := Ideal) m ρ, ?_⟩
  refine (θ_run Cert.QkvRefIdeal.defs _ _).mono (fun _ h c => ⟨(h c).1.trans ?_, (h c).2⟩) (Cert.QkvRefIdeal.Value.run (F := Ideal) m' ρ')
  rw [Cert.QkvRefIdeal.Read.val_main_v2_eq, (hagree c).1, (hagree c).2]
  exact (Cert.QkvIdeal.Arr.ref _ _).trans (Cert.QkvIdeal.Arr.final m c).symm

/-! ### `OA` -/
theorem OA.frame_p : Cert.quiescent_OA := fun m ρ _ => Cert.OA.Gen.frame m ρ
theorem OA.frame_pi : Cert.quiescent_OAIdeal := fun m ρ _ => Cert.OAIdeal.Gen.frame m ρ
theorem OA.frame_ri : Cert.quiescent_OARefIdeal := fun m ρ _ =>
  (θ_run Cert.OARefIdeal.defs _ _).mono (fun r h => ⟨fun c => (h c).2, Idealize.ShloMosaic.sem_eq_zero_of_no_sems (by decide) r.2⟩)
    (Cert.OARefIdeal.Value.run (F := Ideal) m ρ)
theorem OA.preserves : Cert.preserves_OA_OAIdeal := trivial
theorem OA.algebraic : Cert.algebraic_OAIdeal_OARefIdeal := by
  intro m ρ m' ρ' _ hagree
  refine ⟨_, Cert.OAIdeal.Value.run_blocks (F := Ideal) m ρ, ?_⟩
  refine (θ_run Cert.OARefIdeal.defs _ _).mono (fun _ h c => ⟨(h c).1.trans ?_, (h c).2⟩) (Cert.OARefIdeal.Value.run (F := Ideal) m' ρ')
  rw [Cert.OARefIdeal.Read.val_main_v2_eq, (hagree c).1, (hagree c).2]
  exact (Cert.OAIdeal.Arr.ref _ _).trans (Cert.OAIdeal.Arr.final m c).symm

/-! ### `Kv` -/
theorem Kv.frame_p : Cert.quiescent_Kv := fun m ρ _ => Cert.Kv.Gen.frame m ρ
theorem Kv.frame_pi : Cert.quiescent_KvIdeal := fun m ρ _ => Cert.KvIdeal.Gen.frame m ρ
theorem Kv.frame_ri : Cert.quiescent_KvRefIdeal := fun m ρ _ =>
  (θ_run Cert.KvRefIdeal.defs _ _).mono (fun r h => ⟨fun c => (h c).2, Idealize.ShloMosaic.sem_eq_zero_of_no_sems (by decide) r.2⟩)
    (Cert.KvRefIdeal.Value.run (F := Ideal) m ρ)
theorem Kv.preserves : Cert.preserves_Kv_KvIdeal := trivial
theorem Kv.algebraic : Cert.algebraic_KvIdeal_KvRefIdeal := by
  intro m ρ m' ρ' _ hagree
  refine ⟨_, Cert.KvIdeal.Value.run_blocks (F := Ideal) m ρ, ?_⟩
  refine (θ_run Cert.KvRefIdeal.defs _ _).mono (fun _ h c => ⟨(h c).1.trans ?_, (h c).2⟩) (Cert.KvRefIdeal.Value.run (F := Ideal) m' ρ')
  rw [Cert.KvRefIdeal.Read.val_main_v3_eq, (hagree c).1, (hagree c).2]
  exact (Cert.KvIdeal.Arr.ref _ _).trans (Cert.KvIdeal.Arr.final m c).symm

/-! ### `Gate` -/
theorem Gate.frame_p : Cert.quiescent_Gate := fun m ρ _ => Cert.Gate.Gen.frame m ρ
theorem Gate.frame_pi : Cert.quiescent_GateIdeal := fun m ρ _ => Cert.GateIdeal.Gen.frame m ρ
theorem Gate.frame_ri : Cert.quiescent_GateRefIdeal := fun m ρ _ =>
  (θ_run Cert.GateRefIdeal.defs _ _).mono (fun r h => ⟨fun c => (h c).2, Idealize.ShloMosaic.sem_eq_zero_of_no_sems (by decide) r.2⟩)
    (Cert.GateRefIdeal.Value.run (F := Ideal) m ρ)
theorem Gate.preserves : Cert.preserves_Gate_GateIdeal := trivial
theorem Gate.algebraic : Cert.algebraic_GateIdeal_GateRefIdeal := by
  intro m ρ m' ρ' _ hagree
  refine ⟨_, Cert.GateIdeal.Value.run_blocks (F := Ideal) m ρ, ?_⟩
  refine (θ_run Cert.GateRefIdeal.defs _ _).mono (fun _ h c => ⟨(h c).1.trans ?_, (h c).2⟩) (Cert.GateRefIdeal.Value.run (F := Ideal) m' ρ')
  rw [Cert.GateRefIdeal.Read.val_main_v2_eq, (hagree c).1, (hagree c).2]
  exact (Cert.GateIdeal.Arr.ref _ _).trans (Cert.GateIdeal.Arr.final m c).symm

/-! ### `QB` -/
theorem QB.frame_p : Cert.quiescent_QB := fun m ρ _ => Cert.QB.Gen.frame m ρ
theorem QB.frame_pi : Cert.quiescent_QBIdeal := fun m ρ _ => Cert.QBIdeal.Gen.frame m ρ
theorem QB.frame_ri : Cert.quiescent_QBRefIdeal := fun m ρ _ =>
  (θ_run Cert.QBRefIdeal.defs _ _).mono (fun r h => ⟨fun c => (h c).2, Idealize.ShloMosaic.sem_eq_zero_of_no_sems (by decide) r.2⟩)
    (Cert.QBRefIdeal.Value.run (F := Ideal) m ρ)
theorem QB.preserves : Cert.preserves_QB_QBIdeal := trivial
theorem QB.algebraic : Cert.algebraic_QBIdeal_QBRefIdeal := by
  intro m ρ m' ρ' _ hagree
  refine ⟨_, Cert.QBIdeal.Value.run_blocks (F := Ideal) m ρ, ?_⟩
  refine (θ_run Cert.QBRefIdeal.defs _ _).mono (fun _ h c => ⟨(h c).1.trans ?_, (h c).2⟩) (Cert.QBRefIdeal.Value.run (F := Ideal) m' ρ')
  rw [Cert.QBRefIdeal.Read.val_main_v5_eq, (hagree c).1, (hagree c).2]
  exact (Cert.QBIdeal.Arr.ref _ _).trans (Cert.QBIdeal.Arr.final m c).symm

/-! ### `OB` -/
theorem OB.frame_p : Cert.quiescent_OB := fun m ρ _ => Cert.OB.Gen.frame m ρ
theorem OB.frame_pi : Cert.quiescent_OBIdeal := fun m ρ _ => Cert.OBIdeal.Gen.frame m ρ
theorem OB.frame_ri : Cert.quiescent_OBRefIdeal := fun m ρ _ =>
  (θ_run Cert.OBRefIdeal.defs _ _).mono (fun r h => ⟨fun c => (h c).2, Idealize.ShloMosaic.sem_eq_zero_of_no_sems (by decide) r.2⟩)
    (Cert.OBRefIdeal.Value.run (F := Ideal) m ρ)
theorem OB.preserves : Cert.preserves_OB_OBIdeal := trivial
theorem OB.algebraic : Cert.algebraic_OBIdeal_OBRefIdeal := by
  intro m ρ m' ρ' _ hagree
  refine ⟨_, Cert.OBIdeal.Value.run_blocks (F := Ideal) m ρ, ?_⟩
  refine (θ_run Cert.OBRefIdeal.defs _ _).mono (fun _ h c => ⟨(h c).1.trans ?_, (h c).2⟩) (Cert.OBRefIdeal.Value.run (F := Ideal) m' ρ')
  rw [Cert.OBRefIdeal.Read.val_main_v2_eq, (hagree c).1, (hagree c).2]
  exact (Cert.OBIdeal.Arr.ref _ _).trans (Cert.OBIdeal.Arr.final m c).symm

/-! ### `OADx` -/
theorem OADx.frame_p : Cert.quiescent_OADx := fun m ρ _ => Cert.OADx.Gen.frame m ρ
theorem OADx.frame_pi : Cert.quiescent_OADxIdeal := fun m ρ _ => Cert.OADxIdeal.Gen.frame m ρ
theorem OADx.frame_ri : Cert.quiescent_OADxRefIdeal := fun m ρ _ =>
  (θ_run Cert.OADxRefIdeal.defs _ _).mono (fun r h => ⟨fun c => (h c).2, Idealize.ShloMosaic.sem_eq_zero_of_no_sems (by decide) r.2⟩)
    (Cert.OADxRefIdeal.Value.run (F := Ideal) m ρ)
theorem OADx.preserves : Cert.preserves_OADx_OADxIdeal := trivial
theorem OADx.algebraic : Cert.algebraic_OADxIdeal_OADxRefIdeal := by
  intro m ρ m' ρ' _ hagree
  refine ⟨_, Cert.OADxIdeal.Value.run_blocks (F := Ideal) m ρ, ?_⟩
  refine (θ_run Cert.OADxRefIdeal.defs _ _).mono (fun _ h c => ⟨(h c).1.trans ?_, (h c).2⟩) (Cert.OADxRefIdeal.Value.run (F := Ideal) m' ρ')
  rw [Cert.OADxRefIdeal.Read.val_main_v2_eq, (hagree c).1, (hagree c).2]
  exact (Cert.OADxIdeal.Arr.ref _ _).trans (Cert.OADxIdeal.Arr.final m c).symm

/-! ### `OADw` -/
theorem OADw.frame_p : Cert.quiescent_OADw := fun m ρ _ => Cert.OADw.Gen.frame m ρ
theorem OADw.frame_pi : Cert.quiescent_OADwIdeal := fun m ρ _ => Cert.OADwIdeal.Gen.frame m ρ
theorem OADw.frame_ri : Cert.quiescent_OADwRefIdeal := fun m ρ _ =>
  (θ_run Cert.OADwRefIdeal.defs _ _).mono (fun r h => ⟨fun c => (h c).2, Idealize.ShloMosaic.sem_eq_zero_of_no_sems (by decide) r.2⟩)
    (Cert.OADwRefIdeal.Value.run (F := Ideal) m ρ)
theorem OADw.preserves : Cert.preserves_OADw_OADwIdeal := trivial
theorem OADw.algebraic : Cert.algebraic_OADwIdeal_OADwRefIdeal := by
  intro m ρ m' ρ' _ hagree
  refine ⟨_, Cert.OADwIdeal.Value.run_blocks (F := Ideal) m ρ, ?_⟩
  refine (θ_run Cert.OADwRefIdeal.defs _ _).mono (fun _ h c => ⟨(h c).1.trans ?_, (h c).2⟩) (Cert.OADwRefIdeal.Value.run (F := Ideal) m' ρ')
  rw [Cert.OADwRefIdeal.Read.val_main_v4_eq, (hagree c).1, (hagree c).2]
  exact (Cert.OADwIdeal.Arr.ref _ _).trans (Cert.OADwIdeal.Arr.final m c).symm

/-! ### `QkvDx` -/
theorem QkvDx.frame_p : Cert.quiescent_QkvDx := fun m ρ _ => Cert.QkvDx.Gen.frame m ρ
theorem QkvDx.frame_pi : Cert.quiescent_QkvDxIdeal := fun m ρ _ => Cert.QkvDxIdeal.Gen.frame m ρ
theorem QkvDx.frame_ri : Cert.quiescent_QkvDxRefIdeal := fun m ρ _ =>
  (θ_run Cert.QkvDxRefIdeal.defs _ _).mono (fun r h => ⟨fun c => (h c).2, Idealize.ShloMosaic.sem_eq_zero_of_no_sems (by decide) r.2⟩)
    (Cert.QkvDxRefIdeal.Value.run (F := Ideal) m ρ)
theorem QkvDx.preserves : Cert.preserves_QkvDx_QkvDxIdeal := trivial
theorem QkvDx.algebraic : Cert.algebraic_QkvDxIdeal_QkvDxRefIdeal := by
  intro m ρ m' ρ' _ hagree
  refine ⟨_, Cert.QkvDxIdeal.Value.run_blocks (F := Ideal) m ρ, ?_⟩
  refine (θ_run Cert.QkvDxRefIdeal.defs _ _).mono (fun _ h c => ⟨(h c).1.trans ?_, (h c).2⟩) (Cert.QkvDxRefIdeal.Value.run (F := Ideal) m' ρ')
  rw [Cert.QkvDxRefIdeal.Read.val_main_v2_eq, (hagree c).1, (hagree c).2]
  exact (Cert.QkvDxIdeal.Arr.ref _ _).trans (Cert.QkvDxIdeal.Arr.final m c).symm

/-! ### `QkvDw` -/
theorem QkvDw.frame_p : Cert.quiescent_QkvDw := fun m ρ _ => Cert.QkvDw.Gen.frame m ρ
theorem QkvDw.frame_pi : Cert.quiescent_QkvDwIdeal := fun m ρ _ => Cert.QkvDwIdeal.Gen.frame m ρ
theorem QkvDw.frame_ri : Cert.quiescent_QkvDwRefIdeal := fun m ρ _ =>
  (θ_run Cert.QkvDwRefIdeal.defs _ _).mono (fun r h => ⟨fun c => (h c).2, Idealize.ShloMosaic.sem_eq_zero_of_no_sems (by decide) r.2⟩)
    (Cert.QkvDwRefIdeal.Value.run (F := Ideal) m ρ)
theorem QkvDw.preserves : Cert.preserves_QkvDw_QkvDwIdeal := trivial
theorem QkvDw.algebraic : Cert.algebraic_QkvDwIdeal_QkvDwRefIdeal := by
  intro m ρ m' ρ' _ hagree
  refine ⟨_, Cert.QkvDwIdeal.Value.run_blocks (F := Ideal) m ρ, ?_⟩
  refine (θ_run Cert.QkvDwRefIdeal.defs _ _).mono (fun _ h c => ⟨(h c).1.trans ?_, (h c).2⟩) (Cert.QkvDwRefIdeal.Value.run (F := Ideal) m' ρ')
  rw [Cert.QkvDwRefIdeal.Read.val_main_v4_eq, (hagree c).1, (hagree c).2]
  exact (Cert.QkvDwIdeal.Arr.ref _ _).trans (Cert.QkvDwIdeal.Arr.final m c).symm

/-! ### `OBDx` -/
theorem OBDx.frame_p : Cert.quiescent_OBDx := fun m ρ _ => Cert.OBDx.Gen.frame m ρ
theorem OBDx.frame_pi : Cert.quiescent_OBDxIdeal := fun m ρ _ => Cert.OBDxIdeal.Gen.frame m ρ
theorem OBDx.frame_ri : Cert.quiescent_OBDxRefIdeal := fun m ρ _ =>
  (θ_run Cert.OBDxRefIdeal.defs _ _).mono (fun r h => ⟨fun c => (h c).2, Idealize.ShloMosaic.sem_eq_zero_of_no_sems (by decide) r.2⟩)
    (Cert.OBDxRefIdeal.Value.run (F := Ideal) m ρ)
theorem OBDx.preserves : Cert.preserves_OBDx_OBDxIdeal := trivial
theorem OBDx.algebraic : Cert.algebraic_OBDxIdeal_OBDxRefIdeal := by
  intro m ρ m' ρ' _ hagree
  refine ⟨_, Cert.OBDxIdeal.Value.run_blocks (F := Ideal) m ρ, ?_⟩
  refine (θ_run Cert.OBDxRefIdeal.defs _ _).mono (fun _ h c => ⟨(h c).1.trans ?_, (h c).2⟩) (Cert.OBDxRefIdeal.Value.run (F := Ideal) m' ρ')
  rw [Cert.OBDxRefIdeal.Read.val_main_v3_eq, (hagree c).1, (hagree c).2]
  exact (Cert.OBDxIdeal.Arr.ref _ _).trans (Cert.OBDxIdeal.Arr.final m c).symm

/-! ### `OBDw` -/
theorem OBDw.frame_p : Cert.quiescent_OBDw := fun m ρ _ => Cert.OBDw.Gen.frame m ρ
theorem OBDw.frame_pi : Cert.quiescent_OBDwIdeal := fun m ρ _ => Cert.OBDwIdeal.Gen.frame m ρ
theorem OBDw.frame_ri : Cert.quiescent_OBDwRefIdeal := fun m ρ _ =>
  (θ_run Cert.OBDwRefIdeal.defs _ _).mono (fun r h => ⟨fun c => (h c).2, Idealize.ShloMosaic.sem_eq_zero_of_no_sems (by decide) r.2⟩)
    (Cert.OBDwRefIdeal.Value.run (F := Ideal) m ρ)
theorem OBDw.preserves : Cert.preserves_OBDw_OBDwIdeal := trivial
theorem OBDw.algebraic : Cert.algebraic_OBDwIdeal_OBDwRefIdeal := by
  intro m ρ m' ρ' _ hagree
  refine ⟨_, Cert.OBDwIdeal.Value.run_blocks (F := Ideal) m ρ, ?_⟩
  refine (θ_run Cert.OBDwRefIdeal.defs _ _).mono (fun _ h c => ⟨(h c).1.trans ?_, (h c).2⟩) (Cert.OBDwRefIdeal.Value.run (F := Ideal) m' ρ')
  rw [Cert.OBDwRefIdeal.Read.val_main_v4_eq, (hagree c).1, (hagree c).2]
  exact (Cert.OBDwIdeal.Arr.ref _ _).trans (Cert.OBDwIdeal.Arr.final m c).symm

/-! ### `QBDx` -/
theorem QBDx.frame_p : Cert.quiescent_QBDx := fun m ρ _ => Cert.QBDx.Gen.frame m ρ
theorem QBDx.frame_pi : Cert.quiescent_QBDxIdeal := fun m ρ _ => Cert.QBDxIdeal.Gen.frame m ρ
theorem QBDx.frame_ri : Cert.quiescent_QBDxRefIdeal := fun m ρ _ =>
  (θ_run Cert.QBDxRefIdeal.defs _ _).mono (fun r h => ⟨fun c => (h c).2, Idealize.ShloMosaic.sem_eq_zero_of_no_sems (by decide) r.2⟩)
    (Cert.QBDxRefIdeal.Value.run (F := Ideal) m ρ)
theorem QBDx.preserves : Cert.preserves_QBDx_QBDxIdeal := trivial
theorem QBDx.algebraic : Cert.algebraic_QBDxIdeal_QBDxRefIdeal := by
  intro m ρ m' ρ' _ hagree
  refine ⟨_, Cert.QBDxIdeal.Value.run_blocks (F := Ideal) m ρ, ?_⟩
  refine (θ_run Cert.QBDxRefIdeal.defs _ _).mono (fun _ h c => ⟨(h c).1.trans ?_, (h c).2⟩) (Cert.QBDxRefIdeal.Value.run (F := Ideal) m' ρ')
  rw [Cert.QBDxRefIdeal.Read.val_main_v2_eq, (hagree c).1, (hagree c).2]
  exact (Cert.QBDxIdeal.Arr.ref _ _).trans (Cert.QBDxIdeal.Arr.final m c).symm

/-! ### `QBDw` -/
theorem QBDw.frame_p : Cert.quiescent_QBDw := fun m ρ _ => Cert.QBDw.Gen.frame m ρ
theorem QBDw.frame_pi : Cert.quiescent_QBDwIdeal := fun m ρ _ => Cert.QBDwIdeal.Gen.frame m ρ
theorem QBDw.frame_ri : Cert.quiescent_QBDwRefIdeal := fun m ρ _ =>
  (θ_run Cert.QBDwRefIdeal.defs _ _).mono (fun r h => ⟨fun c => (h c).2, Idealize.ShloMosaic.sem_eq_zero_of_no_sems (by decide) r.2⟩)
    (Cert.QBDwRefIdeal.Value.run (F := Ideal) m ρ)
theorem QBDw.preserves : Cert.preserves_QBDw_QBDwIdeal := trivial
theorem QBDw.algebraic : Cert.algebraic_QBDwIdeal_QBDwRefIdeal := by
  intro m ρ m' ρ' _ hagree
  refine ⟨_, Cert.QBDwIdeal.Value.run_blocks (F := Ideal) m ρ, ?_⟩
  refine (θ_run Cert.QBDwRefIdeal.defs _ _).mono (fun _ h c => ⟨(h c).1.trans ?_, (h c).2⟩) (Cert.QBDwRefIdeal.Value.run (F := Ideal) m' ρ')
  rw [Cert.QBDwRefIdeal.Read.val_main_v4_eq, (hagree c).1, (hagree c).2]
  exact (Cert.QBDwIdeal.Arr.ref _ _).trans (Cert.QBDwIdeal.Arr.final m c).symm

/-! ### `KvfDx` -/
theorem KvfDx.frame_p : Cert.quiescent_KvfDx := fun m ρ _ => Cert.KvfDx.Gen.frame m ρ
theorem KvfDx.frame_pi : Cert.quiescent_KvfDxIdeal := fun m ρ _ => Cert.KvfDxIdeal.Gen.frame m ρ
theorem KvfDx.frame_ri : Cert.quiescent_KvfDxRefIdeal := fun m ρ _ =>
  (θ_run Cert.KvfDxRefIdeal.defs _ _).mono (fun r h => ⟨fun c => (h c).2, Idealize.ShloMosaic.sem_eq_zero_of_no_sems (by decide) r.2⟩)
    (Cert.KvfDxRefIdeal.Value.run (F := Ideal) m ρ)
theorem KvfDx.preserves : Cert.preserves_KvfDx_KvfDxIdeal := trivial
theorem KvfDx.algebraic : Cert.algebraic_KvfDxIdeal_KvfDxRefIdeal := by
  intro m ρ m' ρ' _ hagree
  refine ⟨_, Cert.KvfDxIdeal.Value.run_blocks (F := Ideal) m ρ, ?_⟩
  refine (θ_run Cert.KvfDxRefIdeal.defs _ _).mono (fun _ h c => ⟨(h c).1.trans ?_, (h c).2⟩) (Cert.KvfDxRefIdeal.Value.run (F := Ideal) m' ρ')
  rw [Cert.KvfDxRefIdeal.Read.val_main_v2_eq, (hagree c).1, (hagree c).2]
  exact (Cert.KvfDxIdeal.Arr.ref _ _).trans (Cert.KvfDxIdeal.Arr.final m c).symm

/-! ### `KvfDw` -/
theorem KvfDw.frame_p : Cert.quiescent_KvfDw := fun m ρ _ => Cert.KvfDw.Gen.frame m ρ
theorem KvfDw.frame_pi : Cert.quiescent_KvfDwIdeal := fun m ρ _ => Cert.KvfDwIdeal.Gen.frame m ρ
theorem KvfDw.frame_ri : Cert.quiescent_KvfDwRefIdeal := fun m ρ _ =>
  (θ_run Cert.KvfDwRefIdeal.defs _ _).mono (fun r h => ⟨fun c => (h c).2, Idealize.ShloMosaic.sem_eq_zero_of_no_sems (by decide) r.2⟩)
    (Cert.KvfDwRefIdeal.Value.run (F := Ideal) m ρ)
theorem KvfDw.preserves : Cert.preserves_KvfDw_KvfDwIdeal := trivial
theorem KvfDw.algebraic : Cert.algebraic_KvfDwIdeal_KvfDwRefIdeal := by
  intro m ρ m' ρ' _ hagree
  refine ⟨_, Cert.KvfDwIdeal.Value.run_blocks (F := Ideal) m ρ, ?_⟩
  refine (θ_run Cert.KvfDwRefIdeal.defs _ _).mono (fun _ h c => ⟨(h c).1.trans ?_, (h c).2⟩) (Cert.KvfDwRefIdeal.Value.run (F := Ideal) m' ρ')
  rw [Cert.KvfDwRefIdeal.Read.val_main_v4_eq, (hagree c).1, (hagree c).2]
  exact (Cert.KvfDwIdeal.Arr.ref _ _).trans (Cert.KvfDwIdeal.Arr.final m c).symm

/-! ### The forward pass of the forgetting attention -/
theorem FoxFwd.frame_p : Cert.quiescent_FoxFwd := fun m ρ _ => Cert.FoxFwd.Gen.frame m ρ
theorem FoxFwd.frame_pi : Cert.quiescent_FoxFwdIdeal := fun m ρ _ => Cert.FoxFwdIdeal.Gen.frame m ρ
theorem FoxFwd.frame_pi_pre : Cert.quiescent_FoxFwdIdeal_pre_finite_fwd (hPre_finite_fwd := Cert.Fin.facts_fwd) := fun m ρ _ => Cert.FoxFwdIdeal.Gen.frame m ρ
theorem FoxFwd.frame_ri : Cert.quiescent_FoxFwdRefIdeal := fun m ρ _ =>
  (θ_run Cert.FoxFwdRefIdeal.defs _ _).mono (fun r h => ⟨fun c => (h c).2, Idealize.ShloMosaic.sem_eq_zero_of_no_sems (by decide) r.2⟩)
    (Cert.FoxFwdRefIdeal.Value.run (F := Ideal) m ρ)
theorem FoxFwd.frame_ri_pre : Cert.quiescent_FoxFwdRefIdeal_pre_finite_fwd (hPre_finite_fwd := Cert.Fin.facts_fwd) := fun m ρ _ => FoxFwd.frame_ri m ρ trivial
theorem FoxFwd.preserves : Cert.preserves_FoxFwd_FoxFwdIdeal := IdealRules.named_const.statement Cert.FoxFwdIdeal.κ "mask" .f32 0xF149F2CA#32 ⊥ rfl

theorem FoxFwd.algebraic : Cert.algebraic_FoxFwdIdeal_FoxFwdRefIdeal_pre_finite_fwd (hPre_finite_fwd := Cert.Fin.facts_fwd) := by
  intro m ρ m' ρ' hpre hagree
  refine ⟨_, Cert.FoxFwdIdeal.Value.run_blocks (F := Ideal) m ρ, ?_⟩
  refine (θ_run Cert.FoxFwdRefIdeal.defs _ _).mono (fun _ h c => ⟨(h c).1.trans ?_, (h c).2⟩) (Cert.FoxFwdRefIdeal.Value.run (F := Ideal) m' ρ')
  obtain ⟨p0, p1, p2⟩ := hpre c
  obtain ⟨a0, a1, a2⟩ := hagree c
  have hK : Cert.FoxFwdIdeal.Arr.Args m c _ _ _ := ⟨Cert.Fin.fwd0 p0, Cert.Fin.fwd1 p1, Cert.Fin.fwd2 p2⟩
  have hR : Cert.ReferenceIdeal.Ref.Args (m ((c : Thread Cert.FoxFwdIdeal.nD Cert.FoxFwdIdeal.τ).loc Cert.FoxFwdIdeal.main_arg0))
      (m ((c : Thread Cert.FoxFwdIdeal.nD Cert.FoxFwdIdeal.τ).loc Cert.FoxFwdIdeal.main_arg1)) (m ((c : Thread Cert.FoxFwdIdeal.nD Cert.FoxFwdIdeal.τ).loc Cert.FoxFwdIdeal.main_arg0))
      (m ((c : Thread Cert.FoxFwdIdeal.nD Cert.FoxFwdIdeal.τ).loc Cert.FoxFwdIdeal.main_arg2)) _ _ _ _ := ⟨hK.q, hK.k, hK.q, hK.g⟩
  rw [Cert.FoxFwdRefIdeal.Read.val_main_v40_eq, a0, a1, a2]
  refine Eq.trans ?_ (Cert.FoxFwdIdeal.Arr.o_final hK).symm
  funext i
  refine (congrArg _ (at2 i)).trans ((Cert.FoxFwdRefIdeal.Ref.o_re hR _ _).trans ?_)
  exact congrArg _ (Cert.FoxFwdRefIdeal.Ref.go_eq _ _).symm

/-! ### The backward pass of the forgetting attention that starts from given sums -/
theorem FoxAdd.frame_p : Cert.quiescent_FoxAdd := fun m ρ _ => Cert.FoxAdd.Gen.frame m ρ
theorem FoxAdd.frame_pi : Cert.quiescent_FoxAddIdeal := fun m ρ _ => Cert.FoxAddIdeal.Gen.frame m ρ
theorem FoxAdd.frame_pi_pre : Cert.quiescent_FoxAddIdeal_pre_finite_add (hPre_finite_add := Cert.Fin.facts_add) := fun m ρ _ => Cert.FoxAddIdeal.Gen.frame m ρ
theorem FoxAdd.frame_ri : Cert.quiescent_FoxAddRefIdeal := fun m ρ _ =>
  (θ_run Cert.FoxAddRefIdeal.defs _ _).mono (fun r h => ⟨fun c => (h c).2.2.2.2, Idealize.ShloMosaic.sem_eq_zero_of_no_sems (by decide) r.2⟩)
    (Cert.FoxAddRefIdeal.Value.run (F := Ideal) m ρ)
theorem FoxAdd.frame_ri_pre : Cert.quiescent_FoxAddRefIdeal_pre_finite_add (hPre_finite_add := Cert.Fin.facts_add) := fun m ρ _ => FoxAdd.frame_ri m ρ trivial
theorem FoxAdd.preserves : Cert.preserves_FoxAdd_FoxAddIdeal := IdealRules.named_const.statement Cert.FoxAddIdeal.κ "mask" .f32 0xF149F2CA#32 ⊥ rfl

theorem FoxAdd.algebraic : Cert.algebraic_FoxAddIdeal_FoxAddRefIdeal_pre_finite_add (hPre_finite_add := Cert.Fin.facts_add) := by
  intro m ρ m' ρ' hpre hagree
  refine ⟨_, _, _, _, Cert.FoxAddIdeal.Value.run_blocks (F := Ideal) m ρ, ?_⟩
  refine (θ_run Cert.FoxAddRefIdeal.defs _ _).mono (fun _ h c => ?_) (Cert.FoxAddRefIdeal.Value.run (F := Ideal) m' ρ')
  obtain ⟨p0, p1, p2, p3⟩ := hpre c
  obtain ⟨a0, a1, a2, a3, a4, a5, a6⟩ := hagree c
  have hK : Cert.FoxAddIdeal.Arr.Args m c _ _ _ _ := ⟨Cert.Fin.add0 p0, Cert.Fin.add1 p1, Cert.Fin.add2 p2, Cert.Fin.add3 p3⟩
  have hR : Cert.ReferenceIdeal.Ref.Args (m ((c : Thread Cert.FoxAddIdeal.nD Cert.FoxAddIdeal.τ).loc Cert.FoxAddIdeal.main_arg0))
      (m ((c : Thread Cert.FoxAddIdeal.nD Cert.FoxAddIdeal.τ).loc Cert.FoxAddIdeal.main_arg1)) (m ((c : Thread Cert.FoxAddIdeal.nD Cert.FoxAddIdeal.τ).loc Cert.FoxAddIdeal.main_arg2))
      (m ((c : Thread Cert.FoxAddIdeal.nD Cert.FoxAddIdeal.τ).loc Cert.FoxAddIdeal.main_arg3)) _ _ _ _ := ⟨hK.q, hK.k, hK.d, hK.g⟩
  obtain ⟨h0, h1, h2, h3, hargs⟩ := h c
  refine ⟨h0.trans ?_, h1.trans ?_, h2.trans ?_, h3.trans ?_, hargs⟩
  · rw [Cert.FoxAddRefIdeal.Read.val_main_v95_eq, a0, a1, a2, a3, Cert.FoxAddRefIdeal.Ref.v95_eq]
    refine Eq.trans ?_ (Cert.FoxAddIdeal.Arr.dq_final hK).symm
    funext i
    refine (congrArg _ (at2 i)).trans ((Cert.ReferenceIdeal.Ref.dq_re hR _ _).trans ?_)
    exact congrArg _ (Cert.Bridge.gq_eq _ _ _ _ _ _).symm
  · rw [Cert.FoxAddRefIdeal.Read.val_main_v98_eq, a0, a1, a2, a3, a4]
    refine Eq.trans ?_ (Cert.FoxAddIdeal.Arr.dk_final hK).symm
    funext i
    refine congrArg₂ (fun a b : EReal => a + b) rfl ?_
    refine (congrFun Cert.FoxAddRefIdeal.Ref.v96_eq i).trans ?_
    refine (congrArg _ (at2 i)).trans ((Cert.ReferenceIdeal.Ref.dk_re hR _ _).trans ?_)
    exact congrArg _ (Cert.Bridge.gk_eq _ _ _ _ _ _).symm
  · rw [Cert.FoxAddRefIdeal.Read.val_main_v99_eq, a0, a1, a2, a3, a5]
    refine Eq.trans ?_ (Cert.FoxAddIdeal.Arr.dv_final hK).symm
    funext i
    refine congrArg₂ (fun a b : EReal => a + b) rfl ?_
    refine (congrFun Cert.FoxAddRefIdeal.Ref.v97_eq i).trans ?_
    refine (congrArg _ (at2 i)).trans ((Cert.ReferenceIdeal.Ref.dv_re hR _ _).trans ?_)
    exact congrArg _ (Cert.Bridge.gv_eq _ _ _ _ _ _).symm
  · rw [Cert.FoxAddRefIdeal.Read.val_main_v100_eq, a0, a1, a2, a3, a6]
    refine Eq.trans ?_ (Cert.FoxAddIdeal.Arr.dc_final hK).symm
    funext i
    refine congrArg₂ (fun a b : EReal => a + b) rfl ?_
    refine (congrFun Cert.FoxAddRefIdeal.Ref.v93_eq i).trans ?_
    refine (Cert.ReferenceIdeal.Ref.dc_re hR i).trans ?_
    exact congrArg _ (Cert.Bridge.gc_eq _ _ _ _ _ _ _).symm

theorem at3 {a b c : ℕ} (i : (⟨3, ![a, b, c]⟩ : Shape).Idx) : i = ix3 (i 0) (i 1) (i 2) := by funext x; fin_cases x <;> rfl

/-! ### The backward pass of the convolution gate -/
theorem ConvBwd.frame_p : Cert.quiescent_ConvBwd := fun m ρ _ => Cert.ConvBwd.Gen.frame m ρ
theorem ConvBwd.frame_pi : Cert.quiescent_ConvBwdIdeal := fun m ρ _ => Cert.ConvBwdIdeal.Gen.frame m ρ
theorem ConvBwd.frame_pi_pre : Cert.quiescent_ConvBwdIdeal_pre_finite_conv (hPre_finite_conv := Cert.Fin.facts_conv) := fun m ρ _ => Cert.ConvBwdIdeal.Gen.frame m ρ
theorem ConvBwd.frame_ri : Cert.quiescent_ConvBwdRefIdeal := fun m ρ _ =>
  (θ_run Cert.ConvBwdRefIdeal.defs _ _).mono (fun r h => ⟨fun c => (h c).2.2.2, Idealize.ShloMosaic.sem_eq_zero_of_no_sems (by decide) r.2⟩)
    (Cert.ConvBwdRefIdeal.Value.run (F := Ideal) m ρ)
theorem ConvBwd.frame_ri_pre : Cert.quiescent_ConvBwdRefIdeal_pre_finite_conv (hPre_finite_conv := Cert.Fin.facts_conv) := fun m ρ _ => ConvBwd.frame_ri m ρ trivial
theorem ConvBwd.preserves : Cert.preserves_ConvBwd_ConvBwdIdeal :=
  ⟨IdealRules.named_const.statement Cert.ConvBwdIdeal.κ "c" .f32 0x3D372713#32 ((8943 / 200000 : ℝ) : EReal) rfl,
    IdealRules.named_const.statement Cert.ConvBwdIdeal.κ "c3" .f32 0x3E095D4F#32 ((26829 / 200000 : ℝ) : EReal) rfl⟩

theorem ConvBwd.algebraic : Cert.algebraic_ConvBwdIdeal_ConvBwdRefIdeal_pre_finite_conv (hPre_finite_conv := Cert.Fin.facts_conv) := by
  intro m ρ m' ρ' hpre hagree
  refine ⟨_, _, _, Cert.ConvBwdIdeal.Value.run_blocks (F := Ideal) m ρ, ?_⟩
  refine (θ_run Cert.ConvBwdRefIdeal.defs _ _).mono (fun _ h c => ?_) (Cert.ConvBwdRefIdeal.Value.run (F := Ideal) m' ρ')
  obtain ⟨p0, p1, p2, p3⟩ := hpre c
  obtain ⟨a0, a1, a2, a3⟩ := hagree c
  have hK : Cert.ConvBwdIdeal.Arr.Args m c _ _ _ _ := ⟨Cert.Fin.conv0 p0, Cert.Fin.conv1 p1, Cert.Fin.conv2 p2, Cert.Fin.conv3 p3⟩
  have hR : Cert.ConvBwdRefIdeal.Ref.Args (m ((c : Thread Cert.ConvBwdIdeal.nD Cert.ConvBwdIdeal.τ).loc Cert.ConvBwdIdeal.main_arg0)) (m ((c : Thread Cert.ConvBwdIdeal.nD Cert.ConvBwdIdeal.τ).loc Cert.ConvBwdIdeal.main_arg1))
      (m ((c : Thread Cert.ConvBwdIdeal.nD Cert.ConvBwdIdeal.τ).loc Cert.ConvBwdIdeal.main_arg2)) (m ((c : Thread Cert.ConvBwdIdeal.nD Cert.ConvBwdIdeal.τ).loc Cert.ConvBwdIdeal.main_arg3)) _ _ _ _ := ⟨hK.a, hK.u, hK.w, hK.b⟩
  obtain ⟨h0, h1, h2, hargs⟩ := h c
  refine ⟨h0.trans ?_, h1.trans ?_, h2.trans ?_, hargs⟩
  · rw [Cert.ConvBwdRefIdeal.Read.val_main_v110_eq,
      show StableHlo.launchContents m' c (Proc.devRef .tc Cert.ConvBwdRefIdeal.main_arg0) = _ from a0,
      show StableHlo.launchContents m' c (Proc.devRef .tc Cert.ConvBwdRefIdeal.main_arg1) = _ from a1,
      show StableHlo.launchContents m' c (Proc.devRef .tc Cert.ConvBwdRefIdeal.main_arg2) = _ from a2,
      show StableHlo.launchContents m' c (Proc.devRef .tc Cert.ConvBwdRefIdeal.main_arg3) = _ from a3]
    refine Eq.trans ?_ (Cert.ConvBwdIdeal.Arr.final7 hK).symm
    funext i
    exact (congrArg _ (at3 i)).trans (Cert.ConvBwdRefIdeal.Ref.v110_re hR (i 0) (i 1) (i 2))
  · rw [Cert.ConvBwdRefIdeal.Read.val_main_v115_eq,
      show StableHlo.launchContents m' c (Proc.devRef .tc Cert.ConvBwdRefIdeal.main_arg0) = _ from a0,
      show StableHlo.launchContents m' c (Proc.devRef .tc Cert.ConvBwdRefIdeal.main_arg1) = _ from a1,
      show StableHlo.launchContents m' c (Proc.devRef .tc Cert.ConvBwdRefIdeal.main_arg2) = _ from a2,
      show StableHlo.launchContents m' c (Proc.devRef .tc Cert.ConvBwdRefIdeal.main_arg3) = _ from a3]
    refine Eq.trans ?_ (Cert.ConvBwdIdeal.Arr.final8 hK).symm
    funext i
    exact (congrArg _ (at3 i)).trans (Cert.ConvBwdRefIdeal.Ref.v115_re hR (i 0) (i 1) (i 2))
  · rw [Cert.ConvBwdRefIdeal.Read.val_main_v121_eq,
      show StableHlo.launchContents m' c (Proc.devRef .tc Cert.ConvBwdRefIdeal.main_arg0) = _ from a0,
      show StableHlo.launchContents m' c (Proc.devRef .tc Cert.ConvBwdRefIdeal.main_arg1) = _ from a1,
      show StableHlo.launchContents m' c (Proc.devRef .tc Cert.ConvBwdRefIdeal.main_arg2) = _ from a2,
      show StableHlo.launchContents m' c (Proc.devRef .tc Cert.ConvBwdRefIdeal.main_arg3) = _ from a3]
    refine Eq.trans ?_ (Cert.ConvBwdIdeal.Arr.final9 hK).symm
    funext i
    exact (congrArg _ (at3 i)).trans (Cert.ConvBwdRefIdeal.Ref.v121_re hR (i 0) (i 1) (i 2))

/-! ### The forward pass of the convolution gate -/
theorem ConvFwd.frame_p : Cert.quiescent_ConvFwd := fun m ρ _ => Cert.ConvFwd.Gen.frame m ρ
theorem ConvFwd.frame_pi : Cert.quiescent_ConvFwdIdeal := fun m ρ _ => Cert.ConvFwdIdeal.Gen.frame m ρ
theorem ConvFwd.frame_ri : Cert.quiescent_ConvFwdRefIdeal := fun m ρ _ =>
  (θ_run Cert.ConvFwdRefIdeal.defs _ _).mono (fun r h => ⟨fun c => (h c).2, Idealize.ShloMosaic.sem_eq_zero_of_no_sems (by decide) r.2⟩)
    (Cert.ConvFwdRefIdeal.Value.run (F := Ideal) m ρ)
theorem ConvFwd.preserves : Cert.preserves_ConvFwd_ConvFwdIdeal := trivial

theorem ConvFwd.algebraic : Cert.algebraic_ConvFwdIdeal_ConvFwdRefIdeal := by
  intro m ρ m' ρ' _ hagree
  refine ⟨_, Cert.ConvFwdIdeal.Value.run_blocks (F := Ideal) m ρ, ?_⟩
  refine (θ_run Cert.ConvFwdRefIdeal.defs _ _).mono (fun _ h c => ⟨(h c).1.trans ?_, (h c).2⟩) (Cert.ConvFwdRefIdeal.Value.run (F := Ideal) m' ρ')
  obtain ⟨a0, a1, a2⟩ := hagree c
  refine (Cert.ConvFwdRefIdeal.Read.val_main_v44_eq (F := Ideal) m' c).trans ?_
  rw [a0, a1, a2]
  have h0 := Cert.ConvE.ex_ext (a := 2048) (b := 5632) (φ := .f32) (m ((c : Thread Cert.ConvFwdIdeal.nD Cert.ConvFwdIdeal.τ).loc Cert.ConvFwdIdeal.main_arg0))
  have h1 := Cert.ConvE.ex_ext (a := 3) (b := 5632) (φ := .f32) (m ((c : Thread Cert.ConvFwdIdeal.nD Cert.ConvFwdIdeal.τ).loc Cert.ConvFwdIdeal.main_arg1))
  have h2 := Cert.ConvE.ex_row (b := 5632) (φ := .f32) (m ((c : Thread Cert.ConvFwdIdeal.nD Cert.ConvFwdIdeal.τ).loc Cert.ConvFwdIdeal.main_arg2))
  refine Eq.trans ?_ (Cert.ConvFwdIdeal.Val.final6 h0 h1 h2).symm
  funext i
  exact (congrArg _ (at2 i)).trans (Cert.ConvFwdRefIdeal.Ref.v44_ex h0 h1 h2 (i 0) (i 1))

/-! ### The norm -/
theorem RmsIn.frame_p : Cert.quiescent_RmsIn := fun m ρ _ => Cert.RmsIn.Gen.frame m ρ
theorem RmsIn.frame_pi : Cert.quiescent_RmsInIdeal := fun m ρ _ => Cert.RmsInIdeal.Gen.frame m ρ
theorem RmsIn.frame_ri : Cert.quiescent_RmsInRefIdeal := fun m ρ _ =>
  (θ_run Cert.RmsInRefIdeal.defs _ _).mono (fun r h => ⟨fun c => (h c).2, Idealize.ShloMosaic.sem_eq_zero_of_no_sems (by decide) r.2⟩)
    (Cert.RmsInRefIdeal.Value.run (F := Ideal) m ρ)
theorem RmsIn.preserves : Cert.preserves_RmsIn_RmsInIdeal := trivial

theorem RmsIn.algebraic : Cert.algebraic_RmsInIdeal_RmsInRefIdeal := by
  intro m ρ m' ρ' _ hagree
  refine ⟨_, Cert.RmsInIdeal.Value.run_blocks (F := Ideal) m ρ, ?_⟩
  refine (θ_run Cert.RmsInRefIdeal.defs _ _).mono (fun _ h c => ?_) (Cert.RmsInRefIdeal.Value.run (F := Ideal) m' ρ')
  obtain ⟨a0, a1⟩ := hagree c
  obtain ⟨h0, hargs⟩ := h c
  refine ⟨h0.trans ?_, hargs⟩
  · refine (Cert.RmsInRefIdeal.Read.val_main_v14_eq (F := Ideal) _ _).trans ?_
    rw [a0, a1]
    exact (Cert.RmsInIdeal.Val.ref2 _ _).trans (Cert.RmsInIdeal.Val.final2 m c).symm

/-! ### The norm added to the residual -/
theorem RmsRes.frame_p : Cert.quiescent_RmsRes := fun m ρ _ => Cert.RmsRes.Gen.frame m ρ
theorem RmsRes.frame_pi : Cert.quiescent_RmsResIdeal := fun m ρ _ => Cert.RmsResIdeal.Gen.frame m ρ
theorem RmsRes.frame_ri : Cert.quiescent_RmsResRefIdeal := fun m ρ _ =>
  (θ_run Cert.RmsResRefIdeal.defs _ _).mono (fun r h => ⟨fun c => (h c).2, Idealize.ShloMosaic.sem_eq_zero_of_no_sems (by decide) r.2⟩)
    (Cert.RmsResRefIdeal.Value.run (F := Ideal) m ρ)
theorem RmsRes.preserves : Cert.preserves_RmsRes_RmsResIdeal := trivial

theorem RmsRes.algebraic : Cert.algebraic_RmsResIdeal_RmsResRefIdeal := by
  intro m ρ m' ρ' _ hagree
  refine ⟨_, Cert.RmsResIdeal.Value.run_blocks (F := Ideal) m ρ, ?_⟩
  refine (θ_run Cert.RmsResRefIdeal.defs _ _).mono (fun _ h c => ?_) (Cert.RmsResRefIdeal.Value.run (F := Ideal) m' ρ')
  obtain ⟨a0, a1, a2⟩ := hagree c
  obtain ⟨h0, hargs⟩ := h c
  refine ⟨h0.trans ?_, hargs⟩
  · refine (Cert.RmsResRefIdeal.Read.val_main_v14_eq (F := Ideal) _ _ _).trans ?_
    rw [a0, a1, a2]
    exact (Cert.RmsResIdeal.Val.ref3 _ _ _).trans (Cert.RmsResIdeal.Val.final3 m c).symm

/-! ### A norm added to the residual, and the norm of the sum -/
theorem RmsResIn.frame_p : Cert.quiescent_RmsResIn := fun m ρ _ => Cert.RmsResIn.Gen.frame m ρ
theorem RmsResIn.frame_pi : Cert.quiescent_RmsResInIdeal := fun m ρ _ => Cert.RmsResInIdeal.Gen.frame m ρ
theorem RmsResIn.frame_ri : Cert.quiescent_RmsResInRefIdeal := fun m ρ _ =>
  (θ_run Cert.RmsResInRefIdeal.defs _ _).mono (fun r h => ⟨fun c => (h c).2.2, Idealize.ShloMosaic.sem_eq_zero_of_no_sems (by decide) r.2⟩)
    (Cert.RmsResInRefIdeal.Value.run (F := Ideal) m ρ)
theorem RmsResIn.preserves : Cert.preserves_RmsResIn_RmsResInIdeal := trivial

theorem RmsResIn.algebraic : Cert.algebraic_RmsResInIdeal_RmsResInRefIdeal := by
  intro m ρ m' ρ' _ hagree
  refine ⟨_, _, Cert.RmsResInIdeal.Value.run_blocks (F := Ideal) m ρ, ?_⟩
  refine (θ_run Cert.RmsResInRefIdeal.defs _ _).mono (fun _ h c => ?_) (Cert.RmsResInRefIdeal.Value.run (F := Ideal) m' ρ')
  obtain ⟨a0, a1, a2, a3⟩ := hagree c
  obtain ⟨h0, h1, hargs⟩ := h c
  refine ⟨h0.trans ?_, h1.trans ?_, hargs⟩
  · refine (Cert.RmsResInRefIdeal.Read.val_main_v14_eq (F := Ideal) _ _ _).trans ?_
    rw [a0, a1, a2]
    exact (Cert.RmsResInIdeal.Val.ref4 _ _ _).trans (Cert.RmsResInIdeal.Val.final4 m c).symm
  · refine (Cert.RmsResInRefIdeal.Read.val_main_v29_eq (F := Ideal) _ _ _ _).trans ?_
    rw [a0, a1, a2, a3]
    exact (Cert.RmsResInIdeal.Val.ref5 _ _ _ _).trans (Cert.RmsResInIdeal.Val.final5 m c).symm

/-! ### The gradient of a norm -/
theorem RmsBwd.frame_p : Cert.quiescent_RmsBwd := fun m ρ _ => Cert.RmsBwd.Gen.frame m ρ
theorem RmsBwd.frame_pi : Cert.quiescent_RmsBwdIdeal := fun m ρ _ => Cert.RmsBwdIdeal.Gen.frame m ρ
theorem RmsBwd.frame_ri : Cert.quiescent_RmsBwdRefIdeal := fun m ρ _ =>
  (θ_run Cert.RmsBwdRefIdeal.defs _ _).mono (fun r h => ⟨fun c => (h c).2.2, Idealize.ShloMosaic.sem_eq_zero_of_no_sems (by decide) r.2⟩)
    (Cert.RmsBwdRefIdeal.Value.run (F := Ideal) m ρ)
theorem RmsBwd.preserves : Cert.preserves_RmsBwd_RmsBwdIdeal := trivial

theorem RmsBwd.algebraic : Cert.algebraic_RmsBwdIdeal_RmsBwdRefIdeal := by
  intro m ρ m' ρ' _ hagree
  refine ⟨_, _, Cert.RmsBwdIdeal.Value.run_blocks (F := Ideal) m ρ, ?_⟩
  refine (θ_run Cert.RmsBwdRefIdeal.defs _ _).mono (fun _ h c => ?_) (Cert.RmsBwdRefIdeal.Value.run (F := Ideal) m' ρ')
  obtain ⟨a0, a1, a2⟩ := hagree c
  obtain ⟨h0, h1, hargs⟩ := h c
  refine ⟨h0.trans ?_, h1.trans ?_, hargs⟩
  · refine (Cert.RmsBwdRefIdeal.Read.val_main_v37_eq (F := Ideal) m' c).trans ?_
    rw [a0, a1, a2]
    exact (Cert.RmsBwdIdeal.Val.ref_dx _ _ _).trans (Cert.RmsBwdIdeal.Val.dx_final m c).symm
  · refine (Cert.RmsBwdRefIdeal.Read.val_main_v38_eq (F := Ideal) _ _).trans ?_
    rw [a0, a1]
    exact (Cert.RmsBwdIdeal.Val.ref_dg _ _).trans (Cert.RmsBwdIdeal.Val.dg_final m c).symm

/-! ### The gradient of a norm with the cotangent of the residual -/
theorem RmsBwdRes.frame_p : Cert.quiescent_RmsBwdRes := fun m ρ _ => Cert.RmsBwdRes.Gen.frame m ρ
theorem RmsBwdRes.frame_pi : Cert.quiescent_RmsBwdResIdeal := fun m ρ _ => Cert.RmsBwdResIdeal.Gen.frame m ρ
theorem RmsBwdRes.frame_ri : Cert.quiescent_RmsBwdResRefIdeal := fun m ρ _ =>
  (θ_run Cert.RmsBwdResRefIdeal.defs _ _).mono (fun r h => ⟨fun c => (h c).2.2, Idealize.ShloMosaic.sem_eq_zero_of_no_sems (by decide) r.2⟩)
    (Cert.RmsBwdResRefIdeal.Value.run (F := Ideal) m ρ)
theorem RmsBwdRes.preserves : Cert.preserves_RmsBwdRes_RmsBwdResIdeal := trivial

theorem RmsBwdRes.algebraic : Cert.algebraic_RmsBwdResIdeal_RmsBwdResRefIdeal := by
  intro m ρ m' ρ' _ hagree
  refine ⟨_, _, Cert.RmsBwdResIdeal.Value.run_blocks (F := Ideal) m ρ, ?_⟩
  refine (θ_run Cert.RmsBwdResRefIdeal.defs _ _).mono (fun _ h c => ?_) (Cert.RmsBwdResRefIdeal.Value.run (F := Ideal) m' ρ')
  obtain ⟨a0, a1, a2, a3⟩ := hagree c
  obtain ⟨h0, h1, hargs⟩ := h c
  refine ⟨h0.trans ?_, h1.trans ?_, hargs⟩
  · refine (Cert.RmsBwdResRefIdeal.Read.val_main_v37_eq (F := Ideal) m' c).trans ?_
    rw [a0, a1, a2, a3]
    exact (Cert.RmsBwdResIdeal.Val.ref_dx _ _ _ _).trans (Cert.RmsBwdResIdeal.Val.dx_final m c).symm
  · refine (Cert.RmsBwdResRefIdeal.Read.val_main_v38_eq (F := Ideal) _ _).trans ?_
    rw [a0, a1]
    exact (Cert.RmsBwdResIdeal.Val.ref_dg _ _).trans (Cert.RmsBwdResIdeal.Val.dg_final m c).symm

/-! ### The gradients of two norms in a row -/
theorem RmsBwdTwo.frame_p : Cert.quiescent_RmsBwdTwo := fun m ρ _ => Cert.RmsBwdTwo.Gen.frame m ρ
theorem RmsBwdTwo.frame_pi : Cert.quiescent_RmsBwdTwoIdeal := fun m ρ _ => Cert.RmsBwdTwoIdeal.Gen.frame m ρ
theorem RmsBwdTwo.frame_ri : Cert.quiescent_RmsBwdTwoRefIdeal := fun m ρ _ =>
  (θ_run Cert.RmsBwdTwoRefIdeal.defs _ _).mono (fun r h => ⟨fun c => (h c).2.2.2.2, Idealize.ShloMosaic.sem_eq_zero_of_no_sems (by decide) r.2⟩)
    (Cert.RmsBwdTwoRefIdeal.Value.run (F := Ideal) m ρ)
theorem RmsBwdTwo.preserves : Cert.preserves_RmsBwdTwo_RmsBwdTwoIdeal := trivial

theorem RmsBwdTwo.algebraic : Cert.algebraic_RmsBwdTwoIdeal_RmsBwdTwoRefIdeal := by
  intro m ρ m' ρ' _ hagree
  refine ⟨_, _, _, _, Cert.RmsBwdTwoIdeal.Value.run_blocks (F := Ideal) m ρ, ?_⟩
  refine (θ_run Cert.RmsBwdTwoRefIdeal.defs _ _).mono (fun _ h c => ?_) (Cert.RmsBwdTwoRefIdeal.Value.run (F := Ideal) m' ρ')
  obtain ⟨a0, a1, a2, a3, a4, a5⟩ := hagree c
  obtain ⟨h0, h1, h2, h3, hargs⟩ := h c
  refine ⟨h0.trans ?_, h1.trans ?_, h2.trans ?_, h3.trans ?_, hargs⟩
  · refine (Cert.RmsBwdTwoRefIdeal.Read.val_main_v37_eq (F := Ideal) m' c).trans ?_
    rw [a0, a1, a2, a3]
    exact (Cert.RmsBwdTwoIdeal.Val.ref_dx _ _ _ _).trans (Cert.RmsBwdTwoIdeal.Val.dx_final m c).symm
  · refine (Cert.RmsBwdTwoRefIdeal.Read.val_main_v75_eq (F := Ideal) m' c).trans ?_
    rw [a0, a1, a2, a3, a4, a5]
    exact (Cert.RmsBwdTwoIdeal.Val.ref_d2 _ _ _ _ _ _).trans (Cert.RmsBwdTwoIdeal.Val.d2_final m c).symm
  · refine (Cert.RmsBwdTwoRefIdeal.Read.val_main_v76_eq (F := Ideal) _ _).trans ?_
    rw [a0, a1]
    exact (Cert.RmsBwdTwoIdeal.Val.ref_dg _ _).trans (Cert.RmsBwdTwoIdeal.Val.dg_final m c).symm
  · refine (Cert.RmsBwdTwoRefIdeal.Read.val_main_v77_eq (F := Ideal) m' c).trans ?_
    rw [a0, a1, a2, a3, a4]
    exact (Cert.RmsBwdTwoIdeal.Val.ref_dh _ _ _ _ _).trans (Cert.RmsBwdTwoIdeal.Val.dh_final m c).symm

theorem claim : Cert.Claim := ⟨Cert.Kernel.Gen.facts, Cert.KernelIdeal.Gen.facts, Cert.ReferenceIdeal.Gen.facts,
  Cert.UpDx.Gen.facts, Cert.UpDxIdeal.Gen.facts, Cert.UpDxRefIdeal.Gen.facts, Cert.UpDw.Gen.facts, Cert.UpDwIdeal.Gen.facts, Cert.UpDwRefIdeal.Gen.facts, Cert.DownDx.Gen.facts, Cert.DownDxIdeal.Gen.facts, Cert.DownDxRefIdeal.Gen.facts, Cert.DownDw.Gen.facts, Cert.DownDwIdeal.Gen.facts, Cert.DownDwRefIdeal.Gen.facts, Cert.Up.Gen.facts, Cert.UpIdeal.Gen.facts, Cert.UpRefIdeal.Gen.facts, Cert.Down.Gen.facts, Cert.DownIdeal.Gen.facts, Cert.DownRefIdeal.Gen.facts, Cert.Qkv.Gen.facts, Cert.QkvIdeal.Gen.facts, Cert.QkvRefIdeal.Gen.facts, Cert.OA.Gen.facts, Cert.OAIdeal.Gen.facts, Cert.OARefIdeal.Gen.facts, Cert.Kv.Gen.facts, Cert.KvIdeal.Gen.facts, Cert.KvRefIdeal.Gen.facts, Cert.Gate.Gen.facts, Cert.GateIdeal.Gen.facts, Cert.GateRefIdeal.Gen.facts, Cert.QB.Gen.facts, Cert.QBIdeal.Gen.facts, Cert.QBRefIdeal.Gen.facts, Cert.OB.Gen.facts, Cert.OBIdeal.Gen.facts, Cert.OBRefIdeal.Gen.facts, Cert.OADx.Gen.facts, Cert.OADxIdeal.Gen.facts, Cert.OADxRefIdeal.Gen.facts, Cert.OADw.Gen.facts, Cert.OADwIdeal.Gen.facts, Cert.OADwRefIdeal.Gen.facts, Cert.QkvDx.Gen.facts, Cert.QkvDxIdeal.Gen.facts, Cert.QkvDxRefIdeal.Gen.facts, Cert.QkvDw.Gen.facts, Cert.QkvDwIdeal.Gen.facts, Cert.QkvDwRefIdeal.Gen.facts, Cert.OBDx.Gen.facts, Cert.OBDxIdeal.Gen.facts, Cert.OBDxRefIdeal.Gen.facts, Cert.OBDw.Gen.facts, Cert.OBDwIdeal.Gen.facts, Cert.OBDwRefIdeal.Gen.facts, Cert.QBDx.Gen.facts, Cert.QBDxIdeal.Gen.facts, Cert.QBDxRefIdeal.Gen.facts, Cert.QBDw.Gen.facts, Cert.QBDwIdeal.Gen.facts, Cert.QBDwRefIdeal.Gen.facts, Cert.KvfDx.Gen.facts, Cert.KvfDxIdeal.Gen.facts, Cert.KvfDxRefIdeal.Gen.facts, Cert.KvfDw.Gen.facts, Cert.KvfDwIdeal.Gen.facts, Cert.KvfDwRefIdeal.Gen.facts, Cert.FoxFwd.Gen.facts, Cert.FoxFwdIdeal.Gen.facts, Cert.FoxFwdRefIdeal.Gen.facts, Cert.FoxAdd.Gen.facts, Cert.FoxAddIdeal.Gen.facts, Cert.FoxAddRefIdeal.Gen.facts, Cert.ConvBwd.Gen.facts, Cert.ConvBwdIdeal.Gen.facts, Cert.ConvBwdRefIdeal.Gen.facts, Cert.ConvFwd.Gen.facts, Cert.ConvFwdIdeal.Gen.facts, Cert.ConvFwdRefIdeal.Gen.facts, Cert.RmsIn.Gen.facts, Cert.RmsInIdeal.Gen.facts, Cert.RmsInRefIdeal.Gen.facts, Cert.RmsRes.Gen.facts, Cert.RmsResIdeal.Gen.facts, Cert.RmsResRefIdeal.Gen.facts, Cert.RmsResIn.Gen.facts, Cert.RmsResInIdeal.Gen.facts, Cert.RmsResInRefIdeal.Gen.facts, Cert.RmsBwd.Gen.facts, Cert.RmsBwdIdeal.Gen.facts, Cert.RmsBwdRefIdeal.Gen.facts, Cert.RmsBwdRes.Gen.facts, Cert.RmsBwdResIdeal.Gen.facts, Cert.RmsBwdResRefIdeal.Gen.facts, Cert.RmsBwdTwo.Gen.facts, Cert.RmsBwdTwoIdeal.Gen.facts, Cert.RmsBwdTwoRefIdeal.Gen.facts, Cert.Fin.facts, Cert.Fin.facts_fwd, Cert.Fin.facts_add, Cert.Fin.facts_conv,
  frame_p, frame_pi, frame_pi_pre, frame_ri, frame_ri_pre,
  UpDx.frame_p, UpDx.frame_pi, UpDx.frame_ri, UpDw.frame_p, UpDw.frame_pi, UpDw.frame_ri, DownDx.frame_p, DownDx.frame_pi, DownDx.frame_ri, DownDw.frame_p, DownDw.frame_pi, DownDw.frame_ri, Up.frame_p, Up.frame_pi, Up.frame_ri, Down.frame_p, Down.frame_pi, Down.frame_ri, Qkv.frame_p, Qkv.frame_pi, Qkv.frame_ri, OA.frame_p, OA.frame_pi, OA.frame_ri, Kv.frame_p, Kv.frame_pi, Kv.frame_ri, Gate.frame_p, Gate.frame_pi, Gate.frame_ri, QB.frame_p, QB.frame_pi, QB.frame_ri, OB.frame_p, OB.frame_pi, OB.frame_ri, OADx.frame_p, OADx.frame_pi, OADx.frame_ri, OADw.frame_p, OADw.frame_pi, OADw.frame_ri, QkvDx.frame_p, QkvDx.frame_pi, QkvDx.frame_ri, QkvDw.frame_p, QkvDw.frame_pi, QkvDw.frame_ri, OBDx.frame_p, OBDx.frame_pi, OBDx.frame_ri, OBDw.frame_p, OBDw.frame_pi, OBDw.frame_ri, QBDx.frame_p, QBDx.frame_pi, QBDx.frame_ri, QBDw.frame_p, QBDw.frame_pi, QBDw.frame_ri, KvfDx.frame_p, KvfDx.frame_pi, KvfDx.frame_ri, KvfDw.frame_p, KvfDw.frame_pi, KvfDw.frame_ri, FoxFwd.frame_p, FoxFwd.frame_pi, FoxFwd.frame_pi_pre, FoxFwd.frame_ri, FoxFwd.frame_ri_pre, FoxAdd.frame_p, FoxAdd.frame_pi, FoxAdd.frame_pi_pre, FoxAdd.frame_ri, FoxAdd.frame_ri_pre, ConvBwd.frame_p, ConvBwd.frame_pi, ConvBwd.frame_pi_pre, ConvBwd.frame_ri, ConvBwd.frame_ri_pre, ConvFwd.frame_p, ConvFwd.frame_pi, ConvFwd.frame_ri, RmsIn.frame_p, RmsIn.frame_pi, RmsIn.frame_ri, RmsRes.frame_p, RmsRes.frame_pi, RmsRes.frame_ri, RmsResIn.frame_p, RmsResIn.frame_pi, RmsResIn.frame_ri, RmsBwd.frame_p, RmsBwd.frame_pi, RmsBwd.frame_ri, RmsBwdRes.frame_p, RmsBwdRes.frame_pi, RmsBwdRes.frame_ri, RmsBwdTwo.frame_p, RmsBwdTwo.frame_pi, RmsBwdTwo.frame_ri,
  preserves, algebraic,
  UpDx.preserves, UpDx.algebraic, UpDw.preserves, UpDw.algebraic, DownDx.preserves, DownDx.algebraic, DownDw.preserves, DownDw.algebraic, Up.preserves, Up.algebraic, Down.preserves, Down.algebraic, Qkv.preserves, Qkv.algebraic, OA.preserves, OA.algebraic, Kv.preserves, Kv.algebraic, Gate.preserves, Gate.algebraic, QB.preserves, QB.algebraic, OB.preserves, OB.algebraic, OADx.preserves, OADx.algebraic, OADw.preserves, OADw.algebraic, QkvDx.preserves, QkvDx.algebraic, QkvDw.preserves, QkvDw.algebraic, OBDx.preserves, OBDx.algebraic, OBDw.preserves, OBDw.algebraic, QBDx.preserves, QBDx.algebraic, QBDw.preserves, QBDw.algebraic, KvfDx.preserves, KvfDx.algebraic, KvfDw.preserves, KvfDw.algebraic, FoxFwd.preserves, FoxFwd.algebraic, FoxAdd.preserves, FoxAdd.algebraic, ConvBwd.preserves, ConvBwd.algebraic, ConvFwd.preserves, ConvFwd.algebraic, RmsIn.preserves, RmsIn.algebraic, RmsRes.preserves, RmsRes.algebraic, RmsResIn.preserves, RmsResIn.algebraic, RmsBwd.preserves, RmsBwd.algebraic, RmsBwdRes.preserves, RmsBwdRes.algebraic, RmsBwdTwo.preserves, RmsBwdTwo.algebraic⟩

end Cert.Proof
end
